-- ==== Defs.lean ====
def Pre_KernelDq (m : (ℓ : Loc Cert.KernelDq.nD Cert.KernelDq.τ Cert.KernelDq.sig) → Buf (Elt Bits) ℓ) : Prop :=
  True

def Pre_KernelDqIdeal (m : (ℓ : Loc Cert.KernelDqIdeal.nD Cert.KernelDqIdeal.τ Cert.KernelDqIdeal.sig) → Buf (Elt Ideal) ℓ) : Prop :=
  True

def Pre_ReferenceDqIdeal (m : (ℓ : Loc Cert.ReferenceDqIdeal.nD Cert.ReferenceDqIdeal.τ Cert.ReferenceDqIdeal.sig) → Buf (Elt Ideal) ℓ) : Prop :=
  True

def Pre_KernelDk (m : (ℓ : Loc Cert.KernelDk.nD Cert.KernelDk.τ Cert.KernelDk.sig) → Buf (Elt Bits) ℓ) : Prop :=
  True

def Pre_KernelDkIdeal (m : (ℓ : Loc Cert.KernelDkIdeal.nD Cert.KernelDkIdeal.τ Cert.KernelDkIdeal.sig) → Buf (Elt Ideal) ℓ) : Prop :=
  True

def Pre_ReferenceDkIdeal (m : (ℓ : Loc Cert.ReferenceDkIdeal.nD Cert.ReferenceDkIdeal.τ Cert.ReferenceDkIdeal.sig) → Buf (Elt Ideal) ℓ) : Prop :=
  True

def Pre_KernelDv (m : (ℓ : Loc Cert.KernelDv.nD Cert.KernelDv.τ Cert.KernelDv.sig) → Buf (Elt Bits) ℓ) : Prop :=
  True

def Pre_KernelDvIdeal (m : (ℓ : Loc Cert.KernelDvIdeal.nD Cert.KernelDvIdeal.τ Cert.KernelDvIdeal.sig) → Buf (Elt Ideal) ℓ) : Prop :=
  True

def Pre_ReferenceDvIdeal (m : (ℓ : Loc Cert.ReferenceDvIdeal.nD Cert.ReferenceDvIdeal.τ Cert.ReferenceDvIdeal.sig) → Buf (Elt Ideal) ℓ) : Prop :=
  True

def Pre_KernelProjMain (m : (ℓ : Loc Cert.KernelProjMain.nD Cert.KernelProjMain.τ Cert.KernelProjMain.sig) → Buf (Elt Bits) ℓ) : Prop :=
  True

def Pre_KernelProjMainIdeal (m : (ℓ : Loc Cert.KernelProjMainIdeal.nD Cert.KernelProjMainIdeal.τ Cert.KernelProjMainIdeal.sig) → Buf (Elt Ideal) ℓ) : Prop :=
  True

def Pre_ReferenceProjMainIdeal (m : (ℓ : Loc Cert.ReferenceProjMainIdeal.nD Cert.ReferenceProjMainIdeal.τ Cert.ReferenceProjMainIdeal.sig) → Buf (Elt Ideal) ℓ) : Prop :=
  True

def Pre_KernelGInMain (m : (ℓ : Loc Cert.KernelGInMain.nD Cert.KernelGInMain.τ Cert.KernelGInMain.sig) → Buf (Elt Bits) ℓ) : Prop :=
  True

def Pre_KernelGInMainIdeal (m : (ℓ : Loc Cert.KernelGInMainIdeal.nD Cert.KernelGInMainIdeal.τ Cert.KernelGInMainIdeal.sig) → Buf (Elt Ideal) ℓ) : Prop :=
  True

def Pre_ReferenceGInMainIdeal (m : (ℓ : Loc Cert.ReferenceGInMainIdeal.nD Cert.ReferenceGInMainIdeal.τ Cert.ReferenceGInMainIdeal.sig) → Buf (Elt Ideal) ℓ) : Prop :=
  True

def Pre_KernelDUMain (m : (ℓ : Loc Cert.KernelDUMain.nD Cert.KernelDUMain.τ Cert.KernelDUMain.sig) → Buf (Elt Bits) ℓ) : Prop :=
  True

def Pre_KernelDUMainIdeal (m : (ℓ : Loc Cert.KernelDUMainIdeal.nD Cert.KernelDUMainIdeal.τ Cert.KernelDUMainIdeal.sig) → Buf (Elt Ideal) ℓ) : Prop :=
  True

def Pre_ReferenceDUMainIdeal (m : (ℓ : Loc Cert.ReferenceDUMainIdeal.nD Cert.ReferenceDUMainIdeal.τ Cert.ReferenceDUMainIdeal.sig) → Buf (Elt Ideal) ℓ) : Prop :=
  True

def Pre_KernelProjGates (m : (ℓ : Loc Cert.KernelProjGates.nD Cert.KernelProjGates.τ Cert.KernelProjGates.sig) → Buf (Elt Bits) ℓ) : Prop :=
  True

def Pre_KernelProjGatesIdeal (m : (ℓ : Loc Cert.KernelProjGatesIdeal.nD Cert.KernelProjGatesIdeal.τ Cert.KernelProjGatesIdeal.sig) → Buf (Elt Ideal) ℓ) : Prop :=
  True

def Pre_ReferenceProjGatesIdeal (m : (ℓ : Loc Cert.ReferenceProjGatesIdeal.nD Cert.ReferenceProjGatesIdeal.τ Cert.ReferenceProjGatesIdeal.sig) → Buf (Elt Ideal) ℓ) : Prop :=
  True

def Pre_ReferenceDSsdActIdeal (m : (ℓ : Loc Cert.ReferenceDSsdActIdeal.nD Cert.ReferenceDSsdActIdeal.τ Cert.ReferenceDSsdActIdeal.sig) → Buf (Elt Ideal) ℓ) : Prop :=
  True

def Pre_KernelGInGates (m : (ℓ : Loc Cert.KernelGInGates.nD Cert.KernelGInGates.τ Cert.KernelGInGates.sig) → Buf (Elt Bits) ℓ) : Prop :=
  True

def Pre_KernelGInGatesIdeal (m : (ℓ : Loc Cert.KernelGInGatesIdeal.nD Cert.KernelGInGatesIdeal.τ Cert.KernelGInGatesIdeal.sig) → Buf (Elt Ideal) ℓ) : Prop :=
  True

def Pre_ReferenceGInGatesIdeal (m : (ℓ : Loc Cert.ReferenceGInGatesIdeal.nD Cert.ReferenceGInGatesIdeal.τ Cert.ReferenceGInGatesIdeal.sig) → Buf (Elt Ideal) ℓ) : Prop :=
  True

def Pre_ReferenceGSsdOutIdeal (m : (ℓ : Loc Cert.ReferenceGSsdOutIdeal.nD Cert.ReferenceGSsdOutIdeal.τ Cert.ReferenceGSsdOutIdeal.sig) → Buf (Elt Ideal) ℓ) : Prop :=
  True

def Pre_KernelDUGates (m : (ℓ : Loc Cert.KernelDUGates.nD Cert.KernelDUGates.τ Cert.KernelDUGates.sig) → Buf (Elt Bits) ℓ) : Prop :=
  True

def Pre_KernelDUGatesIdeal (m : (ℓ : Loc Cert.KernelDUGatesIdeal.nD Cert.KernelDUGatesIdeal.τ Cert.KernelDUGatesIdeal.sig) → Buf (Elt Ideal) ℓ) : Prop :=
  True

def Pre_ReferenceDUGatesIdeal (m : (ℓ : Loc Cert.ReferenceDUGatesIdeal.nD Cert.ReferenceDUGatesIdeal.τ Cert.ReferenceDUGatesIdeal.sig) → Buf (Elt Ideal) ℓ) : Prop :=
  True

def Pre_KernelFfnUp (m : (ℓ : Loc Cert.KernelFfnUp.nD Cert.KernelFfnUp.τ Cert.KernelFfnUp.sig) → Buf (Elt Bits) ℓ) : Prop :=
  True

def Pre_KernelFfnUpIdeal (m : (ℓ : Loc Cert.KernelFfnUpIdeal.nD Cert.KernelFfnUpIdeal.τ Cert.KernelFfnUpIdeal.sig) → Buf (Elt Ideal) ℓ) : Prop :=
  True

def Pre_ReferenceFfnUpIdeal (m : (ℓ : Loc Cert.ReferenceFfnUpIdeal.nD Cert.ReferenceFfnUpIdeal.τ Cert.ReferenceFfnUpIdeal.sig) → Buf (Elt Ideal) ℓ) : Prop :=
  True

def Pre_KernelGFfnUp (m : (ℓ : Loc Cert.KernelGFfnUp.nD Cert.KernelGFfnUp.τ Cert.KernelGFfnUp.sig) → Buf (Elt Bits) ℓ) : Prop :=
  True

def Pre_KernelGFfnUpIdeal (m : (ℓ : Loc Cert.KernelGFfnUpIdeal.nD Cert.KernelGFfnUpIdeal.τ Cert.KernelGFfnUpIdeal.sig) → Buf (Elt Ideal) ℓ) : Prop :=
  True

def Pre_ReferenceGFfnUpIdeal (m : (ℓ : Loc Cert.ReferenceGFfnUpIdeal.nD Cert.ReferenceGFfnUpIdeal.τ Cert.ReferenceGFfnUpIdeal.sig) → Buf (Elt Ideal) ℓ) : Prop :=
  True

def Pre_KernelDNormFfn (m : (ℓ : Loc Cert.KernelDNormFfn.nD Cert.KernelDNormFfn.τ Cert.KernelDNormFfn.sig) → Buf (Elt Bits) ℓ) : Prop :=
  True

def Pre_KernelDNormFfnIdeal (m : (ℓ : Loc Cert.KernelDNormFfnIdeal.nD Cert.KernelDNormFfnIdeal.τ Cert.KernelDNormFfnIdeal.sig) → Buf (Elt Ideal) ℓ) : Prop :=
  True

def Pre_ReferenceDNormFfnIdeal (m : (ℓ : Loc Cert.ReferenceDNormFfnIdeal.nD Cert.ReferenceDNormFfnIdeal.τ Cert.ReferenceDNormFfnIdeal.sig) → Buf (Elt Ideal) ℓ) : Prop :=
  True

def Pre_KernelFfnDown (m : (ℓ : Loc Cert.KernelFfnDown.nD Cert.KernelFfnDown.τ Cert.KernelFfnDown.sig) → Buf (Elt Bits) ℓ) : Prop :=
  True

def Pre_KernelFfnDownIdeal (m : (ℓ : Loc Cert.KernelFfnDownIdeal.nD Cert.KernelFfnDownIdeal.τ Cert.KernelFfnDownIdeal.sig) → Buf (Elt Ideal) ℓ) : Prop :=
  True

def Pre_ReferenceFfnDownIdeal (m : (ℓ : Loc Cert.ReferenceFfnDownIdeal.nD Cert.ReferenceFfnDownIdeal.τ Cert.ReferenceFfnDownIdeal.sig) → Buf (Elt Ideal) ℓ) : Prop :=
  True

def Pre_ReferenceDNormFfnUIdeal (m : (ℓ : Loc Cert.ReferenceDNormFfnUIdeal.nD Cert.ReferenceDNormFfnUIdeal.τ Cert.ReferenceDNormFfnUIdeal.sig) → Buf (Elt Ideal) ℓ) : Prop :=
  True

def Pre_KernelDFfnAct (m : (ℓ : Loc Cert.KernelDFfnAct.nD Cert.KernelDFfnAct.τ Cert.KernelDFfnAct.sig) → Buf (Elt Bits) ℓ) : Prop :=
  True

def Pre_KernelDFfnActIdeal (m : (ℓ : Loc Cert.KernelDFfnActIdeal.nD Cert.KernelDFfnActIdeal.τ Cert.KernelDFfnActIdeal.sig) → Buf (Elt Ideal) ℓ) : Prop :=
  True

def Pre_ReferenceDFfnActIdeal (m : (ℓ : Loc Cert.ReferenceDFfnActIdeal.nD Cert.ReferenceDFfnActIdeal.τ Cert.ReferenceDFfnActIdeal.sig) → Buf (Elt Ideal) ℓ) : Prop :=
  True

def Pre_KernelGFfnDown (m : (ℓ : Loc Cert.KernelGFfnDown.nD Cert.KernelGFfnDown.τ Cert.KernelGFfnDown.sig) → Buf (Elt Bits) ℓ) : Prop :=
  True

def Pre_KernelGFfnDownIdeal (m : (ℓ : Loc Cert.KernelGFfnDownIdeal.nD Cert.KernelGFfnDownIdeal.τ Cert.KernelGFfnDownIdeal.sig) → Buf (Elt Ideal) ℓ) : Prop :=
  True

def Pre_ReferenceGFfnDownIdeal (m : (ℓ : Loc Cert.ReferenceGFfnDownIdeal.nD Cert.ReferenceGFfnDownIdeal.τ Cert.ReferenceGFfnDownIdeal.sig) → Buf (Elt Ideal) ℓ) : Prop :=
  True

def Pre_KernelSsdOut (m : (ℓ : Loc Cert.KernelSsdOut.nD Cert.KernelSsdOut.τ Cert.KernelSsdOut.sig) → Buf (Elt Bits) ℓ) : Prop :=
  True

def Pre_KernelSsdOutIdeal (m : (ℓ : Loc Cert.KernelSsdOutIdeal.nD Cert.KernelSsdOutIdeal.τ Cert.KernelSsdOutIdeal.sig) → Buf (Elt Ideal) ℓ) : Prop :=
  True

def Pre_ReferenceSsdOutIdeal (m : (ℓ : Loc Cert.ReferenceSsdOutIdeal.nD Cert.ReferenceSsdOutIdeal.τ Cert.ReferenceSsdOutIdeal.sig) → Buf (Elt Ideal) ℓ) : Prop :=
  True

def Pre_KernelRetOut (m : (ℓ : Loc Cert.KernelRetOut.nD Cert.KernelRetOut.τ Cert.KernelRetOut.sig) → Buf (Elt Bits) ℓ) : Prop :=
  True

def Pre_KernelRetOutIdeal (m : (ℓ : Loc Cert.KernelRetOutIdeal.nD Cert.KernelRetOutIdeal.τ Cert.KernelRetOutIdeal.sig) → Buf (Elt Ideal) ℓ) : Prop :=
  True

def Pre_ReferenceRetOutIdeal (m : (ℓ : Loc Cert.ReferenceRetOutIdeal.nD Cert.ReferenceRetOutIdeal.τ Cert.ReferenceRetOutIdeal.sig) → Buf (Elt Ideal) ℓ) : Prop :=
  True

def Pre_KernelDRetAct (m : (ℓ : Loc Cert.KernelDRetAct.nD Cert.KernelDRetAct.τ Cert.KernelDRetAct.sig) → Buf (Elt Bits) ℓ) : Prop :=
  True

def Pre_KernelDRetActIdeal (m : (ℓ : Loc Cert.KernelDRetActIdeal.nD Cert.KernelDRetActIdeal.τ Cert.KernelDRetActIdeal.sig) → Buf (Elt Ideal) ℓ) : Prop :=
  True

def Pre_ReferenceDRetActIdeal (m : (ℓ : Loc Cert.ReferenceDRetActIdeal.nD Cert.ReferenceDRetActIdeal.τ Cert.ReferenceDRetActIdeal.sig) → Buf (Elt Ideal) ℓ) : Prop :=
  True

def Pre_KernelGRetOut (m : (ℓ : Loc Cert.KernelGRetOut.nD Cert.KernelGRetOut.τ Cert.KernelGRetOut.sig) → Buf (Elt Bits) ℓ) : Prop :=
  True

def Pre_KernelGRetOutIdeal (m : (ℓ : Loc Cert.KernelGRetOutIdeal.nD Cert.KernelGRetOutIdeal.τ Cert.KernelGRetOutIdeal.sig) → Buf (Elt Ideal) ℓ) : Prop :=
  True

def Pre_ReferenceGRetOutIdeal (m : (ℓ : Loc Cert.ReferenceGRetOutIdeal.nD Cert.ReferenceGRetOutIdeal.τ Cert.ReferenceGRetOutIdeal.sig) → Buf (Elt Ideal) ℓ) : Prop :=
  True

def Pre_KernelMixOut (m : (ℓ : Loc Cert.KernelMixOut.nD Cert.KernelMixOut.τ Cert.KernelMixOut.sig) → Buf (Elt Bits) ℓ) : Prop :=
  True

def Pre_KernelMixOutIdeal (m : (ℓ : Loc Cert.KernelMixOutIdeal.nD Cert.KernelMixOutIdeal.τ Cert.KernelMixOutIdeal.sig) → Buf (Elt Ideal) ℓ) : Prop :=
  True

def Pre_ReferenceMixOutIdeal (m : (ℓ : Loc Cert.ReferenceMixOutIdeal.nD Cert.ReferenceMixOutIdeal.τ Cert.ReferenceMixOutIdeal.sig) → Buf (Elt Ideal) ℓ) : Prop :=
  True

def Pre_KernelDMerged (m : (ℓ : Loc Cert.KernelDMerged.nD Cert.KernelDMerged.τ Cert.KernelDMerged.sig) → Buf (Elt Bits) ℓ) : Prop :=
  True

def Pre_KernelDMergedIdeal (m : (ℓ : Loc Cert.KernelDMergedIdeal.nD Cert.KernelDMergedIdeal.τ Cert.KernelDMergedIdeal.sig) → Buf (Elt Ideal) ℓ) : Prop :=
  True

def Pre_ReferenceDMergedIdeal (m : (ℓ : Loc Cert.ReferenceDMergedIdeal.nD Cert.ReferenceDMergedIdeal.τ Cert.ReferenceDMergedIdeal.sig) → Buf (Elt Ideal) ℓ) : Prop :=
  True

def Pre_KernelGOut (m : (ℓ : Loc Cert.KernelGOut.nD Cert.KernelGOut.τ Cert.KernelGOut.sig) → Buf (Elt Bits) ℓ) : Prop :=
  True

def Pre_KernelGOutIdeal (m : (ℓ : Loc Cert.KernelGOutIdeal.nD Cert.KernelGOutIdeal.τ Cert.KernelGOutIdeal.sig) → Buf (Elt Ideal) ℓ) : Prop :=
  True

def Pre_ReferenceGOutIdeal (m : (ℓ : Loc Cert.ReferenceGOutIdeal.nD Cert.ReferenceGOutIdeal.τ Cert.ReferenceGOutIdeal.sig) → Buf (Elt Ideal) ℓ) : Prop :=
  True

def Pre_KernelProjDt (m : (ℓ : Loc Cert.KernelProjDt.nD Cert.KernelProjDt.τ Cert.KernelProjDt.sig) → Buf (Elt Bits) ℓ) : Prop :=
  True

def Pre_KernelProjDtIdeal (m : (ℓ : Loc Cert.KernelProjDtIdeal.nD Cert.KernelProjDtIdeal.τ Cert.KernelProjDtIdeal.sig) → Buf (Elt Ideal) ℓ) : Prop :=
  True

def Pre_ReferenceProjDtIdeal (m : (ℓ : Loc Cert.ReferenceProjDtIdeal.nD Cert.ReferenceProjDtIdeal.τ Cert.ReferenceProjDtIdeal.sig) → Buf (Elt Ideal) ℓ) : Prop :=
  True

def Pre_KernelGInDt (m : (ℓ : Loc Cert.KernelGInDt.nD Cert.KernelGInDt.τ Cert.KernelGInDt.sig) → Buf (Elt Bits) ℓ) : Prop :=
  True

def Pre_KernelGInDtIdeal (m : (ℓ : Loc Cert.KernelGInDtIdeal.nD Cert.KernelGInDtIdeal.τ Cert.KernelGInDtIdeal.sig) → Buf (Elt Ideal) ℓ) : Prop :=
  True

def Pre_ReferenceGInDtIdeal (m : (ℓ : Loc Cert.ReferenceGInDtIdeal.nD Cert.ReferenceGInDtIdeal.τ Cert.ReferenceGInDtIdeal.sig) → Buf (Elt Ideal) ℓ) : Prop :=
  True

def Pre_KernelDUDt (m : (ℓ : Loc Cert.KernelDUDt.nD Cert.KernelDUDt.τ Cert.KernelDUDt.sig) → Buf (Elt Bits) ℓ) : Prop :=
  True

def Pre_KernelDUDtIdeal (m : (ℓ : Loc Cert.KernelDUDtIdeal.nD Cert.KernelDUDtIdeal.τ Cert.KernelDUDtIdeal.sig) → Buf (Elt Ideal) ℓ) : Prop :=
  True

def Pre_ReferenceDUDtIdeal (m : (ℓ : Loc Cert.ReferenceDUDtIdeal.nD Cert.ReferenceDUDtIdeal.τ Cert.ReferenceDUDtIdeal.sig) → Buf (Elt Ideal) ℓ) : Prop :=
  True

def Pre_KernelY (m : (ℓ : Loc Cert.KernelY.nD Cert.KernelY.τ Cert.KernelY.sig) → Buf (Elt Bits) ℓ) : Prop :=
  True

def Pre_KernelYIdeal (m : (ℓ : Loc Cert.KernelYIdeal.nD Cert.KernelYIdeal.τ Cert.KernelYIdeal.sig) → Buf (Elt Ideal) ℓ) : Prop :=
  True

def Pre_ReferenceYIdeal (m : (ℓ : Loc Cert.ReferenceYIdeal.nD Cert.ReferenceYIdeal.τ Cert.ReferenceYIdeal.sig) → Buf (Elt Ideal) ℓ) : Prop :=
  True

def Pre_KernelSumIn (m : (ℓ : Loc Cert.KernelSumIn.nD Cert.KernelSumIn.τ Cert.KernelSumIn.sig) → Buf (Elt Bits) ℓ) : Prop :=
  True

def Pre_KernelSumInIdeal (m : (ℓ : Loc Cert.KernelSumInIdeal.nD Cert.KernelSumInIdeal.τ Cert.KernelSumInIdeal.sig) → Buf (Elt Ideal) ℓ) : Prop :=
  True

def Pre_ReferenceSumInIdeal (m : (ℓ : Loc Cert.ReferenceSumInIdeal.nD Cert.ReferenceSumInIdeal.τ Cert.ReferenceSumInIdeal.sig) → Buf (Elt Ideal) ℓ) : Prop :=
  True

def Pre_KernelSumUp (m : (ℓ : Loc Cert.KernelSumUp.nD Cert.KernelSumUp.τ Cert.KernelSumUp.sig) → Buf (Elt Bits) ℓ) : Prop :=
  True

def Pre_KernelSumUpIdeal (m : (ℓ : Loc Cert.KernelSumUpIdeal.nD Cert.KernelSumUpIdeal.τ Cert.KernelSumUpIdeal.sig) → Buf (Elt Ideal) ℓ) : Prop :=
  True

def Pre_ReferenceSumUpIdeal (m : (ℓ : Loc Cert.ReferenceSumUpIdeal.nD Cert.ReferenceSumUpIdeal.τ Cert.ReferenceSumUpIdeal.sig) → Buf (Elt Ideal) ℓ) : Prop :=
  True

def Pre_KernelSumDown (m : (ℓ : Loc Cert.KernelSumDown.nD Cert.KernelSumDown.τ Cert.KernelSumDown.sig) → Buf (Elt Bits) ℓ) : Prop :=
  True

def Pre_KernelSumDownIdeal (m : (ℓ : Loc Cert.KernelSumDownIdeal.nD Cert.KernelSumDownIdeal.τ Cert.KernelSumDownIdeal.sig) → Buf (Elt Ideal) ℓ) : Prop :=
  True

def Pre_ReferenceSumDownIdeal (m : (ℓ : Loc Cert.ReferenceSumDownIdeal.nD Cert.ReferenceSumDownIdeal.τ Cert.ReferenceSumDownIdeal.sig) → Buf (Elt Ideal) ℓ) : Prop :=
  True

def Pre_KernelSumSsd (m : (ℓ : Loc Cert.KernelSumSsd.nD Cert.KernelSumSsd.τ Cert.KernelSumSsd.sig) → Buf (Elt Bits) ℓ) : Prop :=
  True

def Pre_KernelSumSsdIdeal (m : (ℓ : Loc Cert.KernelSumSsdIdeal.nD Cert.KernelSumSsdIdeal.τ Cert.KernelSumSsdIdeal.sig) → Buf (Elt Ideal) ℓ) : Prop :=
  True

def Pre_ReferenceSumSsdIdeal (m : (ℓ : Loc Cert.ReferenceSumSsdIdeal.nD Cert.ReferenceSumSsdIdeal.τ Cert.ReferenceSumSsdIdeal.sig) → Buf (Elt Ideal) ℓ) : Prop :=
  True

def Pre_KernelSumRet (m : (ℓ : Loc Cert.KernelSumRet.nD Cert.KernelSumRet.τ Cert.KernelSumRet.sig) → Buf (Elt Bits) ℓ) : Prop :=
  True

def Pre_KernelSumRetIdeal (m : (ℓ : Loc Cert.KernelSumRetIdeal.nD Cert.KernelSumRetIdeal.τ Cert.KernelSumRetIdeal.sig) → Buf (Elt Ideal) ℓ) : Prop :=
  True

def Pre_ReferenceSumRetIdeal (m : (ℓ : Loc Cert.ReferenceSumRetIdeal.nD Cert.ReferenceSumRetIdeal.τ Cert.ReferenceSumRetIdeal.sig) → Buf (Elt Ideal) ℓ) : Prop :=
  True

def Pre_KernelSumSmall (m : (ℓ : Loc Cert.KernelSumSmall.nD Cert.KernelSumSmall.τ Cert.KernelSumSmall.sig) → Buf (Elt Bits) ℓ) : Prop :=
  True

def Pre_KernelSumSmallIdeal (m : (ℓ : Loc Cert.KernelSumSmallIdeal.nD Cert.KernelSumSmallIdeal.τ Cert.KernelSumSmallIdeal.sig) → Buf (Elt Ideal) ℓ) : Prop :=
  True

def Pre_ReferenceSumSmallIdeal (m : (ℓ : Loc Cert.ReferenceSumSmallIdeal.nD Cert.ReferenceSumSmallIdeal.τ Cert.ReferenceSumSmallIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamUp (m : (ℓ : Loc Cert.KernelAdamUp.nD Cert.KernelAdamUp.τ Cert.KernelAdamUp.sig) → Buf (Elt Bits) ℓ) : Prop :=
  True

def Pre_KernelAdamUpIdeal (m : (ℓ : Loc Cert.KernelAdamUpIdeal.nD Cert.KernelAdamUpIdeal.τ Cert.KernelAdamUpIdeal.sig) → Buf (Elt Ideal) ℓ) : Prop :=
  True

def Pre_ReferenceAdamUpIdeal (m : (ℓ : Loc Cert.ReferenceAdamUpIdeal.nD Cert.ReferenceAdamUpIdeal.τ Cert.ReferenceAdamUpIdeal.sig) → Buf (Elt Ideal) ℓ) : Prop :=
  True

def Pre_KernelAdamDown (m : (ℓ : Loc Cert.KernelAdamDown.nD Cert.KernelAdamDown.τ Cert.KernelAdamDown.sig) → Buf (Elt Bits) ℓ) : Prop :=
  True

def Pre_KernelAdamDownIdeal (m : (ℓ : Loc Cert.KernelAdamDownIdeal.nD Cert.KernelAdamDownIdeal.τ Cert.KernelAdamDownIdeal.sig) → Buf (Elt Ideal) ℓ) : Prop :=
  True

def Pre_ReferenceAdamDownIdeal (m : (ℓ : Loc Cert.ReferenceAdamDownIdeal.nD Cert.ReferenceAdamDownIdeal.τ Cert.ReferenceAdamDownIdeal.sig) → Buf (Elt Ideal) ℓ) : Prop :=
  True

def Pre_KernelAdamSsd (m : (ℓ : Loc Cert.KernelAdamSsd.nD Cert.KernelAdamSsd.τ Cert.KernelAdamSsd.sig) → Buf (Elt Bits) ℓ) : Prop :=
  True

def Pre_KernelAdamSsdIdeal (m : (ℓ : Loc Cert.KernelAdamSsdIdeal.nD Cert.KernelAdamSsdIdeal.τ Cert.KernelAdamSsdIdeal.sig) → Buf (Elt Ideal) ℓ) : Prop :=
  True

def Pre_ReferenceAdamSsdIdeal (m : (ℓ : Loc Cert.ReferenceAdamSsdIdeal.nD Cert.ReferenceAdamSsdIdeal.τ Cert.ReferenceAdamSsdIdeal.sig) → Buf (Elt Ideal) ℓ) : Prop :=
  True

def Pre_KernelAdamRet (m : (ℓ : Loc Cert.KernelAdamRet.nD Cert.KernelAdamRet.τ Cert.KernelAdamRet.sig) → Buf (Elt Bits) ℓ) : Prop :=
  True

def Pre_KernelAdamRetIdeal (m : (ℓ : Loc Cert.KernelAdamRetIdeal.nD Cert.KernelAdamRetIdeal.τ Cert.KernelAdamRetIdeal.sig) → Buf (Elt Ideal) ℓ) : Prop :=
  True

def Pre_ReferenceAdamRetIdeal (m : (ℓ : Loc Cert.ReferenceAdamRetIdeal.nD Cert.ReferenceAdamRetIdeal.τ Cert.ReferenceAdamRetIdeal.sig) → Buf (Elt Ideal) ℓ) : Prop :=
  True

def Pre_KernelAdamSmall (m : (ℓ : Loc Cert.KernelAdamSmall.nD Cert.KernelAdamSmall.τ Cert.KernelAdamSmall.sig) → Buf (Elt Bits) ℓ) : Prop :=
  True

def Pre_KernelAdamSmallIdeal (m : (ℓ : Loc Cert.KernelAdamSmallIdeal.nD Cert.KernelAdamSmallIdeal.τ Cert.KernelAdamSmallIdeal.sig) → Buf (Elt Ideal) ℓ) : Prop :=
  True

def Pre_ReferenceAdamSmallIdeal (m : (ℓ : Loc Cert.ReferenceAdamSmallIdeal.nD Cert.ReferenceAdamSmallIdeal.τ Cert.ReferenceAdamSmallIdeal.sig) → Buf (Elt Ideal) ℓ) : Prop :=
  True

def quiescent_KernelDq [hKernelDq : Cert.KernelDq.Facts] : Prop :=
  ∀ (m : (ℓ : Loc Cert.KernelDq.nD Cert.KernelDq.τ Cert.KernelDq.sig) → Buf (Elt Bits) ℓ) (g : Dev Cert.KernelDq.nD → PrngReg), Pre_KernelDq m →
    θ_run (Cert.KernelDq.defs (F := Bits)) (onTc (τ := Cert.KernelDq.τ) (Cert.KernelDq.main (F := Bits))) ⟨m, fun _ => 0, g⟩ (fun r => (∀ c : Dev Cert.KernelDq.nD,
      r.2.mem ((c.tc : Thread Cert.KernelDq.nD Cert.KernelDq.τ).loc Cert.KernelDq.main_arg0) = m ((c.tc : Thread Cert.KernelDq.nD Cert.KernelDq.τ).loc Cert.KernelDq.main_arg0)
      ∧ r.2.mem ((c.tc : Thread Cert.KernelDq.nD Cert.KernelDq.τ).loc Cert.KernelDq.main_arg1) = m ((c.tc : Thread Cert.KernelDq.nD Cert.KernelDq.τ).loc Cert.KernelDq.main_arg1)
      ∧ r.2.mem ((c.tc : Thread Cert.KernelDq.nD Cert.KernelDq.τ).loc Cert.KernelDq.main_arg2) = m ((c.tc : Thread Cert.KernelDq.nD Cert.KernelDq.τ).loc Cert.KernelDq.main_arg2)
      ∧ r.2.mem ((c.tc : Thread Cert.KernelDq.nD Cert.KernelDq.τ).loc Cert.KernelDq.main_arg3) = m ((c.tc : Thread Cert.KernelDq.nD Cert.KernelDq.τ).loc Cert.KernelDq.main_arg3))
      ∧ r.2.sem = fun _ => 0)

def quiescent_KernelDqIdeal [hKernelDqIdeal : Cert.KernelDqIdeal.Facts] : Prop :=
  ∀ (m : (ℓ : Loc Cert.KernelDqIdeal.nD Cert.KernelDqIdeal.τ Cert.KernelDqIdeal.sig) → Buf (Elt Ideal) ℓ) (g : Dev Cert.KernelDqIdeal.nD → PrngReg), Pre_KernelDqIdeal m →
    θ_run (Cert.KernelDqIdeal.defs (F := Ideal)) (onTc (τ := Cert.KernelDqIdeal.τ) (Cert.KernelDqIdeal.main (F := Ideal))) ⟨m, fun _ => 0, g⟩ (fun r => (∀ c : Dev Cert.KernelDqIdeal.nD,
      r.2.mem ((c.tc : Thread Cert.KernelDqIdeal.nD Cert.KernelDqIdeal.τ).loc Cert.KernelDqIdeal.main_arg0) = m ((c.tc : Thread Cert.KernelDqIdeal.nD Cert.KernelDqIdeal.τ).loc Cert.KernelDqIdeal.main_arg0)
      ∧ r.2.mem ((c.tc : Thread Cert.KernelDqIdeal.nD Cert.KernelDqIdeal.τ).loc Cert.KernelDqIdeal.main_arg1) = m ((c.tc : Thread Cert.KernelDqIdeal.nD Cert.KernelDqIdeal.τ).loc Cert.KernelDqIdeal.main_arg1)
      ∧ r.2.mem ((c.tc : Thread Cert.KernelDqIdeal.nD Cert.KernelDqIdeal.τ).loc Cert.KernelDqIdeal.main_arg2) = m ((c.tc : Thread Cert.KernelDqIdeal.nD Cert.KernelDqIdeal.τ).loc Cert.KernelDqIdeal.main_arg2)
      ∧ r.2.mem ((c.tc : Thread Cert.KernelDqIdeal.nD Cert.KernelDqIdeal.τ).loc Cert.KernelDqIdeal.main_arg3) = m ((c.tc : Thread Cert.KernelDqIdeal.nD Cert.KernelDqIdeal.τ).loc Cert.KernelDqIdeal.main_arg3))
      ∧ r.2.sem = fun _ => 0)

def quiescent_ReferenceDqIdeal [hReferenceDqIdeal : Cert.ReferenceDqIdeal.Facts] : Prop :=
  ∀ (m : (ℓ : Loc Cert.ReferenceDqIdeal.nD Cert.ReferenceDqIdeal.τ Cert.ReferenceDqIdeal.sig) → Buf (Elt Ideal) ℓ) (g : Dev Cert.ReferenceDqIdeal.nD → PrngReg), Pre_ReferenceDqIdeal m →
    θ_run (Cert.ReferenceDqIdeal.defs (F := Ideal)) (onTc (τ := Cert.ReferenceDqIdeal.τ) (Cert.ReferenceDqIdeal.main (F := Ideal))) ⟨m, fun _ => 0, g⟩ (fun r => (∀ c : Dev Cert.ReferenceDqIdeal.nD,
      r.2.mem ((c.tc : Thread Cert.ReferenceDqIdeal.nD Cert.ReferenceDqIdeal.τ).loc Cert.ReferenceDqIdeal.main_arg0) = m ((c.tc : Thread Cert.ReferenceDqIdeal.nD Cert.ReferenceDqIdeal.τ).loc Cert.ReferenceDqIdeal.main_arg0)
      ∧ r.2.mem ((c.tc : Thread Cert.ReferenceDqIdeal.nD Cert.ReferenceDqIdeal.τ).loc Cert.ReferenceDqIdeal.main_arg1) = m ((c.tc : Thread Cert.ReferenceDqIdeal.nD Cert.ReferenceDqIdeal.τ).loc Cert.ReferenceDqIdeal.main_arg1)
      ∧ r.2.mem ((c.tc : Thread Cert.ReferenceDqIdeal.nD Cert.ReferenceDqIdeal.τ).loc Cert.ReferenceDqIdeal.main_arg2) = m ((c.tc : Thread Cert.ReferenceDqIdeal.nD Cert.ReferenceDqIdeal.τ).loc Cert.ReferenceDqIdeal.main_arg2)
      ∧ r.2.mem ((c.tc : Thread Cert.ReferenceDqIdeal.nD Cert.ReferenceDqIdeal.τ).loc Cert.ReferenceDqIdeal.main_arg3) = m ((c.tc : Thread Cert.ReferenceDqIdeal.nD Cert.ReferenceDqIdeal.τ).loc Cert.ReferenceDqIdeal.main_arg3))
      ∧ r.2.sem = fun _ => 0)

def quiescent_KernelDk [hKernelDk : Cert.KernelDk.Facts] : Prop :=
  ∀ (m : (ℓ : Loc Cert.KernelDk.nD Cert.KernelDk.τ Cert.KernelDk.sig) → Buf (Elt Bits) ℓ) (g : Dev Cert.KernelDk.nD → PrngReg), Pre_KernelDk m →
    θ_run (Cert.KernelDk.defs (F := Bits)) (onTc (τ := Cert.KernelDk.τ) (Cert.KernelDk.main (F := Bits))) ⟨m, fun _ => 0, g⟩ (fun r => (∀ c : Dev Cert.KernelDk.nD,
      r.2.mem ((c.tc : Thread Cert.KernelDk.nD Cert.KernelDk.τ).loc Cert.KernelDk.main_arg0) = m ((c.tc : Thread Cert.KernelDk.nD Cert.KernelDk.τ).loc Cert.KernelDk.main_arg0)
      ∧ r.2.mem ((c.tc : Thread Cert.KernelDk.nD Cert.KernelDk.τ).loc Cert.KernelDk.main_arg1) = m ((c.tc : Thread Cert.KernelDk.nD Cert.KernelDk.τ).loc Cert.KernelDk.main_arg1)
      ∧ r.2.mem ((c.tc : Thread Cert.KernelDk.nD Cert.KernelDk.τ).loc Cert.KernelDk.main_arg2) = m ((c.tc : Thread Cert.KernelDk.nD Cert.KernelDk.τ).loc Cert.KernelDk.main_arg2)
      ∧ r.2.mem ((c.tc : Thread Cert.KernelDk.nD Cert.KernelDk.τ).loc Cert.KernelDk.main_arg3) = m ((c.tc : Thread Cert.KernelDk.nD Cert.KernelDk.τ).loc Cert.KernelDk.main_arg3))
      ∧ r.2.sem = fun _ => 0)

def quiescent_KernelDkIdeal [hKernelDkIdeal : Cert.KernelDkIdeal.Facts] : Prop :=
  ∀ (m : (ℓ : Loc Cert.KernelDkIdeal.nD Cert.KernelDkIdeal.τ Cert.KernelDkIdeal.sig) → Buf (Elt Ideal) ℓ) (g : Dev Cert.KernelDkIdeal.nD → PrngReg), Pre_KernelDkIdeal m →
    θ_run (Cert.KernelDkIdeal.defs (F := Ideal)) (onTc (τ := Cert.KernelDkIdeal.τ) (Cert.KernelDkIdeal.main (F := Ideal))) ⟨m, fun _ => 0, g⟩ (fun r => (∀ c : Dev Cert.KernelDkIdeal.nD,
      r.2.mem ((c.tc : Thread Cert.KernelDkIdeal.nD Cert.KernelDkIdeal.τ).loc Cert.KernelDkIdeal.main_arg0) = m ((c.tc : Thread Cert.KernelDkIdeal.nD Cert.KernelDkIdeal.τ).loc Cert.KernelDkIdeal.main_arg0)
      ∧ r.2.mem ((c.tc : Thread Cert.KernelDkIdeal.nD Cert.KernelDkIdeal.τ).loc Cert.KernelDkIdeal.main_arg1) = m ((c.tc : Thread Cert.KernelDkIdeal.nD Cert.KernelDkIdeal.τ).loc Cert.KernelDkIdeal.main_arg1)
      ∧ r.2.mem ((c.tc : Thread Cert.KernelDkIdeal.nD Cert.KernelDkIdeal.τ).loc Cert.KernelDkIdeal.main_arg2) = m ((c.tc : Thread Cert.KernelDkIdeal.nD Cert.KernelDkIdeal.τ).loc Cert.KernelDkIdeal.main_arg2)
      ∧ r.2.mem ((c.tc : Thread Cert.KernelDkIdeal.nD Cert.KernelDkIdeal.τ).loc Cert.KernelDkIdeal.main_arg3) = m ((c.tc : Thread Cert.KernelDkIdeal.nD Cert.KernelDkIdeal.τ).loc Cert.KernelDkIdeal.main_arg3))
      ∧ r.2.sem = fun _ => 0)

def quiescent_ReferenceDkIdeal [hReferenceDkIdeal : Cert.ReferenceDkIdeal.Facts] : Prop :=
  ∀ (m : (ℓ : Loc Cert.ReferenceDkIdeal.nD Cert.ReferenceDkIdeal.τ Cert.ReferenceDkIdeal.sig) → Buf (Elt Ideal) ℓ) (g : Dev Cert.ReferenceDkIdeal.nD → PrngReg), Pre_ReferenceDkIdeal m →
    θ_run (Cert.ReferenceDkIdeal.defs (F := Ideal)) (onTc (τ := Cert.ReferenceDkIdeal.τ) (Cert.ReferenceDkIdeal.main (F := Ideal))) ⟨m, fun _ => 0, g⟩ (fun r => (∀ c : Dev Cert.ReferenceDkIdeal.nD,
      r.2.mem ((c.tc : Thread Cert.ReferenceDkIdeal.nD Cert.ReferenceDkIdeal.τ).loc Cert.ReferenceDkIdeal.main_arg0) = m ((c.tc : Thread Cert.ReferenceDkIdeal.nD Cert.ReferenceDkIdeal.τ).loc Cert.ReferenceDkIdeal.main_arg0)
      ∧ r.2.mem ((c.tc : Thread Cert.ReferenceDkIdeal.nD Cert.ReferenceDkIdeal.τ).loc Cert.ReferenceDkIdeal.main_arg1) = m ((c.tc : Thread Cert.ReferenceDkIdeal.nD Cert.ReferenceDkIdeal.τ).loc Cert.ReferenceDkIdeal.main_arg1)
      ∧ r.2.mem ((c.tc : Thread Cert.ReferenceDkIdeal.nD Cert.ReferenceDkIdeal.τ).loc Cert.ReferenceDkIdeal.main_arg2) = m ((c.tc : Thread Cert.ReferenceDkIdeal.nD Cert.ReferenceDkIdeal.τ).loc Cert.ReferenceDkIdeal.main_arg2)
      ∧ r.2.mem ((c.tc : Thread Cert.ReferenceDkIdeal.nD Cert.ReferenceDkIdeal.τ).loc Cert.ReferenceDkIdeal.main_arg3) = m ((c.tc : Thread Cert.ReferenceDkIdeal.nD Cert.ReferenceDkIdeal.τ).loc Cert.ReferenceDkIdeal.main_arg3))
      ∧ r.2.sem = fun _ => 0)

def quiescent_KernelDv [hKernelDv : Cert.KernelDv.Facts] : Prop :=
  ∀ (m : (ℓ : Loc Cert.KernelDv.nD Cert.KernelDv.τ Cert.KernelDv.sig) → Buf (Elt Bits) ℓ) (g : Dev Cert.KernelDv.nD → PrngReg), Pre_KernelDv m →
    θ_run (Cert.KernelDv.defs (F := Bits)) (onTc (τ := Cert.KernelDv.τ) (Cert.KernelDv.main (F := Bits))) ⟨m, fun _ => 0, g⟩ (fun r => (∀ c : Dev Cert.KernelDv.nD,
      r.2.mem ((c.tc : Thread Cert.KernelDv.nD Cert.KernelDv.τ).loc Cert.KernelDv.main_arg0) = m ((c.tc : Thread Cert.KernelDv.nD Cert.KernelDv.τ).loc Cert.KernelDv.main_arg0)
      ∧ r.2.mem ((c.tc : Thread Cert.KernelDv.nD Cert.KernelDv.τ).loc Cert.KernelDv.main_arg1) = m ((c.tc : Thread Cert.KernelDv.nD Cert.KernelDv.τ).loc Cert.KernelDv.main_arg1)
      ∧ r.2.mem ((c.tc : Thread Cert.KernelDv.nD Cert.KernelDv.τ).loc Cert.KernelDv.main_arg2) = m ((c.tc : Thread Cert.KernelDv.nD Cert.KernelDv.τ).loc Cert.KernelDv.main_arg2)
      ∧ r.2.mem ((c.tc : Thread Cert.KernelDv.nD Cert.KernelDv.τ).loc Cert.KernelDv.main_arg3) = m ((c.tc : Thread Cert.KernelDv.nD Cert.KernelDv.τ).loc Cert.KernelDv.main_arg3))
      ∧ r.2.sem = fun _ => 0)

def quiescent_KernelDvIdeal [hKernelDvIdeal : Cert.KernelDvIdeal.Facts] : Prop :=
  ∀ (m : (ℓ : Loc Cert.KernelDvIdeal.nD Cert.KernelDvIdeal.τ Cert.KernelDvIdeal.sig) → Buf (Elt Ideal) ℓ) (g : Dev Cert.KernelDvIdeal.nD → PrngReg), Pre_KernelDvIdeal m →
    θ_run (Cert.KernelDvIdeal.defs (F := Ideal)) (onTc (τ := Cert.KernelDvIdeal.τ) (Cert.KernelDvIdeal.main (F := Ideal))) ⟨m, fun _ => 0, g⟩ (fun r => (∀ c : Dev Cert.KernelDvIdeal.nD,
      r.2.mem ((c.tc : Thread Cert.KernelDvIdeal.nD Cert.KernelDvIdeal.τ).loc Cert.KernelDvIdeal.main_arg0) = m ((c.tc : Thread Cert.KernelDvIdeal.nD Cert.KernelDvIdeal.τ).loc Cert.KernelDvIdeal.main_arg0)
      ∧ r.2.mem ((c.tc : Thread Cert.KernelDvIdeal.nD Cert.KernelDvIdeal.τ).loc Cert.KernelDvIdeal.main_arg1) = m ((c.tc : Thread Cert.KernelDvIdeal.nD Cert.KernelDvIdeal.τ).loc Cert.KernelDvIdeal.main_arg1)
      ∧ r.2.mem ((c.tc : Thread Cert.KernelDvIdeal.nD Cert.KernelDvIdeal.τ).loc Cert.KernelDvIdeal.main_arg2) = m ((c.tc : Thread Cert.KernelDvIdeal.nD Cert.KernelDvIdeal.τ).loc Cert.KernelDvIdeal.main_arg2)
      ∧ r.2.mem ((c.tc : Thread Cert.KernelDvIdeal.nD Cert.KernelDvIdeal.τ).loc Cert.KernelDvIdeal.main_arg3) = m ((c.tc : Thread Cert.KernelDvIdeal.nD Cert.KernelDvIdeal.τ).loc Cert.KernelDvIdeal.main_arg3))
      ∧ r.2.sem = fun _ => 0)

def quiescent_ReferenceDvIdeal [hReferenceDvIdeal : Cert.ReferenceDvIdeal.Facts] : Prop :=
  ∀ (m : (ℓ : Loc Cert.ReferenceDvIdeal.nD Cert.ReferenceDvIdeal.τ Cert.ReferenceDvIdeal.sig) → Buf (Elt Ideal) ℓ) (g : Dev Cert.ReferenceDvIdeal.nD → PrngReg), Pre_ReferenceDvIdeal m →
    θ_run (Cert.ReferenceDvIdeal.defs (F := Ideal)) (onTc (τ := Cert.ReferenceDvIdeal.τ) (Cert.ReferenceDvIdeal.main (F := Ideal))) ⟨m, fun _ => 0, g⟩ (fun r => (∀ c : Dev Cert.ReferenceDvIdeal.nD,
      r.2.mem ((c.tc : Thread Cert.ReferenceDvIdeal.nD Cert.ReferenceDvIdeal.τ).loc Cert.ReferenceDvIdeal.main_arg0) = m ((c.tc : Thread Cert.ReferenceDvIdeal.nD Cert.ReferenceDvIdeal.τ).loc Cert.ReferenceDvIdeal.main_arg0)
      ∧ r.2.mem ((c.tc : Thread Cert.ReferenceDvIdeal.nD Cert.ReferenceDvIdeal.τ).loc Cert.ReferenceDvIdeal.main_arg1) = m ((c.tc : Thread Cert.ReferenceDvIdeal.nD Cert.ReferenceDvIdeal.τ).loc Cert.ReferenceDvIdeal.main_arg1)
      ∧ r.2.mem ((c.tc : Thread Cert.ReferenceDvIdeal.nD Cert.ReferenceDvIdeal.τ).loc Cert.ReferenceDvIdeal.main_arg2) = m ((c.tc : Thread Cert.ReferenceDvIdeal.nD Cert.ReferenceDvIdeal.τ).loc Cert.ReferenceDvIdeal.main_arg2)
      ∧ r.2.mem ((c.tc : Thread Cert.ReferenceDvIdeal.nD Cert.ReferenceDvIdeal.τ).loc Cert.ReferenceDvIdeal.main_arg3) = m ((c.tc : Thread Cert.ReferenceDvIdeal.nD Cert.ReferenceDvIdeal.τ).loc Cert.ReferenceDvIdeal.main_arg3))
      ∧ r.2.sem = fun _ => 0)

def quiescent_KernelProjMain [hKernelProjMain : Cert.KernelProjMain.Facts] : Prop :=
  ∀ (m : (ℓ : Loc Cert.KernelProjMain.nD Cert.KernelProjMain.τ Cert.KernelProjMain.sig) → Buf (Elt Bits) ℓ) (g : Dev Cert.KernelProjMain.nD → PrngReg), Pre_KernelProjMain m →
    θ_run (Cert.KernelProjMain.defs (F := Bits)) (onTc (τ := Cert.KernelProjMain.τ) (Cert.KernelProjMain.main (F := Bits))) ⟨m, fun _ => 0, g⟩ (fun r => (∀ c : Dev Cert.KernelProjMain.nD,
      r.2.mem ((c.tc : Thread Cert.KernelProjMain.nD Cert.KernelProjMain.τ).loc Cert.KernelProjMain.main_arg0) = m ((c.tc : Thread Cert.KernelProjMain.nD Cert.KernelProjMain.τ).loc Cert.KernelProjMain.main_arg0)
      ∧ r.2.mem ((c.tc : Thread Cert.KernelProjMain.nD Cert.KernelProjMain.τ).loc Cert.KernelProjMain.main_arg1) = m ((c.tc : Thread Cert.KernelProjMain.nD Cert.KernelProjMain.τ).loc Cert.KernelProjMain.main_arg1))
      ∧ r.2.sem = fun _ => 0)

def quiescent_KernelProjMainIdeal [hKernelProjMainIdeal : Cert.KernelProjMainIdeal.Facts] : Prop :=
  ∀ (m : (ℓ : Loc Cert.KernelProjMainIdeal.nD Cert.KernelProjMainIdeal.τ Cert.KernelProjMainIdeal.sig) → Buf (Elt Ideal) ℓ) (g : Dev Cert.KernelProjMainIdeal.nD → PrngReg), Pre_KernelProjMainIdeal m →
    θ_run (Cert.KernelProjMainIdeal.defs (F := Ideal)) (onTc (τ := Cert.KernelProjMainIdeal.τ) (Cert.KernelProjMainIdeal.main (F := Ideal))) ⟨m, fun _ => 0, g⟩ (fun r => (∀ c : Dev Cert.KernelProjMainIdeal.nD,
      r.2.mem ((c.tc : Thread Cert.KernelProjMainIdeal.nD Cert.KernelProjMainIdeal.τ).loc Cert.KernelProjMainIdeal.main_arg0) = m ((c.tc : Thread Cert.KernelProjMainIdeal.nD Cert.KernelProjMainIdeal.τ).loc Cert.KernelProjMainIdeal.main_arg0)
      ∧ r.2.mem ((c.tc : Thread Cert.KernelProjMainIdeal.nD Cert.KernelProjMainIdeal.τ).loc Cert.KernelProjMainIdeal.main_arg1) = m ((c.tc : Thread Cert.KernelProjMainIdeal.nD Cert.KernelProjMainIdeal.τ).loc Cert.KernelProjMainIdeal.main_arg1))
      ∧ r.2.sem = fun _ => 0)

def quiescent_ReferenceProjMainIdeal [hReferenceProjMainIdeal : Cert.ReferenceProjMainIdeal.Facts] : Prop :=
  ∀ (m : (ℓ : Loc Cert.ReferenceProjMainIdeal.nD Cert.ReferenceProjMainIdeal.τ Cert.ReferenceProjMainIdeal.sig) → Buf (Elt Ideal) ℓ) (g : Dev Cert.ReferenceProjMainIdeal.nD → PrngReg), Pre_ReferenceProjMainIdeal m →
    θ_run (Cert.ReferenceProjMainIdeal.defs (F := Ideal)) (onTc (τ := Cert.ReferenceProjMainIdeal.τ) (Cert.ReferenceProjMainIdeal.main (F := Ideal))) ⟨m, fun _ => 0, g⟩ (fun r => (∀ c : Dev Cert.ReferenceProjMainIdeal.nD,
      r.2.mem ((c.tc : Thread Cert.ReferenceProjMainIdeal.nD Cert.ReferenceProjMainIdeal.τ).loc Cert.ReferenceProjMainIdeal.main_arg0) = m ((c.tc : Thread Cert.ReferenceProjMainIdeal.nD Cert.ReferenceProjMainIdeal.τ).loc Cert.ReferenceProjMainIdeal.main_arg0)
      ∧ r.2.mem ((c.tc : Thread Cert.ReferenceProjMainIdeal.nD Cert.ReferenceProjMainIdeal.τ).loc Cert.ReferenceProjMainIdeal.main_arg1) = m ((c.tc : Thread Cert.ReferenceProjMainIdeal.nD Cert.ReferenceProjMainIdeal.τ).loc Cert.ReferenceProjMainIdeal.main_arg1))
      ∧ r.2.sem = fun _ => 0)

def quiescent_KernelGInMain [hKernelGInMain : Cert.KernelGInMain.Facts] : Prop :=
  ∀ (m : (ℓ : Loc Cert.KernelGInMain.nD Cert.KernelGInMain.τ Cert.KernelGInMain.sig) → Buf (Elt Bits) ℓ) (g : Dev Cert.KernelGInMain.nD → PrngReg), Pre_KernelGInMain m →
    θ_run (Cert.KernelGInMain.defs (F := Bits)) (onTc (τ := Cert.KernelGInMain.τ) (Cert.KernelGInMain.main (F := Bits))) ⟨m, fun _ => 0, g⟩ (fun r => (∀ c : Dev Cert.KernelGInMain.nD,
      r.2.mem ((c.tc : Thread Cert.KernelGInMain.nD Cert.KernelGInMain.τ).loc Cert.KernelGInMain.main_arg0) = m ((c.tc : Thread Cert.KernelGInMain.nD Cert.KernelGInMain.τ).loc Cert.KernelGInMain.main_arg0)
      ∧ r.2.mem ((c.tc : Thread Cert.KernelGInMain.nD Cert.KernelGInMain.τ).loc Cert.KernelGInMain.main_arg1) = m ((c.tc : Thread Cert.KernelGInMain.nD Cert.KernelGInMain.τ).loc Cert.KernelGInMain.main_arg1))
      ∧ r.2.sem = fun _ => 0)

def quiescent_KernelGInMainIdeal [hKernelGInMainIdeal : Cert.KernelGInMainIdeal.Facts] : Prop :=
  ∀ (m : (ℓ : Loc Cert.KernelGInMainIdeal.nD Cert.KernelGInMainIdeal.τ Cert.KernelGInMainIdeal.sig) → Buf (Elt Ideal) ℓ) (g : Dev Cert.KernelGInMainIdeal.nD → PrngReg), Pre_KernelGInMainIdeal m →
    θ_run (Cert.KernelGInMainIdeal.defs (F := Ideal)) (onTc (τ := Cert.KernelGInMainIdeal.τ) (Cert.KernelGInMainIdeal.main (F := Ideal))) ⟨m, fun _ => 0, g⟩ (fun r => (∀ c : Dev Cert.KernelGInMainIdeal.nD,
      r.2.mem ((c.tc : Thread Cert.KernelGInMainIdeal.nD Cert.KernelGInMainIdeal.τ).loc Cert.KernelGInMainIdeal.main_arg0) = m ((c.tc : Thread Cert.KernelGInMainIdeal.nD Cert.KernelGInMainIdeal.τ).loc Cert.KernelGInMainIdeal.main_arg0)
      ∧ r.2.mem ((c.tc : Thread Cert.KernelGInMainIdeal.nD Cert.KernelGInMainIdeal.τ).loc Cert.KernelGInMainIdeal.main_arg1) = m ((c.tc : Thread Cert.KernelGInMainIdeal.nD Cert.KernelGInMainIdeal.τ).loc Cert.KernelGInMainIdeal.main_arg1))
      ∧ r.2.sem = fun _ => 0)

def quiescent_ReferenceGInMainIdeal [hReferenceGInMainIdeal : Cert.ReferenceGInMainIdeal.Facts] : Prop :=
  ∀ (m : (ℓ : Loc Cert.ReferenceGInMainIdeal.nD Cert.ReferenceGInMainIdeal.τ Cert.ReferenceGInMainIdeal.sig) → Buf (Elt Ideal) ℓ) (g : Dev Cert.ReferenceGInMainIdeal.nD → PrngReg), Pre_ReferenceGInMainIdeal m →
    θ_run (Cert.ReferenceGInMainIdeal.defs (F := Ideal)) (onTc (τ := Cert.ReferenceGInMainIdeal.τ) (Cert.ReferenceGInMainIdeal.main (F := Ideal))) ⟨m, fun _ => 0, g⟩ (fun r => (∀ c : Dev Cert.ReferenceGInMainIdeal.nD,
      r.2.mem ((c.tc : Thread Cert.ReferenceGInMainIdeal.nD Cert.ReferenceGInMainIdeal.τ).loc Cert.ReferenceGInMainIdeal.main_arg0) = m ((c.tc : Thread Cert.ReferenceGInMainIdeal.nD Cert.ReferenceGInMainIdeal.τ).loc Cert.ReferenceGInMainIdeal.main_arg0)
      ∧ r.2.mem ((c.tc : Thread Cert.ReferenceGInMainIdeal.nD Cert.ReferenceGInMainIdeal.τ).loc Cert.ReferenceGInMainIdeal.main_arg1) = m ((c.tc : Thread Cert.ReferenceGInMainIdeal.nD Cert.ReferenceGInMainIdeal.τ).loc Cert.ReferenceGInMainIdeal.main_arg1))
      ∧ r.2.sem = fun _ => 0)

def quiescent_KernelDUMain [hKernelDUMain : Cert.KernelDUMain.Facts] : Prop :=
  ∀ (m : (ℓ : Loc Cert.KernelDUMain.nD Cert.KernelDUMain.τ Cert.KernelDUMain.sig) → Buf (Elt Bits) ℓ) (g : Dev Cert.KernelDUMain.nD → PrngReg), Pre_KernelDUMain m →
    θ_run (Cert.KernelDUMain.defs (F := Bits)) (onTc (τ := Cert.KernelDUMain.τ) (Cert.KernelDUMain.main (F := Bits))) ⟨m, fun _ => 0, g⟩ (fun r => (∀ c : Dev Cert.KernelDUMain.nD,
      r.2.mem ((c.tc : Thread Cert.KernelDUMain.nD Cert.KernelDUMain.τ).loc Cert.KernelDUMain.main_arg0) = m ((c.tc : Thread Cert.KernelDUMain.nD Cert.KernelDUMain.τ).loc Cert.KernelDUMain.main_arg0)
      ∧ r.2.mem ((c.tc : Thread Cert.KernelDUMain.nD Cert.KernelDUMain.τ).loc Cert.KernelDUMain.main_arg1) = m ((c.tc : Thread Cert.KernelDUMain.nD Cert.KernelDUMain.τ).loc Cert.KernelDUMain.main_arg1)
      ∧ r.2.mem ((c.tc : Thread Cert.KernelDUMain.nD Cert.KernelDUMain.τ).loc Cert.KernelDUMain.main_arg2) = m ((c.tc : Thread Cert.KernelDUMain.nD Cert.KernelDUMain.τ).loc Cert.KernelDUMain.main_arg2))
      ∧ r.2.sem = fun _ => 0)

def quiescent_KernelDUMainIdeal [hKernelDUMainIdeal : Cert.KernelDUMainIdeal.Facts] : Prop :=
  ∀ (m : (ℓ : Loc Cert.KernelDUMainIdeal.nD Cert.KernelDUMainIdeal.τ Cert.KernelDUMainIdeal.sig) → Buf (Elt Ideal) ℓ) (g : Dev Cert.KernelDUMainIdeal.nD → PrngReg), Pre_KernelDUMainIdeal m →
    θ_run (Cert.KernelDUMainIdeal.defs (F := Ideal)) (onTc (τ := Cert.KernelDUMainIdeal.τ) (Cert.KernelDUMainIdeal.main (F := Ideal))) ⟨m, fun _ => 0, g⟩ (fun r => (∀ c : Dev Cert.KernelDUMainIdeal.nD,
      r.2.mem ((c.tc : Thread Cert.KernelDUMainIdeal.nD Cert.KernelDUMainIdeal.τ).loc Cert.KernelDUMainIdeal.main_arg0) = m ((c.tc : Thread Cert.KernelDUMainIdeal.nD Cert.KernelDUMainIdeal.τ).loc Cert.KernelDUMainIdeal.main_arg0)
      ∧ r.2.mem ((c.tc : Thread Cert.KernelDUMainIdeal.nD Cert.KernelDUMainIdeal.τ).loc Cert.KernelDUMainIdeal.main_arg1) = m ((c.tc : Thread Cert.KernelDUMainIdeal.nD Cert.KernelDUMainIdeal.τ).loc Cert.KernelDUMainIdeal.main_arg1)
      ∧ r.2.mem ((c.tc : Thread Cert.KernelDUMainIdeal.nD Cert.KernelDUMainIdeal.τ).loc Cert.KernelDUMainIdeal.main_arg2) = m ((c.tc : Thread Cert.KernelDUMainIdeal.nD Cert.KernelDUMainIdeal.τ).loc Cert.KernelDUMainIdeal.main_arg2))
      ∧ r.2.sem = fun _ => 0)

def quiescent_ReferenceDUMainIdeal [hReferenceDUMainIdeal : Cert.ReferenceDUMainIdeal.Facts] : Prop :=
  ∀ (m : (ℓ : Loc Cert.ReferenceDUMainIdeal.nD Cert.ReferenceDUMainIdeal.τ Cert.ReferenceDUMainIdeal.sig) → Buf (Elt Ideal) ℓ) (g : Dev Cert.ReferenceDUMainIdeal.nD → PrngReg), Pre_ReferenceDUMainIdeal m →
    θ_run (Cert.ReferenceDUMainIdeal.defs (F := Ideal)) (onTc (τ := Cert.ReferenceDUMainIdeal.τ) (Cert.ReferenceDUMainIdeal.main (F := Ideal))) ⟨m, fun _ => 0, g⟩ (fun r => (∀ c : Dev Cert.ReferenceDUMainIdeal.nD,
      r.2.mem ((c.tc : Thread Cert.ReferenceDUMainIdeal.nD Cert.ReferenceDUMainIdeal.τ).loc Cert.ReferenceDUMainIdeal.main_arg0) = m ((c.tc : Thread Cert.ReferenceDUMainIdeal.nD Cert.ReferenceDUMainIdeal.τ).loc Cert.ReferenceDUMainIdeal.main_arg0)
      ∧ r.2.mem ((c.tc : Thread Cert.ReferenceDUMainIdeal.nD Cert.ReferenceDUMainIdeal.τ).loc Cert.ReferenceDUMainIdeal.main_arg1) = m ((c.tc : Thread Cert.ReferenceDUMainIdeal.nD Cert.ReferenceDUMainIdeal.τ).loc Cert.ReferenceDUMainIdeal.main_arg1)
      ∧ r.2.mem ((c.tc : Thread Cert.ReferenceDUMainIdeal.nD Cert.ReferenceDUMainIdeal.τ).loc Cert.ReferenceDUMainIdeal.main_arg2) = m ((c.tc : Thread Cert.ReferenceDUMainIdeal.nD Cert.ReferenceDUMainIdeal.τ).loc Cert.ReferenceDUMainIdeal.main_arg2))
      ∧ r.2.sem = fun _ => 0)

def quiescent_KernelProjGates [hKernelProjGates : Cert.KernelProjGates.Facts] : Prop :=
  ∀ (m : (ℓ : Loc Cert.KernelProjGates.nD Cert.KernelProjGates.τ Cert.KernelProjGates.sig) → Buf (Elt Bits) ℓ) (g : Dev Cert.KernelProjGates.nD → PrngReg), Pre_KernelProjGates m →
    θ_run (Cert.KernelProjGates.defs (F := Bits)) (onTc (τ := Cert.KernelProjGates.τ) (Cert.KernelProjGates.main (F := Bits))) ⟨m, fun _ => 0, g⟩ (fun r => (∀ c : Dev Cert.KernelProjGates.nD,
      r.2.mem ((c.tc : Thread Cert.KernelProjGates.nD Cert.KernelProjGates.τ).loc Cert.KernelProjGates.main_arg0) = m ((c.tc : Thread Cert.KernelProjGates.nD Cert.KernelProjGates.τ).loc Cert.KernelProjGates.main_arg0)
      ∧ r.2.mem ((c.tc : Thread Cert.KernelProjGates.nD Cert.KernelProjGates.τ).loc Cert.KernelProjGates.main_arg1) = m ((c.tc : Thread Cert.KernelProjGates.nD Cert.KernelProjGates.τ).loc Cert.KernelProjGates.main_arg1))
      ∧ r.2.sem = fun _ => 0)

def quiescent_KernelProjGatesIdeal [hKernelProjGatesIdeal : Cert.KernelProjGatesIdeal.Facts] : Prop :=
  ∀ (m : (ℓ : Loc Cert.KernelProjGatesIdeal.nD Cert.KernelProjGatesIdeal.τ Cert.KernelProjGatesIdeal.sig) → Buf (Elt Ideal) ℓ) (g : Dev Cert.KernelProjGatesIdeal.nD → PrngReg), Pre_KernelProjGatesIdeal m →
    θ_run (Cert.KernelProjGatesIdeal.defs (F := Ideal)) (onTc (τ := Cert.KernelProjGatesIdeal.τ) (Cert.KernelProjGatesIdeal.main (F := Ideal))) ⟨m, fun _ => 0, g⟩ (fun r => (∀ c : Dev Cert.KernelProjGatesIdeal.nD,
      r.2.mem ((c.tc : Thread Cert.KernelProjGatesIdeal.nD Cert.KernelProjGatesIdeal.τ).loc Cert.KernelProjGatesIdeal.main_arg0) = m ((c.tc : Thread Cert.KernelProjGatesIdeal.nD Cert.KernelProjGatesIdeal.τ).loc Cert.KernelProjGatesIdeal.main_arg0)
      ∧ r.2.mem ((c.tc : Thread Cert.KernelProjGatesIdeal.nD Cert.KernelProjGatesIdeal.τ).loc Cert.KernelProjGatesIdeal.main_arg1) = m ((c.tc : Thread Cert.KernelProjGatesIdeal.nD Cert.KernelProjGatesIdeal.τ).loc Cert.KernelProjGatesIdeal.main_arg1))
      ∧ r.2.sem = fun _ => 0)

def quiescent_ReferenceProjGatesIdeal [hReferenceProjGatesIdeal : Cert.ReferenceProjGatesIdeal.Facts] : Prop :=
  ∀ (m : (ℓ : Loc Cert.ReferenceProjGatesIdeal.nD Cert.ReferenceProjGatesIdeal.τ Cert.ReferenceProjGatesIdeal.sig) → Buf (Elt Ideal) ℓ) (g : Dev Cert.ReferenceProjGatesIdeal.nD → PrngReg), Pre_ReferenceProjGatesIdeal m →
    θ_run (Cert.ReferenceProjGatesIdeal.defs (F := Ideal)) (onTc (τ := Cert.ReferenceProjGatesIdeal.τ) (Cert.ReferenceProjGatesIdeal.main (F := Ideal))) ⟨m, fun _ => 0, g⟩ (fun r => (∀ c : Dev Cert.ReferenceProjGatesIdeal.nD,
      r.2.mem ((c.tc : Thread Cert.ReferenceProjGatesIdeal.nD Cert.ReferenceProjGatesIdeal.τ).loc Cert.ReferenceProjGatesIdeal.main_arg0) = m ((c.tc : Thread Cert.ReferenceProjGatesIdeal.nD Cert.ReferenceProjGatesIdeal.τ).loc Cert.ReferenceProjGatesIdeal.main_arg0)
      ∧ r.2.mem ((c.tc : Thread Cert.ReferenceProjGatesIdeal.nD Cert.ReferenceProjGatesIdeal.τ).loc Cert.ReferenceProjGatesIdeal.main_arg1) = m ((c.tc : Thread Cert.ReferenceProjGatesIdeal.nD Cert.ReferenceProjGatesIdeal.τ).loc Cert.ReferenceProjGatesIdeal.main_arg1))
      ∧ r.2.sem = fun _ => 0)

def quiescent_ReferenceDSsdActIdeal [hReferenceDSsdActIdeal : Cert.ReferenceDSsdActIdeal.Facts] : Prop :=
  ∀ (m : (ℓ : Loc Cert.ReferenceDSsdActIdeal.nD Cert.ReferenceDSsdActIdeal.τ Cert.ReferenceDSsdActIdeal.sig) → Buf (Elt Ideal) ℓ) (g : Dev Cert.ReferenceDSsdActIdeal.nD → PrngReg), Pre_ReferenceDSsdActIdeal m →
    θ_run (Cert.ReferenceDSsdActIdeal.defs (F := Ideal)) (onTc (τ := Cert.ReferenceDSsdActIdeal.τ) (Cert.ReferenceDSsdActIdeal.main (F := Ideal))) ⟨m, fun _ => 0, g⟩ (fun r => (∀ c : Dev Cert.ReferenceDSsdActIdeal.nD,
      r.2.mem ((c.tc : Thread Cert.ReferenceDSsdActIdeal.nD Cert.ReferenceDSsdActIdeal.τ).loc Cert.ReferenceDSsdActIdeal.main_arg0) = m ((c.tc : Thread Cert.ReferenceDSsdActIdeal.nD Cert.ReferenceDSsdActIdeal.τ).loc Cert.ReferenceDSsdActIdeal.main_arg0)
      ∧ r.2.mem ((c.tc : Thread Cert.ReferenceDSsdActIdeal.nD Cert.ReferenceDSsdActIdeal.τ).loc Cert.ReferenceDSsdActIdeal.main_arg1) = m ((c.tc : Thread Cert.ReferenceDSsdActIdeal.nD Cert.ReferenceDSsdActIdeal.τ).loc Cert.ReferenceDSsdActIdeal.main_arg1))
      ∧ r.2.sem = fun _ => 0)

def quiescent_KernelGInGates [hKernelGInGates : Cert.KernelGInGates.Facts] : Prop :=
  ∀ (m : (ℓ : Loc Cert.KernelGInGates.nD Cert.KernelGInGates.τ Cert.KernelGInGates.sig) → Buf (Elt Bits) ℓ) (g : Dev Cert.KernelGInGates.nD → PrngReg), Pre_KernelGInGates m →
    θ_run (Cert.KernelGInGates.defs (F := Bits)) (onTc (τ := Cert.KernelGInGates.τ) (Cert.KernelGInGates.main (F := Bits))) ⟨m, fun _ => 0, g⟩ (fun r => (∀ c : Dev Cert.KernelGInGates.nD,
      r.2.mem ((c.tc : Thread Cert.KernelGInGates.nD Cert.KernelGInGates.τ).loc Cert.KernelGInGates.main_arg0) = m ((c.tc : Thread Cert.KernelGInGates.nD Cert.KernelGInGates.τ).loc Cert.KernelGInGates.main_arg0)
      ∧ r.2.mem ((c.tc : Thread Cert.KernelGInGates.nD Cert.KernelGInGates.τ).loc Cert.KernelGInGates.main_arg1) = m ((c.tc : Thread Cert.KernelGInGates.nD Cert.KernelGInGates.τ).loc Cert.KernelGInGates.main_arg1))
      ∧ r.2.sem = fun _ => 0)

def quiescent_KernelGInGatesIdeal [hKernelGInGatesIdeal : Cert.KernelGInGatesIdeal.Facts] : Prop :=
  ∀ (m : (ℓ : Loc Cert.KernelGInGatesIdeal.nD Cert.KernelGInGatesIdeal.τ Cert.KernelGInGatesIdeal.sig) → Buf (Elt Ideal) ℓ) (g : Dev Cert.KernelGInGatesIdeal.nD → PrngReg), Pre_KernelGInGatesIdeal m →
    θ_run (Cert.KernelGInGatesIdeal.defs (F := Ideal)) (onTc (τ := Cert.KernelGInGatesIdeal.τ) (Cert.KernelGInGatesIdeal.main (F := Ideal))) ⟨m, fun _ => 0, g⟩ (fun r => (∀ c : Dev Cert.KernelGInGatesIdeal.nD,
      r.2.mem ((c.tc : Thread Cert.KernelGInGatesIdeal.nD Cert.KernelGInGatesIdeal.τ).loc Cert.KernelGInGatesIdeal.main_arg0) = m ((c.tc : Thread Cert.KernelGInGatesIdeal.nD Cert.KernelGInGatesIdeal.τ).loc Cert.KernelGInGatesIdeal.main_arg0)
      ∧ r.2.mem ((c.tc : Thread Cert.KernelGInGatesIdeal.nD Cert.KernelGInGatesIdeal.τ).loc Cert.KernelGInGatesIdeal.main_arg1) = m ((c.tc : Thread Cert.KernelGInGatesIdeal.nD Cert.KernelGInGatesIdeal.τ).loc Cert.KernelGInGatesIdeal.main_arg1))
      ∧ r.2.sem = fun _ => 0)

def quiescent_ReferenceGInGatesIdeal [hReferenceGInGatesIdeal : Cert.ReferenceGInGatesIdeal.Facts] : Prop :=
  ∀ (m : (ℓ : Loc Cert.ReferenceGInGatesIdeal.nD Cert.ReferenceGInGatesIdeal.τ Cert.ReferenceGInGatesIdeal.sig) → Buf (Elt Ideal) ℓ) (g : Dev Cert.ReferenceGInGatesIdeal.nD → PrngReg), Pre_ReferenceGInGatesIdeal m →
    θ_run (Cert.ReferenceGInGatesIdeal.defs (F := Ideal)) (onTc (τ := Cert.ReferenceGInGatesIdeal.τ) (Cert.ReferenceGInGatesIdeal.main (F := Ideal))) ⟨m, fun _ => 0, g⟩ (fun r => (∀ c : Dev Cert.ReferenceGInGatesIdeal.nD,
      r.2.mem ((c.tc : Thread Cert.ReferenceGInGatesIdeal.nD Cert.ReferenceGInGatesIdeal.τ).loc Cert.ReferenceGInGatesIdeal.main_arg0) = m ((c.tc : Thread Cert.ReferenceGInGatesIdeal.nD Cert.ReferenceGInGatesIdeal.τ).loc Cert.ReferenceGInGatesIdeal.main_arg0)
      ∧ r.2.mem ((c.tc : Thread Cert.ReferenceGInGatesIdeal.nD Cert.ReferenceGInGatesIdeal.τ).loc Cert.ReferenceGInGatesIdeal.main_arg1) = m ((c.tc : Thread Cert.ReferenceGInGatesIdeal.nD Cert.ReferenceGInGatesIdeal.τ).loc Cert.ReferenceGInGatesIdeal.main_arg1))
      ∧ r.2.sem = fun _ => 0)

def quiescent_ReferenceGSsdOutIdeal [hReferenceGSsdOutIdeal : Cert.ReferenceGSsdOutIdeal.Facts] : Prop :=
  ∀ (m : (ℓ : Loc Cert.ReferenceGSsdOutIdeal.nD Cert.ReferenceGSsdOutIdeal.τ Cert.ReferenceGSsdOutIdeal.sig) → Buf (Elt Ideal) ℓ) (g : Dev Cert.ReferenceGSsdOutIdeal.nD → PrngReg), Pre_ReferenceGSsdOutIdeal m →
    θ_run (Cert.ReferenceGSsdOutIdeal.defs (F := Ideal)) (onTc (τ := Cert.ReferenceGSsdOutIdeal.τ) (Cert.ReferenceGSsdOutIdeal.main (F := Ideal))) ⟨m, fun _ => 0, g⟩ (fun r => (∀ c : Dev Cert.ReferenceGSsdOutIdeal.nD,
      r.2.mem ((c.tc : Thread Cert.ReferenceGSsdOutIdeal.nD Cert.ReferenceGSsdOutIdeal.τ).loc Cert.ReferenceGSsdOutIdeal.main_arg0) = m ((c.tc : Thread Cert.ReferenceGSsdOutIdeal.nD Cert.ReferenceGSsdOutIdeal.τ).loc Cert.ReferenceGSsdOutIdeal.main_arg0)
      ∧ r.2.mem ((c.tc : Thread Cert.ReferenceGSsdOutIdeal.nD Cert.ReferenceGSsdOutIdeal.τ).loc Cert.ReferenceGSsdOutIdeal.main_arg1) = m ((c.tc : Thread Cert.ReferenceGSsdOutIdeal.nD Cert.ReferenceGSsdOutIdeal.τ).loc Cert.ReferenceGSsdOutIdeal.main_arg1))
      ∧ r.2.sem = fun _ => 0)

def quiescent_KernelDUGates [hKernelDUGates : Cert.KernelDUGates.Facts] : Prop :=
  ∀ (m : (ℓ : Loc Cert.KernelDUGates.nD Cert.KernelDUGates.τ Cert.KernelDUGates.sig) → Buf (Elt Bits) ℓ) (g : Dev Cert.KernelDUGates.nD → PrngReg), Pre_KernelDUGates m →
    θ_run (Cert.KernelDUGates.defs (F := Bits)) (onTc (τ := Cert.KernelDUGates.τ) (Cert.KernelDUGates.main (F := Bits))) ⟨m, fun _ => 0, g⟩ (fun r => (∀ c : Dev Cert.KernelDUGates.nD,
      r.2.mem ((c.tc : Thread Cert.KernelDUGates.nD Cert.KernelDUGates.τ).loc Cert.KernelDUGates.main_arg0) = m ((c.tc : Thread Cert.KernelDUGates.nD Cert.KernelDUGates.τ).loc Cert.KernelDUGates.main_arg0)
      ∧ r.2.mem ((c.tc : Thread Cert.KernelDUGates.nD Cert.KernelDUGates.τ).loc Cert.KernelDUGates.main_arg1) = m ((c.tc : Thread Cert.KernelDUGates.nD Cert.KernelDUGates.τ).loc Cert.KernelDUGates.main_arg1)
      ∧ r.2.mem ((c.tc : Thread Cert.KernelDUGates.nD Cert.KernelDUGates.τ).loc Cert.KernelDUGates.main_arg2) = m ((c.tc : Thread Cert.KernelDUGates.nD Cert.KernelDUGates.τ).loc Cert.KernelDUGates.main_arg2))
      ∧ r.2.sem = fun _ => 0)

def quiescent_KernelDUGatesIdeal [hKernelDUGatesIdeal : Cert.KernelDUGatesIdeal.Facts] : Prop :=
  ∀ (m : (ℓ : Loc Cert.KernelDUGatesIdeal.nD Cert.KernelDUGatesIdeal.τ Cert.KernelDUGatesIdeal.sig) → Buf (Elt Ideal) ℓ) (g : Dev Cert.KernelDUGatesIdeal.nD → PrngReg), Pre_KernelDUGatesIdeal m →
    θ_run (Cert.KernelDUGatesIdeal.defs (F := Ideal)) (onTc (τ := Cert.KernelDUGatesIdeal.τ) (Cert.KernelDUGatesIdeal.main (F := Ideal))) ⟨m, fun _ => 0, g⟩ (fun r => (∀ c : Dev Cert.KernelDUGatesIdeal.nD,
      r.2.mem ((c.tc : Thread Cert.KernelDUGatesIdeal.nD Cert.KernelDUGatesIdeal.τ).loc Cert.KernelDUGatesIdeal.main_arg0) = m ((c.tc : Thread Cert.KernelDUGatesIdeal.nD Cert.KernelDUGatesIdeal.τ).loc Cert.KernelDUGatesIdeal.main_arg0)
      ∧ r.2.mem ((c.tc : Thread Cert.KernelDUGatesIdeal.nD Cert.KernelDUGatesIdeal.τ).loc Cert.KernelDUGatesIdeal.main_arg1) = m ((c.tc : Thread Cert.KernelDUGatesIdeal.nD Cert.KernelDUGatesIdeal.τ).loc Cert.KernelDUGatesIdeal.main_arg1)
      ∧ r.2.mem ((c.tc : Thread Cert.KernelDUGatesIdeal.nD Cert.KernelDUGatesIdeal.τ).loc Cert.KernelDUGatesIdeal.main_arg2) = m ((c.tc : Thread Cert.KernelDUGatesIdeal.nD Cert.KernelDUGatesIdeal.τ).loc Cert.KernelDUGatesIdeal.main_arg2))
      ∧ r.2.sem = fun _ => 0)

def quiescent_ReferenceDUGatesIdeal [hReferenceDUGatesIdeal : Cert.ReferenceDUGatesIdeal.Facts] : Prop :=
  ∀ (m : (ℓ : Loc Cert.ReferenceDUGatesIdeal.nD Cert.ReferenceDUGatesIdeal.τ Cert.ReferenceDUGatesIdeal.sig) → Buf (Elt Ideal) ℓ) (g : Dev Cert.ReferenceDUGatesIdeal.nD → PrngReg), Pre_ReferenceDUGatesIdeal m →
    θ_run (Cert.ReferenceDUGatesIdeal.defs (F := Ideal)) (onTc (τ := Cert.ReferenceDUGatesIdeal.τ) (Cert.ReferenceDUGatesIdeal.main (F := Ideal))) ⟨m, fun _ => 0, g⟩ (fun r => (∀ c : Dev Cert.ReferenceDUGatesIdeal.nD,
      r.2.mem ((c.tc : Thread Cert.ReferenceDUGatesIdeal.nD Cert.ReferenceDUGatesIdeal.τ).loc Cert.ReferenceDUGatesIdeal.main_arg0) = m ((c.tc : Thread Cert.ReferenceDUGatesIdeal.nD Cert.ReferenceDUGatesIdeal.τ).loc Cert.ReferenceDUGatesIdeal.main_arg0)
      ∧ r.2.mem ((c.tc : Thread Cert.ReferenceDUGatesIdeal.nD Cert.ReferenceDUGatesIdeal.τ).loc Cert.ReferenceDUGatesIdeal.main_arg1) = m ((c.tc : Thread Cert.ReferenceDUGatesIdeal.nD Cert.ReferenceDUGatesIdeal.τ).loc Cert.ReferenceDUGatesIdeal.main_arg1)
      ∧ r.2.mem ((c.tc : Thread Cert.ReferenceDUGatesIdeal.nD Cert.ReferenceDUGatesIdeal.τ).loc Cert.ReferenceDUGatesIdeal.main_arg2) = m ((c.tc : Thread Cert.ReferenceDUGatesIdeal.nD Cert.ReferenceDUGatesIdeal.τ).loc Cert.ReferenceDUGatesIdeal.main_arg2))
      ∧ r.2.sem = fun _ => 0)

def quiescent_KernelFfnUp [hKernelFfnUp : Cert.KernelFfnUp.Facts] : Prop :=
  ∀ (m : (ℓ : Loc Cert.KernelFfnUp.nD Cert.KernelFfnUp.τ Cert.KernelFfnUp.sig) → Buf (Elt Bits) ℓ) (g : Dev Cert.KernelFfnUp.nD → PrngReg), Pre_KernelFfnUp m →
    θ_run (Cert.KernelFfnUp.defs (F := Bits)) (onTc (τ := Cert.KernelFfnUp.τ) (Cert.KernelFfnUp.main (F := Bits))) ⟨m, fun _ => 0, g⟩ (fun r => (∀ c : Dev Cert.KernelFfnUp.nD,
      r.2.mem ((c.tc : Thread Cert.KernelFfnUp.nD Cert.KernelFfnUp.τ).loc Cert.KernelFfnUp.main_arg0) = m ((c.tc : Thread Cert.KernelFfnUp.nD Cert.KernelFfnUp.τ).loc Cert.KernelFfnUp.main_arg0)
      ∧ r.2.mem ((c.tc : Thread Cert.KernelFfnUp.nD Cert.KernelFfnUp.τ).loc Cert.KernelFfnUp.main_arg1) = m ((c.tc : Thread Cert.KernelFfnUp.nD Cert.KernelFfnUp.τ).loc Cert.KernelFfnUp.main_arg1))
      ∧ r.2.sem = fun _ => 0)

def quiescent_KernelFfnUpIdeal [hKernelFfnUpIdeal : Cert.KernelFfnUpIdeal.Facts] : Prop :=
  ∀ (m : (ℓ : Loc Cert.KernelFfnUpIdeal.nD Cert.KernelFfnUpIdeal.τ Cert.KernelFfnUpIdeal.sig) → Buf (Elt Ideal) ℓ) (g : Dev Cert.KernelFfnUpIdeal.nD → PrngReg), Pre_KernelFfnUpIdeal m →
    θ_run (Cert.KernelFfnUpIdeal.defs (F := Ideal)) (onTc (τ := Cert.KernelFfnUpIdeal.τ) (Cert.KernelFfnUpIdeal.main (F := Ideal))) ⟨m, fun _ => 0, g⟩ (fun r => (∀ c : Dev Cert.KernelFfnUpIdeal.nD,
      r.2.mem ((c.tc : Thread Cert.KernelFfnUpIdeal.nD Cert.KernelFfnUpIdeal.τ).loc Cert.KernelFfnUpIdeal.main_arg0) = m ((c.tc : Thread Cert.KernelFfnUpIdeal.nD Cert.KernelFfnUpIdeal.τ).loc Cert.KernelFfnUpIdeal.main_arg0)
      ∧ r.2.mem ((c.tc : Thread Cert.KernelFfnUpIdeal.nD Cert.KernelFfnUpIdeal.τ).loc Cert.KernelFfnUpIdeal.main_arg1) = m ((c.tc : Thread Cert.KernelFfnUpIdeal.nD Cert.KernelFfnUpIdeal.τ).loc Cert.KernelFfnUpIdeal.main_arg1))
      ∧ r.2.sem = fun _ => 0)

def quiescent_ReferenceFfnUpIdeal [hReferenceFfnUpIdeal : Cert.ReferenceFfnUpIdeal.Facts] : Prop :=
  ∀ (m : (ℓ : Loc Cert.ReferenceFfnUpIdeal.nD Cert.ReferenceFfnUpIdeal.τ Cert.ReferenceFfnUpIdeal.sig) → Buf (Elt Ideal) ℓ) (g : Dev Cert.ReferenceFfnUpIdeal.nD → PrngReg), Pre_ReferenceFfnUpIdeal m →
    θ_run (Cert.ReferenceFfnUpIdeal.defs (F := Ideal)) (onTc (τ := Cert.ReferenceFfnUpIdeal.τ) (Cert.ReferenceFfnUpIdeal.main (F := Ideal))) ⟨m, fun _ => 0, g⟩ (fun r => (∀ c : Dev Cert.ReferenceFfnUpIdeal.nD,
      r.2.mem ((c.tc : Thread Cert.ReferenceFfnUpIdeal.nD Cert.ReferenceFfnUpIdeal.τ).loc Cert.ReferenceFfnUpIdeal.main_arg0) = m ((c.tc : Thread Cert.ReferenceFfnUpIdeal.nD Cert.ReferenceFfnUpIdeal.τ).loc Cert.ReferenceFfnUpIdeal.main_arg0)
      ∧ r.2.mem ((c.tc : Thread Cert.ReferenceFfnUpIdeal.nD Cert.ReferenceFfnUpIdeal.τ).loc Cert.ReferenceFfnUpIdeal.main_arg1) = m ((c.tc : Thread Cert.ReferenceFfnUpIdeal.nD Cert.ReferenceFfnUpIdeal.τ).loc Cert.ReferenceFfnUpIdeal.main_arg1))
      ∧ r.2.sem = fun _ => 0)

def quiescent_KernelGFfnUp [hKernelGFfnUp : Cert.KernelGFfnUp.Facts] : Prop :=
  ∀ (m : (ℓ : Loc Cert.KernelGFfnUp.nD Cert.KernelGFfnUp.τ Cert.KernelGFfnUp.sig) → Buf (Elt Bits) ℓ) (g : Dev Cert.KernelGFfnUp.nD → PrngReg), Pre_KernelGFfnUp m →
    θ_run (Cert.KernelGFfnUp.defs (F := Bits)) (onTc (τ := Cert.KernelGFfnUp.τ) (Cert.KernelGFfnUp.main (F := Bits))) ⟨m, fun _ => 0, g⟩ (fun r => (∀ c : Dev Cert.KernelGFfnUp.nD,
      r.2.mem ((c.tc : Thread Cert.KernelGFfnUp.nD Cert.KernelGFfnUp.τ).loc Cert.KernelGFfnUp.main_arg0) = m ((c.tc : Thread Cert.KernelGFfnUp.nD Cert.KernelGFfnUp.τ).loc Cert.KernelGFfnUp.main_arg0)
      ∧ r.2.mem ((c.tc : Thread Cert.KernelGFfnUp.nD Cert.KernelGFfnUp.τ).loc Cert.KernelGFfnUp.main_arg1) = m ((c.tc : Thread Cert.KernelGFfnUp.nD Cert.KernelGFfnUp.τ).loc Cert.KernelGFfnUp.main_arg1))
      ∧ r.2.sem = fun _ => 0)

def quiescent_KernelGFfnUpIdeal [hKernelGFfnUpIdeal : Cert.KernelGFfnUpIdeal.Facts] : Prop :=
  ∀ (m : (ℓ : Loc Cert.KernelGFfnUpIdeal.nD Cert.KernelGFfnUpIdeal.τ Cert.KernelGFfnUpIdeal.sig) → Buf (Elt Ideal) ℓ) (g : Dev Cert.KernelGFfnUpIdeal.nD → PrngReg), Pre_KernelGFfnUpIdeal m →
    θ_run (Cert.KernelGFfnUpIdeal.defs (F := Ideal)) (onTc (τ := Cert.KernelGFfnUpIdeal.τ) (Cert.KernelGFfnUpIdeal.main (F := Ideal))) ⟨m, fun _ => 0, g⟩ (fun r => (∀ c : Dev Cert.KernelGFfnUpIdeal.nD,
      r.2.mem ((c.tc : Thread Cert.KernelGFfnUpIdeal.nD Cert.KernelGFfnUpIdeal.τ).loc Cert.KernelGFfnUpIdeal.main_arg0) = m ((c.tc : Thread Cert.KernelGFfnUpIdeal.nD Cert.KernelGFfnUpIdeal.τ).loc Cert.KernelGFfnUpIdeal.main_arg0)
      ∧ r.2.mem ((c.tc : Thread Cert.KernelGFfnUpIdeal.nD Cert.KernelGFfnUpIdeal.τ).loc Cert.KernelGFfnUpIdeal.main_arg1) = m ((c.tc : Thread Cert.KernelGFfnUpIdeal.nD Cert.KernelGFfnUpIdeal.τ).loc Cert.KernelGFfnUpIdeal.main_arg1))
      ∧ r.2.sem = fun _ => 0)

def quiescent_ReferenceGFfnUpIdeal [hReferenceGFfnUpIdeal : Cert.ReferenceGFfnUpIdeal.Facts] : Prop :=
  ∀ (m : (ℓ : Loc Cert.ReferenceGFfnUpIdeal.nD Cert.ReferenceGFfnUpIdeal.τ Cert.ReferenceGFfnUpIdeal.sig) → Buf (Elt Ideal) ℓ) (g : Dev Cert.ReferenceGFfnUpIdeal.nD → PrngReg), Pre_ReferenceGFfnUpIdeal m →
    θ_run (Cert.ReferenceGFfnUpIdeal.defs (F := Ideal)) (onTc (τ := Cert.ReferenceGFfnUpIdeal.τ) (Cert.ReferenceGFfnUpIdeal.main (F := Ideal))) ⟨m, fun _ => 0, g⟩ (fun r => (∀ c : Dev Cert.ReferenceGFfnUpIdeal.nD,
      r.2.mem ((c.tc : Thread Cert.ReferenceGFfnUpIdeal.nD Cert.ReferenceGFfnUpIdeal.τ).loc Cert.ReferenceGFfnUpIdeal.main_arg0) = m ((c.tc : Thread Cert.ReferenceGFfnUpIdeal.nD Cert.ReferenceGFfnUpIdeal.τ).loc Cert.ReferenceGFfnUpIdeal.main_arg0)
      ∧ r.2.mem ((c.tc : Thread Cert.ReferenceGFfnUpIdeal.nD Cert.ReferenceGFfnUpIdeal.τ).loc Cert.ReferenceGFfnUpIdeal.main_arg1) = m ((c.tc : Thread Cert.ReferenceGFfnUpIdeal.nD Cert.ReferenceGFfnUpIdeal.τ).loc Cert.ReferenceGFfnUpIdeal.main_arg1))
      ∧ r.2.sem = fun _ => 0)

def quiescent_KernelDNormFfn [hKernelDNormFfn : Cert.KernelDNormFfn.Facts] : Prop :=
  ∀ (m : (ℓ : Loc Cert.KernelDNormFfn.nD Cert.KernelDNormFfn.τ Cert.KernelDNormFfn.sig) → Buf (Elt Bits) ℓ) (g : Dev Cert.KernelDNormFfn.nD → PrngReg), Pre_KernelDNormFfn m →
    θ_run (Cert.KernelDNormFfn.defs (F := Bits)) (onTc (τ := Cert.KernelDNormFfn.τ) (Cert.KernelDNormFfn.main (F := Bits))) ⟨m, fun _ => 0, g⟩ (fun r => (∀ c : Dev Cert.KernelDNormFfn.nD,
      r.2.mem ((c.tc : Thread Cert.KernelDNormFfn.nD Cert.KernelDNormFfn.τ).loc Cert.KernelDNormFfn.main_arg0) = m ((c.tc : Thread Cert.KernelDNormFfn.nD Cert.KernelDNormFfn.τ).loc Cert.KernelDNormFfn.main_arg0)
      ∧ r.2.mem ((c.tc : Thread Cert.KernelDNormFfn.nD Cert.KernelDNormFfn.τ).loc Cert.KernelDNormFfn.main_arg1) = m ((c.tc : Thread Cert.KernelDNormFfn.nD Cert.KernelDNormFfn.τ).loc Cert.KernelDNormFfn.main_arg1))
      ∧ r.2.sem = fun _ => 0)

def quiescent_KernelDNormFfnIdeal [hKernelDNormFfnIdeal : Cert.KernelDNormFfnIdeal.Facts] : Prop :=
  ∀ (m : (ℓ : Loc Cert.KernelDNormFfnIdeal.nD Cert.KernelDNormFfnIdeal.τ Cert.KernelDNormFfnIdeal.sig) → Buf (Elt Ideal) ℓ) (g : Dev Cert.KernelDNormFfnIdeal.nD → PrngReg), Pre_KernelDNormFfnIdeal m →
    θ_run (Cert.KernelDNormFfnIdeal.defs (F := Ideal)) (onTc (τ := Cert.KernelDNormFfnIdeal.τ) (Cert.KernelDNormFfnIdeal.main (F := Ideal))) ⟨m, fun _ => 0, g⟩ (fun r => (∀ c : Dev Cert.KernelDNormFfnIdeal.nD,
      r.2.mem ((c.tc : Thread Cert.KernelDNormFfnIdeal.nD Cert.KernelDNormFfnIdeal.τ).loc Cert.KernelDNormFfnIdeal.main_arg0) = m ((c.tc : Thread Cert.KernelDNormFfnIdeal.nD Cert.KernelDNormFfnIdeal.τ).loc Cert.KernelDNormFfnIdeal.main_arg0)
      ∧ r.2.mem ((c.tc : Thread Cert.KernelDNormFfnIdeal.nD Cert.KernelDNormFfnIdeal.τ).loc Cert.KernelDNormFfnIdeal.main_arg1) = m ((c.tc : Thread Cert.KernelDNormFfnIdeal.nD Cert.KernelDNormFfnIdeal.τ).loc Cert.KernelDNormFfnIdeal.main_arg1))
      ∧ r.2.sem = fun _ => 0)

def quiescent_ReferenceDNormFfnIdeal [hReferenceDNormFfnIdeal : Cert.ReferenceDNormFfnIdeal.Facts] : Prop :=
  ∀ (m : (ℓ : Loc Cert.ReferenceDNormFfnIdeal.nD Cert.ReferenceDNormFfnIdeal.τ Cert.ReferenceDNormFfnIdeal.sig) → Buf (Elt Ideal) ℓ) (g : Dev Cert.ReferenceDNormFfnIdeal.nD → PrngReg), Pre_ReferenceDNormFfnIdeal m →
    θ_run (Cert.ReferenceDNormFfnIdeal.defs (F := Ideal)) (onTc (τ := Cert.ReferenceDNormFfnIdeal.τ) (Cert.ReferenceDNormFfnIdeal.main (F := Ideal))) ⟨m, fun _ => 0, g⟩ (fun r => (∀ c : Dev Cert.ReferenceDNormFfnIdeal.nD,
      r.2.mem ((c.tc : Thread Cert.ReferenceDNormFfnIdeal.nD Cert.ReferenceDNormFfnIdeal.τ).loc Cert.ReferenceDNormFfnIdeal.main_arg0) = m ((c.tc : Thread Cert.ReferenceDNormFfnIdeal.nD Cert.ReferenceDNormFfnIdeal.τ).loc Cert.ReferenceDNormFfnIdeal.main_arg0)
      ∧ r.2.mem ((c.tc : Thread Cert.ReferenceDNormFfnIdeal.nD Cert.ReferenceDNormFfnIdeal.τ).loc Cert.ReferenceDNormFfnIdeal.main_arg1) = m ((c.tc : Thread Cert.ReferenceDNormFfnIdeal.nD Cert.ReferenceDNormFfnIdeal.τ).loc Cert.ReferenceDNormFfnIdeal.main_arg1))
      ∧ r.2.sem = fun _ => 0)

def quiescent_KernelFfnDown [hKernelFfnDown : Cert.KernelFfnDown.Facts] : Prop :=
  ∀ (m : (ℓ : Loc Cert.KernelFfnDown.nD Cert.KernelFfnDown.τ Cert.KernelFfnDown.sig) → Buf (Elt Bits) ℓ) (g : Dev Cert.KernelFfnDown.nD → PrngReg), Pre_KernelFfnDown m →
    θ_run (Cert.KernelFfnDown.defs (F := Bits)) (onTc (τ := Cert.KernelFfnDown.τ) (Cert.KernelFfnDown.main (F := Bits))) ⟨m, fun _ => 0, g⟩ (fun r => (∀ c : Dev Cert.KernelFfnDown.nD,
      r.2.mem ((c.tc : Thread Cert.KernelFfnDown.nD Cert.KernelFfnDown.τ).loc Cert.KernelFfnDown.main_arg0) = m ((c.tc : Thread Cert.KernelFfnDown.nD Cert.KernelFfnDown.τ).loc Cert.KernelFfnDown.main_arg0)
      ∧ r.2.mem ((c.tc : Thread Cert.KernelFfnDown.nD Cert.KernelFfnDown.τ).loc Cert.KernelFfnDown.main_arg1) = m ((c.tc : Thread Cert.KernelFfnDown.nD Cert.KernelFfnDown.τ).loc Cert.KernelFfnDown.main_arg1)
      ∧ r.2.mem ((c.tc : Thread Cert.KernelFfnDown.nD Cert.KernelFfnDown.τ).loc Cert.KernelFfnDown.main_arg2) = m ((c.tc : Thread Cert.KernelFfnDown.nD Cert.KernelFfnDown.τ).loc Cert.KernelFfnDown.main_arg2))
      ∧ r.2.sem = fun _ => 0)

def quiescent_KernelFfnDownIdeal [hKernelFfnDownIdeal : Cert.KernelFfnDownIdeal.Facts] : Prop :=
  ∀ (m : (ℓ : Loc Cert.KernelFfnDownIdeal.nD Cert.KernelFfnDownIdeal.τ Cert.KernelFfnDownIdeal.sig) → Buf (Elt Ideal) ℓ) (g : Dev Cert.KernelFfnDownIdeal.nD → PrngReg), Pre_KernelFfnDownIdeal m →
    θ_run (Cert.KernelFfnDownIdeal.defs (F := Ideal)) (onTc (τ := Cert.KernelFfnDownIdeal.τ) (Cert.KernelFfnDownIdeal.main (F := Ideal))) ⟨m, fun _ => 0, g⟩ (fun r => (∀ c : Dev Cert.KernelFfnDownIdeal.nD,
      r.2.mem ((c.tc : Thread Cert.KernelFfnDownIdeal.nD Cert.KernelFfnDownIdeal.τ).loc Cert.KernelFfnDownIdeal.main_arg0) = m ((c.tc : Thread Cert.KernelFfnDownIdeal.nD Cert.KernelFfnDownIdeal.τ).loc Cert.KernelFfnDownIdeal.main_arg0)
      ∧ r.2.mem ((c.tc : Thread Cert.KernelFfnDownIdeal.nD Cert.KernelFfnDownIdeal.τ).loc Cert.KernelFfnDownIdeal.main_arg1) = m ((c.tc : Thread Cert.KernelFfnDownIdeal.nD Cert.KernelFfnDownIdeal.τ).loc Cert.KernelFfnDownIdeal.main_arg1)
      ∧ r.2.mem ((c.tc : Thread Cert.KernelFfnDownIdeal.nD Cert.KernelFfnDownIdeal.τ).loc Cert.KernelFfnDownIdeal.main_arg2) = m ((c.tc : Thread Cert.KernelFfnDownIdeal.nD Cert.KernelFfnDownIdeal.τ).loc Cert.KernelFfnDownIdeal.main_arg2))
      ∧ r.2.sem = fun _ => 0)

def quiescent_ReferenceFfnDownIdeal [hReferenceFfnDownIdeal : Cert.ReferenceFfnDownIdeal.Facts] : Prop :=
  ∀ (m : (ℓ : Loc Cert.ReferenceFfnDownIdeal.nD Cert.ReferenceFfnDownIdeal.τ Cert.ReferenceFfnDownIdeal.sig) → Buf (Elt Ideal) ℓ) (g : Dev Cert.ReferenceFfnDownIdeal.nD → PrngReg), Pre_ReferenceFfnDownIdeal m →
    θ_run (Cert.ReferenceFfnDownIdeal.defs (F := Ideal)) (onTc (τ := Cert.ReferenceFfnDownIdeal.τ) (Cert.ReferenceFfnDownIdeal.main (F := Ideal))) ⟨m, fun _ => 0, g⟩ (fun r => (∀ c : Dev Cert.ReferenceFfnDownIdeal.nD,
      r.2.mem ((c.tc : Thread Cert.ReferenceFfnDownIdeal.nD Cert.ReferenceFfnDownIdeal.τ).loc Cert.ReferenceFfnDownIdeal.main_arg0) = m ((c.tc : Thread Cert.ReferenceFfnDownIdeal.nD Cert.ReferenceFfnDownIdeal.τ).loc Cert.ReferenceFfnDownIdeal.main_arg0)
      ∧ r.2.mem ((c.tc : Thread Cert.ReferenceFfnDownIdeal.nD Cert.ReferenceFfnDownIdeal.τ).loc Cert.ReferenceFfnDownIdeal.main_arg1) = m ((c.tc : Thread Cert.ReferenceFfnDownIdeal.nD Cert.ReferenceFfnDownIdeal.τ).loc Cert.ReferenceFfnDownIdeal.main_arg1)
      ∧ r.2.mem ((c.tc : Thread Cert.ReferenceFfnDownIdeal.nD Cert.ReferenceFfnDownIdeal.τ).loc Cert.ReferenceFfnDownIdeal.main_arg2) = m ((c.tc : Thread Cert.ReferenceFfnDownIdeal.nD Cert.ReferenceFfnDownIdeal.τ).loc Cert.ReferenceFfnDownIdeal.main_arg2))
      ∧ r.2.sem = fun _ => 0)

def quiescent_ReferenceDNormFfnUIdeal [hReferenceDNormFfnUIdeal : Cert.ReferenceDNormFfnUIdeal.Facts] : Prop :=
  ∀ (m : (ℓ : Loc Cert.ReferenceDNormFfnUIdeal.nD Cert.ReferenceDNormFfnUIdeal.τ Cert.ReferenceDNormFfnUIdeal.sig) → Buf (Elt Ideal) ℓ) (g : Dev Cert.ReferenceDNormFfnUIdeal.nD → PrngReg), Pre_ReferenceDNormFfnUIdeal m →
    θ_run (Cert.ReferenceDNormFfnUIdeal.defs (F := Ideal)) (onTc (τ := Cert.ReferenceDNormFfnUIdeal.τ) (Cert.ReferenceDNormFfnUIdeal.main (F := Ideal))) ⟨m, fun _ => 0, g⟩ (fun r => (∀ c : Dev Cert.ReferenceDNormFfnUIdeal.nD,
      r.2.mem ((c.tc : Thread Cert.ReferenceDNormFfnUIdeal.nD Cert.ReferenceDNormFfnUIdeal.τ).loc Cert.ReferenceDNormFfnUIdeal.main_arg0) = m ((c.tc : Thread Cert.ReferenceDNormFfnUIdeal.nD Cert.ReferenceDNormFfnUIdeal.τ).loc Cert.ReferenceDNormFfnUIdeal.main_arg0)
      ∧ r.2.mem ((c.tc : Thread Cert.ReferenceDNormFfnUIdeal.nD Cert.ReferenceDNormFfnUIdeal.τ).loc Cert.ReferenceDNormFfnUIdeal.main_arg1) = m ((c.tc : Thread Cert.ReferenceDNormFfnUIdeal.nD Cert.ReferenceDNormFfnUIdeal.τ).loc Cert.ReferenceDNormFfnUIdeal.main_arg1)
      ∧ r.2.mem ((c.tc : Thread Cert.ReferenceDNormFfnUIdeal.nD Cert.ReferenceDNormFfnUIdeal.τ).loc Cert.ReferenceDNormFfnUIdeal.main_arg2) = m ((c.tc : Thread Cert.ReferenceDNormFfnUIdeal.nD Cert.ReferenceDNormFfnUIdeal.τ).loc Cert.ReferenceDNormFfnUIdeal.main_arg2))
      ∧ r.2.sem = fun _ => 0)

def quiescent_KernelDFfnAct [hKernelDFfnAct : Cert.KernelDFfnAct.Facts] : Prop :=
  ∀ (m : (ℓ : Loc Cert.KernelDFfnAct.nD Cert.KernelDFfnAct.τ Cert.KernelDFfnAct.sig) → Buf (Elt Bits) ℓ) (g : Dev Cert.KernelDFfnAct.nD → PrngReg), Pre_KernelDFfnAct m →
    θ_run (Cert.KernelDFfnAct.defs (F := Bits)) (onTc (τ := Cert.KernelDFfnAct.τ) (Cert.KernelDFfnAct.main (F := Bits))) ⟨m, fun _ => 0, g⟩ (fun r => (∀ c : Dev Cert.KernelDFfnAct.nD,
      r.2.mem ((c.tc : Thread Cert.KernelDFfnAct.nD Cert.KernelDFfnAct.τ).loc Cert.KernelDFfnAct.main_arg0) = m ((c.tc : Thread Cert.KernelDFfnAct.nD Cert.KernelDFfnAct.τ).loc Cert.KernelDFfnAct.main_arg0)
      ∧ r.2.mem ((c.tc : Thread Cert.KernelDFfnAct.nD Cert.KernelDFfnAct.τ).loc Cert.KernelDFfnAct.main_arg1) = m ((c.tc : Thread Cert.KernelDFfnAct.nD Cert.KernelDFfnAct.τ).loc Cert.KernelDFfnAct.main_arg1))
      ∧ r.2.sem = fun _ => 0)

def quiescent_KernelDFfnActIdeal [hKernelDFfnActIdeal : Cert.KernelDFfnActIdeal.Facts] : Prop :=
  ∀ (m : (ℓ : Loc Cert.KernelDFfnActIdeal.nD Cert.KernelDFfnActIdeal.τ Cert.KernelDFfnActIdeal.sig) → Buf (Elt Ideal) ℓ) (g : Dev Cert.KernelDFfnActIdeal.nD → PrngReg), Pre_KernelDFfnActIdeal m →
    θ_run (Cert.KernelDFfnActIdeal.defs (F := Ideal)) (onTc (τ := Cert.KernelDFfnActIdeal.τ) (Cert.KernelDFfnActIdeal.main (F := Ideal))) ⟨m, fun _ => 0, g⟩ (fun r => (∀ c : Dev Cert.KernelDFfnActIdeal.nD,
      r.2.mem ((c.tc : Thread Cert.KernelDFfnActIdeal.nD Cert.KernelDFfnActIdeal.τ).loc Cert.KernelDFfnActIdeal.main_arg0) = m ((c.tc : Thread Cert.KernelDFfnActIdeal.nD Cert.KernelDFfnActIdeal.τ).loc Cert.KernelDFfnActIdeal.main_arg0)
      ∧ r.2.mem ((c.tc : Thread Cert.KernelDFfnActIdeal.nD Cert.KernelDFfnActIdeal.τ).loc Cert.KernelDFfnActIdeal.main_arg1) = m ((c.tc : Thread Cert.KernelDFfnActIdeal.nD Cert.KernelDFfnActIdeal.τ).loc Cert.KernelDFfnActIdeal.main_arg1))
      ∧ r.2.sem = fun _ => 0)

def quiescent_ReferenceDFfnActIdeal [hReferenceDFfnActIdeal : Cert.ReferenceDFfnActIdeal.Facts] : Prop :=
  ∀ (m : (ℓ : Loc Cert.ReferenceDFfnActIdeal.nD Cert.ReferenceDFfnActIdeal.τ Cert.ReferenceDFfnActIdeal.sig) → Buf (Elt Ideal) ℓ) (g : Dev Cert.ReferenceDFfnActIdeal.nD → PrngReg), Pre_ReferenceDFfnActIdeal m →
    θ_run (Cert.ReferenceDFfnActIdeal.defs (F := Ideal)) (onTc (τ := Cert.ReferenceDFfnActIdeal.τ) (Cert.ReferenceDFfnActIdeal.main (F := Ideal))) ⟨m, fun _ => 0, g⟩ (fun r => (∀ c : Dev Cert.ReferenceDFfnActIdeal.nD,
      r.2.mem ((c.tc : Thread Cert.ReferenceDFfnActIdeal.nD Cert.ReferenceDFfnActIdeal.τ).loc Cert.ReferenceDFfnActIdeal.main_arg0) = m ((c.tc : Thread Cert.ReferenceDFfnActIdeal.nD Cert.ReferenceDFfnActIdeal.τ).loc Cert.ReferenceDFfnActIdeal.main_arg0)
      ∧ r.2.mem ((c.tc : Thread Cert.ReferenceDFfnActIdeal.nD Cert.ReferenceDFfnActIdeal.τ).loc Cert.ReferenceDFfnActIdeal.main_arg1) = m ((c.tc : Thread Cert.ReferenceDFfnActIdeal.nD Cert.ReferenceDFfnActIdeal.τ).loc Cert.ReferenceDFfnActIdeal.main_arg1))
      ∧ r.2.sem = fun _ => 0)

def quiescent_KernelGFfnDown [hKernelGFfnDown : Cert.KernelGFfnDown.Facts] : Prop :=
  ∀ (m : (ℓ : Loc Cert.KernelGFfnDown.nD Cert.KernelGFfnDown.τ Cert.KernelGFfnDown.sig) → Buf (Elt Bits) ℓ) (g : Dev Cert.KernelGFfnDown.nD → PrngReg), Pre_KernelGFfnDown m →
    θ_run (Cert.KernelGFfnDown.defs (F := Bits)) (onTc (τ := Cert.KernelGFfnDown.τ) (Cert.KernelGFfnDown.main (F := Bits))) ⟨m, fun _ => 0, g⟩ (fun r => (∀ c : Dev Cert.KernelGFfnDown.nD,
      r.2.mem ((c.tc : Thread Cert.KernelGFfnDown.nD Cert.KernelGFfnDown.τ).loc Cert.KernelGFfnDown.main_arg0) = m ((c.tc : Thread Cert.KernelGFfnDown.nD Cert.KernelGFfnDown.τ).loc Cert.KernelGFfnDown.main_arg0)
      ∧ r.2.mem ((c.tc : Thread Cert.KernelGFfnDown.nD Cert.KernelGFfnDown.τ).loc Cert.KernelGFfnDown.main_arg1) = m ((c.tc : Thread Cert.KernelGFfnDown.nD Cert.KernelGFfnDown.τ).loc Cert.KernelGFfnDown.main_arg1))
      ∧ r.2.sem = fun _ => 0)

def quiescent_KernelGFfnDownIdeal [hKernelGFfnDownIdeal : Cert.KernelGFfnDownIdeal.Facts] : Prop :=
  ∀ (m : (ℓ : Loc Cert.KernelGFfnDownIdeal.nD Cert.KernelGFfnDownIdeal.τ Cert.KernelGFfnDownIdeal.sig) → Buf (Elt Ideal) ℓ) (g : Dev Cert.KernelGFfnDownIdeal.nD → PrngReg), Pre_KernelGFfnDownIdeal m →
    θ_run (Cert.KernelGFfnDownIdeal.defs (F := Ideal)) (onTc (τ := Cert.KernelGFfnDownIdeal.τ) (Cert.KernelGFfnDownIdeal.main (F := Ideal))) ⟨m, fun _ => 0, g⟩ (fun r => (∀ c : Dev Cert.KernelGFfnDownIdeal.nD,
      r.2.mem ((c.tc : Thread Cert.KernelGFfnDownIdeal.nD Cert.KernelGFfnDownIdeal.τ).loc Cert.KernelGFfnDownIdeal.main_arg0) = m ((c.tc : Thread Cert.KernelGFfnDownIdeal.nD Cert.KernelGFfnDownIdeal.τ).loc Cert.KernelGFfnDownIdeal.main_arg0)
      ∧ r.2.mem ((c.tc : Thread Cert.KernelGFfnDownIdeal.nD Cert.KernelGFfnDownIdeal.τ).loc Cert.KernelGFfnDownIdeal.main_arg1) = m ((c.tc : Thread Cert.KernelGFfnDownIdeal.nD Cert.KernelGFfnDownIdeal.τ).loc Cert.KernelGFfnDownIdeal.main_arg1))
      ∧ r.2.sem = fun _ => 0)

def quiescent_ReferenceGFfnDownIdeal [hReferenceGFfnDownIdeal : Cert.ReferenceGFfnDownIdeal.Facts] : Prop :=
  ∀ (m : (ℓ : Loc Cert.ReferenceGFfnDownIdeal.nD Cert.ReferenceGFfnDownIdeal.τ Cert.ReferenceGFfnDownIdeal.sig) → Buf (Elt Ideal) ℓ) (g : Dev Cert.ReferenceGFfnDownIdeal.nD → PrngReg), Pre_ReferenceGFfnDownIdeal m →
    θ_run (Cert.ReferenceGFfnDownIdeal.defs (F := Ideal)) (onTc (τ := Cert.ReferenceGFfnDownIdeal.τ) (Cert.ReferenceGFfnDownIdeal.main (F := Ideal))) ⟨m, fun _ => 0, g⟩ (fun r => (∀ c : Dev Cert.ReferenceGFfnDownIdeal.nD,
      r.2.mem ((c.tc : Thread Cert.ReferenceGFfnDownIdeal.nD Cert.ReferenceGFfnDownIdeal.τ).loc Cert.ReferenceGFfnDownIdeal.main_arg0) = m ((c.tc : Thread Cert.ReferenceGFfnDownIdeal.nD Cert.ReferenceGFfnDownIdeal.τ).loc Cert.ReferenceGFfnDownIdeal.main_arg0)
      ∧ r.2.mem ((c.tc : Thread Cert.ReferenceGFfnDownIdeal.nD Cert.ReferenceGFfnDownIdeal.τ).loc Cert.ReferenceGFfnDownIdeal.main_arg1) = m ((c.tc : Thread Cert.ReferenceGFfnDownIdeal.nD Cert.ReferenceGFfnDownIdeal.τ).loc Cert.ReferenceGFfnDownIdeal.main_arg1))
      ∧ r.2.sem = fun _ => 0)

def quiescent_KernelSsdOut [hKernelSsdOut : Cert.KernelSsdOut.Facts] : Prop :=
  ∀ (m : (ℓ : Loc Cert.KernelSsdOut.nD Cert.KernelSsdOut.τ Cert.KernelSsdOut.sig) → Buf (Elt Bits) ℓ) (g : Dev Cert.KernelSsdOut.nD → PrngReg), Pre_KernelSsdOut m →
    θ_run (Cert.KernelSsdOut.defs (F := Bits)) (onTc (τ := Cert.KernelSsdOut.τ) (Cert.KernelSsdOut.main (F := Bits))) ⟨m, fun _ => 0, g⟩ (fun r => (∀ c : Dev Cert.KernelSsdOut.nD,
      r.2.mem ((c.tc : Thread Cert.KernelSsdOut.nD Cert.KernelSsdOut.τ).loc Cert.KernelSsdOut.main_arg0) = m ((c.tc : Thread Cert.KernelSsdOut.nD Cert.KernelSsdOut.τ).loc Cert.KernelSsdOut.main_arg0)
      ∧ r.2.mem ((c.tc : Thread Cert.KernelSsdOut.nD Cert.KernelSsdOut.τ).loc Cert.KernelSsdOut.main_arg1) = m ((c.tc : Thread Cert.KernelSsdOut.nD Cert.KernelSsdOut.τ).loc Cert.KernelSsdOut.main_arg1))
      ∧ r.2.sem = fun _ => 0)

def quiescent_KernelSsdOutIdeal [hKernelSsdOutIdeal : Cert.KernelSsdOutIdeal.Facts] : Prop :=
  ∀ (m : (ℓ : Loc Cert.KernelSsdOutIdeal.nD Cert.KernelSsdOutIdeal.τ Cert.KernelSsdOutIdeal.sig) → Buf (Elt Ideal) ℓ) (g : Dev Cert.KernelSsdOutIdeal.nD → PrngReg), Pre_KernelSsdOutIdeal m →
    θ_run (Cert.KernelSsdOutIdeal.defs (F := Ideal)) (onTc (τ := Cert.KernelSsdOutIdeal.τ) (Cert.KernelSsdOutIdeal.main (F := Ideal))) ⟨m, fun _ => 0, g⟩ (fun r => (∀ c : Dev Cert.KernelSsdOutIdeal.nD,
      r.2.mem ((c.tc : Thread Cert.KernelSsdOutIdeal.nD Cert.KernelSsdOutIdeal.τ).loc Cert.KernelSsdOutIdeal.main_arg0) = m ((c.tc : Thread Cert.KernelSsdOutIdeal.nD Cert.KernelSsdOutIdeal.τ).loc Cert.KernelSsdOutIdeal.main_arg0)
      ∧ r.2.mem ((c.tc : Thread Cert.KernelSsdOutIdeal.nD Cert.KernelSsdOutIdeal.τ).loc Cert.KernelSsdOutIdeal.main_arg1) = m ((c.tc : Thread Cert.KernelSsdOutIdeal.nD Cert.KernelSsdOutIdeal.τ).loc Cert.KernelSsdOutIdeal.main_arg1))
      ∧ r.2.sem = fun _ => 0)

def quiescent_ReferenceSsdOutIdeal [hReferenceSsdOutIdeal : Cert.ReferenceSsdOutIdeal.Facts] : Prop :=
  ∀ (m : (ℓ : Loc Cert.ReferenceSsdOutIdeal.nD Cert.ReferenceSsdOutIdeal.τ Cert.ReferenceSsdOutIdeal.sig) → Buf (Elt Ideal) ℓ) (g : Dev Cert.ReferenceSsdOutIdeal.nD → PrngReg), Pre_ReferenceSsdOutIdeal m →
    θ_run (Cert.ReferenceSsdOutIdeal.defs (F := Ideal)) (onTc (τ := Cert.ReferenceSsdOutIdeal.τ) (Cert.ReferenceSsdOutIdeal.main (F := Ideal))) ⟨m, fun _ => 0, g⟩ (fun r => (∀ c : Dev Cert.ReferenceSsdOutIdeal.nD,
      r.2.mem ((c.tc : Thread Cert.ReferenceSsdOutIdeal.nD Cert.ReferenceSsdOutIdeal.τ).loc Cert.ReferenceSsdOutIdeal.main_arg0) = m ((c.tc : Thread Cert.ReferenceSsdOutIdeal.nD Cert.ReferenceSsdOutIdeal.τ).loc Cert.ReferenceSsdOutIdeal.main_arg0)
      ∧ r.2.mem ((c.tc : Thread Cert.ReferenceSsdOutIdeal.nD Cert.ReferenceSsdOutIdeal.τ).loc Cert.ReferenceSsdOutIdeal.main_arg1) = m ((c.tc : Thread Cert.ReferenceSsdOutIdeal.nD Cert.ReferenceSsdOutIdeal.τ).loc Cert.ReferenceSsdOutIdeal.main_arg1))
      ∧ r.2.sem = fun _ => 0)

def quiescent_KernelRetOut [hKernelRetOut : Cert.KernelRetOut.Facts] : Prop :=
  ∀ (m : (ℓ : Loc Cert.KernelRetOut.nD Cert.KernelRetOut.τ Cert.KernelRetOut.sig) → Buf (Elt Bits) ℓ) (g : Dev Cert.KernelRetOut.nD → PrngReg), Pre_KernelRetOut m →
    θ_run (Cert.KernelRetOut.defs (F := Bits)) (onTc (τ := Cert.KernelRetOut.τ) (Cert.KernelRetOut.main (F := Bits))) ⟨m, fun _ => 0, g⟩ (fun r => (∀ c : Dev Cert.KernelRetOut.nD,
      r.2.mem ((c.tc : Thread Cert.KernelRetOut.nD Cert.KernelRetOut.τ).loc Cert.KernelRetOut.main_arg0) = m ((c.tc : Thread Cert.KernelRetOut.nD Cert.KernelRetOut.τ).loc Cert.KernelRetOut.main_arg0)
      ∧ r.2.mem ((c.tc : Thread Cert.KernelRetOut.nD Cert.KernelRetOut.τ).loc Cert.KernelRetOut.main_arg1) = m ((c.tc : Thread Cert.KernelRetOut.nD Cert.KernelRetOut.τ).loc Cert.KernelRetOut.main_arg1))
      ∧ r.2.sem = fun _ => 0)

def quiescent_KernelRetOutIdeal [hKernelRetOutIdeal : Cert.KernelRetOutIdeal.Facts] : Prop :=
  ∀ (m : (ℓ : Loc Cert.KernelRetOutIdeal.nD Cert.KernelRetOutIdeal.τ Cert.KernelRetOutIdeal.sig) → Buf (Elt Ideal) ℓ) (g : Dev Cert.KernelRetOutIdeal.nD → PrngReg), Pre_KernelRetOutIdeal m →
    θ_run (Cert.KernelRetOutIdeal.defs (F := Ideal)) (onTc (τ := Cert.KernelRetOutIdeal.τ) (Cert.KernelRetOutIdeal.main (F := Ideal))) ⟨m, fun _ => 0, g⟩ (fun r => (∀ c : Dev Cert.KernelRetOutIdeal.nD,
      r.2.mem ((c.tc : Thread Cert.KernelRetOutIdeal.nD Cert.KernelRetOutIdeal.τ).loc Cert.KernelRetOutIdeal.main_arg0) = m ((c.tc : Thread Cert.KernelRetOutIdeal.nD Cert.KernelRetOutIdeal.τ).loc Cert.KernelRetOutIdeal.main_arg0)
      ∧ r.2.mem ((c.tc : Thread Cert.KernelRetOutIdeal.nD Cert.KernelRetOutIdeal.τ).loc Cert.KernelRetOutIdeal.main_arg1) = m ((c.tc : Thread Cert.KernelRetOutIdeal.nD Cert.KernelRetOutIdeal.τ).loc Cert.KernelRetOutIdeal.main_arg1))
      ∧ r.2.sem = fun _ => 0)

def quiescent_ReferenceRetOutIdeal [hReferenceRetOutIdeal : Cert.ReferenceRetOutIdeal.Facts] : Prop :=
  ∀ (m : (ℓ : Loc Cert.ReferenceRetOutIdeal.nD Cert.ReferenceRetOutIdeal.τ Cert.ReferenceRetOutIdeal.sig) → Buf (Elt Ideal) ℓ) (g : Dev Cert.ReferenceRetOutIdeal.nD → PrngReg), Pre_ReferenceRetOutIdeal m →
    θ_run (Cert.ReferenceRetOutIdeal.defs (F := Ideal)) (onTc (τ := Cert.ReferenceRetOutIdeal.τ) (Cert.ReferenceRetOutIdeal.main (F := Ideal))) ⟨m, fun _ => 0, g⟩ (fun r => (∀ c : Dev Cert.ReferenceRetOutIdeal.nD,
      r.2.mem ((c.tc : Thread Cert.ReferenceRetOutIdeal.nD Cert.ReferenceRetOutIdeal.τ).loc Cert.ReferenceRetOutIdeal.main_arg0) = m ((c.tc : Thread Cert.ReferenceRetOutIdeal.nD Cert.ReferenceRetOutIdeal.τ).loc Cert.ReferenceRetOutIdeal.main_arg0)
      ∧ r.2.mem ((c.tc : Thread Cert.ReferenceRetOutIdeal.nD Cert.ReferenceRetOutIdeal.τ).loc Cert.ReferenceRetOutIdeal.main_arg1) = m ((c.tc : Thread Cert.ReferenceRetOutIdeal.nD Cert.ReferenceRetOutIdeal.τ).loc Cert.ReferenceRetOutIdeal.main_arg1))
      ∧ r.2.sem = fun _ => 0)

def quiescent_KernelDRetAct [hKernelDRetAct : Cert.KernelDRetAct.Facts] : Prop :=
  ∀ (m : (ℓ : Loc Cert.KernelDRetAct.nD Cert.KernelDRetAct.τ Cert.KernelDRetAct.sig) → Buf (Elt Bits) ℓ) (g : Dev Cert.KernelDRetAct.nD → PrngReg), Pre_KernelDRetAct m →
    θ_run (Cert.KernelDRetAct.defs (F := Bits)) (onTc (τ := Cert.KernelDRetAct.τ) (Cert.KernelDRetAct.main (F := Bits))) ⟨m, fun _ => 0, g⟩ (fun r => (∀ c : Dev Cert.KernelDRetAct.nD,
      r.2.mem ((c.tc : Thread Cert.KernelDRetAct.nD Cert.KernelDRetAct.τ).loc Cert.KernelDRetAct.main_arg0) = m ((c.tc : Thread Cert.KernelDRetAct.nD Cert.KernelDRetAct.τ).loc Cert.KernelDRetAct.main_arg0)
      ∧ r.2.mem ((c.tc : Thread Cert.KernelDRetAct.nD Cert.KernelDRetAct.τ).loc Cert.KernelDRetAct.main_arg1) = m ((c.tc : Thread Cert.KernelDRetAct.nD Cert.KernelDRetAct.τ).loc Cert.KernelDRetAct.main_arg1))
      ∧ r.2.sem = fun _ => 0)

def quiescent_KernelDRetActIdeal [hKernelDRetActIdeal : Cert.KernelDRetActIdeal.Facts] : Prop :=
  ∀ (m : (ℓ : Loc Cert.KernelDRetActIdeal.nD Cert.KernelDRetActIdeal.τ Cert.KernelDRetActIdeal.sig) → Buf (Elt Ideal) ℓ) (g : Dev Cert.KernelDRetActIdeal.nD → PrngReg), Pre_KernelDRetActIdeal m →
    θ_run (Cert.KernelDRetActIdeal.defs (F := Ideal)) (onTc (τ := Cert.KernelDRetActIdeal.τ) (Cert.KernelDRetActIdeal.main (F := Ideal))) ⟨m, fun _ => 0, g⟩ (fun r => (∀ c : Dev Cert.KernelDRetActIdeal.nD,
      r.2.mem ((c.tc : Thread Cert.KernelDRetActIdeal.nD Cert.KernelDRetActIdeal.τ).loc Cert.KernelDRetActIdeal.main_arg0) = m ((c.tc : Thread Cert.KernelDRetActIdeal.nD Cert.KernelDRetActIdeal.τ).loc Cert.KernelDRetActIdeal.main_arg0)
      ∧ r.2.mem ((c.tc : Thread Cert.KernelDRetActIdeal.nD Cert.KernelDRetActIdeal.τ).loc Cert.KernelDRetActIdeal.main_arg1) = m ((c.tc : Thread Cert.KernelDRetActIdeal.nD Cert.KernelDRetActIdeal.τ).loc Cert.KernelDRetActIdeal.main_arg1))
      ∧ r.2.sem = fun _ => 0)

def quiescent_ReferenceDRetActIdeal [hReferenceDRetActIdeal : Cert.ReferenceDRetActIdeal.Facts] : Prop :=
  ∀ (m : (ℓ : Loc Cert.ReferenceDRetActIdeal.nD Cert.ReferenceDRetActIdeal.τ Cert.ReferenceDRetActIdeal.sig) → Buf (Elt Ideal) ℓ) (g : Dev Cert.ReferenceDRetActIdeal.nD → PrngReg), Pre_ReferenceDRetActIdeal m →
    θ_run (Cert.ReferenceDRetActIdeal.defs (F := Ideal)) (onTc (τ := Cert.ReferenceDRetActIdeal.τ) (Cert.ReferenceDRetActIdeal.main (F := Ideal))) ⟨m, fun _ => 0, g⟩ (fun r => (∀ c : Dev Cert.ReferenceDRetActIdeal.nD,
      r.2.mem ((c.tc : Thread Cert.ReferenceDRetActIdeal.nD Cert.ReferenceDRetActIdeal.τ).loc Cert.ReferenceDRetActIdeal.main_arg0) = m ((c.tc : Thread Cert.ReferenceDRetActIdeal.nD Cert.ReferenceDRetActIdeal.τ).loc Cert.ReferenceDRetActIdeal.main_arg0)
      ∧ r.2.mem ((c.tc : Thread Cert.ReferenceDRetActIdeal.nD Cert.ReferenceDRetActIdeal.τ).loc Cert.ReferenceDRetActIdeal.main_arg1) = m ((c.tc : Thread Cert.ReferenceDRetActIdeal.nD Cert.ReferenceDRetActIdeal.τ).loc Cert.ReferenceDRetActIdeal.main_arg1))
      ∧ r.2.sem = fun _ => 0)

def quiescent_KernelGRetOut [hKernelGRetOut : Cert.KernelGRetOut.Facts] : Prop :=
  ∀ (m : (ℓ : Loc Cert.KernelGRetOut.nD Cert.KernelGRetOut.τ Cert.KernelGRetOut.sig) → Buf (Elt Bits) ℓ) (g : Dev Cert.KernelGRetOut.nD → PrngReg), Pre_KernelGRetOut m →
    θ_run (Cert.KernelGRetOut.defs (F := Bits)) (onTc (τ := Cert.KernelGRetOut.τ) (Cert.KernelGRetOut.main (F := Bits))) ⟨m, fun _ => 0, g⟩ (fun r => (∀ c : Dev Cert.KernelGRetOut.nD,
      r.2.mem ((c.tc : Thread Cert.KernelGRetOut.nD Cert.KernelGRetOut.τ).loc Cert.KernelGRetOut.main_arg0) = m ((c.tc : Thread Cert.KernelGRetOut.nD Cert.KernelGRetOut.τ).loc Cert.KernelGRetOut.main_arg0)
      ∧ r.2.mem ((c.tc : Thread Cert.KernelGRetOut.nD Cert.KernelGRetOut.τ).loc Cert.KernelGRetOut.main_arg1) = m ((c.tc : Thread Cert.KernelGRetOut.nD Cert.KernelGRetOut.τ).loc Cert.KernelGRetOut.main_arg1))
      ∧ r.2.sem = fun _ => 0)

def quiescent_KernelGRetOutIdeal [hKernelGRetOutIdeal : Cert.KernelGRetOutIdeal.Facts] : Prop :=
  ∀ (m : (ℓ : Loc Cert.KernelGRetOutIdeal.nD Cert.KernelGRetOutIdeal.τ Cert.KernelGRetOutIdeal.sig) → Buf (Elt Ideal) ℓ) (g : Dev Cert.KernelGRetOutIdeal.nD → PrngReg), Pre_KernelGRetOutIdeal m →
    θ_run (Cert.KernelGRetOutIdeal.defs (F := Ideal)) (onTc (τ := Cert.KernelGRetOutIdeal.τ) (Cert.KernelGRetOutIdeal.main (F := Ideal))) ⟨m, fun _ => 0, g⟩ (fun r => (∀ c : Dev Cert.KernelGRetOutIdeal.nD,
      r.2.mem ((c.tc : Thread Cert.KernelGRetOutIdeal.nD Cert.KernelGRetOutIdeal.τ).loc Cert.KernelGRetOutIdeal.main_arg0) = m ((c.tc : Thread Cert.KernelGRetOutIdeal.nD Cert.KernelGRetOutIdeal.τ).loc Cert.KernelGRetOutIdeal.main_arg0)
      ∧ r.2.mem ((c.tc : Thread Cert.KernelGRetOutIdeal.nD Cert.KernelGRetOutIdeal.τ).loc Cert.KernelGRetOutIdeal.main_arg1) = m ((c.tc : Thread Cert.KernelGRetOutIdeal.nD Cert.KernelGRetOutIdeal.τ).loc Cert.KernelGRetOutIdeal.main_arg1))
      ∧ r.2.sem = fun _ => 0)

def quiescent_ReferenceGRetOutIdeal [hReferenceGRetOutIdeal : Cert.ReferenceGRetOutIdeal.Facts] : Prop :=
  ∀ (m : (ℓ : Loc Cert.ReferenceGRetOutIdeal.nD Cert.ReferenceGRetOutIdeal.τ Cert.ReferenceGRetOutIdeal.sig) → Buf (Elt Ideal) ℓ) (g : Dev Cert.ReferenceGRetOutIdeal.nD → PrngReg), Pre_ReferenceGRetOutIdeal m →
    θ_run (Cert.ReferenceGRetOutIdeal.defs (F := Ideal)) (onTc (τ := Cert.ReferenceGRetOutIdeal.τ) (Cert.ReferenceGRetOutIdeal.main (F := Ideal))) ⟨m, fun _ => 0, g⟩ (fun r => (∀ c : Dev Cert.ReferenceGRetOutIdeal.nD,
      r.2.mem ((c.tc : Thread Cert.ReferenceGRetOutIdeal.nD Cert.ReferenceGRetOutIdeal.τ).loc Cert.ReferenceGRetOutIdeal.main_arg0) = m ((c.tc : Thread Cert.ReferenceGRetOutIdeal.nD Cert.ReferenceGRetOutIdeal.τ).loc Cert.ReferenceGRetOutIdeal.main_arg0)
      ∧ r.2.mem ((c.tc : Thread Cert.ReferenceGRetOutIdeal.nD Cert.ReferenceGRetOutIdeal.τ).loc Cert.ReferenceGRetOutIdeal.main_arg1) = m ((c.tc : Thread Cert.ReferenceGRetOutIdeal.nD Cert.ReferenceGRetOutIdeal.τ).loc Cert.ReferenceGRetOutIdeal.main_arg1))
      ∧ r.2.sem = fun _ => 0)

def quiescent_KernelMixOut [hKernelMixOut : Cert.KernelMixOut.Facts] : Prop :=
  ∀ (m : (ℓ : Loc Cert.KernelMixOut.nD Cert.KernelMixOut.τ Cert.KernelMixOut.sig) → Buf (Elt Bits) ℓ) (g : Dev Cert.KernelMixOut.nD → PrngReg), Pre_KernelMixOut m →
    θ_run (Cert.KernelMixOut.defs (F := Bits)) (onTc (τ := Cert.KernelMixOut.τ) (Cert.KernelMixOut.main (F := Bits))) ⟨m, fun _ => 0, g⟩ (fun r => (∀ c : Dev Cert.KernelMixOut.nD,
      r.2.mem ((c.tc : Thread Cert.KernelMixOut.nD Cert.KernelMixOut.τ).loc Cert.KernelMixOut.main_arg0) = m ((c.tc : Thread Cert.KernelMixOut.nD Cert.KernelMixOut.τ).loc Cert.KernelMixOut.main_arg0)
      ∧ r.2.mem ((c.tc : Thread Cert.KernelMixOut.nD Cert.KernelMixOut.τ).loc Cert.KernelMixOut.main_arg1) = m ((c.tc : Thread Cert.KernelMixOut.nD Cert.KernelMixOut.τ).loc Cert.KernelMixOut.main_arg1)
      ∧ r.2.mem ((c.tc : Thread Cert.KernelMixOut.nD Cert.KernelMixOut.τ).loc Cert.KernelMixOut.main_arg2) = m ((c.tc : Thread Cert.KernelMixOut.nD Cert.KernelMixOut.τ).loc Cert.KernelMixOut.main_arg2))
      ∧ r.2.sem = fun _ => 0)

def quiescent_KernelMixOutIdeal [hKernelMixOutIdeal : Cert.KernelMixOutIdeal.Facts] : Prop :=
  ∀ (m : (ℓ : Loc Cert.KernelMixOutIdeal.nD Cert.KernelMixOutIdeal.τ Cert.KernelMixOutIdeal.sig) → Buf (Elt Ideal) ℓ) (g : Dev Cert.KernelMixOutIdeal.nD → PrngReg), Pre_KernelMixOutIdeal m →
    θ_run (Cert.KernelMixOutIdeal.defs (F := Ideal)) (onTc (τ := Cert.KernelMixOutIdeal.τ) (Cert.KernelMixOutIdeal.main (F := Ideal))) ⟨m, fun _ => 0, g⟩ (fun r => (∀ c : Dev Cert.KernelMixOutIdeal.nD,
      r.2.mem ((c.tc : Thread Cert.KernelMixOutIdeal.nD Cert.KernelMixOutIdeal.τ).loc Cert.KernelMixOutIdeal.main_arg0) = m ((c.tc : Thread Cert.KernelMixOutIdeal.nD Cert.KernelMixOutIdeal.τ).loc Cert.KernelMixOutIdeal.main_arg0)
      ∧ r.2.mem ((c.tc : Thread Cert.KernelMixOutIdeal.nD Cert.KernelMixOutIdeal.τ).loc Cert.KernelMixOutIdeal.main_arg1) = m ((c.tc : Thread Cert.KernelMixOutIdeal.nD Cert.KernelMixOutIdeal.τ).loc Cert.KernelMixOutIdeal.main_arg1)
      ∧ r.2.mem ((c.tc : Thread Cert.KernelMixOutIdeal.nD Cert.KernelMixOutIdeal.τ).loc Cert.KernelMixOutIdeal.main_arg2) = m ((c.tc : Thread Cert.KernelMixOutIdeal.nD Cert.KernelMixOutIdeal.τ).loc Cert.KernelMixOutIdeal.main_arg2))
      ∧ r.2.sem = fun _ => 0)

def quiescent_ReferenceMixOutIdeal [hReferenceMixOutIdeal : Cert.ReferenceMixOutIdeal.Facts] : Prop :=
  ∀ (m : (ℓ : Loc Cert.ReferenceMixOutIdeal.nD Cert.ReferenceMixOutIdeal.τ Cert.ReferenceMixOutIdeal.sig) → Buf (Elt Ideal) ℓ) (g : Dev Cert.ReferenceMixOutIdeal.nD → PrngReg), Pre_ReferenceMixOutIdeal m →
    θ_run (Cert.ReferenceMixOutIdeal.defs (F := Ideal)) (onTc (τ := Cert.ReferenceMixOutIdeal.τ) (Cert.ReferenceMixOutIdeal.main (F := Ideal))) ⟨m, fun _ => 0, g⟩ (fun r => (∀ c : Dev Cert.ReferenceMixOutIdeal.nD,
      r.2.mem ((c.tc : Thread Cert.ReferenceMixOutIdeal.nD Cert.ReferenceMixOutIdeal.τ).loc Cert.ReferenceMixOutIdeal.main_arg0) = m ((c.tc : Thread Cert.ReferenceMixOutIdeal.nD Cert.ReferenceMixOutIdeal.τ).loc Cert.ReferenceMixOutIdeal.main_arg0)
      ∧ r.2.mem ((c.tc : Thread Cert.ReferenceMixOutIdeal.nD Cert.ReferenceMixOutIdeal.τ).loc Cert.ReferenceMixOutIdeal.main_arg1) = m ((c.tc : Thread Cert.ReferenceMixOutIdeal.nD Cert.ReferenceMixOutIdeal.τ).loc Cert.ReferenceMixOutIdeal.main_arg1)
      ∧ r.2.mem ((c.tc : Thread Cert.ReferenceMixOutIdeal.nD Cert.ReferenceMixOutIdeal.τ).loc Cert.ReferenceMixOutIdeal.main_arg2) = m ((c.tc : Thread Cert.ReferenceMixOutIdeal.nD Cert.ReferenceMixOutIdeal.τ).loc Cert.ReferenceMixOutIdeal.main_arg2))
      ∧ r.2.sem = fun _ => 0)

def quiescent_KernelDMerged [hKernelDMerged : Cert.KernelDMerged.Facts] : Prop :=
  ∀ (m : (ℓ : Loc Cert.KernelDMerged.nD Cert.KernelDMerged.τ Cert.KernelDMerged.sig) → Buf (Elt Bits) ℓ) (g : Dev Cert.KernelDMerged.nD → PrngReg), Pre_KernelDMerged m →
    θ_run (Cert.KernelDMerged.defs (F := Bits)) (onTc (τ := Cert.KernelDMerged.τ) (Cert.KernelDMerged.main (F := Bits))) ⟨m, fun _ => 0, g⟩ (fun r => (∀ c : Dev Cert.KernelDMerged.nD,
      r.2.mem ((c.tc : Thread Cert.KernelDMerged.nD Cert.KernelDMerged.τ).loc Cert.KernelDMerged.main_arg0) = m ((c.tc : Thread Cert.KernelDMerged.nD Cert.KernelDMerged.τ).loc Cert.KernelDMerged.main_arg0)
      ∧ r.2.mem ((c.tc : Thread Cert.KernelDMerged.nD Cert.KernelDMerged.τ).loc Cert.KernelDMerged.main_arg1) = m ((c.tc : Thread Cert.KernelDMerged.nD Cert.KernelDMerged.τ).loc Cert.KernelDMerged.main_arg1))
      ∧ r.2.sem = fun _ => 0)

def quiescent_KernelDMergedIdeal [hKernelDMergedIdeal : Cert.KernelDMergedIdeal.Facts] : Prop :=
  ∀ (m : (ℓ : Loc Cert.KernelDMergedIdeal.nD Cert.KernelDMergedIdeal.τ Cert.KernelDMergedIdeal.sig) → Buf (Elt Ideal) ℓ) (g : Dev Cert.KernelDMergedIdeal.nD → PrngReg), Pre_KernelDMergedIdeal m →
    θ_run (Cert.KernelDMergedIdeal.defs (F := Ideal)) (onTc (τ := Cert.KernelDMergedIdeal.τ) (Cert.KernelDMergedIdeal.main (F := Ideal))) ⟨m, fun _ => 0, g⟩ (fun r => (∀ c : Dev Cert.KernelDMergedIdeal.nD,
      r.2.mem ((c.tc : Thread Cert.KernelDMergedIdeal.nD Cert.KernelDMergedIdeal.τ).loc Cert.KernelDMergedIdeal.main_arg0) = m ((c.tc : Thread Cert.KernelDMergedIdeal.nD Cert.KernelDMergedIdeal.τ).loc Cert.KernelDMergedIdeal.main_arg0)
      ∧ r.2.mem ((c.tc : Thread Cert.KernelDMergedIdeal.nD Cert.KernelDMergedIdeal.τ).loc Cert.KernelDMergedIdeal.main_arg1) = m ((c.tc : Thread Cert.KernelDMergedIdeal.nD Cert.KernelDMergedIdeal.τ).loc Cert.KernelDMergedIdeal.main_arg1))
      ∧ r.2.sem = fun _ => 0)

def quiescent_ReferenceDMergedIdeal [hReferenceDMergedIdeal : Cert.ReferenceDMergedIdeal.Facts] : Prop :=
  ∀ (m : (ℓ : Loc Cert.ReferenceDMergedIdeal.nD Cert.ReferenceDMergedIdeal.τ Cert.ReferenceDMergedIdeal.sig) → Buf (Elt Ideal) ℓ) (g : Dev Cert.ReferenceDMergedIdeal.nD → PrngReg), Pre_ReferenceDMergedIdeal m →
    θ_run (Cert.ReferenceDMergedIdeal.defs (F := Ideal)) (onTc (τ := Cert.ReferenceDMergedIdeal.τ) (Cert.ReferenceDMergedIdeal.main (F := Ideal))) ⟨m, fun _ => 0, g⟩ (fun r => (∀ c : Dev Cert.ReferenceDMergedIdeal.nD,
      r.2.mem ((c.tc : Thread Cert.ReferenceDMergedIdeal.nD Cert.ReferenceDMergedIdeal.τ).loc Cert.ReferenceDMergedIdeal.main_arg0) = m ((c.tc : Thread Cert.ReferenceDMergedIdeal.nD Cert.ReferenceDMergedIdeal.τ).loc Cert.ReferenceDMergedIdeal.main_arg0)
      ∧ r.2.mem ((c.tc : Thread Cert.ReferenceDMergedIdeal.nD Cert.ReferenceDMergedIdeal.τ).loc Cert.ReferenceDMergedIdeal.main_arg1) = m ((c.tc : Thread Cert.ReferenceDMergedIdeal.nD Cert.ReferenceDMergedIdeal.τ).loc Cert.ReferenceDMergedIdeal.main_arg1))
      ∧ r.2.sem = fun _ => 0)

def quiescent_KernelGOut [hKernelGOut : Cert.KernelGOut.Facts] : Prop :=
  ∀ (m : (ℓ : Loc Cert.KernelGOut.nD Cert.KernelGOut.τ Cert.KernelGOut.sig) → Buf (Elt Bits) ℓ) (g : Dev Cert.KernelGOut.nD → PrngReg), Pre_KernelGOut m →
    θ_run (Cert.KernelGOut.defs (F := Bits)) (onTc (τ := Cert.KernelGOut.τ) (Cert.KernelGOut.main (F := Bits))) ⟨m, fun _ => 0, g⟩ (fun r => (∀ c : Dev Cert.KernelGOut.nD,
      r.2.mem ((c.tc : Thread Cert.KernelGOut.nD Cert.KernelGOut.τ).loc Cert.KernelGOut.main_arg0) = m ((c.tc : Thread Cert.KernelGOut.nD Cert.KernelGOut.τ).loc Cert.KernelGOut.main_arg0)
      ∧ r.2.mem ((c.tc : Thread Cert.KernelGOut.nD Cert.KernelGOut.τ).loc Cert.KernelGOut.main_arg1) = m ((c.tc : Thread Cert.KernelGOut.nD Cert.KernelGOut.τ).loc Cert.KernelGOut.main_arg1))
      ∧ r.2.sem = fun _ => 0)

def quiescent_KernelGOutIdeal [hKernelGOutIdeal : Cert.KernelGOutIdeal.Facts] : Prop :=
  ∀ (m : (ℓ : Loc Cert.KernelGOutIdeal.nD Cert.KernelGOutIdeal.τ Cert.KernelGOutIdeal.sig) → Buf (Elt Ideal) ℓ) (g : Dev Cert.KernelGOutIdeal.nD → PrngReg), Pre_KernelGOutIdeal m →
    θ_run (Cert.KernelGOutIdeal.defs (F := Ideal)) (onTc (τ := Cert.KernelGOutIdeal.τ) (Cert.KernelGOutIdeal.main (F := Ideal))) ⟨m, fun _ => 0, g⟩ (fun r => (∀ c : Dev Cert.KernelGOutIdeal.nD,
      r.2.mem ((c.tc : Thread Cert.KernelGOutIdeal.nD Cert.KernelGOutIdeal.τ).loc Cert.KernelGOutIdeal.main_arg0) = m ((c.tc : Thread Cert.KernelGOutIdeal.nD Cert.KernelGOutIdeal.τ).loc Cert.KernelGOutIdeal.main_arg0)
      ∧ r.2.mem ((c.tc : Thread Cert.KernelGOutIdeal.nD Cert.KernelGOutIdeal.τ).loc Cert.KernelGOutIdeal.main_arg1) = m ((c.tc : Thread Cert.KernelGOutIdeal.nD Cert.KernelGOutIdeal.τ).loc Cert.KernelGOutIdeal.main_arg1))
      ∧ r.2.sem = fun _ => 0)

def quiescent_ReferenceGOutIdeal [hReferenceGOutIdeal : Cert.ReferenceGOutIdeal.Facts] : Prop :=
  ∀ (m : (ℓ : Loc Cert.ReferenceGOutIdeal.nD Cert.ReferenceGOutIdeal.τ Cert.ReferenceGOutIdeal.sig) → Buf (Elt Ideal) ℓ) (g : Dev Cert.ReferenceGOutIdeal.nD → PrngReg), Pre_ReferenceGOutIdeal m →
    θ_run (Cert.ReferenceGOutIdeal.defs (F := Ideal)) (onTc (τ := Cert.ReferenceGOutIdeal.τ) (Cert.ReferenceGOutIdeal.main (F := Ideal))) ⟨m, fun _ => 0, g⟩ (fun r => (∀ c : Dev Cert.ReferenceGOutIdeal.nD,
      r.2.mem ((c.tc : Thread Cert.ReferenceGOutIdeal.nD Cert.ReferenceGOutIdeal.τ).loc Cert.ReferenceGOutIdeal.main_arg0) = m ((c.tc : Thread Cert.ReferenceGOutIdeal.nD Cert.ReferenceGOutIdeal.τ).loc Cert.ReferenceGOutIdeal.main_arg0)
      ∧ r.2.mem ((c.tc : Thread Cert.ReferenceGOutIdeal.nD Cert.ReferenceGOutIdeal.τ).loc Cert.ReferenceGOutIdeal.main_arg1) = m ((c.tc : Thread Cert.ReferenceGOutIdeal.nD Cert.ReferenceGOutIdeal.τ).loc Cert.ReferenceGOutIdeal.main_arg1))
      ∧ r.2.sem = fun _ => 0)

def quiescent_KernelProjDt [hKernelProjDt : Cert.KernelProjDt.Facts] : Prop :=
  ∀ (m : (ℓ : Loc Cert.KernelProjDt.nD Cert.KernelProjDt.τ Cert.KernelProjDt.sig) → Buf (Elt Bits) ℓ) (g : Dev Cert.KernelProjDt.nD → PrngReg), Pre_KernelProjDt m →
    θ_run (Cert.KernelProjDt.defs (F := Bits)) (onTc (τ := Cert.KernelProjDt.τ) (Cert.KernelProjDt.main (F := Bits))) ⟨m, fun _ => 0, g⟩ (fun r => (∀ c : Dev Cert.KernelProjDt.nD,
      r.2.mem ((c.tc : Thread Cert.KernelProjDt.nD Cert.KernelProjDt.τ).loc Cert.KernelProjDt.main_arg0) = m ((c.tc : Thread Cert.KernelProjDt.nD Cert.KernelProjDt.τ).loc Cert.KernelProjDt.main_arg0)
      ∧ r.2.mem ((c.tc : Thread Cert.KernelProjDt.nD Cert.KernelProjDt.τ).loc Cert.KernelProjDt.main_arg1) = m ((c.tc : Thread Cert.KernelProjDt.nD Cert.KernelProjDt.τ).loc Cert.KernelProjDt.main_arg1))
      ∧ r.2.sem = fun _ => 0)

def quiescent_KernelProjDtIdeal [hKernelProjDtIdeal : Cert.KernelProjDtIdeal.Facts] : Prop :=
  ∀ (m : (ℓ : Loc Cert.KernelProjDtIdeal.nD Cert.KernelProjDtIdeal.τ Cert.KernelProjDtIdeal.sig) → Buf (Elt Ideal) ℓ) (g : Dev Cert.KernelProjDtIdeal.nD → PrngReg), Pre_KernelProjDtIdeal m →
    θ_run (Cert.KernelProjDtIdeal.defs (F := Ideal)) (onTc (τ := Cert.KernelProjDtIdeal.τ) (Cert.KernelProjDtIdeal.main (F := Ideal))) ⟨m, fun _ => 0, g⟩ (fun r => (∀ c : Dev Cert.KernelProjDtIdeal.nD,
      r.2.mem ((c.tc : Thread Cert.KernelProjDtIdeal.nD Cert.KernelProjDtIdeal.τ).loc Cert.KernelProjDtIdeal.main_arg0) = m ((c.tc : Thread Cert.KernelProjDtIdeal.nD Cert.KernelProjDtIdeal.τ).loc Cert.KernelProjDtIdeal.main_arg0)
      ∧ r.2.mem ((c.tc : Thread Cert.KernelProjDtIdeal.nD Cert.KernelProjDtIdeal.τ).loc Cert.KernelProjDtIdeal.main_arg1) = m ((c.tc : Thread Cert.KernelProjDtIdeal.nD Cert.KernelProjDtIdeal.τ).loc Cert.KernelProjDtIdeal.main_arg1))
      ∧ r.2.sem = fun _ => 0)

def quiescent_ReferenceProjDtIdeal [hReferenceProjDtIdeal : Cert.ReferenceProjDtIdeal.Facts] : Prop :=
  ∀ (m : (ℓ : Loc Cert.ReferenceProjDtIdeal.nD Cert.ReferenceProjDtIdeal.τ Cert.ReferenceProjDtIdeal.sig) → Buf (Elt Ideal) ℓ) (g : Dev Cert.ReferenceProjDtIdeal.nD → PrngReg), Pre_ReferenceProjDtIdeal m →
    θ_run (Cert.ReferenceProjDtIdeal.defs (F := Ideal)) (onTc (τ := Cert.ReferenceProjDtIdeal.τ) (Cert.ReferenceProjDtIdeal.main (F := Ideal))) ⟨m, fun _ => 0, g⟩ (fun r => (∀ c : Dev Cert.ReferenceProjDtIdeal.nD,
      r.2.mem ((c.tc : Thread Cert.ReferenceProjDtIdeal.nD Cert.ReferenceProjDtIdeal.τ).loc Cert.ReferenceProjDtIdeal.main_arg0) = m ((c.tc : Thread Cert.ReferenceProjDtIdeal.nD Cert.ReferenceProjDtIdeal.τ).loc Cert.ReferenceProjDtIdeal.main_arg0)
      ∧ r.2.mem ((c.tc : Thread Cert.ReferenceProjDtIdeal.nD Cert.ReferenceProjDtIdeal.τ).loc Cert.ReferenceProjDtIdeal.main_arg1) = m ((c.tc : Thread Cert.ReferenceProjDtIdeal.nD Cert.ReferenceProjDtIdeal.τ).loc Cert.ReferenceProjDtIdeal.main_arg1))
      ∧ r.2.sem = fun _ => 0)

def quiescent_KernelGInDt [hKernelGInDt : Cert.KernelGInDt.Facts] : Prop :=
  ∀ (m : (ℓ : Loc Cert.KernelGInDt.nD Cert.KernelGInDt.τ Cert.KernelGInDt.sig) → Buf (Elt Bits) ℓ) (g : Dev Cert.KernelGInDt.nD → PrngReg), Pre_KernelGInDt m →
    θ_run (Cert.KernelGInDt.defs (F := Bits)) (onTc (τ := Cert.KernelGInDt.τ) (Cert.KernelGInDt.main (F := Bits))) ⟨m, fun _ => 0, g⟩ (fun r => (∀ c : Dev Cert.KernelGInDt.nD,
      r.2.mem ((c.tc : Thread Cert.KernelGInDt.nD Cert.KernelGInDt.τ).loc Cert.KernelGInDt.main_arg0) = m ((c.tc : Thread Cert.KernelGInDt.nD Cert.KernelGInDt.τ).loc Cert.KernelGInDt.main_arg0)
      ∧ r.2.mem ((c.tc : Thread Cert.KernelGInDt.nD Cert.KernelGInDt.τ).loc Cert.KernelGInDt.main_arg1) = m ((c.tc : Thread Cert.KernelGInDt.nD Cert.KernelGInDt.τ).loc Cert.KernelGInDt.main_arg1))
      ∧ r.2.sem = fun _ => 0)

def quiescent_KernelGInDtIdeal [hKernelGInDtIdeal : Cert.KernelGInDtIdeal.Facts] : Prop :=
  ∀ (m : (ℓ : Loc Cert.KernelGInDtIdeal.nD Cert.KernelGInDtIdeal.τ Cert.KernelGInDtIdeal.sig) → Buf (Elt Ideal) ℓ) (g : Dev Cert.KernelGInDtIdeal.nD → PrngReg), Pre_KernelGInDtIdeal m →
    θ_run (Cert.KernelGInDtIdeal.defs (F := Ideal)) (onTc (τ := Cert.KernelGInDtIdeal.τ) (Cert.KernelGInDtIdeal.main (F := Ideal))) ⟨m, fun _ => 0, g⟩ (fun r => (∀ c : Dev Cert.KernelGInDtIdeal.nD,
      r.2.mem ((c.tc : Thread Cert.KernelGInDtIdeal.nD Cert.KernelGInDtIdeal.τ).loc Cert.KernelGInDtIdeal.main_arg0) = m ((c.tc : Thread Cert.KernelGInDtIdeal.nD Cert.KernelGInDtIdeal.τ).loc Cert.KernelGInDtIdeal.main_arg0)
      ∧ r.2.mem ((c.tc : Thread Cert.KernelGInDtIdeal.nD Cert.KernelGInDtIdeal.τ).loc Cert.KernelGInDtIdeal.main_arg1) = m ((c.tc : Thread Cert.KernelGInDtIdeal.nD Cert.KernelGInDtIdeal.τ).loc Cert.KernelGInDtIdeal.main_arg1))
      ∧ r.2.sem = fun _ => 0)

def quiescent_ReferenceGInDtIdeal [hReferenceGInDtIdeal : Cert.ReferenceGInDtIdeal.Facts] : Prop :=
  ∀ (m : (ℓ : Loc Cert.ReferenceGInDtIdeal.nD Cert.ReferenceGInDtIdeal.τ Cert.ReferenceGInDtIdeal.sig) → Buf (Elt Ideal) ℓ) (g : Dev Cert.ReferenceGInDtIdeal.nD → PrngReg), Pre_ReferenceGInDtIdeal m →
    θ_run (Cert.ReferenceGInDtIdeal.defs (F := Ideal)) (onTc (τ := Cert.ReferenceGInDtIdeal.τ) (Cert.ReferenceGInDtIdeal.main (F := Ideal))) ⟨m, fun _ => 0, g⟩ (fun r => (∀ c : Dev Cert.ReferenceGInDtIdeal.nD,
      r.2.mem ((c.tc : Thread Cert.ReferenceGInDtIdeal.nD Cert.ReferenceGInDtIdeal.τ).loc Cert.ReferenceGInDtIdeal.main_arg0) = m ((c.tc : Thread Cert.ReferenceGInDtIdeal.nD Cert.ReferenceGInDtIdeal.τ).loc Cert.ReferenceGInDtIdeal.main_arg0)
      ∧ r.2.mem ((c.tc : Thread Cert.ReferenceGInDtIdeal.nD Cert.ReferenceGInDtIdeal.τ).loc Cert.ReferenceGInDtIdeal.main_arg1) = m ((c.tc : Thread Cert.ReferenceGInDtIdeal.nD Cert.ReferenceGInDtIdeal.τ).loc Cert.ReferenceGInDtIdeal.main_arg1))
      ∧ r.2.sem = fun _ => 0)

def quiescent_KernelDUDt [hKernelDUDt : Cert.KernelDUDt.Facts] : Prop :=
  ∀ (m : (ℓ : Loc Cert.KernelDUDt.nD Cert.KernelDUDt.τ Cert.KernelDUDt.sig) → Buf (Elt Bits) ℓ) (g : Dev Cert.KernelDUDt.nD → PrngReg), Pre_KernelDUDt m →
    θ_run (Cert.KernelDUDt.defs (F := Bits)) (onTc (τ := Cert.KernelDUDt.τ) (Cert.KernelDUDt.main (F := Bits))) ⟨m, fun _ => 0, g⟩ (fun r => (∀ c : Dev Cert.KernelDUDt.nD,
      r.2.mem ((c.tc : Thread Cert.KernelDUDt.nD Cert.KernelDUDt.τ).loc Cert.KernelDUDt.main_arg0) = m ((c.tc : Thread Cert.KernelDUDt.nD Cert.KernelDUDt.τ).loc Cert.KernelDUDt.main_arg0)
      ∧ r.2.mem ((c.tc : Thread Cert.KernelDUDt.nD Cert.KernelDUDt.τ).loc Cert.KernelDUDt.main_arg1) = m ((c.tc : Thread Cert.KernelDUDt.nD Cert.KernelDUDt.τ).loc Cert.KernelDUDt.main_arg1))
      ∧ r.2.sem = fun _ => 0)

def quiescent_KernelDUDtIdeal [hKernelDUDtIdeal : Cert.KernelDUDtIdeal.Facts] : Prop :=
  ∀ (m : (ℓ : Loc Cert.KernelDUDtIdeal.nD Cert.KernelDUDtIdeal.τ Cert.KernelDUDtIdeal.sig) → Buf (Elt Ideal) ℓ) (g : Dev Cert.KernelDUDtIdeal.nD → PrngReg), Pre_KernelDUDtIdeal m →
    θ_run (Cert.KernelDUDtIdeal.defs (F := Ideal)) (onTc (τ := Cert.KernelDUDtIdeal.τ) (Cert.KernelDUDtIdeal.main (F := Ideal))) ⟨m, fun _ => 0, g⟩ (fun r => (∀ c : Dev Cert.KernelDUDtIdeal.nD,
      r.2.mem ((c.tc : Thread Cert.KernelDUDtIdeal.nD Cert.KernelDUDtIdeal.τ).loc Cert.KernelDUDtIdeal.main_arg0) = m ((c.tc : Thread Cert.KernelDUDtIdeal.nD Cert.KernelDUDtIdeal.τ).loc Cert.KernelDUDtIdeal.main_arg0)
      ∧ r.2.mem ((c.tc : Thread Cert.KernelDUDtIdeal.nD Cert.KernelDUDtIdeal.τ).loc Cert.KernelDUDtIdeal.main_arg1) = m ((c.tc : Thread Cert.KernelDUDtIdeal.nD Cert.KernelDUDtIdeal.τ).loc Cert.KernelDUDtIdeal.main_arg1))
      ∧ r.2.sem = fun _ => 0)

def quiescent_ReferenceDUDtIdeal [hReferenceDUDtIdeal : Cert.ReferenceDUDtIdeal.Facts] : Prop :=
  ∀ (m : (ℓ : Loc Cert.ReferenceDUDtIdeal.nD Cert.ReferenceDUDtIdeal.τ Cert.ReferenceDUDtIdeal.sig) → Buf (Elt Ideal) ℓ) (g : Dev Cert.ReferenceDUDtIdeal.nD → PrngReg), Pre_ReferenceDUDtIdeal m →
    θ_run (Cert.ReferenceDUDtIdeal.defs (F := Ideal)) (onTc (τ := Cert.ReferenceDUDtIdeal.τ) (Cert.ReferenceDUDtIdeal.main (F := Ideal))) ⟨m, fun _ => 0, g⟩ (fun r => (∀ c : Dev Cert.ReferenceDUDtIdeal.nD,
      r.2.mem ((c.tc : Thread Cert.ReferenceDUDtIdeal.nD Cert.ReferenceDUDtIdeal.τ).loc Cert.ReferenceDUDtIdeal.main_arg0) = m ((c.tc : Thread Cert.ReferenceDUDtIdeal.nD Cert.ReferenceDUDtIdeal.τ).loc Cert.ReferenceDUDtIdeal.main_arg0)
      ∧ r.2.mem ((c.tc : Thread Cert.ReferenceDUDtIdeal.nD Cert.ReferenceDUDtIdeal.τ).loc Cert.ReferenceDUDtIdeal.main_arg1) = m ((c.tc : Thread Cert.ReferenceDUDtIdeal.nD Cert.ReferenceDUDtIdeal.τ).loc Cert.ReferenceDUDtIdeal.main_arg1))
      ∧ r.2.sem = fun _ => 0)

def quiescent_KernelY [hKernelY : Cert.KernelY.Facts] : Prop :=
  ∀ (m : (ℓ : Loc Cert.KernelY.nD Cert.KernelY.τ Cert.KernelY.sig) → Buf (Elt Bits) ℓ) (g : Dev Cert.KernelY.nD → PrngReg), Pre_KernelY m →
    θ_run (Cert.KernelY.defs (F := Bits)) (onTc (τ := Cert.KernelY.τ) (Cert.KernelY.main (F := Bits))) ⟨m, fun _ => 0, g⟩ (fun r => (∀ c : Dev Cert.KernelY.nD,
      r.2.mem ((c.tc : Thread Cert.KernelY.nD Cert.KernelY.τ).loc Cert.KernelY.main_arg0) = m ((c.tc : Thread Cert.KernelY.nD Cert.KernelY.τ).loc Cert.KernelY.main_arg0)
      ∧ r.2.mem ((c.tc : Thread Cert.KernelY.nD Cert.KernelY.τ).loc Cert.KernelY.main_arg1) = m ((c.tc : Thread Cert.KernelY.nD Cert.KernelY.τ).loc Cert.KernelY.main_arg1)
      ∧ r.2.mem ((c.tc : Thread Cert.KernelY.nD Cert.KernelY.τ).loc Cert.KernelY.main_arg2) = m ((c.tc : Thread Cert.KernelY.nD Cert.KernelY.τ).loc Cert.KernelY.main_arg2))
      ∧ r.2.sem = fun _ => 0)

def quiescent_KernelYIdeal [hKernelYIdeal : Cert.KernelYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg), Pre_KernelYIdeal m →
    θ_run (Cert.KernelYIdeal.defs (F := Ideal)) (onTc (τ := Cert.KernelYIdeal.τ) (Cert.KernelYIdeal.main (F := Ideal))) ⟨m, fun _ => 0, g⟩ (fun r => (∀ c : Dev Cert.KernelYIdeal.nD,
      r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
      ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1)
      ∧ r.2.mem ((c.tc : Thread Cert.KernelYIdeal.nD Cert.KernelYIdeal.τ).loc Cert.KernelYIdeal.main_arg2) = m ((c.tc : Thread Cert.KernelYIdeal.nD Cert.KernelYIdeal.τ).loc Cert.KernelYIdeal.main_arg2))
      ∧ r.2.sem = fun _ => 0)

def quiescent_ReferenceYIdeal [hReferenceYIdeal : Cert.ReferenceYIdeal.Facts] : Prop :=
  ∀ (m : (ℓ : Loc Cert.ReferenceYIdeal.nD Cert.ReferenceYIdeal.τ Cert.ReferenceYIdeal.sig) → Buf (Elt Ideal) ℓ) (g : Dev Cert.ReferenceYIdeal.nD → PrngReg), Pre_ReferenceYIdeal m →
    θ_run (Cert.ReferenceYIdeal.defs (F := Ideal)) (onTc (τ := Cert.ReferenceYIdeal.τ) (Cert.ReferenceYIdeal.main (F := Ideal))) ⟨m, fun _ => 0, g⟩ (fun r => (∀ c : Dev Cert.ReferenceYIdeal.nD,
      r.2.mem ((c.tc : Thread Cert.ReferenceYIdeal.nD Cert.ReferenceYIdeal.τ).loc Cert.ReferenceYIdeal.main_arg0) = m ((c.tc : Thread Cert.ReferenceYIdeal.nD Cert.ReferenceYIdeal.τ).loc Cert.ReferenceYIdeal.main_arg0)
      ∧ r.2.mem ((c.tc : Thread Cert.ReferenceYIdeal.nD Cert.ReferenceYIdeal.τ).loc Cert.ReferenceYIdeal.main_arg1) = m ((c.tc : Thread Cert.ReferenceYIdeal.nD Cert.ReferenceYIdeal.τ).loc Cert.ReferenceYIdeal.main_arg1)
      ∧ r.2.mem ((c.tc : Thread Cert.ReferenceYIdeal.nD Cert.ReferenceYIdeal.τ).loc Cert.ReferenceYIdeal.main_arg2) = m ((c.tc : Thread Cert.ReferenceYIdeal.nD Cert.ReferenceYIdeal.τ).loc Cert.ReferenceYIdeal.main_arg2))
      ∧ r.2.sem = fun _ => 0)

def quiescent_KernelSumIn [hKernelSumIn : Cert.KernelSumIn.Facts] : Prop :=
  ∀ (m : (ℓ : Loc Cert.KernelSumIn.nD Cert.KernelSumIn.τ Cert.KernelSumIn.sig) → Buf (Elt Bits) ℓ) (g : Dev Cert.KernelSumIn.nD → PrngReg), Pre_KernelSumIn m →
    θ_run (Cert.KernelSumIn.defs (F := Bits)) (onTc (τ := Cert.KernelSumIn.τ) (Cert.KernelSumIn.main (F := Bits))) ⟨m, fun _ => 0, g⟩ (fun r => (∀ c : Dev Cert.KernelSumIn.nD,
      r.2.mem ((c.tc : Thread Cert.KernelSumIn.nD Cert.KernelSumIn.τ).loc Cert.KernelSumIn.main_arg0) = m ((c.tc : Thread Cert.KernelSumIn.nD Cert.KernelSumIn.τ).loc Cert.KernelSumIn.main_arg0))
      ∧ r.2.sem = fun _ => 0)

def quiescent_KernelSumInIdeal [hKernelSumInIdeal : Cert.KernelSumInIdeal.Facts] : Prop :=
  ∀ (m : (ℓ : Loc Cert.KernelSumInIdeal.nD Cert.KernelSumInIdeal.τ Cert.KernelSumInIdeal.sig) → Buf (Elt Ideal) ℓ) (g : Dev Cert.KernelSumInIdeal.nD → PrngReg), Pre_KernelSumInIdeal m →
    θ_run (Cert.KernelSumInIdeal.defs (F := Ideal)) (onTc (τ := Cert.KernelSumInIdeal.τ) (Cert.KernelSumInIdeal.main (F := Ideal))) ⟨m, fun _ => 0, g⟩ (fun r => (∀ c : Dev Cert.KernelSumInIdeal.nD,
      r.2.mem ((c.tc : Thread Cert.KernelSumInIdeal.nD Cert.KernelSumInIdeal.τ).loc Cert.KernelSumInIdeal.main_arg0) = m ((c.tc : Thread Cert.KernelSumInIdeal.nD Cert.KernelSumInIdeal.τ).loc Cert.KernelSumInIdeal.main_arg0))
      ∧ r.2.sem = fun _ => 0)

def quiescent_ReferenceSumInIdeal [hReferenceSumInIdeal : Cert.ReferenceSumInIdeal.Facts] : Prop :=
  ∀ (m : (ℓ : Loc Cert.ReferenceSumInIdeal.nD Cert.ReferenceSumInIdeal.τ Cert.ReferenceSumInIdeal.sig) → Buf (Elt Ideal) ℓ) (g : Dev Cert.ReferenceSumInIdeal.nD → PrngReg), Pre_ReferenceSumInIdeal m →
    θ_run (Cert.ReferenceSumInIdeal.defs (F := Ideal)) (onTc (τ := Cert.ReferenceSumInIdeal.τ) (Cert.ReferenceSumInIdeal.main (F := Ideal))) ⟨m, fun _ => 0, g⟩ (fun r => (∀ c : Dev Cert.ReferenceSumInIdeal.nD,
      r.2.mem ((c.tc : Thread Cert.ReferenceSumInIdeal.nD Cert.ReferenceSumInIdeal.τ).loc Cert.ReferenceSumInIdeal.main_arg0) = m ((c.tc : Thread Cert.ReferenceSumInIdeal.nD Cert.ReferenceSumInIdeal.τ).loc Cert.ReferenceSumInIdeal.main_arg0))
      ∧ r.2.sem = fun _ => 0)

def quiescent_KernelSumUp [hKernelSumUp : Cert.KernelSumUp.Facts] : Prop :=
  ∀ (m : (ℓ : Loc Cert.KernelSumUp.nD Cert.KernelSumUp.τ Cert.KernelSumUp.sig) → Buf (Elt Bits) ℓ) (g : Dev Cert.KernelSumUp.nD → PrngReg), Pre_KernelSumUp m →
    θ_run (Cert.KernelSumUp.defs (F := Bits)) (onTc (τ := Cert.KernelSumUp.τ) (Cert.KernelSumUp.main (F := Bits))) ⟨m, fun _ => 0, g⟩ (fun r => (∀ c : Dev Cert.KernelSumUp.nD,
      r.2.mem ((c.tc : Thread Cert.KernelSumUp.nD Cert.KernelSumUp.τ).loc Cert.KernelSumUp.main_arg0) = m ((c.tc : Thread Cert.KernelSumUp.nD Cert.KernelSumUp.τ).loc Cert.KernelSumUp.main_arg0))
      ∧ r.2.sem = fun _ => 0)

def quiescent_KernelSumUpIdeal [hKernelSumUpIdeal : Cert.KernelSumUpIdeal.Facts] : Prop :=
  ∀ (m : (ℓ : Loc Cert.KernelSumUpIdeal.nD Cert.KernelSumUpIdeal.τ Cert.KernelSumUpIdeal.sig) → Buf (Elt Ideal) ℓ) (g : Dev Cert.KernelSumUpIdeal.nD → PrngReg), Pre_KernelSumUpIdeal m →
    θ_run (Cert.KernelSumUpIdeal.defs (F := Ideal)) (onTc (τ := Cert.KernelSumUpIdeal.τ) (Cert.KernelSumUpIdeal.main (F := Ideal))) ⟨m, fun _ => 0, g⟩ (fun r => (∀ c : Dev Cert.KernelSumUpIdeal.nD,
      r.2.mem ((c.tc : Thread Cert.KernelSumUpIdeal.nD Cert.KernelSumUpIdeal.τ).loc Cert.KernelSumUpIdeal.main_arg0) = m ((c.tc : Thread Cert.KernelSumUpIdeal.nD Cert.KernelSumUpIdeal.τ).loc Cert.KernelSumUpIdeal.main_arg0))
      ∧ r.2.sem = fun _ => 0)

def quiescent_ReferenceSumUpIdeal [hReferenceSumUpIdeal : Cert.ReferenceSumUpIdeal.Facts] : Prop :=
  ∀ (m : (ℓ : Loc Cert.ReferenceSumUpIdeal.nD Cert.ReferenceSumUpIdeal.τ Cert.ReferenceSumUpIdeal.sig) → Buf (Elt Ideal) ℓ) (g : Dev Cert.ReferenceSumUpIdeal.nD → PrngReg), Pre_ReferenceSumUpIdeal m →
    θ_run (Cert.ReferenceSumUpIdeal.defs (F := Ideal)) (onTc (τ := Cert.ReferenceSumUpIdeal.τ) (Cert.ReferenceSumUpIdeal.main (F := Ideal))) ⟨m, fun _ => 0, g⟩ (fun r => (∀ c : Dev Cert.ReferenceSumUpIdeal.nD,
      r.2.mem ((c.tc : Thread Cert.ReferenceSumUpIdeal.nD Cert.ReferenceSumUpIdeal.τ).loc Cert.ReferenceSumUpIdeal.main_arg0) = m ((c.tc : Thread Cert.ReferenceSumUpIdeal.nD Cert.ReferenceSumUpIdeal.τ).loc Cert.ReferenceSumUpIdeal.main_arg0))
      ∧ r.2.sem = fun _ => 0)

def quiescent_KernelSumDown [hKernelSumDown : Cert.KernelSumDown.Facts] : Prop :=
  ∀ (m : (ℓ : Loc Cert.KernelSumDown.nD Cert.KernelSumDown.τ Cert.KernelSumDown.sig) → Buf (Elt Bits) ℓ) (g : Dev Cert.KernelSumDown.nD → PrngReg), Pre_KernelSumDown m →
    θ_run (Cert.KernelSumDown.defs (F := Bits)) (onTc (τ := Cert.KernelSumDown.τ) (Cert.KernelSumDown.main (F := Bits))) ⟨m, fun _ => 0, g⟩ (fun r => (∀ c : Dev Cert.KernelSumDown.nD,
      r.2.mem ((c.tc : Thread Cert.KernelSumDown.nD Cert.KernelSumDown.τ).loc Cert.KernelSumDown.main_arg0) = m ((c.tc : Thread Cert.KernelSumDown.nD Cert.KernelSumDown.τ).loc Cert.KernelSumDown.main_arg0))
      ∧ r.2.sem = fun _ => 0)

def quiescent_KernelSumDownIdeal [hKernelSumDownIdeal : Cert.KernelSumDownIdeal.Facts] : Prop :=
  ∀ (m : (ℓ : Loc Cert.KernelSumDownIdeal.nD Cert.KernelSumDownIdeal.τ Cert.KernelSumDownIdeal.sig) → Buf (Elt Ideal) ℓ) (g : Dev Cert.KernelSumDownIdeal.nD → PrngReg), Pre_KernelSumDownIdeal m →
    θ_run (Cert.KernelSumDownIdeal.defs (F := Ideal)) (onTc (τ := Cert.KernelSumDownIdeal.τ) (Cert.KernelSumDownIdeal.main (F := Ideal))) ⟨m, fun _ => 0, g⟩ (fun r => (∀ c : Dev Cert.KernelSumDownIdeal.nD,
      r.2.mem ((c.tc : Thread Cert.KernelSumDownIdeal.nD Cert.KernelSumDownIdeal.τ).loc Cert.KernelSumDownIdeal.main_arg0) = m ((c.tc : Thread Cert.KernelSumDownIdeal.nD Cert.KernelSumDownIdeal.τ).loc Cert.KernelSumDownIdeal.main_arg0))
      ∧ r.2.sem = fun _ => 0)

def quiescent_ReferenceSumDownIdeal [hReferenceSumDownIdeal : Cert.ReferenceSumDownIdeal.Facts] : Prop :=
  ∀ (m : (ℓ : Loc Cert.ReferenceSumDownIdeal.nD Cert.ReferenceSumDownIdeal.τ Cert.ReferenceSumDownIdeal.sig) → Buf (Elt Ideal) ℓ) (g : Dev Cert.ReferenceSumDownIdeal.nD → PrngReg), Pre_ReferenceSumDownIdeal m →
    θ_run (Cert.ReferenceSumDownIdeal.defs (F := Ideal)) (onTc (τ := Cert.ReferenceSumDownIdeal.τ) (Cert.ReferenceSumDownIdeal.main (F := Ideal))) ⟨m, fun _ => 0, g⟩ (fun r => (∀ c : Dev Cert.ReferenceSumDownIdeal.nD,
      r.2.mem ((c.tc : Thread Cert.ReferenceSumDownIdeal.nD Cert.ReferenceSumDownIdeal.τ).loc Cert.ReferenceSumDownIdeal.main_arg0) = m ((c.tc : Thread Cert.ReferenceSumDownIdeal.nD Cert.ReferenceSumDownIdeal.τ).loc Cert.ReferenceSumDownIdeal.main_arg0))
      ∧ r.2.sem = fun _ => 0)

def quiescent_KernelSumSsd [hKernelSumSsd : Cert.KernelSumSsd.Facts] : Prop :=
  ∀ (m : (ℓ : Loc Cert.KernelSumSsd.nD Cert.KernelSumSsd.τ Cert.KernelSumSsd.sig) → Buf (Elt Bits) ℓ) (g : Dev Cert.KernelSumSsd.nD → PrngReg), Pre_KernelSumSsd m →
    θ_run (Cert.KernelSumSsd.defs (F := Bits)) (onTc (τ := Cert.KernelSumSsd.τ) (Cert.KernelSumSsd.main (F := Bits))) ⟨m, fun _ => 0, g⟩ (fun r => (∀ c : Dev Cert.KernelSumSsd.nD,
      r.2.mem ((c.tc : Thread Cert.KernelSumSsd.nD Cert.KernelSumSsd.τ).loc Cert.KernelSumSsd.main_arg0) = m ((c.tc : Thread Cert.KernelSumSsd.nD Cert.KernelSumSsd.τ).loc Cert.KernelSumSsd.main_arg0))
      ∧ r.2.sem = fun _ => 0)

def quiescent_KernelSumSsdIdeal [hKernelSumSsdIdeal : Cert.KernelSumSsdIdeal.Facts] : Prop :=
  ∀ (m : (ℓ : Loc Cert.KernelSumSsdIdeal.nD Cert.KernelSumSsdIdeal.τ Cert.KernelSumSsdIdeal.sig) → Buf (Elt Ideal) ℓ) (g : Dev Cert.KernelSumSsdIdeal.nD → PrngReg), Pre_KernelSumSsdIdeal m →
    θ_run (Cert.KernelSumSsdIdeal.defs (F := Ideal)) (onTc (τ := Cert.KernelSumSsdIdeal.τ) (Cert.KernelSumSsdIdeal.main (F := Ideal))) ⟨m, fun _ => 0, g⟩ (fun r => (∀ c : Dev Cert.KernelSumSsdIdeal.nD,
      r.2.mem ((c.tc : Thread Cert.KernelSumSsdIdeal.nD Cert.KernelSumSsdIdeal.τ).loc Cert.KernelSumSsdIdeal.main_arg0) = m ((c.tc : Thread Cert.KernelSumSsdIdeal.nD Cert.KernelSumSsdIdeal.τ).loc Cert.KernelSumSsdIdeal.main_arg0))
      ∧ r.2.sem = fun _ => 0)

def quiescent_ReferenceSumSsdIdeal [hReferenceSumSsdIdeal : Cert.ReferenceSumSsdIdeal.Facts] : Prop :=
  ∀ (m : (ℓ : Loc Cert.ReferenceSumSsdIdeal.nD Cert.ReferenceSumSsdIdeal.τ Cert.ReferenceSumSsdIdeal.sig) → Buf (Elt Ideal) ℓ) (g : Dev Cert.ReferenceSumSsdIdeal.nD → PrngReg), Pre_ReferenceSumSsdIdeal m →
    θ_run (Cert.ReferenceSumSsdIdeal.defs (F := Ideal)) (onTc (τ := Cert.ReferenceSumSsdIdeal.τ) (Cert.ReferenceSumSsdIdeal.main (F := Ideal))) ⟨m, fun _ => 0, g⟩ (fun r => (∀ c : Dev Cert.ReferenceSumSsdIdeal.nD,
      r.2.mem ((c.tc : Thread Cert.ReferenceSumSsdIdeal.nD Cert.ReferenceSumSsdIdeal.τ).loc Cert.ReferenceSumSsdIdeal.main_arg0) = m ((c.tc : Thread Cert.ReferenceSumSsdIdeal.nD Cert.ReferenceSumSsdIdeal.τ).loc Cert.ReferenceSumSsdIdeal.main_arg0))
      ∧ r.2.sem = fun _ => 0)

def quiescent_KernelSumRet [hKernelSumRet : Cert.KernelSumRet.Facts] : Prop :=
  ∀ (m : (ℓ : Loc Cert.KernelSumRet.nD Cert.KernelSumRet.τ Cert.KernelSumRet.sig) → Buf (Elt Bits) ℓ) (g : Dev Cert.KernelSumRet.nD → PrngReg), Pre_KernelSumRet m →
    θ_run (Cert.KernelSumRet.defs (F := Bits)) (onTc (τ := Cert.KernelSumRet.τ) (Cert.KernelSumRet.main (F := Bits))) ⟨m, fun _ => 0, g⟩ (fun r => (∀ c : Dev Cert.KernelSumRet.nD,
      r.2.mem ((c.tc : Thread Cert.KernelSumRet.nD Cert.KernelSumRet.τ).loc Cert.KernelSumRet.main_arg0) = m ((c.tc : Thread Cert.KernelSumRet.nD Cert.KernelSumRet.τ).loc Cert.KernelSumRet.main_arg0))
      ∧ r.2.sem = fun _ => 0)

def quiescent_KernelSumRetIdeal [hKernelSumRetIdeal : Cert.KernelSumRetIdeal.Facts] : Prop :=
  ∀ (m : (ℓ : Loc Cert.KernelSumRetIdeal.nD Cert.KernelSumRetIdeal.τ Cert.KernelSumRetIdeal.sig) → Buf (Elt Ideal) ℓ) (g : Dev Cert.KernelSumRetIdeal.nD → PrngReg), Pre_KernelSumRetIdeal m →
    θ_run (Cert.KernelSumRetIdeal.defs (F := Ideal)) (onTc (τ := Cert.KernelSumRetIdeal.τ) (Cert.KernelSumRetIdeal.main (F := Ideal))) ⟨m, fun _ => 0, g⟩ (fun r => (∀ c : Dev Cert.KernelSumRetIdeal.nD,
      r.2.mem ((c.tc : Thread Cert.KernelSumRetIdeal.nD Cert.KernelSumRetIdeal.τ).loc Cert.KernelSumRetIdeal.main_arg0) = m ((c.tc : Thread Cert.KernelSumRetIdeal.nD Cert.KernelSumRetIdeal.τ).loc Cert.KernelSumRetIdeal.main_arg0))
      ∧ r.2.sem = fun _ => 0)

def quiescent_ReferenceSumRetIdeal [hReferenceSumRetIdeal : Cert.ReferenceSumRetIdeal.Facts] : Prop :=
  ∀ (m : (ℓ : Loc Cert.ReferenceSumRetIdeal.nD Cert.ReferenceSumRetIdeal.τ Cert.ReferenceSumRetIdeal.sig) → Buf (Elt Ideal) ℓ) (g : Dev Cert.ReferenceSumRetIdeal.nD → PrngReg), Pre_ReferenceSumRetIdeal m →
    θ_run (Cert.ReferenceSumRetIdeal.defs (F := Ideal)) (onTc (τ := Cert.ReferenceSumRetIdeal.τ) (Cert.ReferenceSumRetIdeal.main (F := Ideal))) ⟨m, fun _ => 0, g⟩ (fun r => (∀ c : Dev Cert.ReferenceSumRetIdeal.nD,
      r.2.mem ((c.tc : Thread Cert.ReferenceSumRetIdeal.nD Cert.ReferenceSumRetIdeal.τ).loc Cert.ReferenceSumRetIdeal.main_arg0) = m ((c.tc : Thread Cert.ReferenceSumRetIdeal.nD Cert.ReferenceSumRetIdeal.τ).loc Cert.ReferenceSumRetIdeal.main_arg0))
      ∧ r.2.sem = fun _ => 0)

def quiescent_KernelSumSmall [hKernelSumSmall : Cert.KernelSumSmall.Facts] : Prop :=
  ∀ (m : (ℓ : Loc Cert.KernelSumSmall.nD Cert.KernelSumSmall.τ Cert.KernelSumSmall.sig) → Buf (Elt Bits) ℓ) (g : Dev Cert.KernelSumSmall.nD → PrngReg), Pre_KernelSumSmall m →
    θ_run (Cert.KernelSumSmall.defs (F := Bits)) (onTc (τ := Cert.KernelSumSmall.τ) (Cert.KernelSumSmall.main (F := Bits))) ⟨m, fun _ => 0, g⟩ (fun r => (∀ c : Dev Cert.KernelSumSmall.nD,
      r.2.mem ((c.tc : Thread Cert.KernelSumSmall.nD Cert.KernelSumSmall.τ).loc Cert.KernelSumSmall.main_arg0) = m ((c.tc : Thread Cert.KernelSumSmall.nD Cert.KernelSumSmall.τ).loc Cert.KernelSumSmall.main_arg0))
      ∧ r.2.sem = fun _ => 0)

def quiescent_KernelSumSmallIdeal [hKernelSumSmallIdeal : Cert.KernelSumSmallIdeal.Facts] : Prop :=
  ∀ (m : (ℓ : Loc Cert.KernelSumSmallIdeal.nD Cert.KernelSumSmallIdeal.τ Cert.KernelSumSmallIdeal.sig) → Buf (Elt Ideal) ℓ) (g : Dev Cert.KernelSumSmallIdeal.nD → PrngReg), Pre_KernelSumSmallIdeal m →
    θ_run (Cert.KernelSumSmallIdeal.defs (F := Ideal)) (onTc (τ := Cert.KernelSumSmallIdeal.τ) (Cert.KernelSumSmallIdeal.main (F := Ideal))) ⟨m, fun _ => 0, g⟩ (fun r => (∀ c : Dev Cert.KernelSumSmallIdeal.nD,
      r.2.mem ((c.tc : Thread Cert.KernelSumSmallIdeal.nD Cert.KernelSumSmallIdeal.τ).loc Cert.KernelSumSmallIdeal.main_arg0) = m ((c.tc : Thread Cert.KernelSumSmallIdeal.nD Cert.KernelSumSmallIdeal.τ).loc Cert.KernelSumSmallIdeal.main_arg0))
      ∧ r.2.sem = fun _ => 0)

def quiescent_ReferenceSumSmallIdeal [hReferenceSumSmallIdeal : Cert.ReferenceSumSmallIdeal.Facts] : Prop :=
  ∀ (m : (ℓ : Loc Cert.ReferenceSumSmallIdeal.nD Cert.ReferenceSumSmallIdeal.τ Cert.ReferenceSumSmallIdeal.sig) → Buf (Elt Ideal) ℓ) (g : Dev Cert.ReferenceSumSmallIdeal.nD → PrngReg), Pre_ReferenceSumSmallIdeal m →
    θ_run (Cert.ReferenceSumSmallIdeal.defs (F := Ideal)) (onTc (τ := Cert.ReferenceSumSmallIdeal.τ) (Cert.ReferenceSumSmallIdeal.main (F := Ideal))) ⟨m, fun _ => 0, g⟩ (fun r => (∀ c : Dev Cert.ReferenceSumSmallIdeal.nD,
      r.2.mem ((c.tc : Thread Cert.ReferenceSumSmallIdeal.nD Cert.ReferenceSumSmallIdeal.τ).loc Cert.ReferenceSumSmallIdeal.main_arg0) = m ((c.tc : Thread Cert.ReferenceSumSmallIdeal.nD Cert.ReferenceSumSmallIdeal.τ).loc Cert.ReferenceSumSmallIdeal.main_arg0))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3))
      ∧ r.2.sem = fun _ => 0)

def quiescent_KernelAdamUp [hKernelAdamUp : Cert.KernelAdamUp.Facts] : Prop :=
  ∀ (m : (ℓ : Loc Cert.KernelAdamUp.nD Cert.KernelAdamUp.τ Cert.KernelAdamUp.sig) → Buf (Elt Bits) ℓ) (g : Dev Cert.KernelAdamUp.nD → PrngReg), Pre_KernelAdamUp m →
    θ_run (Cert.KernelAdamUp.defs (F := Bits)) (onTc (τ := Cert.KernelAdamUp.τ) (Cert.KernelAdamUp.main (F := Bits))) ⟨m, fun _ => 0, g⟩ (fun r => (∀ c : Dev Cert.KernelAdamUp.nD,
      r.2.mem ((c.tc : Thread Cert.KernelAdamUp.nD Cert.KernelAdamUp.τ).loc Cert.KernelAdamUp.main_arg0) = m ((c.tc : Thread Cert.KernelAdamUp.nD Cert.KernelAdamUp.τ).loc Cert.KernelAdamUp.main_arg0)
      ∧ r.2.mem ((c.tc : Thread Cert.KernelAdamUp.nD Cert.KernelAdamUp.τ).loc Cert.KernelAdamUp.main_arg1) = m ((c.tc : Thread Cert.KernelAdamUp.nD Cert.KernelAdamUp.τ).loc Cert.KernelAdamUp.main_arg1)
      ∧ r.2.mem ((c.tc : Thread Cert.KernelAdamUp.nD Cert.KernelAdamUp.τ).loc Cert.KernelAdamUp.main_arg2) = m ((c.tc : Thread Cert.KernelAdamUp.nD Cert.KernelAdamUp.τ).loc Cert.KernelAdamUp.main_arg2)
      ∧ r.2.mem ((c.tc : Thread Cert.KernelAdamUp.nD Cert.KernelAdamUp.τ).loc Cert.KernelAdamUp.main_arg3) = m ((c.tc : Thread Cert.KernelAdamUp.nD Cert.KernelAdamUp.τ).loc Cert.KernelAdamUp.main_arg3))
      ∧ r.2.sem = fun _ => 0)

def quiescent_KernelAdamUpIdeal [hKernelAdamUpIdeal : Cert.KernelAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg), Pre_KernelAdamUpIdeal m →
    θ_run (Cert.KernelAdamUpIdeal.defs (F := Ideal)) (onTc (τ := Cert.KernelAdamUpIdeal.τ) (Cert.KernelAdamUpIdeal.main (F := Ideal))) ⟨m, fun _ => 0, g⟩ (fun r => (∀ c : Dev Cert.KernelAdamUpIdeal.nD,
      r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
      ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
      ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
      ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3))
      ∧ r.2.sem = fun _ => 0)

def quiescent_ReferenceAdamUpIdeal [hReferenceAdamUpIdeal : Cert.ReferenceAdamUpIdeal.Facts] : Prop :=
  ∀ (m : (ℓ : Loc Cert.ReferenceAdamUpIdeal.nD Cert.ReferenceAdamUpIdeal.τ Cert.ReferenceAdamUpIdeal.sig) → Buf (Elt Ideal) ℓ) (g : Dev Cert.ReferenceAdamUpIdeal.nD → PrngReg), Pre_ReferenceAdamUpIdeal m →
    θ_run (Cert.ReferenceAdamUpIdeal.defs (F := Ideal)) (onTc (τ := Cert.ReferenceAdamUpIdeal.τ) (Cert.ReferenceAdamUpIdeal.main (F := Ideal))) ⟨m, fun _ => 0, g⟩ (fun r => (∀ c : Dev Cert.ReferenceAdamUpIdeal.nD,
      r.2.mem ((c.tc : Thread Cert.ReferenceAdamUpIdeal.nD Cert.ReferenceAdamUpIdeal.τ).loc Cert.ReferenceAdamUpIdeal.main_arg0) = m ((c.tc : Thread Cert.ReferenceAdamUpIdeal.nD Cert.ReferenceAdamUpIdeal.τ).loc Cert.ReferenceAdamUpIdeal.main_arg0)
      ∧ r.2.mem ((c.tc : Thread Cert.ReferenceAdamUpIdeal.nD Cert.ReferenceAdamUpIdeal.τ).loc Cert.ReferenceAdamUpIdeal.main_arg1) = m ((c.tc : Thread Cert.ReferenceAdamUpIdeal.nD Cert.ReferenceAdamUpIdeal.τ).loc Cert.ReferenceAdamUpIdeal.main_arg1)
      ∧ r.2.mem ((c.tc : Thread Cert.ReferenceAdamUpIdeal.nD Cert.ReferenceAdamUpIdeal.τ).loc Cert.ReferenceAdamUpIdeal.main_arg2) = m ((c.tc : Thread Cert.ReferenceAdamUpIdeal.nD Cert.ReferenceAdamUpIdeal.τ).loc Cert.ReferenceAdamUpIdeal.main_arg2)
      ∧ r.2.mem ((c.tc : Thread Cert.ReferenceAdamUpIdeal.nD Cert.ReferenceAdamUpIdeal.τ).loc Cert.ReferenceAdamUpIdeal.main_arg3) = m ((c.tc : Thread Cert.ReferenceAdamUpIdeal.nD Cert.ReferenceAdamUpIdeal.τ).loc Cert.ReferenceAdamUpIdeal.main_arg3))
      ∧ r.2.sem = fun _ => 0)

def quiescent_KernelAdamDown [hKernelAdamDown : Cert.KernelAdamDown.Facts] : Prop :=
  ∀ (m : (ℓ : Loc Cert.KernelAdamDown.nD Cert.KernelAdamDown.τ Cert.KernelAdamDown.sig) → Buf (Elt Bits) ℓ) (g : Dev Cert.KernelAdamDown.nD → PrngReg), Pre_KernelAdamDown m →
    θ_run (Cert.KernelAdamDown.defs (F := Bits)) (onTc (τ := Cert.KernelAdamDown.τ) (Cert.KernelAdamDown.main (F := Bits))) ⟨m, fun _ => 0, g⟩ (fun r => (∀ c : Dev Cert.KernelAdamDown.nD,
      r.2.mem ((c.tc : Thread Cert.KernelAdamDown.nD Cert.KernelAdamDown.τ).loc Cert.KernelAdamDown.main_arg0) = m ((c.tc : Thread Cert.KernelAdamDown.nD Cert.KernelAdamDown.τ).loc Cert.KernelAdamDown.main_arg0)
      ∧ r.2.mem ((c.tc : Thread Cert.KernelAdamDown.nD Cert.KernelAdamDown.τ).loc Cert.KernelAdamDown.main_arg1) = m ((c.tc : Thread Cert.KernelAdamDown.nD Cert.KernelAdamDown.τ).loc Cert.KernelAdamDown.main_arg1)
      ∧ r.2.mem ((c.tc : Thread Cert.KernelAdamDown.nD Cert.KernelAdamDown.τ).loc Cert.KernelAdamDown.main_arg2) = m ((c.tc : Thread Cert.KernelAdamDown.nD Cert.KernelAdamDown.τ).loc Cert.KernelAdamDown.main_arg2)
      ∧ r.2.mem ((c.tc : Thread Cert.KernelAdamDown.nD Cert.KernelAdamDown.τ).loc Cert.KernelAdamDown.main_arg3) = m ((c.tc : Thread Cert.KernelAdamDown.nD Cert.KernelAdamDown.τ).loc Cert.KernelAdamDown.main_arg3))
      ∧ r.2.sem = fun _ => 0)

def quiescent_KernelAdamDownIdeal [hKernelAdamDownIdeal : Cert.KernelAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg), Pre_KernelAdamDownIdeal m →
    θ_run (Cert.KernelAdamDownIdeal.defs (F := Ideal)) (onTc (τ := Cert.KernelAdamDownIdeal.τ) (Cert.KernelAdamDownIdeal.main (F := Ideal))) ⟨m, fun _ => 0, g⟩ (fun r => (∀ c : Dev Cert.KernelAdamDownIdeal.nD,
      r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
      ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
      ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
      ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3))
      ∧ r.2.sem = fun _ => 0)

def quiescent_ReferenceAdamDownIdeal [hReferenceAdamDownIdeal : Cert.ReferenceAdamDownIdeal.Facts] : Prop :=
  ∀ (m : (ℓ : Loc Cert.ReferenceAdamDownIdeal.nD Cert.ReferenceAdamDownIdeal.τ Cert.ReferenceAdamDownIdeal.sig) → Buf (Elt Ideal) ℓ) (g : Dev Cert.ReferenceAdamDownIdeal.nD → PrngReg), Pre_ReferenceAdamDownIdeal m →
    θ_run (Cert.ReferenceAdamDownIdeal.defs (F := Ideal)) (onTc (τ := Cert.ReferenceAdamDownIdeal.τ) (Cert.ReferenceAdamDownIdeal.main (F := Ideal))) ⟨m, fun _ => 0, g⟩ (fun r => (∀ c : Dev Cert.ReferenceAdamDownIdeal.nD,
      r.2.mem ((c.tc : Thread Cert.ReferenceAdamDownIdeal.nD Cert.ReferenceAdamDownIdeal.τ).loc Cert.ReferenceAdamDownIdeal.main_arg0) = m ((c.tc : Thread Cert.ReferenceAdamDownIdeal.nD Cert.ReferenceAdamDownIdeal.τ).loc Cert.ReferenceAdamDownIdeal.main_arg0)
      ∧ r.2.mem ((c.tc : Thread Cert.ReferenceAdamDownIdeal.nD Cert.ReferenceAdamDownIdeal.τ).loc Cert.ReferenceAdamDownIdeal.main_arg1) = m ((c.tc : Thread Cert.ReferenceAdamDownIdeal.nD Cert.ReferenceAdamDownIdeal.τ).loc Cert.ReferenceAdamDownIdeal.main_arg1)
      ∧ r.2.mem ((c.tc : Thread Cert.ReferenceAdamDownIdeal.nD Cert.ReferenceAdamDownIdeal.τ).loc Cert.ReferenceAdamDownIdeal.main_arg2) = m ((c.tc : Thread Cert.ReferenceAdamDownIdeal.nD Cert.ReferenceAdamDownIdeal.τ).loc Cert.ReferenceAdamDownIdeal.main_arg2)
      ∧ r.2.mem ((c.tc : Thread Cert.ReferenceAdamDownIdeal.nD Cert.ReferenceAdamDownIdeal.τ).loc Cert.ReferenceAdamDownIdeal.main_arg3) = m ((c.tc : Thread Cert.ReferenceAdamDownIdeal.nD Cert.ReferenceAdamDownIdeal.τ).loc Cert.ReferenceAdamDownIdeal.main_arg3))
      ∧ r.2.sem = fun _ => 0)

def quiescent_KernelAdamSsd [hKernelAdamSsd : Cert.KernelAdamSsd.Facts] : Prop :=
  ∀ (m : (ℓ : Loc Cert.KernelAdamSsd.nD Cert.KernelAdamSsd.τ Cert.KernelAdamSsd.sig) → Buf (Elt Bits) ℓ) (g : Dev Cert.KernelAdamSsd.nD → PrngReg), Pre_KernelAdamSsd m →
    θ_run (Cert.KernelAdamSsd.defs (F := Bits)) (onTc (τ := Cert.KernelAdamSsd.τ) (Cert.KernelAdamSsd.main (F := Bits))) ⟨m, fun _ => 0, g⟩ (fun r => (∀ c : Dev Cert.KernelAdamSsd.nD,
      r.2.mem ((c.tc : Thread Cert.KernelAdamSsd.nD Cert.KernelAdamSsd.τ).loc Cert.KernelAdamSsd.main_arg0) = m ((c.tc : Thread Cert.KernelAdamSsd.nD Cert.KernelAdamSsd.τ).loc Cert.KernelAdamSsd.main_arg0)
      ∧ r.2.mem ((c.tc : Thread Cert.KernelAdamSsd.nD Cert.KernelAdamSsd.τ).loc Cert.KernelAdamSsd.main_arg1) = m ((c.tc : Thread Cert.KernelAdamSsd.nD Cert.KernelAdamSsd.τ).loc Cert.KernelAdamSsd.main_arg1)
      ∧ r.2.mem ((c.tc : Thread Cert.KernelAdamSsd.nD Cert.KernelAdamSsd.τ).loc Cert.KernelAdamSsd.main_arg2) = m ((c.tc : Thread Cert.KernelAdamSsd.nD Cert.KernelAdamSsd.τ).loc Cert.KernelAdamSsd.main_arg2)
      ∧ r.2.mem ((c.tc : Thread Cert.KernelAdamSsd.nD Cert.KernelAdamSsd.τ).loc Cert.KernelAdamSsd.main_arg3) = m ((c.tc : Thread Cert.KernelAdamSsd.nD Cert.KernelAdamSsd.τ).loc Cert.KernelAdamSsd.main_arg3))
      ∧ r.2.sem = fun _ => 0)

def quiescent_KernelAdamSsdIdeal [hKernelAdamSsdIdeal : Cert.KernelAdamSsdIdeal.Facts] : Prop :=
  ∀ (m : (ℓ : Loc Cert.KernelAdamSsdIdeal.nD Cert.KernelAdamSsdIdeal.τ Cert.KernelAdamSsdIdeal.sig) → Buf (Elt Ideal) ℓ) (g : Dev Cert.KernelAdamSsdIdeal.nD → PrngReg), Pre_KernelAdamSsdIdeal m →
    θ_run (Cert.KernelAdamSsdIdeal.defs (F := Ideal)) (onTc (τ := Cert.KernelAdamSsdIdeal.τ) (Cert.KernelAdamSsdIdeal.main (F := Ideal))) ⟨m, fun _ => 0, g⟩ (fun r => (∀ c : Dev Cert.KernelAdamSsdIdeal.nD,
      r.2.mem ((c.tc : Thread Cert.KernelAdamSsdIdeal.nD Cert.KernelAdamSsdIdeal.τ).loc Cert.KernelAdamSsdIdeal.main_arg0) = m ((c.tc : Thread Cert.KernelAdamSsdIdeal.nD Cert.KernelAdamSsdIdeal.τ).loc Cert.KernelAdamSsdIdeal.main_arg0)
      ∧ r.2.mem ((c.tc : Thread Cert.KernelAdamSsdIdeal.nD Cert.KernelAdamSsdIdeal.τ).loc Cert.KernelAdamSsdIdeal.main_arg1) = m ((c.tc : Thread Cert.KernelAdamSsdIdeal.nD Cert.KernelAdamSsdIdeal.τ).loc Cert.KernelAdamSsdIdeal.main_arg1)
      ∧ r.2.mem ((c.tc : Thread Cert.KernelAdamSsdIdeal.nD Cert.KernelAdamSsdIdeal.τ).loc Cert.KernelAdamSsdIdeal.main_arg2) = m ((c.tc : Thread Cert.KernelAdamSsdIdeal.nD Cert.KernelAdamSsdIdeal.τ).loc Cert.KernelAdamSsdIdeal.main_arg2)
      ∧ r.2.mem ((c.tc : Thread Cert.KernelAdamSsdIdeal.nD Cert.KernelAdamSsdIdeal.τ).loc Cert.KernelAdamSsdIdeal.main_arg3) = m ((c.tc : Thread Cert.KernelAdamSsdIdeal.nD Cert.KernelAdamSsdIdeal.τ).loc Cert.KernelAdamSsdIdeal.main_arg3))
      ∧ r.2.sem = fun _ => 0)

def quiescent_ReferenceAdamSsdIdeal [hReferenceAdamSsdIdeal : Cert.ReferenceAdamSsdIdeal.Facts] : Prop :=
  ∀ (m : (ℓ : Loc Cert.ReferenceAdamSsdIdeal.nD Cert.ReferenceAdamSsdIdeal.τ Cert.ReferenceAdamSsdIdeal.sig) → Buf (Elt Ideal) ℓ) (g : Dev Cert.ReferenceAdamSsdIdeal.nD → PrngReg), Pre_ReferenceAdamSsdIdeal m →
    θ_run (Cert.ReferenceAdamSsdIdeal.defs (F := Ideal)) (onTc (τ := Cert.ReferenceAdamSsdIdeal.τ) (Cert.ReferenceAdamSsdIdeal.main (F := Ideal))) ⟨m, fun _ => 0, g⟩ (fun r => (∀ c : Dev Cert.ReferenceAdamSsdIdeal.nD,
      r.2.mem ((c.tc : Thread Cert.ReferenceAdamSsdIdeal.nD Cert.ReferenceAdamSsdIdeal.τ).loc Cert.ReferenceAdamSsdIdeal.main_arg0) = m ((c.tc : Thread Cert.ReferenceAdamSsdIdeal.nD Cert.ReferenceAdamSsdIdeal.τ).loc Cert.ReferenceAdamSsdIdeal.main_arg0)
      ∧ r.2.mem ((c.tc : Thread Cert.ReferenceAdamSsdIdeal.nD Cert.ReferenceAdamSsdIdeal.τ).loc Cert.ReferenceAdamSsdIdeal.main_arg1) = m ((c.tc : Thread Cert.ReferenceAdamSsdIdeal.nD Cert.ReferenceAdamSsdIdeal.τ).loc Cert.ReferenceAdamSsdIdeal.main_arg1)
      ∧ r.2.mem ((c.tc : Thread Cert.ReferenceAdamSsdIdeal.nD Cert.ReferenceAdamSsdIdeal.τ).loc Cert.ReferenceAdamSsdIdeal.main_arg2) = m ((c.tc : Thread Cert.ReferenceAdamSsdIdeal.nD Cert.ReferenceAdamSsdIdeal.τ).loc Cert.ReferenceAdamSsdIdeal.main_arg2)
      ∧ r.2.mem ((c.tc : Thread Cert.ReferenceAdamSsdIdeal.nD Cert.ReferenceAdamSsdIdeal.τ).loc Cert.ReferenceAdamSsdIdeal.main_arg3) = m ((c.tc : Thread Cert.ReferenceAdamSsdIdeal.nD Cert.ReferenceAdamSsdIdeal.τ).loc Cert.ReferenceAdamSsdIdeal.main_arg3))
      ∧ r.2.sem = fun _ => 0)

def quiescent_KernelAdamRet [hKernelAdamRet : Cert.KernelAdamRet.Facts] : Prop :=
  ∀ (m : (ℓ : Loc Cert.KernelAdamRet.nD Cert.KernelAdamRet.τ Cert.KernelAdamRet.sig) → Buf (Elt Bits) ℓ) (g : Dev Cert.KernelAdamRet.nD → PrngReg), Pre_KernelAdamRet m →
    θ_run (Cert.KernelAdamRet.defs (F := Bits)) (onTc (τ := Cert.KernelAdamRet.τ) (Cert.KernelAdamRet.main (F := Bits))) ⟨m, fun _ => 0, g⟩ (fun r => (∀ c : Dev Cert.KernelAdamRet.nD,
      r.2.mem ((c.tc : Thread Cert.KernelAdamRet.nD Cert.KernelAdamRet.τ).loc Cert.KernelAdamRet.main_arg0) = m ((c.tc : Thread Cert.KernelAdamRet.nD Cert.KernelAdamRet.τ).loc Cert.KernelAdamRet.main_arg0)
      ∧ r.2.mem ((c.tc : Thread Cert.KernelAdamRet.nD Cert.KernelAdamRet.τ).loc Cert.KernelAdamRet.main_arg1) = m ((c.tc : Thread Cert.KernelAdamRet.nD Cert.KernelAdamRet.τ).loc Cert.KernelAdamRet.main_arg1)
      ∧ r.2.mem ((c.tc : Thread Cert.KernelAdamRet.nD Cert.KernelAdamRet.τ).loc Cert.KernelAdamRet.main_arg2) = m ((c.tc : Thread Cert.KernelAdamRet.nD Cert.KernelAdamRet.τ).loc Cert.KernelAdamRet.main_arg2)
      ∧ r.2.mem ((c.tc : Thread Cert.KernelAdamRet.nD Cert.KernelAdamRet.τ).loc Cert.KernelAdamRet.main_arg3) = m ((c.tc : Thread Cert.KernelAdamRet.nD Cert.KernelAdamRet.τ).loc Cert.KernelAdamRet.main_arg3))
      ∧ r.2.sem = fun _ => 0)

def quiescent_KernelAdamRetIdeal [hKernelAdamRetIdeal : Cert.KernelAdamRetIdeal.Facts] : Prop :=
  ∀ (m : (ℓ : Loc Cert.KernelAdamRetIdeal.nD Cert.KernelAdamRetIdeal.τ Cert.KernelAdamRetIdeal.sig) → Buf (Elt Ideal) ℓ) (g : Dev Cert.KernelAdamRetIdeal.nD → PrngReg), Pre_KernelAdamRetIdeal m →
    θ_run (Cert.KernelAdamRetIdeal.defs (F := Ideal)) (onTc (τ := Cert.KernelAdamRetIdeal.τ) (Cert.KernelAdamRetIdeal.main (F := Ideal))) ⟨m, fun _ => 0, g⟩ (fun r => (∀ c : Dev Cert.KernelAdamRetIdeal.nD,
      r.2.mem ((c.tc : Thread Cert.KernelAdamRetIdeal.nD Cert.KernelAdamRetIdeal.τ).loc Cert.KernelAdamRetIdeal.main_arg0) = m ((c.tc : Thread Cert.KernelAdamRetIdeal.nD Cert.KernelAdamRetIdeal.τ).loc Cert.KernelAdamRetIdeal.main_arg0)
      ∧ r.2.mem ((c.tc : Thread Cert.KernelAdamRetIdeal.nD Cert.KernelAdamRetIdeal.τ).loc Cert.KernelAdamRetIdeal.main_arg1) = m ((c.tc : Thread Cert.KernelAdamRetIdeal.nD Cert.KernelAdamRetIdeal.τ).loc Cert.KernelAdamRetIdeal.main_arg1)
      ∧ r.2.mem ((c.tc : Thread Cert.KernelAdamRetIdeal.nD Cert.KernelAdamRetIdeal.τ).loc Cert.KernelAdamRetIdeal.main_arg2) = m ((c.tc : Thread Cert.KernelAdamRetIdeal.nD Cert.KernelAdamRetIdeal.τ).loc Cert.KernelAdamRetIdeal.main_arg2)
      ∧ r.2.mem ((c.tc : Thread Cert.KernelAdamRetIdeal.nD Cert.KernelAdamRetIdeal.τ).loc Cert.KernelAdamRetIdeal.main_arg3) = m ((c.tc : Thread Cert.KernelAdamRetIdeal.nD Cert.KernelAdamRetIdeal.τ).loc Cert.KernelAdamRetIdeal.main_arg3))
      ∧ r.2.sem = fun _ => 0)

def quiescent_ReferenceAdamRetIdeal [hReferenceAdamRetIdeal : Cert.ReferenceAdamRetIdeal.Facts] : Prop :=
  ∀ (m : (ℓ : Loc Cert.ReferenceAdamRetIdeal.nD Cert.ReferenceAdamRetIdeal.τ Cert.ReferenceAdamRetIdeal.sig) → Buf (Elt Ideal) ℓ) (g : Dev Cert.ReferenceAdamRetIdeal.nD → PrngReg), Pre_ReferenceAdamRetIdeal m →
    θ_run (Cert.ReferenceAdamRetIdeal.defs (F := Ideal)) (onTc (τ := Cert.ReferenceAdamRetIdeal.τ) (Cert.ReferenceAdamRetIdeal.main (F := Ideal))) ⟨m, fun _ => 0, g⟩ (fun r => (∀ c : Dev Cert.ReferenceAdamRetIdeal.nD,
      r.2.mem ((c.tc : Thread Cert.ReferenceAdamRetIdeal.nD Cert.ReferenceAdamRetIdeal.τ).loc Cert.ReferenceAdamRetIdeal.main_arg0) = m ((c.tc : Thread Cert.ReferenceAdamRetIdeal.nD Cert.ReferenceAdamRetIdeal.τ).loc Cert.ReferenceAdamRetIdeal.main_arg0)
      ∧ r.2.mem ((c.tc : Thread Cert.ReferenceAdamRetIdeal.nD Cert.ReferenceAdamRetIdeal.τ).loc Cert.ReferenceAdamRetIdeal.main_arg1) = m ((c.tc : Thread Cert.ReferenceAdamRetIdeal.nD Cert.ReferenceAdamRetIdeal.τ).loc Cert.ReferenceAdamRetIdeal.main_arg1)
      ∧ r.2.mem ((c.tc : Thread Cert.ReferenceAdamRetIdeal.nD Cert.ReferenceAdamRetIdeal.τ).loc Cert.ReferenceAdamRetIdeal.main_arg2) = m ((c.tc : Thread Cert.ReferenceAdamRetIdeal.nD Cert.ReferenceAdamRetIdeal.τ).loc Cert.ReferenceAdamRetIdeal.main_arg2)
      ∧ r.2.mem ((c.tc : Thread Cert.ReferenceAdamRetIdeal.nD Cert.ReferenceAdamRetIdeal.τ).loc Cert.ReferenceAdamRetIdeal.main_arg3) = m ((c.tc : Thread Cert.ReferenceAdamRetIdeal.nD Cert.ReferenceAdamRetIdeal.τ).loc Cert.ReferenceAdamRetIdeal.main_arg3))
      ∧ r.2.sem = fun _ => 0)

def quiescent_KernelAdamSmall [hKernelAdamSmall : Cert.KernelAdamSmall.Facts] : Prop :=
  ∀ (m : (ℓ : Loc Cert.KernelAdamSmall.nD Cert.KernelAdamSmall.τ Cert.KernelAdamSmall.sig) → Buf (Elt Bits) ℓ) (g : Dev Cert.KernelAdamSmall.nD → PrngReg), Pre_KernelAdamSmall m →
    θ_run (Cert.KernelAdamSmall.defs (F := Bits)) (onTc (τ := Cert.KernelAdamSmall.τ) (Cert.KernelAdamSmall.main (F := Bits))) ⟨m, fun _ => 0, g⟩ (fun r => (∀ c : Dev Cert.KernelAdamSmall.nD,
      r.2.mem ((c.tc : Thread Cert.KernelAdamSmall.nD Cert.KernelAdamSmall.τ).loc Cert.KernelAdamSmall.main_arg0) = m ((c.tc : Thread Cert.KernelAdamSmall.nD Cert.KernelAdamSmall.τ).loc Cert.KernelAdamSmall.main_arg0)
      ∧ r.2.mem ((c.tc : Thread Cert.KernelAdamSmall.nD Cert.KernelAdamSmall.τ).loc Cert.KernelAdamSmall.main_arg1) = m ((c.tc : Thread Cert.KernelAdamSmall.nD Cert.KernelAdamSmall.τ).loc Cert.KernelAdamSmall.main_arg1)
      ∧ r.2.mem ((c.tc : Thread Cert.KernelAdamSmall.nD Cert.KernelAdamSmall.τ).loc Cert.KernelAdamSmall.main_arg2) = m ((c.tc : Thread Cert.KernelAdamSmall.nD Cert.KernelAdamSmall.τ).loc Cert.KernelAdamSmall.main_arg2)
      ∧ r.2.mem ((c.tc : Thread Cert.KernelAdamSmall.nD Cert.KernelAdamSmall.τ).loc Cert.KernelAdamSmall.main_arg3) = m ((c.tc : Thread Cert.KernelAdamSmall.nD Cert.KernelAdamSmall.τ).loc Cert.KernelAdamSmall.main_arg3))
      ∧ r.2.sem = fun _ => 0)

def quiescent_KernelAdamSmallIdeal [hKernelAdamSmallIdeal : Cert.KernelAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg), Pre_KernelAdamSmallIdeal m →
    θ_run (Cert.KernelAdamSmallIdeal.defs (F := Ideal)) (onTc (τ := Cert.KernelAdamSmallIdeal.τ) (Cert.KernelAdamSmallIdeal.main (F := Ideal))) ⟨m, fun _ => 0, g⟩ (fun r => (∀ c : Dev Cert.KernelAdamSmallIdeal.nD,
      r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
      ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
      ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
      ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ r.2.sem = fun _ => 0)

def quiescent_ReferenceAdamSmallIdeal [hReferenceAdamSmallIdeal : Cert.ReferenceAdamSmallIdeal.Facts] : Prop :=
  ∀ (m : (ℓ : Loc Cert.ReferenceAdamSmallIdeal.nD Cert.ReferenceAdamSmallIdeal.τ Cert.ReferenceAdamSmallIdeal.sig) → Buf (Elt Ideal) ℓ) (g : Dev Cert.ReferenceAdamSmallIdeal.nD → PrngReg), Pre_ReferenceAdamSmallIdeal m →
    θ_run (Cert.ReferenceAdamSmallIdeal.defs (F := Ideal)) (onTc (τ := Cert.ReferenceAdamSmallIdeal.τ) (Cert.ReferenceAdamSmallIdeal.main (F := Ideal))) ⟨m, fun _ => 0, g⟩ (fun r => (∀ c : Dev Cert.ReferenceAdamSmallIdeal.nD,
      r.2.mem ((c.tc : Thread Cert.ReferenceAdamSmallIdeal.nD Cert.ReferenceAdamSmallIdeal.τ).loc Cert.ReferenceAdamSmallIdeal.main_arg0) = m ((c.tc : Thread Cert.ReferenceAdamSmallIdeal.nD Cert.ReferenceAdamSmallIdeal.τ).loc Cert.ReferenceAdamSmallIdeal.main_arg0)
      ∧ r.2.mem ((c.tc : Thread Cert.ReferenceAdamSmallIdeal.nD Cert.ReferenceAdamSmallIdeal.τ).loc Cert.ReferenceAdamSmallIdeal.main_arg1) = m ((c.tc : Thread Cert.ReferenceAdamSmallIdeal.nD Cert.ReferenceAdamSmallIdeal.τ).loc Cert.ReferenceAdamSmallIdeal.main_arg1)
      ∧ r.2.mem ((c.tc : Thread Cert.ReferenceAdamSmallIdeal.nD Cert.ReferenceAdamSmallIdeal.τ).loc Cert.ReferenceAdamSmallIdeal.main_arg2) = m ((c.tc : Thread Cert.ReferenceAdamSmallIdeal.nD Cert.ReferenceAdamSmallIdeal.τ).loc Cert.ReferenceAdamSmallIdeal.main_arg2)
      ∧ r.2.mem ((c.tc : Thread Cert.ReferenceAdamSmallIdeal.nD Cert.ReferenceAdamSmallIdeal.τ).loc Cert.ReferenceAdamSmallIdeal.main_arg3) = m ((c.tc : Thread Cert.ReferenceAdamSmallIdeal.nD Cert.ReferenceAdamSmallIdeal.τ).loc Cert.ReferenceAdamSmallIdeal.main_arg3))
      ∧ r.2.sem = fun _ => 0)

def preserves_KernelDq_KernelDqIdeal : Prop :=
  IdealRules.named_const.Statement Cert.KernelDqIdeal.κ "log_gamma_2" .f32 0xBC0080AC#32 ((Real.log (127 / 128) : ℝ) : EReal)
  ∧ IdealRules.named_const.Statement Cert.KernelDqIdeal.κ "log_gamma_3" .f32 0xBB80402B#32 ((Real.log (255 / 256) : ℝ) : EReal)
  ∧ IdealRules.named_const.Statement Cert.KernelDqIdeal.κ "log_gamma_1" .f32 0xBC8102B3#32 ((Real.log (63 / 64) : ℝ) : EReal)
  ∧ IdealRules.named_const.Statement Cert.KernelDqIdeal.κ "log_gamma_0" .f32 0xBD020AEC#32 ((Real.log (31 / 32) : ℝ) : EReal)

def algebraic_KernelDqIdeal_ReferenceDqIdeal [hKernelDqIdeal : Cert.KernelDqIdeal.Facts] [hReferenceDqIdeal : Cert.ReferenceDqIdeal.Facts] : Prop :=
  ∀ (m : (ℓ : Loc Cert.KernelDqIdeal.nD Cert.KernelDqIdeal.τ Cert.KernelDqIdeal.sig) → Buf (Elt Ideal) ℓ) (g : Dev Cert.KernelDqIdeal.nD → PrngReg)
    (m' : (ℓ : Loc Cert.ReferenceDqIdeal.nD Cert.ReferenceDqIdeal.τ Cert.ReferenceDqIdeal.sig) → Buf (Elt Ideal) ℓ) (g' : Dev Cert.ReferenceDqIdeal.nD → PrngReg), Pre_KernelDqIdeal m →
    (∀ c : Dev Cert.KernelDqIdeal.nD,
      m' ((c.tc : Thread Cert.ReferenceDqIdeal.nD Cert.ReferenceDqIdeal.τ).loc Cert.ReferenceDqIdeal.main_arg0) = m ((c.tc : Thread Cert.KernelDqIdeal.nD Cert.KernelDqIdeal.τ).loc Cert.KernelDqIdeal.main_arg0)
      ∧ m' ((c.tc : Thread Cert.ReferenceDqIdeal.nD Cert.ReferenceDqIdeal.τ).loc Cert.ReferenceDqIdeal.main_arg1) = m ((c.tc : Thread Cert.KernelDqIdeal.nD Cert.KernelDqIdeal.τ).loc Cert.KernelDqIdeal.main_arg1)
      ∧ m' ((c.tc : Thread Cert.ReferenceDqIdeal.nD Cert.ReferenceDqIdeal.τ).loc Cert.ReferenceDqIdeal.main_arg2) = m ((c.tc : Thread Cert.KernelDqIdeal.nD Cert.KernelDqIdeal.τ).loc Cert.KernelDqIdeal.main_arg2)
      ∧ m' ((c.tc : Thread Cert.ReferenceDqIdeal.nD Cert.ReferenceDqIdeal.τ).loc Cert.ReferenceDqIdeal.main_arg3) = m ((c.tc : Thread Cert.KernelDqIdeal.nD Cert.KernelDqIdeal.τ).loc Cert.KernelDqIdeal.main_arg3)) →
    ∃ (v0 : (c : Dev Cert.KernelDqIdeal.nD) → Buf (Elt Ideal) ((c.tc : Thread Cert.KernelDqIdeal.nD Cert.KernelDqIdeal.τ).loc Cert.KernelDqIdeal.main_v0)),
      θ_run (Cert.KernelDqIdeal.defs (F := Ideal)) (onTc (τ := Cert.KernelDqIdeal.τ) (Cert.KernelDqIdeal.main (F := Ideal))) ⟨m, fun _ => 0, g⟩ (fun r => ∀ c : Dev Cert.KernelDqIdeal.nD,
          r.2.mem ((c.tc : Thread Cert.KernelDqIdeal.nD Cert.KernelDqIdeal.τ).loc Cert.KernelDqIdeal.main_v0) = v0 c
          ∧ r.2.mem ((c.tc : Thread Cert.KernelDqIdeal.nD Cert.KernelDqIdeal.τ).loc Cert.KernelDqIdeal.main_arg0) = m ((c.tc : Thread Cert.KernelDqIdeal.nD Cert.KernelDqIdeal.τ).loc Cert.KernelDqIdeal.main_arg0)
          ∧ r.2.mem ((c.tc : Thread Cert.KernelDqIdeal.nD Cert.KernelDqIdeal.τ).loc Cert.KernelDqIdeal.main_arg1) = m ((c.tc : Thread Cert.KernelDqIdeal.nD Cert.KernelDqIdeal.τ).loc Cert.KernelDqIdeal.main_arg1)
          ∧ r.2.mem ((c.tc : Thread Cert.KernelDqIdeal.nD Cert.KernelDqIdeal.τ).loc Cert.KernelDqIdeal.main_arg2) = m ((c.tc : Thread Cert.KernelDqIdeal.nD Cert.KernelDqIdeal.τ).loc Cert.KernelDqIdeal.main_arg2)
          ∧ r.2.mem ((c.tc : Thread Cert.KernelDqIdeal.nD Cert.KernelDqIdeal.τ).loc Cert.KernelDqIdeal.main_arg3) = m ((c.tc : Thread Cert.KernelDqIdeal.nD Cert.KernelDqIdeal.τ).loc Cert.KernelDqIdeal.main_arg3))
      ∧ θ_run (Cert.ReferenceDqIdeal.defs (F := Ideal)) (onTc (τ := Cert.ReferenceDqIdeal.τ) (Cert.ReferenceDqIdeal.main (F := Ideal))) ⟨m', fun _ => 0, g'⟩ (fun r => ∀ c : Dev Cert.ReferenceDqIdeal.nD,
          r.2.mem ((c.tc : Thread Cert.ReferenceDqIdeal.nD Cert.ReferenceDqIdeal.τ).loc Cert.ReferenceDqIdeal.main_v116) = v0 c
          ∧ r.2.mem ((c.tc : Thread Cert.ReferenceDqIdeal.nD Cert.ReferenceDqIdeal.τ).loc Cert.ReferenceDqIdeal.main_arg0) = m' ((c.tc : Thread Cert.ReferenceDqIdeal.nD Cert.ReferenceDqIdeal.τ).loc Cert.ReferenceDqIdeal.main_arg0)
          ∧ r.2.mem ((c.tc : Thread Cert.ReferenceDqIdeal.nD Cert.ReferenceDqIdeal.τ).loc Cert.ReferenceDqIdeal.main_arg1) = m' ((c.tc : Thread Cert.ReferenceDqIdeal.nD Cert.ReferenceDqIdeal.τ).loc Cert.ReferenceDqIdeal.main_arg1)
          ∧ r.2.mem ((c.tc : Thread Cert.ReferenceDqIdeal.nD Cert.ReferenceDqIdeal.τ).loc Cert.ReferenceDqIdeal.main_arg2) = m' ((c.tc : Thread Cert.ReferenceDqIdeal.nD Cert.ReferenceDqIdeal.τ).loc Cert.ReferenceDqIdeal.main_arg2)
          ∧ r.2.mem ((c.tc : Thread Cert.ReferenceDqIdeal.nD Cert.ReferenceDqIdeal.τ).loc Cert.ReferenceDqIdeal.main_arg3) = m' ((c.tc : Thread Cert.ReferenceDqIdeal.nD Cert.ReferenceDqIdeal.τ).loc Cert.ReferenceDqIdeal.main_arg3))

def preserves_KernelDk_KernelDkIdeal : Prop :=
  IdealRules.named_const.Statement Cert.KernelDkIdeal.κ "log_gamma_2" .f32 0xBC0080AC#32 ((Real.log (127 / 128) : ℝ) : EReal)
  ∧ IdealRules.named_const.Statement Cert.KernelDkIdeal.κ "log_gamma_3" .f32 0xBB80402B#32 ((Real.log (255 / 256) : ℝ) : EReal)
  ∧ IdealRules.named_const.Statement Cert.KernelDkIdeal.κ "log_gamma_1" .f32 0xBC8102B3#32 ((Real.log (63 / 64) : ℝ) : EReal)
  ∧ IdealRules.named_const.Statement Cert.KernelDkIdeal.κ "log_gamma_0" .f32 0xBD020AEC#32 ((Real.log (31 / 32) : ℝ) : EReal)

def algebraic_KernelDkIdeal_ReferenceDkIdeal [hKernelDkIdeal : Cert.KernelDkIdeal.Facts] [hReferenceDkIdeal : Cert.ReferenceDkIdeal.Facts] : Prop :=
  ∀ (m : (ℓ : Loc Cert.KernelDkIdeal.nD Cert.KernelDkIdeal.τ Cert.KernelDkIdeal.sig) → Buf (Elt Ideal) ℓ) (g : Dev Cert.KernelDkIdeal.nD → PrngReg)
    (m' : (ℓ : Loc Cert.ReferenceDkIdeal.nD Cert.ReferenceDkIdeal.τ Cert.ReferenceDkIdeal.sig) → Buf (Elt Ideal) ℓ) (g' : Dev Cert.ReferenceDkIdeal.nD → PrngReg), Pre_KernelDkIdeal m →
    (∀ c : Dev Cert.KernelDkIdeal.nD,
      m' ((c.tc : Thread Cert.ReferenceDkIdeal.nD Cert.ReferenceDkIdeal.τ).loc Cert.ReferenceDkIdeal.main_arg0) = m ((c.tc : Thread Cert.KernelDkIdeal.nD Cert.KernelDkIdeal.τ).loc Cert.KernelDkIdeal.main_arg0)
      ∧ m' ((c.tc : Thread Cert.ReferenceDkIdeal.nD Cert.ReferenceDkIdeal.τ).loc Cert.ReferenceDkIdeal.main_arg1) = m ((c.tc : Thread Cert.KernelDkIdeal.nD Cert.KernelDkIdeal.τ).loc Cert.KernelDkIdeal.main_arg1)
      ∧ m' ((c.tc : Thread Cert.ReferenceDkIdeal.nD Cert.ReferenceDkIdeal.τ).loc Cert.ReferenceDkIdeal.main_arg2) = m ((c.tc : Thread Cert.KernelDkIdeal.nD Cert.KernelDkIdeal.τ).loc Cert.KernelDkIdeal.main_arg2)
      ∧ m' ((c.tc : Thread Cert.ReferenceDkIdeal.nD Cert.ReferenceDkIdeal.τ).loc Cert.ReferenceDkIdeal.main_arg3) = m ((c.tc : Thread Cert.KernelDkIdeal.nD Cert.KernelDkIdeal.τ).loc Cert.KernelDkIdeal.main_arg3)) →
    ∃ (v0 : (c : Dev Cert.KernelDkIdeal.nD) → Buf (Elt Ideal) ((c.tc : Thread Cert.KernelDkIdeal.nD Cert.KernelDkIdeal.τ).loc Cert.KernelDkIdeal.main_v0)),
      θ_run (Cert.KernelDkIdeal.defs (F := Ideal)) (onTc (τ := Cert.KernelDkIdeal.τ) (Cert.KernelDkIdeal.main (F := Ideal))) ⟨m, fun _ => 0, g⟩ (fun r => ∀ c : Dev Cert.KernelDkIdeal.nD,
          r.2.mem ((c.tc : Thread Cert.KernelDkIdeal.nD Cert.KernelDkIdeal.τ).loc Cert.KernelDkIdeal.main_v0) = v0 c
          ∧ r.2.mem ((c.tc : Thread Cert.KernelDkIdeal.nD Cert.KernelDkIdeal.τ).loc Cert.KernelDkIdeal.main_arg0) = m ((c.tc : Thread Cert.KernelDkIdeal.nD Cert.KernelDkIdeal.τ).loc Cert.KernelDkIdeal.main_arg0)
          ∧ r.2.mem ((c.tc : Thread Cert.KernelDkIdeal.nD Cert.KernelDkIdeal.τ).loc Cert.KernelDkIdeal.main_arg1) = m ((c.tc : Thread Cert.KernelDkIdeal.nD Cert.KernelDkIdeal.τ).loc Cert.KernelDkIdeal.main_arg1)
          ∧ r.2.mem ((c.tc : Thread Cert.KernelDkIdeal.nD Cert.KernelDkIdeal.τ).loc Cert.KernelDkIdeal.main_arg2) = m ((c.tc : Thread Cert.KernelDkIdeal.nD Cert.KernelDkIdeal.τ).loc Cert.KernelDkIdeal.main_arg2)
          ∧ r.2.mem ((c.tc : Thread Cert.KernelDkIdeal.nD Cert.KernelDkIdeal.τ).loc Cert.KernelDkIdeal.main_arg3) = m ((c.tc : Thread Cert.KernelDkIdeal.nD Cert.KernelDkIdeal.τ).loc Cert.KernelDkIdeal.main_arg3))
      ∧ θ_run (Cert.ReferenceDkIdeal.defs (F := Ideal)) (onTc (τ := Cert.ReferenceDkIdeal.τ) (Cert.ReferenceDkIdeal.main (F := Ideal))) ⟨m', fun _ => 0, g'⟩ (fun r => ∀ c : Dev Cert.ReferenceDkIdeal.nD,
          r.2.mem ((c.tc : Thread Cert.ReferenceDkIdeal.nD Cert.ReferenceDkIdeal.τ).loc Cert.ReferenceDkIdeal.main_v96) = v0 c
          ∧ r.2.mem ((c.tc : Thread Cert.ReferenceDkIdeal.nD Cert.ReferenceDkIdeal.τ).loc Cert.ReferenceDkIdeal.main_arg0) = m' ((c.tc : Thread Cert.ReferenceDkIdeal.nD Cert.ReferenceDkIdeal.τ).loc Cert.ReferenceDkIdeal.main_arg0)
          ∧ r.2.mem ((c.tc : Thread Cert.ReferenceDkIdeal.nD Cert.ReferenceDkIdeal.τ).loc Cert.ReferenceDkIdeal.main_arg1) = m' ((c.tc : Thread Cert.ReferenceDkIdeal.nD Cert.ReferenceDkIdeal.τ).loc Cert.ReferenceDkIdeal.main_arg1)
          ∧ r.2.mem ((c.tc : Thread Cert.ReferenceDkIdeal.nD Cert.ReferenceDkIdeal.τ).loc Cert.ReferenceDkIdeal.main_arg2) = m' ((c.tc : Thread Cert.ReferenceDkIdeal.nD Cert.ReferenceDkIdeal.τ).loc Cert.ReferenceDkIdeal.main_arg2)
          ∧ r.2.mem ((c.tc : Thread Cert.ReferenceDkIdeal.nD Cert.ReferenceDkIdeal.τ).loc Cert.ReferenceDkIdeal.main_arg3) = m' ((c.tc : Thread Cert.ReferenceDkIdeal.nD Cert.ReferenceDkIdeal.τ).loc Cert.ReferenceDkIdeal.main_arg3))

def preserves_KernelDv_KernelDvIdeal : Prop :=
  IdealRules.named_const.Statement Cert.KernelDvIdeal.κ "log_gamma_2" .f32 0xBC0080AC#32 ((Real.log (127 / 128) : ℝ) : EReal)
  ∧ IdealRules.named_const.Statement Cert.KernelDvIdeal.κ "log_gamma_3" .f32 0xBB80402B#32 ((Real.log (255 / 256) : ℝ) : EReal)
  ∧ IdealRules.named_const.Statement Cert.KernelDvIdeal.κ "log_gamma_1" .f32 0xBC8102B3#32 ((Real.log (63 / 64) : ℝ) : EReal)
  ∧ IdealRules.named_const.Statement Cert.KernelDvIdeal.κ "log_gamma_0" .f32 0xBD020AEC#32 ((Real.log (31 / 32) : ℝ) : EReal)

def algebraic_KernelDvIdeal_ReferenceDvIdeal [hKernelDvIdeal : Cert.KernelDvIdeal.Facts] [hReferenceDvIdeal : Cert.ReferenceDvIdeal.Facts] : Prop :=
  ∀ (m : (ℓ : Loc Cert.KernelDvIdeal.nD Cert.KernelDvIdeal.τ Cert.KernelDvIdeal.sig) → Buf (Elt Ideal) ℓ) (g : Dev Cert.KernelDvIdeal.nD → PrngReg)
    (m' : (ℓ : Loc Cert.ReferenceDvIdeal.nD Cert.ReferenceDvIdeal.τ Cert.ReferenceDvIdeal.sig) → Buf (Elt Ideal) ℓ) (g' : Dev Cert.ReferenceDvIdeal.nD → PrngReg), Pre_KernelDvIdeal m →
    (∀ c : Dev Cert.KernelDvIdeal.nD,
      m' ((c.tc : Thread Cert.ReferenceDvIdeal.nD Cert.ReferenceDvIdeal.τ).loc Cert.ReferenceDvIdeal.main_arg0) = m ((c.tc : Thread Cert.KernelDvIdeal.nD Cert.KernelDvIdeal.τ).loc Cert.KernelDvIdeal.main_arg0)
      ∧ m' ((c.tc : Thread Cert.ReferenceDvIdeal.nD Cert.ReferenceDvIdeal.τ).loc Cert.ReferenceDvIdeal.main_arg1) = m ((c.tc : Thread Cert.KernelDvIdeal.nD Cert.KernelDvIdeal.τ).loc Cert.KernelDvIdeal.main_arg1)
      ∧ m' ((c.tc : Thread Cert.ReferenceDvIdeal.nD Cert.ReferenceDvIdeal.τ).loc Cert.ReferenceDvIdeal.main_arg2) = m ((c.tc : Thread Cert.KernelDvIdeal.nD Cert.KernelDvIdeal.τ).loc Cert.KernelDvIdeal.main_arg2)
      ∧ m' ((c.tc : Thread Cert.ReferenceDvIdeal.nD Cert.ReferenceDvIdeal.τ).loc Cert.ReferenceDvIdeal.main_arg3) = m ((c.tc : Thread Cert.KernelDvIdeal.nD Cert.KernelDvIdeal.τ).loc Cert.KernelDvIdeal.main_arg3)) →
    ∃ (v0 : (c : Dev Cert.KernelDvIdeal.nD) → Buf (Elt Ideal) ((c.tc : Thread Cert.KernelDvIdeal.nD Cert.KernelDvIdeal.τ).loc Cert.KernelDvIdeal.main_v0)),
      θ_run (Cert.KernelDvIdeal.defs (F := Ideal)) (onTc (τ := Cert.KernelDvIdeal.τ) (Cert.KernelDvIdeal.main (F := Ideal))) ⟨m, fun _ => 0, g⟩ (fun r => ∀ c : Dev Cert.KernelDvIdeal.nD,
          r.2.mem ((c.tc : Thread Cert.KernelDvIdeal.nD Cert.KernelDvIdeal.τ).loc Cert.KernelDvIdeal.main_v0) = v0 c
          ∧ r.2.mem ((c.tc : Thread Cert.KernelDvIdeal.nD Cert.KernelDvIdeal.τ).loc Cert.KernelDvIdeal.main_arg0) = m ((c.tc : Thread Cert.KernelDvIdeal.nD Cert.KernelDvIdeal.τ).loc Cert.KernelDvIdeal.main_arg0)
          ∧ r.2.mem ((c.tc : Thread Cert.KernelDvIdeal.nD Cert.KernelDvIdeal.τ).loc Cert.KernelDvIdeal.main_arg1) = m ((c.tc : Thread Cert.KernelDvIdeal.nD Cert.KernelDvIdeal.τ).loc Cert.KernelDvIdeal.main_arg1)
          ∧ r.2.mem ((c.tc : Thread Cert.KernelDvIdeal.nD Cert.KernelDvIdeal.τ).loc Cert.KernelDvIdeal.main_arg2) = m ((c.tc : Thread Cert.KernelDvIdeal.nD Cert.KernelDvIdeal.τ).loc Cert.KernelDvIdeal.main_arg2)
          ∧ r.2.mem ((c.tc : Thread Cert.KernelDvIdeal.nD Cert.KernelDvIdeal.τ).loc Cert.KernelDvIdeal.main_arg3) = m ((c.tc : Thread Cert.KernelDvIdeal.nD Cert.KernelDvIdeal.τ).loc Cert.KernelDvIdeal.main_arg3))
      ∧ θ_run (Cert.ReferenceDvIdeal.defs (F := Ideal)) (onTc (τ := Cert.ReferenceDvIdeal.τ) (Cert.ReferenceDvIdeal.main (F := Ideal))) ⟨m', fun _ => 0, g'⟩ (fun r => ∀ c : Dev Cert.ReferenceDvIdeal.nD,
          r.2.mem ((c.tc : Thread Cert.ReferenceDvIdeal.nD Cert.ReferenceDvIdeal.τ).loc Cert.ReferenceDvIdeal.main_v95) = v0 c
          ∧ r.2.mem ((c.tc : Thread Cert.ReferenceDvIdeal.nD Cert.ReferenceDvIdeal.τ).loc Cert.ReferenceDvIdeal.main_arg0) = m' ((c.tc : Thread Cert.ReferenceDvIdeal.nD Cert.ReferenceDvIdeal.τ).loc Cert.ReferenceDvIdeal.main_arg0)
          ∧ r.2.mem ((c.tc : Thread Cert.ReferenceDvIdeal.nD Cert.ReferenceDvIdeal.τ).loc Cert.ReferenceDvIdeal.main_arg1) = m' ((c.tc : Thread Cert.ReferenceDvIdeal.nD Cert.ReferenceDvIdeal.τ).loc Cert.ReferenceDvIdeal.main_arg1)
          ∧ r.2.mem ((c.tc : Thread Cert.ReferenceDvIdeal.nD Cert.ReferenceDvIdeal.τ).loc Cert.ReferenceDvIdeal.main_arg2) = m' ((c.tc : Thread Cert.ReferenceDvIdeal.nD Cert.ReferenceDvIdeal.τ).loc Cert.ReferenceDvIdeal.main_arg2)
          ∧ r.2.mem ((c.tc : Thread Cert.ReferenceDvIdeal.nD Cert.ReferenceDvIdeal.τ).loc Cert.ReferenceDvIdeal.main_arg3) = m' ((c.tc : Thread Cert.ReferenceDvIdeal.nD Cert.ReferenceDvIdeal.τ).loc Cert.ReferenceDvIdeal.main_arg3))

def preserves_KernelProjMain_KernelProjMainIdeal : Prop :=
  True

def algebraic_KernelProjMainIdeal_ReferenceProjMainIdeal [hKernelProjMainIdeal : Cert.KernelProjMainIdeal.Facts] [hReferenceProjMainIdeal : Cert.ReferenceProjMainIdeal.Facts] : Prop :=
  ∀ (m : (ℓ : Loc Cert.KernelProjMainIdeal.nD Cert.KernelProjMainIdeal.τ Cert.KernelProjMainIdeal.sig) → Buf (Elt Ideal) ℓ) (g : Dev Cert.KernelProjMainIdeal.nD → PrngReg)
    (m' : (ℓ : Loc Cert.ReferenceProjMainIdeal.nD Cert.ReferenceProjMainIdeal.τ Cert.ReferenceProjMainIdeal.sig) → Buf (Elt Ideal) ℓ) (g' : Dev Cert.ReferenceProjMainIdeal.nD → PrngReg), Pre_KernelProjMainIdeal m →
    (∀ c : Dev Cert.KernelProjMainIdeal.nD,
      m' ((c.tc : Thread Cert.ReferenceProjMainIdeal.nD Cert.ReferenceProjMainIdeal.τ).loc Cert.ReferenceProjMainIdeal.main_arg0) = m ((c.tc : Thread Cert.KernelProjMainIdeal.nD Cert.KernelProjMainIdeal.τ).loc Cert.KernelProjMainIdeal.main_arg0)
      ∧ m' ((c.tc : Thread Cert.ReferenceProjMainIdeal.nD Cert.ReferenceProjMainIdeal.τ).loc Cert.ReferenceProjMainIdeal.main_arg1) = m ((c.tc : Thread Cert.KernelProjMainIdeal.nD Cert.KernelProjMainIdeal.τ).loc Cert.KernelProjMainIdeal.main_arg1)) →
    ∃ (v0 : (c : Dev Cert.KernelProjMainIdeal.nD) → Buf (Elt Ideal) ((c.tc : Thread Cert.KernelProjMainIdeal.nD Cert.KernelProjMainIdeal.τ).loc Cert.KernelProjMainIdeal.main_v0)),
      θ_run (Cert.KernelProjMainIdeal.defs (F := Ideal)) (onTc (τ := Cert.KernelProjMainIdeal.τ) (Cert.KernelProjMainIdeal.main (F := Ideal))) ⟨m, fun _ => 0, g⟩ (fun r => ∀ c : Dev Cert.KernelProjMainIdeal.nD,
          r.2.mem ((c.tc : Thread Cert.KernelProjMainIdeal.nD Cert.KernelProjMainIdeal.τ).loc Cert.KernelProjMainIdeal.main_v0) = v0 c
          ∧ r.2.mem ((c.tc : Thread Cert.KernelProjMainIdeal.nD Cert.KernelProjMainIdeal.τ).loc Cert.KernelProjMainIdeal.main_arg0) = m ((c.tc : Thread Cert.KernelProjMainIdeal.nD Cert.KernelProjMainIdeal.τ).loc Cert.KernelProjMainIdeal.main_arg0)
          ∧ r.2.mem ((c.tc : Thread Cert.KernelProjMainIdeal.nD Cert.KernelProjMainIdeal.τ).loc Cert.KernelProjMainIdeal.main_arg1) = m ((c.tc : Thread Cert.KernelProjMainIdeal.nD Cert.KernelProjMainIdeal.τ).loc Cert.KernelProjMainIdeal.main_arg1))
      ∧ θ_run (Cert.ReferenceProjMainIdeal.defs (F := Ideal)) (onTc (τ := Cert.ReferenceProjMainIdeal.τ) (Cert.ReferenceProjMainIdeal.main (F := Ideal))) ⟨m', fun _ => 0, g'⟩ (fun r => ∀ c : Dev Cert.ReferenceProjMainIdeal.nD,
          r.2.mem ((c.tc : Thread Cert.ReferenceProjMainIdeal.nD Cert.ReferenceProjMainIdeal.τ).loc Cert.ReferenceProjMainIdeal.main_v4) = v0 c
          ∧ r.2.mem ((c.tc : Thread Cert.ReferenceProjMainIdeal.nD Cert.ReferenceProjMainIdeal.τ).loc Cert.ReferenceProjMainIdeal.main_arg0) = m' ((c.tc : Thread Cert.ReferenceProjMainIdeal.nD Cert.ReferenceProjMainIdeal.τ).loc Cert.ReferenceProjMainIdeal.main_arg0)
          ∧ r.2.mem ((c.tc : Thread Cert.ReferenceProjMainIdeal.nD Cert.ReferenceProjMainIdeal.τ).loc Cert.ReferenceProjMainIdeal.main_arg1) = m' ((c.tc : Thread Cert.ReferenceProjMainIdeal.nD Cert.ReferenceProjMainIdeal.τ).loc Cert.ReferenceProjMainIdeal.main_arg1))

def preserves_KernelGInMain_KernelGInMainIdeal : Prop :=
  True

def algebraic_KernelGInMainIdeal_ReferenceGInMainIdeal [hKernelGInMainIdeal : Cert.KernelGInMainIdeal.Facts] [hReferenceGInMainIdeal : Cert.ReferenceGInMainIdeal.Facts] : Prop :=
  ∀ (m : (ℓ : Loc Cert.KernelGInMainIdeal.nD Cert.KernelGInMainIdeal.τ Cert.KernelGInMainIdeal.sig) → Buf (Elt Ideal) ℓ) (g : Dev Cert.KernelGInMainIdeal.nD → PrngReg)
    (m' : (ℓ : Loc Cert.ReferenceGInMainIdeal.nD Cert.ReferenceGInMainIdeal.τ Cert.ReferenceGInMainIdeal.sig) → Buf (Elt Ideal) ℓ) (g' : Dev Cert.ReferenceGInMainIdeal.nD → PrngReg), Pre_KernelGInMainIdeal m →
    (∀ c : Dev Cert.KernelGInMainIdeal.nD,
      m' ((c.tc : Thread Cert.ReferenceGInMainIdeal.nD Cert.ReferenceGInMainIdeal.τ).loc Cert.ReferenceGInMainIdeal.main_arg0) = m ((c.tc : Thread Cert.KernelGInMainIdeal.nD Cert.KernelGInMainIdeal.τ).loc Cert.KernelGInMainIdeal.main_arg0)
      ∧ m' ((c.tc : Thread Cert.ReferenceGInMainIdeal.nD Cert.ReferenceGInMainIdeal.τ).loc Cert.ReferenceGInMainIdeal.main_arg1) = m ((c.tc : Thread Cert.KernelGInMainIdeal.nD Cert.KernelGInMainIdeal.τ).loc Cert.KernelGInMainIdeal.main_arg1)) →
    ∃ (v0 : (c : Dev Cert.KernelGInMainIdeal.nD) → Buf (Elt Ideal) ((c.tc : Thread Cert.KernelGInMainIdeal.nD Cert.KernelGInMainIdeal.τ).loc Cert.KernelGInMainIdeal.main_v0)),
      θ_run (Cert.KernelGInMainIdeal.defs (F := Ideal)) (onTc (τ := Cert.KernelGInMainIdeal.τ) (Cert.KernelGInMainIdeal.main (F := Ideal))) ⟨m, fun _ => 0, g⟩ (fun r => ∀ c : Dev Cert.KernelGInMainIdeal.nD,
          r.2.mem ((c.tc : Thread Cert.KernelGInMainIdeal.nD Cert.KernelGInMainIdeal.τ).loc Cert.KernelGInMainIdeal.main_v0) = v0 c
          ∧ r.2.mem ((c.tc : Thread Cert.KernelGInMainIdeal.nD Cert.KernelGInMainIdeal.τ).loc Cert.KernelGInMainIdeal.main_arg0) = m ((c.tc : Thread Cert.KernelGInMainIdeal.nD Cert.KernelGInMainIdeal.τ).loc Cert.KernelGInMainIdeal.main_arg0)
          ∧ r.2.mem ((c.tc : Thread Cert.KernelGInMainIdeal.nD Cert.KernelGInMainIdeal.τ).loc Cert.KernelGInMainIdeal.main_arg1) = m ((c.tc : Thread Cert.KernelGInMainIdeal.nD Cert.KernelGInMainIdeal.τ).loc Cert.KernelGInMainIdeal.main_arg1))
      ∧ θ_run (Cert.ReferenceGInMainIdeal.defs (F := Ideal)) (onTc (τ := Cert.ReferenceGInMainIdeal.τ) (Cert.ReferenceGInMainIdeal.main (F := Ideal))) ⟨m', fun _ => 0, g'⟩ (fun r => ∀ c : Dev Cert.ReferenceGInMainIdeal.nD,
          r.2.mem ((c.tc : Thread Cert.ReferenceGInMainIdeal.nD Cert.ReferenceGInMainIdeal.τ).loc Cert.ReferenceGInMainIdeal.main_v5) = v0 c
          ∧ r.2.mem ((c.tc : Thread Cert.ReferenceGInMainIdeal.nD Cert.ReferenceGInMainIdeal.τ).loc Cert.ReferenceGInMainIdeal.main_arg0) = m' ((c.tc : Thread Cert.ReferenceGInMainIdeal.nD Cert.ReferenceGInMainIdeal.τ).loc Cert.ReferenceGInMainIdeal.main_arg0)
          ∧ r.2.mem ((c.tc : Thread Cert.ReferenceGInMainIdeal.nD Cert.ReferenceGInMainIdeal.τ).loc Cert.ReferenceGInMainIdeal.main_arg1) = m' ((c.tc : Thread Cert.ReferenceGInMainIdeal.nD Cert.ReferenceGInMainIdeal.τ).loc Cert.ReferenceGInMainIdeal.main_arg1))

def preserves_KernelDUMain_KernelDUMainIdeal : Prop :=
  True

def algebraic_KernelDUMainIdeal_ReferenceDUMainIdeal [hKernelDUMainIdeal : Cert.KernelDUMainIdeal.Facts] [hReferenceDUMainIdeal : Cert.ReferenceDUMainIdeal.Facts] : Prop :=
  ∀ (m : (ℓ : Loc Cert.KernelDUMainIdeal.nD Cert.KernelDUMainIdeal.τ Cert.KernelDUMainIdeal.sig) → Buf (Elt Ideal) ℓ) (g : Dev Cert.KernelDUMainIdeal.nD → PrngReg)
    (m' : (ℓ : Loc Cert.ReferenceDUMainIdeal.nD Cert.ReferenceDUMainIdeal.τ Cert.ReferenceDUMainIdeal.sig) → Buf (Elt Ideal) ℓ) (g' : Dev Cert.ReferenceDUMainIdeal.nD → PrngReg), Pre_KernelDUMainIdeal m →
    (∀ c : Dev Cert.KernelDUMainIdeal.nD,
      m' ((c.tc : Thread Cert.ReferenceDUMainIdeal.nD Cert.ReferenceDUMainIdeal.τ).loc Cert.ReferenceDUMainIdeal.main_arg0) = m ((c.tc : Thread Cert.KernelDUMainIdeal.nD Cert.KernelDUMainIdeal.τ).loc Cert.KernelDUMainIdeal.main_arg0)
      ∧ m' ((c.tc : Thread Cert.ReferenceDUMainIdeal.nD Cert.ReferenceDUMainIdeal.τ).loc Cert.ReferenceDUMainIdeal.main_arg1) = m ((c.tc : Thread Cert.KernelDUMainIdeal.nD Cert.KernelDUMainIdeal.τ).loc Cert.KernelDUMainIdeal.main_arg1)
      ∧ m' ((c.tc : Thread Cert.ReferenceDUMainIdeal.nD Cert.ReferenceDUMainIdeal.τ).loc Cert.ReferenceDUMainIdeal.main_arg2) = m ((c.tc : Thread Cert.KernelDUMainIdeal.nD Cert.KernelDUMainIdeal.τ).loc Cert.KernelDUMainIdeal.main_arg2)) →
    ∃ (v0 : (c : Dev Cert.KernelDUMainIdeal.nD) → Buf (Elt Ideal) ((c.tc : Thread Cert.KernelDUMainIdeal.nD Cert.KernelDUMainIdeal.τ).loc Cert.KernelDUMainIdeal.main_v0)),
      θ_run (Cert.KernelDUMainIdeal.defs (F := Ideal)) (onTc (τ := Cert.KernelDUMainIdeal.τ) (Cert.KernelDUMainIdeal.main (F := Ideal))) ⟨m, fun _ => 0, g⟩ (fun r => ∀ c : Dev Cert.KernelDUMainIdeal.nD,
          r.2.mem ((c.tc : Thread Cert.KernelDUMainIdeal.nD Cert.KernelDUMainIdeal.τ).loc Cert.KernelDUMainIdeal.main_v0) = v0 c
          ∧ r.2.mem ((c.tc : Thread Cert.KernelDUMainIdeal.nD Cert.KernelDUMainIdeal.τ).loc Cert.KernelDUMainIdeal.main_arg0) = m ((c.tc : Thread Cert.KernelDUMainIdeal.nD Cert.KernelDUMainIdeal.τ).loc Cert.KernelDUMainIdeal.main_arg0)
          ∧ r.2.mem ((c.tc : Thread Cert.KernelDUMainIdeal.nD Cert.KernelDUMainIdeal.τ).loc Cert.KernelDUMainIdeal.main_arg1) = m ((c.tc : Thread Cert.KernelDUMainIdeal.nD Cert.KernelDUMainIdeal.τ).loc Cert.KernelDUMainIdeal.main_arg1)
          ∧ r.2.mem ((c.tc : Thread Cert.KernelDUMainIdeal.nD Cert.KernelDUMainIdeal.τ).loc Cert.KernelDUMainIdeal.main_arg2) = m ((c.tc : Thread Cert.KernelDUMainIdeal.nD Cert.KernelDUMainIdeal.τ).loc Cert.KernelDUMainIdeal.main_arg2))
      ∧ θ_run (Cert.ReferenceDUMainIdeal.defs (F := Ideal)) (onTc (τ := Cert.ReferenceDUMainIdeal.τ) (Cert.ReferenceDUMainIdeal.main (F := Ideal))) ⟨m', fun _ => 0, g'⟩ (fun r => ∀ c : Dev Cert.ReferenceDUMainIdeal.nD,
          r.2.mem ((c.tc : Thread Cert.ReferenceDUMainIdeal.nD Cert.ReferenceDUMainIdeal.τ).loc Cert.ReferenceDUMainIdeal.main_v4) = v0 c
          ∧ r.2.mem ((c.tc : Thread Cert.ReferenceDUMainIdeal.nD Cert.ReferenceDUMainIdeal.τ).loc Cert.ReferenceDUMainIdeal.main_arg0) = m' ((c.tc : Thread Cert.ReferenceDUMainIdeal.nD Cert.ReferenceDUMainIdeal.τ).loc Cert.ReferenceDUMainIdeal.main_arg0)
          ∧ r.2.mem ((c.tc : Thread Cert.ReferenceDUMainIdeal.nD Cert.ReferenceDUMainIdeal.τ).loc Cert.ReferenceDUMainIdeal.main_arg1) = m' ((c.tc : Thread Cert.ReferenceDUMainIdeal.nD Cert.ReferenceDUMainIdeal.τ).loc Cert.ReferenceDUMainIdeal.main_arg1)
          ∧ r.2.mem ((c.tc : Thread Cert.ReferenceDUMainIdeal.nD Cert.ReferenceDUMainIdeal.τ).loc Cert.ReferenceDUMainIdeal.main_arg2) = m' ((c.tc : Thread Cert.ReferenceDUMainIdeal.nD Cert.ReferenceDUMainIdeal.τ).loc Cert.ReferenceDUMainIdeal.main_arg2))

def preserves_KernelProjGates_KernelProjGatesIdeal : Prop :=
  True

def algebraic_KernelProjGatesIdeal_ReferenceProjGatesIdeal [hKernelProjGatesIdeal : Cert.KernelProjGatesIdeal.Facts] [hReferenceProjGatesIdeal : Cert.ReferenceProjGatesIdeal.Facts] : Prop :=
  ∀ (m : (ℓ : Loc Cert.KernelProjGatesIdeal.nD Cert.KernelProjGatesIdeal.τ Cert.KernelProjGatesIdeal.sig) → Buf (Elt Ideal) ℓ) (g : Dev Cert.KernelProjGatesIdeal.nD → PrngReg)
    (m' : (ℓ : Loc Cert.ReferenceProjGatesIdeal.nD Cert.ReferenceProjGatesIdeal.τ Cert.ReferenceProjGatesIdeal.sig) → Buf (Elt Ideal) ℓ) (g' : Dev Cert.ReferenceProjGatesIdeal.nD → PrngReg), Pre_KernelProjGatesIdeal m →
    (∀ c : Dev Cert.KernelProjGatesIdeal.nD,
      m' ((c.tc : Thread Cert.ReferenceProjGatesIdeal.nD Cert.ReferenceProjGatesIdeal.τ).loc Cert.ReferenceProjGatesIdeal.main_arg0) = m ((c.tc : Thread Cert.KernelProjGatesIdeal.nD Cert.KernelProjGatesIdeal.τ).loc Cert.KernelProjGatesIdeal.main_arg0)
      ∧ m' ((c.tc : Thread Cert.ReferenceProjGatesIdeal.nD Cert.ReferenceProjGatesIdeal.τ).loc Cert.ReferenceProjGatesIdeal.main_arg1) = m ((c.tc : Thread Cert.KernelProjGatesIdeal.nD Cert.KernelProjGatesIdeal.τ).loc Cert.KernelProjGatesIdeal.main_arg1)) →
    ∃ (v0 : (c : Dev Cert.KernelProjGatesIdeal.nD) → Buf (Elt Ideal) ((c.tc : Thread Cert.KernelProjGatesIdeal.nD Cert.KernelProjGatesIdeal.τ).loc Cert.KernelProjGatesIdeal.main_v0)),
      θ_run (Cert.KernelProjGatesIdeal.defs (F := Ideal)) (onTc (τ := Cert.KernelProjGatesIdeal.τ) (Cert.KernelProjGatesIdeal.main (F := Ideal))) ⟨m, fun _ => 0, g⟩ (fun r => ∀ c : Dev Cert.KernelProjGatesIdeal.nD,
          r.2.mem ((c.tc : Thread Cert.KernelProjGatesIdeal.nD Cert.KernelProjGatesIdeal.τ).loc Cert.KernelProjGatesIdeal.main_v0) = v0 c
          ∧ r.2.mem ((c.tc : Thread Cert.KernelProjGatesIdeal.nD Cert.KernelProjGatesIdeal.τ).loc Cert.KernelProjGatesIdeal.main_arg0) = m ((c.tc : Thread Cert.KernelProjGatesIdeal.nD Cert.KernelProjGatesIdeal.τ).loc Cert.KernelProjGatesIdeal.main_arg0)
          ∧ r.2.mem ((c.tc : Thread Cert.KernelProjGatesIdeal.nD Cert.KernelProjGatesIdeal.τ).loc Cert.KernelProjGatesIdeal.main_arg1) = m ((c.tc : Thread Cert.KernelProjGatesIdeal.nD Cert.KernelProjGatesIdeal.τ).loc Cert.KernelProjGatesIdeal.main_arg1))
      ∧ θ_run (Cert.ReferenceProjGatesIdeal.defs (F := Ideal)) (onTc (τ := Cert.ReferenceProjGatesIdeal.τ) (Cert.ReferenceProjGatesIdeal.main (F := Ideal))) ⟨m', fun _ => 0, g'⟩ (fun r => ∀ c : Dev Cert.ReferenceProjGatesIdeal.nD,
          r.2.mem ((c.tc : Thread Cert.ReferenceProjGatesIdeal.nD Cert.ReferenceProjGatesIdeal.τ).loc Cert.ReferenceProjGatesIdeal.main_v4) = v0 c
          ∧ r.2.mem ((c.tc : Thread Cert.ReferenceProjGatesIdeal.nD Cert.ReferenceProjGatesIdeal.τ).loc Cert.ReferenceProjGatesIdeal.main_arg0) = m' ((c.tc : Thread Cert.ReferenceProjGatesIdeal.nD Cert.ReferenceProjGatesIdeal.τ).loc Cert.ReferenceProjGatesIdeal.main_arg0)
          ∧ r.2.mem ((c.tc : Thread Cert.ReferenceProjGatesIdeal.nD Cert.ReferenceProjGatesIdeal.τ).loc Cert.ReferenceProjGatesIdeal.main_arg1) = m' ((c.tc : Thread Cert.ReferenceProjGatesIdeal.nD Cert.ReferenceProjGatesIdeal.τ).loc Cert.ReferenceProjGatesIdeal.main_arg1))

def algebraic_KernelProjGatesIdeal_ReferenceDSsdActIdeal [hKernelProjGatesIdeal : Cert.KernelProjGatesIdeal.Facts] [hReferenceDSsdActIdeal : Cert.ReferenceDSsdActIdeal.Facts] : Prop :=
  ∀ (m : (ℓ : Loc Cert.KernelProjGatesIdeal.nD Cert.KernelProjGatesIdeal.τ Cert.KernelProjGatesIdeal.sig) → Buf (Elt Ideal) ℓ) (g : Dev Cert.KernelProjGatesIdeal.nD → PrngReg)
    (m' : (ℓ : Loc Cert.ReferenceDSsdActIdeal.nD Cert.ReferenceDSsdActIdeal.τ Cert.ReferenceDSsdActIdeal.sig) → Buf (Elt Ideal) ℓ) (g' : Dev Cert.ReferenceDSsdActIdeal.nD → PrngReg), Pre_KernelProjGatesIdeal m →
    (∀ c : Dev Cert.KernelProjGatesIdeal.nD,
      m' ((c.tc : Thread Cert.ReferenceDSsdActIdeal.nD Cert.ReferenceDSsdActIdeal.τ).loc Cert.ReferenceDSsdActIdeal.main_arg0) = m ((c.tc : Thread Cert.KernelProjGatesIdeal.nD Cert.KernelProjGatesIdeal.τ).loc Cert.KernelProjGatesIdeal.main_arg0)
      ∧ m' ((c.tc : Thread Cert.ReferenceDSsdActIdeal.nD Cert.ReferenceDSsdActIdeal.τ).loc Cert.ReferenceDSsdActIdeal.main_arg1) = m ((c.tc : Thread Cert.KernelProjGatesIdeal.nD Cert.KernelProjGatesIdeal.τ).loc Cert.KernelProjGatesIdeal.main_arg1)) →
    ∃ (v0 : (c : Dev Cert.KernelProjGatesIdeal.nD) → Buf (Elt Ideal) ((c.tc : Thread Cert.KernelProjGatesIdeal.nD Cert.KernelProjGatesIdeal.τ).loc Cert.KernelProjGatesIdeal.main_v0)),
      θ_run (Cert.KernelProjGatesIdeal.defs (F := Ideal)) (onTc (τ := Cert.KernelProjGatesIdeal.τ) (Cert.KernelProjGatesIdeal.main (F := Ideal))) ⟨m, fun _ => 0, g⟩ (fun r => ∀ c : Dev Cert.KernelProjGatesIdeal.nD,
          r.2.mem ((c.tc : Thread Cert.KernelProjGatesIdeal.nD Cert.KernelProjGatesIdeal.τ).loc Cert.KernelProjGatesIdeal.main_v0) = v0 c
          ∧ r.2.mem ((c.tc : Thread Cert.KernelProjGatesIdeal.nD Cert.KernelProjGatesIdeal.τ).loc Cert.KernelProjGatesIdeal.main_arg0) = m ((c.tc : Thread Cert.KernelProjGatesIdeal.nD Cert.KernelProjGatesIdeal.τ).loc Cert.KernelProjGatesIdeal.main_arg0)
          ∧ r.2.mem ((c.tc : Thread Cert.KernelProjGatesIdeal.nD Cert.KernelProjGatesIdeal.τ).loc Cert.KernelProjGatesIdeal.main_arg1) = m ((c.tc : Thread Cert.KernelProjGatesIdeal.nD Cert.KernelProjGatesIdeal.τ).loc Cert.KernelProjGatesIdeal.main_arg1))
      ∧ θ_run (Cert.ReferenceDSsdActIdeal.defs (F := Ideal)) (onTc (τ := Cert.ReferenceDSsdActIdeal.τ) (Cert.ReferenceDSsdActIdeal.main (F := Ideal))) ⟨m', fun _ => 0, g'⟩ (fun r => ∀ c : Dev Cert.ReferenceDSsdActIdeal.nD,
          r.2.mem ((c.tc : Thread Cert.ReferenceDSsdActIdeal.nD Cert.ReferenceDSsdActIdeal.τ).loc Cert.ReferenceDSsdActIdeal.main_v3) = v0 c
          ∧ r.2.mem ((c.tc : Thread Cert.ReferenceDSsdActIdeal.nD Cert.ReferenceDSsdActIdeal.τ).loc Cert.ReferenceDSsdActIdeal.main_arg0) = m' ((c.tc : Thread Cert.ReferenceDSsdActIdeal.nD Cert.ReferenceDSsdActIdeal.τ).loc Cert.ReferenceDSsdActIdeal.main_arg0)
          ∧ r.2.mem ((c.tc : Thread Cert.ReferenceDSsdActIdeal.nD Cert.ReferenceDSsdActIdeal.τ).loc Cert.ReferenceDSsdActIdeal.main_arg1) = m' ((c.tc : Thread Cert.ReferenceDSsdActIdeal.nD Cert.ReferenceDSsdActIdeal.τ).loc Cert.ReferenceDSsdActIdeal.main_arg1))

def preserves_KernelGInGates_KernelGInGatesIdeal : Prop :=
  True

def algebraic_KernelGInGatesIdeal_ReferenceGInGatesIdeal [hKernelGInGatesIdeal : Cert.KernelGInGatesIdeal.Facts] [hReferenceGInGatesIdeal : Cert.ReferenceGInGatesIdeal.Facts] : Prop :=
  ∀ (m : (ℓ : Loc Cert.KernelGInGatesIdeal.nD Cert.KernelGInGatesIdeal.τ Cert.KernelGInGatesIdeal.sig) → Buf (Elt Ideal) ℓ) (g : Dev Cert.KernelGInGatesIdeal.nD → PrngReg)
    (m' : (ℓ : Loc Cert.ReferenceGInGatesIdeal.nD Cert.ReferenceGInGatesIdeal.τ Cert.ReferenceGInGatesIdeal.sig) → Buf (Elt Ideal) ℓ) (g' : Dev Cert.ReferenceGInGatesIdeal.nD → PrngReg), Pre_KernelGInGatesIdeal m →
    (∀ c : Dev Cert.KernelGInGatesIdeal.nD,
      m' ((c.tc : Thread Cert.ReferenceGInGatesIdeal.nD Cert.ReferenceGInGatesIdeal.τ).loc Cert.ReferenceGInGatesIdeal.main_arg0) = m ((c.tc : Thread Cert.KernelGInGatesIdeal.nD Cert.KernelGInGatesIdeal.τ).loc Cert.KernelGInGatesIdeal.main_arg0)
      ∧ m' ((c.tc : Thread Cert.ReferenceGInGatesIdeal.nD Cert.ReferenceGInGatesIdeal.τ).loc Cert.ReferenceGInGatesIdeal.main_arg1) = m ((c.tc : Thread Cert.KernelGInGatesIdeal.nD Cert.KernelGInGatesIdeal.τ).loc Cert.KernelGInGatesIdeal.main_arg1)) →
    ∃ (v0 : (c : Dev Cert.KernelGInGatesIdeal.nD) → Buf (Elt Ideal) ((c.tc : Thread Cert.KernelGInGatesIdeal.nD Cert.KernelGInGatesIdeal.τ).loc Cert.KernelGInGatesIdeal.main_v0)),
      θ_run (Cert.KernelGInGatesIdeal.defs (F := Ideal)) (onTc (τ := Cert.KernelGInGatesIdeal.τ) (Cert.KernelGInGatesIdeal.main (F := Ideal))) ⟨m, fun _ => 0, g⟩ (fun r => ∀ c : Dev Cert.KernelGInGatesIdeal.nD,
          r.2.mem ((c.tc : Thread Cert.KernelGInGatesIdeal.nD Cert.KernelGInGatesIdeal.τ).loc Cert.KernelGInGatesIdeal.main_v0) = v0 c
          ∧ r.2.mem ((c.tc : Thread Cert.KernelGInGatesIdeal.nD Cert.KernelGInGatesIdeal.τ).loc Cert.KernelGInGatesIdeal.main_arg0) = m ((c.tc : Thread Cert.KernelGInGatesIdeal.nD Cert.KernelGInGatesIdeal.τ).loc Cert.KernelGInGatesIdeal.main_arg0)
          ∧ r.2.mem ((c.tc : Thread Cert.KernelGInGatesIdeal.nD Cert.KernelGInGatesIdeal.τ).loc Cert.KernelGInGatesIdeal.main_arg1) = m ((c.tc : Thread Cert.KernelGInGatesIdeal.nD Cert.KernelGInGatesIdeal.τ).loc Cert.KernelGInGatesIdeal.main_arg1))
      ∧ θ_run (Cert.ReferenceGInGatesIdeal.defs (F := Ideal)) (onTc (τ := Cert.ReferenceGInGatesIdeal.τ) (Cert.ReferenceGInGatesIdeal.main (F := Ideal))) ⟨m', fun _ => 0, g'⟩ (fun r => ∀ c : Dev Cert.ReferenceGInGatesIdeal.nD,
          r.2.mem ((c.tc : Thread Cert.ReferenceGInGatesIdeal.nD Cert.ReferenceGInGatesIdeal.τ).loc Cert.ReferenceGInGatesIdeal.main_v5) = v0 c
          ∧ r.2.mem ((c.tc : Thread Cert.ReferenceGInGatesIdeal.nD Cert.ReferenceGInGatesIdeal.τ).loc Cert.ReferenceGInGatesIdeal.main_arg0) = m' ((c.tc : Thread Cert.ReferenceGInGatesIdeal.nD Cert.ReferenceGInGatesIdeal.τ).loc Cert.ReferenceGInGatesIdeal.main_arg0)
          ∧ r.2.mem ((c.tc : Thread Cert.ReferenceGInGatesIdeal.nD Cert.ReferenceGInGatesIdeal.τ).loc Cert.ReferenceGInGatesIdeal.main_arg1) = m' ((c.tc : Thread Cert.ReferenceGInGatesIdeal.nD Cert.ReferenceGInGatesIdeal.τ).loc Cert.ReferenceGInGatesIdeal.main_arg1))

def algebraic_KernelGInGatesIdeal_ReferenceGSsdOutIdeal [hKernelGInGatesIdeal : Cert.KernelGInGatesIdeal.Facts] [hReferenceGSsdOutIdeal : Cert.ReferenceGSsdOutIdeal.Facts] : Prop :=
  ∀ (m : (ℓ : Loc Cert.KernelGInGatesIdeal.nD Cert.KernelGInGatesIdeal.τ Cert.KernelGInGatesIdeal.sig) → Buf (Elt Ideal) ℓ) (g : Dev Cert.KernelGInGatesIdeal.nD → PrngReg)
    (m' : (ℓ : Loc Cert.ReferenceGSsdOutIdeal.nD Cert.ReferenceGSsdOutIdeal.τ Cert.ReferenceGSsdOutIdeal.sig) → Buf (Elt Ideal) ℓ) (g' : Dev Cert.ReferenceGSsdOutIdeal.nD → PrngReg), Pre_KernelGInGatesIdeal m →
    (∀ c : Dev Cert.KernelGInGatesIdeal.nD,
      m' ((c.tc : Thread Cert.ReferenceGSsdOutIdeal.nD Cert.ReferenceGSsdOutIdeal.τ).loc Cert.ReferenceGSsdOutIdeal.main_arg0) = m ((c.tc : Thread Cert.KernelGInGatesIdeal.nD Cert.KernelGInGatesIdeal.τ).loc Cert.KernelGInGatesIdeal.main_arg0)
      ∧ m' ((c.tc : Thread Cert.ReferenceGSsdOutIdeal.nD Cert.ReferenceGSsdOutIdeal.τ).loc Cert.ReferenceGSsdOutIdeal.main_arg1) = m ((c.tc : Thread Cert.KernelGInGatesIdeal.nD Cert.KernelGInGatesIdeal.τ).loc Cert.KernelGInGatesIdeal.main_arg1)) →
    ∃ (v0 : (c : Dev Cert.KernelGInGatesIdeal.nD) → Buf (Elt Ideal) ((c.tc : Thread Cert.KernelGInGatesIdeal.nD Cert.KernelGInGatesIdeal.τ).loc Cert.KernelGInGatesIdeal.main_v0)),
      θ_run (Cert.KernelGInGatesIdeal.defs (F := Ideal)) (onTc (τ := Cert.KernelGInGatesIdeal.τ) (Cert.KernelGInGatesIdeal.main (F := Ideal))) ⟨m, fun _ => 0, g⟩ (fun r => ∀ c : Dev Cert.KernelGInGatesIdeal.nD,
          r.2.mem ((c.tc : Thread Cert.KernelGInGatesIdeal.nD Cert.KernelGInGatesIdeal.τ).loc Cert.KernelGInGatesIdeal.main_v0) = v0 c
          ∧ r.2.mem ((c.tc : Thread Cert.KernelGInGatesIdeal.nD Cert.KernelGInGatesIdeal.τ).loc Cert.KernelGInGatesIdeal.main_arg0) = m ((c.tc : Thread Cert.KernelGInGatesIdeal.nD Cert.KernelGInGatesIdeal.τ).loc Cert.KernelGInGatesIdeal.main_arg0)
          ∧ r.2.mem ((c.tc : Thread Cert.KernelGInGatesIdeal.nD Cert.KernelGInGatesIdeal.τ).loc Cert.KernelGInGatesIdeal.main_arg1) = m ((c.tc : Thread Cert.KernelGInGatesIdeal.nD Cert.KernelGInGatesIdeal.τ).loc Cert.KernelGInGatesIdeal.main_arg1))
      ∧ θ_run (Cert.ReferenceGSsdOutIdeal.defs (F := Ideal)) (onTc (τ := Cert.ReferenceGSsdOutIdeal.τ) (Cert.ReferenceGSsdOutIdeal.main (F := Ideal))) ⟨m', fun _ => 0, g'⟩ (fun r => ∀ c : Dev Cert.ReferenceGSsdOutIdeal.nD,
          r.2.mem ((c.tc : Thread Cert.ReferenceGSsdOutIdeal.nD Cert.ReferenceGSsdOutIdeal.τ).loc Cert.ReferenceGSsdOutIdeal.main_v4) = v0 c
          ∧ r.2.mem ((c.tc : Thread Cert.ReferenceGSsdOutIdeal.nD Cert.ReferenceGSsdOutIdeal.τ).loc Cert.ReferenceGSsdOutIdeal.main_arg0) = m' ((c.tc : Thread Cert.ReferenceGSsdOutIdeal.nD Cert.ReferenceGSsdOutIdeal.τ).loc Cert.ReferenceGSsdOutIdeal.main_arg0)
          ∧ r.2.mem ((c.tc : Thread Cert.ReferenceGSsdOutIdeal.nD Cert.ReferenceGSsdOutIdeal.τ).loc Cert.ReferenceGSsdOutIdeal.main_arg1) = m' ((c.tc : Thread Cert.ReferenceGSsdOutIdeal.nD Cert.ReferenceGSsdOutIdeal.τ).loc Cert.ReferenceGSsdOutIdeal.main_arg1))

def preserves_KernelDUGates_KernelDUGatesIdeal : Prop :=
  True

def algebraic_KernelDUGatesIdeal_ReferenceDUGatesIdeal [hKernelDUGatesIdeal : Cert.KernelDUGatesIdeal.Facts] [hReferenceDUGatesIdeal : Cert.ReferenceDUGatesIdeal.Facts] : Prop :=
  ∀ (m : (ℓ : Loc Cert.KernelDUGatesIdeal.nD Cert.KernelDUGatesIdeal.τ Cert.KernelDUGatesIdeal.sig) → Buf (Elt Ideal) ℓ) (g : Dev Cert.KernelDUGatesIdeal.nD → PrngReg)
    (m' : (ℓ : Loc Cert.ReferenceDUGatesIdeal.nD Cert.ReferenceDUGatesIdeal.τ Cert.ReferenceDUGatesIdeal.sig) → Buf (Elt Ideal) ℓ) (g' : Dev Cert.ReferenceDUGatesIdeal.nD → PrngReg), Pre_KernelDUGatesIdeal m →
    (∀ c : Dev Cert.KernelDUGatesIdeal.nD,
      m' ((c.tc : Thread Cert.ReferenceDUGatesIdeal.nD Cert.ReferenceDUGatesIdeal.τ).loc Cert.ReferenceDUGatesIdeal.main_arg0) = m ((c.tc : Thread Cert.KernelDUGatesIdeal.nD Cert.KernelDUGatesIdeal.τ).loc Cert.KernelDUGatesIdeal.main_arg0)
      ∧ m' ((c.tc : Thread Cert.ReferenceDUGatesIdeal.nD Cert.ReferenceDUGatesIdeal.τ).loc Cert.ReferenceDUGatesIdeal.main_arg1) = m ((c.tc : Thread Cert.KernelDUGatesIdeal.nD Cert.KernelDUGatesIdeal.τ).loc Cert.KernelDUGatesIdeal.main_arg1)
      ∧ m' ((c.tc : Thread Cert.ReferenceDUGatesIdeal.nD Cert.ReferenceDUGatesIdeal.τ).loc Cert.ReferenceDUGatesIdeal.main_arg2) = m ((c.tc : Thread Cert.KernelDUGatesIdeal.nD Cert.KernelDUGatesIdeal.τ).loc Cert.KernelDUGatesIdeal.main_arg2)) →
    ∃ (v0 : (c : Dev Cert.KernelDUGatesIdeal.nD) → Buf (Elt Ideal) ((c.tc : Thread Cert.KernelDUGatesIdeal.nD Cert.KernelDUGatesIdeal.τ).loc Cert.KernelDUGatesIdeal.main_v0)),
      θ_run (Cert.KernelDUGatesIdeal.defs (F := Ideal)) (onTc (τ := Cert.KernelDUGatesIdeal.τ) (Cert.KernelDUGatesIdeal.main (F := Ideal))) ⟨m, fun _ => 0, g⟩ (fun r => ∀ c : Dev Cert.KernelDUGatesIdeal.nD,
          r.2.mem ((c.tc : Thread Cert.KernelDUGatesIdeal.nD Cert.KernelDUGatesIdeal.τ).loc Cert.KernelDUGatesIdeal.main_v0) = v0 c
          ∧ r.2.mem ((c.tc : Thread Cert.KernelDUGatesIdeal.nD Cert.KernelDUGatesIdeal.τ).loc Cert.KernelDUGatesIdeal.main_arg0) = m ((c.tc : Thread Cert.KernelDUGatesIdeal.nD Cert.KernelDUGatesIdeal.τ).loc Cert.KernelDUGatesIdeal.main_arg0)
          ∧ r.2.mem ((c.tc : Thread Cert.KernelDUGatesIdeal.nD Cert.KernelDUGatesIdeal.τ).loc Cert.KernelDUGatesIdeal.main_arg1) = m ((c.tc : Thread Cert.KernelDUGatesIdeal.nD Cert.KernelDUGatesIdeal.τ).loc Cert.KernelDUGatesIdeal.main_arg1)
          ∧ r.2.mem ((c.tc : Thread Cert.KernelDUGatesIdeal.nD Cert.KernelDUGatesIdeal.τ).loc Cert.KernelDUGatesIdeal.main_arg2) = m ((c.tc : Thread Cert.KernelDUGatesIdeal.nD Cert.KernelDUGatesIdeal.τ).loc Cert.KernelDUGatesIdeal.main_arg2))
      ∧ θ_run (Cert.ReferenceDUGatesIdeal.defs (F := Ideal)) (onTc (τ := Cert.ReferenceDUGatesIdeal.τ) (Cert.ReferenceDUGatesIdeal.main (F := Ideal))) ⟨m', fun _ => 0, g'⟩ (fun r => ∀ c : Dev Cert.ReferenceDUGatesIdeal.nD,
          r.2.mem ((c.tc : Thread Cert.ReferenceDUGatesIdeal.nD Cert.ReferenceDUGatesIdeal.τ).loc Cert.ReferenceDUGatesIdeal.main_v4) = v0 c
          ∧ r.2.mem ((c.tc : Thread Cert.ReferenceDUGatesIdeal.nD Cert.ReferenceDUGatesIdeal.τ).loc Cert.ReferenceDUGatesIdeal.main_arg0) = m' ((c.tc : Thread Cert.ReferenceDUGatesIdeal.nD Cert.ReferenceDUGatesIdeal.τ).loc Cert.ReferenceDUGatesIdeal.main_arg0)
          ∧ r.2.mem ((c.tc : Thread Cert.ReferenceDUGatesIdeal.nD Cert.ReferenceDUGatesIdeal.τ).loc Cert.ReferenceDUGatesIdeal.main_arg1) = m' ((c.tc : Thread Cert.ReferenceDUGatesIdeal.nD Cert.ReferenceDUGatesIdeal.τ).loc Cert.ReferenceDUGatesIdeal.main_arg1)
          ∧ r.2.mem ((c.tc : Thread Cert.ReferenceDUGatesIdeal.nD Cert.ReferenceDUGatesIdeal.τ).loc Cert.ReferenceDUGatesIdeal.main_arg2) = m' ((c.tc : Thread Cert.ReferenceDUGatesIdeal.nD Cert.ReferenceDUGatesIdeal.τ).loc Cert.ReferenceDUGatesIdeal.main_arg2))

def preserves_KernelFfnUp_KernelFfnUpIdeal : Prop :=
  True

def algebraic_KernelFfnUpIdeal_ReferenceFfnUpIdeal [hKernelFfnUpIdeal : Cert.KernelFfnUpIdeal.Facts] [hReferenceFfnUpIdeal : Cert.ReferenceFfnUpIdeal.Facts] : Prop :=
  ∀ (m : (ℓ : Loc Cert.KernelFfnUpIdeal.nD Cert.KernelFfnUpIdeal.τ Cert.KernelFfnUpIdeal.sig) → Buf (Elt Ideal) ℓ) (g : Dev Cert.KernelFfnUpIdeal.nD → PrngReg)
    (m' : (ℓ : Loc Cert.ReferenceFfnUpIdeal.nD Cert.ReferenceFfnUpIdeal.τ Cert.ReferenceFfnUpIdeal.sig) → Buf (Elt Ideal) ℓ) (g' : Dev Cert.ReferenceFfnUpIdeal.nD → PrngReg), Pre_KernelFfnUpIdeal m →
    (∀ c : Dev Cert.KernelFfnUpIdeal.nD,
      m' ((c.tc : Thread Cert.ReferenceFfnUpIdeal.nD Cert.ReferenceFfnUpIdeal.τ).loc Cert.ReferenceFfnUpIdeal.main_arg0) = m ((c.tc : Thread Cert.KernelFfnUpIdeal.nD Cert.KernelFfnUpIdeal.τ).loc Cert.KernelFfnUpIdeal.main_arg0)
      ∧ m' ((c.tc : Thread Cert.ReferenceFfnUpIdeal.nD Cert.ReferenceFfnUpIdeal.τ).loc Cert.ReferenceFfnUpIdeal.main_arg1) = m ((c.tc : Thread Cert.KernelFfnUpIdeal.nD Cert.KernelFfnUpIdeal.τ).loc Cert.KernelFfnUpIdeal.main_arg1)) →
    ∃ (v0 : (c : Dev Cert.KernelFfnUpIdeal.nD) → Buf (Elt Ideal) ((c.tc : Thread Cert.KernelFfnUpIdeal.nD Cert.KernelFfnUpIdeal.τ).loc Cert.KernelFfnUpIdeal.main_v0)),
      θ_run (Cert.KernelFfnUpIdeal.defs (F := Ideal)) (onTc (τ := Cert.KernelFfnUpIdeal.τ) (Cert.KernelFfnUpIdeal.main (F := Ideal))) ⟨m, fun _ => 0, g⟩ (fun r => ∀ c : Dev Cert.KernelFfnUpIdeal.nD,
          r.2.mem ((c.tc : Thread Cert.KernelFfnUpIdeal.nD Cert.KernelFfnUpIdeal.τ).loc Cert.KernelFfnUpIdeal.main_v0) = v0 c
          ∧ r.2.mem ((c.tc : Thread Cert.KernelFfnUpIdeal.nD Cert.KernelFfnUpIdeal.τ).loc Cert.KernelFfnUpIdeal.main_arg0) = m ((c.tc : Thread Cert.KernelFfnUpIdeal.nD Cert.KernelFfnUpIdeal.τ).loc Cert.KernelFfnUpIdeal.main_arg0)
          ∧ r.2.mem ((c.tc : Thread Cert.KernelFfnUpIdeal.nD Cert.KernelFfnUpIdeal.τ).loc Cert.KernelFfnUpIdeal.main_arg1) = m ((c.tc : Thread Cert.KernelFfnUpIdeal.nD Cert.KernelFfnUpIdeal.τ).loc Cert.KernelFfnUpIdeal.main_arg1))
      ∧ θ_run (Cert.ReferenceFfnUpIdeal.defs (F := Ideal)) (onTc (τ := Cert.ReferenceFfnUpIdeal.τ) (Cert.ReferenceFfnUpIdeal.main (F := Ideal))) ⟨m', fun _ => 0, g'⟩ (fun r => ∀ c : Dev Cert.ReferenceFfnUpIdeal.nD,
          r.2.mem ((c.tc : Thread Cert.ReferenceFfnUpIdeal.nD Cert.ReferenceFfnUpIdeal.τ).loc Cert.ReferenceFfnUpIdeal.main_v4) = v0 c
          ∧ r.2.mem ((c.tc : Thread Cert.ReferenceFfnUpIdeal.nD Cert.ReferenceFfnUpIdeal.τ).loc Cert.ReferenceFfnUpIdeal.main_arg0) = m' ((c.tc : Thread Cert.ReferenceFfnUpIdeal.nD Cert.ReferenceFfnUpIdeal.τ).loc Cert.ReferenceFfnUpIdeal.main_arg0)
          ∧ r.2.mem ((c.tc : Thread Cert.ReferenceFfnUpIdeal.nD Cert.ReferenceFfnUpIdeal.τ).loc Cert.ReferenceFfnUpIdeal.main_arg1) = m' ((c.tc : Thread Cert.ReferenceFfnUpIdeal.nD Cert.ReferenceFfnUpIdeal.τ).loc Cert.ReferenceFfnUpIdeal.main_arg1))

def preserves_KernelGFfnUp_KernelGFfnUpIdeal : Prop :=
  True

def algebraic_KernelGFfnUpIdeal_ReferenceGFfnUpIdeal [hKernelGFfnUpIdeal : Cert.KernelGFfnUpIdeal.Facts] [hReferenceGFfnUpIdeal : Cert.ReferenceGFfnUpIdeal.Facts] : Prop :=
  ∀ (m : (ℓ : Loc Cert.KernelGFfnUpIdeal.nD Cert.KernelGFfnUpIdeal.τ Cert.KernelGFfnUpIdeal.sig) → Buf (Elt Ideal) ℓ) (g : Dev Cert.KernelGFfnUpIdeal.nD → PrngReg)
    (m' : (ℓ : Loc Cert.ReferenceGFfnUpIdeal.nD Cert.ReferenceGFfnUpIdeal.τ Cert.ReferenceGFfnUpIdeal.sig) → Buf (Elt Ideal) ℓ) (g' : Dev Cert.ReferenceGFfnUpIdeal.nD → PrngReg), Pre_KernelGFfnUpIdeal m →
    (∀ c : Dev Cert.KernelGFfnUpIdeal.nD,
      m' ((c.tc : Thread Cert.ReferenceGFfnUpIdeal.nD Cert.ReferenceGFfnUpIdeal.τ).loc Cert.ReferenceGFfnUpIdeal.main_arg0) = m ((c.tc : Thread Cert.KernelGFfnUpIdeal.nD Cert.KernelGFfnUpIdeal.τ).loc Cert.KernelGFfnUpIdeal.main_arg0)
      ∧ m' ((c.tc : Thread Cert.ReferenceGFfnUpIdeal.nD Cert.ReferenceGFfnUpIdeal.τ).loc Cert.ReferenceGFfnUpIdeal.main_arg1) = m ((c.tc : Thread Cert.KernelGFfnUpIdeal.nD Cert.KernelGFfnUpIdeal.τ).loc Cert.KernelGFfnUpIdeal.main_arg1)) →
    ∃ (v0 : (c : Dev Cert.KernelGFfnUpIdeal.nD) → Buf (Elt Ideal) ((c.tc : Thread Cert.KernelGFfnUpIdeal.nD Cert.KernelGFfnUpIdeal.τ).loc Cert.KernelGFfnUpIdeal.main_v0)),
      θ_run (Cert.KernelGFfnUpIdeal.defs (F := Ideal)) (onTc (τ := Cert.KernelGFfnUpIdeal.τ) (Cert.KernelGFfnUpIdeal.main (F := Ideal))) ⟨m, fun _ => 0, g⟩ (fun r => ∀ c : Dev Cert.KernelGFfnUpIdeal.nD,
          r.2.mem ((c.tc : Thread Cert.KernelGFfnUpIdeal.nD Cert.KernelGFfnUpIdeal.τ).loc Cert.KernelGFfnUpIdeal.main_v0) = v0 c
          ∧ r.2.mem ((c.tc : Thread Cert.KernelGFfnUpIdeal.nD Cert.KernelGFfnUpIdeal.τ).loc Cert.KernelGFfnUpIdeal.main_arg0) = m ((c.tc : Thread Cert.KernelGFfnUpIdeal.nD Cert.KernelGFfnUpIdeal.τ).loc Cert.KernelGFfnUpIdeal.main_arg0)
          ∧ r.2.mem ((c.tc : Thread Cert.KernelGFfnUpIdeal.nD Cert.KernelGFfnUpIdeal.τ).loc Cert.KernelGFfnUpIdeal.main_arg1) = m ((c.tc : Thread Cert.KernelGFfnUpIdeal.nD Cert.KernelGFfnUpIdeal.τ).loc Cert.KernelGFfnUpIdeal.main_arg1))
      ∧ θ_run (Cert.ReferenceGFfnUpIdeal.defs (F := Ideal)) (onTc (τ := Cert.ReferenceGFfnUpIdeal.τ) (Cert.ReferenceGFfnUpIdeal.main (F := Ideal))) ⟨m', fun _ => 0, g'⟩ (fun r => ∀ c : Dev Cert.ReferenceGFfnUpIdeal.nD,
          r.2.mem ((c.tc : Thread Cert.ReferenceGFfnUpIdeal.nD Cert.ReferenceGFfnUpIdeal.τ).loc Cert.ReferenceGFfnUpIdeal.main_v5) = v0 c
          ∧ r.2.mem ((c.tc : Thread Cert.ReferenceGFfnUpIdeal.nD Cert.ReferenceGFfnUpIdeal.τ).loc Cert.ReferenceGFfnUpIdeal.main_arg0) = m' ((c.tc : Thread Cert.ReferenceGFfnUpIdeal.nD Cert.ReferenceGFfnUpIdeal.τ).loc Cert.ReferenceGFfnUpIdeal.main_arg0)
          ∧ r.2.mem ((c.tc : Thread Cert.ReferenceGFfnUpIdeal.nD Cert.ReferenceGFfnUpIdeal.τ).loc Cert.ReferenceGFfnUpIdeal.main_arg1) = m' ((c.tc : Thread Cert.ReferenceGFfnUpIdeal.nD Cert.ReferenceGFfnUpIdeal.τ).loc Cert.ReferenceGFfnUpIdeal.main_arg1))

def preserves_KernelDNormFfn_KernelDNormFfnIdeal : Prop :=
  True

def algebraic_KernelDNormFfnIdeal_ReferenceDNormFfnIdeal [hKernelDNormFfnIdeal : Cert.KernelDNormFfnIdeal.Facts] [hReferenceDNormFfnIdeal : Cert.ReferenceDNormFfnIdeal.Facts] : Prop :=
  ∀ (m : (ℓ : Loc Cert.KernelDNormFfnIdeal.nD Cert.KernelDNormFfnIdeal.τ Cert.KernelDNormFfnIdeal.sig) → Buf (Elt Ideal) ℓ) (g : Dev Cert.KernelDNormFfnIdeal.nD → PrngReg)
    (m' : (ℓ : Loc Cert.ReferenceDNormFfnIdeal.nD Cert.ReferenceDNormFfnIdeal.τ Cert.ReferenceDNormFfnIdeal.sig) → Buf (Elt Ideal) ℓ) (g' : Dev Cert.ReferenceDNormFfnIdeal.nD → PrngReg), Pre_KernelDNormFfnIdeal m →
    (∀ c : Dev Cert.KernelDNormFfnIdeal.nD,
      m' ((c.tc : Thread Cert.ReferenceDNormFfnIdeal.nD Cert.ReferenceDNormFfnIdeal.τ).loc Cert.ReferenceDNormFfnIdeal.main_arg0) = m ((c.tc : Thread Cert.KernelDNormFfnIdeal.nD Cert.KernelDNormFfnIdeal.τ).loc Cert.KernelDNormFfnIdeal.main_arg0)
      ∧ m' ((c.tc : Thread Cert.ReferenceDNormFfnIdeal.nD Cert.ReferenceDNormFfnIdeal.τ).loc Cert.ReferenceDNormFfnIdeal.main_arg1) = m ((c.tc : Thread Cert.KernelDNormFfnIdeal.nD Cert.KernelDNormFfnIdeal.τ).loc Cert.KernelDNormFfnIdeal.main_arg1)) →
    ∃ (v0 : (c : Dev Cert.KernelDNormFfnIdeal.nD) → Buf (Elt Ideal) ((c.tc : Thread Cert.KernelDNormFfnIdeal.nD Cert.KernelDNormFfnIdeal.τ).loc Cert.KernelDNormFfnIdeal.main_v0)),
      θ_run (Cert.KernelDNormFfnIdeal.defs (F := Ideal)) (onTc (τ := Cert.KernelDNormFfnIdeal.τ) (Cert.KernelDNormFfnIdeal.main (F := Ideal))) ⟨m, fun _ => 0, g⟩ (fun r => ∀ c : Dev Cert.KernelDNormFfnIdeal.nD,
          r.2.mem ((c.tc : Thread Cert.KernelDNormFfnIdeal.nD Cert.KernelDNormFfnIdeal.τ).loc Cert.KernelDNormFfnIdeal.main_v0) = v0 c
          ∧ r.2.mem ((c.tc : Thread Cert.KernelDNormFfnIdeal.nD Cert.KernelDNormFfnIdeal.τ).loc Cert.KernelDNormFfnIdeal.main_arg0) = m ((c.tc : Thread Cert.KernelDNormFfnIdeal.nD Cert.KernelDNormFfnIdeal.τ).loc Cert.KernelDNormFfnIdeal.main_arg0)
          ∧ r.2.mem ((c.tc : Thread Cert.KernelDNormFfnIdeal.nD Cert.KernelDNormFfnIdeal.τ).loc Cert.KernelDNormFfnIdeal.main_arg1) = m ((c.tc : Thread Cert.KernelDNormFfnIdeal.nD Cert.KernelDNormFfnIdeal.τ).loc Cert.KernelDNormFfnIdeal.main_arg1))
      ∧ θ_run (Cert.ReferenceDNormFfnIdeal.defs (F := Ideal)) (onTc (τ := Cert.ReferenceDNormFfnIdeal.τ) (Cert.ReferenceDNormFfnIdeal.main (F := Ideal))) ⟨m', fun _ => 0, g'⟩ (fun r => ∀ c : Dev Cert.ReferenceDNormFfnIdeal.nD,
          r.2.mem ((c.tc : Thread Cert.ReferenceDNormFfnIdeal.nD Cert.ReferenceDNormFfnIdeal.τ).loc Cert.ReferenceDNormFfnIdeal.main_v3) = v0 c
          ∧ r.2.mem ((c.tc : Thread Cert.ReferenceDNormFfnIdeal.nD Cert.ReferenceDNormFfnIdeal.τ).loc Cert.ReferenceDNormFfnIdeal.main_arg0) = m' ((c.tc : Thread Cert.ReferenceDNormFfnIdeal.nD Cert.ReferenceDNormFfnIdeal.τ).loc Cert.ReferenceDNormFfnIdeal.main_arg0)
          ∧ r.2.mem ((c.tc : Thread Cert.ReferenceDNormFfnIdeal.nD Cert.ReferenceDNormFfnIdeal.τ).loc Cert.ReferenceDNormFfnIdeal.main_arg1) = m' ((c.tc : Thread Cert.ReferenceDNormFfnIdeal.nD Cert.ReferenceDNormFfnIdeal.τ).loc Cert.ReferenceDNormFfnIdeal.main_arg1))

def preserves_KernelFfnDown_KernelFfnDownIdeal : Prop :=
  True

def algebraic_KernelFfnDownIdeal_ReferenceFfnDownIdeal [hKernelFfnDownIdeal : Cert.KernelFfnDownIdeal.Facts] [hReferenceFfnDownIdeal : Cert.ReferenceFfnDownIdeal.Facts] : Prop :=
  ∀ (m : (ℓ : Loc Cert.KernelFfnDownIdeal.nD Cert.KernelFfnDownIdeal.τ Cert.KernelFfnDownIdeal.sig) → Buf (Elt Ideal) ℓ) (g : Dev Cert.KernelFfnDownIdeal.nD → PrngReg)
    (m' : (ℓ : Loc Cert.ReferenceFfnDownIdeal.nD Cert.ReferenceFfnDownIdeal.τ Cert.ReferenceFfnDownIdeal.sig) → Buf (Elt Ideal) ℓ) (g' : Dev Cert.ReferenceFfnDownIdeal.nD → PrngReg), Pre_KernelFfnDownIdeal m →
    (∀ c : Dev Cert.KernelFfnDownIdeal.nD,
      m' ((c.tc : Thread Cert.ReferenceFfnDownIdeal.nD Cert.ReferenceFfnDownIdeal.τ).loc Cert.ReferenceFfnDownIdeal.main_arg0) = m ((c.tc : Thread Cert.KernelFfnDownIdeal.nD Cert.KernelFfnDownIdeal.τ).loc Cert.KernelFfnDownIdeal.main_arg0)
      ∧ m' ((c.tc : Thread Cert.ReferenceFfnDownIdeal.nD Cert.ReferenceFfnDownIdeal.τ).loc Cert.ReferenceFfnDownIdeal.main_arg1) = m ((c.tc : Thread Cert.KernelFfnDownIdeal.nD Cert.KernelFfnDownIdeal.τ).loc Cert.KernelFfnDownIdeal.main_arg1)
      ∧ m' ((c.tc : Thread Cert.ReferenceFfnDownIdeal.nD Cert.ReferenceFfnDownIdeal.τ).loc Cert.ReferenceFfnDownIdeal.main_arg2) = m ((c.tc : Thread Cert.KernelFfnDownIdeal.nD Cert.KernelFfnDownIdeal.τ).loc Cert.KernelFfnDownIdeal.main_arg2)) →
    ∃ (v0 : (c : Dev Cert.KernelFfnDownIdeal.nD) → Buf (Elt Ideal) ((c.tc : Thread Cert.KernelFfnDownIdeal.nD Cert.KernelFfnDownIdeal.τ).loc Cert.KernelFfnDownIdeal.main_v0)),
      θ_run (Cert.KernelFfnDownIdeal.defs (F := Ideal)) (onTc (τ := Cert.KernelFfnDownIdeal.τ) (Cert.KernelFfnDownIdeal.main (F := Ideal))) ⟨m, fun _ => 0, g⟩ (fun r => ∀ c : Dev Cert.KernelFfnDownIdeal.nD,
          r.2.mem ((c.tc : Thread Cert.KernelFfnDownIdeal.nD Cert.KernelFfnDownIdeal.τ).loc Cert.KernelFfnDownIdeal.main_v0) = v0 c
          ∧ r.2.mem ((c.tc : Thread Cert.KernelFfnDownIdeal.nD Cert.KernelFfnDownIdeal.τ).loc Cert.KernelFfnDownIdeal.main_arg0) = m ((c.tc : Thread Cert.KernelFfnDownIdeal.nD Cert.KernelFfnDownIdeal.τ).loc Cert.KernelFfnDownIdeal.main_arg0)
          ∧ r.2.mem ((c.tc : Thread Cert.KernelFfnDownIdeal.nD Cert.KernelFfnDownIdeal.τ).loc Cert.KernelFfnDownIdeal.main_arg1) = m ((c.tc : Thread Cert.KernelFfnDownIdeal.nD Cert.KernelFfnDownIdeal.τ).loc Cert.KernelFfnDownIdeal.main_arg1)
          ∧ r.2.mem ((c.tc : Thread Cert.KernelFfnDownIdeal.nD Cert.KernelFfnDownIdeal.τ).loc Cert.KernelFfnDownIdeal.main_arg2) = m ((c.tc : Thread Cert.KernelFfnDownIdeal.nD Cert.KernelFfnDownIdeal.τ).loc Cert.KernelFfnDownIdeal.main_arg2))
      ∧ θ_run (Cert.ReferenceFfnDownIdeal.defs (F := Ideal)) (onTc (τ := Cert.ReferenceFfnDownIdeal.τ) (Cert.ReferenceFfnDownIdeal.main (F := Ideal))) ⟨m', fun _ => 0, g'⟩ (fun r => ∀ c : Dev Cert.ReferenceFfnDownIdeal.nD,
          r.2.mem ((c.tc : Thread Cert.ReferenceFfnDownIdeal.nD Cert.ReferenceFfnDownIdeal.τ).loc Cert.ReferenceFfnDownIdeal.main_v3) = v0 c
          ∧ r.2.mem ((c.tc : Thread Cert.ReferenceFfnDownIdeal.nD Cert.ReferenceFfnDownIdeal.τ).loc Cert.ReferenceFfnDownIdeal.main_arg0) = m' ((c.tc : Thread Cert.ReferenceFfnDownIdeal.nD Cert.ReferenceFfnDownIdeal.τ).loc Cert.ReferenceFfnDownIdeal.main_arg0)
          ∧ r.2.mem ((c.tc : Thread Cert.ReferenceFfnDownIdeal.nD Cert.ReferenceFfnDownIdeal.τ).loc Cert.ReferenceFfnDownIdeal.main_arg1) = m' ((c.tc : Thread Cert.ReferenceFfnDownIdeal.nD Cert.ReferenceFfnDownIdeal.τ).loc Cert.ReferenceFfnDownIdeal.main_arg1)
          ∧ r.2.mem ((c.tc : Thread Cert.ReferenceFfnDownIdeal.nD Cert.ReferenceFfnDownIdeal.τ).loc Cert.ReferenceFfnDownIdeal.main_arg2) = m' ((c.tc : Thread Cert.ReferenceFfnDownIdeal.nD Cert.ReferenceFfnDownIdeal.τ).loc Cert.ReferenceFfnDownIdeal.main_arg2))

def algebraic_KernelFfnDownIdeal_ReferenceDNormFfnUIdeal [hKernelFfnDownIdeal : Cert.KernelFfnDownIdeal.Facts] [hReferenceDNormFfnUIdeal : Cert.ReferenceDNormFfnUIdeal.Facts] : Prop :=
  ∀ (m : (ℓ : Loc Cert.KernelFfnDownIdeal.nD Cert.KernelFfnDownIdeal.τ Cert.KernelFfnDownIdeal.sig) → Buf (Elt Ideal) ℓ) (g : Dev Cert.KernelFfnDownIdeal.nD → PrngReg)
    (m' : (ℓ : Loc Cert.ReferenceDNormFfnUIdeal.nD Cert.ReferenceDNormFfnUIdeal.τ Cert.ReferenceDNormFfnUIdeal.sig) → Buf (Elt Ideal) ℓ) (g' : Dev Cert.ReferenceDNormFfnUIdeal.nD → PrngReg), Pre_KernelFfnDownIdeal m →
    (∀ c : Dev Cert.KernelFfnDownIdeal.nD,
      m' ((c.tc : Thread Cert.ReferenceDNormFfnUIdeal.nD Cert.ReferenceDNormFfnUIdeal.τ).loc Cert.ReferenceDNormFfnUIdeal.main_arg0) = m ((c.tc : Thread Cert.KernelFfnDownIdeal.nD Cert.KernelFfnDownIdeal.τ).loc Cert.KernelFfnDownIdeal.main_arg0)
      ∧ m' ((c.tc : Thread Cert.ReferenceDNormFfnUIdeal.nD Cert.ReferenceDNormFfnUIdeal.τ).loc Cert.ReferenceDNormFfnUIdeal.main_arg1) = m ((c.tc : Thread Cert.KernelFfnDownIdeal.nD Cert.KernelFfnDownIdeal.τ).loc Cert.KernelFfnDownIdeal.main_arg1)
      ∧ m' ((c.tc : Thread Cert.ReferenceDNormFfnUIdeal.nD Cert.ReferenceDNormFfnUIdeal.τ).loc Cert.ReferenceDNormFfnUIdeal.main_arg2) = m ((c.tc : Thread Cert.KernelFfnDownIdeal.nD Cert.KernelFfnDownIdeal.τ).loc Cert.KernelFfnDownIdeal.main_arg2)) →
    ∃ (v0 : (c : Dev Cert.KernelFfnDownIdeal.nD) → Buf (Elt Ideal) ((c.tc : Thread Cert.KernelFfnDownIdeal.nD Cert.KernelFfnDownIdeal.τ).loc Cert.KernelFfnDownIdeal.main_v0)),
      θ_run (Cert.KernelFfnDownIdeal.defs (F := Ideal)) (onTc (τ := Cert.KernelFfnDownIdeal.τ) (Cert.KernelFfnDownIdeal.main (F := Ideal))) ⟨m, fun _ => 0, g⟩ (fun r => ∀ c : Dev Cert.KernelFfnDownIdeal.nD,
          r.2.mem ((c.tc : Thread Cert.KernelFfnDownIdeal.nD Cert.KernelFfnDownIdeal.τ).loc Cert.KernelFfnDownIdeal.main_v0) = v0 c
          ∧ r.2.mem ((c.tc : Thread Cert.KernelFfnDownIdeal.nD Cert.KernelFfnDownIdeal.τ).loc Cert.KernelFfnDownIdeal.main_arg0) = m ((c.tc : Thread Cert.KernelFfnDownIdeal.nD Cert.KernelFfnDownIdeal.τ).loc Cert.KernelFfnDownIdeal.main_arg0)
          ∧ r.2.mem ((c.tc : Thread Cert.KernelFfnDownIdeal.nD Cert.KernelFfnDownIdeal.τ).loc Cert.KernelFfnDownIdeal.main_arg1) = m ((c.tc : Thread Cert.KernelFfnDownIdeal.nD Cert.KernelFfnDownIdeal.τ).loc Cert.KernelFfnDownIdeal.main_arg1)
          ∧ r.2.mem ((c.tc : Thread Cert.KernelFfnDownIdeal.nD Cert.KernelFfnDownIdeal.τ).loc Cert.KernelFfnDownIdeal.main_arg2) = m ((c.tc : Thread Cert.KernelFfnDownIdeal.nD Cert.KernelFfnDownIdeal.τ).loc Cert.KernelFfnDownIdeal.main_arg2))
      ∧ θ_run (Cert.ReferenceDNormFfnUIdeal.defs (F := Ideal)) (onTc (τ := Cert.ReferenceDNormFfnUIdeal.τ) (Cert.ReferenceDNormFfnUIdeal.main (F := Ideal))) ⟨m', fun _ => 0, g'⟩ (fun r => ∀ c : Dev Cert.ReferenceDNormFfnUIdeal.nD,
          r.2.mem ((c.tc : Thread Cert.ReferenceDNormFfnUIdeal.nD Cert.ReferenceDNormFfnUIdeal.τ).loc Cert.ReferenceDNormFfnUIdeal.main_v4) = v0 c
          ∧ r.2.mem ((c.tc : Thread Cert.ReferenceDNormFfnUIdeal.nD Cert.ReferenceDNormFfnUIdeal.τ).loc Cert.ReferenceDNormFfnUIdeal.main_arg0) = m' ((c.tc : Thread Cert.ReferenceDNormFfnUIdeal.nD Cert.ReferenceDNormFfnUIdeal.τ).loc Cert.ReferenceDNormFfnUIdeal.main_arg0)
          ∧ r.2.mem ((c.tc : Thread Cert.ReferenceDNormFfnUIdeal.nD Cert.ReferenceDNormFfnUIdeal.τ).loc Cert.ReferenceDNormFfnUIdeal.main_arg1) = m' ((c.tc : Thread Cert.ReferenceDNormFfnUIdeal.nD Cert.ReferenceDNormFfnUIdeal.τ).loc Cert.ReferenceDNormFfnUIdeal.main_arg1)
          ∧ r.2.mem ((c.tc : Thread Cert.ReferenceDNormFfnUIdeal.nD Cert.ReferenceDNormFfnUIdeal.τ).loc Cert.ReferenceDNormFfnUIdeal.main_arg2) = m' ((c.tc : Thread Cert.ReferenceDNormFfnUIdeal.nD Cert.ReferenceDNormFfnUIdeal.τ).loc Cert.ReferenceDNormFfnUIdeal.main_arg2))

def preserves_KernelDFfnAct_KernelDFfnActIdeal : Prop :=
  True

def algebraic_KernelDFfnActIdeal_ReferenceDFfnActIdeal [hKernelDFfnActIdeal : Cert.KernelDFfnActIdeal.Facts] [hReferenceDFfnActIdeal : Cert.ReferenceDFfnActIdeal.Facts] : Prop :=
  ∀ (m : (ℓ : Loc Cert.KernelDFfnActIdeal.nD Cert.KernelDFfnActIdeal.τ Cert.KernelDFfnActIdeal.sig) → Buf (Elt Ideal) ℓ) (g : Dev Cert.KernelDFfnActIdeal.nD → PrngReg)
    (m' : (ℓ : Loc Cert.ReferenceDFfnActIdeal.nD Cert.ReferenceDFfnActIdeal.τ Cert.ReferenceDFfnActIdeal.sig) → Buf (Elt Ideal) ℓ) (g' : Dev Cert.ReferenceDFfnActIdeal.nD → PrngReg), Pre_KernelDFfnActIdeal m →
    (∀ c : Dev Cert.KernelDFfnActIdeal.nD,
      m' ((c.tc : Thread Cert.ReferenceDFfnActIdeal.nD Cert.ReferenceDFfnActIdeal.τ).loc Cert.ReferenceDFfnActIdeal.main_arg0) = m ((c.tc : Thread Cert.KernelDFfnActIdeal.nD Cert.KernelDFfnActIdeal.τ).loc Cert.KernelDFfnActIdeal.main_arg0)
      ∧ m' ((c.tc : Thread Cert.ReferenceDFfnActIdeal.nD Cert.ReferenceDFfnActIdeal.τ).loc Cert.ReferenceDFfnActIdeal.main_arg1) = m ((c.tc : Thread Cert.KernelDFfnActIdeal.nD Cert.KernelDFfnActIdeal.τ).loc Cert.KernelDFfnActIdeal.main_arg1)) →
    ∃ (v0 : (c : Dev Cert.KernelDFfnActIdeal.nD) → Buf (Elt Ideal) ((c.tc : Thread Cert.KernelDFfnActIdeal.nD Cert.KernelDFfnActIdeal.τ).loc Cert.KernelDFfnActIdeal.main_v0)),
      θ_run (Cert.KernelDFfnActIdeal.defs (F := Ideal)) (onTc (τ := Cert.KernelDFfnActIdeal.τ) (Cert.KernelDFfnActIdeal.main (F := Ideal))) ⟨m, fun _ => 0, g⟩ (fun r => ∀ c : Dev Cert.KernelDFfnActIdeal.nD,
          r.2.mem ((c.tc : Thread Cert.KernelDFfnActIdeal.nD Cert.KernelDFfnActIdeal.τ).loc Cert.KernelDFfnActIdeal.main_v0) = v0 c
          ∧ r.2.mem ((c.tc : Thread Cert.KernelDFfnActIdeal.nD Cert.KernelDFfnActIdeal.τ).loc Cert.KernelDFfnActIdeal.main_arg0) = m ((c.tc : Thread Cert.KernelDFfnActIdeal.nD Cert.KernelDFfnActIdeal.τ).loc Cert.KernelDFfnActIdeal.main_arg0)
          ∧ r.2.mem ((c.tc : Thread Cert.KernelDFfnActIdeal.nD Cert.KernelDFfnActIdeal.τ).loc Cert.KernelDFfnActIdeal.main_arg1) = m ((c.tc : Thread Cert.KernelDFfnActIdeal.nD Cert.KernelDFfnActIdeal.τ).loc Cert.KernelDFfnActIdeal.main_arg1))
      ∧ θ_run (Cert.ReferenceDFfnActIdeal.defs (F := Ideal)) (onTc (τ := Cert.ReferenceDFfnActIdeal.τ) (Cert.ReferenceDFfnActIdeal.main (F := Ideal))) ⟨m', fun _ => 0, g'⟩ (fun r => ∀ c : Dev Cert.ReferenceDFfnActIdeal.nD,
          r.2.mem ((c.tc : Thread Cert.ReferenceDFfnActIdeal.nD Cert.ReferenceDFfnActIdeal.τ).loc Cert.ReferenceDFfnActIdeal.main_v2) = v0 c
          ∧ r.2.mem ((c.tc : Thread Cert.ReferenceDFfnActIdeal.nD Cert.ReferenceDFfnActIdeal.τ).loc Cert.ReferenceDFfnActIdeal.main_arg0) = m' ((c.tc : Thread Cert.ReferenceDFfnActIdeal.nD Cert.ReferenceDFfnActIdeal.τ).loc Cert.ReferenceDFfnActIdeal.main_arg0)
          ∧ r.2.mem ((c.tc : Thread Cert.ReferenceDFfnActIdeal.nD Cert.ReferenceDFfnActIdeal.τ).loc Cert.ReferenceDFfnActIdeal.main_arg1) = m' ((c.tc : Thread Cert.ReferenceDFfnActIdeal.nD Cert.ReferenceDFfnActIdeal.τ).loc Cert.ReferenceDFfnActIdeal.main_arg1))

def preserves_KernelGFfnDown_KernelGFfnDownIdeal : Prop :=
  True

def algebraic_KernelGFfnDownIdeal_ReferenceGFfnDownIdeal [hKernelGFfnDownIdeal : Cert.KernelGFfnDownIdeal.Facts] [hReferenceGFfnDownIdeal : Cert.ReferenceGFfnDownIdeal.Facts] : Prop :=
  ∀ (m : (ℓ : Loc Cert.KernelGFfnDownIdeal.nD Cert.KernelGFfnDownIdeal.τ Cert.KernelGFfnDownIdeal.sig) → Buf (Elt Ideal) ℓ) (g : Dev Cert.KernelGFfnDownIdeal.nD → PrngReg)
    (m' : (ℓ : Loc Cert.ReferenceGFfnDownIdeal.nD Cert.ReferenceGFfnDownIdeal.τ Cert.ReferenceGFfnDownIdeal.sig) → Buf (Elt Ideal) ℓ) (g' : Dev Cert.ReferenceGFfnDownIdeal.nD → PrngReg), Pre_KernelGFfnDownIdeal m →
    (∀ c : Dev Cert.KernelGFfnDownIdeal.nD,
      m' ((c.tc : Thread Cert.ReferenceGFfnDownIdeal.nD Cert.ReferenceGFfnDownIdeal.τ).loc Cert.ReferenceGFfnDownIdeal.main_arg0) = m ((c.tc : Thread Cert.KernelGFfnDownIdeal.nD Cert.KernelGFfnDownIdeal.τ).loc Cert.KernelGFfnDownIdeal.main_arg0)
      ∧ m' ((c.tc : Thread Cert.ReferenceGFfnDownIdeal.nD Cert.ReferenceGFfnDownIdeal.τ).loc Cert.ReferenceGFfnDownIdeal.main_arg1) = m ((c.tc : Thread Cert.KernelGFfnDownIdeal.nD Cert.KernelGFfnDownIdeal.τ).loc Cert.KernelGFfnDownIdeal.main_arg1)) →
    ∃ (v0 : (c : Dev Cert.KernelGFfnDownIdeal.nD) → Buf (Elt Ideal) ((c.tc : Thread Cert.KernelGFfnDownIdeal.nD Cert.KernelGFfnDownIdeal.τ).loc Cert.KernelGFfnDownIdeal.main_v0)),
      θ_run (Cert.KernelGFfnDownIdeal.defs (F := Ideal)) (onTc (τ := Cert.KernelGFfnDownIdeal.τ) (Cert.KernelGFfnDownIdeal.main (F := Ideal))) ⟨m, fun _ => 0, g⟩ (fun r => ∀ c : Dev Cert.KernelGFfnDownIdeal.nD,
          r.2.mem ((c.tc : Thread Cert.KernelGFfnDownIdeal.nD Cert.KernelGFfnDownIdeal.τ).loc Cert.KernelGFfnDownIdeal.main_v0) = v0 c
          ∧ r.2.mem ((c.tc : Thread Cert.KernelGFfnDownIdeal.nD Cert.KernelGFfnDownIdeal.τ).loc Cert.KernelGFfnDownIdeal.main_arg0) = m ((c.tc : Thread Cert.KernelGFfnDownIdeal.nD Cert.KernelGFfnDownIdeal.τ).loc Cert.KernelGFfnDownIdeal.main_arg0)
          ∧ r.2.mem ((c.tc : Thread Cert.KernelGFfnDownIdeal.nD Cert.KernelGFfnDownIdeal.τ).loc Cert.KernelGFfnDownIdeal.main_arg1) = m ((c.tc : Thread Cert.KernelGFfnDownIdeal.nD Cert.KernelGFfnDownIdeal.τ).loc Cert.KernelGFfnDownIdeal.main_arg1))
      ∧ θ_run (Cert.ReferenceGFfnDownIdeal.defs (F := Ideal)) (onTc (τ := Cert.ReferenceGFfnDownIdeal.τ) (Cert.ReferenceGFfnDownIdeal.main (F := Ideal))) ⟨m', fun _ => 0, g'⟩ (fun r => ∀ c : Dev Cert.ReferenceGFfnDownIdeal.nD,
          r.2.mem ((c.tc : Thread Cert.ReferenceGFfnDownIdeal.nD Cert.ReferenceGFfnDownIdeal.τ).loc Cert.ReferenceGFfnDownIdeal.main_v3) = v0 c
          ∧ r.2.mem ((c.tc : Thread Cert.ReferenceGFfnDownIdeal.nD Cert.ReferenceGFfnDownIdeal.τ).loc Cert.ReferenceGFfnDownIdeal.main_arg0) = m' ((c.tc : Thread Cert.ReferenceGFfnDownIdeal.nD Cert.ReferenceGFfnDownIdeal.τ).loc Cert.ReferenceGFfnDownIdeal.main_arg0)
          ∧ r.2.mem ((c.tc : Thread Cert.ReferenceGFfnDownIdeal.nD Cert.ReferenceGFfnDownIdeal.τ).loc Cert.ReferenceGFfnDownIdeal.main_arg1) = m' ((c.tc : Thread Cert.ReferenceGFfnDownIdeal.nD Cert.ReferenceGFfnDownIdeal.τ).loc Cert.ReferenceGFfnDownIdeal.main_arg1))

def preserves_KernelSsdOut_KernelSsdOutIdeal : Prop :=
  True

def algebraic_KernelSsdOutIdeal_ReferenceSsdOutIdeal [hKernelSsdOutIdeal : Cert.KernelSsdOutIdeal.Facts] [hReferenceSsdOutIdeal : Cert.ReferenceSsdOutIdeal.Facts] : Prop :=
  ∀ (m : (ℓ : Loc Cert.KernelSsdOutIdeal.nD Cert.KernelSsdOutIdeal.τ Cert.KernelSsdOutIdeal.sig) → Buf (Elt Ideal) ℓ) (g : Dev Cert.KernelSsdOutIdeal.nD → PrngReg)
    (m' : (ℓ : Loc Cert.ReferenceSsdOutIdeal.nD Cert.ReferenceSsdOutIdeal.τ Cert.ReferenceSsdOutIdeal.sig) → Buf (Elt Ideal) ℓ) (g' : Dev Cert.ReferenceSsdOutIdeal.nD → PrngReg), Pre_KernelSsdOutIdeal m →
    (∀ c : Dev Cert.KernelSsdOutIdeal.nD,
      m' ((c.tc : Thread Cert.ReferenceSsdOutIdeal.nD Cert.ReferenceSsdOutIdeal.τ).loc Cert.ReferenceSsdOutIdeal.main_arg0) = m ((c.tc : Thread Cert.KernelSsdOutIdeal.nD Cert.KernelSsdOutIdeal.τ).loc Cert.KernelSsdOutIdeal.main_arg0)
      ∧ m' ((c.tc : Thread Cert.ReferenceSsdOutIdeal.nD Cert.ReferenceSsdOutIdeal.τ).loc Cert.ReferenceSsdOutIdeal.main_arg1) = m ((c.tc : Thread Cert.KernelSsdOutIdeal.nD Cert.KernelSsdOutIdeal.τ).loc Cert.KernelSsdOutIdeal.main_arg1)) →
    ∃ (v0 : (c : Dev Cert.KernelSsdOutIdeal.nD) → Buf (Elt Ideal) ((c.tc : Thread Cert.KernelSsdOutIdeal.nD Cert.KernelSsdOutIdeal.τ).loc Cert.KernelSsdOutIdeal.main_v0)),
      θ_run (Cert.KernelSsdOutIdeal.defs (F := Ideal)) (onTc (τ := Cert.KernelSsdOutIdeal.τ) (Cert.KernelSsdOutIdeal.main (F := Ideal))) ⟨m, fun _ => 0, g⟩ (fun r => ∀ c : Dev Cert.KernelSsdOutIdeal.nD,
          r.2.mem ((c.tc : Thread Cert.KernelSsdOutIdeal.nD Cert.KernelSsdOutIdeal.τ).loc Cert.KernelSsdOutIdeal.main_v0) = v0 c
          ∧ r.2.mem ((c.tc : Thread Cert.KernelSsdOutIdeal.nD Cert.KernelSsdOutIdeal.τ).loc Cert.KernelSsdOutIdeal.main_arg0) = m ((c.tc : Thread Cert.KernelSsdOutIdeal.nD Cert.KernelSsdOutIdeal.τ).loc Cert.KernelSsdOutIdeal.main_arg0)
          ∧ r.2.mem ((c.tc : Thread Cert.KernelSsdOutIdeal.nD Cert.KernelSsdOutIdeal.τ).loc Cert.KernelSsdOutIdeal.main_arg1) = m ((c.tc : Thread Cert.KernelSsdOutIdeal.nD Cert.KernelSsdOutIdeal.τ).loc Cert.KernelSsdOutIdeal.main_arg1))
      ∧ θ_run (Cert.ReferenceSsdOutIdeal.defs (F := Ideal)) (onTc (τ := Cert.ReferenceSsdOutIdeal.τ) (Cert.ReferenceSsdOutIdeal.main (F := Ideal))) ⟨m', fun _ => 0, g'⟩ (fun r => ∀ c : Dev Cert.ReferenceSsdOutIdeal.nD,
          r.2.mem ((c.tc : Thread Cert.ReferenceSsdOutIdeal.nD Cert.ReferenceSsdOutIdeal.τ).loc Cert.ReferenceSsdOutIdeal.main_v3) = v0 c
          ∧ r.2.mem ((c.tc : Thread Cert.ReferenceSsdOutIdeal.nD Cert.ReferenceSsdOutIdeal.τ).loc Cert.ReferenceSsdOutIdeal.main_arg0) = m' ((c.tc : Thread Cert.ReferenceSsdOutIdeal.nD Cert.ReferenceSsdOutIdeal.τ).loc Cert.ReferenceSsdOutIdeal.main_arg0)
          ∧ r.2.mem ((c.tc : Thread Cert.ReferenceSsdOutIdeal.nD Cert.ReferenceSsdOutIdeal.τ).loc Cert.ReferenceSsdOutIdeal.main_arg1) = m' ((c.tc : Thread Cert.ReferenceSsdOutIdeal.nD Cert.ReferenceSsdOutIdeal.τ).loc Cert.ReferenceSsdOutIdeal.main_arg1))

def preserves_KernelRetOut_KernelRetOutIdeal : Prop :=
  True

def algebraic_KernelRetOutIdeal_ReferenceRetOutIdeal [hKernelRetOutIdeal : Cert.KernelRetOutIdeal.Facts] [hReferenceRetOutIdeal : Cert.ReferenceRetOutIdeal.Facts] : Prop :=
  ∀ (m : (ℓ : Loc Cert.KernelRetOutIdeal.nD Cert.KernelRetOutIdeal.τ Cert.KernelRetOutIdeal.sig) → Buf (Elt Ideal) ℓ) (g : Dev Cert.KernelRetOutIdeal.nD → PrngReg)
    (m' : (ℓ : Loc Cert.ReferenceRetOutIdeal.nD Cert.ReferenceRetOutIdeal.τ Cert.ReferenceRetOutIdeal.sig) → Buf (Elt Ideal) ℓ) (g' : Dev Cert.ReferenceRetOutIdeal.nD → PrngReg), Pre_KernelRetOutIdeal m →
    (∀ c : Dev Cert.KernelRetOutIdeal.nD,
      m' ((c.tc : Thread Cert.ReferenceRetOutIdeal.nD Cert.ReferenceRetOutIdeal.τ).loc Cert.ReferenceRetOutIdeal.main_arg0) = m ((c.tc : Thread Cert.KernelRetOutIdeal.nD Cert.KernelRetOutIdeal.τ).loc Cert.KernelRetOutIdeal.main_arg0)
      ∧ m' ((c.tc : Thread Cert.ReferenceRetOutIdeal.nD Cert.ReferenceRetOutIdeal.τ).loc Cert.ReferenceRetOutIdeal.main_arg1) = m ((c.tc : Thread Cert.KernelRetOutIdeal.nD Cert.KernelRetOutIdeal.τ).loc Cert.KernelRetOutIdeal.main_arg1)) →
    ∃ (v0 : (c : Dev Cert.KernelRetOutIdeal.nD) → Buf (Elt Ideal) ((c.tc : Thread Cert.KernelRetOutIdeal.nD Cert.KernelRetOutIdeal.τ).loc Cert.KernelRetOutIdeal.main_v0)),
      θ_run (Cert.KernelRetOutIdeal.defs (F := Ideal)) (onTc (τ := Cert.KernelRetOutIdeal.τ) (Cert.KernelRetOutIdeal.main (F := Ideal))) ⟨m, fun _ => 0, g⟩ (fun r => ∀ c : Dev Cert.KernelRetOutIdeal.nD,
          r.2.mem ((c.tc : Thread Cert.KernelRetOutIdeal.nD Cert.KernelRetOutIdeal.τ).loc Cert.KernelRetOutIdeal.main_v0) = v0 c
          ∧ r.2.mem ((c.tc : Thread Cert.KernelRetOutIdeal.nD Cert.KernelRetOutIdeal.τ).loc Cert.KernelRetOutIdeal.main_arg0) = m ((c.tc : Thread Cert.KernelRetOutIdeal.nD Cert.KernelRetOutIdeal.τ).loc Cert.KernelRetOutIdeal.main_arg0)
          ∧ r.2.mem ((c.tc : Thread Cert.KernelRetOutIdeal.nD Cert.KernelRetOutIdeal.τ).loc Cert.KernelRetOutIdeal.main_arg1) = m ((c.tc : Thread Cert.KernelRetOutIdeal.nD Cert.KernelRetOutIdeal.τ).loc Cert.KernelRetOutIdeal.main_arg1))
      ∧ θ_run (Cert.ReferenceRetOutIdeal.defs (F := Ideal)) (onTc (τ := Cert.ReferenceRetOutIdeal.τ) (Cert.ReferenceRetOutIdeal.main (F := Ideal))) ⟨m', fun _ => 0, g'⟩ (fun r => ∀ c : Dev Cert.ReferenceRetOutIdeal.nD,
          r.2.mem ((c.tc : Thread Cert.ReferenceRetOutIdeal.nD Cert.ReferenceRetOutIdeal.τ).loc Cert.ReferenceRetOutIdeal.main_v3) = v0 c
          ∧ r.2.mem ((c.tc : Thread Cert.ReferenceRetOutIdeal.nD Cert.ReferenceRetOutIdeal.τ).loc Cert.ReferenceRetOutIdeal.main_arg0) = m' ((c.tc : Thread Cert.ReferenceRetOutIdeal.nD Cert.ReferenceRetOutIdeal.τ).loc Cert.ReferenceRetOutIdeal.main_arg0)
          ∧ r.2.mem ((c.tc : Thread Cert.ReferenceRetOutIdeal.nD Cert.ReferenceRetOutIdeal.τ).loc Cert.ReferenceRetOutIdeal.main_arg1) = m' ((c.tc : Thread Cert.ReferenceRetOutIdeal.nD Cert.ReferenceRetOutIdeal.τ).loc Cert.ReferenceRetOutIdeal.main_arg1))

def preserves_KernelDRetAct_KernelDRetActIdeal : Prop :=
  True

def algebraic_KernelDRetActIdeal_ReferenceDRetActIdeal [hKernelDRetActIdeal : Cert.KernelDRetActIdeal.Facts] [hReferenceDRetActIdeal : Cert.ReferenceDRetActIdeal.Facts] : Prop :=
  ∀ (m : (ℓ : Loc Cert.KernelDRetActIdeal.nD Cert.KernelDRetActIdeal.τ Cert.KernelDRetActIdeal.sig) → Buf (Elt Ideal) ℓ) (g : Dev Cert.KernelDRetActIdeal.nD → PrngReg)
    (m' : (ℓ : Loc Cert.ReferenceDRetActIdeal.nD Cert.ReferenceDRetActIdeal.τ Cert.ReferenceDRetActIdeal.sig) → Buf (Elt Ideal) ℓ) (g' : Dev Cert.ReferenceDRetActIdeal.nD → PrngReg), Pre_KernelDRetActIdeal m →
    (∀ c : Dev Cert.KernelDRetActIdeal.nD,
      m' ((c.tc : Thread Cert.ReferenceDRetActIdeal.nD Cert.ReferenceDRetActIdeal.τ).loc Cert.ReferenceDRetActIdeal.main_arg0) = m ((c.tc : Thread Cert.KernelDRetActIdeal.nD Cert.KernelDRetActIdeal.τ).loc Cert.KernelDRetActIdeal.main_arg0)
      ∧ m' ((c.tc : Thread Cert.ReferenceDRetActIdeal.nD Cert.ReferenceDRetActIdeal.τ).loc Cert.ReferenceDRetActIdeal.main_arg1) = m ((c.tc : Thread Cert.KernelDRetActIdeal.nD Cert.KernelDRetActIdeal.τ).loc Cert.KernelDRetActIdeal.main_arg1)) →
    ∃ (v0 : (c : Dev Cert.KernelDRetActIdeal.nD) → Buf (Elt Ideal) ((c.tc : Thread Cert.KernelDRetActIdeal.nD Cert.KernelDRetActIdeal.τ).loc Cert.KernelDRetActIdeal.main_v0)),
      θ_run (Cert.KernelDRetActIdeal.defs (F := Ideal)) (onTc (τ := Cert.KernelDRetActIdeal.τ) (Cert.KernelDRetActIdeal.main (F := Ideal))) ⟨m, fun _ => 0, g⟩ (fun r => ∀ c : Dev Cert.KernelDRetActIdeal.nD,
          r.2.mem ((c.tc : Thread Cert.KernelDRetActIdeal.nD Cert.KernelDRetActIdeal.τ).loc Cert.KernelDRetActIdeal.main_v0) = v0 c
          ∧ r.2.mem ((c.tc : Thread Cert.KernelDRetActIdeal.nD Cert.KernelDRetActIdeal.τ).loc Cert.KernelDRetActIdeal.main_arg0) = m ((c.tc : Thread Cert.KernelDRetActIdeal.nD Cert.KernelDRetActIdeal.τ).loc Cert.KernelDRetActIdeal.main_arg0)
          ∧ r.2.mem ((c.tc : Thread Cert.KernelDRetActIdeal.nD Cert.KernelDRetActIdeal.τ).loc Cert.KernelDRetActIdeal.main_arg1) = m ((c.tc : Thread Cert.KernelDRetActIdeal.nD Cert.KernelDRetActIdeal.τ).loc Cert.KernelDRetActIdeal.main_arg1))
      ∧ θ_run (Cert.ReferenceDRetActIdeal.defs (F := Ideal)) (onTc (τ := Cert.ReferenceDRetActIdeal.τ) (Cert.ReferenceDRetActIdeal.main (F := Ideal))) ⟨m', fun _ => 0, g'⟩ (fun r => ∀ c : Dev Cert.ReferenceDRetActIdeal.nD,
          r.2.mem ((c.tc : Thread Cert.ReferenceDRetActIdeal.nD Cert.ReferenceDRetActIdeal.τ).loc Cert.ReferenceDRetActIdeal.main_v3) = v0 c
          ∧ r.2.mem ((c.tc : Thread Cert.ReferenceDRetActIdeal.nD Cert.ReferenceDRetActIdeal.τ).loc Cert.ReferenceDRetActIdeal.main_arg0) = m' ((c.tc : Thread Cert.ReferenceDRetActIdeal.nD Cert.ReferenceDRetActIdeal.τ).loc Cert.ReferenceDRetActIdeal.main_arg0)
          ∧ r.2.mem ((c.tc : Thread Cert.ReferenceDRetActIdeal.nD Cert.ReferenceDRetActIdeal.τ).loc Cert.ReferenceDRetActIdeal.main_arg1) = m' ((c.tc : Thread Cert.ReferenceDRetActIdeal.nD Cert.ReferenceDRetActIdeal.τ).loc Cert.ReferenceDRetActIdeal.main_arg1))

def preserves_KernelGRetOut_KernelGRetOutIdeal : Prop :=
  True

def algebraic_KernelGRetOutIdeal_ReferenceGRetOutIdeal [hKernelGRetOutIdeal : Cert.KernelGRetOutIdeal.Facts] [hReferenceGRetOutIdeal : Cert.ReferenceGRetOutIdeal.Facts] : Prop :=
  ∀ (m : (ℓ : Loc Cert.KernelGRetOutIdeal.nD Cert.KernelGRetOutIdeal.τ Cert.KernelGRetOutIdeal.sig) → Buf (Elt Ideal) ℓ) (g : Dev Cert.KernelGRetOutIdeal.nD → PrngReg)
    (m' : (ℓ : Loc Cert.ReferenceGRetOutIdeal.nD Cert.ReferenceGRetOutIdeal.τ Cert.ReferenceGRetOutIdeal.sig) → Buf (Elt Ideal) ℓ) (g' : Dev Cert.ReferenceGRetOutIdeal.nD → PrngReg), Pre_KernelGRetOutIdeal m →
    (∀ c : Dev Cert.KernelGRetOutIdeal.nD,
      m' ((c.tc : Thread Cert.ReferenceGRetOutIdeal.nD Cert.ReferenceGRetOutIdeal.τ).loc Cert.ReferenceGRetOutIdeal.main_arg0) = m ((c.tc : Thread Cert.KernelGRetOutIdeal.nD Cert.KernelGRetOutIdeal.τ).loc Cert.KernelGRetOutIdeal.main_arg0)
      ∧ m' ((c.tc : Thread Cert.ReferenceGRetOutIdeal.nD Cert.ReferenceGRetOutIdeal.τ).loc Cert.ReferenceGRetOutIdeal.main_arg1) = m ((c.tc : Thread Cert.KernelGRetOutIdeal.nD Cert.KernelGRetOutIdeal.τ).loc Cert.KernelGRetOutIdeal.main_arg1)) →
    ∃ (v0 : (c : Dev Cert.KernelGRetOutIdeal.nD) → Buf (Elt Ideal) ((c.tc : Thread Cert.KernelGRetOutIdeal.nD Cert.KernelGRetOutIdeal.τ).loc Cert.KernelGRetOutIdeal.main_v0)),
      θ_run (Cert.KernelGRetOutIdeal.defs (F := Ideal)) (onTc (τ := Cert.KernelGRetOutIdeal.τ) (Cert.KernelGRetOutIdeal.main (F := Ideal))) ⟨m, fun _ => 0, g⟩ (fun r => ∀ c : Dev Cert.KernelGRetOutIdeal.nD,
          r.2.mem ((c.tc : Thread Cert.KernelGRetOutIdeal.nD Cert.KernelGRetOutIdeal.τ).loc Cert.KernelGRetOutIdeal.main_v0) = v0 c
          ∧ r.2.mem ((c.tc : Thread Cert.KernelGRetOutIdeal.nD Cert.KernelGRetOutIdeal.τ).loc Cert.KernelGRetOutIdeal.main_arg0) = m ((c.tc : Thread Cert.KernelGRetOutIdeal.nD Cert.KernelGRetOutIdeal.τ).loc Cert.KernelGRetOutIdeal.main_arg0)
          ∧ r.2.mem ((c.tc : Thread Cert.KernelGRetOutIdeal.nD Cert.KernelGRetOutIdeal.τ).loc Cert.KernelGRetOutIdeal.main_arg1) = m ((c.tc : Thread Cert.KernelGRetOutIdeal.nD Cert.KernelGRetOutIdeal.τ).loc Cert.KernelGRetOutIdeal.main_arg1))
      ∧ θ_run (Cert.ReferenceGRetOutIdeal.defs (F := Ideal)) (onTc (τ := Cert.ReferenceGRetOutIdeal.τ) (Cert.ReferenceGRetOutIdeal.main (F := Ideal))) ⟨m', fun _ => 0, g'⟩ (fun r => ∀ c : Dev Cert.ReferenceGRetOutIdeal.nD,
          r.2.mem ((c.tc : Thread Cert.ReferenceGRetOutIdeal.nD Cert.ReferenceGRetOutIdeal.τ).loc Cert.ReferenceGRetOutIdeal.main_v4) = v0 c
          ∧ r.2.mem ((c.tc : Thread Cert.ReferenceGRetOutIdeal.nD Cert.ReferenceGRetOutIdeal.τ).loc Cert.ReferenceGRetOutIdeal.main_arg0) = m' ((c.tc : Thread Cert.ReferenceGRetOutIdeal.nD Cert.ReferenceGRetOutIdeal.τ).loc Cert.ReferenceGRetOutIdeal.main_arg0)
          ∧ r.2.mem ((c.tc : Thread Cert.ReferenceGRetOutIdeal.nD Cert.ReferenceGRetOutIdeal.τ).loc Cert.ReferenceGRetOutIdeal.main_arg1) = m' ((c.tc : Thread Cert.ReferenceGRetOutIdeal.nD Cert.ReferenceGRetOutIdeal.τ).loc Cert.ReferenceGRetOutIdeal.main_arg1))

def preserves_KernelMixOut_KernelMixOutIdeal : Prop :=
  True

def algebraic_KernelMixOutIdeal_ReferenceMixOutIdeal [hKernelMixOutIdeal : Cert.KernelMixOutIdeal.Facts] [hReferenceMixOutIdeal : Cert.ReferenceMixOutIdeal.Facts] : Prop :=
  ∀ (m : (ℓ : Loc Cert.KernelMixOutIdeal.nD Cert.KernelMixOutIdeal.τ Cert.KernelMixOutIdeal.sig) → Buf (Elt Ideal) ℓ) (g : Dev Cert.KernelMixOutIdeal.nD → PrngReg)
    (m' : (ℓ : Loc Cert.ReferenceMixOutIdeal.nD Cert.ReferenceMixOutIdeal.τ Cert.ReferenceMixOutIdeal.sig) → Buf (Elt Ideal) ℓ) (g' : Dev Cert.ReferenceMixOutIdeal.nD → PrngReg), Pre_KernelMixOutIdeal m →
    (∀ c : Dev Cert.KernelMixOutIdeal.nD,
      m' ((c.tc : Thread Cert.ReferenceMixOutIdeal.nD Cert.ReferenceMixOutIdeal.τ).loc Cert.ReferenceMixOutIdeal.main_arg0) = m ((c.tc : Thread Cert.KernelMixOutIdeal.nD Cert.KernelMixOutIdeal.τ).loc Cert.KernelMixOutIdeal.main_arg0)
      ∧ m' ((c.tc : Thread Cert.ReferenceMixOutIdeal.nD Cert.ReferenceMixOutIdeal.τ).loc Cert.ReferenceMixOutIdeal.main_arg1) = m ((c.tc : Thread Cert.KernelMixOutIdeal.nD Cert.KernelMixOutIdeal.τ).loc Cert.KernelMixOutIdeal.main_arg1)
      ∧ m' ((c.tc : Thread Cert.ReferenceMixOutIdeal.nD Cert.ReferenceMixOutIdeal.τ).loc Cert.ReferenceMixOutIdeal.main_arg2) = m ((c.tc : Thread Cert.KernelMixOutIdeal.nD Cert.KernelMixOutIdeal.τ).loc Cert.KernelMixOutIdeal.main_arg2)) →
    ∃ (v0 : (c : Dev Cert.KernelMixOutIdeal.nD) → Buf (Elt Ideal) ((c.tc : Thread Cert.KernelMixOutIdeal.nD Cert.KernelMixOutIdeal.τ).loc Cert.KernelMixOutIdeal.main_v0)),
      θ_run (Cert.KernelMixOutIdeal.defs (F := Ideal)) (onTc (τ := Cert.KernelMixOutIdeal.τ) (Cert.KernelMixOutIdeal.main (F := Ideal))) ⟨m, fun _ => 0, g⟩ (fun r => ∀ c : Dev Cert.KernelMixOutIdeal.nD,
          r.2.mem ((c.tc : Thread Cert.KernelMixOutIdeal.nD Cert.KernelMixOutIdeal.τ).loc Cert.KernelMixOutIdeal.main_v0) = v0 c
          ∧ r.2.mem ((c.tc : Thread Cert.KernelMixOutIdeal.nD Cert.KernelMixOutIdeal.τ).loc Cert.KernelMixOutIdeal.main_arg0) = m ((c.tc : Thread Cert.KernelMixOutIdeal.nD Cert.KernelMixOutIdeal.τ).loc Cert.KernelMixOutIdeal.main_arg0)
          ∧ r.2.mem ((c.tc : Thread Cert.KernelMixOutIdeal.nD Cert.KernelMixOutIdeal.τ).loc Cert.KernelMixOutIdeal.main_arg1) = m ((c.tc : Thread Cert.KernelMixOutIdeal.nD Cert.KernelMixOutIdeal.τ).loc Cert.KernelMixOutIdeal.main_arg1)
          ∧ r.2.mem ((c.tc : Thread Cert.KernelMixOutIdeal.nD Cert.KernelMixOutIdeal.τ).loc Cert.KernelMixOutIdeal.main_arg2) = m ((c.tc : Thread Cert.KernelMixOutIdeal.nD Cert.KernelMixOutIdeal.τ).loc Cert.KernelMixOutIdeal.main_arg2))
      ∧ θ_run (Cert.ReferenceMixOutIdeal.defs (F := Ideal)) (onTc (τ := Cert.ReferenceMixOutIdeal.τ) (Cert.ReferenceMixOutIdeal.main (F := Ideal))) ⟨m', fun _ => 0, g'⟩ (fun r => ∀ c : Dev Cert.ReferenceMixOutIdeal.nD,
          r.2.mem ((c.tc : Thread Cert.ReferenceMixOutIdeal.nD Cert.ReferenceMixOutIdeal.τ).loc Cert.ReferenceMixOutIdeal.main_v3) = v0 c
          ∧ r.2.mem ((c.tc : Thread Cert.ReferenceMixOutIdeal.nD Cert.ReferenceMixOutIdeal.τ).loc Cert.ReferenceMixOutIdeal.main_arg0) = m' ((c.tc : Thread Cert.ReferenceMixOutIdeal.nD Cert.ReferenceMixOutIdeal.τ).loc Cert.ReferenceMixOutIdeal.main_arg0)
          ∧ r.2.mem ((c.tc : Thread Cert.ReferenceMixOutIdeal.nD Cert.ReferenceMixOutIdeal.τ).loc Cert.ReferenceMixOutIdeal.main_arg1) = m' ((c.tc : Thread Cert.ReferenceMixOutIdeal.nD Cert.ReferenceMixOutIdeal.τ).loc Cert.ReferenceMixOutIdeal.main_arg1)
          ∧ r.2.mem ((c.tc : Thread Cert.ReferenceMixOutIdeal.nD Cert.ReferenceMixOutIdeal.τ).loc Cert.ReferenceMixOutIdeal.main_arg2) = m' ((c.tc : Thread Cert.ReferenceMixOutIdeal.nD Cert.ReferenceMixOutIdeal.τ).loc Cert.ReferenceMixOutIdeal.main_arg2))

def preserves_KernelDMerged_KernelDMergedIdeal : Prop :=
  True

def algebraic_KernelDMergedIdeal_ReferenceDMergedIdeal [hKernelDMergedIdeal : Cert.KernelDMergedIdeal.Facts] [hReferenceDMergedIdeal : Cert.ReferenceDMergedIdeal.Facts] : Prop :=
  ∀ (m : (ℓ : Loc Cert.KernelDMergedIdeal.nD Cert.KernelDMergedIdeal.τ Cert.KernelDMergedIdeal.sig) → Buf (Elt Ideal) ℓ) (g : Dev Cert.KernelDMergedIdeal.nD → PrngReg)
    (m' : (ℓ : Loc Cert.ReferenceDMergedIdeal.nD Cert.ReferenceDMergedIdeal.τ Cert.ReferenceDMergedIdeal.sig) → Buf (Elt Ideal) ℓ) (g' : Dev Cert.ReferenceDMergedIdeal.nD → PrngReg), Pre_KernelDMergedIdeal m →
    (∀ c : Dev Cert.KernelDMergedIdeal.nD,
      m' ((c.tc : Thread Cert.ReferenceDMergedIdeal.nD Cert.ReferenceDMergedIdeal.τ).loc Cert.ReferenceDMergedIdeal.main_arg0) = m ((c.tc : Thread Cert.KernelDMergedIdeal.nD Cert.KernelDMergedIdeal.τ).loc Cert.KernelDMergedIdeal.main_arg0)
      ∧ m' ((c.tc : Thread Cert.ReferenceDMergedIdeal.nD Cert.ReferenceDMergedIdeal.τ).loc Cert.ReferenceDMergedIdeal.main_arg1) = m ((c.tc : Thread Cert.KernelDMergedIdeal.nD Cert.KernelDMergedIdeal.τ).loc Cert.KernelDMergedIdeal.main_arg1)) →
    ∃ (v0 : (c : Dev Cert.KernelDMergedIdeal.nD) → Buf (Elt Ideal) ((c.tc : Thread Cert.KernelDMergedIdeal.nD Cert.KernelDMergedIdeal.τ).loc Cert.KernelDMergedIdeal.main_v0)),
      θ_run (Cert.KernelDMergedIdeal.defs (F := Ideal)) (onTc (τ := Cert.KernelDMergedIdeal.τ) (Cert.KernelDMergedIdeal.main (F := Ideal))) ⟨m, fun _ => 0, g⟩ (fun r => ∀ c : Dev Cert.KernelDMergedIdeal.nD,
          r.2.mem ((c.tc : Thread Cert.KernelDMergedIdeal.nD Cert.KernelDMergedIdeal.τ).loc Cert.KernelDMergedIdeal.main_v0) = v0 c
          ∧ r.2.mem ((c.tc : Thread Cert.KernelDMergedIdeal.nD Cert.KernelDMergedIdeal.τ).loc Cert.KernelDMergedIdeal.main_arg0) = m ((c.tc : Thread Cert.KernelDMergedIdeal.nD Cert.KernelDMergedIdeal.τ).loc Cert.KernelDMergedIdeal.main_arg0)
          ∧ r.2.mem ((c.tc : Thread Cert.KernelDMergedIdeal.nD Cert.KernelDMergedIdeal.τ).loc Cert.KernelDMergedIdeal.main_arg1) = m ((c.tc : Thread Cert.KernelDMergedIdeal.nD Cert.KernelDMergedIdeal.τ).loc Cert.KernelDMergedIdeal.main_arg1))
      ∧ θ_run (Cert.ReferenceDMergedIdeal.defs (F := Ideal)) (onTc (τ := Cert.ReferenceDMergedIdeal.τ) (Cert.ReferenceDMergedIdeal.main (F := Ideal))) ⟨m', fun _ => 0, g'⟩ (fun r => ∀ c : Dev Cert.ReferenceDMergedIdeal.nD,
          r.2.mem ((c.tc : Thread Cert.ReferenceDMergedIdeal.nD Cert.ReferenceDMergedIdeal.τ).loc Cert.ReferenceDMergedIdeal.main_v2) = v0 c
          ∧ r.2.mem ((c.tc : Thread Cert.ReferenceDMergedIdeal.nD Cert.ReferenceDMergedIdeal.τ).loc Cert.ReferenceDMergedIdeal.main_arg0) = m' ((c.tc : Thread Cert.ReferenceDMergedIdeal.nD Cert.ReferenceDMergedIdeal.τ).loc Cert.ReferenceDMergedIdeal.main_arg0)
          ∧ r.2.mem ((c.tc : Thread Cert.ReferenceDMergedIdeal.nD Cert.ReferenceDMergedIdeal.τ).loc Cert.ReferenceDMergedIdeal.main_arg1) = m' ((c.tc : Thread Cert.ReferenceDMergedIdeal.nD Cert.ReferenceDMergedIdeal.τ).loc Cert.ReferenceDMergedIdeal.main_arg1))

def preserves_KernelGOut_KernelGOutIdeal : Prop :=
  True

def algebraic_KernelGOutIdeal_ReferenceGOutIdeal [hKernelGOutIdeal : Cert.KernelGOutIdeal.Facts] [hReferenceGOutIdeal : Cert.ReferenceGOutIdeal.Facts] : Prop :=
  ∀ (m : (ℓ : Loc Cert.KernelGOutIdeal.nD Cert.KernelGOutIdeal.τ Cert.KernelGOutIdeal.sig) → Buf (Elt Ideal) ℓ) (g : Dev Cert.KernelGOutIdeal.nD → PrngReg)
    (m' : (ℓ : Loc Cert.ReferenceGOutIdeal.nD Cert.ReferenceGOutIdeal.τ Cert.ReferenceGOutIdeal.sig) → Buf (Elt Ideal) ℓ) (g' : Dev Cert.ReferenceGOutIdeal.nD → PrngReg), Pre_KernelGOutIdeal m →
    (∀ c : Dev Cert.KernelGOutIdeal.nD,
      m' ((c.tc : Thread Cert.ReferenceGOutIdeal.nD Cert.ReferenceGOutIdeal.τ).loc Cert.ReferenceGOutIdeal.main_arg0) = m ((c.tc : Thread Cert.KernelGOutIdeal.nD Cert.KernelGOutIdeal.τ).loc Cert.KernelGOutIdeal.main_arg0)
      ∧ m' ((c.tc : Thread Cert.ReferenceGOutIdeal.nD Cert.ReferenceGOutIdeal.τ).loc Cert.ReferenceGOutIdeal.main_arg1) = m ((c.tc : Thread Cert.KernelGOutIdeal.nD Cert.KernelGOutIdeal.τ).loc Cert.KernelGOutIdeal.main_arg1)) →
    ∃ (v0 : (c : Dev Cert.KernelGOutIdeal.nD) → Buf (Elt Ideal) ((c.tc : Thread Cert.KernelGOutIdeal.nD Cert.KernelGOutIdeal.τ).loc Cert.KernelGOutIdeal.main_v0)),
      θ_run (Cert.KernelGOutIdeal.defs (F := Ideal)) (onTc (τ := Cert.KernelGOutIdeal.τ) (Cert.KernelGOutIdeal.main (F := Ideal))) ⟨m, fun _ => 0, g⟩ (fun r => ∀ c : Dev Cert.KernelGOutIdeal.nD,
          r.2.mem ((c.tc : Thread Cert.KernelGOutIdeal.nD Cert.KernelGOutIdeal.τ).loc Cert.KernelGOutIdeal.main_v0) = v0 c
          ∧ r.2.mem ((c.tc : Thread Cert.KernelGOutIdeal.nD Cert.KernelGOutIdeal.τ).loc Cert.KernelGOutIdeal.main_arg0) = m ((c.tc : Thread Cert.KernelGOutIdeal.nD Cert.KernelGOutIdeal.τ).loc Cert.KernelGOutIdeal.main_arg0)
          ∧ r.2.mem ((c.tc : Thread Cert.KernelGOutIdeal.nD Cert.KernelGOutIdeal.τ).loc Cert.KernelGOutIdeal.main_arg1) = m ((c.tc : Thread Cert.KernelGOutIdeal.nD Cert.KernelGOutIdeal.τ).loc Cert.KernelGOutIdeal.main_arg1))
      ∧ θ_run (Cert.ReferenceGOutIdeal.defs (F := Ideal)) (onTc (τ := Cert.ReferenceGOutIdeal.τ) (Cert.ReferenceGOutIdeal.main (F := Ideal))) ⟨m', fun _ => 0, g'⟩ (fun r => ∀ c : Dev Cert.ReferenceGOutIdeal.nD,
          r.2.mem ((c.tc : Thread Cert.ReferenceGOutIdeal.nD Cert.ReferenceGOutIdeal.τ).loc Cert.ReferenceGOutIdeal.main_v3) = v0 c
          ∧ r.2.mem ((c.tc : Thread Cert.ReferenceGOutIdeal.nD Cert.ReferenceGOutIdeal.τ).loc Cert.ReferenceGOutIdeal.main_arg0) = m' ((c.tc : Thread Cert.ReferenceGOutIdeal.nD Cert.ReferenceGOutIdeal.τ).loc Cert.ReferenceGOutIdeal.main_arg0)
          ∧ r.2.mem ((c.tc : Thread Cert.ReferenceGOutIdeal.nD Cert.ReferenceGOutIdeal.τ).loc Cert.ReferenceGOutIdeal.main_arg1) = m' ((c.tc : Thread Cert.ReferenceGOutIdeal.nD Cert.ReferenceGOutIdeal.τ).loc Cert.ReferenceGOutIdeal.main_arg1))

def preserves_KernelProjDt_KernelProjDtIdeal : Prop :=
  True

def algebraic_KernelProjDtIdeal_ReferenceProjDtIdeal [hKernelProjDtIdeal : Cert.KernelProjDtIdeal.Facts] [hReferenceProjDtIdeal : Cert.ReferenceProjDtIdeal.Facts] : Prop :=
  ∀ (m : (ℓ : Loc Cert.KernelProjDtIdeal.nD Cert.KernelProjDtIdeal.τ Cert.KernelProjDtIdeal.sig) → Buf (Elt Ideal) ℓ) (g : Dev Cert.KernelProjDtIdeal.nD → PrngReg)
    (m' : (ℓ : Loc Cert.ReferenceProjDtIdeal.nD Cert.ReferenceProjDtIdeal.τ Cert.ReferenceProjDtIdeal.sig) → Buf (Elt Ideal) ℓ) (g' : Dev Cert.ReferenceProjDtIdeal.nD → PrngReg), Pre_KernelProjDtIdeal m →
    (∀ c : Dev Cert.KernelProjDtIdeal.nD,
      m' ((c.tc : Thread Cert.ReferenceProjDtIdeal.nD Cert.ReferenceProjDtIdeal.τ).loc Cert.ReferenceProjDtIdeal.main_arg0) = m ((c.tc : Thread Cert.KernelProjDtIdeal.nD Cert.KernelProjDtIdeal.τ).loc Cert.KernelProjDtIdeal.main_arg0)
      ∧ m' ((c.tc : Thread Cert.ReferenceProjDtIdeal.nD Cert.ReferenceProjDtIdeal.τ).loc Cert.ReferenceProjDtIdeal.main_arg1) = m ((c.tc : Thread Cert.KernelProjDtIdeal.nD Cert.KernelProjDtIdeal.τ).loc Cert.KernelProjDtIdeal.main_arg1)) →
    ∃ (v0 : (c : Dev Cert.KernelProjDtIdeal.nD) → Buf (Elt Ideal) ((c.tc : Thread Cert.KernelProjDtIdeal.nD Cert.KernelProjDtIdeal.τ).loc Cert.KernelProjDtIdeal.main_v0)),
      θ_run (Cert.KernelProjDtIdeal.defs (F := Ideal)) (onTc (τ := Cert.KernelProjDtIdeal.τ) (Cert.KernelProjDtIdeal.main (F := Ideal))) ⟨m, fun _ => 0, g⟩ (fun r => ∀ c : Dev Cert.KernelProjDtIdeal.nD,
          r.2.mem ((c.tc : Thread Cert.KernelProjDtIdeal.nD Cert.KernelProjDtIdeal.τ).loc Cert.KernelProjDtIdeal.main_v0) = v0 c
          ∧ r.2.mem ((c.tc : Thread Cert.KernelProjDtIdeal.nD Cert.KernelProjDtIdeal.τ).loc Cert.KernelProjDtIdeal.main_arg0) = m ((c.tc : Thread Cert.KernelProjDtIdeal.nD Cert.KernelProjDtIdeal.τ).loc Cert.KernelProjDtIdeal.main_arg0)
          ∧ r.2.mem ((c.tc : Thread Cert.KernelProjDtIdeal.nD Cert.KernelProjDtIdeal.τ).loc Cert.KernelProjDtIdeal.main_arg1) = m ((c.tc : Thread Cert.KernelProjDtIdeal.nD Cert.KernelProjDtIdeal.τ).loc Cert.KernelProjDtIdeal.main_arg1))
      ∧ θ_run (Cert.ReferenceProjDtIdeal.defs (F := Ideal)) (onTc (τ := Cert.ReferenceProjDtIdeal.τ) (Cert.ReferenceProjDtIdeal.main (F := Ideal))) ⟨m', fun _ => 0, g'⟩ (fun r => ∀ c : Dev Cert.ReferenceProjDtIdeal.nD,
          r.2.mem ((c.tc : Thread Cert.ReferenceProjDtIdeal.nD Cert.ReferenceProjDtIdeal.τ).loc Cert.ReferenceProjDtIdeal.main_v3) = v0 c
          ∧ r.2.mem ((c.tc : Thread Cert.ReferenceProjDtIdeal.nD Cert.ReferenceProjDtIdeal.τ).loc Cert.ReferenceProjDtIdeal.main_arg0) = m' ((c.tc : Thread Cert.ReferenceProjDtIdeal.nD Cert.ReferenceProjDtIdeal.τ).loc Cert.ReferenceProjDtIdeal.main_arg0)
          ∧ r.2.mem ((c.tc : Thread Cert.ReferenceProjDtIdeal.nD Cert.ReferenceProjDtIdeal.τ).loc Cert.ReferenceProjDtIdeal.main_arg1) = m' ((c.tc : Thread Cert.ReferenceProjDtIdeal.nD Cert.ReferenceProjDtIdeal.τ).loc Cert.ReferenceProjDtIdeal.main_arg1))

def preserves_KernelGInDt_KernelGInDtIdeal : Prop :=
  True

def algebraic_KernelGInDtIdeal_ReferenceGInDtIdeal [hKernelGInDtIdeal : Cert.KernelGInDtIdeal.Facts] [hReferenceGInDtIdeal : Cert.ReferenceGInDtIdeal.Facts] : Prop :=
  ∀ (m : (ℓ : Loc Cert.KernelGInDtIdeal.nD Cert.KernelGInDtIdeal.τ Cert.KernelGInDtIdeal.sig) → Buf (Elt Ideal) ℓ) (g : Dev Cert.KernelGInDtIdeal.nD → PrngReg)
    (m' : (ℓ : Loc Cert.ReferenceGInDtIdeal.nD Cert.ReferenceGInDtIdeal.τ Cert.ReferenceGInDtIdeal.sig) → Buf (Elt Ideal) ℓ) (g' : Dev Cert.ReferenceGInDtIdeal.nD → PrngReg), Pre_KernelGInDtIdeal m →
    (∀ c : Dev Cert.KernelGInDtIdeal.nD,
      m' ((c.tc : Thread Cert.ReferenceGInDtIdeal.nD Cert.ReferenceGInDtIdeal.τ).loc Cert.ReferenceGInDtIdeal.main_arg0) = m ((c.tc : Thread Cert.KernelGInDtIdeal.nD Cert.KernelGInDtIdeal.τ).loc Cert.KernelGInDtIdeal.main_arg0)
      ∧ m' ((c.tc : Thread Cert.ReferenceGInDtIdeal.nD Cert.ReferenceGInDtIdeal.τ).loc Cert.ReferenceGInDtIdeal.main_arg1) = m ((c.tc : Thread Cert.KernelGInDtIdeal.nD Cert.KernelGInDtIdeal.τ).loc Cert.KernelGInDtIdeal.main_arg1)) →
    ∃ (v0 : (c : Dev Cert.KernelGInDtIdeal.nD) → Buf (Elt Ideal) ((c.tc : Thread Cert.KernelGInDtIdeal.nD Cert.KernelGInDtIdeal.τ).loc Cert.KernelGInDtIdeal.main_v0)),
      θ_run (Cert.KernelGInDtIdeal.defs (F := Ideal)) (onTc (τ := Cert.KernelGInDtIdeal.τ) (Cert.KernelGInDtIdeal.main (F := Ideal))) ⟨m, fun _ => 0, g⟩ (fun r => ∀ c : Dev Cert.KernelGInDtIdeal.nD,
          r.2.mem ((c.tc : Thread Cert.KernelGInDtIdeal.nD Cert.KernelGInDtIdeal.τ).loc Cert.KernelGInDtIdeal.main_v0) = v0 c
          ∧ r.2.mem ((c.tc : Thread Cert.KernelGInDtIdeal.nD Cert.KernelGInDtIdeal.τ).loc Cert.KernelGInDtIdeal.main_arg0) = m ((c.tc : Thread Cert.KernelGInDtIdeal.nD Cert.KernelGInDtIdeal.τ).loc Cert.KernelGInDtIdeal.main_arg0)
          ∧ r.2.mem ((c.tc : Thread Cert.KernelGInDtIdeal.nD Cert.KernelGInDtIdeal.τ).loc Cert.KernelGInDtIdeal.main_arg1) = m ((c.tc : Thread Cert.KernelGInDtIdeal.nD Cert.KernelGInDtIdeal.τ).loc Cert.KernelGInDtIdeal.main_arg1))
      ∧ θ_run (Cert.ReferenceGInDtIdeal.defs (F := Ideal)) (onTc (τ := Cert.ReferenceGInDtIdeal.τ) (Cert.ReferenceGInDtIdeal.main (F := Ideal))) ⟨m', fun _ => 0, g'⟩ (fun r => ∀ c : Dev Cert.ReferenceGInDtIdeal.nD,
          r.2.mem ((c.tc : Thread Cert.ReferenceGInDtIdeal.nD Cert.ReferenceGInDtIdeal.τ).loc Cert.ReferenceGInDtIdeal.main_v5) = v0 c
          ∧ r.2.mem ((c.tc : Thread Cert.ReferenceGInDtIdeal.nD Cert.ReferenceGInDtIdeal.τ).loc Cert.ReferenceGInDtIdeal.main_arg0) = m' ((c.tc : Thread Cert.ReferenceGInDtIdeal.nD Cert.ReferenceGInDtIdeal.τ).loc Cert.ReferenceGInDtIdeal.main_arg0)
          ∧ r.2.mem ((c.tc : Thread Cert.ReferenceGInDtIdeal.nD Cert.ReferenceGInDtIdeal.τ).loc Cert.ReferenceGInDtIdeal.main_arg1) = m' ((c.tc : Thread Cert.ReferenceGInDtIdeal.nD Cert.ReferenceGInDtIdeal.τ).loc Cert.ReferenceGInDtIdeal.main_arg1))

def preserves_KernelDUDt_KernelDUDtIdeal : Prop :=
  True

def algebraic_KernelDUDtIdeal_ReferenceDUDtIdeal [hKernelDUDtIdeal : Cert.KernelDUDtIdeal.Facts] [hReferenceDUDtIdeal : Cert.ReferenceDUDtIdeal.Facts] : Prop :=
  ∀ (m : (ℓ : Loc Cert.KernelDUDtIdeal.nD Cert.KernelDUDtIdeal.τ Cert.KernelDUDtIdeal.sig) → Buf (Elt Ideal) ℓ) (g : Dev Cert.KernelDUDtIdeal.nD → PrngReg)
    (m' : (ℓ : Loc Cert.ReferenceDUDtIdeal.nD Cert.ReferenceDUDtIdeal.τ Cert.ReferenceDUDtIdeal.sig) → Buf (Elt Ideal) ℓ) (g' : Dev Cert.ReferenceDUDtIdeal.nD → PrngReg), Pre_KernelDUDtIdeal m →
    (∀ c : Dev Cert.KernelDUDtIdeal.nD,
      m' ((c.tc : Thread Cert.ReferenceDUDtIdeal.nD Cert.ReferenceDUDtIdeal.τ).loc Cert.ReferenceDUDtIdeal.main_arg0) = m ((c.tc : Thread Cert.KernelDUDtIdeal.nD Cert.KernelDUDtIdeal.τ).loc Cert.KernelDUDtIdeal.main_arg0)
      ∧ m' ((c.tc : Thread Cert.ReferenceDUDtIdeal.nD Cert.ReferenceDUDtIdeal.τ).loc Cert.ReferenceDUDtIdeal.main_arg1) = m ((c.tc : Thread Cert.KernelDUDtIdeal.nD Cert.KernelDUDtIdeal.τ).loc Cert.KernelDUDtIdeal.main_arg1)) →
    ∃ (v0 : (c : Dev Cert.KernelDUDtIdeal.nD) → Buf (Elt Ideal) ((c.tc : Thread Cert.KernelDUDtIdeal.nD Cert.KernelDUDtIdeal.τ).loc Cert.KernelDUDtIdeal.main_v0)),
      θ_run (Cert.KernelDUDtIdeal.defs (F := Ideal)) (onTc (τ := Cert.KernelDUDtIdeal.τ) (Cert.KernelDUDtIdeal.main (F := Ideal))) ⟨m, fun _ => 0, g⟩ (fun r => ∀ c : Dev Cert.KernelDUDtIdeal.nD,
          r.2.mem ((c.tc : Thread Cert.KernelDUDtIdeal.nD Cert.KernelDUDtIdeal.τ).loc Cert.KernelDUDtIdeal.main_v0) = v0 c
          ∧ r.2.mem ((c.tc : Thread Cert.KernelDUDtIdeal.nD Cert.KernelDUDtIdeal.τ).loc Cert.KernelDUDtIdeal.main_arg0) = m ((c.tc : Thread Cert.KernelDUDtIdeal.nD Cert.KernelDUDtIdeal.τ).loc Cert.KernelDUDtIdeal.main_arg0)
          ∧ r.2.mem ((c.tc : Thread Cert.KernelDUDtIdeal.nD Cert.KernelDUDtIdeal.τ).loc Cert.KernelDUDtIdeal.main_arg1) = m ((c.tc : Thread Cert.KernelDUDtIdeal.nD Cert.KernelDUDtIdeal.τ).loc Cert.KernelDUDtIdeal.main_arg1))
      ∧ θ_run (Cert.ReferenceDUDtIdeal.defs (F := Ideal)) (onTc (τ := Cert.ReferenceDUDtIdeal.τ) (Cert.ReferenceDUDtIdeal.main (F := Ideal))) ⟨m', fun _ => 0, g'⟩ (fun r => ∀ c : Dev Cert.ReferenceDUDtIdeal.nD,
          r.2.mem ((c.tc : Thread Cert.ReferenceDUDtIdeal.nD Cert.ReferenceDUDtIdeal.τ).loc Cert.ReferenceDUDtIdeal.main_v3) = v0 c
          ∧ r.2.mem ((c.tc : Thread Cert.ReferenceDUDtIdeal.nD Cert.ReferenceDUDtIdeal.τ).loc Cert.ReferenceDUDtIdeal.main_arg0) = m' ((c.tc : Thread Cert.ReferenceDUDtIdeal.nD Cert.ReferenceDUDtIdeal.τ).loc Cert.ReferenceDUDtIdeal.main_arg0)
          ∧ r.2.mem ((c.tc : Thread Cert.ReferenceDUDtIdeal.nD Cert.ReferenceDUDtIdeal.τ).loc Cert.ReferenceDUDtIdeal.main_arg1) = m' ((c.tc : Thread Cert.ReferenceDUDtIdeal.nD Cert.ReferenceDUDtIdeal.τ).loc Cert.ReferenceDUDtIdeal.main_arg1))

def preserves_KernelY_KernelYIdeal : Prop :=
  IdealRules.named_const.Statement Cert.KernelYIdeal.κ "log_gamma_2" .f32 0xBC0080AC#32 ((Real.log (127 / 128) : ℝ) : EReal)
  ∧ IdealRules.named_const.Statement Cert.KernelYIdeal.κ "log_gamma_3" .f32 0xBB80402B#32 ((Real.log (255 / 256) : ℝ) : EReal)
  ∧ IdealRules.named_const.Statement Cert.KernelYIdeal.κ "log_gamma_1" .f32 0xBC8102B3#32 ((Real.log (63 / 64) : ℝ) : EReal)
  ∧ IdealRules.named_const.Statement Cert.KernelYIdeal.κ "log_gamma_0" .f32 0xBD020AEC#32 ((Real.log (31 / 32) : ℝ) : EReal)

def algebraic_KernelYIdeal_ReferenceYIdeal [hKernelYIdeal : Cert.KernelYIdeal.Facts] [hReferenceYIdeal : Cert.ReferenceYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg)
    (m' : (ℓ : Loc Cert.ReferenceYIdeal.nD Cert.ReferenceYIdeal.τ Cert.ReferenceYIdeal.sig) → Buf (Elt Ideal) ℓ) (g' : Dev Cert.ReferenceYIdeal.nD → PrngReg), Pre_KernelYIdeal m →
    (∀ c : Dev Cert.KernelYIdeal.nD,
      m' ((c.tc : Thread Cert.ReferenceYIdeal.nD Cert.ReferenceYIdeal.τ).loc Cert.ReferenceYIdeal.main_arg0) = m ((c.tc : Thread Cert.KernelYIdeal.nD Cert.KernelYIdeal.τ).loc Cert.KernelYIdeal.main_arg0)
      ∧ m' ((c.tc : Thread Cert.ReferenceYIdeal.nD Cert.ReferenceYIdeal.τ).loc Cert.ReferenceYIdeal.main_arg1) = m ((c.tc : Thread Cert.KernelYIdeal.nD Cert.KernelYIdeal.τ).loc Cert.KernelYIdeal.main_arg1)
      ∧ m' ((c.tc : Thread Cert.ReferenceYIdeal.nD Cert.ReferenceYIdeal.τ).loc Cert.ReferenceYIdeal.main_arg2) = m ((c.tc : Thread Cert.KernelYIdeal.nD Cert.KernelYIdeal.τ).loc Cert.KernelYIdeal.main_arg2)) →
    ∃ (v0 : (c : Dev Cert.KernelYIdeal.nD) → Buf (Elt Ideal) ((c.tc : Thread Cert.KernelYIdeal.nD Cert.KernelYIdeal.τ).loc Cert.KernelYIdeal.main_v0)),
      θ_run (Cert.KernelYIdeal.defs (F := Ideal)) (onTc (τ := Cert.KernelYIdeal.τ) (Cert.KernelYIdeal.main (F := Ideal))) ⟨m, fun _ => 0, g⟩ (fun r => ∀ c : Dev Cert.KernelYIdeal.nD,
          r.2.mem ((c.tc : Thread Cert.KernelYIdeal.nD Cert.KernelYIdeal.τ).loc Cert.KernelYIdeal.main_v0) = v0 c
          ∧ r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
          ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1)
          ∧ r.2.mem ((c.tc : Thread Cert.KernelYIdeal.nD Cert.KernelYIdeal.τ).loc Cert.KernelYIdeal.main_arg2) = m ((c.tc : Thread Cert.KernelYIdeal.nD Cert.KernelYIdeal.τ).loc Cert.KernelYIdeal.main_arg2))
      ∧ θ_run (Cert.ReferenceYIdeal.defs (F := Ideal)) (onTc (τ := Cert.ReferenceYIdeal.τ) (Cert.ReferenceYIdeal.main (F := Ideal))) ⟨m', fun _ => 0, g'⟩ (fun r => ∀ c : Dev Cert.ReferenceYIdeal.nD,
          r.2.mem ((c.tc : Thread Cert.ReferenceYIdeal.nD Cert.ReferenceYIdeal.τ).loc Cert.ReferenceYIdeal.main_v90) = v0 c
          ∧ r.2.mem ((c.tc : Thread Cert.ReferenceYIdeal.nD Cert.ReferenceYIdeal.τ).loc Cert.ReferenceYIdeal.main_arg0) = m' ((c.tc : Thread Cert.ReferenceYIdeal.nD Cert.ReferenceYIdeal.τ).loc Cert.ReferenceYIdeal.main_arg0)
          ∧ r.2.mem ((c.tc : Thread Cert.ReferenceYIdeal.nD Cert.ReferenceYIdeal.τ).loc Cert.ReferenceYIdeal.main_arg1) = m' ((c.tc : Thread Cert.ReferenceYIdeal.nD Cert.ReferenceYIdeal.τ).loc Cert.ReferenceYIdeal.main_arg1)
          ∧ r.2.mem ((c.tc : Thread Cert.ReferenceYIdeal.nD Cert.ReferenceYIdeal.τ).loc Cert.ReferenceYIdeal.main_arg2) = m' ((c.tc : Thread Cert.ReferenceYIdeal.nD Cert.ReferenceYIdeal.τ).loc Cert.ReferenceYIdeal.main_arg2))

def preserves_KernelSumIn_KernelSumInIdeal : Prop :=
  True

def algebraic_KernelSumInIdeal_ReferenceSumInIdeal [hKernelSumInIdeal : Cert.KernelSumInIdeal.Facts] [hReferenceSumInIdeal : Cert.ReferenceSumInIdeal.Facts] : Prop :=
  ∀ (m : (ℓ : Loc Cert.KernelSumInIdeal.nD Cert.KernelSumInIdeal.τ Cert.KernelSumInIdeal.sig) → Buf (Elt Ideal) ℓ) (g : Dev Cert.KernelSumInIdeal.nD → PrngReg)
    (m' : (ℓ : Loc Cert.ReferenceSumInIdeal.nD Cert.ReferenceSumInIdeal.τ Cert.ReferenceSumInIdeal.sig) → Buf (Elt Ideal) ℓ) (g' : Dev Cert.ReferenceSumInIdeal.nD → PrngReg), Pre_KernelSumInIdeal m →
    (∀ c : Dev Cert.KernelSumInIdeal.nD,
      m' ((c.tc : Thread Cert.ReferenceSumInIdeal.nD Cert.ReferenceSumInIdeal.τ).loc Cert.ReferenceSumInIdeal.main_arg0) = m ((c.tc : Thread Cert.KernelSumInIdeal.nD Cert.KernelSumInIdeal.τ).loc Cert.KernelSumInIdeal.main_arg0)) →
    ∃ (v0 : (c : Dev Cert.KernelSumInIdeal.nD) → Buf (Elt Ideal) ((c.tc : Thread Cert.KernelSumInIdeal.nD Cert.KernelSumInIdeal.τ).loc Cert.KernelSumInIdeal.main_v0)),
      θ_run (Cert.KernelSumInIdeal.defs (F := Ideal)) (onTc (τ := Cert.KernelSumInIdeal.τ) (Cert.KernelSumInIdeal.main (F := Ideal))) ⟨m, fun _ => 0, g⟩ (fun r => ∀ c : Dev Cert.KernelSumInIdeal.nD,
          r.2.mem ((c.tc : Thread Cert.KernelSumInIdeal.nD Cert.KernelSumInIdeal.τ).loc Cert.KernelSumInIdeal.main_v0) = v0 c
          ∧ r.2.mem ((c.tc : Thread Cert.KernelSumInIdeal.nD Cert.KernelSumInIdeal.τ).loc Cert.KernelSumInIdeal.main_arg0) = m ((c.tc : Thread Cert.KernelSumInIdeal.nD Cert.KernelSumInIdeal.τ).loc Cert.KernelSumInIdeal.main_arg0))
      ∧ θ_run (Cert.ReferenceSumInIdeal.defs (F := Ideal)) (onTc (τ := Cert.ReferenceSumInIdeal.τ) (Cert.ReferenceSumInIdeal.main (F := Ideal))) ⟨m', fun _ => 0, g'⟩ (fun r => ∀ c : Dev Cert.ReferenceSumInIdeal.nD,
          r.2.mem ((c.tc : Thread Cert.ReferenceSumInIdeal.nD Cert.ReferenceSumInIdeal.τ).loc Cert.ReferenceSumInIdeal.main_v1) = v0 c
          ∧ r.2.mem ((c.tc : Thread Cert.ReferenceSumInIdeal.nD Cert.ReferenceSumInIdeal.τ).loc Cert.ReferenceSumInIdeal.main_arg0) = m' ((c.tc : Thread Cert.ReferenceSumInIdeal.nD Cert.ReferenceSumInIdeal.τ).loc Cert.ReferenceSumInIdeal.main_arg0))

def preserves_KernelSumUp_KernelSumUpIdeal : Prop :=
  True

def algebraic_KernelSumUpIdeal_ReferenceSumUpIdeal [hKernelSumUpIdeal : Cert.KernelSumUpIdeal.Facts] [hReferenceSumUpIdeal : Cert.ReferenceSumUpIdeal.Facts] : Prop :=
  ∀ (m : (ℓ : Loc Cert.KernelSumUpIdeal.nD Cert.KernelSumUpIdeal.τ Cert.KernelSumUpIdeal.sig) → Buf (Elt Ideal) ℓ) (g : Dev Cert.KernelSumUpIdeal.nD → PrngReg)
    (m' : (ℓ : Loc Cert.ReferenceSumUpIdeal.nD Cert.ReferenceSumUpIdeal.τ Cert.ReferenceSumUpIdeal.sig) → Buf (Elt Ideal) ℓ) (g' : Dev Cert.ReferenceSumUpIdeal.nD → PrngReg), Pre_KernelSumUpIdeal m →
    (∀ c : Dev Cert.KernelSumUpIdeal.nD,
      m' ((c.tc : Thread Cert.ReferenceSumUpIdeal.nD Cert.ReferenceSumUpIdeal.τ).loc Cert.ReferenceSumUpIdeal.main_arg0) = m ((c.tc : Thread Cert.KernelSumUpIdeal.nD Cert.KernelSumUpIdeal.τ).loc Cert.KernelSumUpIdeal.main_arg0)) →
    ∃ (v0 : (c : Dev Cert.KernelSumUpIdeal.nD) → Buf (Elt Ideal) ((c.tc : Thread Cert.KernelSumUpIdeal.nD Cert.KernelSumUpIdeal.τ).loc Cert.KernelSumUpIdeal.main_v0)),
      θ_run (Cert.KernelSumUpIdeal.defs (F := Ideal)) (onTc (τ := Cert.KernelSumUpIdeal.τ) (Cert.KernelSumUpIdeal.main (F := Ideal))) ⟨m, fun _ => 0, g⟩ (fun r => ∀ c : Dev Cert.KernelSumUpIdeal.nD,
          r.2.mem ((c.tc : Thread Cert.KernelSumUpIdeal.nD Cert.KernelSumUpIdeal.τ).loc Cert.KernelSumUpIdeal.main_v0) = v0 c
          ∧ r.2.mem ((c.tc : Thread Cert.KernelSumUpIdeal.nD Cert.KernelSumUpIdeal.τ).loc Cert.KernelSumUpIdeal.main_arg0) = m ((c.tc : Thread Cert.KernelSumUpIdeal.nD Cert.KernelSumUpIdeal.τ).loc Cert.KernelSumUpIdeal.main_arg0))
      ∧ θ_run (Cert.ReferenceSumUpIdeal.defs (F := Ideal)) (onTc (τ := Cert.ReferenceSumUpIdeal.τ) (Cert.ReferenceSumUpIdeal.main (F := Ideal))) ⟨m', fun _ => 0, g'⟩ (fun r => ∀ c : Dev Cert.ReferenceSumUpIdeal.nD,
          r.2.mem ((c.tc : Thread Cert.ReferenceSumUpIdeal.nD Cert.ReferenceSumUpIdeal.τ).loc Cert.ReferenceSumUpIdeal.main_v1) = v0 c
          ∧ r.2.mem ((c.tc : Thread Cert.ReferenceSumUpIdeal.nD Cert.ReferenceSumUpIdeal.τ).loc Cert.ReferenceSumUpIdeal.main_arg0) = m' ((c.tc : Thread Cert.ReferenceSumUpIdeal.nD Cert.ReferenceSumUpIdeal.τ).loc Cert.ReferenceSumUpIdeal.main_arg0))

def preserves_KernelSumDown_KernelSumDownIdeal : Prop :=
  True

def algebraic_KernelSumDownIdeal_ReferenceSumDownIdeal [hKernelSumDownIdeal : Cert.KernelSumDownIdeal.Facts] [hReferenceSumDownIdeal : Cert.ReferenceSumDownIdeal.Facts] : Prop :=
  ∀ (m : (ℓ : Loc Cert.KernelSumDownIdeal.nD Cert.KernelSumDownIdeal.τ Cert.KernelSumDownIdeal.sig) → Buf (Elt Ideal) ℓ) (g : Dev Cert.KernelSumDownIdeal.nD → PrngReg)
    (m' : (ℓ : Loc Cert.ReferenceSumDownIdeal.nD Cert.ReferenceSumDownIdeal.τ Cert.ReferenceSumDownIdeal.sig) → Buf (Elt Ideal) ℓ) (g' : Dev Cert.ReferenceSumDownIdeal.nD → PrngReg), Pre_KernelSumDownIdeal m →
    (∀ c : Dev Cert.KernelSumDownIdeal.nD,
      m' ((c.tc : Thread Cert.ReferenceSumDownIdeal.nD Cert.ReferenceSumDownIdeal.τ).loc Cert.ReferenceSumDownIdeal.main_arg0) = m ((c.tc : Thread Cert.KernelSumDownIdeal.nD Cert.KernelSumDownIdeal.τ).loc Cert.KernelSumDownIdeal.main_arg0)) →
    ∃ (v0 : (c : Dev Cert.KernelSumDownIdeal.nD) → Buf (Elt Ideal) ((c.tc : Thread Cert.KernelSumDownIdeal.nD Cert.KernelSumDownIdeal.τ).loc Cert.KernelSumDownIdeal.main_v0)),
      θ_run (Cert.KernelSumDownIdeal.defs (F := Ideal)) (onTc (τ := Cert.KernelSumDownIdeal.τ) (Cert.KernelSumDownIdeal.main (F := Ideal))) ⟨m, fun _ => 0, g⟩ (fun r => ∀ c : Dev Cert.KernelSumDownIdeal.nD,
          r.2.mem ((c.tc : Thread Cert.KernelSumDownIdeal.nD Cert.KernelSumDownIdeal.τ).loc Cert.KernelSumDownIdeal.main_v0) = v0 c
          ∧ r.2.mem ((c.tc : Thread Cert.KernelSumDownIdeal.nD Cert.KernelSumDownIdeal.τ).loc Cert.KernelSumDownIdeal.main_arg0) = m ((c.tc : Thread Cert.KernelSumDownIdeal.nD Cert.KernelSumDownIdeal.τ).loc Cert.KernelSumDownIdeal.main_arg0))
      ∧ θ_run (Cert.ReferenceSumDownIdeal.defs (F := Ideal)) (onTc (τ := Cert.ReferenceSumDownIdeal.τ) (Cert.ReferenceSumDownIdeal.main (F := Ideal))) ⟨m', fun _ => 0, g'⟩ (fun r => ∀ c : Dev Cert.ReferenceSumDownIdeal.nD,
          r.2.mem ((c.tc : Thread Cert.ReferenceSumDownIdeal.nD Cert.ReferenceSumDownIdeal.τ).loc Cert.ReferenceSumDownIdeal.main_v1) = v0 c
          ∧ r.2.mem ((c.tc : Thread Cert.ReferenceSumDownIdeal.nD Cert.ReferenceSumDownIdeal.τ).loc Cert.ReferenceSumDownIdeal.main_arg0) = m' ((c.tc : Thread Cert.ReferenceSumDownIdeal.nD Cert.ReferenceSumDownIdeal.τ).loc Cert.ReferenceSumDownIdeal.main_arg0))

def preserves_KernelSumSsd_KernelSumSsdIdeal : Prop :=
  True

def algebraic_KernelSumSsdIdeal_ReferenceSumSsdIdeal [hKernelSumSsdIdeal : Cert.KernelSumSsdIdeal.Facts] [hReferenceSumSsdIdeal : Cert.ReferenceSumSsdIdeal.Facts] : Prop :=
  ∀ (m : (ℓ : Loc Cert.KernelSumSsdIdeal.nD Cert.KernelSumSsdIdeal.τ Cert.KernelSumSsdIdeal.sig) → Buf (Elt Ideal) ℓ) (g : Dev Cert.KernelSumSsdIdeal.nD → PrngReg)
    (m' : (ℓ : Loc Cert.ReferenceSumSsdIdeal.nD Cert.ReferenceSumSsdIdeal.τ Cert.ReferenceSumSsdIdeal.sig) → Buf (Elt Ideal) ℓ) (g' : Dev Cert.ReferenceSumSsdIdeal.nD → PrngReg), Pre_KernelSumSsdIdeal m →
    (∀ c : Dev Cert.KernelSumSsdIdeal.nD,
      m' ((c.tc : Thread Cert.ReferenceSumSsdIdeal.nD Cert.ReferenceSumSsdIdeal.τ).loc Cert.ReferenceSumSsdIdeal.main_arg0) = m ((c.tc : Thread Cert.KernelSumSsdIdeal.nD Cert.KernelSumSsdIdeal.τ).loc Cert.KernelSumSsdIdeal.main_arg0)) →
    ∃ (v0 : (c : Dev Cert.KernelSumSsdIdeal.nD) → Buf (Elt Ideal) ((c.tc : Thread Cert.KernelSumSsdIdeal.nD Cert.KernelSumSsdIdeal.τ).loc Cert.KernelSumSsdIdeal.main_v0)),
      θ_run (Cert.KernelSumSsdIdeal.defs (F := Ideal)) (onTc (τ := Cert.KernelSumSsdIdeal.τ) (Cert.KernelSumSsdIdeal.main (F := Ideal))) ⟨m, fun _ => 0, g⟩ (fun r => ∀ c : Dev Cert.KernelSumSsdIdeal.nD,
          r.2.mem ((c.tc : Thread Cert.KernelSumSsdIdeal.nD Cert.KernelSumSsdIdeal.τ).loc Cert.KernelSumSsdIdeal.main_v0) = v0 c
          ∧ r.2.mem ((c.tc : Thread Cert.KernelSumSsdIdeal.nD Cert.KernelSumSsdIdeal.τ).loc Cert.KernelSumSsdIdeal.main_arg0) = m ((c.tc : Thread Cert.KernelSumSsdIdeal.nD Cert.KernelSumSsdIdeal.τ).loc Cert.KernelSumSsdIdeal.main_arg0))
      ∧ θ_run (Cert.ReferenceSumSsdIdeal.defs (F := Ideal)) (onTc (τ := Cert.ReferenceSumSsdIdeal.τ) (Cert.ReferenceSumSsdIdeal.main (F := Ideal))) ⟨m', fun _ => 0, g'⟩ (fun r => ∀ c : Dev Cert.ReferenceSumSsdIdeal.nD,
          r.2.mem ((c.tc : Thread Cert.ReferenceSumSsdIdeal.nD Cert.ReferenceSumSsdIdeal.τ).loc Cert.ReferenceSumSsdIdeal.main_v1) = v0 c
          ∧ r.2.mem ((c.tc : Thread Cert.ReferenceSumSsdIdeal.nD Cert.ReferenceSumSsdIdeal.τ).loc Cert.ReferenceSumSsdIdeal.main_arg0) = m' ((c.tc : Thread Cert.ReferenceSumSsdIdeal.nD Cert.ReferenceSumSsdIdeal.τ).loc Cert.ReferenceSumSsdIdeal.main_arg0))

def preserves_KernelSumRet_KernelSumRetIdeal : Prop :=
  True

def algebraic_KernelSumRetIdeal_ReferenceSumRetIdeal [hKernelSumRetIdeal : Cert.KernelSumRetIdeal.Facts] [hReferenceSumRetIdeal : Cert.ReferenceSumRetIdeal.Facts] : Prop :=
  ∀ (m : (ℓ : Loc Cert.KernelSumRetIdeal.nD Cert.KernelSumRetIdeal.τ Cert.KernelSumRetIdeal.sig) → Buf (Elt Ideal) ℓ) (g : Dev Cert.KernelSumRetIdeal.nD → PrngReg)
    (m' : (ℓ : Loc Cert.ReferenceSumRetIdeal.nD Cert.ReferenceSumRetIdeal.τ Cert.ReferenceSumRetIdeal.sig) → Buf (Elt Ideal) ℓ) (g' : Dev Cert.ReferenceSumRetIdeal.nD → PrngReg), Pre_KernelSumRetIdeal m →
    (∀ c : Dev Cert.KernelSumRetIdeal.nD,
      m' ((c.tc : Thread Cert.ReferenceSumRetIdeal.nD Cert.ReferenceSumRetIdeal.τ).loc Cert.ReferenceSumRetIdeal.main_arg0) = m ((c.tc : Thread Cert.KernelSumRetIdeal.nD Cert.KernelSumRetIdeal.τ).loc Cert.KernelSumRetIdeal.main_arg0)) →
    ∃ (v0 : (c : Dev Cert.KernelSumRetIdeal.nD) → Buf (Elt Ideal) ((c.tc : Thread Cert.KernelSumRetIdeal.nD Cert.KernelSumRetIdeal.τ).loc Cert.KernelSumRetIdeal.main_v0)),
      θ_run (Cert.KernelSumRetIdeal.defs (F := Ideal)) (onTc (τ := Cert.KernelSumRetIdeal.τ) (Cert.KernelSumRetIdeal.main (F := Ideal))) ⟨m, fun _ => 0, g⟩ (fun r => ∀ c : Dev Cert.KernelSumRetIdeal.nD,
          r.2.mem ((c.tc : Thread Cert.KernelSumRetIdeal.nD Cert.KernelSumRetIdeal.τ).loc Cert.KernelSumRetIdeal.main_v0) = v0 c
          ∧ r.2.mem ((c.tc : Thread Cert.KernelSumRetIdeal.nD Cert.KernelSumRetIdeal.τ).loc Cert.KernelSumRetIdeal.main_arg0) = m ((c.tc : Thread Cert.KernelSumRetIdeal.nD Cert.KernelSumRetIdeal.τ).loc Cert.KernelSumRetIdeal.main_arg0))
      ∧ θ_run (Cert.ReferenceSumRetIdeal.defs (F := Ideal)) (onTc (τ := Cert.ReferenceSumRetIdeal.τ) (Cert.ReferenceSumRetIdeal.main (F := Ideal))) ⟨m', fun _ => 0, g'⟩ (fun r => ∀ c : Dev Cert.ReferenceSumRetIdeal.nD,
          r.2.mem ((c.tc : Thread Cert.ReferenceSumRetIdeal.nD Cert.ReferenceSumRetIdeal.τ).loc Cert.ReferenceSumRetIdeal.main_v1) = v0 c
          ∧ r.2.mem ((c.tc : Thread Cert.ReferenceSumRetIdeal.nD Cert.ReferenceSumRetIdeal.τ).loc Cert.ReferenceSumRetIdeal.main_arg0) = m' ((c.tc : Thread Cert.ReferenceSumRetIdeal.nD Cert.ReferenceSumRetIdeal.τ).loc Cert.ReferenceSumRetIdeal.main_arg0))

def preserves_KernelSumSmall_KernelSumSmallIdeal : Prop :=
  True

def algebraic_KernelSumSmallIdeal_ReferenceSumSmallIdeal [hKernelSumSmallIdeal : Cert.KernelSumSmallIdeal.Facts] [hReferenceSumSmallIdeal : Cert.ReferenceSumSmallIdeal.Facts] : Prop :=
  ∀ (m : (ℓ : Loc Cert.KernelSumSmallIdeal.nD Cert.KernelSumSmallIdeal.τ Cert.KernelSumSmallIdeal.sig) → Buf (Elt Ideal) ℓ) (g : Dev Cert.KernelSumSmallIdeal.nD → PrngReg)
    (m' : (ℓ : Loc Cert.ReferenceSumSmallIdeal.nD Cert.ReferenceSumSmallIdeal.τ Cert.ReferenceSumSmallIdeal.sig) → Buf (Elt Ideal) ℓ) (g' : Dev Cert.ReferenceSumSmallIdeal.nD → PrngReg), Pre_KernelSumSmallIdeal m →
    (∀ c : Dev Cert.KernelSumSmallIdeal.nD,
      m' ((c.tc : Thread Cert.ReferenceSumSmallIdeal.nD Cert.ReferenceSumSmallIdeal.τ).loc Cert.ReferenceSumSmallIdeal.main_arg0) = m ((c.tc : Thread Cert.KernelSumSmallIdeal.nD Cert.KernelSumSmallIdeal.τ).loc Cert.KernelSumSmallIdeal.main_arg0)) →
    ∃ (v0 : (c : Dev Cert.KernelSumSmallIdeal.nD) → Buf (Elt Ideal) ((c.tc : Thread Cert.KernelSumSmallIdeal.nD Cert.KernelSumSmallIdeal.τ).loc Cert.KernelSumSmallIdeal.main_v0)),
      θ_run (Cert.KernelSumSmallIdeal.defs (F := Ideal)) (onTc (τ := Cert.KernelSumSmallIdeal.τ) (Cert.KernelSumSmallIdeal.main (F := Ideal))) ⟨m, fun _ => 0, g⟩ (fun r => ∀ c : Dev Cert.KernelSumSmallIdeal.nD,
          r.2.mem ((c.tc : Thread Cert.KernelSumSmallIdeal.nD Cert.KernelSumSmallIdeal.τ).loc Cert.KernelSumSmallIdeal.main_v0) = v0 c
          ∧ r.2.mem ((c.tc : Thread Cert.KernelSumSmallIdeal.nD Cert.KernelSumSmallIdeal.τ).loc Cert.KernelSumSmallIdeal.main_arg0) = m ((c.tc : Thread Cert.KernelSumSmallIdeal.nD Cert.KernelSumSmallIdeal.τ).loc Cert.KernelSumSmallIdeal.main_arg0))
      ∧ θ_run (Cert.ReferenceSumSmallIdeal.defs (F := Ideal)) (onTc (τ := Cert.ReferenceSumSmallIdeal.τ) (Cert.ReferenceSumSmallIdeal.main (F := Ideal))) ⟨m', fun _ => 0, g'⟩ (fun r => ∀ c : Dev Cert.ReferenceSumSmallIdeal.nD,
          r.2.mem ((c.tc : Thread Cert.ReferenceSumSmallIdeal.nD Cert.ReferenceSumSmallIdeal.τ).loc Cert.ReferenceSumSmallIdeal.main_v0) = v0 c
          ∧ r.2.mem ((c.tc : Thread Cert.ReferenceSumSmallIdeal.nD Cert.ReferenceSumSmallIdeal.τ).loc Cert.ReferenceSumSmallIdeal.main_arg0) = m' ((c.tc : Thread Cert.ReferenceSumSmallIdeal.nD Cert.ReferenceSumSmallIdeal.τ).loc Cert.ReferenceSumSmallIdeal.main_arg0))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)) →
    ∃ (v0 : (c : Dev Cert.KernelAdamInIdeal.nD) → Buf (Elt Ideal) ((c.tc : Thread Cert.KernelAdamInIdeal.nD Cert.KernelAdamInIdeal.τ).loc Cert.KernelAdamInIdeal.main_v0_0)) (v1 : (c : Dev Cert.KernelAdamInIdeal.nD) → Buf (Elt Ideal) ((c.tc : Thread Cert.KernelAdamInIdeal.nD Cert.KernelAdamInIdeal.τ).loc Cert.KernelAdamInIdeal.main_v0_1)) (v2 : (c : Dev Cert.KernelAdamInIdeal.nD) → Buf (Elt Ideal) ((c.tc : Thread Cert.KernelAdamInIdeal.nD Cert.KernelAdamInIdeal.τ).loc Cert.KernelAdamInIdeal.main_v0_2)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v0_0) = v0 c
          ∧ r.2.mem ((c.tc : Thread Cert.KernelAdamInIdeal.nD Cert.KernelAdamInIdeal.τ).loc Cert.KernelAdamInIdeal.main_v0_1) = v1 c
          ∧ r.2.mem ((c.tc : Thread Cert.KernelAdamInIdeal.nD Cert.KernelAdamInIdeal.τ).loc Cert.KernelAdamInIdeal.main_v0_2) = v2 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v23) = v0 c
          ∧ r.2.mem ((c.tc : Thread Cert.ReferenceAdamInIdeal.nD Cert.ReferenceAdamInIdeal.τ).loc Cert.ReferenceAdamInIdeal.main_v4) = v1 c
          ∧ r.2.mem ((c.tc : Thread Cert.ReferenceAdamInIdeal.nD Cert.ReferenceAdamInIdeal.τ).loc Cert.ReferenceAdamInIdeal.main_v10) = v2 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3))

def preserves_KernelAdamUp_KernelAdamUpIdeal : Prop :=
  True

def algebraic_KernelAdamUpIdeal_ReferenceAdamUpIdeal [hKernelAdamUpIdeal : Cert.KernelAdamUpIdeal.Facts] [hReferenceAdamUpIdeal : Cert.ReferenceAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg)
    (m' : (ℓ : Loc Cert.ReferenceAdamUpIdeal.nD Cert.ReferenceAdamUpIdeal.τ Cert.ReferenceAdamUpIdeal.sig) → Buf (Elt Ideal) ℓ) (g' : Dev Cert.ReferenceAdamUpIdeal.nD → PrngReg), Pre_KernelAdamUpIdeal m →
    (∀ c : Dev Cert.KernelAdamUpIdeal.nD,
      m' ((c.tc : Thread Cert.ReferenceAdamUpIdeal.nD Cert.ReferenceAdamUpIdeal.τ).loc Cert.ReferenceAdamUpIdeal.main_arg0) = m ((c.tc : Thread Cert.KernelAdamUpIdeal.nD Cert.KernelAdamUpIdeal.τ).loc Cert.KernelAdamUpIdeal.main_arg0)
      ∧ m' ((c.tc : Thread Cert.ReferenceAdamUpIdeal.nD Cert.ReferenceAdamUpIdeal.τ).loc Cert.ReferenceAdamUpIdeal.main_arg1) = m ((c.tc : Thread Cert.KernelAdamUpIdeal.nD Cert.KernelAdamUpIdeal.τ).loc Cert.KernelAdamUpIdeal.main_arg1)
      ∧ m' ((c.tc : Thread Cert.ReferenceAdamUpIdeal.nD Cert.ReferenceAdamUpIdeal.τ).loc Cert.ReferenceAdamUpIdeal.main_arg2) = m ((c.tc : Thread Cert.KernelAdamUpIdeal.nD Cert.KernelAdamUpIdeal.τ).loc Cert.KernelAdamUpIdeal.main_arg2)
      ∧ m' ((c.tc : Thread Cert.ReferenceAdamUpIdeal.nD Cert.ReferenceAdamUpIdeal.τ).loc Cert.ReferenceAdamUpIdeal.main_arg3) = m ((c.tc : Thread Cert.KernelAdamUpIdeal.nD Cert.KernelAdamUpIdeal.τ).loc Cert.KernelAdamUpIdeal.main_arg3)) →
    ∃ (v0 : (c : Dev Cert.KernelAdamUpIdeal.nD) → Buf (Elt Ideal) ((c.tc : Thread Cert.KernelAdamUpIdeal.nD Cert.KernelAdamUpIdeal.τ).loc Cert.KernelAdamUpIdeal.main_v0_0)) (v1 : (c : Dev Cert.KernelAdamUpIdeal.nD) → Buf (Elt Ideal) ((c.tc : Thread Cert.KernelAdamUpIdeal.nD Cert.KernelAdamUpIdeal.τ).loc Cert.KernelAdamUpIdeal.main_v0_1)) (v2 : (c : Dev Cert.KernelAdamUpIdeal.nD) → Buf (Elt Ideal) ((c.tc : Thread Cert.KernelAdamUpIdeal.nD Cert.KernelAdamUpIdeal.τ).loc Cert.KernelAdamUpIdeal.main_v0_2)),
      θ_run (Cert.KernelAdamUpIdeal.defs (F := Ideal)) (onTc (τ := Cert.KernelAdamUpIdeal.τ) (Cert.KernelAdamUpIdeal.main (F := Ideal))) ⟨m, fun _ => 0, g⟩ (fun r => ∀ c : Dev Cert.KernelAdamUpIdeal.nD,
          r.2.mem ((c.tc : Thread Cert.KernelAdamUpIdeal.nD Cert.KernelAdamUpIdeal.τ).loc Cert.KernelAdamUpIdeal.main_v0_0) = v0 c
          ∧ r.2.mem ((c.tc : Thread Cert.KernelAdamUpIdeal.nD Cert.KernelAdamUpIdeal.τ).loc Cert.KernelAdamUpIdeal.main_v0_1) = v1 c
          ∧ r.2.mem ((c.tc : Thread Cert.KernelAdamUpIdeal.nD Cert.KernelAdamUpIdeal.τ).loc Cert.KernelAdamUpIdeal.main_v0_2) = v2 c
          ∧ r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
          ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
          ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
          ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3))
      ∧ θ_run (Cert.ReferenceAdamUpIdeal.defs (F := Ideal)) (onTc (τ := Cert.ReferenceAdamUpIdeal.τ) (Cert.ReferenceAdamUpIdeal.main (F := Ideal))) ⟨m', fun _ => 0, g'⟩ (fun r => ∀ c : Dev Cert.ReferenceAdamUpIdeal.nD,
          r.2.mem ((c.tc : Thread Cert.ReferenceAdamUpIdeal.nD Cert.ReferenceAdamUpIdeal.τ).loc Cert.ReferenceAdamUpIdeal.main_v23) = v0 c
          ∧ r.2.mem ((c.tc : Thread Cert.ReferenceAdamUpIdeal.nD Cert.ReferenceAdamUpIdeal.τ).loc Cert.ReferenceAdamUpIdeal.main_v4) = v1 c
          ∧ r.2.mem ((c.tc : Thread Cert.ReferenceAdamUpIdeal.nD Cert.ReferenceAdamUpIdeal.τ).loc Cert.ReferenceAdamUpIdeal.main_v10) = v2 c
          ∧ r.2.mem ((c.tc : Thread Cert.ReferenceAdamUpIdeal.nD Cert.ReferenceAdamUpIdeal.τ).loc Cert.ReferenceAdamUpIdeal.main_arg0) = m' ((c.tc : Thread Cert.ReferenceAdamUpIdeal.nD Cert.ReferenceAdamUpIdeal.τ).loc Cert.ReferenceAdamUpIdeal.main_arg0)
          ∧ r.2.mem ((c.tc : Thread Cert.ReferenceAdamUpIdeal.nD Cert.ReferenceAdamUpIdeal.τ).loc Cert.ReferenceAdamUpIdeal.main_arg1) = m' ((c.tc : Thread Cert.ReferenceAdamUpIdeal.nD Cert.ReferenceAdamUpIdeal.τ).loc Cert.ReferenceAdamUpIdeal.main_arg1)
          ∧ r.2.mem ((c.tc : Thread Cert.ReferenceAdamUpIdeal.nD Cert.ReferenceAdamUpIdeal.τ).loc Cert.ReferenceAdamUpIdeal.main_arg2) = m' ((c.tc : Thread Cert.ReferenceAdamUpIdeal.nD Cert.ReferenceAdamUpIdeal.τ).loc Cert.ReferenceAdamUpIdeal.main_arg2)
          ∧ r.2.mem ((c.tc : Thread Cert.ReferenceAdamUpIdeal.nD Cert.ReferenceAdamUpIdeal.τ).loc Cert.ReferenceAdamUpIdeal.main_arg3) = m' ((c.tc : Thread Cert.ReferenceAdamUpIdeal.nD Cert.ReferenceAdamUpIdeal.τ).loc Cert.ReferenceAdamUpIdeal.main_arg3))

def preserves_KernelAdamDown_KernelAdamDownIdeal : Prop :=
  True

def algebraic_KernelAdamDownIdeal_ReferenceAdamDownIdeal [hKernelAdamDownIdeal : Cert.KernelAdamDownIdeal.Facts] [hReferenceAdamDownIdeal : Cert.ReferenceAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg)
    (m' : (ℓ : Loc Cert.ReferenceAdamDownIdeal.nD Cert.ReferenceAdamDownIdeal.τ Cert.ReferenceAdamDownIdeal.sig) → Buf (Elt Ideal) ℓ) (g' : Dev Cert.ReferenceAdamDownIdeal.nD → PrngReg), Pre_KernelAdamDownIdeal m →
    (∀ c : Dev Cert.KernelAdamDownIdeal.nD,
      m' ((c.tc : Thread Cert.ReferenceAdamDownIdeal.nD Cert.ReferenceAdamDownIdeal.τ).loc Cert.ReferenceAdamDownIdeal.main_arg0) = m ((c.tc : Thread Cert.KernelAdamDownIdeal.nD Cert.KernelAdamDownIdeal.τ).loc Cert.KernelAdamDownIdeal.main_arg0)
      ∧ m' ((c.tc : Thread Cert.ReferenceAdamDownIdeal.nD Cert.ReferenceAdamDownIdeal.τ).loc Cert.ReferenceAdamDownIdeal.main_arg1) = m ((c.tc : Thread Cert.KernelAdamDownIdeal.nD Cert.KernelAdamDownIdeal.τ).loc Cert.KernelAdamDownIdeal.main_arg1)
      ∧ m' ((c.tc : Thread Cert.ReferenceAdamDownIdeal.nD Cert.ReferenceAdamDownIdeal.τ).loc Cert.ReferenceAdamDownIdeal.main_arg2) = m ((c.tc : Thread Cert.KernelAdamDownIdeal.nD Cert.KernelAdamDownIdeal.τ).loc Cert.KernelAdamDownIdeal.main_arg2)
      ∧ m' ((c.tc : Thread Cert.ReferenceAdamDownIdeal.nD Cert.ReferenceAdamDownIdeal.τ).loc Cert.ReferenceAdamDownIdeal.main_arg3) = m ((c.tc : Thread Cert.KernelAdamDownIdeal.nD Cert.KernelAdamDownIdeal.τ).loc Cert.KernelAdamDownIdeal.main_arg3)) →
    ∃ (v0 : (c : Dev Cert.KernelAdamDownIdeal.nD) → Buf (Elt Ideal) ((c.tc : Thread Cert.KernelAdamDownIdeal.nD Cert.KernelAdamDownIdeal.τ).loc Cert.KernelAdamDownIdeal.main_v0_0)) (v1 : (c : Dev Cert.KernelAdamDownIdeal.nD) → Buf (Elt Ideal) ((c.tc : Thread Cert.KernelAdamDownIdeal.nD Cert.KernelAdamDownIdeal.τ).loc Cert.KernelAdamDownIdeal.main_v0_1)) (v2 : (c : Dev Cert.KernelAdamDownIdeal.nD) → Buf (Elt Ideal) ((c.tc : Thread Cert.KernelAdamDownIdeal.nD Cert.KernelAdamDownIdeal.τ).loc Cert.KernelAdamDownIdeal.main_v0_2)),
      θ_run (Cert.KernelAdamDownIdeal.defs (F := Ideal)) (onTc (τ := Cert.KernelAdamDownIdeal.τ) (Cert.KernelAdamDownIdeal.main (F := Ideal))) ⟨m, fun _ => 0, g⟩ (fun r => ∀ c : Dev Cert.KernelAdamDownIdeal.nD,
          r.2.mem ((c.tc : Thread Cert.KernelAdamDownIdeal.nD Cert.KernelAdamDownIdeal.τ).loc Cert.KernelAdamDownIdeal.main_v0_0) = v0 c
          ∧ r.2.mem ((c.tc : Thread Cert.KernelAdamDownIdeal.nD Cert.KernelAdamDownIdeal.τ).loc Cert.KernelAdamDownIdeal.main_v0_1) = v1 c
          ∧ r.2.mem ((c.tc : Thread Cert.KernelAdamDownIdeal.nD Cert.KernelAdamDownIdeal.τ).loc Cert.KernelAdamDownIdeal.main_v0_2) = v2 c
          ∧ r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
          ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
          ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
          ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3))
      ∧ θ_run (Cert.ReferenceAdamDownIdeal.defs (F := Ideal)) (onTc (τ := Cert.ReferenceAdamDownIdeal.τ) (Cert.ReferenceAdamDownIdeal.main (F := Ideal))) ⟨m', fun _ => 0, g'⟩ (fun r => ∀ c : Dev Cert.ReferenceAdamDownIdeal.nD,
          r.2.mem ((c.tc : Thread Cert.ReferenceAdamDownIdeal.nD Cert.ReferenceAdamDownIdeal.τ).loc Cert.ReferenceAdamDownIdeal.main_v23) = v0 c
          ∧ r.2.mem ((c.tc : Thread Cert.ReferenceAdamDownIdeal.nD Cert.ReferenceAdamDownIdeal.τ).loc Cert.ReferenceAdamDownIdeal.main_v4) = v1 c
          ∧ r.2.mem ((c.tc : Thread Cert.ReferenceAdamDownIdeal.nD Cert.ReferenceAdamDownIdeal.τ).loc Cert.ReferenceAdamDownIdeal.main_v10) = v2 c
          ∧ r.2.mem ((c.tc : Thread Cert.ReferenceAdamDownIdeal.nD Cert.ReferenceAdamDownIdeal.τ).loc Cert.ReferenceAdamDownIdeal.main_arg0) = m' ((c.tc : Thread Cert.ReferenceAdamDownIdeal.nD Cert.ReferenceAdamDownIdeal.τ).loc Cert.ReferenceAdamDownIdeal.main_arg0)
          ∧ r.2.mem ((c.tc : Thread Cert.ReferenceAdamDownIdeal.nD Cert.ReferenceAdamDownIdeal.τ).loc Cert.ReferenceAdamDownIdeal.main_arg1) = m' ((c.tc : Thread Cert.ReferenceAdamDownIdeal.nD Cert.ReferenceAdamDownIdeal.τ).loc Cert.ReferenceAdamDownIdeal.main_arg1)
          ∧ r.2.mem ((c.tc : Thread Cert.ReferenceAdamDownIdeal.nD Cert.ReferenceAdamDownIdeal.τ).loc Cert.ReferenceAdamDownIdeal.main_arg2) = m' ((c.tc : Thread Cert.ReferenceAdamDownIdeal.nD Cert.ReferenceAdamDownIdeal.τ).loc Cert.ReferenceAdamDownIdeal.main_arg2)
          ∧ r.2.mem ((c.tc : Thread Cert.ReferenceAdamDownIdeal.nD Cert.ReferenceAdamDownIdeal.τ).loc Cert.ReferenceAdamDownIdeal.main_arg3) = m' ((c.tc : Thread Cert.ReferenceAdamDownIdeal.nD Cert.ReferenceAdamDownIdeal.τ).loc Cert.ReferenceAdamDownIdeal.main_arg3))

def preserves_KernelAdamSsd_KernelAdamSsdIdeal : Prop :=
  True

def algebraic_KernelAdamSsdIdeal_ReferenceAdamSsdIdeal [hKernelAdamSsdIdeal : Cert.KernelAdamSsdIdeal.Facts] [hReferenceAdamSsdIdeal : Cert.ReferenceAdamSsdIdeal.Facts] : Prop :=
  ∀ (m : (ℓ : Loc Cert.KernelAdamSsdIdeal.nD Cert.KernelAdamSsdIdeal.τ Cert.KernelAdamSsdIdeal.sig) → Buf (Elt Ideal) ℓ) (g : Dev Cert.KernelAdamSsdIdeal.nD → PrngReg)
    (m' : (ℓ : Loc Cert.ReferenceAdamSsdIdeal.nD Cert.ReferenceAdamSsdIdeal.τ Cert.ReferenceAdamSsdIdeal.sig) → Buf (Elt Ideal) ℓ) (g' : Dev Cert.ReferenceAdamSsdIdeal.nD → PrngReg), Pre_KernelAdamSsdIdeal m →
    (∀ c : Dev Cert.KernelAdamSsdIdeal.nD,
      m' ((c.tc : Thread Cert.ReferenceAdamSsdIdeal.nD Cert.ReferenceAdamSsdIdeal.τ).loc Cert.ReferenceAdamSsdIdeal.main_arg0) = m ((c.tc : Thread Cert.KernelAdamSsdIdeal.nD Cert.KernelAdamSsdIdeal.τ).loc Cert.KernelAdamSsdIdeal.main_arg0)
      ∧ m' ((c.tc : Thread Cert.ReferenceAdamSsdIdeal.nD Cert.ReferenceAdamSsdIdeal.τ).loc Cert.ReferenceAdamSsdIdeal.main_arg1) = m ((c.tc : Thread Cert.KernelAdamSsdIdeal.nD Cert.KernelAdamSsdIdeal.τ).loc Cert.KernelAdamSsdIdeal.main_arg1)
      ∧ m' ((c.tc : Thread Cert.ReferenceAdamSsdIdeal.nD Cert.ReferenceAdamSsdIdeal.τ).loc Cert.ReferenceAdamSsdIdeal.main_arg2) = m ((c.tc : Thread Cert.KernelAdamSsdIdeal.nD Cert.KernelAdamSsdIdeal.τ).loc Cert.KernelAdamSsdIdeal.main_arg2)
      ∧ m' ((c.tc : Thread Cert.ReferenceAdamSsdIdeal.nD Cert.ReferenceAdamSsdIdeal.τ).loc Cert.ReferenceAdamSsdIdeal.main_arg3) = m ((c.tc : Thread Cert.KernelAdamSsdIdeal.nD Cert.KernelAdamSsdIdeal.τ).loc Cert.KernelAdamSsdIdeal.main_arg3)) →
    ∃ (v0 : (c : Dev Cert.KernelAdamSsdIdeal.nD) → Buf (Elt Ideal) ((c.tc : Thread Cert.KernelAdamSsdIdeal.nD Cert.KernelAdamSsdIdeal.τ).loc Cert.KernelAdamSsdIdeal.main_v0_0)) (v1 : (c : Dev Cert.KernelAdamSsdIdeal.nD) → Buf (Elt Ideal) ((c.tc : Thread Cert.KernelAdamSsdIdeal.nD Cert.KernelAdamSsdIdeal.τ).loc Cert.KernelAdamSsdIdeal.main_v0_1)) (v2 : (c : Dev Cert.KernelAdamSsdIdeal.nD) → Buf (Elt Ideal) ((c.tc : Thread Cert.KernelAdamSsdIdeal.nD Cert.KernelAdamSsdIdeal.τ).loc Cert.KernelAdamSsdIdeal.main_v0_2)),
      θ_run (Cert.KernelAdamSsdIdeal.defs (F := Ideal)) (onTc (τ := Cert.KernelAdamSsdIdeal.τ) (Cert.KernelAdamSsdIdeal.main (F := Ideal))) ⟨m, fun _ => 0, g⟩ (fun r => ∀ c : Dev Cert.KernelAdamSsdIdeal.nD,
          r.2.mem ((c.tc : Thread Cert.KernelAdamSsdIdeal.nD Cert.KernelAdamSsdIdeal.τ).loc Cert.KernelAdamSsdIdeal.main_v0_0) = v0 c
          ∧ r.2.mem ((c.tc : Thread Cert.KernelAdamSsdIdeal.nD Cert.KernelAdamSsdIdeal.τ).loc Cert.KernelAdamSsdIdeal.main_v0_1) = v1 c
          ∧ r.2.mem ((c.tc : Thread Cert.KernelAdamSsdIdeal.nD Cert.KernelAdamSsdIdeal.τ).loc Cert.KernelAdamSsdIdeal.main_v0_2) = v2 c
          ∧ r.2.mem ((c.tc : Thread Cert.KernelAdamSsdIdeal.nD Cert.KernelAdamSsdIdeal.τ).loc Cert.KernelAdamSsdIdeal.main_arg0) = m ((c.tc : Thread Cert.KernelAdamSsdIdeal.nD Cert.KernelAdamSsdIdeal.τ).loc Cert.KernelAdamSsdIdeal.main_arg0)
          ∧ r.2.mem ((c.tc : Thread Cert.KernelAdamSsdIdeal.nD Cert.KernelAdamSsdIdeal.τ).loc Cert.KernelAdamSsdIdeal.main_arg1) = m ((c.tc : Thread Cert.KernelAdamSsdIdeal.nD Cert.KernelAdamSsdIdeal.τ).loc Cert.KernelAdamSsdIdeal.main_arg1)
          ∧ r.2.mem ((c.tc : Thread Cert.KernelAdamSsdIdeal.nD Cert.KernelAdamSsdIdeal.τ).loc Cert.KernelAdamSsdIdeal.main_arg2) = m ((c.tc : Thread Cert.KernelAdamSsdIdeal.nD Cert.KernelAdamSsdIdeal.τ).loc Cert.KernelAdamSsdIdeal.main_arg2)
          ∧ r.2.mem ((c.tc : Thread Cert.KernelAdamSsdIdeal.nD Cert.KernelAdamSsdIdeal.τ).loc Cert.KernelAdamSsdIdeal.main_arg3) = m ((c.tc : Thread Cert.KernelAdamSsdIdeal.nD Cert.KernelAdamSsdIdeal.τ).loc Cert.KernelAdamSsdIdeal.main_arg3))
      ∧ θ_run (Cert.ReferenceAdamSsdIdeal.defs (F := Ideal)) (onTc (τ := Cert.ReferenceAdamSsdIdeal.τ) (Cert.ReferenceAdamSsdIdeal.main (F := Ideal))) ⟨m', fun _ => 0, g'⟩ (fun r => ∀ c : Dev Cert.ReferenceAdamSsdIdeal.nD,
          r.2.mem ((c.tc : Thread Cert.ReferenceAdamSsdIdeal.nD Cert.ReferenceAdamSsdIdeal.τ).loc Cert.ReferenceAdamSsdIdeal.main_v23) = v0 c
          ∧ r.2.mem ((c.tc : Thread Cert.ReferenceAdamSsdIdeal.nD Cert.ReferenceAdamSsdIdeal.τ).loc Cert.ReferenceAdamSsdIdeal.main_v4) = v1 c
          ∧ r.2.mem ((c.tc : Thread Cert.ReferenceAdamSsdIdeal.nD Cert.ReferenceAdamSsdIdeal.τ).loc Cert.ReferenceAdamSsdIdeal.main_v10) = v2 c
          ∧ r.2.mem ((c.tc : Thread Cert.ReferenceAdamSsdIdeal.nD Cert.ReferenceAdamSsdIdeal.τ).loc Cert.ReferenceAdamSsdIdeal.main_arg0) = m' ((c.tc : Thread Cert.ReferenceAdamSsdIdeal.nD Cert.ReferenceAdamSsdIdeal.τ).loc Cert.ReferenceAdamSsdIdeal.main_arg0)
          ∧ r.2.mem ((c.tc : Thread Cert.ReferenceAdamSsdIdeal.nD Cert.ReferenceAdamSsdIdeal.τ).loc Cert.ReferenceAdamSsdIdeal.main_arg1) = m' ((c.tc : Thread Cert.ReferenceAdamSsdIdeal.nD Cert.ReferenceAdamSsdIdeal.τ).loc Cert.ReferenceAdamSsdIdeal.main_arg1)
          ∧ r.2.mem ((c.tc : Thread Cert.ReferenceAdamSsdIdeal.nD Cert.ReferenceAdamSsdIdeal.τ).loc Cert.ReferenceAdamSsdIdeal.main_arg2) = m' ((c.tc : Thread Cert.ReferenceAdamSsdIdeal.nD Cert.ReferenceAdamSsdIdeal.τ).loc Cert.ReferenceAdamSsdIdeal.main_arg2)
          ∧ r.2.mem ((c.tc : Thread Cert.ReferenceAdamSsdIdeal.nD Cert.ReferenceAdamSsdIdeal.τ).loc Cert.ReferenceAdamSsdIdeal.main_arg3) = m' ((c.tc : Thread Cert.ReferenceAdamSsdIdeal.nD Cert.ReferenceAdamSsdIdeal.τ).loc Cert.ReferenceAdamSsdIdeal.main_arg3))

def preserves_KernelAdamRet_KernelAdamRetIdeal : Prop :=
  True

def algebraic_KernelAdamRetIdeal_ReferenceAdamRetIdeal [hKernelAdamRetIdeal : Cert.KernelAdamRetIdeal.Facts] [hReferenceAdamRetIdeal : Cert.ReferenceAdamRetIdeal.Facts] : Prop :=
  ∀ (m : (ℓ : Loc Cert.KernelAdamRetIdeal.nD Cert.KernelAdamRetIdeal.τ Cert.KernelAdamRetIdeal.sig) → Buf (Elt Ideal) ℓ) (g : Dev Cert.KernelAdamRetIdeal.nD → PrngReg)
    (m' : (ℓ : Loc Cert.ReferenceAdamRetIdeal.nD Cert.ReferenceAdamRetIdeal.τ Cert.ReferenceAdamRetIdeal.sig) → Buf (Elt Ideal) ℓ) (g' : Dev Cert.ReferenceAdamRetIdeal.nD → PrngReg), Pre_KernelAdamRetIdeal m →
    (∀ c : Dev Cert.KernelAdamRetIdeal.nD,
      m' ((c.tc : Thread Cert.ReferenceAdamRetIdeal.nD Cert.ReferenceAdamRetIdeal.τ).loc Cert.ReferenceAdamRetIdeal.main_arg0) = m ((c.tc : Thread Cert.KernelAdamRetIdeal.nD Cert.KernelAdamRetIdeal.τ).loc Cert.KernelAdamRetIdeal.main_arg0)
      ∧ m' ((c.tc : Thread Cert.ReferenceAdamRetIdeal.nD Cert.ReferenceAdamRetIdeal.τ).loc Cert.ReferenceAdamRetIdeal.main_arg1) = m ((c.tc : Thread Cert.KernelAdamRetIdeal.nD Cert.KernelAdamRetIdeal.τ).loc Cert.KernelAdamRetIdeal.main_arg1)
      ∧ m' ((c.tc : Thread Cert.ReferenceAdamRetIdeal.nD Cert.ReferenceAdamRetIdeal.τ).loc Cert.ReferenceAdamRetIdeal.main_arg2) = m ((c.tc : Thread Cert.KernelAdamRetIdeal.nD Cert.KernelAdamRetIdeal.τ).loc Cert.KernelAdamRetIdeal.main_arg2)
      ∧ m' ((c.tc : Thread Cert.ReferenceAdamRetIdeal.nD Cert.ReferenceAdamRetIdeal.τ).loc Cert.ReferenceAdamRetIdeal.main_arg3) = m ((c.tc : Thread Cert.KernelAdamRetIdeal.nD Cert.KernelAdamRetIdeal.τ).loc Cert.KernelAdamRetIdeal.main_arg3)) →
    ∃ (v0 : (c : Dev Cert.KernelAdamRetIdeal.nD) → Buf (Elt Ideal) ((c.tc : Thread Cert.KernelAdamRetIdeal.nD Cert.KernelAdamRetIdeal.τ).loc Cert.KernelAdamRetIdeal.main_v0_0)) (v1 : (c : Dev Cert.KernelAdamRetIdeal.nD) → Buf (Elt Ideal) ((c.tc : Thread Cert.KernelAdamRetIdeal.nD Cert.KernelAdamRetIdeal.τ).loc Cert.KernelAdamRetIdeal.main_v0_1)) (v2 : (c : Dev Cert.KernelAdamRetIdeal.nD) → Buf (Elt Ideal) ((c.tc : Thread Cert.KernelAdamRetIdeal.nD Cert.KernelAdamRetIdeal.τ).loc Cert.KernelAdamRetIdeal.main_v0_2)),
      θ_run (Cert.KernelAdamRetIdeal.defs (F := Ideal)) (onTc (τ := Cert.KernelAdamRetIdeal.τ) (Cert.KernelAdamRetIdeal.main (F := Ideal))) ⟨m, fun _ => 0, g⟩ (fun r => ∀ c : Dev Cert.KernelAdamRetIdeal.nD,
          r.2.mem ((c.tc : Thread Cert.KernelAdamRetIdeal.nD Cert.KernelAdamRetIdeal.τ).loc Cert.KernelAdamRetIdeal.main_v0_0) = v0 c
          ∧ r.2.mem ((c.tc : Thread Cert.KernelAdamRetIdeal.nD Cert.KernelAdamRetIdeal.τ).loc Cert.KernelAdamRetIdeal.main_v0_1) = v1 c
          ∧ r.2.mem ((c.tc : Thread Cert.KernelAdamRetIdeal.nD Cert.KernelAdamRetIdeal.τ).loc Cert.KernelAdamRetIdeal.main_v0_2) = v2 c
          ∧ r.2.mem ((c.tc : Thread Cert.KernelAdamRetIdeal.nD Cert.KernelAdamRetIdeal.τ).loc Cert.KernelAdamRetIdeal.main_arg0) = m ((c.tc : Thread Cert.KernelAdamRetIdeal.nD Cert.KernelAdamRetIdeal.τ).loc Cert.KernelAdamRetIdeal.main_arg0)
          ∧ r.2.mem ((c.tc : Thread Cert.KernelAdamRetIdeal.nD Cert.KernelAdamRetIdeal.τ).loc Cert.KernelAdamRetIdeal.main_arg1) = m ((c.tc : Thread Cert.KernelAdamRetIdeal.nD Cert.KernelAdamRetIdeal.τ).loc Cert.KernelAdamRetIdeal.main_arg1)
          ∧ r.2.mem ((c.tc : Thread Cert.KernelAdamRetIdeal.nD Cert.KernelAdamRetIdeal.τ).loc Cert.KernelAdamRetIdeal.main_arg2) = m ((c.tc : Thread Cert.KernelAdamRetIdeal.nD Cert.KernelAdamRetIdeal.τ).loc Cert.KernelAdamRetIdeal.main_arg2)
          ∧ r.2.mem ((c.tc : Thread Cert.KernelAdamRetIdeal.nD Cert.KernelAdamRetIdeal.τ).loc Cert.KernelAdamRetIdeal.main_arg3) = m ((c.tc : Thread Cert.KernelAdamRetIdeal.nD Cert.KernelAdamRetIdeal.τ).loc Cert.KernelAdamRetIdeal.main_arg3))
      ∧ θ_run (Cert.ReferenceAdamRetIdeal.defs (F := Ideal)) (onTc (τ := Cert.ReferenceAdamRetIdeal.τ) (Cert.ReferenceAdamRetIdeal.main (F := Ideal))) ⟨m', fun _ => 0, g'⟩ (fun r => ∀ c : Dev Cert.ReferenceAdamRetIdeal.nD,
          r.2.mem ((c.tc : Thread Cert.ReferenceAdamRetIdeal.nD Cert.ReferenceAdamRetIdeal.τ).loc Cert.ReferenceAdamRetIdeal.main_v23) = v0 c
          ∧ r.2.mem ((c.tc : Thread Cert.ReferenceAdamRetIdeal.nD Cert.ReferenceAdamRetIdeal.τ).loc Cert.ReferenceAdamRetIdeal.main_v4) = v1 c
          ∧ r.2.mem ((c.tc : Thread Cert.ReferenceAdamRetIdeal.nD Cert.ReferenceAdamRetIdeal.τ).loc Cert.ReferenceAdamRetIdeal.main_v10) = v2 c
          ∧ r.2.mem ((c.tc : Thread Cert.ReferenceAdamRetIdeal.nD Cert.ReferenceAdamRetIdeal.τ).loc Cert.ReferenceAdamRetIdeal.main_arg0) = m' ((c.tc : Thread Cert.ReferenceAdamRetIdeal.nD Cert.ReferenceAdamRetIdeal.τ).loc Cert.ReferenceAdamRetIdeal.main_arg0)
          ∧ r.2.mem ((c.tc : Thread Cert.ReferenceAdamRetIdeal.nD Cert.ReferenceAdamRetIdeal.τ).loc Cert.ReferenceAdamRetIdeal.main_arg1) = m' ((c.tc : Thread Cert.ReferenceAdamRetIdeal.nD Cert.ReferenceAdamRetIdeal.τ).loc Cert.ReferenceAdamRetIdeal.main_arg1)
          ∧ r.2.mem ((c.tc : Thread Cert.ReferenceAdamRetIdeal.nD Cert.ReferenceAdamRetIdeal.τ).loc Cert.ReferenceAdamRetIdeal.main_arg2) = m' ((c.tc : Thread Cert.ReferenceAdamRetIdeal.nD Cert.ReferenceAdamRetIdeal.τ).loc Cert.ReferenceAdamRetIdeal.main_arg2)
          ∧ r.2.mem ((c.tc : Thread Cert.ReferenceAdamRetIdeal.nD Cert.ReferenceAdamRetIdeal.τ).loc Cert.ReferenceAdamRetIdeal.main_arg3) = m' ((c.tc : Thread Cert.ReferenceAdamRetIdeal.nD Cert.ReferenceAdamRetIdeal.τ).loc Cert.ReferenceAdamRetIdeal.main_arg3))

def preserves_KernelAdamSmall_KernelAdamSmallIdeal : Prop :=
  True

def algebraic_KernelAdamSmallIdeal_ReferenceAdamSmallIdeal [hKernelAdamSmallIdeal : Cert.KernelAdamSmallIdeal.Facts] [hReferenceAdamSmallIdeal : Cert.ReferenceAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg)
    (m' : (ℓ : Loc Cert.ReferenceAdamSmallIdeal.nD Cert.ReferenceAdamSmallIdeal.τ Cert.ReferenceAdamSmallIdeal.sig) → Buf (Elt Ideal) ℓ) (g' : Dev Cert.ReferenceAdamSmallIdeal.nD → PrngReg), Pre_KernelAdamSmallIdeal m →
    (∀ c : Dev Cert.KernelAdamSmallIdeal.nD,
      m' ((c.tc : Thread Cert.ReferenceAdamSmallIdeal.nD Cert.ReferenceAdamSmallIdeal.τ).loc Cert.ReferenceAdamSmallIdeal.main_arg0) = m ((c.tc : Thread Cert.KernelAdamSmallIdeal.nD Cert.KernelAdamSmallIdeal.τ).loc Cert.KernelAdamSmallIdeal.main_arg0)
      ∧ m' ((c.tc : Thread Cert.ReferenceAdamSmallIdeal.nD Cert.ReferenceAdamSmallIdeal.τ).loc Cert.ReferenceAdamSmallIdeal.main_arg1) = m ((c.tc : Thread Cert.KernelAdamSmallIdeal.nD Cert.KernelAdamSmallIdeal.τ).loc Cert.KernelAdamSmallIdeal.main_arg1)
      ∧ m' ((c.tc : Thread Cert.ReferenceAdamSmallIdeal.nD Cert.ReferenceAdamSmallIdeal.τ).loc Cert.ReferenceAdamSmallIdeal.main_arg2) = m ((c.tc : Thread Cert.KernelAdamSmallIdeal.nD Cert.KernelAdamSmallIdeal.τ).loc Cert.KernelAdamSmallIdeal.main_arg2)
      ∧ m' ((c.tc : Thread Cert.ReferenceAdamSmallIdeal.nD Cert.ReferenceAdamSmallIdeal.τ).loc Cert.ReferenceAdamSmallIdeal.main_arg3) = m ((c.tc : Thread Cert.KernelAdamSmallIdeal.nD Cert.KernelAdamSmallIdeal.τ).loc Cert.KernelAdamSmallIdeal.main_arg3)) →
    ∃ (v0 : (c : Dev Cert.KernelAdamSmallIdeal.nD) → Buf (Elt Ideal) ((c.tc : Thread Cert.KernelAdamSmallIdeal.nD Cert.KernelAdamSmallIdeal.τ).loc Cert.KernelAdamSmallIdeal.main_v0_0)) (v1 : (c : Dev Cert.KernelAdamSmallIdeal.nD) → Buf (Elt Ideal) ((c.tc : Thread Cert.KernelAdamSmallIdeal.nD Cert.KernelAdamSmallIdeal.τ).loc Cert.KernelAdamSmallIdeal.main_v0_1)) (v2 : (c : Dev Cert.KernelAdamSmallIdeal.nD) → Buf (Elt Ideal) ((c.tc : Thread Cert.KernelAdamSmallIdeal.nD Cert.KernelAdamSmallIdeal.τ).loc Cert.KernelAdamSmallIdeal.main_v0_2)),
      θ_run (Cert.KernelAdamSmallIdeal.defs (F := Ideal)) (onTc (τ := Cert.KernelAdamSmallIdeal.τ) (Cert.KernelAdamSmallIdeal.main (F := Ideal))) ⟨m, fun _ => 0, g⟩ (fun r => ∀ c : Dev Cert.KernelAdamSmallIdeal.nD,
          r.2.mem ((c.tc : Thread Cert.KernelAdamSmallIdeal.nD Cert.KernelAdamSmallIdeal.τ).loc Cert.KernelAdamSmallIdeal.main_v0_0) = v0 c
          ∧ r.2.mem ((c.tc : Thread Cert.KernelAdamSmallIdeal.nD Cert.KernelAdamSmallIdeal.τ).loc Cert.KernelAdamSmallIdeal.main_v0_1) = v1 c
          ∧ r.2.mem ((c.tc : Thread Cert.KernelAdamSmallIdeal.nD Cert.KernelAdamSmallIdeal.τ).loc Cert.KernelAdamSmallIdeal.main_v0_2) = v2 c
          ∧ r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
          ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
          ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
          ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ θ_run (Cert.ReferenceAdamSmallIdeal.defs (F := Ideal)) (onTc (τ := Cert.ReferenceAdamSmallIdeal.τ) (Cert.ReferenceAdamSmallIdeal.main (F := Ideal))) ⟨m', fun _ => 0, g'⟩ (fun r => ∀ c : Dev Cert.ReferenceAdamSmallIdeal.nD,
          r.2.mem ((c.tc : Thread Cert.ReferenceAdamSmallIdeal.nD Cert.ReferenceAdamSmallIdeal.τ).loc Cert.ReferenceAdamSmallIdeal.main_v23) = v0 c
          ∧ r.2.mem ((c.tc : Thread Cert.ReferenceAdamSmallIdeal.nD Cert.ReferenceAdamSmallIdeal.τ).loc Cert.ReferenceAdamSmallIdeal.main_v4) = v1 c
          ∧ r.2.mem ((c.tc : Thread Cert.ReferenceAdamSmallIdeal.nD Cert.ReferenceAdamSmallIdeal.τ).loc Cert.ReferenceAdamSmallIdeal.main_v10) = v2 c
          ∧ r.2.mem ((c.tc : Thread Cert.ReferenceAdamSmallIdeal.nD Cert.ReferenceAdamSmallIdeal.τ).loc Cert.ReferenceAdamSmallIdeal.main_arg0) = m' ((c.tc : Thread Cert.ReferenceAdamSmallIdeal.nD Cert.ReferenceAdamSmallIdeal.τ).loc Cert.ReferenceAdamSmallIdeal.main_arg0)
          ∧ r.2.mem ((c.tc : Thread Cert.ReferenceAdamSmallIdeal.nD Cert.ReferenceAdamSmallIdeal.τ).loc Cert.ReferenceAdamSmallIdeal.main_arg1) = m' ((c.tc : Thread Cert.ReferenceAdamSmallIdeal.nD Cert.ReferenceAdamSmallIdeal.τ).loc Cert.ReferenceAdamSmallIdeal.main_arg1)
          ∧ r.2.mem ((c.tc : Thread Cert.ReferenceAdamSmallIdeal.nD Cert.ReferenceAdamSmallIdeal.τ).loc Cert.ReferenceAdamSmallIdeal.main_arg2) = m' ((c.tc : Thread Cert.ReferenceAdamSmallIdeal.nD Cert.ReferenceAdamSmallIdeal.τ).loc Cert.ReferenceAdamSmallIdeal.main_arg2)
          ∧ r.2.mem ((c.tc : Thread Cert.ReferenceAdamSmallIdeal.nD Cert.ReferenceAdamSmallIdeal.τ).loc Cert.ReferenceAdamSmallIdeal.main_arg3) = m' ((c.tc : Thread Cert.ReferenceAdamSmallIdeal.nD Cert.ReferenceAdamSmallIdeal.τ).loc Cert.ReferenceAdamSmallIdeal.main_arg3))

def Claim : Prop :=
  ∃ (hKernelDq : Cert.KernelDq.Facts) (hKernelDqIdeal : Cert.KernelDqIdeal.Facts) (hReferenceDqIdeal : Cert.ReferenceDqIdeal.Facts) (hKernelDk : Cert.KernelDk.Facts) (hKernelDkIdeal : Cert.KernelDkIdeal.Facts) (hReferenceDkIdeal : Cert.ReferenceDkIdeal.Facts) (hKernelDv : Cert.KernelDv.Facts) (hKernelDvIdeal : Cert.KernelDvIdeal.Facts) (hReferenceDvIdeal : Cert.ReferenceDvIdeal.Facts) (hKernelProjMain : Cert.KernelProjMain.Facts) (hKernelProjMainIdeal : Cert.KernelProjMainIdeal.Facts) (hReferenceProjMainIdeal : Cert.ReferenceProjMainIdeal.Facts) (hKernelGInMain : Cert.KernelGInMain.Facts) (hKernelGInMainIdeal : Cert.KernelGInMainIdeal.Facts) (hReferenceGInMainIdeal : Cert.ReferenceGInMainIdeal.Facts) (hKernelDUMain : Cert.KernelDUMain.Facts) (hKernelDUMainIdeal : Cert.KernelDUMainIdeal.Facts) (hReferenceDUMainIdeal : Cert.ReferenceDUMainIdeal.Facts) (hKernelProjGates : Cert.KernelProjGates.Facts) (hKernelProjGatesIdeal : Cert.KernelProjGatesIdeal.Facts) (hReferenceProjGatesIdeal : Cert.ReferenceProjGatesIdeal.Facts) (hReferenceDSsdActIdeal : Cert.ReferenceDSsdActIdeal.Facts) (hKernelGInGates : Cert.KernelGInGates.Facts) (hKernelGInGatesIdeal : Cert.KernelGInGatesIdeal.Facts) (hReferenceGInGatesIdeal : Cert.ReferenceGInGatesIdeal.Facts) (hReferenceGSsdOutIdeal : Cert.ReferenceGSsdOutIdeal.Facts) (hKernelDUGates : Cert.KernelDUGates.Facts) (hKernelDUGatesIdeal : Cert.KernelDUGatesIdeal.Facts) (hReferenceDUGatesIdeal : Cert.ReferenceDUGatesIdeal.Facts) (hKernelFfnUp : Cert.KernelFfnUp.Facts) (hKernelFfnUpIdeal : Cert.KernelFfnUpIdeal.Facts) (hReferenceFfnUpIdeal : Cert.ReferenceFfnUpIdeal.Facts) (hKernelGFfnUp : Cert.KernelGFfnUp.Facts) (hKernelGFfnUpIdeal : Cert.KernelGFfnUpIdeal.Facts) (hReferenceGFfnUpIdeal : Cert.ReferenceGFfnUpIdeal.Facts) (hKernelDNormFfn : Cert.KernelDNormFfn.Facts) (hKernelDNormFfnIdeal : Cert.KernelDNormFfnIdeal.Facts) (hReferenceDNormFfnIdeal : Cert.ReferenceDNormFfnIdeal.Facts) (hKernelFfnDown : Cert.KernelFfnDown.Facts) (hKernelFfnDownIdeal : Cert.KernelFfnDownIdeal.Facts) (hReferenceFfnDownIdeal : Cert.ReferenceFfnDownIdeal.Facts) (hReferenceDNormFfnUIdeal : Cert.ReferenceDNormFfnUIdeal.Facts) (hKernelDFfnAct : Cert.KernelDFfnAct.Facts) (hKernelDFfnActIdeal : Cert.KernelDFfnActIdeal.Facts) (hReferenceDFfnActIdeal : Cert.ReferenceDFfnActIdeal.Facts) (hKernelGFfnDown : Cert.KernelGFfnDown.Facts) (hKernelGFfnDownIdeal : Cert.KernelGFfnDownIdeal.Facts) (hReferenceGFfnDownIdeal : Cert.ReferenceGFfnDownIdeal.Facts) (hKernelSsdOut : Cert.KernelSsdOut.Facts) (hKernelSsdOutIdeal : Cert.KernelSsdOutIdeal.Facts) (hReferenceSsdOutIdeal : Cert.ReferenceSsdOutIdeal.Facts) (hKernelRetOut : Cert.KernelRetOut.Facts) (hKernelRetOutIdeal : Cert.KernelRetOutIdeal.Facts) (hReferenceRetOutIdeal : Cert.ReferenceRetOutIdeal.Facts) (hKernelDRetAct : Cert.KernelDRetAct.Facts) (hKernelDRetActIdeal : Cert.KernelDRetActIdeal.Facts) (hReferenceDRetActIdeal : Cert.ReferenceDRetActIdeal.Facts) (hKernelGRetOut : Cert.KernelGRetOut.Facts) (hKernelGRetOutIdeal : Cert.KernelGRetOutIdeal.Facts) (hReferenceGRetOutIdeal : Cert.ReferenceGRetOutIdeal.Facts) (hKernelMixOut : Cert.KernelMixOut.Facts) (hKernelMixOutIdeal : Cert.KernelMixOutIdeal.Facts) (hReferenceMixOutIdeal : Cert.ReferenceMixOutIdeal.Facts) (hKernelDMerged : Cert.KernelDMerged.Facts) (hKernelDMergedIdeal : Cert.KernelDMergedIdeal.Facts) (hReferenceDMergedIdeal : Cert.ReferenceDMergedIdeal.Facts) (hKernelGOut : Cert.KernelGOut.Facts) (hKernelGOutIdeal : Cert.KernelGOutIdeal.Facts) (hReferenceGOutIdeal : Cert.ReferenceGOutIdeal.Facts) (hKernelProjDt : Cert.KernelProjDt.Facts) (hKernelProjDtIdeal : Cert.KernelProjDtIdeal.Facts) (hReferenceProjDtIdeal : Cert.ReferenceProjDtIdeal.Facts) (hKernelGInDt : Cert.KernelGInDt.Facts) (hKernelGInDtIdeal : Cert.KernelGInDtIdeal.Facts) (hReferenceGInDtIdeal : Cert.ReferenceGInDtIdeal.Facts) (hKernelDUDt : Cert.KernelDUDt.Facts) (hKernelDUDtIdeal : Cert.KernelDUDtIdeal.Facts) (hReferenceDUDtIdeal : Cert.ReferenceDUDtIdeal.Facts) (hKernelY : Cert.KernelY.Facts) (hKernelYIdeal : Cert.KernelYIdeal.Facts) (hReferenceYIdeal : Cert.ReferenceYIdeal.Facts) (hKernelSumIn : Cert.KernelSumIn.Facts) (hKernelSumInIdeal : Cert.KernelSumInIdeal.Facts) (hReferenceSumInIdeal : Cert.ReferenceSumInIdeal.Facts) (hKernelSumUp : Cert.KernelSumUp.Facts) (hKernelSumUpIdeal : Cert.KernelSumUpIdeal.Facts) (hReferenceSumUpIdeal : Cert.ReferenceSumUpIdeal.Facts) (hKernelSumDown : Cert.KernelSumDown.Facts) (hKernelSumDownIdeal : Cert.KernelSumDownIdeal.Facts) (hReferenceSumDownIdeal : Cert.ReferenceSumDownIdeal.Facts) (hKernelSumSsd : Cert.KernelSumSsd.Facts) (hKernelSumSsdIdeal : Cert.KernelSumSsdIdeal.Facts) (hReferenceSumSsdIdeal : Cert.ReferenceSumSsdIdeal.Facts) (hKernelSumRet : Cert.KernelSumRet.Facts) (hKernelSumRetIdeal : Cert.KernelSumRetIdeal.Facts) (hReferenceSumRetIdeal : Cert.ReferenceSumRetIdeal.Facts) (hKernelSumSmall : Cert.KernelSumSmall.Facts) (hKernelSumSmallIdeal : Cert.KernelSumSmallIdeal.Facts) (hReferenceSumSmallIdeal : Cert.ReferenceSumSmallIdeal.Facts) (hKernelAdamIn : Cert.KernelAdamIn.Facts) (hKernelAdamInIdeal : Cert.KernelAdamInIdeal.Facts) (hReferenceAdamInIdeal : Cert.ReferenceAdamInIdeal.Facts) (hKernelAdamUp : Cert.KernelAdamUp.Facts) (hKernelAdamUpIdeal : Cert.KernelAdamUpIdeal.Facts) (hReferenceAdamUpIdeal : Cert.ReferenceAdamUpIdeal.Facts) (hKernelAdamDown : Cert.KernelAdamDown.Facts) (hKernelAdamDownIdeal : Cert.KernelAdamDownIdeal.Facts) (hReferenceAdamDownIdeal : Cert.ReferenceAdamDownIdeal.Facts) (hKernelAdamSsd : Cert.KernelAdamSsd.Facts) (hKernelAdamSsdIdeal : Cert.KernelAdamSsdIdeal.Facts) (hReferenceAdamSsdIdeal : Cert.ReferenceAdamSsdIdeal.Facts) (hKernelAdamRet : Cert.KernelAdamRet.Facts) (hKernelAdamRetIdeal : Cert.KernelAdamRetIdeal.Facts) (hReferenceAdamRetIdeal : Cert.ReferenceAdamRetIdeal.Facts) (hKernelAdamSmall : Cert.KernelAdamSmall.Facts) (hKernelAdamSmallIdeal : Cert.KernelAdamSmallIdeal.Facts) (hReferenceAdamSmallIdeal : Cert.ReferenceAdamSmallIdeal.Facts),
    quiescent_KernelDq (hKernelDq := hKernelDq)
    ∧ quiescent_KernelDqIdeal (hKernelDqIdeal := hKernelDqIdeal)
    ∧ quiescent_ReferenceDqIdeal (hReferenceDqIdeal := hReferenceDqIdeal)
    ∧ quiescent_KernelDk (hKernelDk := hKernelDk)
    ∧ quiescent_KernelDkIdeal (hKernelDkIdeal := hKernelDkIdeal)
    ∧ quiescent_ReferenceDkIdeal (hReferenceDkIdeal := hReferenceDkIdeal)
    ∧ quiescent_KernelDv (hKernelDv := hKernelDv)
    ∧ quiescent_KernelDvIdeal (hKernelDvIdeal := hKernelDvIdeal)
    ∧ quiescent_ReferenceDvIdeal (hReferenceDvIdeal := hReferenceDvIdeal)
    ∧ quiescent_KernelProjMain (hKernelProjMain := hKernelProjMain)
    ∧ quiescent_KernelProjMainIdeal (hKernelProjMainIdeal := hKernelProjMainIdeal)
    ∧ quiescent_ReferenceProjMainIdeal (hReferenceProjMainIdeal := hReferenceProjMainIdeal)
    ∧ quiescent_KernelGInMain (hKernelGInMain := hKernelGInMain)
    ∧ quiescent_KernelGInMainIdeal (hKernelGInMainIdeal := hKernelGInMainIdeal)
    ∧ quiescent_ReferenceGInMainIdeal (hReferenceGInMainIdeal := hReferenceGInMainIdeal)
    ∧ quiescent_KernelDUMain (hKernelDUMain := hKernelDUMain)
    ∧ quiescent_KernelDUMainIdeal (hKernelDUMainIdeal := hKernelDUMainIdeal)
    ∧ quiescent_ReferenceDUMainIdeal (hReferenceDUMainIdeal := hReferenceDUMainIdeal)
    ∧ quiescent_KernelProjGates (hKernelProjGates := hKernelProjGates)
    ∧ quiescent_KernelProjGatesIdeal (hKernelProjGatesIdeal := hKernelProjGatesIdeal)
    ∧ quiescent_ReferenceProjGatesIdeal (hReferenceProjGatesIdeal := hReferenceProjGatesIdeal)
    ∧ quiescent_ReferenceDSsdActIdeal (hReferenceDSsdActIdeal := hReferenceDSsdActIdeal)
    ∧ quiescent_KernelGInGates (hKernelGInGates := hKernelGInGates)
    ∧ quiescent_KernelGInGatesIdeal (hKernelGInGatesIdeal := hKernelGInGatesIdeal)
    ∧ quiescent_ReferenceGInGatesIdeal (hReferenceGInGatesIdeal := hReferenceGInGatesIdeal)
    ∧ quiescent_ReferenceGSsdOutIdeal (hReferenceGSsdOutIdeal := hReferenceGSsdOutIdeal)
    ∧ quiescent_KernelDUGates (hKernelDUGates := hKernelDUGates)
    ∧ quiescent_KernelDUGatesIdeal (hKernelDUGatesIdeal := hKernelDUGatesIdeal)
    ∧ quiescent_ReferenceDUGatesIdeal (hReferenceDUGatesIdeal := hReferenceDUGatesIdeal)
    ∧ quiescent_KernelFfnUp (hKernelFfnUp := hKernelFfnUp)
    ∧ quiescent_KernelFfnUpIdeal (hKernelFfnUpIdeal := hKernelFfnUpIdeal)
    ∧ quiescent_ReferenceFfnUpIdeal (hReferenceFfnUpIdeal := hReferenceFfnUpIdeal)
    ∧ quiescent_KernelGFfnUp (hKernelGFfnUp := hKernelGFfnUp)
    ∧ quiescent_KernelGFfnUpIdeal (hKernelGFfnUpIdeal := hKernelGFfnUpIdeal)
    ∧ quiescent_ReferenceGFfnUpIdeal (hReferenceGFfnUpIdeal := hReferenceGFfnUpIdeal)
    ∧ quiescent_KernelDNormFfn (hKernelDNormFfn := hKernelDNormFfn)
    ∧ quiescent_KernelDNormFfnIdeal (hKernelDNormFfnIdeal := hKernelDNormFfnIdeal)
    ∧ quiescent_ReferenceDNormFfnIdeal (hReferenceDNormFfnIdeal := hReferenceDNormFfnIdeal)
    ∧ quiescent_KernelFfnDown (hKernelFfnDown := hKernelFfnDown)
    ∧ quiescent_KernelFfnDownIdeal (hKernelFfnDownIdeal := hKernelFfnDownIdeal)
    ∧ quiescent_ReferenceFfnDownIdeal (hReferenceFfnDownIdeal := hReferenceFfnDownIdeal)
    ∧ quiescent_ReferenceDNormFfnUIdeal (hReferenceDNormFfnUIdeal := hReferenceDNormFfnUIdeal)
    ∧ quiescent_KernelDFfnAct (hKernelDFfnAct := hKernelDFfnAct)
    ∧ quiescent_KernelDFfnActIdeal (hKernelDFfnActIdeal := hKernelDFfnActIdeal)
    ∧ quiescent_ReferenceDFfnActIdeal (hReferenceDFfnActIdeal := hReferenceDFfnActIdeal)
    ∧ quiescent_KernelGFfnDown (hKernelGFfnDown := hKernelGFfnDown)
    ∧ quiescent_KernelGFfnDownIdeal (hKernelGFfnDownIdeal := hKernelGFfnDownIdeal)
    ∧ quiescent_ReferenceGFfnDownIdeal (hReferenceGFfnDownIdeal := hReferenceGFfnDownIdeal)
    ∧ quiescent_KernelSsdOut (hKernelSsdOut := hKernelSsdOut)
    ∧ quiescent_KernelSsdOutIdeal (hKernelSsdOutIdeal := hKernelSsdOutIdeal)
    ∧ quiescent_ReferenceSsdOutIdeal (hReferenceSsdOutIdeal := hReferenceSsdOutIdeal)
    ∧ quiescent_KernelRetOut (hKernelRetOut := hKernelRetOut)
    ∧ quiescent_KernelRetOutIdeal (hKernelRetOutIdeal := hKernelRetOutIdeal)
    ∧ quiescent_ReferenceRetOutIdeal (hReferenceRetOutIdeal := hReferenceRetOutIdeal)
    ∧ quiescent_KernelDRetAct (hKernelDRetAct := hKernelDRetAct)
    ∧ quiescent_KernelDRetActIdeal (hKernelDRetActIdeal := hKernelDRetActIdeal)
    ∧ quiescent_ReferenceDRetActIdeal (hReferenceDRetActIdeal := hReferenceDRetActIdeal)
    ∧ quiescent_KernelGRetOut (hKernelGRetOut := hKernelGRetOut)
    ∧ quiescent_KernelGRetOutIdeal (hKernelGRetOutIdeal := hKernelGRetOutIdeal)
    ∧ quiescent_ReferenceGRetOutIdeal (hReferenceGRetOutIdeal := hReferenceGRetOutIdeal)
    ∧ quiescent_KernelMixOut (hKernelMixOut := hKernelMixOut)
    ∧ quiescent_KernelMixOutIdeal (hKernelMixOutIdeal := hKernelMixOutIdeal)
    ∧ quiescent_ReferenceMixOutIdeal (hReferenceMixOutIdeal := hReferenceMixOutIdeal)
    ∧ quiescent_KernelDMerged (hKernelDMerged := hKernelDMerged)
    ∧ quiescent_KernelDMergedIdeal (hKernelDMergedIdeal := hKernelDMergedIdeal)
    ∧ quiescent_ReferenceDMergedIdeal (hReferenceDMergedIdeal := hReferenceDMergedIdeal)
    ∧ quiescent_KernelGOut (hKernelGOut := hKernelGOut)
    ∧ quiescent_KernelGOutIdeal (hKernelGOutIdeal := hKernelGOutIdeal)
    ∧ quiescent_ReferenceGOutIdeal (hReferenceGOutIdeal := hReferenceGOutIdeal)
    ∧ quiescent_KernelProjDt (hKernelProjDt := hKernelProjDt)
    ∧ quiescent_KernelProjDtIdeal (hKernelProjDtIdeal := hKernelProjDtIdeal)
    ∧ quiescent_ReferenceProjDtIdeal (hReferenceProjDtIdeal := hReferenceProjDtIdeal)
    ∧ quiescent_KernelGInDt (hKernelGInDt := hKernelGInDt)
    ∧ quiescent_KernelGInDtIdeal (hKernelGInDtIdeal := hKernelGInDtIdeal)
    ∧ quiescent_ReferenceGInDtIdeal (hReferenceGInDtIdeal := hReferenceGInDtIdeal)
    ∧ quiescent_KernelDUDt (hKernelDUDt := hKernelDUDt)
    ∧ quiescent_KernelDUDtIdeal (hKernelDUDtIdeal := hKernelDUDtIdeal)
    ∧ quiescent_ReferenceDUDtIdeal (hReferenceDUDtIdeal := hReferenceDUDtIdeal)
    ∧ quiescent_KernelY (hKernelY := hKernelY)
    ∧ quiescent_KernelYIdeal (hKernelYIdeal := hKernelYIdeal)
    ∧ quiescent_ReferenceYIdeal (hReferenceYIdeal := hReferenceYIdeal)
    ∧ quiescent_KernelSumIn (hKernelSumIn := hKernelSumIn)
    ∧ quiescent_KernelSumInIdeal (hKernelSumInIdeal := hKernelSumInIdeal)
    ∧ quiescent_ReferenceSumInIdeal (hReferenceSumInIdeal := hReferenceSumInIdeal)
    ∧ quiescent_KernelSumUp (hKernelSumUp := hKernelSumUp)
    ∧ quiescent_KernelSumUpIdeal (hKernelSumUpIdeal := hKernelSumUpIdeal)
    ∧ quiescent_ReferenceSumUpIdeal (hReferenceSumUpIdeal := hReferenceSumUpIdeal)
    ∧ quiescent_KernelSumDown (hKernelSumDown := hKernelSumDown)
    ∧ quiescent_KernelSumDownIdeal (hKernelSumDownIdeal := hKernelSumDownIdeal)
    ∧ quiescent_ReferenceSumDownIdeal (hReferenceSumDownIdeal := hReferenceSumDownIdeal)
    ∧ quiescent_KernelSumSsd (hKernelSumSsd := hKernelSumSsd)
    ∧ quiescent_KernelSumSsdIdeal (hKernelSumSsdIdeal := hKernelSumSsdIdeal)
    ∧ quiescent_ReferenceSumSsdIdeal (hReferenceSumSsdIdeal := hReferenceSumSsdIdeal)
    ∧ quiescent_KernelSumRet (hKernelSumRet := hKernelSumRet)
    ∧ quiescent_KernelSumRetIdeal (hKernelSumRetIdeal := hKernelSumRetIdeal)
    ∧ quiescent_ReferenceSumRetIdeal (hReferenceSumRetIdeal := hReferenceSumRetIdeal)
    ∧ quiescent_KernelSumSmall (hKernelSumSmall := hKernelSumSmall)
    ∧ quiescent_KernelSumSmallIdeal (hKernelSumSmallIdeal := hKernelSumSmallIdeal)
    ∧ quiescent_ReferenceSumSmallIdeal (hReferenceSumSmallIdeal := hReferenceSumSmallIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamUp (hKernelAdamUp := hKernelAdamUp)
    ∧ quiescent_KernelAdamUpIdeal (hKernelAdamUpIdeal := hKernelAdamUpIdeal)
    ∧ quiescent_ReferenceAdamUpIdeal (hReferenceAdamUpIdeal := hReferenceAdamUpIdeal)
    ∧ quiescent_KernelAdamDown (hKernelAdamDown := hKernelAdamDown)
    ∧ quiescent_KernelAdamDownIdeal (hKernelAdamDownIdeal := hKernelAdamDownIdeal)
    ∧ quiescent_ReferenceAdamDownIdeal (hReferenceAdamDownIdeal := hReferenceAdamDownIdeal)
    ∧ quiescent_KernelAdamSsd (hKernelAdamSsd := hKernelAdamSsd)
    ∧ quiescent_KernelAdamSsdIdeal (hKernelAdamSsdIdeal := hKernelAdamSsdIdeal)
    ∧ quiescent_ReferenceAdamSsdIdeal (hReferenceAdamSsdIdeal := hReferenceAdamSsdIdeal)
    ∧ quiescent_KernelAdamRet (hKernelAdamRet := hKernelAdamRet)
    ∧ quiescent_KernelAdamRetIdeal (hKernelAdamRetIdeal := hKernelAdamRetIdeal)
    ∧ quiescent_ReferenceAdamRetIdeal (hReferenceAdamRetIdeal := hReferenceAdamRetIdeal)
    ∧ quiescent_KernelAdamSmall (hKernelAdamSmall := hKernelAdamSmall)
    ∧ quiescent_KernelAdamSmallIdeal (hKernelAdamSmallIdeal := hKernelAdamSmallIdeal)
    ∧ quiescent_ReferenceAdamSmallIdeal (hReferenceAdamSmallIdeal := hReferenceAdamSmallIdeal)
    ∧ preserves_KernelDq_KernelDqIdeal
    ∧ algebraic_KernelDqIdeal_ReferenceDqIdeal (hKernelDqIdeal := hKernelDqIdeal) (hReferenceDqIdeal := hReferenceDqIdeal)
    ∧ preserves_KernelDk_KernelDkIdeal
    ∧ algebraic_KernelDkIdeal_ReferenceDkIdeal (hKernelDkIdeal := hKernelDkIdeal) (hReferenceDkIdeal := hReferenceDkIdeal)
    ∧ preserves_KernelDv_KernelDvIdeal
    ∧ algebraic_KernelDvIdeal_ReferenceDvIdeal (hKernelDvIdeal := hKernelDvIdeal) (hReferenceDvIdeal := hReferenceDvIdeal)
    ∧ preserves_KernelProjMain_KernelProjMainIdeal
    ∧ algebraic_KernelProjMainIdeal_ReferenceProjMainIdeal (hKernelProjMainIdeal := hKernelProjMainIdeal) (hReferenceProjMainIdeal := hReferenceProjMainIdeal)
    ∧ preserves_KernelGInMain_KernelGInMainIdeal
    ∧ algebraic_KernelGInMainIdeal_ReferenceGInMainIdeal (hKernelGInMainIdeal := hKernelGInMainIdeal) (hReferenceGInMainIdeal := hReferenceGInMainIdeal)
    ∧ preserves_KernelDUMain_KernelDUMainIdeal
    ∧ algebraic_KernelDUMainIdeal_ReferenceDUMainIdeal (hKernelDUMainIdeal := hKernelDUMainIdeal) (hReferenceDUMainIdeal := hReferenceDUMainIdeal)
    ∧ preserves_KernelProjGates_KernelProjGatesIdeal
    ∧ algebraic_KernelProjGatesIdeal_ReferenceProjGatesIdeal (hKernelProjGatesIdeal := hKernelProjGatesIdeal) (hReferenceProjGatesIdeal := hReferenceProjGatesIdeal)
    ∧ algebraic_KernelProjGatesIdeal_ReferenceDSsdActIdeal (hKernelProjGatesIdeal := hKernelProjGatesIdeal) (hReferenceDSsdActIdeal := hReferenceDSsdActIdeal)
    ∧ preserves_KernelGInGates_KernelGInGatesIdeal
    ∧ algebraic_KernelGInGatesIdeal_ReferenceGInGatesIdeal (hKernelGInGatesIdeal := hKernelGInGatesIdeal) (hReferenceGInGatesIdeal := hReferenceGInGatesIdeal)
    ∧ algebraic_KernelGInGatesIdeal_ReferenceGSsdOutIdeal (hKernelGInGatesIdeal := hKernelGInGatesIdeal) (hReferenceGSsdOutIdeal := hReferenceGSsdOutIdeal)
    ∧ preserves_KernelDUGates_KernelDUGatesIdeal
    ∧ algebraic_KernelDUGatesIdeal_ReferenceDUGatesIdeal (hKernelDUGatesIdeal := hKernelDUGatesIdeal) (hReferenceDUGatesIdeal := hReferenceDUGatesIdeal)
    ∧ preserves_KernelFfnUp_KernelFfnUpIdeal
    ∧ algebraic_KernelFfnUpIdeal_ReferenceFfnUpIdeal (hKernelFfnUpIdeal := hKernelFfnUpIdeal) (hReferenceFfnUpIdeal := hReferenceFfnUpIdeal)
    ∧ preserves_KernelGFfnUp_KernelGFfnUpIdeal
    ∧ algebraic_KernelGFfnUpIdeal_ReferenceGFfnUpIdeal (hKernelGFfnUpIdeal := hKernelGFfnUpIdeal) (hReferenceGFfnUpIdeal := hReferenceGFfnUpIdeal)
    ∧ preserves_KernelDNormFfn_KernelDNormFfnIdeal
    ∧ algebraic_KernelDNormFfnIdeal_ReferenceDNormFfnIdeal (hKernelDNormFfnIdeal := hKernelDNormFfnIdeal) (hReferenceDNormFfnIdeal := hReferenceDNormFfnIdeal)
    ∧ preserves_KernelFfnDown_KernelFfnDownIdeal
    ∧ algebraic_KernelFfnDownIdeal_ReferenceFfnDownIdeal (hKernelFfnDownIdeal := hKernelFfnDownIdeal) (hReferenceFfnDownIdeal := hReferenceFfnDownIdeal)
    ∧ algebraic_KernelFfnDownIdeal_ReferenceDNormFfnUIdeal (hKernelFfnDownIdeal := hKernelFfnDownIdeal) (hReferenceDNormFfnUIdeal := hReferenceDNormFfnUIdeal)
    ∧ preserves_KernelDFfnAct_KernelDFfnActIdeal
    ∧ algebraic_KernelDFfnActIdeal_ReferenceDFfnActIdeal (hKernelDFfnActIdeal := hKernelDFfnActIdeal) (hReferenceDFfnActIdeal := hReferenceDFfnActIdeal)
    ∧ preserves_KernelGFfnDown_KernelGFfnDownIdeal
    ∧ algebraic_KernelGFfnDownIdeal_ReferenceGFfnDownIdeal (hKernelGFfnDownIdeal := hKernelGFfnDownIdeal) (hReferenceGFfnDownIdeal := hReferenceGFfnDownIdeal)
    ∧ preserves_KernelSsdOut_KernelSsdOutIdeal
    ∧ algebraic_KernelSsdOutIdeal_ReferenceSsdOutIdeal (hKernelSsdOutIdeal := hKernelSsdOutIdeal) (hReferenceSsdOutIdeal := hReferenceSsdOutIdeal)
    ∧ preserves_KernelRetOut_KernelRetOutIdeal
    ∧ algebraic_KernelRetOutIdeal_ReferenceRetOutIdeal (hKernelRetOutIdeal := hKernelRetOutIdeal) (hReferenceRetOutIdeal := hReferenceRetOutIdeal)
    ∧ preserves_KernelDRetAct_KernelDRetActIdeal
    ∧ algebraic_KernelDRetActIdeal_ReferenceDRetActIdeal (hKernelDRetActIdeal := hKernelDRetActIdeal) (hReferenceDRetActIdeal := hReferenceDRetActIdeal)
    ∧ preserves_KernelGRetOut_KernelGRetOutIdeal
    ∧ algebraic_KernelGRetOutIdeal_ReferenceGRetOutIdeal (hKernelGRetOutIdeal := hKernelGRetOutIdeal) (hReferenceGRetOutIdeal := hReferenceGRetOutIdeal)
    ∧ preserves_KernelMixOut_KernelMixOutIdeal
    ∧ algebraic_KernelMixOutIdeal_ReferenceMixOutIdeal (hKernelMixOutIdeal := hKernelMixOutIdeal) (hReferenceMixOutIdeal := hReferenceMixOutIdeal)
    ∧ preserves_KernelDMerged_KernelDMergedIdeal
    ∧ algebraic_KernelDMergedIdeal_ReferenceDMergedIdeal (hKernelDMergedIdeal := hKernelDMergedIdeal) (hReferenceDMergedIdeal := hReferenceDMergedIdeal)
    ∧ preserves_KernelGOut_KernelGOutIdeal
    ∧ algebraic_KernelGOutIdeal_ReferenceGOutIdeal (hKernelGOutIdeal := hKernelGOutIdeal) (hReferenceGOutIdeal := hReferenceGOutIdeal)
    ∧ preserves_KernelProjDt_KernelProjDtIdeal
    ∧ algebraic_KernelProjDtIdeal_ReferenceProjDtIdeal (hKernelProjDtIdeal := hKernelProjDtIdeal) (hReferenceProjDtIdeal := hReferenceProjDtIdeal)
    ∧ preserves_KernelGInDt_KernelGInDtIdeal
    ∧ algebraic_KernelGInDtIdeal_ReferenceGInDtIdeal (hKernelGInDtIdeal := hKernelGInDtIdeal) (hReferenceGInDtIdeal := hReferenceGInDtIdeal)
    ∧ preserves_KernelDUDt_KernelDUDtIdeal
    ∧ algebraic_KernelDUDtIdeal_ReferenceDUDtIdeal (hKernelDUDtIdeal := hKernelDUDtIdeal) (hReferenceDUDtIdeal := hReferenceDUDtIdeal)
    ∧ preserves_KernelY_KernelYIdeal
    ∧ algebraic_KernelYIdeal_ReferenceYIdeal (hKernelYIdeal := hKernelYIdeal) (hReferenceYIdeal := hReferenceYIdeal)
    ∧ preserves_KernelSumIn_KernelSumInIdeal
    ∧ algebraic_KernelSumInIdeal_ReferenceSumInIdeal (hKernelSumInIdeal := hKernelSumInIdeal) (hReferenceSumInIdeal := hReferenceSumInIdeal)
    ∧ preserves_KernelSumUp_KernelSumUpIdeal
    ∧ algebraic_KernelSumUpIdeal_ReferenceSumUpIdeal (hKernelSumUpIdeal := hKernelSumUpIdeal) (hReferenceSumUpIdeal := hReferenceSumUpIdeal)
    ∧ preserves_KernelSumDown_KernelSumDownIdeal
    ∧ algebraic_KernelSumDownIdeal_ReferenceSumDownIdeal (hKernelSumDownIdeal := hKernelSumDownIdeal) (hReferenceSumDownIdeal := hReferenceSumDownIdeal)
    ∧ preserves_KernelSumSsd_KernelSumSsdIdeal
    ∧ algebraic_KernelSumSsdIdeal_ReferenceSumSsdIdeal (hKernelSumSsdIdeal := hKernelSumSsdIdeal) (hReferenceSumSsdIdeal := hReferenceSumSsdIdeal)
    ∧ preserves_KernelSumRet_KernelSumRetIdeal
    ∧ algebraic_KernelSumRetIdeal_ReferenceSumRetIdeal (hKernelSumRetIdeal := hKernelSumRetIdeal) (hReferenceSumRetIdeal := hReferenceSumRetIdeal)
    ∧ preserves_KernelSumSmall_KernelSumSmallIdeal
    ∧ algebraic_KernelSumSmallIdeal_ReferenceSumSmallIdeal (hKernelSumSmallIdeal := hKernelSumSmallIdeal) (hReferenceSumSmallIdeal := hReferenceSumSmallIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamUp_KernelAdamUpIdeal
    ∧ algebraic_KernelAdamUpIdeal_ReferenceAdamUpIdeal (hKernelAdamUpIdeal := hKernelAdamUpIdeal) (hReferenceAdamUpIdeal := hReferenceAdamUpIdeal)
    ∧ preserves_KernelAdamDown_KernelAdamDownIdeal
    ∧ algebraic_KernelAdamDownIdeal_ReferenceAdamDownIdeal (hKernelAdamDownIdeal := hKernelAdamDownIdeal) (hReferenceAdamDownIdeal := hReferenceAdamDownIdeal)
    ∧ preserves_KernelAdamSsd_KernelAdamSsdIdeal
    ∧ algebraic_KernelAdamSsdIdeal_ReferenceAdamSsdIdeal (hKernelAdamSsdIdeal := hKernelAdamSsdIdeal) (hReferenceAdamSsdIdeal := hReferenceAdamSsdIdeal)
    ∧ preserves_KernelAdamRet_KernelAdamRetIdeal
    ∧ algebraic_KernelAdamRetIdeal_ReferenceAdamRetIdeal (hKernelAdamRetIdeal := hKernelAdamRetIdeal) (hReferenceAdamRetIdeal := hReferenceAdamRetIdeal)
    ∧ preserves_KernelAdamSmall_KernelAdamSmallIdeal
    ∧ algebraic_KernelAdamSmallIdeal_ReferenceAdamSmallIdeal (hKernelAdamSmallIdeal := hKernelAdamSmallIdeal) (hReferenceAdamSmallIdeal := hReferenceAdamSmallIdeal)
-- ==== KernelDq.lean ====
abbrev S4224x512 : Shape := ⟨2, ![4224, 512]⟩
abbrev S4224x8192 : Shape := ⟨2, ![4224, 8192]⟩
abbrev S4224x1024 : Shape := ⟨2, ![4224, 1024]⟩
abbrev S4224x256 : Shape := ⟨2, ![4224, 256]⟩
abbrev S4224x128 : Shape := ⟨2, ![4224, 128]⟩
abbrev S256x128 : Shape := ⟨2, ![256, 128]⟩
abbrev S128x128 : Shape := ⟨2, ![128, 128]⟩
abbrev S128x1 : Shape := ⟨2, ![128, 1]⟩
abbrev S128x256 : Shape := ⟨2, ![128, 256]⟩

abbrev nBuf : Space → Nat
  | .hbm => 5
  | .vmem => 11
  | .smem => 0
  | _ => 0

abbrev bufTy : (tb : Table) → Fin (tcTables nBuf tb) → BufTy
  | .hbm, ⟨0, _⟩ => ⟨S4224x512, .f32⟩
  | .hbm, ⟨1, _⟩ => ⟨S4224x512, .f32⟩
  | .hbm, ⟨2, _⟩ => ⟨S4224x8192, .bf16⟩
  | .hbm, ⟨3, _⟩ => ⟨S4224x1024, .bf16⟩
  | .hbm, ⟨4, _⟩ => ⟨S4224x512, .f32⟩
  | .local _ .vmem, ⟨0, _⟩ => ⟨S4224x256, .bf16⟩
  | .local _ .vmem, ⟨1, _⟩ => ⟨S4224x256, .bf16⟩
  | .local _ .vmem, ⟨2, _⟩ => ⟨S4224x256, .bf16⟩
  | .local _ .vmem, ⟨3, _⟩ => ⟨S4224x256, .bf16⟩
  | .local _ .vmem, ⟨4, _⟩ => ⟨S4224x128, .f32⟩
  | .local _ .vmem, ⟨5, _⟩ => ⟨S4224x128, .f32⟩
  | .local _ .vmem, ⟨6, _⟩ => ⟨S4224x128, .f32⟩
  | .local _ .vmem, ⟨7, _⟩ => ⟨S4224x128, .f32⟩
  | .local _ .vmem, ⟨8, _⟩ => ⟨S4224x128, .f32⟩
  | .local _ .vmem, ⟨9, _⟩ => ⟨S256x128, .f32⟩
  | .local _ .vmem, ⟨10, _⟩ => ⟨S256x128, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def k0_mult1 : BitVec 32 :=
  let c0_i32_15 : BitVec 32 := 0#32
  let c128_i32 : BitVec 32 := 128#32
  let v48 : BitVec 32 := Scalar.muli c0_i32_15 c128_i32
  v48
def k0_off1 (c0_i32_15 : BitVec 32) : Fin 2 → Nat :=
  let c128_i32 : BitVec 32 := 128#32
  let v48 : BitVec 32 := Scalar.muli c0_i32_15 c128_i32
  let v49 : BitVec 32 := v48
  let v50 : Index := Scalar.indexCast v49
  let c0_16 : Index := 0#32
  ![v50.toNat, 0]
def k0_off2 (c0_i32_15 : BitVec 32) : Fin 2 → Nat :=
  let c128_i32 : BitVec 32 := 128#32
  let v48 : BitVec 32 := Scalar.muli c0_i32_15 c128_i32
  let v49 : BitVec 32 := v48
  let v54 : Index := Scalar.indexCast v49
  let c0_18 : Index := 0#32
  ![v54.toNat, 0]
def k0_mult2 : BitVec 32 :=
  let c32_i32 : BitVec 32 := 32#32
  let c0_i32_15 : BitVec 32 := 0#32
  let v88 : BitVec 32 := Scalar.subi c32_i32 c0_i32_15
  let c128_i32_31 : BitVec 32 := 128#32
  let v89 : BitVec 32 := Scalar.muli v88 c128_i32_31
  v89
def k0_off3 (c0_i32_15 : BitVec 32) : Fin 2 → Nat :=
  let c32_i32 : BitVec 32 := 32#32
  let v88 : BitVec 32 := Scalar.subi c32_i32 c0_i32_15
  let c128_i32_31 : BitVec 32 := 128#32
  let v89 : BitVec 32 := Scalar.muli v88 c128_i32_31
  let v90 : BitVec 32 := v89
  let v91 : Index := Scalar.indexCast v90
  let c0_32 : Index := 0#32
  ![v91.toNat, 0]
def k0_off4 (c0_i32_15 : BitVec 32) : Fin 2 → Nat :=
  let c32_i32 : BitVec 32 := 32#32
  let v88 : BitVec 32 := Scalar.subi c32_i32 c0_i32_15
  let c128_i32_31 : BitVec 32 := 128#32
  let v89 : BitVec 32 := Scalar.muli v88 c128_i32_31
  let v90 : BitVec 32 := v89
  let v95 : Index := Scalar.indexCast v90
  let c0_34 : Index := 0#32
  ![v95.toNat, 0]
def k0_mult3 : BitVec 32 :=
  let c1_i32_45 : BitVec 32 := 1#32
  let c128_i32_46 : BitVec 32 := 128#32
  let v124 : BitVec 32 := Scalar.muli c1_i32_45 c128_i32_46
  v124
def k0_mult4 : BitVec 32 :=
  let c32_i32_62 : BitVec 32 := 32#32
  let c1_i32_45 : BitVec 32 := 1#32
  let v164 : BitVec 32 := Scalar.subi c32_i32_62 c1_i32_45
  let c128_i32_63 : BitVec 32 := 128#32
  let v165 : BitVec 32 := Scalar.muli v164 c128_i32_63
  v165
def k0_mult5 : BitVec 32 :=
  let c2_i32_77 : BitVec 32 := 2#32
  let c128_i32_78 : BitVec 32 := 128#32
  let v200 : BitVec 32 := Scalar.muli c2_i32_77 c128_i32_78
  v200
def k0_mult6 : BitVec 32 :=
  let c32_i32_94 : BitVec 32 := 32#32
  let c2_i32_77 : BitVec 32 := 2#32
  let v240 : BitVec 32 := Scalar.subi c32_i32_94 c2_i32_77
  let c128_i32_95 : BitVec 32 := 128#32
  let v241 : BitVec 32 := Scalar.muli v240 c128_i32_95
  v241
def k0_mult7 : BitVec 32 :=
  let c3_i32 : BitVec 32 := 3#32
  let c128_i32_109 : BitVec 32 := 128#32
  let v276 : BitVec 32 := Scalar.muli c3_i32 c128_i32_109
  v276
def k0_mult8 : BitVec 32 :=
  let c32_i32_125 : BitVec 32 := 32#32
  let c3_i32 : BitVec 32 := 3#32
  let v316 : BitVec 32 := Scalar.subi c32_i32_125 c3_i32
  let c128_i32_126 : BitVec 32 := 128#32
  let v317 : BitVec 32 := Scalar.muli v316 c128_i32_126
  v317
def k0_mult9 : BitVec 32 :=
  let c4_i32 : BitVec 32 := 4#32
  let c128_i32_140 : BitVec 32 := 128#32
  let v352 : BitVec 32 := Scalar.muli c4_i32 c128_i32_140
  v352
def k0_mult10 : BitVec 32 :=
  let c32_i32_156 : BitVec 32 := 32#32
  let c4_i32 : BitVec 32 := 4#32
  let v392 : BitVec 32 := Scalar.subi c32_i32_156 c4_i32
  let c128_i32_157 : BitVec 32 := 128#32
  let v393 : BitVec 32 := Scalar.muli v392 c128_i32_157
  v393
def k0_mult11 : BitVec 32 :=
  let c5_i32 : BitVec 32 := 5#32
  let c128_i32_171 : BitVec 32 := 128#32
  let v428 : BitVec 32 := Scalar.muli c5_i32 c128_i32_171
  v428
def k0_mult12 : BitVec 32 :=
  let c32_i32_187 : BitVec 32 := 32#32
  let c5_i32 : BitVec 32 := 5#32
  let v468 : BitVec 32 := Scalar.subi c32_i32_187 c5_i32
  let c128_i32_188 : BitVec 32 := 128#32
  let v469 : BitVec 32 := Scalar.muli v468 c128_i32_188
  v469
def k0_mult13 : BitVec 32 :=
  let c6_i32 : BitVec 32 := 6#32
  let c128_i32_202 : BitVec 32 := 128#32
  let v504 : BitVec 32 := Scalar.muli c6_i32 c128_i32_202
  v504
def k0_mult14 : BitVec 32 :=
  let c32_i32_218 : BitVec 32 := 32#32
  let c6_i32 : BitVec 32 := 6#32
  let v544 : BitVec 32 := Scalar.subi c32_i32_218 c6_i32
  let c128_i32_219 : BitVec 32 := 128#32
  let v545 : BitVec 32 := Scalar.muli v544 c128_i32_219
  v545
def k0_mult15 : BitVec 32 :=
  let c7_i32 : BitVec 32 := 7#32
  let c128_i32_233 : BitVec 32 := 128#32
  let v580 : BitVec 32 := Scalar.muli c7_i32 c128_i32_233
  v580
def k0_mult16 : BitVec 32 :=
  let c32_i32_249 : BitVec 32 := 32#32
  let c7_i32 : BitVec 32 := 7#32
  let v620 : BitVec 32 := Scalar.subi c32_i32_249 c7_i32
  let c128_i32_250 : BitVec 32 := 128#32
  let v621 : BitVec 32 := Scalar.muli v620 c128_i32_250
  v621
def k0_mult17 : BitVec 32 :=
  let c8_i32 : BitVec 32 := 8#32
  let c128_i32_264 : BitVec 32 := 128#32
  let v656 : BitVec 32 := Scalar.muli c8_i32 c128_i32_264
  v656
def k0_mult18 : BitVec 32 :=
  let c32_i32_280 : BitVec 32 := 32#32
  let c8_i32 : BitVec 32 := 8#32
  let v696 : BitVec 32 := Scalar.subi c32_i32_280 c8_i32
  let c128_i32_281 : BitVec 32 := 128#32
  let v697 : BitVec 32 := Scalar.muli v696 c128_i32_281
  v697
def k0_mult19 : BitVec 32 :=
  let c9_i32 : BitVec 32 := 9#32
  let c128_i32_295 : BitVec 32 := 128#32
  let v732 : BitVec 32 := Scalar.muli c9_i32 c128_i32_295
  v732
def k0_mult20 : BitVec 32 :=
  let c32_i32_311 : BitVec 32 := 32#32
  let c9_i32 : BitVec 32 := 9#32
  let v772 : BitVec 32 := Scalar.subi c32_i32_311 c9_i32
  let c128_i32_312 : BitVec 32 := 128#32
  let v773 : BitVec 32 := Scalar.muli v772 c128_i32_312
  v773
def k0_mult21 : BitVec 32 :=
  let c10_i32 : BitVec 32 := 10#32
  let c128_i32_326 : BitVec 32 := 128#32
  let v808 : BitVec 32 := Scalar.muli c10_i32 c128_i32_326
  v808
def k0_mult22 : BitVec 32 :=
  let c32_i32_342 : BitVec 32 := 32#32
  let c10_i32 : BitVec 32 := 10#32
  let v848 : BitVec 32 := Scalar.subi c32_i32_342 c10_i32
  let c128_i32_343 : BitVec 32 := 128#32
  let v849 : BitVec 32 := Scalar.muli v848 c128_i32_343
  v849
def k0_mult23 : BitVec 32 :=
  let c11_i32 : BitVec 32 := 11#32
  let c128_i32_357 : BitVec 32 := 128#32
  let v884 : BitVec 32 := Scalar.muli c11_i32 c128_i32_357
  v884
def k0_mult24 : BitVec 32 :=
  let c32_i32_373 : BitVec 32 := 32#32
  let c11_i32 : BitVec 32 := 11#32
  let v924 : BitVec 32 := Scalar.subi c32_i32_373 c11_i32
  let c128_i32_374 : BitVec 32 := 128#32
  let v925 : BitVec 32 := Scalar.muli v924 c128_i32_374
  v925
def k0_mult25 : BitVec 32 :=
  let c12_i32 : BitVec 32 := 12#32
  let c128_i32_388 : BitVec 32 := 128#32
  let v960 : BitVec 32 := Scalar.muli c12_i32 c128_i32_388
  v960
def k0_mult26 : BitVec 32 :=
  let c32_i32_404 : BitVec 32 := 32#32
  let c12_i32 : BitVec 32 := 12#32
  let v1000 : BitVec 32 := Scalar.subi c32_i32_404 c12_i32
  let c128_i32_405 : BitVec 32 := 128#32
  let v1001 : BitVec 32 := Scalar.muli v1000 c128_i32_405
  v1001
def k0_mult27 : BitVec 32 :=
  let c13_i32 : BitVec 32 := 13#32
  let c128_i32_419 : BitVec 32 := 128#32
  let v1036 : BitVec 32 := Scalar.muli c13_i32 c128_i32_419
  v1036
def k0_mult28 : BitVec 32 :=
  let c32_i32_435 : BitVec 32 := 32#32
  let c13_i32 : BitVec 32 := 13#32
  let v1076 : BitVec 32 := Scalar.subi c32_i32_435 c13_i32
  let c128_i32_436 : BitVec 32 := 128#32
  let v1077 : BitVec 32 := Scalar.muli v1076 c128_i32_436
  v1077
def k0_mult29 : BitVec 32 :=
  let c14_i32 : BitVec 32 := 14#32
  let c128_i32_450 : BitVec 32 := 128#32
  let v1112 : BitVec 32 := Scalar.muli c14_i32 c128_i32_450
  v1112
def k0_mult30 : BitVec 32 :=
  let c32_i32_466 : BitVec 32 := 32#32
  let c14_i32 : BitVec 32 := 14#32
  let v1152 : BitVec 32 := Scalar.subi c32_i32_466 c14_i32
  let c128_i32_467 : BitVec 32 := 128#32
  let v1153 : BitVec 32 := Scalar.muli v1152 c128_i32_467
  v1153
def k0_mult31 : BitVec 32 :=
  let c15_i32 : BitVec 32 := 15#32
  let c128_i32_481 : BitVec 32 := 128#32
  let v1188 : BitVec 32 := Scalar.muli c15_i32 c128_i32_481
  v1188
def k0_mult32 : BitVec 32 :=
  let c32_i32_497 : BitVec 32 := 32#32
  let c15_i32 : BitVec 32 := 15#32
  let v1228 : BitVec 32 := Scalar.subi c32_i32_497 c15_i32
  let c128_i32_498 : BitVec 32 := 128#32
  let v1229 : BitVec 32 := Scalar.muli v1228 c128_i32_498
  v1229
def k0_mult33 : BitVec 32 :=
  let c16_i32 : BitVec 32 := 16#32
  let c128_i32_512 : BitVec 32 := 128#32
  let v1264 : BitVec 32 := Scalar.muli c16_i32 c128_i32_512
  v1264
def k0_mult34 : BitVec 32 :=
  let c32_i32_528 : BitVec 32 := 32#32
  let c16_i32 : BitVec 32 := 16#32
  let v1304 : BitVec 32 := Scalar.subi c32_i32_528 c16_i32
  let c128_i32_529 : BitVec 32 := 128#32
  let v1305 : BitVec 32 := Scalar.muli v1304 c128_i32_529
  v1305
def k0_mult35 : BitVec 32 :=
  let c17_i32 : BitVec 32 := 17#32
  let c128_i32_543 : BitVec 32 := 128#32
  let v1340 : BitVec 32 := Scalar.muli c17_i32 c128_i32_543
  v1340
def k0_mult36 : BitVec 32 :=
  let c32_i32_559 : BitVec 32 := 32#32
  let c17_i32 : BitVec 32 := 17#32
  let v1380 : BitVec 32 := Scalar.subi c32_i32_559 c17_i32
  let c128_i32_560 : BitVec 32 := 128#32
  let v1381 : BitVec 32 := Scalar.muli v1380 c128_i32_560
  v1381
def k0_mult37 : BitVec 32 :=
  let c18_i32 : BitVec 32 := 18#32
  let c128_i32_574 : BitVec 32 := 128#32
  let v1416 : BitVec 32 := Scalar.muli c18_i32 c128_i32_574
  v1416
def k0_mult38 : BitVec 32 :=
  let c32_i32_590 : BitVec 32 := 32#32
  let c18_i32 : BitVec 32 := 18#32
  let v1456 : BitVec 32 := Scalar.subi c32_i32_590 c18_i32
  let c128_i32_591 : BitVec 32 := 128#32
  let v1457 : BitVec 32 := Scalar.muli v1456 c128_i32_591
  v1457
def k0_mult39 : BitVec 32 :=
  let c19_i32 : BitVec 32 := 19#32
  let c128_i32_605 : BitVec 32 := 128#32
  let v1492 : BitVec 32 := Scalar.muli c19_i32 c128_i32_605
  v1492
def k0_mult40 : BitVec 32 :=
  let c32_i32_621 : BitVec 32 := 32#32
  let c19_i32 : BitVec 32 := 19#32
  let v1532 : BitVec 32 := Scalar.subi c32_i32_621 c19_i32
  let c128_i32_622 : BitVec 32 := 128#32
  let v1533 : BitVec 32 := Scalar.muli v1532 c128_i32_622
  v1533
def k0_mult41 : BitVec 32 :=
  let c20_i32 : BitVec 32 := 20#32
  let c128_i32_636 : BitVec 32 := 128#32
  let v1568 : BitVec 32 := Scalar.muli c20_i32 c128_i32_636
  v1568
def k0_mult42 : BitVec 32 :=
  let c32_i32_652 : BitVec 32 := 32#32
  let c20_i32 : BitVec 32 := 20#32
  let v1608 : BitVec 32 := Scalar.subi c32_i32_652 c20_i32
  let c128_i32_653 : BitVec 32 := 128#32
  let v1609 : BitVec 32 := Scalar.muli v1608 c128_i32_653
  v1609
def k0_mult43 : BitVec 32 :=
  let c21_i32 : BitVec 32 := 21#32
  let c128_i32_667 : BitVec 32 := 128#32
  let v1644 : BitVec 32 := Scalar.muli c21_i32 c128_i32_667
  v1644
def k0_mult44 : BitVec 32 :=
  let c32_i32_683 : BitVec 32 := 32#32
  let c21_i32 : BitVec 32 := 21#32
  let v1684 : BitVec 32 := Scalar.subi c32_i32_683 c21_i32
  let c128_i32_684 : BitVec 32 := 128#32
  let v1685 : BitVec 32 := Scalar.muli v1684 c128_i32_684
  v1685
def k0_mult45 : BitVec 32 :=
  let c22_i32 : BitVec 32 := 22#32
  let c128_i32_698 : BitVec 32 := 128#32
  let v1720 : BitVec 32 := Scalar.muli c22_i32 c128_i32_698
  v1720
def k0_mult46 : BitVec 32 :=
  let c32_i32_714 : BitVec 32 := 32#32
  let c22_i32 : BitVec 32 := 22#32
  let v1760 : BitVec 32 := Scalar.subi c32_i32_714 c22_i32
  let c128_i32_715 : BitVec 32 := 128#32
  let v1761 : BitVec 32 := Scalar.muli v1760 c128_i32_715
  v1761
def k0_mult47 : BitVec 32 :=
  let c23_i32 : BitVec 32 := 23#32
  let c128_i32_729 : BitVec 32 := 128#32
  let v1796 : BitVec 32 := Scalar.muli c23_i32 c128_i32_729
  v1796
def k0_mult48 : BitVec 32 :=
  let c32_i32_745 : BitVec 32 := 32#32
  let c23_i32 : BitVec 32 := 23#32
  let v1836 : BitVec 32 := Scalar.subi c32_i32_745 c23_i32
  let c128_i32_746 : BitVec 32 := 128#32
  let v1837 : BitVec 32 := Scalar.muli v1836 c128_i32_746
  v1837
def k0_mult49 : BitVec 32 :=
  let c24_i32 : BitVec 32 := 24#32
  let c128_i32_760 : BitVec 32 := 128#32
  let v1872 : BitVec 32 := Scalar.muli c24_i32 c128_i32_760
  v1872
def k0_mult50 : BitVec 32 :=
  let c32_i32_776 : BitVec 32 := 32#32
  let c24_i32 : BitVec 32 := 24#32
  let v1912 : BitVec 32 := Scalar.subi c32_i32_776 c24_i32
  let c128_i32_777 : BitVec 32 := 128#32
  let v1913 : BitVec 32 := Scalar.muli v1912 c128_i32_777
  v1913
def k0_mult51 : BitVec 32 :=
  let c25_i32 : BitVec 32 := 25#32
  let c128_i32_791 : BitVec 32 := 128#32
  let v1948 : BitVec 32 := Scalar.muli c25_i32 c128_i32_791
  v1948
def k0_mult52 : BitVec 32 :=
  let c32_i32_807 : BitVec 32 := 32#32
  let c25_i32 : BitVec 32 := 25#32
  let v1988 : BitVec 32 := Scalar.subi c32_i32_807 c25_i32
  let c128_i32_808 : BitVec 32 := 128#32
  let v1989 : BitVec 32 := Scalar.muli v1988 c128_i32_808
  v1989
def k0_mult53 : BitVec 32 :=
  let c26_i32 : BitVec 32 := 26#32
  let c128_i32_822 : BitVec 32 := 128#32
  let v2024 : BitVec 32 := Scalar.muli c26_i32 c128_i32_822
  v2024
def k0_mult54 : BitVec 32 :=
  let c32_i32_838 : BitVec 32 := 32#32
  let c26_i32 : BitVec 32 := 26#32
  let v2064 : BitVec 32 := Scalar.subi c32_i32_838 c26_i32
  let c128_i32_839 : BitVec 32 := 128#32
  let v2065 : BitVec 32 := Scalar.muli v2064 c128_i32_839
  v2065
def k0_mult55 : BitVec 32 :=
  let c27_i32 : BitVec 32 := 27#32
  let c128_i32_853 : BitVec 32 := 128#32
  let v2100 : BitVec 32 := Scalar.muli c27_i32 c128_i32_853
  v2100
def k0_mult56 : BitVec 32 :=
  let c32_i32_869 : BitVec 32 := 32#32
  let c27_i32 : BitVec 32 := 27#32
  let v2140 : BitVec 32 := Scalar.subi c32_i32_869 c27_i32
  let c128_i32_870 : BitVec 32 := 128#32
  let v2141 : BitVec 32 := Scalar.muli v2140 c128_i32_870
  v2141
def k0_mult57 : BitVec 32 :=
  let c28_i32 : BitVec 32 := 28#32
  let c128_i32_884 : BitVec 32 := 128#32
  let v2176 : BitVec 32 := Scalar.muli c28_i32 c128_i32_884
  v2176
def k0_mult58 : BitVec 32 :=
  let c32_i32_900 : BitVec 32 := 32#32
  let c28_i32 : BitVec 32 := 28#32
  let v2216 : BitVec 32 := Scalar.subi c32_i32_900 c28_i32
  let c128_i32_901 : BitVec 32 := 128#32
  let v2217 : BitVec 32 := Scalar.muli v2216 c128_i32_901
  v2217
def k0_mult59 : BitVec 32 :=
  let c29_i32 : BitVec 32 := 29#32
  let c128_i32_915 : BitVec 32 := 128#32
  let v2252 : BitVec 32 := Scalar.muli c29_i32 c128_i32_915
  v2252
def k0_mult60 : BitVec 32 :=
  let c32_i32_931 : BitVec 32 := 32#32
  let c29_i32 : BitVec 32 := 29#32
  let v2292 : BitVec 32 := Scalar.subi c32_i32_931 c29_i32
  let c128_i32_932 : BitVec 32 := 128#32
  let v2293 : BitVec 32 := Scalar.muli v2292 c128_i32_932
  v2293
def k0_mult61 : BitVec 32 :=
  let c30_i32 : BitVec 32 := 30#32
  let c128_i32_946 : BitVec 32 := 128#32
  let v2328 : BitVec 32 := Scalar.muli c30_i32 c128_i32_946
  v2328
def k0_mult62 : BitVec 32 :=
  let c32_i32_962 : BitVec 32 := 32#32
  let c30_i32 : BitVec 32 := 30#32
  let v2368 : BitVec 32 := Scalar.subi c32_i32_962 c30_i32
  let c128_i32_963 : BitVec 32 := 128#32
  let v2369 : BitVec 32 := Scalar.muli v2368 c128_i32_963
  v2369
def k0_mult63 : BitVec 32 :=
  let c31_i32 : BitVec 32 := 31#32
  let c128_i32_977 : BitVec 32 := 128#32
  let v2404 : BitVec 32 := Scalar.muli c31_i32 c128_i32_977
  v2404
def k0_mult64 : BitVec 32 :=
  let c32_i32_993 : BitVec 32 := 32#32
  let c31_i32 : BitVec 32 := 31#32
  let v2444 : BitVec 32 := Scalar.subi c32_i32_993 c31_i32
  let c128_i32_994 : BitVec 32 := 128#32
  let v2445 : BitVec 32 := Scalar.muli v2444 c128_i32_994
  v2445
def k0_mult65 : BitVec 32 :=
  let c32_i32_1008 : BitVec 32 := 32#32
  let c128_i32_1009 : BitVec 32 := 128#32
  let v2480 : BitVec 32 := Scalar.muli c32_i32_1008 c128_i32_1009
  v2480
def k0_mult66 : BitVec 32 :=
  let c32_i32_1025 : BitVec 32 := 32#32
  let c32_i32_1008 : BitVec 32 := 32#32
  let v2520 : BitVec 32 := Scalar.subi c32_i32_1025 c32_i32_1008
  let c128_i32_1026 : BitVec 32 := 128#32
  let v2521 : BitVec 32 := Scalar.muli v2520 c128_i32_1026
  v2521
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S4224x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4224x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4224x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4224x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelDqIdeal.lean ====
variable {F : FTy → Type} [FloatOps F] [Named F]
def κ : String → Option EReal := fun
  | "log_gamma_0" => some ((Real.log (31 / 32) : ℝ) : EReal)
  | "log_gamma_1" => some ((Real.log (63 / 64) : ℝ) : EReal)
  | "log_gamma_2" => some ((Real.log (127 / 128) : ℝ) : EReal)
  | "log_gamma_3" => some ((Real.log (255 / 256) : ℝ) : EReal)
  | _ => none
-- ==== ReferenceDqIdeal.lean ====
abbrev S4224x512 : Shape := ⟨2, ![4224, 512]⟩
abbrev S4224x8192 : Shape := ⟨2, ![4224, 8192]⟩
abbrev S4224x1024 : Shape := ⟨2, ![4224, 1024]⟩
abbrev S1x4224x4x128 : Shape := ⟨4, ![1, 4224, 4, 128]⟩
abbrev S1x4224x4x256 : Shape := ⟨4, ![1, 4224, 4, 256]⟩
abbrev S4 : Shape := ⟨1, ![4]⟩
abbrev S_ : Shape := ⟨0, ![]⟩
abbrev S1x33x128x4x128 : Shape := ⟨5, ![1, 33, 128, 4, 128]⟩
abbrev S1x33x128x4x256 : Shape := ⟨5, ![1, 33, 128, 4, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x33x4x128x128 : Shape := ⟨5, ![1, 33, 4, 128, 128]⟩
abbrev S1x1x4x128x128 : Shape := ⟨5, ![1, 1, 4, 128, 128]⟩
abbrev S1x33x4x256x128 : Shape := ⟨5, ![1, 33, 4, 256, 128]⟩
abbrev S2x4224x4x128 : Shape := ⟨4, ![2, 4224, 4, 128]⟩
abbrev S2x33x128x4x128 : Shape := ⟨5, ![2, 33, 128, 4, 128]⟩
abbrev S2x4224x4x256 : Shape := ⟨4, ![2, 4224, 4, 256]⟩
abbrev S2x33x128x4x256 : Shape := ⟨5, ![2, 33, 128, 4, 256]⟩
abbrev S1x4 : Shape := ⟨2, ![1, 4]⟩
abbrev S128x4 : Shape := ⟨2, ![128, 4]⟩
abbrev S1x1x128x4x1 : Shape := ⟨5, ![1, 1, 128, 4, 1]⟩
abbrev S2x33x4x128x256 : Shape := ⟨5, ![2, 33, 4, 128, 256]⟩
abbrev S1x1x4x1x1 : Shape := ⟨5, ![1, 1, 4, 1, 1]⟩
abbrev S2x33x4x1x1 : Shape := ⟨5, ![2, 33, 4, 1, 1]⟩
abbrev S33x2x4x128x256 : Shape := ⟨5, ![33, 2, 4, 128, 256]⟩
abbrev S33x2x4x1x1 : Shape := ⟨5, ![33, 2, 4, 1, 1]⟩
abbrev S1x2x4x128x256 : Shape := ⟨5, ![1, 2, 4, 128, 256]⟩
abbrev S2x4x128x256 : Shape := ⟨4, ![2, 4, 128, 256]⟩
abbrev S1x2x4x1x1 : Shape := ⟨5, ![1, 2, 4, 1, 1]⟩
abbrev S2x4x1x1 : Shape := ⟨4, ![2, 4, 1, 1]⟩
abbrev S2x33x4x256x128 : Shape := ⟨5, ![2, 33, 4, 256, 128]⟩
abbrev S2x33x4x128x128 : Shape := ⟨5, ![2, 33, 4, 128, 128]⟩

abbrev nBuf : Space → Nat
  | .hbm => 161
  | .vmem => 0
  | .smem => 0
  | _ => 0

abbrev hbmTy0_0 (i : Nat) : BufTy := match i % 128 with
  | 0 => ⟨S4224x512, .f32⟩
  | 1 => ⟨S4224x512, .f32⟩
  | 2 => ⟨S4224x8192, .bf16⟩
  | 3 => ⟨S4224x1024, .bf16⟩
  | 4 => ⟨S1x4224x4x128, .f32⟩
  | 5 => ⟨S4224x1024, .bf16⟩
  | 6 => ⟨S4224x1024, .f32⟩
  | 7 => ⟨S1x4224x4x256, .f32⟩
  | 8 => ⟨S1x4224x4x128, .f32⟩
  | 9 => ⟨S4, .f32⟩
  | 10 => ⟨S_, .f32⟩
  | 11 => ⟨S4, .f32⟩
  | 12 => ⟨S4, .f32⟩
  | 13 => ⟨S_, .f32⟩
  | 14 => ⟨S4, .f32⟩
  | 15 => ⟨S4, .f32⟩
  | 16 => ⟨S_, .f32⟩
  | 17 => ⟨S4, .f32⟩
  | 18 => ⟨S4, .f32⟩
  | 19 => ⟨S4, .f32⟩
  | 20 => ⟨S1x33x128x4x128, .f32⟩
  | 21 => ⟨S1x33x128x4x128, .f32⟩
  | 22 => ⟨S1x33x128x4x256, .f32⟩
  | 23 => ⟨S128, .f32⟩
  | 24 => ⟨S128x1, .f32⟩
  | 25 => ⟨S1x128, .f32⟩
  | 26 => ⟨S128x128, .f32⟩
  | 27 => ⟨S128x128, .f32⟩
  | 28 => ⟨S128x128, .f32⟩
  | 29 => ⟨S128x128, .f32⟩
  | 30 => ⟨S4x1x1, .f32⟩
  | 31 => ⟨S1x128x128, .f32⟩
  | 32 => ⟨S4x128x128, .f32⟩
  | 33 => ⟨S4x128x128, .f32⟩
  | 34 => ⟨S4x128x128, .f32⟩
  | 35 => ⟨S4x128x128, .f32⟩
  | 36 => ⟨S1x33x4x128x128, .f32⟩
  | 37 => ⟨S1x1x4x128x128, .f32⟩
  | 38 => ⟨S1x33x4x128x128, .f32⟩
  | 39 => ⟨S1x33x4x128x128, .f32⟩
  | 40 => ⟨S1x33x4x256x128, .f32⟩
  | 41 => ⟨S1x33x128x4x256, .f32⟩
  | 42 => ⟨S1x4224x4x128, .f32⟩
  | 43 => ⟨S2x4224x4x128, .f32⟩
  | 44 => ⟨S2x33x128x4x128, .f32⟩
  | 45 => ⟨S1x4224x4x128, .f32⟩
  | 46 => ⟨S2x4224x4x128, .f32⟩
  | 47 => ⟨S2x33x128x4x128, .f32⟩
  | 48 => ⟨S1x4224x4x256, .f32⟩
  | 49 => ⟨S2x4224x4x256, .f32⟩
  | 50 => ⟨S2x33x128x4x256, .f32⟩
  | 51 => ⟨S128, .f32⟩
  | 52 => ⟨S_, .f32⟩
  | 53 => ⟨S128, .f32⟩
  | 54 => ⟨S128, .f32⟩
  | 55 => ⟨S128x1, .f32⟩
  | 56 => ⟨S1x4, .f32⟩
  | 57 => ⟨S128x4, .f32⟩
  | 58 => ⟨S128x4, .f32⟩
  | 59 => ⟨S128x4, .f32⟩
  | 60 => ⟨S128x4, .f32⟩
  | 61 => ⟨S_, .f32⟩
  | 62 => ⟨S128, .f32⟩
  | 63 => ⟨S128, .f32⟩
  | 64 => ⟨S128x1, .f32⟩
  | 65 => ⟨S1x4, .f32⟩
  | 66 => ⟨S128x4, .f32⟩
  | 67 => ⟨S128x4, .f32⟩
  | 68 => ⟨S128x4, .f32⟩
  | 69 => ⟨S128x4, .f32⟩
  | 70 => ⟨S1x1x128x4x1, .f32⟩
  | 71 => ⟨S2x33x128x4x128, .f32⟩
  | 72 => ⟨S2x33x128x4x128, .f32⟩
  | 73 => ⟨S2x33x4x128x256, .f32⟩
  | 74 => ⟨S_, .f32⟩
  | 75 => ⟨S4, .f32⟩
  | 76 => ⟨S4, .f32⟩
  | 77 => ⟨S4, .f32⟩
  | 78 => ⟨S1x1x4x1x1, .f32⟩
  | 79 => ⟨S2x33x4x1x1, .f32⟩
  | 80 => ⟨S33x2x4x128x256, .f32⟩
  | 81 => ⟨S33x2x4x1x1, .f32⟩
  | 82 => ⟨S1x2x4x128x256, .f32⟩
  | 83 => ⟨S2x4x128x256, .f32⟩
  | 84 => ⟨S_, .f32⟩
  | 85 => ⟨S2x4x128x256, .f32⟩
  | 86 => ⟨S_, .f32⟩
  | 87 => ⟨S33x2x4x128x256, .f32⟩
  | 88 => ⟨S_, .i32⟩
  | 89 => ⟨S33x2x4x128x256, .f32⟩
  | 90 => ⟨S33x2x4x1x1, .f32⟩
  | 91 => ⟨S_, .i32⟩
  | 92 => ⟨S2x4x128x256, .f32⟩
  | 93 => ⟨S33x2x4x128x256, .f32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S1x2x4x128x256, .f32⟩
  | 101 => ⟨S2x4x128x256, .f32⟩
  | 102 => ⟨S_, .i32⟩
  | 103 => ⟨S_, .i32⟩
  | 104 => ⟨S_, .i32⟩
  | 105 => ⟨S_, .i32⟩
  | 106 => ⟨S1x2x4x1x1, .f32⟩
  | 107 => ⟨S2x4x1x1, .f32⟩
  | 108 => ⟨S2x4x128x256, .f32⟩
  | 109 => ⟨S2x4x128x256, .f32⟩
  | 110 => ⟨S2x4x128x256, .f32⟩
  | 111 => ⟨S1x2x4x128x256, .f32⟩
  | 112 => ⟨S_, .i32⟩
  | 113 => ⟨S_, .i32⟩
  | 114 => ⟨S_, .i32⟩
  | 115 => ⟨S_, .i32⟩
  | 116 => ⟨S33x2x4x128x256, .f32⟩
  | 117 => ⟨S_, .i32⟩
  | 118 => ⟨S_, .i32⟩
  | 119 => ⟨S2x33x4x128x256, .f32⟩
  | 120 => ⟨S1x1x128x4x1, .f32⟩
  | 121 => ⟨S2x33x128x4x128, .f32⟩
  | 122 => ⟨S2x33x128x4x128, .f32⟩
  | 123 => ⟨S2x33x4x256x128, .f32⟩
  | 124 => ⟨S2x33x128x4x256, .f32⟩
  | 125 => ⟨S2x4224x4x256, .f32⟩
  | 126 => ⟨S1x4224x4x256, .f32⟩
  | 127 => ⟨S1x4224x4x256, .f32⟩
  | _ => ⟨S4224x512, .f32⟩

abbrev hbmTy0_1 (i : Nat) : BufTy := match i % 128 with
  | 0 => ⟨S1x4224x4x256, .f32⟩
  | 1 => ⟨S1x4224x4x256, .f32⟩
  | 2 => ⟨S1x4224x4x256, .f32⟩
  | 3 => ⟨S1x4224x4x256, .f32⟩
  | 4 => ⟨S4224x1024, .f32⟩
  | 5 => ⟨S1x4224x4x256, .f32⟩
  | 6 => ⟨S1x4224x4x256, .f32⟩
  | 7 => ⟨S_, .f32⟩
  | 8 => ⟨S2x4224x4x256, .f32⟩
  | 9 => ⟨S_, .f32⟩
  | 10 => ⟨S2x4224x4x256, .f32⟩
  | 11 => ⟨S2x4224x4x256, .f32⟩
  | 12 => ⟨S1x33x128x4x256, .f32⟩
  | 13 => ⟨S2x33x128x4x256, .f32⟩
  | 14 => ⟨S2x33x4x256x128, .f32⟩
  | 15 => ⟨S2x33x4x128x128, .f32⟩
  | 16 => ⟨S2x33x128x4x128, .f32⟩
  | 17 => ⟨S2x33x128x4x128, .f32⟩
  | 18 => ⟨S2x33x128x4x128, .f32⟩
  | 19 => ⟨S2x4224x4x128, .f32⟩
  | 20 => ⟨S1x4224x4x128, .f32⟩
  | 21 => ⟨S1x4224x4x128, .f32⟩
  | 22 => ⟨S1x4224x4x128, .f32⟩
  | 23 => ⟨S1x4224x4x128, .f32⟩
  | 24 => ⟨S1x33x4x256x128, .f32⟩
  | 25 => ⟨S1x33x4x128x128, .f32⟩
  | 26 => ⟨S1x33x4x128x128, .f32⟩
  | 27 => ⟨S1x33x4x128x128, .f32⟩
  | 28 => ⟨S1x33x4x128x128, .f32⟩
  | 29 => ⟨S1x33x128x4x128, .f32⟩
  | 30 => ⟨S1x4224x4x128, .f32⟩
  | 31 => ⟨S1x4224x4x128, .f32⟩
  | 32 => ⟨S4224x512, .f32⟩
  | _ => ⟨S4224x512, .f32⟩

abbrev hbmTy (i : Nat) : BufTy := match i / 128 with
  | 0 => hbmTy0_0 i
  | 1 => hbmTy0_1 i
  | _ => ⟨S4224x512, .f32⟩

abbrev bufTy : (tb : Table) → Fin (tcTables nBuf tb) → BufTy
  | .hbm, ⟨i, _⟩ => hbmTy i
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_cst_2 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_3 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_cst_4 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_cst_5 : Ref sig .tc := ⟨.hbm, 84, rfl⟩
abbrev main_v74 : Ref sig .tc := ⟨.hbm, 85, rfl⟩
abbrev main_cst_6 : Ref sig .tc := ⟨.hbm, 86, rfl⟩
abbrev main_v75 : Ref sig .tc := ⟨.hbm, 87, rfl⟩
abbrev main_c : Ref sig .tc := ⟨.hbm, 88, rfl⟩
abbrev main_v76_0 : Ref sig .tc := ⟨.hbm, 89, rfl⟩
abbrev main_v76_1 : Ref sig .tc := ⟨.hbm, 90, rfl⟩
abbrev main_v76_2 : Ref sig .tc := ⟨.hbm, 91, rfl⟩
abbrev main_v76_3 : Ref sig .tc := ⟨.hbm, 92, rfl⟩
abbrev main_v76_4 : Ref sig .tc := ⟨.hbm, 93, rfl⟩
abbrev main_while0c_c_13 : Ref sig .tc := ⟨.hbm, 94, rfl⟩
abbrev main_while0c_v117 : Ref sig .tc := ⟨.hbm, 95, rfl⟩
abbrev main_while0b_call3_c : Ref sig .tc := ⟨.hbm, 96, rfl⟩
abbrev main_while0b_call3_c_0 : Ref sig .tc := ⟨.hbm, 97, rfl⟩
abbrev main_while0b_call3_c_1 : Ref sig .tc := ⟨.hbm, 98, rfl⟩
abbrev main_while0b_call3_c_2 : Ref sig .tc := ⟨.hbm, 99, rfl⟩
abbrev main_while0b_call3_v0 : Ref sig .tc := ⟨.hbm, 100, rfl⟩
abbrev main_while0b_v117 : Ref sig .tc := ⟨.hbm, 101, rfl⟩
abbrev main_while0b_call4_c : Ref sig .tc := ⟨.hbm, 102, rfl⟩
abbrev main_while0b_call4_c_0 : Ref sig .tc := ⟨.hbm, 103, rfl⟩
abbrev main_while0b_call4_c_1 : Ref sig .tc := ⟨.hbm, 104, rfl⟩
abbrev main_while0b_call4_c_2 : Ref sig .tc := ⟨.hbm, 105, rfl⟩
abbrev main_while0b_call4_v0 : Ref sig .tc := ⟨.hbm, 106, rfl⟩
abbrev main_while0b_v118 : Ref sig .tc := ⟨.hbm, 107, rfl⟩
abbrev main_while0b_v119 : Ref sig .tc := ⟨.hbm, 108, rfl⟩
abbrev main_while0b_v120 : Ref sig .tc := ⟨.hbm, 109, rfl⟩
abbrev main_while0b_v121 : Ref sig .tc := ⟨.hbm, 110, rfl⟩
abbrev main_while0b_call5_v0 : Ref sig .tc := ⟨.hbm, 111, rfl⟩
abbrev main_while0b_call5_c : Ref sig .tc := ⟨.hbm, 112, rfl⟩
abbrev main_while0b_call5_c_0 : Ref sig .tc := ⟨.hbm, 113, rfl⟩
abbrev main_while0b_call5_c_1 : Ref sig .tc := ⟨.hbm, 114, rfl⟩
abbrev main_while0b_call5_c_2 : Ref sig .tc := ⟨.hbm, 115, rfl⟩
abbrev main_while0b_v122 : Ref sig .tc := ⟨.hbm, 116, rfl⟩
abbrev main_while0b_c_13 : Ref sig .tc := ⟨.hbm, 117, rfl⟩
abbrev main_while0b_v123 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_7 : Ref sig .tc := ⟨.hbm, 135, rfl⟩
abbrev main_v93 : Ref sig .tc := ⟨.hbm, 136, rfl⟩
abbrev main_cst_8 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩

abbrev nD : Nat := 1
abbrev τ : Topo := Topo.v7x

variable {F : FTy → Type} [FloatOps F]

abbrev main_while0_count : Scf.Loop 32 := ⟨0#32, 33#32, 1#32⟩
-- ==== KernelDk.lean ====
abbrev S4224x512 : Shape := ⟨2, ![4224, 512]⟩
abbrev S4224x8192 : Shape := ⟨2, ![4224, 8192]⟩
abbrev S4224x1024 : Shape := ⟨2, ![4224, 1024]⟩
abbrev S4224x256 : Shape := ⟨2, ![4224, 256]⟩
abbrev S4224x128 : Shape := ⟨2, ![4224, 128]⟩
abbrev S256x128 : Shape := ⟨2, ![256, 128]⟩
abbrev S128x128 : Shape := ⟨2, ![128, 128]⟩
abbrev S128x1 : Shape := ⟨2, ![128, 1]⟩
abbrev S128x256 : Shape := ⟨2, ![128, 256]⟩

abbrev nBuf : Space → Nat
  | .hbm => 5
  | .vmem => 11
  | .smem => 0
  | _ => 0

abbrev bufTy : (tb : Table) → Fin (tcTables nBuf tb) → BufTy
  | .hbm, ⟨0, _⟩ => ⟨S4224x512, .f32⟩
  | .hbm, ⟨1, _⟩ => ⟨S4224x512, .f32⟩
  | .hbm, ⟨2, _⟩ => ⟨S4224x8192, .bf16⟩
  | .hbm, ⟨3, _⟩ => ⟨S4224x1024, .bf16⟩
  | .hbm, ⟨4, _⟩ => ⟨S4224x512, .f32⟩
  | .local _ .vmem, ⟨0, _⟩ => ⟨S4224x256, .bf16⟩
  | .local _ .vmem, ⟨1, _⟩ => ⟨S4224x256, .bf16⟩
  | .local _ .vmem, ⟨2, _⟩ => ⟨S4224x256, .bf16⟩
  | .local _ .vmem, ⟨3, _⟩ => ⟨S4224x256, .bf16⟩
  | .local _ .vmem, ⟨4, _⟩ => ⟨S4224x128, .f32⟩
  | .local _ .vmem, ⟨5, _⟩ => ⟨S4224x128, .f32⟩
  | .local _ .vmem, ⟨6, _⟩ => ⟨S4224x128, .f32⟩
  | .local _ .vmem, ⟨7, _⟩ => ⟨S4224x128, .f32⟩
  | .local _ .vmem, ⟨8, _⟩ => ⟨S4224x128, .f32⟩
  | .local _ .vmem, ⟨9, _⟩ => ⟨S256x128, .f32⟩
  | .local _ .vmem, ⟨10, _⟩ => ⟨S256x128, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def k0_mult1 : BitVec 32 :=
  let c0_i32_15 : BitVec 32 := 0#32
  let c128_i32 : BitVec 32 := 128#32
  let v48 : BitVec 32 := Scalar.muli c0_i32_15 c128_i32
  v48
def k0_off1 (c0_i32_15 : BitVec 32) : Fin 2 → Nat :=
  let c128_i32 : BitVec 32 := 128#32
  let v48 : BitVec 32 := Scalar.muli c0_i32_15 c128_i32
  let v49 : BitVec 32 := v48
  let v50 : Index := Scalar.indexCast v49
  let c0_16 : Index := 0#32
  ![v50.toNat, 0]
def k0_off2 (c0_i32_15 : BitVec 32) : Fin 2 → Nat :=
  let c128_i32 : BitVec 32 := 128#32
  let v48 : BitVec 32 := Scalar.muli c0_i32_15 c128_i32
  let v49 : BitVec 32 := v48
  let v54 : Index := Scalar.indexCast v49
  let c0_18 : Index := 0#32
  ![v54.toNat, 0]
def k0_mult2 : BitVec 32 :=
  let c32_i32 : BitVec 32 := 32#32
  let c0_i32_15 : BitVec 32 := 0#32
  let v88 : BitVec 32 := Scalar.subi c32_i32 c0_i32_15
  let c128_i32_31 : BitVec 32 := 128#32
  let v89 : BitVec 32 := Scalar.muli v88 c128_i32_31
  v89
def k0_off3 (c0_i32_15 : BitVec 32) : Fin 2 → Nat :=
  let c32_i32 : BitVec 32 := 32#32
  let v88 : BitVec 32 := Scalar.subi c32_i32 c0_i32_15
  let c128_i32_31 : BitVec 32 := 128#32
  let v89 : BitVec 32 := Scalar.muli v88 c128_i32_31
  let v90 : BitVec 32 := v89
  let v91 : Index := Scalar.indexCast v90
  let c0_32 : Index := 0#32
  ![v91.toNat, 0]
def k0_off4 (c0_i32_15 : BitVec 32) : Fin 2 → Nat :=
  let c32_i32 : BitVec 32 := 32#32
  let v88 : BitVec 32 := Scalar.subi c32_i32 c0_i32_15
  let c128_i32_31 : BitVec 32 := 128#32
  let v89 : BitVec 32 := Scalar.muli v88 c128_i32_31
  let v90 : BitVec 32 := v89
  let v95 : Index := Scalar.indexCast v90
  let c0_34 : Index := 0#32
  ![v95.toNat, 0]
def k0_mult3 : BitVec 32 :=
  let c1_i32_45 : BitVec 32 := 1#32
  let c128_i32_46 : BitVec 32 := 128#32
  let v124 : BitVec 32 := Scalar.muli c1_i32_45 c128_i32_46
  v124
def k0_mult4 : BitVec 32 :=
  let c32_i32_62 : BitVec 32 := 32#32
  let c1_i32_45 : BitVec 32 := 1#32
  let v164 : BitVec 32 := Scalar.subi c32_i32_62 c1_i32_45
  let c128_i32_63 : BitVec 32 := 128#32
  let v165 : BitVec 32 := Scalar.muli v164 c128_i32_63
  v165
def k0_mult5 : BitVec 32 :=
  let c2_i32_77 : BitVec 32 := 2#32
  let c128_i32_78 : BitVec 32 := 128#32
  let v200 : BitVec 32 := Scalar.muli c2_i32_77 c128_i32_78
  v200
def k0_mult6 : BitVec 32 :=
  let c32_i32_94 : BitVec 32 := 32#32
  let c2_i32_77 : BitVec 32 := 2#32
  let v240 : BitVec 32 := Scalar.subi c32_i32_94 c2_i32_77
  let c128_i32_95 : BitVec 32 := 128#32
  let v241 : BitVec 32 := Scalar.muli v240 c128_i32_95
  v241
def k0_mult7 : BitVec 32 :=
  let c3_i32 : BitVec 32 := 3#32
  let c128_i32_109 : BitVec 32 := 128#32
  let v276 : BitVec 32 := Scalar.muli c3_i32 c128_i32_109
  v276
def k0_mult8 : BitVec 32 :=
  let c32_i32_125 : BitVec 32 := 32#32
  let c3_i32 : BitVec 32 := 3#32
  let v316 : BitVec 32 := Scalar.subi c32_i32_125 c3_i32
  let c128_i32_126 : BitVec 32 := 128#32
  let v317 : BitVec 32 := Scalar.muli v316 c128_i32_126
  v317
def k0_mult9 : BitVec 32 :=
  let c4_i32 : BitVec 32 := 4#32
  let c128_i32_140 : BitVec 32 := 128#32
  let v352 : BitVec 32 := Scalar.muli c4_i32 c128_i32_140
  v352
def k0_mult10 : BitVec 32 :=
  let c32_i32_156 : BitVec 32 := 32#32
  let c4_i32 : BitVec 32 := 4#32
  let v392 : BitVec 32 := Scalar.subi c32_i32_156 c4_i32
  let c128_i32_157 : BitVec 32 := 128#32
  let v393 : BitVec 32 := Scalar.muli v392 c128_i32_157
  v393
def k0_mult11 : BitVec 32 :=
  let c5_i32 : BitVec 32 := 5#32
  let c128_i32_171 : BitVec 32 := 128#32
  let v428 : BitVec 32 := Scalar.muli c5_i32 c128_i32_171
  v428
def k0_mult12 : BitVec 32 :=
  let c32_i32_187 : BitVec 32 := 32#32
  let c5_i32 : BitVec 32 := 5#32
  let v468 : BitVec 32 := Scalar.subi c32_i32_187 c5_i32
  let c128_i32_188 : BitVec 32 := 128#32
  let v469 : BitVec 32 := Scalar.muli v468 c128_i32_188
  v469
def k0_mult13 : BitVec 32 :=
  let c6_i32 : BitVec 32 := 6#32
  let c128_i32_202 : BitVec 32 := 128#32
  let v504 : BitVec 32 := Scalar.muli c6_i32 c128_i32_202
  v504
def k0_mult14 : BitVec 32 :=
  let c32_i32_218 : BitVec 32 := 32#32
  let c6_i32 : BitVec 32 := 6#32
  let v544 : BitVec 32 := Scalar.subi c32_i32_218 c6_i32
  let c128_i32_219 : BitVec 32 := 128#32
  let v545 : BitVec 32 := Scalar.muli v544 c128_i32_219
  v545
def k0_mult15 : BitVec 32 :=
  let c7_i32 : BitVec 32 := 7#32
  let c128_i32_233 : BitVec 32 := 128#32
  let v580 : BitVec 32 := Scalar.muli c7_i32 c128_i32_233
  v580
def k0_mult16 : BitVec 32 :=
  let c32_i32_249 : BitVec 32 := 32#32
  let c7_i32 : BitVec 32 := 7#32
  let v620 : BitVec 32 := Scalar.subi c32_i32_249 c7_i32
  let c128_i32_250 : BitVec 32 := 128#32
  let v621 : BitVec 32 := Scalar.muli v620 c128_i32_250
  v621
def k0_mult17 : BitVec 32 :=
  let c8_i32 : BitVec 32 := 8#32
  let c128_i32_264 : BitVec 32 := 128#32
  let v656 : BitVec 32 := Scalar.muli c8_i32 c128_i32_264
  v656
def k0_mult18 : BitVec 32 :=
  let c32_i32_280 : BitVec 32 := 32#32
  let c8_i32 : BitVec 32 := 8#32
  let v696 : BitVec 32 := Scalar.subi c32_i32_280 c8_i32
  let c128_i32_281 : BitVec 32 := 128#32
  let v697 : BitVec 32 := Scalar.muli v696 c128_i32_281
  v697
def k0_mult19 : BitVec 32 :=
  let c9_i32 : BitVec 32 := 9#32
  let c128_i32_295 : BitVec 32 := 128#32
  let v732 : BitVec 32 := Scalar.muli c9_i32 c128_i32_295
  v732
def k0_mult20 : BitVec 32 :=
  let c32_i32_311 : BitVec 32 := 32#32
  let c9_i32 : BitVec 32 := 9#32
  let v772 : BitVec 32 := Scalar.subi c32_i32_311 c9_i32
  let c128_i32_312 : BitVec 32 := 128#32
  let v773 : BitVec 32 := Scalar.muli v772 c128_i32_312
  v773
def k0_mult21 : BitVec 32 :=
  let c10_i32 : BitVec 32 := 10#32
  let c128_i32_326 : BitVec 32 := 128#32
  let v808 : BitVec 32 := Scalar.muli c10_i32 c128_i32_326
  v808
def k0_mult22 : BitVec 32 :=
  let c32_i32_342 : BitVec 32 := 32#32
  let c10_i32 : BitVec 32 := 10#32
  let v848 : BitVec 32 := Scalar.subi c32_i32_342 c10_i32
  let c128_i32_343 : BitVec 32 := 128#32
  let v849 : BitVec 32 := Scalar.muli v848 c128_i32_343
  v849
def k0_mult23 : BitVec 32 :=
  let c11_i32 : BitVec 32 := 11#32
  let c128_i32_357 : BitVec 32 := 128#32
  let v884 : BitVec 32 := Scalar.muli c11_i32 c128_i32_357
  v884
def k0_mult24 : BitVec 32 :=
  let c32_i32_373 : BitVec 32 := 32#32
  let c11_i32 : BitVec 32 := 11#32
  let v924 : BitVec 32 := Scalar.subi c32_i32_373 c11_i32
  let c128_i32_374 : BitVec 32 := 128#32
  let v925 : BitVec 32 := Scalar.muli v924 c128_i32_374
  v925
def k0_mult25 : BitVec 32 :=
  let c12_i32 : BitVec 32 := 12#32
  let c128_i32_388 : BitVec 32 := 128#32
  let v960 : BitVec 32 := Scalar.muli c12_i32 c128_i32_388
  v960
def k0_mult26 : BitVec 32 :=
  let c32_i32_404 : BitVec 32 := 32#32
  let c12_i32 : BitVec 32 := 12#32
  let v1000 : BitVec 32 := Scalar.subi c32_i32_404 c12_i32
  let c128_i32_405 : BitVec 32 := 128#32
  let v1001 : BitVec 32 := Scalar.muli v1000 c128_i32_405
  v1001
def k0_mult27 : BitVec 32 :=
  let c13_i32 : BitVec 32 := 13#32
  let c128_i32_419 : BitVec 32 := 128#32
  let v1036 : BitVec 32 := Scalar.muli c13_i32 c128_i32_419
  v1036
def k0_mult28 : BitVec 32 :=
  let c32_i32_435 : BitVec 32 := 32#32
  let c13_i32 : BitVec 32 := 13#32
  let v1076 : BitVec 32 := Scalar.subi c32_i32_435 c13_i32
  let c128_i32_436 : BitVec 32 := 128#32
  let v1077 : BitVec 32 := Scalar.muli v1076 c128_i32_436
  v1077
def k0_mult29 : BitVec 32 :=
  let c14_i32 : BitVec 32 := 14#32
  let c128_i32_450 : BitVec 32 := 128#32
  let v1112 : BitVec 32 := Scalar.muli c14_i32 c128_i32_450
  v1112
def k0_mult30 : BitVec 32 :=
  let c32_i32_466 : BitVec 32 := 32#32
  let c14_i32 : BitVec 32 := 14#32
  let v1152 : BitVec 32 := Scalar.subi c32_i32_466 c14_i32
  let c128_i32_467 : BitVec 32 := 128#32
  let v1153 : BitVec 32 := Scalar.muli v1152 c128_i32_467
  v1153
def k0_mult31 : BitVec 32 :=
  let c15_i32 : BitVec 32 := 15#32
  let c128_i32_481 : BitVec 32 := 128#32
  let v1188 : BitVec 32 := Scalar.muli c15_i32 c128_i32_481
  v1188
def k0_mult32 : BitVec 32 :=
  let c32_i32_497 : BitVec 32 := 32#32
  let c15_i32 : BitVec 32 := 15#32
  let v1228 : BitVec 32 := Scalar.subi c32_i32_497 c15_i32
  let c128_i32_498 : BitVec 32 := 128#32
  let v1229 : BitVec 32 := Scalar.muli v1228 c128_i32_498
  v1229
def k0_mult33 : BitVec 32 :=
  let c16_i32 : BitVec 32 := 16#32
  let c128_i32_512 : BitVec 32 := 128#32
  let v1264 : BitVec 32 := Scalar.muli c16_i32 c128_i32_512
  v1264
def k0_mult34 : BitVec 32 :=
  let c32_i32_528 : BitVec 32 := 32#32
  let c16_i32 : BitVec 32 := 16#32
  let v1304 : BitVec 32 := Scalar.subi c32_i32_528 c16_i32
  let c128_i32_529 : BitVec 32 := 128#32
  let v1305 : BitVec 32 := Scalar.muli v1304 c128_i32_529
  v1305
def k0_mult35 : BitVec 32 :=
  let c17_i32 : BitVec 32 := 17#32
  let c128_i32_543 : BitVec 32 := 128#32
  let v1340 : BitVec 32 := Scalar.muli c17_i32 c128_i32_543
  v1340
def k0_mult36 : BitVec 32 :=
  let c32_i32_559 : BitVec 32 := 32#32
  let c17_i32 : BitVec 32 := 17#32
  let v1380 : BitVec 32 := Scalar.subi c32_i32_559 c17_i32
  let c128_i32_560 : BitVec 32 := 128#32
  let v1381 : BitVec 32 := Scalar.muli v1380 c128_i32_560
  v1381
def k0_mult37 : BitVec 32 :=
  let c18_i32 : BitVec 32 := 18#32
  let c128_i32_574 : BitVec 32 := 128#32
  let v1416 : BitVec 32 := Scalar.muli c18_i32 c128_i32_574
  v1416
def k0_mult38 : BitVec 32 :=
  let c32_i32_590 : BitVec 32 := 32#32
  let c18_i32 : BitVec 32 := 18#32
  let v1456 : BitVec 32 := Scalar.subi c32_i32_590 c18_i32
  let c128_i32_591 : BitVec 32 := 128#32
  let v1457 : BitVec 32 := Scalar.muli v1456 c128_i32_591
  v1457
def k0_mult39 : BitVec 32 :=
  let c19_i32 : BitVec 32 := 19#32
  let c128_i32_605 : BitVec 32 := 128#32
  let v1492 : BitVec 32 := Scalar.muli c19_i32 c128_i32_605
  v1492
def k0_mult40 : BitVec 32 :=
  let c32_i32_621 : BitVec 32 := 32#32
  let c19_i32 : BitVec 32 := 19#32
  let v1532 : BitVec 32 := Scalar.subi c32_i32_621 c19_i32
  let c128_i32_622 : BitVec 32 := 128#32
  let v1533 : BitVec 32 := Scalar.muli v1532 c128_i32_622
  v1533
def k0_mult41 : BitVec 32 :=
  let c20_i32 : BitVec 32 := 20#32
  let c128_i32_636 : BitVec 32 := 128#32
  let v1568 : BitVec 32 := Scalar.muli c20_i32 c128_i32_636
  v1568
def k0_mult42 : BitVec 32 :=
  let c32_i32_652 : BitVec 32 := 32#32
  let c20_i32 : BitVec 32 := 20#32
  let v1608 : BitVec 32 := Scalar.subi c32_i32_652 c20_i32
  let c128_i32_653 : BitVec 32 := 128#32
  let v1609 : BitVec 32 := Scalar.muli v1608 c128_i32_653
  v1609
def k0_mult43 : BitVec 32 :=
  let c21_i32 : BitVec 32 := 21#32
  let c128_i32_667 : BitVec 32 := 128#32
  let v1644 : BitVec 32 := Scalar.muli c21_i32 c128_i32_667
  v1644
def k0_mult44 : BitVec 32 :=
  let c32_i32_683 : BitVec 32 := 32#32
  let c21_i32 : BitVec 32 := 21#32
  let v1684 : BitVec 32 := Scalar.subi c32_i32_683 c21_i32
  let c128_i32_684 : BitVec 32 := 128#32
  let v1685 : BitVec 32 := Scalar.muli v1684 c128_i32_684
  v1685
def k0_mult45 : BitVec 32 :=
  let c22_i32 : BitVec 32 := 22#32
  let c128_i32_698 : BitVec 32 := 128#32
  let v1720 : BitVec 32 := Scalar.muli c22_i32 c128_i32_698
  v1720
def k0_mult46 : BitVec 32 :=
  let c32_i32_714 : BitVec 32 := 32#32
  let c22_i32 : BitVec 32 := 22#32
  let v1760 : BitVec 32 := Scalar.subi c32_i32_714 c22_i32
  let c128_i32_715 : BitVec 32 := 128#32
  let v1761 : BitVec 32 := Scalar.muli v1760 c128_i32_715
  v1761
def k0_mult47 : BitVec 32 :=
  let c23_i32 : BitVec 32 := 23#32
  let c128_i32_729 : BitVec 32 := 128#32
  let v1796 : BitVec 32 := Scalar.muli c23_i32 c128_i32_729
  v1796
def k0_mult48 : BitVec 32 :=
  let c32_i32_745 : BitVec 32 := 32#32
  let c23_i32 : BitVec 32 := 23#32
  let v1836 : BitVec 32 := Scalar.subi c32_i32_745 c23_i32
  let c128_i32_746 : BitVec 32 := 128#32
  let v1837 : BitVec 32 := Scalar.muli v1836 c128_i32_746
  v1837
def k0_mult49 : BitVec 32 :=
  let c24_i32 : BitVec 32 := 24#32
  let c128_i32_760 : BitVec 32 := 128#32
  let v1872 : BitVec 32 := Scalar.muli c24_i32 c128_i32_760
  v1872
def k0_mult50 : BitVec 32 :=
  let c32_i32_776 : BitVec 32 := 32#32
  let c24_i32 : BitVec 32 := 24#32
  let v1912 : BitVec 32 := Scalar.subi c32_i32_776 c24_i32
  let c128_i32_777 : BitVec 32 := 128#32
  let v1913 : BitVec 32 := Scalar.muli v1912 c128_i32_777
  v1913
def k0_mult51 : BitVec 32 :=
  let c25_i32 : BitVec 32 := 25#32
  let c128_i32_791 : BitVec 32 := 128#32
  let v1948 : BitVec 32 := Scalar.muli c25_i32 c128_i32_791
  v1948
def k0_mult52 : BitVec 32 :=
  let c32_i32_807 : BitVec 32 := 32#32
  let c25_i32 : BitVec 32 := 25#32
  let v1988 : BitVec 32 := Scalar.subi c32_i32_807 c25_i32
  let c128_i32_808 : BitVec 32 := 128#32
  let v1989 : BitVec 32 := Scalar.muli v1988 c128_i32_808
  v1989
def k0_mult53 : BitVec 32 :=
  let c26_i32 : BitVec 32 := 26#32
  let c128_i32_822 : BitVec 32 := 128#32
  let v2024 : BitVec 32 := Scalar.muli c26_i32 c128_i32_822
  v2024
def k0_mult54 : BitVec 32 :=
  let c32_i32_838 : BitVec 32 := 32#32
  let c26_i32 : BitVec 32 := 26#32
  let v2064 : BitVec 32 := Scalar.subi c32_i32_838 c26_i32
  let c128_i32_839 : BitVec 32 := 128#32
  let v2065 : BitVec 32 := Scalar.muli v2064 c128_i32_839
  v2065
def k0_mult55 : BitVec 32 :=
  let c27_i32 : BitVec 32 := 27#32
  let c128_i32_853 : BitVec 32 := 128#32
  let v2100 : BitVec 32 := Scalar.muli c27_i32 c128_i32_853
  v2100
def k0_mult56 : BitVec 32 :=
  let c32_i32_869 : BitVec 32 := 32#32
  let c27_i32 : BitVec 32 := 27#32
  let v2140 : BitVec 32 := Scalar.subi c32_i32_869 c27_i32
  let c128_i32_870 : BitVec 32 := 128#32
  let v2141 : BitVec 32 := Scalar.muli v2140 c128_i32_870
  v2141
def k0_mult57 : BitVec 32 :=
  let c28_i32 : BitVec 32 := 28#32
  let c128_i32_884 : BitVec 32 := 128#32
  let v2176 : BitVec 32 := Scalar.muli c28_i32 c128_i32_884
  v2176
def k0_mult58 : BitVec 32 :=
  let c32_i32_900 : BitVec 32 := 32#32
  let c28_i32 : BitVec 32 := 28#32
  let v2216 : BitVec 32 := Scalar.subi c32_i32_900 c28_i32
  let c128_i32_901 : BitVec 32 := 128#32
  let v2217 : BitVec 32 := Scalar.muli v2216 c128_i32_901
  v2217
def k0_mult59 : BitVec 32 :=
  let c29_i32 : BitVec 32 := 29#32
  let c128_i32_915 : BitVec 32 := 128#32
  let v2252 : BitVec 32 := Scalar.muli c29_i32 c128_i32_915
  v2252
def k0_mult60 : BitVec 32 :=
  let c32_i32_931 : BitVec 32 := 32#32
  let c29_i32 : BitVec 32 := 29#32
  let v2292 : BitVec 32 := Scalar.subi c32_i32_931 c29_i32
  let c128_i32_932 : BitVec 32 := 128#32
  let v2293 : BitVec 32 := Scalar.muli v2292 c128_i32_932
  v2293
def k0_mult61 : BitVec 32 :=
  let c30_i32 : BitVec 32 := 30#32
  let c128_i32_946 : BitVec 32 := 128#32
  let v2328 : BitVec 32 := Scalar.muli c30_i32 c128_i32_946
  v2328
def k0_mult62 : BitVec 32 :=
  let c32_i32_962 : BitVec 32 := 32#32
  let c30_i32 : BitVec 32 := 30#32
  let v2368 : BitVec 32 := Scalar.subi c32_i32_962 c30_i32
  let c128_i32_963 : BitVec 32 := 128#32
  let v2369 : BitVec 32 := Scalar.muli v2368 c128_i32_963
  v2369
def k0_mult63 : BitVec 32 :=
  let c31_i32 : BitVec 32 := 31#32
  let c128_i32_977 : BitVec 32 := 128#32
  let v2404 : BitVec 32 := Scalar.muli c31_i32 c128_i32_977
  v2404
def k0_mult64 : BitVec 32 :=
  let c32_i32_993 : BitVec 32 := 32#32
  let c31_i32 : BitVec 32 := 31#32
  let v2444 : BitVec 32 := Scalar.subi c32_i32_993 c31_i32
  let c128_i32_994 : BitVec 32 := 128#32
  let v2445 : BitVec 32 := Scalar.muli v2444 c128_i32_994
  v2445
def k0_mult65 : BitVec 32 :=
  let c32_i32_1008 : BitVec 32 := 32#32
  let c128_i32_1009 : BitVec 32 := 128#32
  let v2480 : BitVec 32 := Scalar.muli c32_i32_1008 c128_i32_1009
  v2480
def k0_mult66 : BitVec 32 :=
  let c32_i32_1025 : BitVec 32 := 32#32
  let c32_i32_1008 : BitVec 32 := 32#32
  let v2520 : BitVec 32 := Scalar.subi c32_i32_1025 c32_i32_1008
  let c128_i32_1026 : BitVec 32 := 128#32
  let v2521 : BitVec 32 := Scalar.muli v2520 c128_i32_1026
  v2521
def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S4224x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4224x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4224x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4224x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelDkIdeal.lean ====
variable {F : FTy → Type} [FloatOps F] [Named F]
def κ : String → Option EReal := fun
  | "log_gamma_0" => some ((Real.log (31 / 32) : ℝ) : EReal)
  | "log_gamma_1" => some ((Real.log (63 / 64) : ℝ) : EReal)
  | "log_gamma_2" => some ((Real.log (127 / 128) : ℝ) : EReal)
  | "log_gamma_3" => some ((Real.log (255 / 256) : ℝ) : EReal)
  | _ => none
-- ==== ReferenceDkIdeal.lean ====
abbrev S4224x512 : Shape := ⟨2, ![4224, 512]⟩
abbrev S4224x8192 : Shape := ⟨2, ![4224, 8192]⟩
abbrev S4224x1024 : Shape := ⟨2, ![4224, 1024]⟩
abbrev S1x4224x4x128 : Shape := ⟨4, ![1, 4224, 4, 128]⟩
abbrev S1x4224x4x256 : Shape := ⟨4, ![1, 4224, 4, 256]⟩
abbrev S4 : Shape := ⟨1, ![4]⟩
abbrev S_ : Shape := ⟨0, ![]⟩
abbrev S1x33x128x4x128 : Shape := ⟨5, ![1, 33, 128, 4, 128]⟩
abbrev S1x33x128x4x256 : Shape := ⟨5, ![1, 33, 128, 4, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x1x4x128x128 : Shape := ⟨5, ![1, 1, 4, 128, 128]⟩
abbrev S2x4224x4x128 : Shape := ⟨4, ![2, 4224, 4, 128]⟩
abbrev S2x33x128x4x128 : Shape := ⟨5, ![2, 33, 128, 4, 128]⟩
abbrev S2x4224x4x256 : Shape := ⟨4, ![2, 4224, 4, 256]⟩
abbrev S2x33x128x4x256 : Shape := ⟨5, ![2, 33, 128, 4, 256]⟩
abbrev S1x4 : Shape := ⟨2, ![1, 4]⟩
abbrev S128x4 : Shape := ⟨2, ![128, 4]⟩
abbrev S1x1x128x4x1 : Shape := ⟨5, ![1, 1, 128, 4, 1]⟩
abbrev S1x1x4x1x1 : Shape := ⟨5, ![1, 1, 4, 1, 1]⟩
abbrev S2x33x4x1x1 : Shape := ⟨5, ![2, 33, 4, 1, 1]⟩
abbrev S33x2x4x1x1 : Shape := ⟨5, ![33, 2, 4, 1, 1]⟩
abbrev S2x4x128x256 : Shape := ⟨4, ![2, 4, 128, 256]⟩
abbrev S2x33x4x256x128 : Shape := ⟨5, ![2, 33, 4, 256, 128]⟩
abbrev S2x33x4x128x256 : Shape := ⟨5, ![2, 33, 4, 128, 256]⟩
abbrev S33x2x4x128x256 : Shape := ⟨5, ![33, 2, 4, 128, 256]⟩
abbrev S1x2x4x128x256 : Shape := ⟨5, ![1, 2, 4, 128, 256]⟩
abbrev S1x2x4x1x1 : Shape := ⟨5, ![1, 2, 4, 1, 1]⟩
abbrev S2x4x1x1 : Shape := ⟨4, ![2, 4, 1, 1]⟩
abbrev S2x33x4x128x128 : Shape := ⟨5, ![2, 33, 4, 128, 128]⟩
abbrev S1x33x4x256x128 : Shape := ⟨5, ![1, 33, 4, 256, 128]⟩
abbrev S1x33x4x128x128 : Shape := ⟨5, ![1, 33, 4, 128, 128]⟩

abbrev nBuf : Space → Nat
  | .hbm => 146
  | .vmem => 0
  | .smem => 0
  | _ => 0

abbrev hbmTy0_0 (i : Nat) : BufTy := match i % 128 with
  | 0 => ⟨S4224x512, .f32⟩
  | 1 => ⟨S4224x512, .f32⟩
  | 2 => ⟨S4224x8192, .bf16⟩
  | 3 => ⟨S4224x1024, .bf16⟩
  | 4 => ⟨S1x4224x4x128, .f32⟩
  | 5 => ⟨S4224x1024, .bf16⟩
  | 6 => ⟨S4224x1024, .f32⟩
  | 7 => ⟨S1x4224x4x256, .f32⟩
  | 8 => ⟨S1x4224x4x128, .f32⟩
  | 9 => ⟨S4, .f32⟩
  | 10 => ⟨S_, .f32⟩
  | 11 => ⟨S4, .f32⟩
  | 12 => ⟨S4, .f32⟩
  | 13 => ⟨S_, .f32⟩
  | 14 => ⟨S4, .f32⟩
  | 15 => ⟨S4, .f32⟩
  | 16 => ⟨S_, .f32⟩
  | 17 => ⟨S4, .f32⟩
  | 18 => ⟨S4, .f32⟩
  | 19 => ⟨S4, .f32⟩
  | 20 => ⟨S1x33x128x4x128, .f32⟩
  | 21 => ⟨S1x33x128x4x256, .f32⟩
  | 22 => ⟨S128, .f32⟩
  | 23 => ⟨S128x1, .f32⟩
  | 24 => ⟨S1x128, .f32⟩
  | 25 => ⟨S128x128, .f32⟩
  | 26 => ⟨S128x128, .f32⟩
  | 27 => ⟨S128x128, .f32⟩
  | 28 => ⟨S128x128, .f32⟩
  | 29 => ⟨S4x1x1, .f32⟩
  | 30 => ⟨S1x128x128, .f32⟩
  | 31 => ⟨S4x128x128, .f32⟩
  | 32 => ⟨S4x128x128, .f32⟩
  | 33 => ⟨S4x128x128, .f32⟩
  | 34 => ⟨S4x128x128, .f32⟩
  | 35 => ⟨S1x1x4x128x128, .f32⟩
  | 36 => ⟨S1x4224x4x128, .f32⟩
  | 37 => ⟨S2x4224x4x128, .f32⟩
  | 38 => ⟨S2x33x128x4x128, .f32⟩
  | 39 => ⟨S1x4224x4x256, .f32⟩
  | 40 => ⟨S2x4224x4x256, .f32⟩
  | 41 => ⟨S2x33x128x4x256, .f32⟩
  | 42 => ⟨S128, .f32⟩
  | 43 => ⟨S_, .f32⟩
  | 44 => ⟨S128, .f32⟩
  | 45 => ⟨S128, .f32⟩
  | 46 => ⟨S128x1, .f32⟩
  | 47 => ⟨S1x4, .f32⟩
  | 48 => ⟨S128x4, .f32⟩
  | 49 => ⟨S128x4, .f32⟩
  | 50 => ⟨S128x4, .f32⟩
  | 51 => ⟨S128x4, .f32⟩
  | 52 => ⟨S_, .f32⟩
  | 53 => ⟨S128, .f32⟩
  | 54 => ⟨S128, .f32⟩
  | 55 => ⟨S128x1, .f32⟩
  | 56 => ⟨S1x4, .f32⟩
  | 57 => ⟨S128x4, .f32⟩
  | 58 => ⟨S128x4, .f32⟩
  | 59 => ⟨S128x4, .f32⟩
  | 60 => ⟨S128x4, .f32⟩
  | 61 => ⟨S1x1x128x4x1, .f32⟩
  | 62 => ⟨S_, .f32⟩
  | 63 => ⟨S4, .f32⟩
  | 64 => ⟨S4, .f32⟩
  | 65 => ⟨S4, .f32⟩
  | 66 => ⟨S1x1x4x1x1, .f32⟩
  | 67 => ⟨S2x33x4x1x1, .f32⟩
  | 68 => ⟨S33x2x4x1x1, .f32⟩
  | 69 => ⟨S_, .f32⟩
  | 70 => ⟨S2x4x128x256, .f32⟩
  | 71 => ⟨S1x1x128x4x1, .f32⟩
  | 72 => ⟨S2x33x128x4x128, .f32⟩
  | 73 => ⟨S2x33x128x4x128, .f32⟩
  | 74 => ⟨S4224x1024, .f32⟩
  | 75 => ⟨S1x4224x4x256, .f32⟩
  | 76 => ⟨S1x4224x4x256, .f32⟩
  | 77 => ⟨S_, .f32⟩
  | 78 => ⟨S2x4224x4x256, .f32⟩
  | 79 => ⟨S_, .f32⟩
  | 80 => ⟨S2x4224x4x256, .f32⟩
  | 81 => ⟨S2x4224x4x256, .f32⟩
  | 82 => ⟨S1x33x128x4x256, .f32⟩
  | 83 => ⟨S2x33x128x4x256, .f32⟩
  | 84 => ⟨S2x33x4x256x128, .f32⟩
  | 85 => ⟨S2x33x4x256x128, .f32⟩
  | 86 => ⟨S2x33x4x128x256, .f32⟩
  | 87 => ⟨S33x2x4x128x256, .f32⟩
  | 88 => ⟨S_, .f32⟩
  | 89 => ⟨S2x4x128x256, .f32⟩
  | 90 => ⟨S_, .f32⟩
  | 91 => ⟨S33x2x4x128x256, .f32⟩
  | 92 => ⟨S_, .i32⟩
  | 93 => ⟨S33x2x4x128x256, .f32⟩
  | 94 => ⟨S33x2x4x1x1, .f32⟩
  | 95 => ⟨S_, .i32⟩
  | 96 => ⟨S2x4x128x256, .f32⟩
  | 97 => ⟨S33x2x4x128x256, .f32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S1x2x4x128x256, .f32⟩
  | 109 => ⟨S2x4x128x256, .f32⟩
  | 110 => ⟨S_, .i32⟩
  | 111 => ⟨S_, .i32⟩
  | 112 => ⟨S_, .i32⟩
  | 113 => ⟨S_, .i32⟩
  | 114 => ⟨S1x2x4x1x1, .f32⟩
  | 115 => ⟨S2x4x1x1, .f32⟩
  | 116 => ⟨S2x4x128x256, .f32⟩
  | 117 => ⟨S2x4x128x256, .f32⟩
  | 118 => ⟨S2x4x128x256, .f32⟩
  | 119 => ⟨S1x2x4x128x256, .f32⟩
  | 120 => ⟨S_, .i32⟩
  | 121 => ⟨S_, .i32⟩
  | 122 => ⟨S_, .i32⟩
  | 123 => ⟨S_, .i32⟩
  | 124 => ⟨S33x2x4x128x256, .f32⟩
  | 125 => ⟨S_, .i32⟩
  | 126 => ⟨S_, .i32⟩
  | 127 => ⟨S2x33x4x128x256, .f32⟩
  | _ => ⟨S4224x512, .f32⟩

abbrev hbmTy0_1 (i : Nat) : BufTy := match i % 128 with
  | 0 => ⟨S2x33x4x128x128, .f32⟩
  | 1 => ⟨S2x33x128x4x128, .f32⟩
  | 2 => ⟨S2x33x128x4x128, .f32⟩
  | 3 => ⟨S2x33x128x4x128, .f32⟩
  | 4 => ⟨S2x4224x4x128, .f32⟩
  | 5 => ⟨S1x4224x4x128, .f32⟩
  | 6 => ⟨S1x4224x4x128, .f32⟩
  | 7 => ⟨S1x4224x4x128, .f32⟩
  | 8 => ⟨S1x4224x4x128, .f32⟩
  | 9 => ⟨S1x33x4x256x128, .f32⟩
  | 10 => ⟨S1x33x4x128x128, .f32⟩
  | 11 => ⟨S1x33x4x128x128, .f32⟩
  | 12 => ⟨S1x33x4x128x128, .f32⟩
  | 13 => ⟨S1x33x4x128x128, .f32⟩
  | 14 => ⟨S1x33x128x4x128, .f32⟩
  | 15 => ⟨S1x4224x4x128, .f32⟩
  | 16 => ⟨S1x4224x4x128, .f32⟩
  | 17 => ⟨S4224x512, .f32⟩
  | _ => ⟨S4224x512, .f32⟩

abbrev hbmTy (i : Nat) : BufTy := match i / 128 with
  | 0 => hbmTy0_0 i
  | 1 => hbmTy0_1 i
  | _ => ⟨S4224x512, .f32⟩

abbrev bufTy : (tb : Table) → Fin (tcTables nBuf tb) → BufTy
  | .hbm, ⟨i, _⟩ => hbmTy i
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_3 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_4 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_5 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_cst_6 : Ref sig .tc := ⟨.hbm, 77, rfl⟩
abbrev main_v66 : Ref sig .tc := ⟨.hbm, 78, rfl⟩
abbrev main_cst_7 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_8 : Ref sig .tc := ⟨.hbm, 88, rfl⟩
abbrev main_v75 : Ref sig .tc := ⟨.hbm, 89, rfl⟩
abbrev main_cst_9 : Ref sig .tc := ⟨.hbm, 90, rfl⟩
abbrev main_v76 : Ref sig .tc := ⟨.hbm, 91, rfl⟩
abbrev main_c : Ref sig .tc := ⟨.hbm, 92, rfl⟩
abbrev main_v77_0 : Ref sig .tc := ⟨.hbm, 93, rfl⟩
abbrev main_v77_1 : Ref sig .tc := ⟨.hbm, 94, rfl⟩
abbrev main_v77_2 : Ref sig .tc := ⟨.hbm, 95, rfl⟩
abbrev main_v77_3 : Ref sig .tc := ⟨.hbm, 96, rfl⟩
abbrev main_v77_4 : Ref sig .tc := ⟨.hbm, 97, rfl⟩
abbrev main_while0c_c_14 : Ref sig .tc := ⟨.hbm, 98, rfl⟩
abbrev main_while0c_v97 : Ref sig .tc := ⟨.hbm, 99, rfl⟩
abbrev main_while0b_c_14 : Ref sig .tc := ⟨.hbm, 100, rfl⟩
abbrev main_while0b_v97 : Ref sig .tc := ⟨.hbm, 101, rfl⟩
abbrev main_while0b_c_15 : Ref sig .tc := ⟨.hbm, 102, rfl⟩
abbrev main_while0b_v98 : Ref sig .tc := ⟨.hbm, 103, rfl⟩
abbrev main_while0b_call5_c : Ref sig .tc := ⟨.hbm, 104, rfl⟩
abbrev main_while0b_call5_c_0 : Ref sig .tc := ⟨.hbm, 105, rfl⟩
abbrev main_while0b_call5_c_1 : Ref sig .tc := ⟨.hbm, 106, rfl⟩
abbrev main_while0b_call5_c_2 : Ref sig .tc := ⟨.hbm, 107, rfl⟩
abbrev main_while0b_call5_v0 : Ref sig .tc := ⟨.hbm, 108, rfl⟩
abbrev main_while0b_v99 : Ref sig .tc := ⟨.hbm, 109, rfl⟩
abbrev main_while0b_call6_c : Ref sig .tc := ⟨.hbm, 110, rfl⟩
abbrev main_while0b_call6_c_0 : Ref sig .tc := ⟨.hbm, 111, rfl⟩
abbrev main_while0b_call6_c_1 : Ref sig .tc := ⟨.hbm, 112, rfl⟩
abbrev main_while0b_call6_c_2 : Ref sig .tc := ⟨.hbm, 113, rfl⟩
abbrev main_while0b_call6_v0 : Ref sig .tc := ⟨.hbm, 114, rfl⟩
abbrev main_while0b_v100 : Ref sig .tc := ⟨.hbm, 115, rfl⟩
abbrev main_while0b_v101 : Ref sig .tc := ⟨.hbm, 116, rfl⟩
abbrev main_while0b_v102 : Ref sig .tc := ⟨.hbm, 117, rfl⟩
abbrev main_while0b_v103 : Ref sig .tc := ⟨.hbm, 118, rfl⟩
abbrev main_while0b_call7_v0 : Ref sig .tc := ⟨.hbm, 119, rfl⟩
abbrev main_while0b_call7_c : Ref sig .tc := ⟨.hbm, 120, rfl⟩
abbrev main_while0b_call7_c_0 : Ref sig .tc := ⟨.hbm, 121, rfl⟩
abbrev main_while0b_call7_c_1 : Ref sig .tc := ⟨.hbm, 122, rfl⟩
abbrev main_while0b_call7_c_2 : Ref sig .tc := ⟨.hbm, 123, rfl⟩
abbrev main_while0b_v104 : Ref sig .tc := ⟨.hbm, 124, rfl⟩
abbrev main_while0b_c_16 : Ref sig .tc := ⟨.hbm, 125, rfl⟩
abbrev main_while0b_v105 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩

abbrev nD : Nat := 1
abbrev τ : Topo := Topo.v7x

variable {F : FTy → Type} [FloatOps F]

abbrev main_while0_count : Scf.Loop 32 := ⟨0#32, 33#32, 1#32⟩
-- ==== KernelDv.lean ====
abbrev S4224x512 : Shape := ⟨2, ![4224, 512]⟩
abbrev S4224x8192 : Shape := ⟨2, ![4224, 8192]⟩
abbrev S4224x1024 : Shape := ⟨2, ![4224, 1024]⟩
abbrev S4224x128 : Shape := ⟨2, ![4224, 128]⟩
abbrev S4224x256 : Shape := ⟨2, ![4224, 256]⟩
abbrev S128x256 : Shape := ⟨2, ![128, 256]⟩
abbrev S128x128 : Shape := ⟨2, ![128, 128]⟩
abbrev S128x1 : Shape := ⟨2, ![128, 1]⟩

abbrev nBuf : Space → Nat
  | .hbm => 5
  | .vmem => 11
  | .smem => 0
  | _ => 0

abbrev bufTy : (tb : Table) → Fin (tcTables nBuf tb) → BufTy
  | .hbm, ⟨0, _⟩ => ⟨S4224x512, .f32⟩
  | .hbm, ⟨1, _⟩ => ⟨S4224x512, .f32⟩
  | .hbm, ⟨2, _⟩ => ⟨S4224x8192, .bf16⟩
  | .hbm, ⟨3, _⟩ => ⟨S4224x1024, .bf16⟩
  | .hbm, ⟨4, _⟩ => ⟨S4224x8192, .bf16⟩
  | .local _ .vmem, ⟨0, _⟩ => ⟨S4224x128, .f32⟩
  | .local _ .vmem, ⟨1, _⟩ => ⟨S4224x128, .f32⟩
  | .local _ .vmem, ⟨2, _⟩ => ⟨S4224x128, .f32⟩
  | .local _ .vmem, ⟨3, _⟩ => ⟨S4224x128, .f32⟩
  | .local _ .vmem, ⟨4, _⟩ => ⟨S4224x256, .bf16⟩
  | .local _ .vmem, ⟨5, _⟩ => ⟨S4224x256, .bf16⟩
  | .local _ .vmem, ⟨6, _⟩ => ⟨S4224x256, .bf16⟩
  | .local _ .vmem, ⟨7, _⟩ => ⟨S4224x256, .bf16⟩
  | .local _ .vmem, ⟨8, _⟩ => ⟨S4224x256, .f32⟩
  | .local _ .vmem, ⟨9, _⟩ => ⟨S128x256, .f32⟩
  | .local _ .vmem, ⟨10, _⟩ => ⟨S128x256, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def k0_mult1 : BitVec 32 :=
  let c0_i32_15 : BitVec 32 := 0#32
  let c128_i32 : BitVec 32 := 128#32
  let v48 : BitVec 32 := Scalar.muli c0_i32_15 c128_i32
  v48
def k0_off1 (c0_i32_15 : BitVec 32) : Fin 2 → Nat :=
  let c128_i32 : BitVec 32 := 128#32
  let v48 : BitVec 32 := Scalar.muli c0_i32_15 c128_i32
  let v49 : BitVec 32 := v48
  let v50 : Index := Scalar.indexCast v49
  let c0_16 : Index := 0#32
  ![v50.toNat, 0]
def k0_off2 (c0_i32_15 : BitVec 32) : Fin 2 → Nat :=
  let c128_i32 : BitVec 32 := 128#32
  let v48 : BitVec 32 := Scalar.muli c0_i32_15 c128_i32
  let v49 : BitVec 32 := v48
  let v54 : Index := Scalar.indexCast v49
  let c0_18 : Index := 0#32
  ![v54.toNat, 0]
def k0_mult2 : BitVec 32 :=
  let c32_i32 : BitVec 32 := 32#32
  let c0_i32_15 : BitVec 32 := 0#32
  let v87 : BitVec 32 := Scalar.subi c32_i32 c0_i32_15
  let c128_i32_31 : BitVec 32 := 128#32
  let v88 : BitVec 32 := Scalar.muli v87 c128_i32_31
  v88
def k0_off3 (c0_i32_15 : BitVec 32) : Fin 2 → Nat :=
  let c32_i32 : BitVec 32 := 32#32
  let v87 : BitVec 32 := Scalar.subi c32_i32 c0_i32_15
  let c128_i32_31 : BitVec 32 := 128#32
  let v88 : BitVec 32 := Scalar.muli v87 c128_i32_31
  let v89 : BitVec 32 := v88
  let v90 : Index := Scalar.indexCast v89
  let c0_32 : Index := 0#32
  ![v90.toNat, 0]
def k0_off4 (c0_i32_15 : BitVec 32) : Fin 2 → Nat :=
  let c32_i32 : BitVec 32 := 32#32
  let v87 : BitVec 32 := Scalar.subi c32_i32 c0_i32_15
  let c128_i32_31 : BitVec 32 := 128#32
  let v88 : BitVec 32 := Scalar.muli v87 c128_i32_31
  let v89 : BitVec 32 := v88
  let v94 : Index := Scalar.indexCast v89
  let c0_34 : Index := 0#32
  ![v94.toNat, 0]
def k0_mult3 : BitVec 32 :=
  let c1_i32_45 : BitVec 32 := 1#32
  let c128_i32_46 : BitVec 32 := 128#32
  let v120 : BitVec 32 := Scalar.muli c1_i32_45 c128_i32_46
  v120
def k0_mult4 : BitVec 32 :=
  let c32_i32_62 : BitVec 32 := 32#32
  let c1_i32_45 : BitVec 32 := 1#32
  let v159 : BitVec 32 := Scalar.subi c32_i32_62 c1_i32_45
  let c128_i32_63 : BitVec 32 := 128#32
  let v160 : BitVec 32 := Scalar.muli v159 c128_i32_63
  v160
def k0_mult5 : BitVec 32 :=
  let c2_i32_77 : BitVec 32 := 2#32
  let c128_i32_78 : BitVec 32 := 128#32
  let v192 : BitVec 32 := Scalar.muli c2_i32_77 c128_i32_78
  v192
def k0_mult6 : BitVec 32 :=
  let c32_i32_94 : BitVec 32 := 32#32
  let c2_i32_77 : BitVec 32 := 2#32
  let v231 : BitVec 32 := Scalar.subi c32_i32_94 c2_i32_77
  let c128_i32_95 : BitVec 32 := 128#32
  let v232 : BitVec 32 := Scalar.muli v231 c128_i32_95
  v232
def k0_mult7 : BitVec 32 :=
  let c3_i32 : BitVec 32 := 3#32
  let c128_i32_109 : BitVec 32 := 128#32
  let v264 : BitVec 32 := Scalar.muli c3_i32 c128_i32_109
  v264
def k0_mult8 : BitVec 32 :=
  let c32_i32_125 : BitVec 32 := 32#32
  let c3_i32 : BitVec 32 := 3#32
  let v303 : BitVec 32 := Scalar.subi c32_i32_125 c3_i32
  let c128_i32_126 : BitVec 32 := 128#32
  let v304 : BitVec 32 := Scalar.muli v303 c128_i32_126
  v304
def k0_mult9 : BitVec 32 :=
  let c4_i32 : BitVec 32 := 4#32
  let c128_i32_140 : BitVec 32 := 128#32
  let v336 : BitVec 32 := Scalar.muli c4_i32 c128_i32_140
  v336
def k0_mult10 : BitVec 32 :=
  let c32_i32_156 : BitVec 32 := 32#32
  let c4_i32 : BitVec 32 := 4#32
  let v375 : BitVec 32 := Scalar.subi c32_i32_156 c4_i32
  let c128_i32_157 : BitVec 32 := 128#32
  let v376 : BitVec 32 := Scalar.muli v375 c128_i32_157
  v376
def k0_mult11 : BitVec 32 :=
  let c5_i32 : BitVec 32 := 5#32
  let c128_i32_171 : BitVec 32 := 128#32
  let v408 : BitVec 32 := Scalar.muli c5_i32 c128_i32_171
  v408
def k0_mult12 : BitVec 32 :=
  let c32_i32_187 : BitVec 32 := 32#32
  let c5_i32 : BitVec 32 := 5#32
  let v447 : BitVec 32 := Scalar.subi c32_i32_187 c5_i32
  let c128_i32_188 : BitVec 32 := 128#32
  let v448 : BitVec 32 := Scalar.muli v447 c128_i32_188
  v448
def k0_mult13 : BitVec 32 :=
  let c6_i32 : BitVec 32 := 6#32
  let c128_i32_202 : BitVec 32 := 128#32
  let v480 : BitVec 32 := Scalar.muli c6_i32 c128_i32_202
  v480
def k0_mult14 : BitVec 32 :=
  let c32_i32_218 : BitVec 32 := 32#32
  let c6_i32 : BitVec 32 := 6#32
  let v519 : BitVec 32 := Scalar.subi c32_i32_218 c6_i32
  let c128_i32_219 : BitVec 32 := 128#32
  let v520 : BitVec 32 := Scalar.muli v519 c128_i32_219
  v520
def k0_mult15 : BitVec 32 :=
  let c7_i32 : BitVec 32 := 7#32
  let c128_i32_233 : BitVec 32 := 128#32
  let v552 : BitVec 32 := Scalar.muli c7_i32 c128_i32_233
  v552
def k0_mult16 : BitVec 32 :=
  let c32_i32_249 : BitVec 32 := 32#32
  let c7_i32 : BitVec 32 := 7#32
  let v591 : BitVec 32 := Scalar.subi c32_i32_249 c7_i32
  let c128_i32_250 : BitVec 32 := 128#32
  let v592 : BitVec 32 := Scalar.muli v591 c128_i32_250
  v592
def k0_mult17 : BitVec 32 :=
  let c8_i32 : BitVec 32 := 8#32
  let c128_i32_264 : BitVec 32 := 128#32
  let v624 : BitVec 32 := Scalar.muli c8_i32 c128_i32_264
  v624
def k0_mult18 : BitVec 32 :=
  let c32_i32_280 : BitVec 32 := 32#32
  let c8_i32 : BitVec 32 := 8#32
  let v663 : BitVec 32 := Scalar.subi c32_i32_280 c8_i32
  let c128_i32_281 : BitVec 32 := 128#32
  let v664 : BitVec 32 := Scalar.muli v663 c128_i32_281
  v664
def k0_mult19 : BitVec 32 :=
  let c9_i32 : BitVec 32 := 9#32
  let c128_i32_295 : BitVec 32 := 128#32
  let v696 : BitVec 32 := Scalar.muli c9_i32 c128_i32_295
  v696
def k0_mult20 : BitVec 32 :=
  let c32_i32_311 : BitVec 32 := 32#32
  let c9_i32 : BitVec 32 := 9#32
  let v735 : BitVec 32 := Scalar.subi c32_i32_311 c9_i32
  let c128_i32_312 : BitVec 32 := 128#32
  let v736 : BitVec 32 := Scalar.muli v735 c128_i32_312
  v736
def k0_mult21 : BitVec 32 :=
  let c10_i32 : BitVec 32 := 10#32
  let c128_i32_326 : BitVec 32 := 128#32
  let v768 : BitVec 32 := Scalar.muli c10_i32 c128_i32_326
  v768
def k0_mult22 : BitVec 32 :=
  let c32_i32_342 : BitVec 32 := 32#32
  let c10_i32 : BitVec 32 := 10#32
  let v807 : BitVec 32 := Scalar.subi c32_i32_342 c10_i32
  let c128_i32_343 : BitVec 32 := 128#32
  let v808 : BitVec 32 := Scalar.muli v807 c128_i32_343
  v808
def k0_mult23 : BitVec 32 :=
  let c11_i32 : BitVec 32 := 11#32
  let c128_i32_357 : BitVec 32 := 128#32
  let v840 : BitVec 32 := Scalar.muli c11_i32 c128_i32_357
  v840
def k0_mult24 : BitVec 32 :=
  let c32_i32_373 : BitVec 32 := 32#32
  let c11_i32 : BitVec 32 := 11#32
  let v879 : BitVec 32 := Scalar.subi c32_i32_373 c11_i32
  let c128_i32_374 : BitVec 32 := 128#32
  let v880 : BitVec 32 := Scalar.muli v879 c128_i32_374
  v880
def k0_mult25 : BitVec 32 :=
  let c12_i32 : BitVec 32 := 12#32
  let c128_i32_388 : BitVec 32 := 128#32
  let v912 : BitVec 32 := Scalar.muli c12_i32 c128_i32_388
  v912
def k0_mult26 : BitVec 32 :=
  let c32_i32_404 : BitVec 32 := 32#32
  let c12_i32 : BitVec 32 := 12#32
  let v951 : BitVec 32 := Scalar.subi c32_i32_404 c12_i32
  let c128_i32_405 : BitVec 32 := 128#32
  let v952 : BitVec 32 := Scalar.muli v951 c128_i32_405
  v952
def k0_mult27 : BitVec 32 :=
  let c13_i32 : BitVec 32 := 13#32
  let c128_i32_419 : BitVec 32 := 128#32
  let v984 : BitVec 32 := Scalar.muli c13_i32 c128_i32_419
  v984
def k0_mult28 : BitVec 32 :=
  let c32_i32_435 : BitVec 32 := 32#32
  let c13_i32 : BitVec 32 := 13#32
  let v1023 : BitVec 32 := Scalar.subi c32_i32_435 c13_i32
  let c128_i32_436 : BitVec 32 := 128#32
  let v1024 : BitVec 32 := Scalar.muli v1023 c128_i32_436
  v1024
def k0_mult29 : BitVec 32 :=
  let c14_i32 : BitVec 32 := 14#32
  let c128_i32_450 : BitVec 32 := 128#32
  let v1056 : BitVec 32 := Scalar.muli c14_i32 c128_i32_450
  v1056
def k0_mult30 : BitVec 32 :=
  let c32_i32_466 : BitVec 32 := 32#32
  let c14_i32 : BitVec 32 := 14#32
  let v1095 : BitVec 32 := Scalar.subi c32_i32_466 c14_i32
  let c128_i32_467 : BitVec 32 := 128#32
  let v1096 : BitVec 32 := Scalar.muli v1095 c128_i32_467
  v1096
def k0_mult31 : BitVec 32 :=
  let c15_i32 : BitVec 32 := 15#32
  let c128_i32_481 : BitVec 32 := 128#32
  let v1128 : BitVec 32 := Scalar.muli c15_i32 c128_i32_481
  v1128
def k0_mult32 : BitVec 32 :=
  let c32_i32_497 : BitVec 32 := 32#32
  let c15_i32 : BitVec 32 := 15#32
  let v1167 : BitVec 32 := Scalar.subi c32_i32_497 c15_i32
  let c128_i32_498 : BitVec 32 := 128#32
  let v1168 : BitVec 32 := Scalar.muli v1167 c128_i32_498
  v1168
def k0_mult33 : BitVec 32 :=
  let c16_i32 : BitVec 32 := 16#32
  let c128_i32_512 : BitVec 32 := 128#32
  let v1200 : BitVec 32 := Scalar.muli c16_i32 c128_i32_512
  v1200
def k0_mult34 : BitVec 32 :=
  let c32_i32_528 : BitVec 32 := 32#32
  let c16_i32 : BitVec 32 := 16#32
  let v1239 : BitVec 32 := Scalar.subi c32_i32_528 c16_i32
  let c128_i32_529 : BitVec 32 := 128#32
  let v1240 : BitVec 32 := Scalar.muli v1239 c128_i32_529
  v1240
def k0_mult35 : BitVec 32 :=
  let c17_i32 : BitVec 32 := 17#32
  let c128_i32_543 : BitVec 32 := 128#32
  let v1272 : BitVec 32 := Scalar.muli c17_i32 c128_i32_543
  v1272
def k0_mult36 : BitVec 32 :=
  let c32_i32_559 : BitVec 32 := 32#32
  let c17_i32 : BitVec 32 := 17#32
  let v1311 : BitVec 32 := Scalar.subi c32_i32_559 c17_i32
  let c128_i32_560 : BitVec 32 := 128#32
  let v1312 : BitVec 32 := Scalar.muli v1311 c128_i32_560
  v1312
def k0_mult37 : BitVec 32 :=
  let c18_i32 : BitVec 32 := 18#32
  let c128_i32_574 : BitVec 32 := 128#32
  let v1344 : BitVec 32 := Scalar.muli c18_i32 c128_i32_574
  v1344
def k0_mult38 : BitVec 32 :=
  let c32_i32_590 : BitVec 32 := 32#32
  let c18_i32 : BitVec 32 := 18#32
  let v1383 : BitVec 32 := Scalar.subi c32_i32_590 c18_i32
  let c128_i32_591 : BitVec 32 := 128#32
  let v1384 : BitVec 32 := Scalar.muli v1383 c128_i32_591
  v1384
def k0_mult39 : BitVec 32 :=
  let c19_i32 : BitVec 32 := 19#32
  let c128_i32_605 : BitVec 32 := 128#32
  let v1416 : BitVec 32 := Scalar.muli c19_i32 c128_i32_605
  v1416
def k0_mult40 : BitVec 32 :=
  let c32_i32_621 : BitVec 32 := 32#32
  let c19_i32 : BitVec 32 := 19#32
  let v1455 : BitVec 32 := Scalar.subi c32_i32_621 c19_i32
  let c128_i32_622 : BitVec 32 := 128#32
  let v1456 : BitVec 32 := Scalar.muli v1455 c128_i32_622
  v1456
def k0_mult41 : BitVec 32 :=
  let c20_i32 : BitVec 32 := 20#32
  let c128_i32_636 : BitVec 32 := 128#32
  let v1488 : BitVec 32 := Scalar.muli c20_i32 c128_i32_636
  v1488
def k0_mult42 : BitVec 32 :=
  let c32_i32_652 : BitVec 32 := 32#32
  let c20_i32 : BitVec 32 := 20#32
  let v1527 : BitVec 32 := Scalar.subi c32_i32_652 c20_i32
  let c128_i32_653 : BitVec 32 := 128#32
  let v1528 : BitVec 32 := Scalar.muli v1527 c128_i32_653
  v1528
def k0_mult43 : BitVec 32 :=
  let c21_i32 : BitVec 32 := 21#32
  let c128_i32_667 : BitVec 32 := 128#32
  let v1560 : BitVec 32 := Scalar.muli c21_i32 c128_i32_667
  v1560
def k0_mult44 : BitVec 32 :=
  let c32_i32_683 : BitVec 32 := 32#32
  let c21_i32 : BitVec 32 := 21#32
  let v1599 : BitVec 32 := Scalar.subi c32_i32_683 c21_i32
  let c128_i32_684 : BitVec 32 := 128#32
  let v1600 : BitVec 32 := Scalar.muli v1599 c128_i32_684
  v1600
def k0_mult45 : BitVec 32 :=
  let c22_i32 : BitVec 32 := 22#32
  let c128_i32_698 : BitVec 32 := 128#32
  let v1632 : BitVec 32 := Scalar.muli c22_i32 c128_i32_698
  v1632
def k0_mult46 : BitVec 32 :=
  let c32_i32_714 : BitVec 32 := 32#32
  let c22_i32 : BitVec 32 := 22#32
  let v1671 : BitVec 32 := Scalar.subi c32_i32_714 c22_i32
  let c128_i32_715 : BitVec 32 := 128#32
  let v1672 : BitVec 32 := Scalar.muli v1671 c128_i32_715
  v1672
def k0_mult47 : BitVec 32 :=
  let c23_i32 : BitVec 32 := 23#32
  let c128_i32_729 : BitVec 32 := 128#32
  let v1704 : BitVec 32 := Scalar.muli c23_i32 c128_i32_729
  v1704
def k0_mult48 : BitVec 32 :=
  let c32_i32_745 : BitVec 32 := 32#32
  let c23_i32 : BitVec 32 := 23#32
  let v1743 : BitVec 32 := Scalar.subi c32_i32_745 c23_i32
  let c128_i32_746 : BitVec 32 := 128#32
  let v1744 : BitVec 32 := Scalar.muli v1743 c128_i32_746
  v1744
def k0_mult49 : BitVec 32 :=
  let c24_i32 : BitVec 32 := 24#32
  let c128_i32_760 : BitVec 32 := 128#32
  let v1776 : BitVec 32 := Scalar.muli c24_i32 c128_i32_760
  v1776
def k0_mult50 : BitVec 32 :=
  let c32_i32_776 : BitVec 32 := 32#32
  let c24_i32 : BitVec 32 := 24#32
  let v1815 : BitVec 32 := Scalar.subi c32_i32_776 c24_i32
  let c128_i32_777 : BitVec 32 := 128#32
  let v1816 : BitVec 32 := Scalar.muli v1815 c128_i32_777
  v1816
def k0_mult51 : BitVec 32 :=
  let c25_i32 : BitVec 32 := 25#32
  let c128_i32_791 : BitVec 32 := 128#32
  let v1848 : BitVec 32 := Scalar.muli c25_i32 c128_i32_791
  v1848
def k0_mult52 : BitVec 32 :=
  let c32_i32_807 : BitVec 32 := 32#32
  let c25_i32 : BitVec 32 := 25#32
  let v1887 : BitVec 32 := Scalar.subi c32_i32_807 c25_i32
  let c128_i32_808 : BitVec 32 := 128#32
  let v1888 : BitVec 32 := Scalar.muli v1887 c128_i32_808
  v1888
def k0_mult53 : BitVec 32 :=
  let c26_i32 : BitVec 32 := 26#32
  let c128_i32_822 : BitVec 32 := 128#32
  let v1920 : BitVec 32 := Scalar.muli c26_i32 c128_i32_822
  v1920
def k0_mult54 : BitVec 32 :=
  let c32_i32_838 : BitVec 32 := 32#32
  let c26_i32 : BitVec 32 := 26#32
  let v1959 : BitVec 32 := Scalar.subi c32_i32_838 c26_i32
  let c128_i32_839 : BitVec 32 := 128#32
  let v1960 : BitVec 32 := Scalar.muli v1959 c128_i32_839
  v1960
def k0_mult55 : BitVec 32 :=
  let c27_i32 : BitVec 32 := 27#32
  let c128_i32_853 : BitVec 32 := 128#32
  let v1992 : BitVec 32 := Scalar.muli c27_i32 c128_i32_853
  v1992
def k0_mult56 : BitVec 32 :=
  let c32_i32_869 : BitVec 32 := 32#32
  let c27_i32 : BitVec 32 := 27#32
  let v2031 : BitVec 32 := Scalar.subi c32_i32_869 c27_i32
  let c128_i32_870 : BitVec 32 := 128#32
  let v2032 : BitVec 32 := Scalar.muli v2031 c128_i32_870
  v2032
def k0_mult57 : BitVec 32 :=
  let c28_i32 : BitVec 32 := 28#32
  let c128_i32_884 : BitVec 32 := 128#32
  let v2064 : BitVec 32 := Scalar.muli c28_i32 c128_i32_884
  v2064
def k0_mult58 : BitVec 32 :=
  let c32_i32_900 : BitVec 32 := 32#32
  let c28_i32 : BitVec 32 := 28#32
  let v2103 : BitVec 32 := Scalar.subi c32_i32_900 c28_i32
  let c128_i32_901 : BitVec 32 := 128#32
  let v2104 : BitVec 32 := Scalar.muli v2103 c128_i32_901
  v2104
def k0_mult59 : BitVec 32 :=
  let c29_i32 : BitVec 32 := 29#32
  let c128_i32_915 : BitVec 32 := 128#32
  let v2136 : BitVec 32 := Scalar.muli c29_i32 c128_i32_915
  v2136
def k0_mult60 : BitVec 32 :=
  let c32_i32_931 : BitVec 32 := 32#32
  let c29_i32 : BitVec 32 := 29#32
  let v2175 : BitVec 32 := Scalar.subi c32_i32_931 c29_i32
  let c128_i32_932 : BitVec 32 := 128#32
  let v2176 : BitVec 32 := Scalar.muli v2175 c128_i32_932
  v2176
def k0_mult61 : BitVec 32 :=
  let c30_i32 : BitVec 32 := 30#32
  let c128_i32_946 : BitVec 32 := 128#32
  let v2208 : BitVec 32 := Scalar.muli c30_i32 c128_i32_946
  v2208
def k0_mult62 : BitVec 32 :=
  let c32_i32_962 : BitVec 32 := 32#32
  let c30_i32 : BitVec 32 := 30#32
  let v2247 : BitVec 32 := Scalar.subi c32_i32_962 c30_i32
  let c128_i32_963 : BitVec 32 := 128#32
  let v2248 : BitVec 32 := Scalar.muli v2247 c128_i32_963
  v2248
def k0_mult63 : BitVec 32 :=
  let c31_i32 : BitVec 32 := 31#32
  let c128_i32_977 : BitVec 32 := 128#32
  let v2280 : BitVec 32 := Scalar.muli c31_i32 c128_i32_977
  v2280
def k0_mult64 : BitVec 32 :=
  let c32_i32_993 : BitVec 32 := 32#32
  let c31_i32 : BitVec 32 := 31#32
  let v2319 : BitVec 32 := Scalar.subi c32_i32_993 c31_i32
  let c128_i32_994 : BitVec 32 := 128#32
  let v2320 : BitVec 32 := Scalar.muli v2319 c128_i32_994
  v2320
def k0_mult65 : BitVec 32 :=
  let c32_i32_1008 : BitVec 32 := 32#32
  let c128_i32_1009 : BitVec 32 := 128#32
  let v2352 : BitVec 32 := Scalar.muli c32_i32_1008 c128_i32_1009
  v2352
def k0_mult66 : BitVec 32 :=
  let c32_i32_1025 : BitVec 32 := 32#32
  let c32_i32_1008 : BitVec 32 := 32#32
  let v2391 : BitVec 32 := Scalar.subi c32_i32_1025 c32_i32_1008
  let c128_i32_1026 : BitVec 32 := 128#32
  let v2392 : BitVec 32 := Scalar.muli v2391 c128_i32_1026
  v2392
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

abbrev stage0_0 : Fin 2 → Memref sig .tc .vmem S4224x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4224x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4224x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4224x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelDvIdeal.lean ====
variable {F : FTy → Type} [FloatOps F] [Named F]
def κ : String → Option EReal := fun
  | "log_gamma_0" => some ((Real.log (31 / 32) : ℝ) : EReal)
  | "log_gamma_1" => some ((Real.log (63 / 64) : ℝ) : EReal)
  | "log_gamma_2" => some ((Real.log (127 / 128) : ℝ) : EReal)
  | "log_gamma_3" => some ((Real.log (255 / 256) : ℝ) : EReal)
  | _ => none
-- ==== ReferenceDvIdeal.lean ====
abbrev S4224x512 : Shape := ⟨2, ![4224, 512]⟩
abbrev S4224x8192 : Shape := ⟨2, ![4224, 8192]⟩
abbrev S4224x1024 : Shape := ⟨2, ![4224, 1024]⟩
abbrev S1x4224x4x128 : Shape := ⟨4, ![1, 4224, 4, 128]⟩
abbrev S1x4224x4x256 : Shape := ⟨4, ![1, 4224, 4, 256]⟩
abbrev S4 : Shape := ⟨1, ![4]⟩
abbrev S_ : Shape := ⟨0, ![]⟩
abbrev S1x33x128x4x128 : Shape := ⟨5, ![1, 33, 128, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x33x4x128x128 : Shape := ⟨5, ![1, 33, 4, 128, 128]⟩
abbrev S1x1x4x128x128 : Shape := ⟨5, ![1, 1, 4, 128, 128]⟩
abbrev S2x4224x4x128 : Shape := ⟨4, ![2, 4224, 4, 128]⟩
abbrev S2x33x128x4x128 : Shape := ⟨5, ![2, 33, 128, 4, 128]⟩
abbrev S1x4 : Shape := ⟨2, ![1, 4]⟩
abbrev S128x4 : Shape := ⟨2, ![128, 4]⟩
abbrev S1x1x128x4x1 : Shape := ⟨5, ![1, 1, 128, 4, 1]⟩
abbrev S1x1x4x1x1 : Shape := ⟨5, ![1, 1, 4, 1, 1]⟩
abbrev S2x33x4x1x1 : Shape := ⟨5, ![2, 33, 4, 1, 1]⟩
abbrev S33x2x4x1x1 : Shape := ⟨5, ![33, 2, 4, 1, 1]⟩
abbrev S2x4x128x256 : Shape := ⟨4, ![2, 4, 128, 256]⟩
abbrev S2x4224x4x256 : Shape := ⟨4, ![2, 4224, 4, 256]⟩
abbrev S1x33x128x4x256 : Shape := ⟨5, ![1, 33, 128, 4, 256]⟩
abbrev S2x33x128x4x256 : Shape := ⟨5, ![2, 33, 128, 4, 256]⟩
abbrev S2x33x4x256x128 : Shape := ⟨5, ![2, 33, 4, 256, 128]⟩
abbrev S2x33x4x128x256 : Shape := ⟨5, ![2, 33, 4, 128, 256]⟩
abbrev S33x2x4x128x256 : Shape := ⟨5, ![33, 2, 4, 128, 256]⟩
abbrev S1x2x4x128x256 : Shape := ⟨5, ![1, 2, 4, 128, 256]⟩
abbrev S1x2x4x1x1 : Shape := ⟨5, ![1, 2, 4, 1, 1]⟩
abbrev S2x4x1x1 : Shape := ⟨4, ![2, 4, 1, 1]⟩
abbrev S1x33x4x256x128 : Shape := ⟨5, ![1, 33, 4, 256, 128]⟩

abbrev nBuf : Space → Nat
  | .hbm => 147
  | .vmem => 0
  | .smem => 0
  | _ => 0

abbrev hbmTy0_0 (i : Nat) : BufTy := match i % 128 with
  | 0 => ⟨S4224x512, .f32⟩
  | 1 => ⟨S4224x512, .f32⟩
  | 2 => ⟨S4224x8192, .bf16⟩
  | 3 => ⟨S4224x1024, .bf16⟩
  | 4 => ⟨S1x4224x4x128, .f32⟩
  | 5 => ⟨S1x4224x4x128, .f32⟩
  | 6 => ⟨S4224x1024, .f32⟩
  | 7 => ⟨S1x4224x4x256, .f32⟩
  | 8 => ⟨S4, .f32⟩
  | 9 => ⟨S_, .f32⟩
  | 10 => ⟨S4, .f32⟩
  | 11 => ⟨S4, .f32⟩
  | 12 => ⟨S_, .f32⟩
  | 13 => ⟨S4, .f32⟩
  | 14 => ⟨S4, .f32⟩
  | 15 => ⟨S_, .f32⟩
  | 16 => ⟨S4, .f32⟩
  | 17 => ⟨S4, .f32⟩
  | 18 => ⟨S4, .f32⟩
  | 19 => ⟨S1x33x128x4x128, .f32⟩
  | 20 => ⟨S1x33x128x4x128, .f32⟩
  | 21 => ⟨S128, .f32⟩
  | 22 => ⟨S128x1, .f32⟩
  | 23 => ⟨S1x128, .f32⟩
  | 24 => ⟨S128x128, .f32⟩
  | 25 => ⟨S128x128, .f32⟩
  | 26 => ⟨S128x128, .f32⟩
  | 27 => ⟨S128x128, .f32⟩
  | 28 => ⟨S4x1x1, .f32⟩
  | 29 => ⟨S1x128x128, .f32⟩
  | 30 => ⟨S4x128x128, .f32⟩
  | 31 => ⟨S4x128x128, .f32⟩
  | 32 => ⟨S4x128x128, .f32⟩
  | 33 => ⟨S4x128x128, .f32⟩
  | 34 => ⟨S1x33x4x128x128, .f32⟩
  | 35 => ⟨S1x1x4x128x128, .f32⟩
  | 36 => ⟨S1x33x4x128x128, .f32⟩
  | 37 => ⟨S1x33x4x128x128, .f32⟩
  | 38 => ⟨S1x4224x4x128, .f32⟩
  | 39 => ⟨S2x4224x4x128, .f32⟩
  | 40 => ⟨S2x33x128x4x128, .f32⟩
  | 41 => ⟨S1x4224x4x128, .f32⟩
  | 42 => ⟨S2x4224x4x128, .f32⟩
  | 43 => ⟨S2x33x128x4x128, .f32⟩
  | 44 => ⟨S128, .f32⟩
  | 45 => ⟨S_, .f32⟩
  | 46 => ⟨S128, .f32⟩
  | 47 => ⟨S128, .f32⟩
  | 48 => ⟨S128x1, .f32⟩
  | 49 => ⟨S1x4, .f32⟩
  | 50 => ⟨S128x4, .f32⟩
  | 51 => ⟨S128x4, .f32⟩
  | 52 => ⟨S128x4, .f32⟩
  | 53 => ⟨S128x4, .f32⟩
  | 54 => ⟨S_, .f32⟩
  | 55 => ⟨S128, .f32⟩
  | 56 => ⟨S128, .f32⟩
  | 57 => ⟨S128x1, .f32⟩
  | 58 => ⟨S1x4, .f32⟩
  | 59 => ⟨S128x4, .f32⟩
  | 60 => ⟨S128x4, .f32⟩
  | 61 => ⟨S128x4, .f32⟩
  | 62 => ⟨S128x4, .f32⟩
  | 63 => ⟨S1x1x128x4x1, .f32⟩
  | 64 => ⟨S2x33x128x4x128, .f32⟩
  | 65 => ⟨S2x33x128x4x128, .f32⟩
  | 66 => ⟨S_, .f32⟩
  | 67 => ⟨S4, .f32⟩
  | 68 => ⟨S4, .f32⟩
  | 69 => ⟨S4, .f32⟩
  | 70 => ⟨S1x1x4x1x1, .f32⟩
  | 71 => ⟨S2x33x4x1x1, .f32⟩
  | 72 => ⟨S33x2x4x1x1, .f32⟩
  | 73 => ⟨S_, .f32⟩
  | 74 => ⟨S2x4x128x256, .f32⟩
  | 75 => ⟨S1x1x128x4x1, .f32⟩
  | 76 => ⟨S2x33x128x4x128, .f32⟩
  | 77 => ⟨S2x33x128x4x128, .f32⟩
  | 78 => ⟨S1x4224x4x256, .f32⟩
  | 79 => ⟨S_, .f32⟩
  | 80 => ⟨S2x4224x4x256, .f32⟩
  | 81 => ⟨S_, .f32⟩
  | 82 => ⟨S2x4224x4x256, .f32⟩
  | 83 => ⟨S2x4224x4x256, .f32⟩
  | 84 => ⟨S1x33x128x4x256, .f32⟩
  | 85 => ⟨S2x33x128x4x256, .f32⟩
  | 86 => ⟨S2x33x4x256x128, .f32⟩
  | 87 => ⟨S2x33x4x256x128, .f32⟩
  | 88 => ⟨S2x33x4x128x256, .f32⟩
  | 89 => ⟨S33x2x4x128x256, .f32⟩
  | 90 => ⟨S_, .f32⟩
  | 91 => ⟨S2x4x128x256, .f32⟩
  | 92 => ⟨S_, .f32⟩
  | 93 => ⟨S33x2x4x128x256, .f32⟩
  | 94 => ⟨S_, .i32⟩
  | 95 => ⟨S33x2x4x128x256, .f32⟩
  | 96 => ⟨S33x2x4x1x1, .f32⟩
  | 97 => ⟨S_, .i32⟩
  | 98 => ⟨S2x4x128x256, .f32⟩
  | 99 => ⟨S33x2x4x128x256, .f32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S1x2x4x128x256, .f32⟩
  | 111 => ⟨S2x4x128x256, .f32⟩
  | 112 => ⟨S_, .i32⟩
  | 113 => ⟨S_, .i32⟩
  | 114 => ⟨S_, .i32⟩
  | 115 => ⟨S_, .i32⟩
  | 116 => ⟨S1x2x4x1x1, .f32⟩
  | 117 => ⟨S2x4x1x1, .f32⟩
  | 118 => ⟨S2x4x128x256, .f32⟩
  | 119 => ⟨S2x4x128x256, .f32⟩
  | 120 => ⟨S2x4x128x256, .f32⟩
  | 121 => ⟨S1x2x4x128x256, .f32⟩
  | 122 => ⟨S_, .i32⟩
  | 123 => ⟨S_, .i32⟩
  | 124 => ⟨S_, .i32⟩
  | 125 => ⟨S_, .i32⟩
  | 126 => ⟨S33x2x4x128x256, .f32⟩
  | 127 => ⟨S_, .i32⟩
  | _ => ⟨S4224x512, .f32⟩

abbrev hbmTy0_1 (i : Nat) : BufTy := match i % 128 with
  | 0 => ⟨S_, .i32⟩
  | 1 => ⟨S2x33x4x128x256, .f32⟩
  | 2 => ⟨S2x33x4x256x128, .f32⟩
  | 3 => ⟨S2x33x128x4x256, .f32⟩
  | 4 => ⟨S2x4224x4x256, .f32⟩
  | 5 => ⟨S1x4224x4x256, .f32⟩
  | 6 => ⟨S1x4224x4x256, .f32⟩
  | 7 => ⟨S1x4224x4x256, .f32⟩
  | 8 => ⟨S1x4224x4x256, .f32⟩
  | 9 => ⟨S1x33x4x256x128, .f32⟩
  | 10 => ⟨S1x33x4x256x128, .f32⟩
  | 11 => ⟨S1x33x128x4x256, .f32⟩
  | 12 => ⟨S1x4224x4x256, .f32⟩
  | 13 => ⟨S1x4224x4x256, .f32⟩
  | 14 => ⟨S4224x1024, .f32⟩
  | 15 => ⟨S4224x1024, .bf16⟩
  | 16 => ⟨S_, .i32⟩
  | 17 => ⟨S_, .i32⟩
  | 18 => ⟨S4224x8192, .bf16⟩
  | _ => ⟨S4224x512, .f32⟩

abbrev hbmTy (i : Nat) : BufTy := match i / 128 with
  | 0 => hbmTy0_0 i
  | 1 => hbmTy0_1 i
  | _ => ⟨S4224x512, .f32⟩

abbrev bufTy : (tb : Table) → Fin (tcTables nBuf tb) → BufTy
  | .hbm, ⟨i, _⟩ => hbmTy i
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_3 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_4 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_5 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_cst_6 : Ref sig .tc := ⟨.hbm, 79, rfl⟩
abbrev main_v68 : Ref sig .tc := ⟨.hbm, 80, rfl⟩
abbrev main_cst_7 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_cst_8 : Ref sig .tc := ⟨.hbm, 90, rfl⟩
abbrev main_v77 : Ref sig .tc := ⟨.hbm, 91, rfl⟩
abbrev main_cst_9 : Ref sig .tc := ⟨.hbm, 92, rfl⟩
abbrev main_v78 : Ref sig .tc := ⟨.hbm, 93, rfl⟩
abbrev main_c : Ref sig .tc := ⟨.hbm, 94, rfl⟩
abbrev main_v79_0 : Ref sig .tc := ⟨.hbm, 95, rfl⟩
abbrev main_v79_1 : Ref sig .tc := ⟨.hbm, 96, rfl⟩
abbrev main_v79_2 : Ref sig .tc := ⟨.hbm, 97, rfl⟩
abbrev main_v79_3 : Ref sig .tc := ⟨.hbm, 98, rfl⟩
abbrev main_v79_4 : Ref sig .tc := ⟨.hbm, 99, rfl⟩
abbrev main_while0c_c_16 : Ref sig .tc := ⟨.hbm, 100, rfl⟩
abbrev main_while0c_v96 : Ref sig .tc := ⟨.hbm, 101, rfl⟩
abbrev main_while0b_c_16 : Ref sig .tc := ⟨.hbm, 102, rfl⟩
abbrev main_while0b_v96 : Ref sig .tc := ⟨.hbm, 103, rfl⟩
abbrev main_while0b_c_17 : Ref sig .tc := ⟨.hbm, 104, rfl⟩
abbrev main_while0b_v97 : Ref sig .tc := ⟨.hbm, 105, rfl⟩
abbrev main_while0b_call5_c : Ref sig .tc := ⟨.hbm, 106, rfl⟩
abbrev main_while0b_call5_c_0 : Ref sig .tc := ⟨.hbm, 107, rfl⟩
abbrev main_while0b_call5_c_1 : Ref sig .tc := ⟨.hbm, 108, rfl⟩
abbrev main_while0b_call5_c_2 : Ref sig .tc := ⟨.hbm, 109, rfl⟩
abbrev main_while0b_call5_v0 : Ref sig .tc := ⟨.hbm, 110, rfl⟩
abbrev main_while0b_v98 : Ref sig .tc := ⟨.hbm, 111, rfl⟩
abbrev main_while0b_call6_c : Ref sig .tc := ⟨.hbm, 112, rfl⟩
abbrev main_while0b_call6_c_0 : Ref sig .tc := ⟨.hbm, 113, rfl⟩
abbrev main_while0b_call6_c_1 : Ref sig .tc := ⟨.hbm, 114, rfl⟩
abbrev main_while0b_call6_c_2 : Ref sig .tc := ⟨.hbm, 115, rfl⟩
abbrev main_while0b_call6_v0 : Ref sig .tc := ⟨.hbm, 116, rfl⟩
abbrev main_while0b_v99 : Ref sig .tc := ⟨.hbm, 117, rfl⟩
abbrev main_while0b_v100 : Ref sig .tc := ⟨.hbm, 118, rfl⟩
abbrev main_while0b_v101 : Ref sig .tc := ⟨.hbm, 119, rfl⟩
abbrev main_while0b_v102 : Ref sig .tc := ⟨.hbm, 120, rfl⟩
abbrev main_while0b_call7_v0 : Ref sig .tc := ⟨.hbm, 121, rfl⟩
abbrev main_while0b_call7_c : Ref sig .tc := ⟨.hbm, 122, rfl⟩
abbrev main_while0b_call7_c_0 : Ref sig .tc := ⟨.hbm, 123, rfl⟩
abbrev main_while0b_call7_c_1 : Ref sig .tc := ⟨.hbm, 124, rfl⟩
abbrev main_while0b_call7_c_2 : Ref sig .tc := ⟨.hbm, 125, rfl⟩
abbrev main_while0b_v103 : Ref sig .tc := ⟨.hbm, 126, rfl⟩
abbrev main_while0b_c_18 : Ref sig .tc := ⟨.hbm, 127, rfl⟩
abbrev main_while0b_v104 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_c_10 : Ref sig .tc := ⟨.hbm, 144, rfl⟩
abbrev main_c_11 : Ref sig .tc := ⟨.hbm, 145, rfl⟩
abbrev main_v95 : Ref sig .tc := ⟨.hbm, 146, rfl⟩

abbrev nD : Nat := 1
abbrev τ : Topo := Topo.v7x

variable {F : FTy → Type} [FloatOps F]

abbrev main_while0_count : Scf.Loop 32 := ⟨0#32, 33#32, 1#32⟩
-- ==== KernelProjMain.lean ====
abbrev S4224x1024 : Shape := ⟨2, ![4224, 1024]⟩
abbrev S8192x1024 : Shape := ⟨2, ![8192, 1024]⟩
abbrev S4224x8192 : Shape := ⟨2, ![4224, 8192]⟩
abbrev S1056x1024 : Shape := ⟨2, ![1056, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S8192x1024, .bf16⟩
  | .hbm, ⟨2, _⟩ => ⟨S4224x8192, .bf16⟩
  | .local _ .vmem, ⟨0, _⟩ => ⟨S1056x1024, .bf16⟩
  | .local _ .vmem, ⟨1, _⟩ => ⟨S1056x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1056x1024, .bf16⟩
  | .local _ .vmem, ⟨5, _⟩ => ⟨S1056x1024, .bf16⟩
  | .local _ .vmem, ⟨6, _⟩ => ⟨S8x128, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceProjMainIdeal.lean ====
abbrev S4224x1024 : Shape := ⟨2, ![4224, 1024]⟩
abbrev S8192x1024 : Shape := ⟨2, ![8192, 1024]⟩
abbrev S1024x8192 : Shape := ⟨2, ![1024, 8192]⟩
abbrev S4224x8192 : Shape := ⟨2, ![4224, 8192]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S8192x1024, .bf16⟩
  | .hbm, ⟨2, _⟩ => ⟨S1024x8192, .bf16⟩
  | .hbm, ⟨3, _⟩ => ⟨S4224x1024, .f32⟩
  | .hbm, ⟨4, _⟩ => ⟨S1024x8192, .f32⟩
  | .hbm, ⟨5, _⟩ => ⟨S4224x8192, .f32⟩
  | .hbm, ⟨6, _⟩ => ⟨S4224x8192, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelGInMain.lean ====
abbrev S4224x8192 : Shape := ⟨2, ![4224, 8192]⟩
abbrev S4224x1024 : Shape := ⟨2, ![4224, 1024]⟩
abbrev S8192x1024 : Shape := ⟨2, ![8192, 1024]⟩
abbrev S2112x1024 : Shape := ⟨2, ![2112, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x8192, .bf16⟩
  | .hbm, ⟨1, _⟩ => ⟨S4224x1024, .bf16⟩
  | .hbm, ⟨2, _⟩ => ⟨S8192x1024, .bf16⟩
  | .local _ .vmem, ⟨0, _⟩ => ⟨S2112x1024, .bf16⟩
  | .local _ .vmem, ⟨1, _⟩ => ⟨S2112x1024, .bf16⟩
  | .local _ .vmem, ⟨2, _⟩ => ⟨S2112x1024, .bf16⟩
  | .local _ .vmem, ⟨3, _⟩ => ⟨S2112x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4224x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGInMainIdeal.lean ====
abbrev S4224x8192 : Shape := ⟨2, ![4224, 8192]⟩
abbrev S4224x1024 : Shape := ⟨2, ![4224, 1024]⟩
abbrev S8192x1024 : Shape := ⟨2, ![8192, 1024]⟩
abbrev S1024x8192 : Shape := ⟨2, ![1024, 8192]⟩

abbrev nBuf : Space → Nat
  | .hbm => 8
  | .vmem => 0
  | .smem => 0
  | _ => 0

abbrev bufTy : (tb : Table) → Fin (tcTables nBuf tb) → BufTy
  | .hbm, ⟨0, _⟩ => ⟨S4224x8192, .bf16⟩
  | .hbm, ⟨1, _⟩ => ⟨S4224x1024, .bf16⟩
  | .hbm, ⟨2, _⟩ => ⟨S4224x1024, .f32⟩
  | .hbm, ⟨3, _⟩ => ⟨S4224x8192, .f32⟩
  | .hbm, ⟨4, _⟩ => ⟨S8192x1024, .f32⟩
  | .hbm, ⟨5, _⟩ => ⟨S1024x8192, .f32⟩
  | .hbm, ⟨6, _⟩ => ⟨S8192x1024, .f32⟩
  | .hbm, ⟨7, _⟩ => ⟨S8192x1024, .bf16⟩
  | _, _ => ⟨S4224x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelDUMain.lean ====
abbrev S4224x8192 : Shape := ⟨2, ![4224, 8192]⟩
abbrev S8192x1024 : Shape := ⟨2, ![8192, 1024]⟩
abbrev S4224x1024 : Shape := ⟨2, ![4224, 1024]⟩
abbrev S1056x2048 : Shape := ⟨2, ![1056, 2048]⟩
abbrev S2048x1024 : Shape := ⟨2, ![2048, 1024]⟩
abbrev S1056x1024 : Shape := ⟨2, ![1056, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4224x8192, .bf16⟩
  | .hbm, ⟨1, _⟩ => ⟨S8192x1024, .bf16⟩
  | .hbm, ⟨2, _⟩ => ⟨S4224x1024, .f32⟩
  | .hbm, ⟨3, _⟩ => ⟨S4224x1024, .f32⟩
  | .local _ .vmem, ⟨0, _⟩ => ⟨S1056x2048, .bf16⟩
  | .local _ .vmem, ⟨1, _⟩ => ⟨S1056x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | .local _ .vmem, ⟨7, _⟩ => ⟨S1056x1024, .f32⟩
  | .local _ .vmem, ⟨8, _⟩ => ⟨S1056x1024, .f32⟩
  | _, _ => ⟨S4224x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1056x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDUMainIdeal.lean ====
abbrev S4224x8192 : Shape := ⟨2, ![4224, 8192]⟩
abbrev S8192x1024 : Shape := ⟨2, ![8192, 1024]⟩
abbrev S4224x1024 : Shape := ⟨2, ![4224, 1024]⟩
abbrev S1024x8192 : Shape := ⟨2, ![1024, 8192]⟩

abbrev nBuf : Space → Nat
  | .hbm => 8
  | .vmem => 0
  | .smem => 0
  | _ => 0

abbrev bufTy : (tb : Table) → Fin (tcTables nBuf tb) → BufTy
  | .hbm, ⟨0, _⟩ => ⟨S4224x8192, .bf16⟩
  | .hbm, ⟨1, _⟩ => ⟨S8192x1024, .bf16⟩
  | .hbm, ⟨2, _⟩ => ⟨S4224x1024, .f32⟩
  | .hbm, ⟨3, _⟩ => ⟨S1024x8192, .bf16⟩
  | .hbm, ⟨4, _⟩ => ⟨S1024x8192, .f32⟩
  | .hbm, ⟨5, _⟩ => ⟨S4224x8192, .f32⟩
  | .hbm, ⟨6, _⟩ => ⟨S4224x1024, .f32⟩
  | .hbm, ⟨7, _⟩ => ⟨S4224x1024, .f32⟩
  | _, _ => ⟨S4224x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelProjGates.lean ====
abbrev S4224x1024 : Shape := ⟨2, ![4224, 1024]⟩
abbrev S2048x1024 : Shape := ⟨2, ![2048, 1024]⟩
abbrev S4224x2048 : Shape := ⟨2, ![4224, 2048]⟩
abbrev S1056x1024 : Shape := ⟨2, ![1056, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S2048x1024, .bf16⟩
  | .hbm, ⟨2, _⟩ => ⟨S4224x2048, .bf16⟩
  | .local _ .vmem, ⟨0, _⟩ => ⟨S1056x1024, .bf16⟩
  | .local _ .vmem, ⟨1, _⟩ => ⟨S1056x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1056x1024, .bf16⟩
  | .local _ .vmem, ⟨5, _⟩ => ⟨S1056x1024, .bf16⟩
  | .local _ .vmem, ⟨6, _⟩ => ⟨S8x128, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceProjGatesIdeal.lean ====
abbrev S4224x1024 : Shape := ⟨2, ![4224, 1024]⟩
abbrev S2048x1024 : Shape := ⟨2, ![2048, 1024]⟩
abbrev S1024x2048 : Shape := ⟨2, ![1024, 2048]⟩
abbrev S4224x2048 : Shape := ⟨2, ![4224, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S2048x1024, .bf16⟩
  | .hbm, ⟨2, _⟩ => ⟨S1024x2048, .bf16⟩
  | .hbm, ⟨3, _⟩ => ⟨S4224x1024, .f32⟩
  | .hbm, ⟨4, _⟩ => ⟨S1024x2048, .f32⟩
  | .hbm, ⟨5, _⟩ => ⟨S4224x2048, .f32⟩
  | .hbm, ⟨6, _⟩ => ⟨S4224x2048, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ReferenceDSsdActIdeal.lean ====
abbrev S4224x1024 : Shape := ⟨2, ![4224, 1024]⟩
abbrev S2048x1024 : Shape := ⟨2, ![2048, 1024]⟩
abbrev S4224x2048 : Shape := ⟨2, ![4224, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S2048x1024, .bf16⟩
  | .hbm, ⟨2, _⟩ => ⟨S2048x1024, .f32⟩
  | .hbm, ⟨3, _⟩ => ⟨S4224x1024, .f32⟩
  | .hbm, ⟨4, _⟩ => ⟨S4224x2048, .f32⟩
  | .hbm, ⟨5, _⟩ => ⟨S4224x2048, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelGInGates.lean ====
abbrev S4224x2048 : Shape := ⟨2, ![4224, 2048]⟩
abbrev S4224x1024 : Shape := ⟨2, ![4224, 1024]⟩
abbrev S2048x1024 : Shape := ⟨2, ![2048, 1024]⟩
abbrev S2112x1024 : Shape := ⟨2, ![2112, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S4224x1024, .bf16⟩
  | .hbm, ⟨2, _⟩ => ⟨S2048x1024, .bf16⟩
  | .local _ .vmem, ⟨0, _⟩ => ⟨S2112x1024, .bf16⟩
  | .local _ .vmem, ⟨1, _⟩ => ⟨S2112x1024, .bf16⟩
  | .local _ .vmem, ⟨2, _⟩ => ⟨S2112x1024, .bf16⟩
  | .local _ .vmem, ⟨3, _⟩ => ⟨S2112x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGInGatesIdeal.lean ====
abbrev S4224x2048 : Shape := ⟨2, ![4224, 2048]⟩
abbrev S4224x1024 : Shape := ⟨2, ![4224, 1024]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x1024, .bf16⟩
  | .hbm, ⟨2, _⟩ => ⟨S4224x1024, .f32⟩
  | .hbm, ⟨3, _⟩ => ⟨S4224x2048, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== ReferenceGSsdOutIdeal.lean ====
abbrev S4224x2048 : Shape := ⟨2, ![4224, 2048]⟩
abbrev S4224x1024 : Shape := ⟨2, ![4224, 1024]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x1024, .bf16⟩
  | .hbm, ⟨2, _⟩ => ⟨S4224x2048, .f32⟩
  | .hbm, ⟨3, _⟩ => ⟨S4224x1024, .f32⟩
  | .hbm, ⟨4, _⟩ => ⟨S1024x2048, .f32⟩
  | .hbm, ⟨5, _⟩ => ⟨S2048x1024, .f32⟩
  | .hbm, ⟨6, _⟩ => ⟨S2048x1024, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelDUGates.lean ====
abbrev S4224x2048 : Shape := ⟨2, ![4224, 2048]⟩
abbrev S2048x1024 : Shape := ⟨2, ![2048, 1024]⟩
abbrev S4224x1024 : Shape := ⟨2, ![4224, 1024]⟩
abbrev S1056x2048 : Shape := ⟨2, ![1056, 2048]⟩
abbrev S1056x1024 : Shape := ⟨2, ![1056, 1024]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S4224x2048, .bf16⟩
  | .hbm, ⟨1, _⟩ => ⟨S2048x1024, .bf16⟩
  | .hbm, ⟨2, _⟩ => ⟨S4224x1024, .f32⟩
  | .hbm, ⟨3, _⟩ => ⟨S4224x1024, .f32⟩
  | .local _ .vmem, ⟨0, _⟩ => ⟨S1056x2048, .bf16⟩
  | .local _ .vmem, ⟨1, _⟩ => ⟨S1056x2048, .bf16⟩
  | .local _ .vmem, ⟨2, _⟩ => ⟨S2048x1024, .bf16⟩
  | .local _ .vmem, ⟨3, _⟩ => ⟨S1056x1024, .f32⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | .local _ .vmem, ⟨7, _⟩ => ⟨S8x128, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1056x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDUGatesIdeal.lean ====
abbrev S4224x2048 : Shape := ⟨2, ![4224, 2048]⟩
abbrev S2048x1024 : Shape := ⟨2, ![2048, 1024]⟩
abbrev S4224x1024 : Shape := ⟨2, ![4224, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x1024, .bf16⟩
  | .hbm, ⟨2, _⟩ => ⟨S4224x1024, .f32⟩
  | .hbm, ⟨3, _⟩ => ⟨S1024x2048, .bf16⟩
  | .hbm, ⟨4, _⟩ => ⟨S1024x2048, .f32⟩
  | .hbm, ⟨5, _⟩ => ⟨S4224x2048, .f32⟩
  | .hbm, ⟨6, _⟩ => ⟨S4224x1024, .f32⟩
  | .hbm, ⟨7, _⟩ => ⟨S4224x1024, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelFfnUp.lean ====
abbrev S4224x1024 : Shape := ⟨2, ![4224, 1024]⟩
abbrev S5632x1024 : Shape := ⟨2, ![5632, 1024]⟩
abbrev S4224x5632 : Shape := ⟨2, ![4224, 5632]⟩
abbrev S1056x1024 : Shape := ⟨2, ![1056, 1024]⟩
abbrev S1408x1024 : Shape := ⟨2, ![1408, 1024]⟩
abbrev S1056x1408 : Shape := ⟨2, ![1056, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S5632x1024, .bf16⟩
  | .hbm, ⟨2, _⟩ => ⟨S4224x5632, .bf16⟩
  | .local _ .vmem, ⟨0, _⟩ => ⟨S1056x1024, .bf16⟩
  | .local _ .vmem, ⟨1, _⟩ => ⟨S1056x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1056x1408, .bf16⟩
  | .local _ .vmem, ⟨5, _⟩ => ⟨S1056x1408, .bf16⟩
  | .local _ .vmem, ⟨6, _⟩ => ⟨S8x128, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1056x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFfnUpIdeal.lean ====
abbrev S4224x1024 : Shape := ⟨2, ![4224, 1024]⟩
abbrev S5632x1024 : Shape := ⟨2, ![5632, 1024]⟩
abbrev S1024x5632 : Shape := ⟨2, ![1024, 5632]⟩
abbrev S4224x5632 : Shape := ⟨2, ![4224, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S5632x1024, .bf16⟩
  | .hbm, ⟨2, _⟩ => ⟨S1024x5632, .bf16⟩
  | .hbm, ⟨3, _⟩ => ⟨S4224x1024, .f32⟩
  | .hbm, ⟨4, _⟩ => ⟨S1024x5632, .f32⟩
  | .hbm, ⟨5, _⟩ => ⟨S4224x5632, .f32⟩
  | .hbm, ⟨6, _⟩ => ⟨S4224x5632, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelGFfnUp.lean ====
abbrev S4224x2816 : Shape := ⟨2, ![4224, 2816]⟩
abbrev S4224x1024 : Shape := ⟨2, ![4224, 1024]⟩
abbrev S2816x1024 : Shape := ⟨2, ![2816, 1024]⟩
abbrev S2112x1408 : Shape := ⟨2, ![2112, 1408]⟩
abbrev S2112x1024 : Shape := ⟨2, ![2112, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S2816x1024, .bf16⟩
  | .local _ .vmem, ⟨0, _⟩ => ⟨S2112x1408, .bf16⟩
  | .local _ .vmem, ⟨1, _⟩ => ⟨S2112x1408, .bf16⟩
  | .local _ .vmem, ⟨2, _⟩ => ⟨S2112x1024, .bf16⟩
  | .local _ .vmem, ⟨3, _⟩ => ⟨S2112x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2112x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGFfnUpIdeal.lean ====
abbrev S4224x2816 : Shape := ⟨2, ![4224, 2816]⟩
abbrev S4224x1024 : Shape := ⟨2, ![4224, 1024]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S4224x1024, .f32⟩
  | .hbm, ⟨3, _⟩ => ⟨S4224x2816, .f32⟩
  | .hbm, ⟨4, _⟩ => ⟨S2816x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelDNormFfn.lean ====
abbrev S4224x2816 : Shape := ⟨2, ![4224, 2816]⟩
abbrev S2816x1024 : Shape := ⟨2, ![2816, 1024]⟩
abbrev S4224x1024 : Shape := ⟨2, ![4224, 1024]⟩
abbrev S1056x2816 : Shape := ⟨2, ![1056, 2816]⟩
abbrev S1056x1024 : Shape := ⟨2, ![1056, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x1024, .f32⟩
  | .local _ .vmem, ⟨0, _⟩ => ⟨S1056x2816, .bf16⟩
  | .local _ .vmem, ⟨1, _⟩ => ⟨S1056x2816, .bf16⟩
  | .local _ .vmem, ⟨2, _⟩ => ⟨S2816x1024, .bf16⟩
  | .local _ .vmem, ⟨3, _⟩ => ⟨S1056x1024, .f32⟩
  | .local _ .vmem, ⟨4, _⟩ => ⟨S1056x1024, .f32⟩
  | .local _ .vmem, ⟨5, _⟩ => ⟨S8x128, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1056x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDNormFfnIdeal.lean ====
abbrev S4224x2816 : Shape := ⟨2, ![4224, 2816]⟩
abbrev S2816x1024 : Shape := ⟨2, ![2816, 1024]⟩
abbrev S1024x2816 : Shape := ⟨2, ![1024, 2816]⟩
abbrev S4224x1024 : Shape := ⟨2, ![4224, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S1024x2816, .bf16⟩
  | .hbm, ⟨3, _⟩ => ⟨S1024x2816, .f32⟩
  | .hbm, ⟨4, _⟩ => ⟨S4224x2816, .f32⟩
  | .hbm, ⟨5, _⟩ => ⟨S4224x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelFfnDown.lean ====
abbrev S4224x2816 : Shape := ⟨2, ![4224, 2816]⟩
abbrev S2816x1024 : Shape := ⟨2, ![2816, 1024]⟩
abbrev S4224x1024 : Shape := ⟨2, ![4224, 1024]⟩
abbrev S1056x2816 : Shape := ⟨2, ![1056, 2816]⟩
abbrev S1056x1024 : Shape := ⟨2, ![1056, 1024]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x1024, .f32⟩
  | .hbm, ⟨3, _⟩ => ⟨S4224x1024, .f32⟩
  | .local _ .vmem, ⟨0, _⟩ => ⟨S1056x2816, .bf16⟩
  | .local _ .vmem, ⟨1, _⟩ => ⟨S1056x2816, .bf16⟩
  | .local _ .vmem, ⟨2, _⟩ => ⟨S2816x1024, .bf16⟩
  | .local _ .vmem, ⟨3, _⟩ => ⟨S1056x1024, .f32⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | .local _ .vmem, ⟨7, _⟩ => ⟨S8x128, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1056x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1056x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceFfnDownIdeal.lean ====
abbrev S4224x2816 : Shape := ⟨2, ![4224, 2816]⟩
abbrev S2816x1024 : Shape := ⟨2, ![2816, 1024]⟩
abbrev S4224x1024 : Shape := ⟨2, ![4224, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x1024, .f32⟩
  | .hbm, ⟨3, _⟩ => ⟨S4224x2816, .f32⟩
  | .hbm, ⟨4, _⟩ => ⟨S2816x1024, .f32⟩
  | .hbm, ⟨5, _⟩ => ⟨S4224x1024, .f32⟩
  | .hbm, ⟨6, _⟩ => ⟨S4224x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ReferenceDNormFfnUIdeal.lean ====
abbrev S4224x2816 : Shape := ⟨2, ![4224, 2816]⟩
abbrev S2816x1024 : Shape := ⟨2, ![2816, 1024]⟩
abbrev S4224x1024 : Shape := ⟨2, ![4224, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x1024, .f32⟩
  | .hbm, ⟨3, _⟩ => ⟨S1024x2816, .bf16⟩
  | .hbm, ⟨4, _⟩ => ⟨S1024x2816, .f32⟩
  | .hbm, ⟨5, _⟩ => ⟨S4224x2816, .f32⟩
  | .hbm, ⟨6, _⟩ => ⟨S4224x1024, .f32⟩
  | .hbm, ⟨7, _⟩ => ⟨S4224x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDFfnAct.lean ====
abbrev S4224x1024 : Shape := ⟨2, ![4224, 1024]⟩
abbrev S2816x1024 : Shape := ⟨2, ![2816, 1024]⟩
abbrev S4224x2816 : Shape := ⟨2, ![4224, 2816]⟩
abbrev S1056x1024 : Shape := ⟨2, ![1056, 1024]⟩
abbrev S1408x1024 : Shape := ⟨2, ![1408, 1024]⟩
abbrev S1056x1408 : Shape := ⟨2, ![1056, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S2816x1024, .bf16⟩
  | .hbm, ⟨2, _⟩ => ⟨S4224x2816, .bf16⟩
  | .local _ .vmem, ⟨0, _⟩ => ⟨S1056x1024, .f32⟩
  | .local _ .vmem, ⟨1, _⟩ => ⟨S1056x1024, .f32⟩
  | .local _ .vmem, ⟨2, _⟩ => ⟨S1408x1024, .bf16⟩
  | .local _ .vmem, ⟨3, _⟩ => ⟨S1408x1024, .bf16⟩
  | .local _ .vmem, ⟨4, _⟩ => ⟨S1056x1408, .bf16⟩
  | .local _ .vmem, ⟨5, _⟩ => ⟨S1056x1408, .bf16⟩
  | .local _ .vmem, ⟨6, _⟩ => ⟨S8x128, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1056x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDFfnActIdeal.lean ====
abbrev S4224x1024 : Shape := ⟨2, ![4224, 1024]⟩
abbrev S2816x1024 : Shape := ⟨2, ![2816, 1024]⟩
abbrev S4224x2816 : Shape := ⟨2, ![4224, 2816]⟩

abbrev nBuf : Space → Nat
  | .hbm => 5
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S2816x1024, .bf16⟩
  | .hbm, ⟨2, _⟩ => ⟨S2816x1024, .f32⟩
  | .hbm, ⟨3, _⟩ => ⟨S4224x2816, .f32⟩
  | .hbm, ⟨4, _⟩ => ⟨S4224x2816, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelGFfnDown.lean ====
abbrev S4224x2816 : Shape := ⟨2, ![4224, 2816]⟩
abbrev S4224x1024 : Shape := ⟨2, ![4224, 1024]⟩
abbrev S2816x1024 : Shape := ⟨2, ![2816, 1024]⟩
abbrev S2112x1408 : Shape := ⟨2, ![2112, 1408]⟩
abbrev S2112x1024 : Shape := ⟨2, ![2112, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .f32⟩
  | .hbm, ⟨2, _⟩ => ⟨S2816x1024, .bf16⟩
  | .local _ .vmem, ⟨0, _⟩ => ⟨S2112x1408, .bf16⟩
  | .local _ .vmem, ⟨1, _⟩ => ⟨S2112x1408, .bf16⟩
  | .local _ .vmem, ⟨2, _⟩ => ⟨S2112x1024, .f32⟩
  | .local _ .vmem, ⟨3, _⟩ => ⟨S2112x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2112x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2112x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGFfnDownIdeal.lean ====
abbrev S4224x2816 : Shape := ⟨2, ![4224, 2816]⟩
abbrev S4224x1024 : Shape := ⟨2, ![4224, 1024]⟩
abbrev S1024x2816 : Shape := ⟨2, ![1024, 2816]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .f32⟩
  | .hbm, ⟨2, _⟩ => ⟨S4224x2816, .f32⟩
  | .hbm, ⟨3, _⟩ => ⟨S1024x2816, .f32⟩
  | .hbm, ⟨4, _⟩ => ⟨S2816x1024, .f32⟩
  | .hbm, ⟨5, _⟩ => ⟨S2816x1024, .bf16⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelSsdOut.lean ====
abbrev S4224x2048 : Shape := ⟨2, ![4224, 2048]⟩
abbrev S2048x1024 : Shape := ⟨2, ![2048, 1024]⟩
abbrev S4224x1024 : Shape := ⟨2, ![4224, 1024]⟩
abbrev S1056x2048 : Shape := ⟨2, ![1056, 2048]⟩
abbrev S1056x1024 : Shape := ⟨2, ![1056, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S2048x1024, .bf16⟩
  | .hbm, ⟨2, _⟩ => ⟨S4224x1024, .bf16⟩
  | .local _ .vmem, ⟨0, _⟩ => ⟨S1056x2048, .bf16⟩
  | .local _ .vmem, ⟨1, _⟩ => ⟨S1056x2048, .bf16⟩
  | .local _ .vmem, ⟨2, _⟩ => ⟨S2048x1024, .bf16⟩
  | .local _ .vmem, ⟨3, _⟩ => ⟨S1056x1024, .bf16⟩
  | .local _ .vmem, ⟨4, _⟩ => ⟨S1056x1024, .bf16⟩
  | .local _ .vmem, ⟨5, _⟩ => ⟨S8x128, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceSsdOutIdeal.lean ====
abbrev S4224x2048 : Shape := ⟨2, ![4224, 2048]⟩
abbrev S2048x1024 : Shape := ⟨2, ![2048, 1024]⟩
abbrev S4224x1024 : Shape := ⟨2, ![4224, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x1024, .bf16⟩
  | .hbm, ⟨2, _⟩ => ⟨S4224x2048, .f32⟩
  | .hbm, ⟨3, _⟩ => ⟨S2048x1024, .f32⟩
  | .hbm, ⟨4, _⟩ => ⟨S4224x1024, .f32⟩
  | .hbm, ⟨5, _⟩ => ⟨S4224x1024, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelRetOut.lean ====
abbrev S4224x1024 : Shape := ⟨2, ![4224, 1024]⟩
abbrev S1024x1024 : Shape := ⟨2, ![1024, 1024]⟩
abbrev S1056x1024 : Shape := ⟨2, ![1056, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .bf16⟩
  | .local _ .vmem, ⟨0, _⟩ => ⟨S1056x1024, .bf16⟩
  | .local _ .vmem, ⟨1, _⟩ => ⟨S1056x1024, .bf16⟩
  | .local _ .vmem, ⟨2, _⟩ => ⟨S1024x1024, .bf16⟩
  | .local _ .vmem, ⟨3, _⟩ => ⟨S1056x1024, .bf16⟩
  | .local _ .vmem, ⟨4, _⟩ => ⟨S1056x1024, .bf16⟩
  | .local _ .vmem, ⟨5, _⟩ => ⟨S8x128, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceRetOutIdeal.lean ====
abbrev S4224x1024 : Shape := ⟨2, ![4224, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S1024x1024, .f32⟩
  | .hbm, ⟨4, _⟩ => ⟨S4224x1024, .f32⟩
  | .hbm, ⟨5, _⟩ => ⟨S4224x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelDRetAct.lean ====
abbrev S4224x1024 : Shape := ⟨2, ![4224, 1024]⟩
abbrev S1024x1024 : Shape := ⟨2, ![1024, 1024]⟩
abbrev S1056x1024 : Shape := ⟨2, ![1056, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .bf16⟩
  | .local _ .vmem, ⟨0, _⟩ => ⟨S1056x1024, .bf16⟩
  | .local _ .vmem, ⟨1, _⟩ => ⟨S1056x1024, .bf16⟩
  | .local _ .vmem, ⟨2, _⟩ => ⟨S1024x1024, .bf16⟩
  | .local _ .vmem, ⟨3, _⟩ => ⟨S1056x1024, .bf16⟩
  | .local _ .vmem, ⟨4, _⟩ => ⟨S1056x1024, .bf16⟩
  | .local _ .vmem, ⟨5, _⟩ => ⟨S8x128, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDRetActIdeal.lean ====
abbrev S4224x1024 : Shape := ⟨2, ![4224, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S1024x1024, .f32⟩
  | .hbm, ⟨3, _⟩ => ⟨S4224x1024, .f32⟩
  | .hbm, ⟨4, _⟩ => ⟨S4224x1024, .f32⟩
  | .hbm, ⟨5, _⟩ => ⟨S4224x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelGRetOut.lean ====
abbrev S4224x1024 : Shape := ⟨2, ![4224, 1024]⟩
abbrev S1024x1024 : Shape := ⟨2, ![1024, 1024]⟩
abbrev S2112x1024 : Shape := ⟨2, ![2112, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S1024x1024, .bf16⟩
  | .local _ .vmem, ⟨0, _⟩ => ⟨S2112x1024, .bf16⟩
  | .local _ .vmem, ⟨1, _⟩ => ⟨S2112x1024, .bf16⟩
  | .local _ .vmem, ⟨2, _⟩ => ⟨S2112x1024, .bf16⟩
  | .local _ .vmem, ⟨3, _⟩ => ⟨S2112x1024, .bf16⟩
  | .local _ .vmem, ⟨4, _⟩ => ⟨S1024x1024, .bf16⟩
  | .local _ .vmem, ⟨5, _⟩ => ⟨S1024x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceGRetOutIdeal.lean ====
abbrev S4224x1024 : Shape := ⟨2, ![4224, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4224x1024, .f32⟩
  | .hbm, ⟨3, _⟩ => ⟨S4224x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelMixOut.lean ====
abbrev S4224x1024 : Shape := ⟨2, ![4224, 1024]⟩
abbrev S1024x1024 : Shape := ⟨2, ![1024, 1024]⟩
abbrev S1056x1024 : Shape := ⟨2, ![1056, 1024]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S4224x1024, .f32⟩
  | .local _ .vmem, ⟨0, _⟩ => ⟨S1056x1024, .bf16⟩
  | .local _ .vmem, ⟨1, _⟩ => ⟨S1056x1024, .bf16⟩
  | .local _ .vmem, ⟨2, _⟩ => ⟨S1024x1024, .bf16⟩
  | .local _ .vmem, ⟨3, _⟩ => ⟨S1056x1024, .f32⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | .local _ .vmem, ⟨7, _⟩ => ⟨S8x128, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1056x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceMixOutIdeal.lean ====
abbrev S4224x1024 : Shape := ⟨2, ![4224, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S4224x1024, .f32⟩
  | .hbm, ⟨4, _⟩ => ⟨S1024x1024, .f32⟩
  | .hbm, ⟨5, _⟩ => ⟨S4224x1024, .f32⟩
  | .hbm, ⟨6, _⟩ => ⟨S4224x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDMerged.lean ====
abbrev S4224x1024 : Shape := ⟨2, ![4224, 1024]⟩
abbrev S1024x1024 : Shape := ⟨2, ![1024, 1024]⟩
abbrev S1056x1024 : Shape := ⟨2, ![1056, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024x1024, .bf16⟩
  | .hbm, ⟨2, _⟩ => ⟨S4224x1024, .bf16⟩
  | .local _ .vmem, ⟨0, _⟩ => ⟨S1056x1024, .f32⟩
  | .local _ .vmem, ⟨1, _⟩ => ⟨S1056x1024, .f32⟩
  | .local _ .vmem, ⟨2, _⟩ => ⟨S1024x1024, .bf16⟩
  | .local _ .vmem, ⟨3, _⟩ => ⟨S1056x1024, .bf16⟩
  | .local _ .vmem, ⟨4, _⟩ => ⟨S1056x1024, .bf16⟩
  | .local _ .vmem, ⟨5, _⟩ => ⟨S8x128, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDMergedIdeal.lean ====
abbrev S4224x1024 : Shape := ⟨2, ![4224, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .bf16⟩
  | .hbm, ⟨2, _⟩ => ⟨S1024x1024, .f32⟩
  | .hbm, ⟨3, _⟩ => ⟨S4224x1024, .f32⟩
  | .hbm, ⟨4, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelGOut.lean ====
abbrev S4224x1024 : Shape := ⟨2, ![4224, 1024]⟩
abbrev S1024x1024 : Shape := ⟨2, ![1024, 1024]⟩
abbrev S2112x1024 : Shape := ⟨2, ![2112, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .f32⟩
  | .hbm, ⟨2, _⟩ => ⟨S1024x1024, .bf16⟩
  | .local _ .vmem, ⟨0, _⟩ => ⟨S2112x1024, .bf16⟩
  | .local _ .vmem, ⟨1, _⟩ => ⟨S2112x1024, .bf16⟩
  | .local _ .vmem, ⟨2, _⟩ => ⟨S2112x1024, .f32⟩
  | .local _ .vmem, ⟨3, _⟩ => ⟨S2112x1024, .f32⟩
  | .local _ .vmem, ⟨4, _⟩ => ⟨S1024x1024, .bf16⟩
  | .local _ .vmem, ⟨5, _⟩ => ⟨S1024x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2112x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceGOutIdeal.lean ====
abbrev S4224x1024 : Shape := ⟨2, ![4224, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .f32⟩
  | .hbm, ⟨2, _⟩ => ⟨S4224x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelProjDt.lean ====
abbrev S4224x1024 : Shape := ⟨2, ![4224, 1024]⟩
abbrev S128x1024 : Shape := ⟨2, ![128, 1024]⟩
abbrev S4224x128 : Shape := ⟨2, ![4224, 128]⟩
abbrev S1056x1024 : Shape := ⟨2, ![1056, 1024]⟩
abbrev S1056x128 : Shape := ⟨2, ![1056, 128]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S128x1024, .bf16⟩
  | .hbm, ⟨2, _⟩ => ⟨S4224x128, .f32⟩
  | .local _ .vmem, ⟨0, _⟩ => ⟨S1056x1024, .bf16⟩
  | .local _ .vmem, ⟨1, _⟩ => ⟨S1056x1024, .bf16⟩
  | .local _ .vmem, ⟨2, _⟩ => ⟨S128x1024, .bf16⟩
  | .local _ .vmem, ⟨3, _⟩ => ⟨S1056x128, .f32⟩
  | .local _ .vmem, ⟨4, _⟩ => ⟨S1056x128, .f32⟩
  | .local _ .vmem, ⟨5, _⟩ => ⟨S8x128, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1056x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceProjDtIdeal.lean ====
abbrev S4224x1024 : Shape := ⟨2, ![4224, 1024]⟩
abbrev S128x1024 : Shape := ⟨2, ![128, 1024]⟩
abbrev S1024x128 : Shape := ⟨2, ![1024, 128]⟩
abbrev S4224x128 : Shape := ⟨2, ![4224, 128]⟩

abbrev nBuf : Space → Nat
  | .hbm => 6
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S128x1024, .bf16⟩
  | .hbm, ⟨2, _⟩ => ⟨S1024x128, .bf16⟩
  | .hbm, ⟨3, _⟩ => ⟨S4224x1024, .f32⟩
  | .hbm, ⟨4, _⟩ => ⟨S1024x128, .f32⟩
  | .hbm, ⟨5, _⟩ => ⟨S4224x128, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelGInDt.lean ====
abbrev S4224x128 : Shape := ⟨2, ![4224, 128]⟩
abbrev S4224x1024 : Shape := ⟨2, ![4224, 1024]⟩
abbrev S128x1024 : Shape := ⟨2, ![128, 1024]⟩
abbrev S2112x128 : Shape := ⟨2, ![2112, 128]⟩
abbrev S2112x1024 : Shape := ⟨2, ![2112, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x128, .bf16⟩
  | .hbm, ⟨1, _⟩ => ⟨S4224x1024, .bf16⟩
  | .hbm, ⟨2, _⟩ => ⟨S128x1024, .bf16⟩
  | .local _ .vmem, ⟨0, _⟩ => ⟨S2112x128, .bf16⟩
  | .local _ .vmem, ⟨1, _⟩ => ⟨S2112x128, .bf16⟩
  | .local _ .vmem, ⟨2, _⟩ => ⟨S2112x1024, .bf16⟩
  | .local _ .vmem, ⟨3, _⟩ => ⟨S2112x1024, .bf16⟩
  | .local _ .vmem, ⟨4, _⟩ => ⟨S128x1024, .bf16⟩
  | .local _ .vmem, ⟨5, _⟩ => ⟨S128x1024, .f32⟩
  | _, _ => ⟨S4224x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2112x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2112x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceGInDtIdeal.lean ====
abbrev S4224x128 : Shape := ⟨2, ![4224, 128]⟩
abbrev S4224x1024 : Shape := ⟨2, ![4224, 1024]⟩
abbrev S128x1024 : Shape := ⟨2, ![128, 1024]⟩
abbrev S1024x128 : Shape := ⟨2, ![1024, 128]⟩

abbrev nBuf : Space → Nat
  | .hbm => 8
  | .vmem => 0
  | .smem => 0
  | _ => 0

abbrev bufTy : (tb : Table) → Fin (tcTables nBuf tb) → BufTy
  | .hbm, ⟨0, _⟩ => ⟨S4224x128, .bf16⟩
  | .hbm, ⟨1, _⟩ => ⟨S4224x1024, .bf16⟩
  | .hbm, ⟨2, _⟩ => ⟨S4224x1024, .f32⟩
  | .hbm, ⟨3, _⟩ => ⟨S4224x128, .f32⟩
  | .hbm, ⟨4, _⟩ => ⟨S128x1024, .f32⟩
  | .hbm, ⟨5, _⟩ => ⟨S1024x128, .f32⟩
  | .hbm, ⟨6, _⟩ => ⟨S128x1024, .f32⟩
  | .hbm, ⟨7, _⟩ => ⟨S128x1024, .bf16⟩
  | _, _ => ⟨S4224x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelDUDt.lean ====
abbrev S4224x128 : Shape := ⟨2, ![4224, 128]⟩
abbrev S128x1024 : Shape := ⟨2, ![128, 1024]⟩
abbrev S4224x1024 : Shape := ⟨2, ![4224, 1024]⟩
abbrev S1056x128 : Shape := ⟨2, ![1056, 128]⟩
abbrev S1056x1024 : Shape := ⟨2, ![1056, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4224x128, .bf16⟩
  | .hbm, ⟨1, _⟩ => ⟨S128x1024, .bf16⟩
  | .hbm, ⟨2, _⟩ => ⟨S4224x1024, .f32⟩
  | .local _ .vmem, ⟨0, _⟩ => ⟨S1056x128, .bf16⟩
  | .local _ .vmem, ⟨1, _⟩ => ⟨S1056x128, .bf16⟩
  | .local _ .vmem, ⟨2, _⟩ => ⟨S128x1024, .bf16⟩
  | .local _ .vmem, ⟨3, _⟩ => ⟨S1056x1024, .f32⟩
  | .local _ .vmem, ⟨4, _⟩ => ⟨S1056x1024, .f32⟩
  | .local _ .vmem, ⟨5, _⟩ => ⟨S8x128, .f32⟩
  | _, _ => ⟨S4224x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1056x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDUDtIdeal.lean ====
abbrev S4224x128 : Shape := ⟨2, ![4224, 128]⟩
abbrev S128x1024 : Shape := ⟨2, ![128, 1024]⟩
abbrev S1024x128 : Shape := ⟨2, ![1024, 128]⟩
abbrev S4224x1024 : Shape := ⟨2, ![4224, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4224x128, .bf16⟩
  | .hbm, ⟨1, _⟩ => ⟨S128x1024, .bf16⟩
  | .hbm, ⟨2, _⟩ => ⟨S1024x128, .bf16⟩
  | .hbm, ⟨3, _⟩ => ⟨S1024x128, .f32⟩
  | .hbm, ⟨4, _⟩ => ⟨S4224x128, .f32⟩
  | .hbm, ⟨5, _⟩ => ⟨S4224x1024, .f32⟩
  | _, _ => ⟨S4224x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelY.lean ====
abbrev S4224x512 : Shape := ⟨2, ![4224, 512]⟩
abbrev S4224x8192 : Shape := ⟨2, ![4224, 8192]⟩
abbrev S4224x1024 : Shape := ⟨2, ![4224, 1024]⟩
abbrev S4224x128 : Shape := ⟨2, ![4224, 128]⟩
abbrev S4224x256 : Shape := ⟨2, ![4224, 256]⟩
abbrev S128x256 : Shape := ⟨2, ![128, 256]⟩
abbrev S128x128 : Shape := ⟨2, ![128, 128]⟩
abbrev S128x1 : Shape := ⟨2, ![128, 1]⟩

abbrev nBuf : Space → Nat
  | .hbm => 4
  | .vmem => 11
  | .smem => 0
  | _ => 0

abbrev bufTy : (tb : Table) → Fin (tcTables nBuf tb) → BufTy
  | .hbm, ⟨0, _⟩ => ⟨S4224x512, .f32⟩
  | .hbm, ⟨1, _⟩ => ⟨S4224x512, .f32⟩
  | .hbm, ⟨2, _⟩ => ⟨S4224x8192, .bf16⟩
  | .hbm, ⟨3, _⟩ => ⟨S4224x1024, .f32⟩
  | .local _ .vmem, ⟨0, _⟩ => ⟨S4224x128, .f32⟩
  | .local _ .vmem, ⟨1, _⟩ => ⟨S4224x128, .f32⟩
  | .local _ .vmem, ⟨2, _⟩ => ⟨S4224x128, .f32⟩
  | .local _ .vmem, ⟨3, _⟩ => ⟨S4224x128, .f32⟩
  | .local _ .vmem, ⟨4, _⟩ => ⟨S4224x256, .bf16⟩
  | .local _ .vmem, ⟨5, _⟩ => ⟨S4224x256, .bf16⟩
  | .local _ .vmem, ⟨6, _⟩ => ⟨S4224x256, .f32⟩
  | .local _ .vmem, ⟨7, _⟩ => ⟨S4224x256, .f32⟩
  | .local _ .vmem, ⟨8, _⟩ => ⟨S4224x256, .f32⟩
  | .local _ .vmem, ⟨9, _⟩ => ⟨S128x256, .f32⟩
  | .local _ .vmem, ⟨10, _⟩ => ⟨S128x256, .f32⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def k0_mult1 : BitVec 32 :=
  let c0_i32_15 : BitVec 32 := 0#32
  let c128_i32 : BitVec 32 := 128#32
  let v48 : BitVec 32 := Scalar.muli c0_i32_15 c128_i32
  v48
def k0_off1 (c0_i32_15 : BitVec 32) : Fin 2 → Nat :=
  let c128_i32 : BitVec 32 := 128#32
  let v48 : BitVec 32 := Scalar.muli c0_i32_15 c128_i32
  let v49 : BitVec 32 := v48
  let v50 : Index := Scalar.indexCast v49
  let c0_16 : Index := 0#32
  ![v50.toNat, 0]
def k0_off2 (c0_i32_15 : BitVec 32) : Fin 2 → Nat :=
  let c128_i32 : BitVec 32 := 128#32
  let v48 : BitVec 32 := Scalar.muli c0_i32_15 c128_i32
  let v49 : BitVec 32 := v48
  let v54 : Index := Scalar.indexCast v49
  let c0_18 : Index := 0#32
  ![v54.toNat, 0]
def k0_mult2 : BitVec 32 :=
  let c32_i32 : BitVec 32 := 32#32
  let c0_i32_15 : BitVec 32 := 0#32
  let v87 : BitVec 32 := Scalar.subi c32_i32 c0_i32_15
  let c128_i32_31 : BitVec 32 := 128#32
  let v88 : BitVec 32 := Scalar.muli v87 c128_i32_31
  v88
def k0_off3 (c0_i32_15 : BitVec 32) : Fin 2 → Nat :=
  let c32_i32 : BitVec 32 := 32#32
  let v87 : BitVec 32 := Scalar.subi c32_i32 c0_i32_15
  let c128_i32_31 : BitVec 32 := 128#32
  let v88 : BitVec 32 := Scalar.muli v87 c128_i32_31
  let v89 : BitVec 32 := v88
  let v90 : Index := Scalar.indexCast v89
  let c0_32 : Index := 0#32
  ![v90.toNat, 0]
def k0_off4 (c0_i32_15 : BitVec 32) : Fin 2 → Nat :=
  let c32_i32 : BitVec 32 := 32#32
  let v87 : BitVec 32 := Scalar.subi c32_i32 c0_i32_15
  let c128_i32_31 : BitVec 32 := 128#32
  let v88 : BitVec 32 := Scalar.muli v87 c128_i32_31
  let v89 : BitVec 32 := v88
  let v94 : Index := Scalar.indexCast v89
  let c0_34 : Index := 0#32
  ![v94.toNat, 0]
def k0_mult3 : BitVec 32 :=
  let c1_i32_45 : BitVec 32 := 1#32
  let c128_i32_46 : BitVec 32 := 128#32
  let v120 : BitVec 32 := Scalar.muli c1_i32_45 c128_i32_46
  v120
def k0_mult4 : BitVec 32 :=
  let c32_i32_62 : BitVec 32 := 32#32
  let c1_i32_45 : BitVec 32 := 1#32
  let v159 : BitVec 32 := Scalar.subi c32_i32_62 c1_i32_45
  let c128_i32_63 : BitVec 32 := 128#32
  let v160 : BitVec 32 := Scalar.muli v159 c128_i32_63
  v160
def k0_mult5 : BitVec 32 :=
  let c2_i32_77 : BitVec 32 := 2#32
  let c128_i32_78 : BitVec 32 := 128#32
  let v192 : BitVec 32 := Scalar.muli c2_i32_77 c128_i32_78
  v192
def k0_mult6 : BitVec 32 :=
  let c32_i32_94 : BitVec 32 := 32#32
  let c2_i32_77 : BitVec 32 := 2#32
  let v231 : BitVec 32 := Scalar.subi c32_i32_94 c2_i32_77
  let c128_i32_95 : BitVec 32 := 128#32
  let v232 : BitVec 32 := Scalar.muli v231 c128_i32_95
  v232
def k0_mult7 : BitVec 32 :=
  let c3_i32 : BitVec 32 := 3#32
  let c128_i32_109 : BitVec 32 := 128#32
  let v264 : BitVec 32 := Scalar.muli c3_i32 c128_i32_109
  v264
def k0_mult8 : BitVec 32 :=
  let c32_i32_125 : BitVec 32 := 32#32
  let c3_i32 : BitVec 32 := 3#32
  let v303 : BitVec 32 := Scalar.subi c32_i32_125 c3_i32
  let c128_i32_126 : BitVec 32 := 128#32
  let v304 : BitVec 32 := Scalar.muli v303 c128_i32_126
  v304
def k0_mult9 : BitVec 32 :=
  let c4_i32 : BitVec 32 := 4#32
  let c128_i32_140 : BitVec 32 := 128#32
  let v336 : BitVec 32 := Scalar.muli c4_i32 c128_i32_140
  v336
def k0_mult10 : BitVec 32 :=
  let c32_i32_156 : BitVec 32 := 32#32
  let c4_i32 : BitVec 32 := 4#32
  let v375 : BitVec 32 := Scalar.subi c32_i32_156 c4_i32
  let c128_i32_157 : BitVec 32 := 128#32
  let v376 : BitVec 32 := Scalar.muli v375 c128_i32_157
  v376
def k0_mult11 : BitVec 32 :=
  let c5_i32 : BitVec 32 := 5#32
  let c128_i32_171 : BitVec 32 := 128#32
  let v408 : BitVec 32 := Scalar.muli c5_i32 c128_i32_171
  v408
def k0_mult12 : BitVec 32 :=
  let c32_i32_187 : BitVec 32 := 32#32
  let c5_i32 : BitVec 32 := 5#32
  let v447 : BitVec 32 := Scalar.subi c32_i32_187 c5_i32
  let c128_i32_188 : BitVec 32 := 128#32
  let v448 : BitVec 32 := Scalar.muli v447 c128_i32_188
  v448
def k0_mult13 : BitVec 32 :=
  let c6_i32 : BitVec 32 := 6#32
  let c128_i32_202 : BitVec 32 := 128#32
  let v480 : BitVec 32 := Scalar.muli c6_i32 c128_i32_202
  v480
def k0_mult14 : BitVec 32 :=
  let c32_i32_218 : BitVec 32 := 32#32
  let c6_i32 : BitVec 32 := 6#32
  let v519 : BitVec 32 := Scalar.subi c32_i32_218 c6_i32
  let c128_i32_219 : BitVec 32 := 128#32
  let v520 : BitVec 32 := Scalar.muli v519 c128_i32_219
  v520
def k0_mult15 : BitVec 32 :=
  let c7_i32 : BitVec 32 := 7#32
  let c128_i32_233 : BitVec 32 := 128#32
  let v552 : BitVec 32 := Scalar.muli c7_i32 c128_i32_233
  v552
def k0_mult16 : BitVec 32 :=
  let c32_i32_249 : BitVec 32 := 32#32
  let c7_i32 : BitVec 32 := 7#32
  let v591 : BitVec 32 := Scalar.subi c32_i32_249 c7_i32
  let c128_i32_250 : BitVec 32 := 128#32
  let v592 : BitVec 32 := Scalar.muli v591 c128_i32_250
  v592
def k0_mult17 : BitVec 32 :=
  let c8_i32 : BitVec 32 := 8#32
  let c128_i32_264 : BitVec 32 := 128#32
  let v624 : BitVec 32 := Scalar.muli c8_i32 c128_i32_264
  v624
def k0_mult18 : BitVec 32 :=
  let c32_i32_280 : BitVec 32 := 32#32
  let c8_i32 : BitVec 32 := 8#32
  let v663 : BitVec 32 := Scalar.subi c32_i32_280 c8_i32
  let c128_i32_281 : BitVec 32 := 128#32
  let v664 : BitVec 32 := Scalar.muli v663 c128_i32_281
  v664
def k0_mult19 : BitVec 32 :=
  let c9_i32 : BitVec 32 := 9#32
  let c128_i32_295 : BitVec 32 := 128#32
  let v696 : BitVec 32 := Scalar.muli c9_i32 c128_i32_295
  v696
def k0_mult20 : BitVec 32 :=
  let c32_i32_311 : BitVec 32 := 32#32
  let c9_i32 : BitVec 32 := 9#32
  let v735 : BitVec 32 := Scalar.subi c32_i32_311 c9_i32
  let c128_i32_312 : BitVec 32 := 128#32
  let v736 : BitVec 32 := Scalar.muli v735 c128_i32_312
  v736
def k0_mult21 : BitVec 32 :=
  let c10_i32 : BitVec 32 := 10#32
  let c128_i32_326 : BitVec 32 := 128#32
  let v768 : BitVec 32 := Scalar.muli c10_i32 c128_i32_326
  v768
def k0_mult22 : BitVec 32 :=
  let c32_i32_342 : BitVec 32 := 32#32
  let c10_i32 : BitVec 32 := 10#32
  let v807 : BitVec 32 := Scalar.subi c32_i32_342 c10_i32
  let c128_i32_343 : BitVec 32 := 128#32
  let v808 : BitVec 32 := Scalar.muli v807 c128_i32_343
  v808
def k0_mult23 : BitVec 32 :=
  let c11_i32 : BitVec 32 := 11#32
  let c128_i32_357 : BitVec 32 := 128#32
  let v840 : BitVec 32 := Scalar.muli c11_i32 c128_i32_357
  v840
def k0_mult24 : BitVec 32 :=
  let c32_i32_373 : BitVec 32 := 32#32
  let c11_i32 : BitVec 32 := 11#32
  let v879 : BitVec 32 := Scalar.subi c32_i32_373 c11_i32
  let c128_i32_374 : BitVec 32 := 128#32
  let v880 : BitVec 32 := Scalar.muli v879 c128_i32_374
  v880
def k0_mult25 : BitVec 32 :=
  let c12_i32 : BitVec 32 := 12#32
  let c128_i32_388 : BitVec 32 := 128#32
  let v912 : BitVec 32 := Scalar.muli c12_i32 c128_i32_388
  v912
def k0_mult26 : BitVec 32 :=
  let c32_i32_404 : BitVec 32 := 32#32
  let c12_i32 : BitVec 32 := 12#32
  let v951 : BitVec 32 := Scalar.subi c32_i32_404 c12_i32
  let c128_i32_405 : BitVec 32 := 128#32
  let v952 : BitVec 32 := Scalar.muli v951 c128_i32_405
  v952
def k0_mult27 : BitVec 32 :=
  let c13_i32 : BitVec 32 := 13#32
  let c128_i32_419 : BitVec 32 := 128#32
  let v984 : BitVec 32 := Scalar.muli c13_i32 c128_i32_419
  v984
def k0_mult28 : BitVec 32 :=
  let c32_i32_435 : BitVec 32 := 32#32
  let c13_i32 : BitVec 32 := 13#32
  let v1023 : BitVec 32 := Scalar.subi c32_i32_435 c13_i32
  let c128_i32_436 : BitVec 32 := 128#32
  let v1024 : BitVec 32 := Scalar.muli v1023 c128_i32_436
  v1024
def k0_mult29 : BitVec 32 :=
  let c14_i32 : BitVec 32 := 14#32
  let c128_i32_450 : BitVec 32 := 128#32
  let v1056 : BitVec 32 := Scalar.muli c14_i32 c128_i32_450
  v1056
def k0_mult30 : BitVec 32 :=
  let c32_i32_466 : BitVec 32 := 32#32
  let c14_i32 : BitVec 32 := 14#32
  let v1095 : BitVec 32 := Scalar.subi c32_i32_466 c14_i32
  let c128_i32_467 : BitVec 32 := 128#32
  let v1096 : BitVec 32 := Scalar.muli v1095 c128_i32_467
  v1096
def k0_mult31 : BitVec 32 :=
  let c15_i32 : BitVec 32 := 15#32
  let c128_i32_481 : BitVec 32 := 128#32
  let v1128 : BitVec 32 := Scalar.muli c15_i32 c128_i32_481
  v1128
def k0_mult32 : BitVec 32 :=
  let c32_i32_497 : BitVec 32 := 32#32
  let c15_i32 : BitVec 32 := 15#32
  let v1167 : BitVec 32 := Scalar.subi c32_i32_497 c15_i32
  let c128_i32_498 : BitVec 32 := 128#32
  let v1168 : BitVec 32 := Scalar.muli v1167 c128_i32_498
  v1168
def k0_mult33 : BitVec 32 :=
  let c16_i32 : BitVec 32 := 16#32
  let c128_i32_512 : BitVec 32 := 128#32
  let v1200 : BitVec 32 := Scalar.muli c16_i32 c128_i32_512
  v1200
def k0_mult34 : BitVec 32 :=
  let c32_i32_528 : BitVec 32 := 32#32
  let c16_i32 : BitVec 32 := 16#32
  let v1239 : BitVec 32 := Scalar.subi c32_i32_528 c16_i32
  let c128_i32_529 : BitVec 32 := 128#32
  let v1240 : BitVec 32 := Scalar.muli v1239 c128_i32_529
  v1240
def k0_mult35 : BitVec 32 :=
  let c17_i32 : BitVec 32 := 17#32
  let c128_i32_543 : BitVec 32 := 128#32
  let v1272 : BitVec 32 := Scalar.muli c17_i32 c128_i32_543
  v1272
def k0_mult36 : BitVec 32 :=
  let c32_i32_559 : BitVec 32 := 32#32
  let c17_i32 : BitVec 32 := 17#32
  let v1311 : BitVec 32 := Scalar.subi c32_i32_559 c17_i32
  let c128_i32_560 : BitVec 32 := 128#32
  let v1312 : BitVec 32 := Scalar.muli v1311 c128_i32_560
  v1312
def k0_mult37 : BitVec 32 :=
  let c18_i32 : BitVec 32 := 18#32
  let c128_i32_574 : BitVec 32 := 128#32
  let v1344 : BitVec 32 := Scalar.muli c18_i32 c128_i32_574
  v1344
def k0_mult38 : BitVec 32 :=
  let c32_i32_590 : BitVec 32 := 32#32
  let c18_i32 : BitVec 32 := 18#32
  let v1383 : BitVec 32 := Scalar.subi c32_i32_590 c18_i32
  let c128_i32_591 : BitVec 32 := 128#32
  let v1384 : BitVec 32 := Scalar.muli v1383 c128_i32_591
  v1384
def k0_mult39 : BitVec 32 :=
  let c19_i32 : BitVec 32 := 19#32
  let c128_i32_605 : BitVec 32 := 128#32
  let v1416 : BitVec 32 := Scalar.muli c19_i32 c128_i32_605
  v1416
def k0_mult40 : BitVec 32 :=
  let c32_i32_621 : BitVec 32 := 32#32
  let c19_i32 : BitVec 32 := 19#32
  let v1455 : BitVec 32 := Scalar.subi c32_i32_621 c19_i32
  let c128_i32_622 : BitVec 32 := 128#32
  let v1456 : BitVec 32 := Scalar.muli v1455 c128_i32_622
  v1456
def k0_mult41 : BitVec 32 :=
  let c20_i32 : BitVec 32 := 20#32
  let c128_i32_636 : BitVec 32 := 128#32
  let v1488 : BitVec 32 := Scalar.muli c20_i32 c128_i32_636
  v1488
def k0_mult42 : BitVec 32 :=
  let c32_i32_652 : BitVec 32 := 32#32
  let c20_i32 : BitVec 32 := 20#32
  let v1527 : BitVec 32 := Scalar.subi c32_i32_652 c20_i32
  let c128_i32_653 : BitVec 32 := 128#32
  let v1528 : BitVec 32 := Scalar.muli v1527 c128_i32_653
  v1528
def k0_mult43 : BitVec 32 :=
  let c21_i32 : BitVec 32 := 21#32
  let c128_i32_667 : BitVec 32 := 128#32
  let v1560 : BitVec 32 := Scalar.muli c21_i32 c128_i32_667
  v1560
def k0_mult44 : BitVec 32 :=
  let c32_i32_683 : BitVec 32 := 32#32
  let c21_i32 : BitVec 32 := 21#32
  let v1599 : BitVec 32 := Scalar.subi c32_i32_683 c21_i32
  let c128_i32_684 : BitVec 32 := 128#32
  let v1600 : BitVec 32 := Scalar.muli v1599 c128_i32_684
  v1600
def k0_mult45 : BitVec 32 :=
  let c22_i32 : BitVec 32 := 22#32
  let c128_i32_698 : BitVec 32 := 128#32
  let v1632 : BitVec 32 := Scalar.muli c22_i32 c128_i32_698
  v1632
def k0_mult46 : BitVec 32 :=
  let c32_i32_714 : BitVec 32 := 32#32
  let c22_i32 : BitVec 32 := 22#32
  let v1671 : BitVec 32 := Scalar.subi c32_i32_714 c22_i32
  let c128_i32_715 : BitVec 32 := 128#32
  let v1672 : BitVec 32 := Scalar.muli v1671 c128_i32_715
  v1672
def k0_mult47 : BitVec 32 :=
  let c23_i32 : BitVec 32 := 23#32
  let c128_i32_729 : BitVec 32 := 128#32
  let v1704 : BitVec 32 := Scalar.muli c23_i32 c128_i32_729
  v1704
def k0_mult48 : BitVec 32 :=
  let c32_i32_745 : BitVec 32 := 32#32
  let c23_i32 : BitVec 32 := 23#32
  let v1743 : BitVec 32 := Scalar.subi c32_i32_745 c23_i32
  let c128_i32_746 : BitVec 32 := 128#32
  let v1744 : BitVec 32 := Scalar.muli v1743 c128_i32_746
  v1744
def k0_mult49 : BitVec 32 :=
  let c24_i32 : BitVec 32 := 24#32
  let c128_i32_760 : BitVec 32 := 128#32
  let v1776 : BitVec 32 := Scalar.muli c24_i32 c128_i32_760
  v1776
def k0_mult50 : BitVec 32 :=
  let c32_i32_776 : BitVec 32 := 32#32
  let c24_i32 : BitVec 32 := 24#32
  let v1815 : BitVec 32 := Scalar.subi c32_i32_776 c24_i32
  let c128_i32_777 : BitVec 32 := 128#32
  let v1816 : BitVec 32 := Scalar.muli v1815 c128_i32_777
  v1816
def k0_mult51 : BitVec 32 :=
  let c25_i32 : BitVec 32 := 25#32
  let c128_i32_791 : BitVec 32 := 128#32
  let v1848 : BitVec 32 := Scalar.muli c25_i32 c128_i32_791
  v1848
def k0_mult52 : BitVec 32 :=
  let c32_i32_807 : BitVec 32 := 32#32
  let c25_i32 : BitVec 32 := 25#32
  let v1887 : BitVec 32 := Scalar.subi c32_i32_807 c25_i32
  let c128_i32_808 : BitVec 32 := 128#32
  let v1888 : BitVec 32 := Scalar.muli v1887 c128_i32_808
  v1888
def k0_mult53 : BitVec 32 :=
  let c26_i32 : BitVec 32 := 26#32
  let c128_i32_822 : BitVec 32 := 128#32
  let v1920 : BitVec 32 := Scalar.muli c26_i32 c128_i32_822
  v1920
def k0_mult54 : BitVec 32 :=
  let c32_i32_838 : BitVec 32 := 32#32
  let c26_i32 : BitVec 32 := 26#32
  let v1959 : BitVec 32 := Scalar.subi c32_i32_838 c26_i32
  let c128_i32_839 : BitVec 32 := 128#32
  let v1960 : BitVec 32 := Scalar.muli v1959 c128_i32_839
  v1960
def k0_mult55 : BitVec 32 :=
  let c27_i32 : BitVec 32 := 27#32
  let c128_i32_853 : BitVec 32 := 128#32
  let v1992 : BitVec 32 := Scalar.muli c27_i32 c128_i32_853
  v1992
def k0_mult56 : BitVec 32 :=
  let c32_i32_869 : BitVec 32 := 32#32
  let c27_i32 : BitVec 32 := 27#32
  let v2031 : BitVec 32 := Scalar.subi c32_i32_869 c27_i32
  let c128_i32_870 : BitVec 32 := 128#32
  let v2032 : BitVec 32 := Scalar.muli v2031 c128_i32_870
  v2032
def k0_mult57 : BitVec 32 :=
  let c28_i32 : BitVec 32 := 28#32
  let c128_i32_884 : BitVec 32 := 128#32
  let v2064 : BitVec 32 := Scalar.muli c28_i32 c128_i32_884
  v2064
def k0_mult58 : BitVec 32 :=
  let c32_i32_900 : BitVec 32 := 32#32
  let c28_i32 : BitVec 32 := 28#32
  let v2103 : BitVec 32 := Scalar.subi c32_i32_900 c28_i32
  let c128_i32_901 : BitVec 32 := 128#32
  let v2104 : BitVec 32 := Scalar.muli v2103 c128_i32_901
  v2104
def k0_mult59 : BitVec 32 :=
  let c29_i32 : BitVec 32 := 29#32
  let c128_i32_915 : BitVec 32 := 128#32
  let v2136 : BitVec 32 := Scalar.muli c29_i32 c128_i32_915
  v2136
def k0_mult60 : BitVec 32 :=
  let c32_i32_931 : BitVec 32 := 32#32
  let c29_i32 : BitVec 32 := 29#32
  let v2175 : BitVec 32 := Scalar.subi c32_i32_931 c29_i32
  let c128_i32_932 : BitVec 32 := 128#32
  let v2176 : BitVec 32 := Scalar.muli v2175 c128_i32_932
  v2176
def k0_mult61 : BitVec 32 :=
  let c30_i32 : BitVec 32 := 30#32
  let c128_i32_946 : BitVec 32 := 128#32
  let v2208 : BitVec 32 := Scalar.muli c30_i32 c128_i32_946
  v2208
def k0_mult62 : BitVec 32 :=
  let c32_i32_962 : BitVec 32 := 32#32
  let c30_i32 : BitVec 32 := 30#32
  let v2247 : BitVec 32 := Scalar.subi c32_i32_962 c30_i32
  let c128_i32_963 : BitVec 32 := 128#32
  let v2248 : BitVec 32 := Scalar.muli v2247 c128_i32_963
  v2248
def k0_mult63 : BitVec 32 :=
  let c31_i32 : BitVec 32 := 31#32
  let c128_i32_977 : BitVec 32 := 128#32
  let v2280 : BitVec 32 := Scalar.muli c31_i32 c128_i32_977
  v2280
def k0_mult64 : BitVec 32 :=
  let c32_i32_993 : BitVec 32 := 32#32
  let c31_i32 : BitVec 32 := 31#32
  let v2319 : BitVec 32 := Scalar.subi c32_i32_993 c31_i32
  let c128_i32_994 : BitVec 32 := 128#32
  let v2320 : BitVec 32 := Scalar.muli v2319 c128_i32_994
  v2320
def k0_mult65 : BitVec 32 :=
  let c32_i32_1008 : BitVec 32 := 32#32
  let c128_i32_1009 : BitVec 32 := 128#32
  let v2352 : BitVec 32 := Scalar.muli c32_i32_1008 c128_i32_1009
  v2352
def k0_mult66 : BitVec 32 :=
  let c32_i32_1025 : BitVec 32 := 32#32
  let c32_i32_1008 : BitVec 32 := 32#32
  let v2391 : BitVec 32 := Scalar.subi c32_i32_1025 c32_i32_1008
  let c128_i32_1026 : BitVec 32 := 128#32
  let v2392 : BitVec 32 := Scalar.muli v2391 c128_i32_1026
  v2392
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S4224x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4224x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4224x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4224x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelYIdeal.lean ====
variable {F : FTy → Type} [FloatOps F] [Named F]
def κ : String → Option EReal := fun
  | "log_gamma_0" => some ((Real.log (31 / 32) : ℝ) : EReal)
  | "log_gamma_1" => some ((Real.log (63 / 64) : ℝ) : EReal)
  | "log_gamma_2" => some ((Real.log (127 / 128) : ℝ) : EReal)
  | "log_gamma_3" => some ((Real.log (255 / 256) : ℝ) : EReal)
  | _ => none
-- ==== ReferenceYIdeal.lean ====
abbrev S4224x512 : Shape := ⟨2, ![4224, 512]⟩
abbrev S4224x8192 : Shape := ⟨2, ![4224, 8192]⟩
abbrev S1x4224x4x128 : Shape := ⟨4, ![1, 4224, 4, 128]⟩
abbrev S4224x1024 : Shape := ⟨2, ![4224, 1024]⟩
abbrev S1x4224x4x256 : Shape := ⟨4, ![1, 4224, 4, 256]⟩
abbrev S4 : Shape := ⟨1, ![4]⟩
abbrev S_ : Shape := ⟨0, ![]⟩
abbrev S1x33x128x4x128 : Shape := ⟨5, ![1, 33, 128, 4, 128]⟩
abbrev S1x33x128x4x256 : Shape := ⟨5, ![1, 33, 128, 4, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x33x4x128x128 : Shape := ⟨5, ![1, 33, 4, 128, 128]⟩
abbrev S1x1x4x128x128 : Shape := ⟨5, ![1, 1, 4, 128, 128]⟩
abbrev S1x33x4x256x128 : Shape := ⟨5, ![1, 33, 4, 256, 128]⟩
abbrev S2x4224x4x128 : Shape := ⟨4, ![2, 4224, 4, 128]⟩
abbrev S2x33x128x4x128 : Shape := ⟨5, ![2, 33, 128, 4, 128]⟩
abbrev S2x4224x4x256 : Shape := ⟨4, ![2, 4224, 4, 256]⟩
abbrev S2x33x128x4x256 : Shape := ⟨5, ![2, 33, 128, 4, 256]⟩
abbrev S1x4 : Shape := ⟨2, ![1, 4]⟩
abbrev S128x4 : Shape := ⟨2, ![128, 4]⟩
abbrev S1x1x128x4x1 : Shape := ⟨5, ![1, 1, 128, 4, 1]⟩
abbrev S2x33x4x128x256 : Shape := ⟨5, ![2, 33, 4, 128, 256]⟩
abbrev S1x1x4x1x1 : Shape := ⟨5, ![1, 1, 4, 1, 1]⟩
abbrev S2x33x4x1x1 : Shape := ⟨5, ![2, 33, 4, 1, 1]⟩
abbrev S33x2x4x128x256 : Shape := ⟨5, ![33, 2, 4, 128, 256]⟩
abbrev S33x2x4x1x1 : Shape := ⟨5, ![33, 2, 4, 1, 1]⟩
abbrev S1x2x4x128x256 : Shape := ⟨5, ![1, 2, 4, 128, 256]⟩
abbrev S2x4x128x256 : Shape := ⟨4, ![2, 4, 128, 256]⟩
abbrev S1x2x4x1x1 : Shape := ⟨5, ![1, 2, 4, 1, 1]⟩
abbrev S2x4x1x1 : Shape := ⟨4, ![2, 4, 1, 1]⟩
abbrev S2x33x4x256x128 : Shape := ⟨5, ![2, 33, 4, 256, 128]⟩

abbrev nBuf : Space → Nat
  | .hbm => 132
  | .vmem => 0
  | .smem => 0
  | _ => 0

abbrev hbmTy0_0 (i : Nat) : BufTy := match i % 128 with
  | 0 => ⟨S4224x512, .f32⟩
  | 1 => ⟨S4224x512, .f32⟩
  | 2 => ⟨S4224x8192, .bf16⟩
  | 3 => ⟨S1x4224x4x128, .f32⟩
  | 4 => ⟨S1x4224x4x128, .f32⟩
  | 5 => ⟨S4224x1024, .bf16⟩
  | 6 => ⟨S4224x1024, .f32⟩
  | 7 => ⟨S1x4224x4x256, .f32⟩
  | 8 => ⟨S4, .f32⟩
  | 9 => ⟨S_, .f32⟩
  | 10 => ⟨S4, .f32⟩
  | 11 => ⟨S4, .f32⟩
  | 12 => ⟨S_, .f32⟩
  | 13 => ⟨S4, .f32⟩
  | 14 => ⟨S4, .f32⟩
  | 15 => ⟨S_, .f32⟩
  | 16 => ⟨S4, .f32⟩
  | 17 => ⟨S4, .f32⟩
  | 18 => ⟨S4, .f32⟩
  | 19 => ⟨S1x33x128x4x128, .f32⟩
  | 20 => ⟨S1x33x128x4x128, .f32⟩
  | 21 => ⟨S1x33x128x4x256, .f32⟩
  | 22 => ⟨S128, .f32⟩
  | 23 => ⟨S128x1, .f32⟩
  | 24 => ⟨S1x128, .f32⟩
  | 25 => ⟨S128x128, .f32⟩
  | 26 => ⟨S128x128, .f32⟩
  | 27 => ⟨S128x128, .f32⟩
  | 28 => ⟨S128x128, .f32⟩
  | 29 => ⟨S4x1x1, .f32⟩
  | 30 => ⟨S1x128x128, .f32⟩
  | 31 => ⟨S4x128x128, .f32⟩
  | 32 => ⟨S4x128x128, .f32⟩
  | 33 => ⟨S4x128x128, .f32⟩
  | 34 => ⟨S4x128x128, .f32⟩
  | 35 => ⟨S1x33x4x128x128, .f32⟩
  | 36 => ⟨S1x1x4x128x128, .f32⟩
  | 37 => ⟨S1x33x4x128x128, .f32⟩
  | 38 => ⟨S1x33x4x128x128, .f32⟩
  | 39 => ⟨S1x33x4x256x128, .f32⟩
  | 40 => ⟨S1x33x128x4x256, .f32⟩
  | 41 => ⟨S1x4224x4x128, .f32⟩
  | 42 => ⟨S2x4224x4x128, .f32⟩
  | 43 => ⟨S2x33x128x4x128, .f32⟩
  | 44 => ⟨S1x4224x4x128, .f32⟩
  | 45 => ⟨S2x4224x4x128, .f32⟩
  | 46 => ⟨S2x33x128x4x128, .f32⟩
  | 47 => ⟨S1x4224x4x256, .f32⟩
  | 48 => ⟨S2x4224x4x256, .f32⟩
  | 49 => ⟨S2x33x128x4x256, .f32⟩
  | 50 => ⟨S128, .f32⟩
  | 51 => ⟨S_, .f32⟩
  | 52 => ⟨S128, .f32⟩
  | 53 => ⟨S128, .f32⟩
  | 54 => ⟨S128x1, .f32⟩
  | 55 => ⟨S1x4, .f32⟩
  | 56 => ⟨S128x4, .f32⟩
  | 57 => ⟨S128x4, .f32⟩
  | 58 => ⟨S128x4, .f32⟩
  | 59 => ⟨S128x4, .f32⟩
  | 60 => ⟨S_, .f32⟩
  | 61 => ⟨S128, .f32⟩
  | 62 => ⟨S128, .f32⟩
  | 63 => ⟨S128x1, .f32⟩
  | 64 => ⟨S1x4, .f32⟩
  | 65 => ⟨S128x4, .f32⟩
  | 66 => ⟨S128x4, .f32⟩
  | 67 => ⟨S128x4, .f32⟩
  | 68 => ⟨S128x4, .f32⟩
  | 69 => ⟨S1x1x128x4x1, .f32⟩
  | 70 => ⟨S2x33x128x4x128, .f32⟩
  | 71 => ⟨S2x33x128x4x128, .f32⟩
  | 72 => ⟨S2x33x4x128x256, .f32⟩
  | 73 => ⟨S_, .f32⟩
  | 74 => ⟨S4, .f32⟩
  | 75 => ⟨S4, .f32⟩
  | 76 => ⟨S4, .f32⟩
  | 77 => ⟨S1x1x4x1x1, .f32⟩
  | 78 => ⟨S2x33x4x1x1, .f32⟩
  | 79 => ⟨S33x2x4x128x256, .f32⟩
  | 80 => ⟨S33x2x4x1x1, .f32⟩
  | 81 => ⟨S1x2x4x128x256, .f32⟩
  | 82 => ⟨S2x4x128x256, .f32⟩
  | 83 => ⟨S_, .f32⟩
  | 84 => ⟨S2x4x128x256, .f32⟩
  | 85 => ⟨S_, .f32⟩
  | 86 => ⟨S33x2x4x128x256, .f32⟩
  | 87 => ⟨S_, .i32⟩
  | 88 => ⟨S33x2x4x128x256, .f32⟩
  | 89 => ⟨S33x2x4x1x1, .f32⟩
  | 90 => ⟨S_, .i32⟩
  | 91 => ⟨S2x4x128x256, .f32⟩
  | 92 => ⟨S33x2x4x128x256, .f32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S1x2x4x128x256, .f32⟩
  | 100 => ⟨S2x4x128x256, .f32⟩
  | 101 => ⟨S_, .i32⟩
  | 102 => ⟨S_, .i32⟩
  | 103 => ⟨S_, .i32⟩
  | 104 => ⟨S_, .i32⟩
  | 105 => ⟨S1x2x4x1x1, .f32⟩
  | 106 => ⟨S2x4x1x1, .f32⟩
  | 107 => ⟨S2x4x128x256, .f32⟩
  | 108 => ⟨S2x4x128x256, .f32⟩
  | 109 => ⟨S2x4x128x256, .f32⟩
  | 110 => ⟨S1x2x4x128x256, .f32⟩
  | 111 => ⟨S_, .i32⟩
  | 112 => ⟨S_, .i32⟩
  | 113 => ⟨S_, .i32⟩
  | 114 => ⟨S_, .i32⟩
  | 115 => ⟨S33x2x4x128x256, .f32⟩
  | 116 => ⟨S_, .i32⟩
  | 117 => ⟨S_, .i32⟩
  | 118 => ⟨S2x33x4x128x256, .f32⟩
  | 119 => ⟨S1x1x128x4x1, .f32⟩
  | 120 => ⟨S2x33x128x4x128, .f32⟩
  | 121 => ⟨S2x33x128x4x128, .f32⟩
  | 122 => ⟨S2x33x4x256x128, .f32⟩
  | 123 => ⟨S2x33x128x4x256, .f32⟩
  | 124 => ⟨S2x4224x4x256, .f32⟩
  | 125 => ⟨S1x4224x4x256, .f32⟩
  | 126 => ⟨S1x4224x4x256, .f32⟩
  | 127 => ⟨S1x4224x4x256, .f32⟩
  | _ => ⟨S4224x512, .f32⟩

abbrev hbmTy0_1 (i : Nat) : BufTy := match i % 128 with
  | 0 => ⟨S1x4224x4x256, .f32⟩
  | 1 => ⟨S1x4224x4x256, .f32⟩
  | 2 => ⟨S1x4224x4x256, .f32⟩
  | 3 => ⟨S4224x1024, .f32⟩
  | _ => ⟨S4224x512, .f32⟩

abbrev hbmTy (i : Nat) : BufTy := match i / 128 with
  | 0 => hbmTy0_0 i
  | 1 => hbmTy0_1 i
  | _ => ⟨S4224x512, .f32⟩

abbrev bufTy : (tb : Table) → Fin (tcTables nBuf tb) → BufTy
  | .hbm, ⟨i, _⟩ => hbmTy i
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_cst_2 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_cst_3 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_cst_4 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_cst_5 : Ref sig .tc := ⟨.hbm, 83, rfl⟩
abbrev main_v74 : Ref sig .tc := ⟨.hbm, 84, rfl⟩
abbrev main_cst_6 : Ref sig .tc := ⟨.hbm, 85, rfl⟩
abbrev main_v75 : Ref sig .tc := ⟨.hbm, 86, rfl⟩
abbrev main_c : Ref sig .tc := ⟨.hbm, 87, rfl⟩
abbrev main_v76_0 : Ref sig .tc := ⟨.hbm, 88, rfl⟩
abbrev main_v76_1 : Ref sig .tc := ⟨.hbm, 89, rfl⟩
abbrev main_v76_2 : Ref sig .tc := ⟨.hbm, 90, rfl⟩
abbrev main_v76_3 : Ref sig .tc := ⟨.hbm, 91, rfl⟩
abbrev main_v76_4 : Ref sig .tc := ⟨.hbm, 92, rfl⟩
abbrev main_while0c_c_11 : Ref sig .tc := ⟨.hbm, 93, rfl⟩
abbrev main_while0c_v91 : Ref sig .tc := ⟨.hbm, 94, rfl⟩
abbrev main_while0b_call3_c : Ref sig .tc := ⟨.hbm, 95, rfl⟩
abbrev main_while0b_call3_c_0 : Ref sig .tc := ⟨.hbm, 96, rfl⟩
abbrev main_while0b_call3_c_1 : Ref sig .tc := ⟨.hbm, 97, rfl⟩
abbrev main_while0b_call3_c_2 : Ref sig .tc := ⟨.hbm, 98, rfl⟩
abbrev main_while0b_call3_v0 : Ref sig .tc := ⟨.hbm, 99, rfl⟩
abbrev main_while0b_v91 : Ref sig .tc := ⟨.hbm, 100, rfl⟩
abbrev main_while0b_call4_c : Ref sig .tc := ⟨.hbm, 101, rfl⟩
abbrev main_while0b_call4_c_0 : Ref sig .tc := ⟨.hbm, 102, rfl⟩
abbrev main_while0b_call4_c_1 : Ref sig .tc := ⟨.hbm, 103, rfl⟩
abbrev main_while0b_call4_c_2 : Ref sig .tc := ⟨.hbm, 104, rfl⟩
abbrev main_while0b_call4_v0 : Ref sig .tc := ⟨.hbm, 105, rfl⟩
abbrev main_while0b_v92 : Ref sig .tc := ⟨.hbm, 106, rfl⟩
abbrev main_while0b_v93 : Ref sig .tc := ⟨.hbm, 107, rfl⟩
abbrev main_while0b_v94 : Ref sig .tc := ⟨.hbm, 108, rfl⟩
abbrev main_while0b_v95 : Ref sig .tc := ⟨.hbm, 109, rfl⟩
abbrev main_while0b_call5_v0 : Ref sig .tc := ⟨.hbm, 110, rfl⟩
abbrev main_while0b_call5_c : Ref sig .tc := ⟨.hbm, 111, rfl⟩
abbrev main_while0b_call5_c_0 : Ref sig .tc := ⟨.hbm, 112, rfl⟩
abbrev main_while0b_call5_c_1 : Ref sig .tc := ⟨.hbm, 113, rfl⟩
abbrev main_while0b_call5_c_2 : Ref sig .tc := ⟨.hbm, 114, rfl⟩
abbrev main_while0b_v96 : Ref sig .tc := ⟨.hbm, 115, rfl⟩
abbrev main_while0b_c_11 : Ref sig .tc := ⟨.hbm, 116, rfl⟩
abbrev main_while0b_v97 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩

abbrev nD : Nat := 1
abbrev τ : Topo := Topo.v7x

variable {F : FTy → Type} [FloatOps F]

abbrev main_while0_count : Scf.Loop 32 := ⟨0#32, 33#32, 1#32⟩
-- ==== KernelSumIn.lean ====
abbrev S8x1288x1024 : Shape := ⟨3, ![8, 1288, 1024]⟩
abbrev S1288x1024 : Shape := ⟨2, ![1288, 1024]⟩
abbrev S8x1288x256 : Shape := ⟨3, ![8, 1288, 256]⟩
abbrev S1288x256 : Shape := ⟨2, ![1288, 256]⟩
abbrev S1x1288x256 : Shape := ⟨3, ![1, 1288, 256]⟩

abbrev nBuf : Space → Nat
  | .hbm => 2
  | .vmem => 4
  | .smem => 0
  | _ => 0

abbrev bufTy : (tb : Table) → Fin (tcTables nBuf tb) → BufTy
  | .hbm, ⟨0, _⟩ => ⟨S8x1288x1024, .bf16⟩
  | .hbm, ⟨1, _⟩ => ⟨S1288x1024, .f32⟩
  | .local _ .vmem, ⟨0, _⟩ => ⟨S8x1288x256, .bf16⟩
  | .local _ .vmem, ⟨1, _⟩ => ⟨S8x1288x256, .bf16⟩
  | .local _ .vmem, ⟨2, _⟩ => ⟨S1288x256, .f32⟩
  | .local _ .vmem, ⟨3, _⟩ => ⟨S1288x256, .f32⟩
  | _, _ => ⟨S8x1288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x1288x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1288x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceSumInIdeal.lean ====
abbrev S8x1288x1024 : Shape := ⟨3, ![8, 1288, 1024]⟩
abbrev S_ : Shape := ⟨0, ![]⟩
abbrev S1288x1024 : Shape := ⟨2, ![1288, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x1288x1024, .bf16⟩
  | .hbm, ⟨1, _⟩ => ⟨S8x1288x1024, .f32⟩
  | .hbm, ⟨2, _⟩ => ⟨S_, .f32⟩
  | .hbm, ⟨3, _⟩ => ⟨S1288x1024, .f32⟩
  | _, _ => ⟨S8x1288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelSumUp.lean ====
abbrev S8x704x1024 : Shape := ⟨3, ![8, 704, 1024]⟩
abbrev S704x1024 : Shape := ⟨2, ![704, 1024]⟩
abbrev S8x704x512 : Shape := ⟨3, ![8, 704, 512]⟩
abbrev S704x512 : Shape := ⟨2, ![704, 512]⟩
abbrev S1x704x512 : Shape := ⟨3, ![1, 704, 512]⟩

abbrev nBuf : Space → Nat
  | .hbm => 2
  | .vmem => 4
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .local _ .vmem, ⟨0, _⟩ => ⟨S8x704x512, .bf16⟩
  | .local _ .vmem, ⟨1, _⟩ => ⟨S8x704x512, .bf16⟩
  | .local _ .vmem, ⟨2, _⟩ => ⟨S704x512, .f32⟩
  | .local _ .vmem, ⟨3, _⟩ => ⟨S704x512, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x704x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S704x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceSumUpIdeal.lean ====
abbrev S8x704x1024 : Shape := ⟨3, ![8, 704, 1024]⟩
abbrev S_ : Shape := ⟨0, ![]⟩
abbrev S704x1024 : Shape := ⟨2, ![704, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .f32⟩
  | .hbm, ⟨2, _⟩ => ⟨S_, .f32⟩
  | .hbm, ⟨3, _⟩ => ⟨S704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelSumDown.lean ====
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .local _ .vmem, ⟨0, _⟩ => ⟨S8x352x1024, .bf16⟩
  | .local _ .vmem, ⟨1, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ReferenceSumDownIdeal.lean ====
abbrev S8x352x1024 : Shape := ⟨3, ![8, 352, 1024]⟩
abbrev S_ : Shape := ⟨0, ![]⟩
abbrev S352x1024 : Shape := ⟨2, ![352, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .f32⟩
  | .hbm, ⟨2, _⟩ => ⟨S_, .f32⟩
  | .hbm, ⟨3, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelSumSsd.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .local _ .vmem, ⟨0, _⟩ => ⟨S8x256x1024, .bf16⟩
  | .local _ .vmem, ⟨1, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ReferenceSumSsdIdeal.lean ====
abbrev S8x256x1024 : Shape := ⟨3, ![8, 256, 1024]⟩
abbrev S_ : Shape := ⟨0, ![]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S8x256x1024, .f32⟩
  | .hbm, ⟨2, _⟩ => ⟨S_, .f32⟩
  | .hbm, ⟨3, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelSumRet.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .local _ .vmem, ⟨0, _⟩ => ⟨S8x128x1024, .bf16⟩
  | .local _ .vmem, ⟨1, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ReferenceSumRetIdeal.lean ====
abbrev S8x128x1024 : Shape := ⟨3, ![8, 128, 1024]⟩
abbrev S_ : Shape := ⟨0, ![]⟩
abbrev S128x1024 : Shape := ⟨2, ![128, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .f32⟩
  | .hbm, ⟨2, _⟩ => ⟨S_, .f32⟩
  | .hbm, ⟨3, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelSumSmall.lean ====
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x64x1024, .f32⟩
  | .hbm, ⟨1, _⟩ => ⟨S64x1024, .f32⟩
  | .local _ .vmem, ⟨0, _⟩ => ⟨S8x64x1024, .f32⟩
  | .local _ .vmem, ⟨1, _⟩ => ⟨S64x1024, .f32⟩
  | _, _ => ⟨S8x64x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ReferenceSumSmallIdeal.lean ====
abbrev S8x64x1024 : Shape := ⟨3, ![8, 64, 1024]⟩
abbrev S_ : Shape := ⟨0, ![]⟩
abbrev S64x1024 : Shape := ⟨2, ![64, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S_, .f32⟩
  | .hbm, ⟨2, _⟩ => ⟨S64x1024, .f32⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelAdamIn.lean ====
abbrev S1288x1024 : Shape := ⟨2, ![1288, 1024]⟩
abbrev S184x1024 : Shape := ⟨2, ![184, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1288x1024, .f32⟩
  | .hbm, ⟨1, _⟩ => ⟨S1288x1024, .f32⟩
  | .hbm, ⟨2, _⟩ => ⟨S1288x1024, .f32⟩
  | .hbm, ⟨3, _⟩ => ⟨S1288x1024, .f32⟩
  | .hbm, ⟨4, _⟩ => ⟨S1288x1024, .f32⟩
  | .hbm, ⟨5, _⟩ => ⟨S1288x1024, .f32⟩
  | .hbm, ⟨6, _⟩ => ⟨S1288x1024, .f32⟩
  | .local _ .vmem, ⟨0, _⟩ => ⟨S184x1024, .f32⟩
  | .local _ .vmem, ⟨1, _⟩ => ⟨S184x1024, .f32⟩
  | .local _ .vmem, ⟨2, _⟩ => ⟨S184x1024, .f32⟩
  | .local _ .vmem, ⟨3, _⟩ => ⟨S184x1024, .f32⟩
  | .local _ .vmem, ⟨4, _⟩ => ⟨S184x1024, .f32⟩
  | .local _ .vmem, ⟨5, _⟩ => ⟨S184x1024, .f32⟩
  | .local _ .vmem, ⟨6, _⟩ => ⟨S184x1024, .f32⟩
  | .local _ .vmem, ⟨7, _⟩ => ⟨S184x1024, .f32⟩
  | .local _ .vmem, ⟨8, _⟩ => ⟨S184x1024, .f32⟩
  | .local _ .vmem, ⟨9, _⟩ => ⟨S184x1024, .f32⟩
  | .local _ .vmem, ⟨10, _⟩ => ⟨S184x1024, .f32⟩
  | .local _ .vmem, ⟨11, _⟩ => ⟨S184x1024, .f32⟩
  | .local _ .vmem, ⟨12, _⟩ => ⟨S184x1024, .f32⟩
  | .local _ .vmem, ⟨13, _⟩ => ⟨S184x1024, .f32⟩
  | _, _ => ⟨S1288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S184x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S184x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S184x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S184x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S184x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S184x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S184x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamInIdeal.lean ====
abbrev S1288x1024 : Shape := ⟨2, ![1288, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1288x1024, .f32⟩
  | .hbm, ⟨1, _⟩ => ⟨S1288x1024, .f32⟩
  | .hbm, ⟨2, _⟩ => ⟨S1288x1024, .f32⟩
  | .hbm, ⟨3, _⟩ => ⟨S1288x1024, .f32⟩
  | .hbm, ⟨4, _⟩ => ⟨S_, .f32⟩
  | .hbm, ⟨5, _⟩ => ⟨S1288x1024, .f32⟩
  | .hbm, ⟨6, _⟩ => ⟨S1288x1024, .f32⟩
  | .hbm, ⟨7, _⟩ => ⟨S_, .f32⟩
  | .hbm, ⟨8, _⟩ => ⟨S1288x1024, .f32⟩
  | .hbm, ⟨9, _⟩ => ⟨S1288x1024, .f32⟩
  | .hbm, ⟨10, _⟩ => ⟨S1288x1024, .f32⟩
  | .hbm, ⟨11, _⟩ => ⟨S_, .f32⟩
  | .hbm, ⟨12, _⟩ => ⟨S1288x1024, .f32⟩
  | .hbm, ⟨13, _⟩ => ⟨S1288x1024, .f32⟩
  | .hbm, ⟨14, _⟩ => ⟨S1288x1024, .f32⟩
  | .hbm, ⟨15, _⟩ => ⟨S_, .f32⟩
  | .hbm, ⟨16, _⟩ => ⟨S1288x1024, .f32⟩
  | .hbm, ⟨17, _⟩ => ⟨S1288x1024, .f32⟩
  | .hbm, ⟨18, _⟩ => ⟨S1288x1024, .f32⟩
  | .hbm, ⟨19, _⟩ => ⟨S_, .f32⟩
  | .hbm, ⟨20, _⟩ => ⟨S1288x1024, .f32⟩
  | .hbm, ⟨21, _⟩ => ⟨S1288x1024, .f32⟩
  | .hbm, ⟨22, _⟩ => ⟨S_, .f32⟩
  | .hbm, ⟨23, _⟩ => ⟨S1288x1024, .f32⟩
  | .hbm, ⟨24, _⟩ => ⟨S1288x1024, .f32⟩
  | .hbm, ⟨25, _⟩ => ⟨S1288x1024, .f32⟩
  | .hbm, ⟨26, _⟩ => ⟨S_, .f32⟩
  | .hbm, ⟨27, _⟩ => ⟨S1288x1024, .f32⟩
  | .hbm, ⟨28, _⟩ => ⟨S1288x1024, .f32⟩
  | .hbm, ⟨29, _⟩ => ⟨S1288x1024, .f32⟩
  | .hbm, ⟨30, _⟩ => ⟨S_, .f32⟩
  | .hbm, ⟨31, _⟩ => ⟨S1288x1024, .f32⟩
  | .hbm, ⟨32, _⟩ => ⟨S1288x1024, .f32⟩
  | .hbm, ⟨33, _⟩ => ⟨S1288x1024, .f32⟩
  | .hbm, ⟨34, _⟩ => ⟨S_, .f32⟩
  | .hbm, ⟨35, _⟩ => ⟨S1288x1024, .f32⟩
  | .hbm, ⟨36, _⟩ => ⟨S1288x1024, .f32⟩
  | _, _ => ⟨S1288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamUp.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamUpIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamDown.lean ====
abbrev S352x1024 : Shape := ⟨2, ![352, 1024]⟩

abbrev nBuf : Space → Nat
  | .hbm => 7
  | .vmem => 7
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamDownIdeal.lean ====
abbrev S352x1024 : Shape := ⟨2, ![352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamSsd.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamSsdIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamRet.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamRetIdeal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamSmall.lean ====
abbrev S24x1024 : Shape := ⟨2, ![24, 1024]⟩

abbrev nBuf : Space → Nat
  | .hbm => 7
  | .vmem => 7
  | .smem => 0
  | _ => 0

abbrev bufTy : (tb : Table) → Fin (tcTables nBuf tb) → BufTy
  | .hbm, ⟨0, _⟩ => ⟨S24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S24x1024, .f32⟩
  | .hbm, ⟨5, _⟩ => ⟨S24x1024, .f32⟩
  | .hbm, ⟨6, _⟩ => ⟨S24x1024, .f32⟩
  | .local _ .vmem, ⟨0, _⟩ => ⟨S24x1024, .f32⟩
  | .local _ .vmem, ⟨1, _⟩ => ⟨S24x1024, .f32⟩
  | .local _ .vmem, ⟨2, _⟩ => ⟨S24x1024, .f32⟩
  | .local _ .vmem, ⟨3, _⟩ => ⟨S24x1024, .f32⟩
  | .local _ .vmem, ⟨4, _⟩ => ⟨S24x1024, .f32⟩
  | .local _ .vmem, ⟨5, _⟩ => ⟨S24x1024, .f32⟩
  | .local _ .vmem, ⟨6, _⟩ => ⟨S24x1024, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S24x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamSmallIdeal.lean ====
abbrev S24x1024 : Shape := ⟨2, ![24, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S_, .f32⟩
  | .hbm, ⟨5, _⟩ => ⟨S24x1024, .f32⟩
  | .hbm, ⟨6, _⟩ => ⟨S24x1024, .f32⟩
  | .hbm, ⟨7, _⟩ => ⟨S_, .f32⟩
  | .hbm, ⟨8, _⟩ => ⟨S24x1024, .f32⟩
  | .hbm, ⟨9, _⟩ => ⟨S24x1024, .f32⟩
  | .hbm, ⟨10, _⟩ => ⟨S24x1024, .f32⟩
  | .hbm, ⟨11, _⟩ => ⟨S_, .f32⟩
  | .hbm, ⟨12, _⟩ => ⟨S24x1024, .f32⟩
  | .hbm, ⟨13, _⟩ => ⟨S24x1024, .f32⟩
  | .hbm, ⟨14, _⟩ => ⟨S24x1024, .f32⟩
  | .hbm, ⟨15, _⟩ => ⟨S_, .f32⟩
  | .hbm, ⟨16, _⟩ => ⟨S24x1024, .f32⟩
  | .hbm, ⟨17, _⟩ => ⟨S24x1024, .f32⟩
  | .hbm, ⟨18, _⟩ => ⟨S24x1024, .f32⟩
  | .hbm, ⟨19, _⟩ => ⟨S_, .f32⟩
  | .hbm, ⟨20, _⟩ => ⟨S24x1024, .f32⟩
  | .hbm, ⟨21, _⟩ => ⟨S24x1024, .f32⟩
  | .hbm, ⟨22, _⟩ => ⟨S_, .f32⟩
  | .hbm, ⟨23, _⟩ => ⟨S24x1024, .f32⟩
  | .hbm, ⟨24, _⟩ => ⟨S24x1024, .f32⟩
  | .hbm, ⟨25, _⟩ => ⟨S24x1024, .f32⟩
  | .hbm, ⟨26, _⟩ => ⟨S_, .f32⟩
  | .hbm, ⟨27, _⟩ => ⟨S24x1024, .f32⟩
  | .hbm, ⟨28, _⟩ => ⟨S24x1024, .f32⟩
  | .hbm, ⟨29, _⟩ => ⟨S24x1024, .f32⟩
  | .hbm, ⟨30, _⟩ => ⟨S_, .f32⟩
  | .hbm, ⟨31, _⟩ => ⟨S24x1024, .f32⟩
  | .hbm, ⟨32, _⟩ => ⟨S24x1024, .f32⟩
  | .hbm, ⟨33, _⟩ => ⟨S24x1024, .f32⟩
  | .hbm, ⟨34, _⟩ => ⟨S_, .f32⟩
  | .hbm, ⟨35, _⟩ => ⟨S24x1024, .f32⟩
  | .hbm, ⟨36, _⟩ => ⟨S24x1024, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Retention.lean ====
/-
  The bidirectional retention, in plain sums over the extended reals: the decays, the state that is carried from one
  chunk of 128 rows to the next, and the result at a row. Every product of the retention's backward pass has this form,
  for other arrays in the places of `a`, `b` and `v`.
-/
module

public import Idealize.ShloMosaic.Lib.Pointwise
public import Idealize.ShloMosaic.PureOps.Ideal

@[expose] public section

noncomputable section

namespace Cert.Retention

open Idealize.ShloMosaic

/-! ## Rows and columns -/

/-- Row `r` of the `n`-th chunk of 128 rows (there are 33; past them the rows start over, so that every number has a
    chunk). -/
def rowAt (n : ℕ) (r : Fin 128) : Fin 4224 := ⟨(128 * n + r.val) % 4224, Nat.mod_lt _ (by norm_num)⟩

theorem rowAt_val {n : ℕ} (hn : n < 33) (r : Fin 128) : (rowAt n r).val = 128 * n + r.val :=
  Nat.mod_eq_of_lt (by have := r.isLt; omega)

/-- Column `d` of head `h`, of four heads of 128 columns. -/
def col (h : Fin 4) (d : Fin 128) : Fin 512 := ⟨128 * h.val + d.val, by have := h.isLt; have := d.isLt; omega⟩

/-- Column `e` of head `h`, of four heads of 256 columns. -/
def colv (h : Fin 4) (e : Fin 256) : Fin 1024 := ⟨256 * h.val + e.val, by have := h.isLt; have := e.isLt; omega⟩

/-- Column `e` of head `h`, of four heads of 256 columns that begin at column 1024 of a wider array. -/
def colp (h : Fin 4) (e : Fin 256) : Fin 8192 := ⟨1024 + 256 * h.val + e.val, by have := h.isLt; have := e.isLt; omega⟩

theorem row_cases (R : Fin 4224) : ∃ (n : Fin 33) (r : Fin 128), R = rowAt n.val r :=
  ⟨⟨R.val / 128, by have := R.isLt; omega⟩, ⟨R.val % 128, Nat.mod_lt _ (by norm_num)⟩, Fin.ext (by
    have := R.isLt
    rw [rowAt_val (by show R.val / 128 < 33; omega)]
    show R.val = 128 * (R.val / 128) + R.val % 128; omega)⟩

theorem col_cases (j : Fin 512) : ∃ (h : Fin 4) (d : Fin 128), j = col h d :=
  ⟨⟨j.val / 128, by have := j.isLt; omega⟩, ⟨j.val % 128, Nat.mod_lt _ (by norm_num)⟩, Fin.ext (by
    show j.val = 128 * (j.val / 128) + j.val % 128; omega)⟩

theorem colv_cases (j : Fin 1024) : ∃ (h : Fin 4) (e : Fin 256), j = colv h e :=
  ⟨⟨j.val / 256, by have := j.isLt; omega⟩, ⟨j.val % 256, Nat.mod_lt _ (by norm_num)⟩, Fin.ext (by
    show j.val = 256 * (j.val / 256) + j.val % 256; omega)⟩

/-- The rows counted from the last one up: the chunks and the rows of a chunk are both reversed. -/
theorem rowAt_rev {n : ℕ} (hn : n < 33) (r : Fin 128) : (rowAt n r).rev = rowAt (32 - n) r.rev := by
  apply Fin.ext
  rw [Fin.val_rev, rowAt_val hn, rowAt_val (by omega), Fin.val_rev]
  have := r.isLt; omega

/-! The same rows and columns, as the references' flattenings spell them. -/

theorem row_mk (n : Fin 33) (s : Fin 128) (p) : (⟨n.val * 128 + s.val, p⟩ : Fin 4224) = rowAt n.val s :=
  Fin.ext (by rw [rowAt_val n.isLt]; show n.val * 128 + s.val = _; omega)

theorem row_lt (n : Fin 33) (s : Fin 128) : n.val * 128 + s.val < 4224 := by have := n.isLt; have := s.isLt; omega

theorem row_div (n : Fin 33) (s : Fin 128) : (rowAt n.val s).val / 128 = n.val := by
  rw [rowAt_val n.isLt]; have := s.isLt; omega

theorem row_mod (n : Fin 33) (s : Fin 128) : (rowAt n.val s).val % 128 = s.val := by
  rw [rowAt_val n.isLt]; have := s.isLt; omega

theorem row_rev (n : Fin 33) (s : Fin 128) : (rowAt n.val s).rev = rowAt n.rev.val s.rev := by
  rw [rowAt_rev n.isLt, Fin.val_rev, show 33 - (n.val + 1) = 32 - n.val by omega]

theorem col_mk (h : Fin 4) (d : Fin 128) (p) : (⟨h.val * 128 + d.val, p⟩ : Fin 512) = col h d :=
  Fin.ext (by show h.val * 128 + d.val = 128 * h.val + d.val; omega)

theorem col_div (h : Fin 4) (d : Fin 128) : (col h d).val / 128 = h.val := by
  show (128 * h.val + d.val) / 128 = h.val; have := d.isLt; omega

theorem col_mod (h : Fin 4) (d : Fin 128) : (col h d).val % 128 = d.val := by
  show (128 * h.val + d.val) % 128 = d.val; have := d.isLt; omega

theorem colv_mk (h : Fin 4) (e : Fin 256) (p) : (⟨h.val * 256 + e.val, p⟩ : Fin 1024) = colv h e :=
  Fin.ext (by show h.val * 256 + e.val = 256 * h.val + e.val; omega)

theorem colv_div (h : Fin 4) (e : Fin 256) : (colv h e).val / 256 = h.val := by
  show (256 * h.val + e.val) / 256 = h.val; have := e.isLt; omega

theorem colv_mod (h : Fin 4) (e : Fin 256) : (colv h e).val % 256 = e.val := by
  show (256 * h.val + e.val) % 256 = e.val; have := e.isLt; omega

theorem colp_mk (h : Fin 4) (e : Fin 256) (p) : (⟨1024 + (h.val * 256 + e.val), p⟩ : Fin 8192) = colp h e :=
  Fin.ext (by show 1024 + (h.val * 256 + e.val) = 1024 + 256 * h.val + e.val; omega)

/-! ## Decays -/

/-- The logarithm of head `h`'s decay per row, `log (1 - 2 ^ (-5 - h))`. -/
def lg (h : Fin 4) : ℝ := Real.log (1 - (2 : ℝ) ^ (-5 - (h.val : ℝ)))

theorem lg_zero : lg 0 = Real.log (31 / 32) := by
  unfold lg
  rw [show (-5 - (((0 : Fin 4).val : ℕ) : ℝ)) = ((-5 : ℤ) : ℝ) by norm_num, Real.rpow_intCast]; norm_num

theorem lg_one : lg 1 = Real.log (63 / 64) := by
  unfold lg
  rw [show (-5 - (((1 : Fin 4).val : ℕ) : ℝ)) = ((-6 : ℤ) : ℝ) by norm_num, Real.rpow_intCast]; norm_num

theorem lg_two : lg 2 = Real.log (127 / 128) := by
  unfold lg
  rw [show (-5 - (((2 : Fin 4).val : ℕ) : ℝ)) = ((-7 : ℤ) : ℝ) by norm_num, Real.rpow_intCast]; norm_num

theorem lg_three : lg 3 = Real.log (255 / 256) := by
  unfold lg
  rw [show (-5 - (((3 : Fin 4).val : ℕ) : ℝ)) = ((-8 : ℤ) : ℝ) by norm_num, Real.rpow_intCast]; norm_num

/-- Head `h`'s decay over `t` rows. -/
def dec (h : Fin 4) (t : ℕ) : EReal := ((Real.exp ((t : ℝ) * lg h) : ℝ) : EReal)

theorem dec_mul (h : Fin 4) (s t : ℕ) : dec h s * dec h t = dec h (s + t) := by
  unfold dec
  rw [← EReal.coe_mul, ← Real.exp_add, Nat.cast_add, add_mul]

/-- A decay distributes over a sum, whatever its terms: it is a positive real. -/
theorem dec_add (h : Fin 4) (t : ℕ) (x y : EReal) : dec h t * (x + y) = dec h t * x + dec h t * y :=
  EReal.left_distrib_of_nonneg_of_ne_top (EReal.coe_nonneg.mpr (Real.exp_pos _).le) (EReal.coe_ne_top _) x y

theorem dec_sum {ι : Type} (h : Fin 4) (t : ℕ) (s : Finset ι) (f : ι → EReal) : dec h t * ∑ i ∈ s, f i = ∑ i ∈ s, dec h t * f i := by
  classical
  induction s using Finset.induction_on with
  | empty => simp
  | insert a s ha ih => rw [Finset.sum_insert ha, Finset.sum_insert ha, dec_add, ih]

/-- The distance of two rows of a chunk. -/
def dist (r s : Fin 128) : ℕ := ((r.val : ℤ) - s.val).natAbs

theorem dist_comm (r s : Fin 128) : dist r s = dist s r := by unfold dist; omega

/-! ## The state and the result -/

variable {D E : ℕ}

/-- The state before chunk `n`: at each chunk it decays by a chunk's rows, and the chunk's rows of `b` and `v` are added
    to it as outer products, row `s` scaled by `kf s`. -/
def state (h : Fin 4) (kf : Fin 128 → EReal) (b : ℕ → Fin 128 → Fin D → EReal) (v : ℕ → Fin 128 → Fin E → EReal) : ℕ → Fin D → Fin E → EReal
  | 0 => fun _ _ => 0
  | n + 1 => fun d e => dec h 128 * state h kf b v n d e + ∑ s, b n s d * kf s * v n s e

/-- The state that the rows before chunk `n` leave: row `s` of a chunk decays over the rows behind it. -/
def before (h : Fin 4) (b : ℕ → Fin 128 → Fin D → EReal) (v : ℕ → Fin 128 → Fin E → EReal) : ℕ → Fin D → Fin E → EReal :=
  state h (fun s => dec h (127 - s.val)) b v

/-- The state that the last `k` chunks leave: row `s` of a chunk decays over the rows in front of it. -/
def behind (h : Fin 4) (b : ℕ → Fin 128 → Fin D → EReal) (v : ℕ → Fin 128 → Fin E → EReal) : ℕ → Fin D → Fin E → EReal :=
  state h (fun s => dec h s.val) (fun k => b (32 - k)) (fun k => v (32 - k))

/-- What the rows of chunk `n` themselves add to its row `r`. -/
def within (h : Fin 4) (a b : ℕ → Fin 128 → Fin D → EReal) (v : ℕ → Fin 128 → Fin E → EReal) (n : ℕ) (r : Fin 128) (e : Fin E) : EReal :=
  ∑ s, (∑ d, a n r d * b n s d) * dec h (dist r s) * v n s e

/-- What the chunks before chunk `n` add to its row `r`. -/
def fromBefore (h : Fin 4) (a b : ℕ → Fin 128 → Fin D → EReal) (v : ℕ → Fin 128 → Fin E → EReal) (n : ℕ) (r : Fin 128) (e : Fin E) : EReal :=
  ∑ d, a n r d * dec h (r.val + 1) * before h b v n d e

/-- What the chunks behind chunk `n` add to its row `r`. -/
def fromBehind (h : Fin 4) (a b : ℕ → Fin 128 → Fin D → EReal) (v : ℕ → Fin 128 → Fin E → EReal) (n : ℕ) (r : Fin 128) (e : Fin E) : EReal :=
  ∑ d, a n r d * dec h (128 - r.val) * behind h b v (32 - n) d e

/-- The retention of head `h` at row `r` of chunk `n` and column `e`. -/
def retention (h : Fin 4) (a b : ℕ → Fin 128 → Fin D → EReal) (v : ℕ → Fin 128 → Fin E → EReal) (n : ℕ) (r : Fin 128) (e : Fin E) : EReal :=
  within h a b v n r e + fromBefore h a b v n r e + fromBehind h a b v n r e

/-- A scan: at each step the value decays and the step's term is added. -/
def scan (D A : ℕ → EReal) : ℕ → EReal
  | 0 => 0
  | n + 1 => scan D A n * D n + A n

theorem scan_congr {D A D' A' : ℕ → EReal} (k : ℕ) (hD : ∀ n < k, D n = D' n) (hA : ∀ n < k, A n = A' n) : scan D A k = scan D' A' k := by
  induction k with
  | zero => rfl
  | succ k ih =>
    show scan D A k * D k + A k = scan D' A' k * D' k + A' k
    rw [ih (fun n hn => hD n (by omega)) (fun n hn => hA n (by omega)), hD k (by omega), hA k (by omega)]

/-- A scan of terms scaled by a decay is the scan, scaled. -/
theorem scan_scale (h : Fin 4) (t : ℕ) (A : ℕ → EReal) (k : ℕ) :
    scan (fun _ => dec h 128) (fun n => dec h t * A n) k = dec h t * scan (fun _ => dec h 128) A k := by
  induction k with
  | zero => exact (mul_zero _).symm
  | succ k ih =>
    show scan _ _ k * dec h 128 + dec h t * A k = dec h t * (scan _ A k * dec h 128 + A k)
    rw [ih, dec_add, mul_assoc]

/-- The state is such a scan. -/
theorem state_scan (h : Fin 4) (kf : Fin 128 → EReal) (b : ℕ → Fin 128 → Fin D → EReal) (v : ℕ → Fin 128 → Fin E → EReal) (d : Fin D) (e : Fin E) (k : ℕ) :
    state h kf b v k d e = scan (fun _ => dec h 128) (fun n => ∑ s, b n s d * kf s * v n s e) k := by
  induction k with
  | zero => rfl
  | succ k ih =>
    show dec h 128 * state h kf b v k d e + _ = scan _ _ k * dec h 128 + _
    rw [ih, mul_comm]

end Cert.Retention

end
-- ==== Proof.Words.lean ====
/-
  The constants that the kernels and the references of the retention spell as words: small whole numbers, and the
  distances of two rows of a chunk.
-/
module

public import proofs.«01_k».proof.Proof.Retention
public import Idealize.ShloMosaic.Lib.IdealHost

@[expose] public section

noncomputable section

namespace Cert.Retention

open Idealize.ShloMosaic

theorem word_127 : Ideal.ofBits .f32 0x42FE0000#32 = ((127 : ℝ) : EReal) := by
  simp [Ideal.ofBits, Ideal.ieee, -EReal.coe_mul, -EReal.coe_neg]; norm_num

theorem word_128 : Ideal.ofBits .f32 0x43000000#32 = ((128 : ℝ) : EReal) := by
  simp [Ideal.ofBits, Ideal.ieee, -EReal.coe_mul, -EReal.coe_neg]; norm_num

theorem word_two : Ideal.ofBits .f32 0x40000000#32 = ((2 : ℝ) : EReal) := by
  simp [Ideal.ofBits, Ideal.ieee, -EReal.coe_mul, -EReal.coe_neg]; norm_num

theorem word_neg_five : Ideal.ofBits .f32 0xC0A00000#32 = ((-5 : ℝ) : EReal) := by
  simp [Ideal.ofBits, Ideal.ieee, -EReal.coe_mul, -EReal.coe_neg]; norm_num

/-- A row's number as a word reads as that number. -/
theorem row_word : ∀ r : Fin 128, (BitVec.ofNat 32 r.val).toInt = (r.val : ℤ) := by decide +kernel

/-- The distance of two rows, computed on words. -/
theorem dist_word : ∀ r s : Fin 128, (IntOp.absi (IntOp.subi (BitVec.ofNat 32 r.val) (BitVec.ofNat 32 s.val))).toInt = ((dist r s : ℕ) : ℤ) := by decide +kernel

/-- A row's number as a float. -/
theorem row_float (r : Fin 128) : (FloatOps.sitofp .f32 (BitVec.ofNat 32 r.val) : Ideal .f32) = ((r.val : ℝ) : EReal) := by
  show (((BitVec.ofNat 32 r.val).toInt : ℝ) : EReal) = _
  rw [row_word, Int.cast_natCast]

/-- The distance of two rows as a float. -/
theorem dist_float (r s : Fin 128) :
    (FloatOps.sitofp .f32 (IntOp.absi (IntOp.subi (BitVec.ofNat 32 r.val) (BitVec.ofNat 32 s.val))) : Ideal .f32) = ((dist r s : ℝ) : EReal) := by
  show (((IntOp.absi (IntOp.subi (BitVec.ofNat 32 r.val) (BitVec.ofNat 32 s.val))).toInt : ℝ) : EReal) = _
  rw [dist_word, Int.cast_natCast]

/-- A product with a decay's logarithm, exponentiated. -/
theorem exp_mul (h : Fin 4) (x : ℝ) (t : ℕ) (hx : x = t) : Ideal.exp (((x : ℝ) : EReal) * ((lg h : ℝ) : EReal)) = dec h t := by
  subst hx
  rw [← EReal.coe_mul, Ideal.exp_coe]; rfl

theorem exp_mul' (h : Fin 4) (x : ℝ) (t : ℕ) (hx : x = t) : Ideal.exp (((lg h : ℝ) : EReal) * ((x : ℝ) : EReal)) = dec h t := by
  rw [mul_comm, exp_mul h x t hx]

/-- The references' logarithm of head `h`'s decay. -/
theorem gamma (h : Fin 4) :
    Ideal.log (1 - Ideal.pow (Ideal.ofBits .f32 0x40000000#32) (Ideal.ofBits .f32 0xC0A00000#32 - (FloatOps.sitofp .f32 (BitVec.ofNat 32 h.val) : Ideal .f32))) = ((lg h : ℝ) : EReal) := by
  have e : (FloatOps.sitofp .f32 (BitVec.ofNat 32 h.val) : Ideal .f32) = ((h.val : ℝ) : EReal) := by
    show (((BitVec.ofNat 32 h.val).toInt : ℝ) : EReal) = _
    rw [(by decide +kernel : ∀ h : Fin 4, (BitVec.ofNat 32 h.val).toInt = (h.val : ℤ)) h, Int.cast_natCast]
  rw [e, word_two, word_neg_five, ← EReal.coe_sub, Ideal.pow_coe_coe, ← EReal.coe_one, ← EReal.coe_sub, Ideal.log_coe, if_neg]
  · rfl
  · have : Real.rpow (2 : ℝ) (-5 - (h.val : ℝ)) < 1 := Real.rpow_lt_one_of_one_lt_of_neg (by norm_num) (by have : (0 : ℝ) ≤ h.val := Nat.cast_nonneg _; linarith)
    linarith

/-- The references' decay of row `s` to the chunk's last row. -/
theorem keep_word (h : Fin 4) (s : Fin 128) :
    Ideal.exp ((Ideal.ofBits .f32 0x42FE0000#32 - (FloatOps.sitofp .f32 (BitVec.ofNat 32 s.val) : Ideal .f32))
      * Ideal.log (1 - Ideal.pow (Ideal.ofBits .f32 0x40000000#32) (Ideal.ofBits .f32 0xC0A00000#32 - (FloatOps.sitofp .f32 (BitVec.ofNat 32 h.val) : Ideal .f32)))) = dec h (127 - s.val) := by
  rw [gamma, row_float, word_127, ← EReal.coe_sub]
  exact exp_mul _ _ _ (by have := s.isLt; rw [Nat.cast_sub (by omega)]; norm_num)

/-- The decay up to a row, as the references compute it. -/
theorem read_word (h : Fin 4) (s : Fin 128) :
    Ideal.exp (((FloatOps.sitofp .f32 (BitVec.ofNat 32 s.val) : Ideal .f32) + 1)
      * Ideal.log (1 - Ideal.pow (Ideal.ofBits .f32 0x40000000#32) (Ideal.ofBits .f32 0xC0A00000#32 - (FloatOps.sitofp .f32 (BitVec.ofNat 32 h.val) : Ideal .f32)))) = dec h (s.val + 1) := by
  rw [gamma, row_float, ← EReal.coe_one, ← EReal.coe_add]
  exact exp_mul _ _ _ (by norm_num)

/-- The distance of two rows, computed on floats. -/
theorem dist_floats (r s : Fin 128) :
    (FloatOps.absf ((FloatOps.sitofp .f32 (BitVec.ofNat 32 r.val) : Ideal .f32) - (FloatOps.sitofp .f32 (BitVec.ofNat 32 s.val) : Ideal .f32) : Ideal .f32) : EReal) = ((dist r s : ℝ) : EReal) := by
  rw [row_float, row_float, ← EReal.coe_sub]
  show max (((r.val - s.val : ℝ)) : EReal) (-(((r.val - s.val : ℝ)) : EReal)) = _
  rw [← EReal.coe_neg, ← EReal.coe_strictMono.monotone.map_max]
  congr 1
  unfold dist
  rw [Nat.cast_natAbs, Int.cast_abs, Int.cast_sub, Int.cast_natCast, Int.cast_natCast]
  rfl

end Cert.Retention

end
-- ==== Proof.Trips.lean ====
/-
  A kernel that goes over the 33 blocks of rows in trips: in each it adds an update to a block of the result from the first
  one up and to a block from the last one down, and carries a state on in each direction. What one trip leaves, from what
  was there before it, whatever the updates are.
-/
module

public import proofs.«01_k».proof.Proof.Retention
public import Idealize.ShloMosaic.Lib.Pipeline.ValueKit

@[expose] public section

noncomputable section

namespace Cert.Trips

open Cert.Retention (rowAt rowAt_val)
open Idealize.ShloMosaic Idealize.ShloMosaic.TcCoe Idealize.SL.Sem

/-- A matrix of `r` rows and `c` columns. -/
abbrev Mat (r c : ℕ) : Shape := ⟨2, ![r, c]⟩

theorem ix2_of {r c : ℕ} (j : (Mat r c).Idx) : ∃ a b, j = ix2 a b := ⟨j 0, j 1, by funext a; fin_cases a <;> rfl⟩

/-- A load of 128 rows from row `o = 128 n` is the `n`-th block. -/
theorem load_rows {sig : RefSig} {C : ℕ} {e : EltTy} (M : Memref sig .tc .vmem (Mat 4224 C) e) (hM : M.IsWhole) (x : (Mat 4224 C).Idx → Elt Ideal e) (o n : ℕ)
    (ho : o = 128 * n) (hn : n < 33) (inb : ∀ a, (![o, 0] : Fin 2 → ℕ) a + (Mat 128 C).size a ≤ (Mat 4224 C).size a) :
    View.readAt (Elt Ideal) M.view (Rect.unit (s := Mat 4224 C) ![o, 0] (Mat 128 C).size inb).toLoadRect (hM.unread x) = fun j => x (ix2 (rowAt n (j 0)) (j 1)) := by
  rw [View.readAt_eq_ld, Memref.IsWhole.read_unread]
  funext j
  obtain ⟨r, d, rfl⟩ := ix2_of j
  refine congrArg x (funext fun a => Fin.ext ?_)
  fin_cases a
  · show o + 1 * r.val = (rowAt n r).val
    rw [rowAt_val hn, ho, one_mul]
  · show 0 + 1 * d.val = d.val
    rw [one_mul, Nat.zero_add]

variable {sig : RefSig} {D E : ℕ}

/-- The result with `u` added to its `n`-th block of rows. -/
def addRows (n : ℕ) (u : FVec Ideal (Mat 128 E) .f32) (f : FVec Ideal (Mat 4224 E) .f32) : FVec Ideal (Mat 4224 E) .f32 := fun y =>
  if (y 0).val / 128 = n then f y + u (ix2 (⟨(y 0).val % 128, Nat.mod_lt _ (by norm_num)⟩ : Fin 128) (y 1)) else f y

/-- A block of rows of the result, read, added to and stored back: the contents are those before with the update added to
    that block. -/
theorem rows_added (v : View sig .tc .vmem (Mat 4224 E) .f32) (o n : ℕ) (ho : o = 128 * n) (hn : n < 33)
    (inb : ∀ a, (![o, 0] : Fin 2 → ℕ) a + (Mat 128 E).size a ≤ (Mat 4224 E).size a) (hc : (Mat 128 E).ShapeCasts (Mat 128 E))
    (u : FVec Ideal (Mat 128 E) .f32) (L : List (View.Piece (Elt Ideal) (Mat 4224 E) .f32)) :
    View.canon ((⟨Rect.unit (s := Mat 4224 E) ![o, 0] (Mat 128 E).size inb,
      shapeCast (Mat 128 E) (addf (v.readCov L (Rect.unit (s := Mat 4224 E) ![o, 0] (Mat 128 E).size inb).toLoadRect : FVec Ideal (Mat 128 E) .f32) u) hc⟩ : View.Piece (Elt Ideal) (Mat 4224 E) .f32) :: L)
      = addRows n u (View.canon L) := by
  have key : ∀ (r : Fin 128) (e : Fin E), (Rect.unit (s := Mat 4224 E) ![o, 0] (Mat 128 E).size inb).emb (ix2 r e) = ix2 (rowAt n r) e := by
    intro r e
    funext a
    apply Fin.ext
    fin_cases a
    · show o + 1 * r.val = (rowAt n r).val
      rw [rowAt_val hn, ho, one_mul]
    · show 0 + 1 * e.val = e.val
      rw [one_mul, Nat.zero_add]
  funext y
  obtain ⟨R, e, rfl⟩ := ix2_of y
  unfold addRows
  by_cases h : R.val / 128 = n
  · rw [if_pos (show ((ix2 R e : (Mat 4224 E).Idx) 0).val / 128 = n from h)]
    have hR : R = rowAt n ⟨R.val % 128, Nat.mod_lt _ (by norm_num)⟩ := by
      apply Fin.ext; rw [rowAt_val hn]; show R.val = 128 * n + R.val % 128; omega
    have hy : (ix2 R e : (Mat 4224 E).Idx) = (Rect.unit (s := Mat 4224 E) ![o, 0] (Mat 128 E).size inb).emb
        (ix2 (⟨R.val % 128, Nat.mod_lt _ (by norm_num)⟩ : Fin 128) e) := by rw [key, ← hR]
    conv_lhs => rw [hy]
    rw [View.canon_cons_emb, shapeCast_self, View.readCov_eq_canon']
    show View.canon L ((Rect.unit (s := Mat 4224 E) ![o, 0] (Mat 128 E).size inb).emb _) + _ = _
    rw [← hy]
    rfl
  · rw [if_neg (show ¬ ((ix2 R e : (Mat 4224 E).Idx) 0).val / 128 = n from h)]
    refine View.canon_cons_of_not_mem _ _ fun hm => h ?_
    obtain ⟨x, hx⟩ := (Rect.unit (s := Mat 4224 E) ![o, 0] (Mat 128 E).size inb).exists_idx_of_mem hm
    obtain ⟨r, e', rfl⟩ := ix2_of x
    have h0 := congrArg Fin.val (congrFun ((key r e').symm.trans hx) 0)
    have h1 : (rowAt n r).val = R.val := h0
    rw [rowAt_val hn] at h1
    have := r.isLt; omega

/-- The rectangle of a whole matrix. -/
abbrev wholeMat {r c : ℕ} : Rect (Mat r c) := Rect.unit (s := Mat r c) ![0, 0] (Mat r c).size (by
    intro a
    fin_cases a
    · show 0 + r ≤ r; omega
    · show 0 + c ≤ c; omega)

/-- The contents before trip `n`, after the stores `L0`, `L1`, `L2`: of the result, and of the two states as the trip reads
    them. -/
structure Before (v1 v2 : View sig .tc .vmem (Mat D E) .f32) (a : ℕ → FVec Ideal (Mat 4224 E) .f32) (sF sB : ℕ → FVec Ideal (Mat D E) .f32) (n : ℕ)
    (L0 : List (View.Piece (Elt Ideal) (Mat 4224 E) .f32)) (L1 L2 : List (View.Piece (Elt Ideal) (Mat D E) .f32)) : Prop where
  acc : View.canon L0 = a n
  fwd : (v1.readCov L1 wholeMat.toLoadRect : FVec Ideal (Mat D E) .f32) = sF n
  bwd : (v2.readCov L2 wholeMat.toLoadRect : FVec Ideal (Mat D E) .f32) = sB n

variable {v0 : View sig .tc .vmem (Mat 4224 E) .f32} {v1 v2 : View sig .tc .vmem (Mat D E) .f32} {a : ℕ → FVec Ideal (Mat 4224 E) .f32}
  {sF sB : ℕ → FVec Ideal (Mat D E) .f32} {uF uB : ℕ → FVec Ideal (Mat D E) .f32 → FVec Ideal (Mat 128 E) .f32}
  {nF nB : ℕ → FVec Ideal (Mat D E) .f32 → FVec Ideal (Mat D E) .f32}
  {L0 : List (View.Piece (Elt Ideal) (Mat 4224 E) .f32)} {L1 L2 : List (View.Piece (Elt Ideal) (Mat D E) .f32)}

/-- The result after a trip. -/
theorem acc_next (ha : ∀ n, a (n + 1) = addRows (32 - n) (uB n (sB n)) (addRows n (uF n (sF n)) (a n)))
    {n o o' : ℕ} (hn : n < 33) (ho : o = 128 * n) (ho' : o' = 128 * (32 - n)) (h : Before v1 v2 a sF sB n L0 L1 L2)
    {inb : ∀ a, (![o, 0] : Fin 2 → ℕ) a + (Mat 128 E).size a ≤ (Mat 4224 E).size a} {inb' : ∀ a, (![o', 0] : Fin 2 → ℕ) a + (Mat 128 E).size a ≤ (Mat 4224 E).size a}
    {hc hc' : (Mat 128 E).ShapeCasts (Mat 128 E)} {u u' : FVec Ideal (Mat 128 E) .f32}
    (hu : u = uF n (v1.readCov L1 wholeMat.toLoadRect)) (hu' : u' = uB n (v2.readCov L2 wholeMat.toLoadRect))
    {M : List (View.Piece (Elt Ideal) (Mat 4224 E) .f32)}
    (hM : M = (⟨Rect.unit (s := Mat 4224 E) ![o, 0] (Mat 128 E).size inb,
      shapeCast (Mat 128 E) (addf (v0.readCov L0 (Rect.unit (s := Mat 4224 E) ![o, 0] (Mat 128 E).size inb).toLoadRect : FVec Ideal (Mat 128 E) .f32) u) hc⟩ : View.Piece (Elt Ideal) (Mat 4224 E) .f32) :: L0) :
    View.canon ((⟨Rect.unit (s := Mat 4224 E) ![o', 0] (Mat 128 E).size inb',
      shapeCast (Mat 128 E) (addf (v0.readCov M (Rect.unit (s := Mat 4224 E) ![o', 0] (Mat 128 E).size inb').toLoadRect : FVec Ideal (Mat 128 E) .f32) u') hc'⟩ : View.Piece (Elt Ideal) (Mat 4224 E) .f32) :: M)
      = a (n + 1) := by
  rw [rows_added v0 o' (32 - n) ho' (by omega) inb' hc' u' M, hM, rows_added v0 o n ho hn inb hc u L0, h.acc, hu, hu', h.fwd, h.bwd, ha]

/-- The first fill of a state, as the first trip reads it. -/
theorem fill_read (v : View sig .tc .vmem (Mat D E) .f32) (inb : ∀ a, (![0, 0] : Fin 2 → ℕ) a + (Mat D E).size a ≤ (Mat D E).size a) (w : FVec Ideal (Mat D E) .f32) :
    (v.readCov [(⟨Rect.unit (s := Mat D E) ![0, 0] (Mat D E).size inb, w⟩ : View.Piece (Elt Ideal) (Mat D E) .f32)] wholeMat.toLoadRect : FVec Ideal (Mat D E) .f32) = w :=
  View.readCov_cons_toLoadRect v _ _ []

/-- A state stored by a trip, as the next one reads it. -/
theorem state_next (v : View sig .tc .vmem (Mat D E) .f32) {w : FVec Ideal (Mat D E) .f32} {L : List (View.Piece (Elt Ideal) (Mat D E) .f32)}
    (inb : ∀ a, (![0, 0] : Fin 2 → ℕ) a + (Mat D E).size a ≤ (Mat D E).size a) (hc : (Mat D E).ShapeCasts (Mat D E)) :
    (v.readCov ((⟨Rect.unit (s := Mat D E) ![0, 0] (Mat D E).size inb, shapeCast (Mat D E) w hc⟩ : View.Piece (Elt Ideal) (Mat D E) .f32) :: L) wholeMat.toLoadRect : FVec Ideal (Mat D E) .f32) = w :=
  (View.readCov_cons_toLoadRect v _ _ L).trans (shapeCast_self _ _)

/-- One trip, from whatever was stored before it. -/
theorem Before.next (ha : ∀ n, a (n + 1) = addRows (32 - n) (uB n (sB n)) (addRows n (uF n (sF n)) (a n)))
    (hF : ∀ n, sF (n + 1) = nF n (sF n)) (hB : ∀ n, sB (n + 1) = nB n (sB n))
    {n o o' : ℕ} (hn : n < 33) (ho : o = 128 * n) (ho' : o' = 128 * (32 - n)) (h : Before v1 v2 a sF sB n L0 L1 L2)
    {inb : ∀ a, (![o, 0] : Fin 2 → ℕ) a + (Mat 128 E).size a ≤ (Mat 4224 E).size a} {inb' : ∀ a, (![o', 0] : Fin 2 → ℕ) a + (Mat 128 E).size a ≤ (Mat 4224 E).size a}
    {hc hc' : (Mat 128 E).ShapeCasts (Mat 128 E)} {u u' : FVec Ideal (Mat 128 E) .f32}
    {inb1 inb2 : ∀ a, (![0, 0] : Fin 2 → ℕ) a + (Mat D E).size a ≤ (Mat D E).size a} {hc1 hc2 : (Mat D E).ShapeCasts (Mat D E)} {w w' : FVec Ideal (Mat D E) .f32}
    {M : List (View.Piece (Elt Ideal) (Mat 4224 E) .f32)}
    (hM : M = (⟨Rect.unit (s := Mat 4224 E) ![o, 0] (Mat 128 E).size inb,
      shapeCast (Mat 128 E) (addf (v0.readCov L0 (Rect.unit (s := Mat 4224 E) ![o, 0] (Mat 128 E).size inb).toLoadRect : FVec Ideal (Mat 128 E) .f32) u) hc⟩ : View.Piece (Elt Ideal) (Mat 4224 E) .f32) :: L0)
    (hu : u = uF n (v1.readCov L1 wholeMat.toLoadRect)) (hu' : u' = uB n (v2.readCov L2 wholeMat.toLoadRect))
    (hw : w = nF n (v1.readCov L1 wholeMat.toLoadRect)) (hw' : w' = nB n (v2.readCov L2 wholeMat.toLoadRect)) :
    Before v1 v2 a sF sB (n + 1)
      ((⟨Rect.unit (s := Mat 4224 E) ![o', 0] (Mat 128 E).size inb',
        shapeCast (Mat 128 E) (addf (v0.readCov M (Rect.unit (s := Mat 4224 E) ![o', 0] (Mat 128 E).size inb').toLoadRect : FVec Ideal (Mat 128 E) .f32) u') hc'⟩ : View.Piece (Elt Ideal) (Mat 4224 E) .f32) :: M)
      ((⟨Rect.unit (s := Mat D E) ![0, 0] (Mat D E).size inb1, shapeCast (Mat D E) w hc1⟩ : View.Piece (Elt Ideal) (Mat D E) .f32) :: L1)
      ((⟨Rect.unit (s := Mat D E) ![0, 0] (Mat D E).size inb2, shapeCast (Mat D E) w' hc2⟩ : View.Piece (Elt Ideal) (Mat D E) .f32) :: L2) :=
  ⟨acc_next ha hn ho ho' h hu hu' hM, (state_next v1 inb1 hc1).trans (hw.trans (by rw [h.fwd, hF])), (state_next v2 inb2 hc2).trans (hw'.trans (by rw [h.bwd, hB]))⟩

end Cert.Trips

end
-- ==== Proof.KernelDqTrip.lean ====
/-
  One trip of the kernel of the gradient in q, as functions of the row blocks it reads: the update it adds to a block of
  rows of the result, in each direction, and the state it carries on. Each is then read at an index: sums of products
  of extended reals.
-/
module

public import proofs.«01_k».proof.Proof.Gen.KernelDqIdeal.Value
public import proofs.«01_k».proof.Proof.Words
public import proofs.«01_k».proof.Proof.Trips

@[expose] public section

noncomputable section

namespace Cert.KernelDqIdeal.Trip

open Cert.Retention (rowAt rowAt_val)
open Cert.Trips (addRows)
open Cert.KernelDqIdeal Cert.KernelDqIdeal.Gen Idealize.ShloMosaic Idealize.ShloMosaic.TcCoe Idealize.SL.Sem

/-! ## Blocks of rows -/

/-- The `n`-th block of 128 rows of an array of 256 columns. -/
def wideRows (x : FVec Ideal S4224x256 .bf16) (n : ℕ) : FVec Ideal S128x256 .bf16 := fun j => x (ix2 (rowAt n (j 0)) (j 1))

/-- The `n`-th block of 128 rows of an array of 128 columns. -/
def narrowRows (x : FVec Ideal S4224x128 .f32) (n : ℕ) : FVec Ideal S128x128 .f32 := fun j => x (ix2 (rowAt n (j 0)) (j 1))

/-! ## One trip -/

/-- What the forward half of a trip adds to its block of the result. -/
def addFwd (i : grid0.Coords) (a b : FVec Ideal S128x256 .bf16) (v : FVec Ideal S128x128 .f32) (st : FVec Ideal S256x128 .f32) :
    FVec Ideal S128x128 .f32 :=
  addf
    (matmul dot_S128x128_S128x128_S128x128_1_0_0_1_n_n none
      (truncf .bf16 (mulf (matmul dot_S128x256_S128x256_S128x128_1_1_0_0_n_n none a b (constant S128x128 .f32 0x00000000#32)) (k0_pay4 i)) bitsLt_bf16_f32)
      (truncf .bf16 v bitsLt_bf16_f32) (constant S128x128 .f32 0x00000000#32))
    (matmul dot_S128x256_S256x128_S128x128_1_0_0_1_n_n none
      (truncf .bf16 (mulf (extf .f32 a bitsLt_bf16_f32) (broadcastTo S128x256 (k0_pay7 i) broadcasts_S128x1_S128x256)) bitsLt_bf16_f32)
      (truncf .bf16 st bitsLt_bf16_f32) (constant S128x128 .f32 0x00000000#32))

/-- What the backward half of a trip adds to its block of the result. -/
def addBwd (i : grid0.Coords) (a : FVec Ideal S128x256 .bf16) (st : FVec Ideal S256x128 .f32) : FVec Ideal S128x128 .f32 :=
  matmul dot_S128x256_S256x128_S128x128_1_0_0_1_n_n none
    (truncf .bf16 (mulf (extf .f32 a bitsLt_bf16_f32) (broadcastTo S128x256 (k0_pay9 i) broadcasts_S128x1_S128x256)) bitsLt_bf16_f32)
    (truncf .bf16 st bitsLt_bf16_f32) (constant S128x128 .f32 0x00000000#32)

/-- The state that the forward half of a trip carries on. -/
def nextFwd (i : grid0.Coords) (b : FVec Ideal S128x256 .bf16) (v : FVec Ideal S128x128 .f32) (st : FVec Ideal S256x128 .f32) :
    FVec Ideal S256x128 .f32 :=
  addf (mulf (broadcast S256x128 (k0_pay10 i)) st)
    (matmul dot_S128x256_S128x128_S256x128_0_0_1_1_n_n none
      (truncf .bf16 (mulf (extf .f32 b bitsLt_bf16_f32) (broadcastTo S128x256 (k0_pay6 i) broadcasts_S128x1_S128x256)) bitsLt_bf16_f32)
      (truncf .bf16 v bitsLt_bf16_f32) (constant S256x128 .f32 0x00000000#32))

/-- The state that the backward half of a trip carries on. -/
def nextBwd (i : grid0.Coords) (b : FVec Ideal S128x256 .bf16) (v : FVec Ideal S128x128 .f32) (st : FVec Ideal S256x128 .f32) :
    FVec Ideal S256x128 .f32 :=
  addf (mulf (broadcast S256x128 (k0_pay10 i)) st)
    (matmul dot_S128x256_S128x128_S256x128_0_0_1_1_n_n none
      (truncf .bf16 (mulf (extf .f32 b bitsLt_bf16_f32) (broadcastTo S128x256 (k0_pay8 i) broadcasts_S128x1_S128x256)) bitsLt_bf16_f32)
      (truncf .bf16 v bitsLt_bf16_f32) (constant S256x128 .f32 0x00000000#32))

/-! ## The trips -/

/-- The states' first contents. -/
def zeroState : FVec Ideal S256x128 .f32 := fun _ => (0 : EReal)

/-- The forward state before trip `n`. -/
def stFwd (i : grid0.Coords) (x1 : FVec Ideal S4224x256 .bf16) (x2 : FVec Ideal S4224x128 .f32) : ℕ → FVec Ideal S256x128 .f32
  | 0 => zeroState
  | n + 1 => nextFwd i (wideRows x1 n) (narrowRows x2 n) (stFwd i x1 x2 n)

/-- The backward state before trip `n`, which reads the blocks from the last one down. -/
def stBwd (i : grid0.Coords) (x1 : FVec Ideal S4224x256 .bf16) (x2 : FVec Ideal S4224x128 .f32) : ℕ → FVec Ideal S256x128 .f32
  | 0 => zeroState
  | n + 1 => nextBwd i (wideRows x1 (32 - n)) (narrowRows x2 (32 - n)) (stBwd i x1 x2 n)

/-- The result before trip `n`. -/
def acc (i : grid0.Coords) (x0 x1 : FVec Ideal S4224x256 .bf16) (x2 : FVec Ideal S4224x128 .f32) : ℕ → FVec Ideal S4224x128 .f32
  | 0 => fun _ => (0 : EReal)
  | n + 1 => addRows (32 - n) (addBwd i (wideRows x0 (32 - n)) (stBwd i x1 x2 n))
      (addRows n (addFwd i (wideRows x0 n) (wideRows x1 n) (narrowRows x2 n) (stFwd i x1 x2 n)) (acc i x0 x1 x2 n))

/-! ## Equal blocks and states give equal updates and states -/

theorem addFwd_congr (i : grid0.Coords) {a a' b b' : FVec Ideal S128x256 .bf16} {v v' : FVec Ideal S128x128 .f32} {st st' : FVec Ideal S256x128 .f32}
    (ha : a = a') (hb : b = b') (hv : v = v') (hs : st = st') : addFwd i a b v st = addFwd i a' b' v' st' := by
  rw [ha, hb, hv, hs]

theorem addBwd_congr (i : grid0.Coords) {a a' : FVec Ideal S128x256 .bf16} {st st' : FVec Ideal S256x128 .f32}
    (ha : a = a') (hs : st = st') : addBwd i a st = addBwd i a' st' := by
  rw [ha, hs]

theorem nextFwd_congr (i : grid0.Coords) {b b' : FVec Ideal S128x256 .bf16} {v v' : FVec Ideal S128x128 .f32} {st st' : FVec Ideal S256x128 .f32}
    (hb : b = b') (hv : v = v') (hs : st = st') : nextFwd i b v st = nextFwd i b' v' st' := by
  rw [hb, hv, hs]

theorem nextBwd_congr (i : grid0.Coords) {b b' : FVec Ideal S128x256 .bf16} {v v' : FVec Ideal S128x128 .f32} {st st' : FVec Ideal S256x128 .f32}
    (hb : b = b') (hv : v = v') (hs : st = st') : nextBwd i b v st = nextBwd i b' v' st' := by
  rw [hb, hv, hs]

/-! ## The first fills -/

theorem fill_fwd : (k0_pay11 : FVec Ideal S256x128 .f32) = zeroState := by
  funext j
  show Idealize.ShloMosaic.Ideal.ofBits .f32 0x00000000#32 = (0 : EReal)
  exact Ideal.ofBits_zero ..

theorem fill_bwd : (shapeCast S256x128 (k0_pay12 : FVec Ideal S256x128 .f32) shapeCasts_S256x128_S256x128 : FVec Ideal S256x128 .f32) = zeroState := by
  funext j
  show Idealize.ShloMosaic.Ideal.ofBits .f32 0x00000000#32 = (0 : EReal)
  exact Ideal.ofBits_zero ..

theorem fill_acc (i : grid0.Coords) (x0 x1 : FVec Ideal S4224x256 .bf16) (x2 : FVec Ideal S4224x128 .f32) :
    View.canon (Val := Elt Ideal) kernelRun0_A.sl.HS0_1 = acc i x0 x1 x2 0 := by
  unfold kernelRun0_A.sl.HS0_1
  rw [View.canon_cons_unit_zero (by funext a; fin_cases a <;> rfl)]
  funext j
  show Idealize.ShloMosaic.Ideal.ofBits .f32 0x00000000#32 = (0 : EReal)
  exact Ideal.ofBits_zero ..

end Cert.KernelDqIdeal.Trip

end
-- ==== Proof.KernelDqChain.lean ====
/-
  The trips of the kernel of the gradient in q, one after another: before each, the states are those that the trip before it
  carried on, and the contents of the result are those before with the two updates added.
-/
module

public import proofs.«01_k».proof.Proof.KernelDqTrip

@[expose] public section

noncomputable section

namespace Cert.KernelDqIdeal.Trip

open Cert.Trips (Before load_rows fill_read)
open Cert.KernelDqIdeal Cert.KernelDqIdeal.Gen Idealize.ShloMosaic Idealize.ShloMosaic.TcCoe Idealize.SL.Sem

variable (c : Dev nD) (i : grid0.Coords) (arg1 : Memref sig .tc .vmem S4224x256 .bf16) (harg1 : arg1.IsWhole) (arg2 : Memref sig .tc .vmem S4224x256 .bf16) (harg2 : arg2.IsWhole)
  (arg3 : Memref sig .tc .vmem S4224x128 .f32) (harg3 : arg3.IsWhole) (arg5 : Memref sig .tc .vmem S4224x128 .f32) (arg6 arg7 : Memref sig .tc .vmem S256x128 .f32)
  (x0 x1 : FVec Ideal S4224x256 .bf16) (x2 : FVec Ideal S4224x128 .f32)

/-- What is there before trip `n`. -/
abbrev At := Before (D := 256) (E := 128) arg6.view arg7.view (fun n => acc i x0 x1 x2 n) (stFwd i x1 x2) (stBwd i x1 x2)

/-- Before the first trip there are the fills. -/
theorem before_first : At i arg6 arg7 x0 x1 x2 0 kernelRun0_A.sl.HS0_1 kernelRun0_A.sl.HS1_1 kernelRun0_A.sl.HS2_1 :=
  ⟨fill_acc i x0 x1 x2, (fill_read (D := 256) (E := 128) arg6.view _ _).trans fill_fwd, (fill_read (D := 256) (E := 128) arg7.view _ _).trans fill_bwd⟩

/-- Before the last trip: each of those before it is one use of `Before.next`. -/
theorem before_last : At i arg6 arg7 x0 x1 x2 32 (kernelRun0_A.sl.HS0_65 (F := Ideal) c i arg1 harg1 arg2 harg2 arg3 harg3 arg5 arg6 arg7 x0 x1 x2)
    (kernelRun0_A.sl.HS1_33 (F := Ideal) c i arg2 harg2 arg3 harg3 arg6 x1 x2) (kernelRun0_A.sl.HS2_33 (F := Ideal) c i arg2 harg2 arg3 harg3 arg7 x1 x2) := by
  iterate 32
    refine Before.next (D := 256) (E := 128) (v0 := arg5.view) (v1 := arg6.view) (v2 := arg7.view)
      (uF := fun n => addFwd i (wideRows x0 n) (wideRows x1 n) (narrowRows x2 n)) (uB := fun n => addBwd i (wideRows x0 (32 - n)))
      (nF := fun n => nextFwd i (wideRows x1 n) (narrowRows x2 n)) (nB := fun n => nextBwd i (wideRows x1 (32 - n)) (narrowRows x2 (32 - n)))
      (fun _ => rfl) (fun _ => rfl) (fun _ => rfl) (by decide) (by rfl) (by rfl) ?_ rfl
      (addFwd_congr i (load_rows arg1 harg1 x0 _ _ (by rfl) (by decide) _) (load_rows arg2 harg2 x1 _ _ (by rfl) (by decide) _) (load_rows arg3 harg3 x2 _ _ (by rfl) (by decide) _) rfl)
      (addBwd_congr i (load_rows arg1 harg1 x0 _ _ (by rfl) (by decide) _) rfl)
      (nextFwd_congr i (load_rows arg2 harg2 x1 _ _ (by rfl) (by decide) _) (load_rows arg3 harg3 x2 _ _ (by rfl) (by decide) _) rfl)
      (nextBwd_congr i (load_rows arg2 harg2 x1 _ _ (by rfl) (by decide) _) (load_rows arg3 harg3 x2 _ _ (by rfl) (by decide) _) rfl)
  exact before_first i arg6 arg7 x0 x1 x2

/-- The result's contents after the last trip. -/
theorem acc_33 : View.canon (kernelRun0_A.sl.HS0_67 (F := Ideal) c i arg1 harg1 arg2 harg2 arg3 harg3 arg5 arg6 arg7 x0 x1 x2) = acc i x0 x1 x2 33 :=
  Cert.Trips.acc_next (D := 256) (E := 128) (v0 := arg5.view) (v1 := arg6.view) (v2 := arg7.view) (a := fun n => acc i x0 x1 x2 n)
    (uF := fun n => addFwd i (wideRows x0 n) (wideRows x1 n) (narrowRows x2 n)) (uB := fun n => addBwd i (wideRows x0 (32 - n)))
    (fun _ => rfl) (n := 32) (by decide) (by rfl) (by rfl) (before_last c i arg1 harg1 arg2 harg2 arg3 harg3 arg5 arg6 arg7 x0 x1 x2)
    (addFwd_congr i (load_rows arg1 harg1 x0 _ _ (by rfl) (by decide) _) (load_rows arg2 harg2 x1 _ _ (by rfl) (by decide) _) (load_rows arg3 harg3 x2 _ _ (by rfl) (by decide) _) rfl)
    (addBwd_congr i (load_rows arg1 harg1 x0 _ _ (by rfl) (by decide) _) rfl) rfl

end Cert.KernelDqIdeal.Trip

end
-- ==== Proof.KernelDqValue.lean ====
/-
  What the kernel of the gradient in q computes: the result of one grid point at a row and a column, from the blocks that
  it reads, and from these the whole array after the run.
-/
module

public import proofs.«01_k».proof.Proof.KernelDqChain
public import Idealize.ShloMosaic.Lib.Claim

@[expose] public section

noncomputable section

namespace Cert.KernelDqIdeal.Trip

open Cert.Retention
open Cert.Trips (addRows)
open Cert.KernelDqIdeal Cert.KernelDqIdeal.Gen Idealize.ShloMosaic Idealize.ShloMosaic.TcCoe Idealize.SL.Sem

/-! ## The decays -/

/-- The head that a grid point computes. -/
def head (i : grid0.Coords) : Fin 4 := i 0

theorem named_0 : Named.named (F := Ideal) Cert.KernelDqIdeal.κ "log_gamma_0" (φ := .f32) 0xBD020AEC#32 = ((lg 0 : ℝ) : EReal) := by
  rw [lg_zero]; exact IdealRules.named_const.ideal_named_scalar _ _ _ _ rfl

theorem named_1 : Named.named (F := Ideal) Cert.KernelDqIdeal.κ "log_gamma_1" (φ := .f32) 0xBC8102B3#32 = ((lg 1 : ℝ) : EReal) := by
  rw [lg_one]; exact IdealRules.named_const.ideal_named_scalar _ _ _ _ rfl

theorem named_2 : Named.named (F := Ideal) Cert.KernelDqIdeal.κ "log_gamma_2" (φ := .f32) 0xBC0080AC#32 = ((lg 2 : ℝ) : EReal) := by
  rw [lg_two]; exact IdealRules.named_const.ideal_named_scalar _ _ _ _ rfl

theorem named_3 : Named.named (F := Ideal) Cert.KernelDqIdeal.κ "log_gamma_3" (φ := .f32) 0xBB80402B#32 = ((lg 3 : ℝ) : EReal) := by
  rw [lg_three]; exact IdealRules.named_const.ideal_named_scalar _ _ _ _ rfl

/-- The chain of selections on the grid's coordinate picks the head's logarithm. -/
theorem log_gamma (i : grid0.Coords) : (k0_pay3 (F := Ideal) i : Ideal .f32) = ((lg (head i) : ℝ) : EReal) := by
  have key : ∀ h : Fin 4, (i 0 : Fin 4) = h → (k0_pay3 (F := Ideal) i : Ideal .f32) = ((lg h : ℝ) : EReal) := by
    intro h hh
    pointwise [k0_pay3]
    rw [hh, named_0, named_1, named_2, named_3]
    fin_cases h <;> rfl
  exact key _ rfl

/-- The decay from row to row within a chunk. -/
theorem decay_within (i : grid0.Coords) (r s : Fin 128) : (k0_pay4 (F := Ideal) i (ix2 r s) : EReal) = dec (head i) (dist r s) := by
  pointwise [k0_pay4]
  rw [log_gamma, dist_float]
  exact exp_mul' _ _ _ rfl

theorem decay_keep (i : grid0.Coords) (r : Fin 128) : (k0_pay6 (F := Ideal) i (ix2 r 0) : EReal) = dec (head i) (127 - r.val) := by
  pointwise [k0_pay6, k0_pay5]
  rw [log_gamma, row_float, word_127, ← EReal.coe_sub]
  exact exp_mul _ _ _ (by have := r.isLt; rw [Nat.cast_sub (by omega)]; norm_num)

theorem decay_read (i : grid0.Coords) (r : Fin 128) : (k0_pay7 (F := Ideal) i (ix2 r 0) : EReal) = dec (head i) (r.val + 1) := by
  pointwise [k0_pay7, k0_pay5]
  rw [log_gamma, row_float, ← EReal.coe_one, ← EReal.coe_add]
  exact exp_mul _ _ _ (by norm_num)

theorem decay_keep_back (i : grid0.Coords) (r : Fin 128) : (k0_pay8 (F := Ideal) i (ix2 r 0) : EReal) = dec (head i) r.val := by
  pointwise [k0_pay8, k0_pay5]
  rw [log_gamma, row_float]
  exact exp_mul _ _ _ rfl

theorem decay_read_back (i : grid0.Coords) (r : Fin 128) : (k0_pay9 (F := Ideal) i (ix2 r 0) : EReal) = dec (head i) (128 - r.val) := by
  pointwise [k0_pay9, k0_pay5]
  rw [log_gamma, row_float, word_128, ← EReal.coe_sub]
  exact exp_mul _ _ _ (by have := r.isLt; rw [Nat.cast_sub (by omega)]; norm_num)

/-- The decay of a state over a chunk. -/
theorem decay_chunk (i : grid0.Coords) : (k0_pay10 (F := Ideal) i : EReal) = dec (head i) 128 := by
  show Ideal.exp ((Ideal.ofBits .f32 0x43000000#32 : EReal) * (k0_pay3 (F := Ideal) i : EReal)) = _
  rw [log_gamma, word_128]
  exact exp_mul _ _ _ (by norm_num)

/-! ## One trip at an index -/

/-- A block's rows, chunk by chunk. -/
def wide (x : FVec Ideal S4224x256 .bf16) (n : ℕ) (r : Fin 128) (d : Fin 256) : EReal := x (ix2 (rowAt n r) d)

/-- A block's rows, chunk by chunk. -/
def narrow (x : FVec Ideal S4224x128 .f32) (n : ℕ) (r : Fin 128) (d : Fin 128) : EReal := x (ix2 (rowAt n r) d)

theorem stFwd_at (i : grid0.Coords) (x1 : FVec Ideal S4224x256 .bf16) (x2 : FVec Ideal S4224x128 .f32) (d : Fin 256) (e : Fin 128) :
    ∀ n : ℕ, (stFwd i x1 x2 n (ix2 d e) : EReal) = before (head i) (wide x1) (narrow x2) n d e
  | 0 => rfl
  | n + 1 => by
    have ih := stFwd_at i x1 x2 d e n
    rw [show stFwd i x1 x2 (n + 1) = nextFwd i (wideRows x1 n) (narrowRows x2 n) (stFwd i x1 x2 n) from rfl]
    pointwise [nextFwd]
    rw [ih, decay_chunk]
    simp only [decay_keep]
    rfl

theorem stBwd_at (i : grid0.Coords) (x1 : FVec Ideal S4224x256 .bf16) (x2 : FVec Ideal S4224x128 .f32) (d : Fin 256) (e : Fin 128) :
    ∀ n : ℕ, (stBwd i x1 x2 n (ix2 d e) : EReal) = behind (head i) (wide x1) (narrow x2) n d e
  | 0 => rfl
  | n + 1 => by
    have ih := stBwd_at i x1 x2 d e n
    rw [show stBwd i x1 x2 (n + 1) = nextBwd i (wideRows x1 (32 - n)) (narrowRows x2 (32 - n)) (stBwd i x1 x2 n) from rfl]
    pointwise [nextBwd]
    rw [ih, decay_chunk]
    simp only [decay_keep_back]
    rfl

/-- What the forward half of a trip adds to a row: the chunk's own part and the earlier chunks'. -/
theorem addFwd_at (i : grid0.Coords) (x0 x1 : FVec Ideal S4224x256 .bf16) (x2 : FVec Ideal S4224x128 .f32) (n : ℕ) (r e : Fin 128) :
    (addFwd i (wideRows x0 n) (wideRows x1 n) (narrowRows x2 n) (stFwd i x1 x2 n) (ix2 r e) : EReal)
      = within (head i) (wide x0) (wide x1) (narrow x2) n r e + fromBefore (head i) (wide x0) (wide x1) (narrow x2) n r e := by
  pointwise [addFwd]
  simp only [decay_within, decay_read, stFwd_at]
  rfl

/-- What the backward half of trip `k` adds to a row of chunk `32 - k`. -/
theorem addBwd_at (i : grid0.Coords) (x0 x1 : FVec Ideal S4224x256 .bf16) (x2 : FVec Ideal S4224x128 .f32) (n k : ℕ) (hk : k = 32 - n) (r e : Fin 128) :
    (addBwd i (wideRows x0 n) (stBwd i x1 x2 k) (ix2 r e) : EReal)
      = fromBehind (head i) (wide x0) (wide x1) (narrow x2) n r e := by
  subst hk
  pointwise [addBwd]
  simp only [decay_read_back, stBwd_at]
  rfl

/-- The result before trip `k`: a row holds the forward half's part once its chunk's trip is over, and the backward
    half's part once the trip that counts from the other end is. -/
theorem acc_at (i : grid0.Coords) (x0 x1 : FVec Ideal S4224x256 .bf16) (x2 : FVec Ideal S4224x128 .f32) (n : ℕ) (hn : n < 33) (r e : Fin 128) :
    ∀ k : ℕ, k ≤ 33 → (acc i x0 x1 x2 k (ix2 (rowAt n r) e) : EReal)
      = (if n < k then within (head i) (wide x0) (wide x1) (narrow x2) n r e + fromBefore (head i) (wide x0) (wide x1) (narrow x2) n r e else 0)
        + (if 32 - n < k then fromBehind (head i) (wide x0) (wide x1) (narrow x2) n r e else 0)
  | 0, _ => by
    rw [if_neg (Nat.not_lt_zero _), if_neg (Nat.not_lt_zero _)]
    show (0 : EReal) = 0 + 0
    rw [add_zero]
  | k + 1, hk => by
    have ih := acc_at i x0 x1 x2 n hn r e k (by omega)
    have hdiv : (rowAt n r).val / 128 = n := by rw [rowAt_val hn]; have := r.isLt; omega
    have hmod : (⟨(rowAt n r).val % 128, Nat.mod_lt _ (by norm_num)⟩ : Fin 128) = r :=
      Fin.ext (by show (rowAt n r).val % 128 = r.val; rw [rowAt_val hn]; have := r.isLt; omega)
    have step : ∀ (k' : ℕ) (u : FVec Ideal S128x128 .f32) (f : FVec Ideal S4224x128 .f32),
        (addRows k' u f (ix2 (rowAt n r) e) : EReal) = f (ix2 (rowAt n r) e) + (if n = k' then u (ix2 r e) else 0) := by
      intro k' u f
      show (if (rowAt n r).val / 128 = k' then f (ix2 (rowAt n r) e) + u (ix2 (⟨(rowAt n r).val % 128, _⟩ : Fin 128) e) else f (ix2 (rowAt n r) e)) = _
      rw [hdiv, hmod]
      split
      · rfl
      · rw [add_zero]
    rw [show acc i x0 x1 x2 (k + 1) = addRows (32 - k) (addBwd i (wideRows x0 (32 - k)) (stBwd i x1 x2 k))
      (addRows k (addFwd i (wideRows x0 k) (wideRows x1 k) (narrowRows x2 k) (stFwd i x1 x2 k)) (acc i x0 x1 x2 k)) from rfl]
    rw [step, step, ih]
    by_cases h1 : n = k
    · subst h1
      rw [if_neg (lt_irrefl _), if_pos rfl, if_pos (Nat.lt_succ_self _), addFwd_at, zero_add]
      by_cases h2 : n = 32 - n
      · rw [if_pos h2, if_neg (by omega), if_pos (by omega), zero_add]
        congr 1
        rw [← h2]
        exact addBwd_at i x0 x1 x2 n n h2 r e
      · rw [if_neg h2, add_zero, add_comm]
        congr 1
        exact if_congr (by omega) rfl rfl
    · rw [if_neg h1, add_zero, if_congr (show n < k + 1 ↔ n < k by omega) rfl rfl, add_assoc]
      congr 1
      by_cases h2 : n = 32 - k
      · rw [if_neg (by omega), if_pos h2, if_pos (by omega), zero_add]
        have hk' : k = 32 - n := by omega
        rw [← h2]
        exact addBwd_at i x0 x1 x2 n k hk' r e
      · rw [if_neg h2, add_zero]
        exact if_congr (by omega) rfl rfl

/-- THE RESULT OF ONE GRID POINT at a row and a column: the retention of its head. -/
theorem point_at (i : grid0.Coords) (x0 x1 : FVec Ideal S4224x256 .bf16) (x2 : FVec Ideal S4224x128 .f32) (n : ℕ) (hn : n < 33) (r e : Fin 128) :
    (acc i x0 x1 x2 33 (ix2 (rowAt n r) e) : EReal) = retention (head i) (wide x0) (wide x1) (narrow x2) n r e := by
  rw [acc_at i x0 x1 x2 n hn r e 33 le_rfl, if_pos hn, if_pos (by omega)]
  rfl

end Cert.KernelDqIdeal.Trip

end
-- ==== Proof.KernelDqArray.lean ====
/-
  The array of the gradient in q after the run of the kernel: what each grid point writes back, and where.
-/
module

public import proofs.«01_k».proof.Proof.KernelDqValue
public import proofs.«01_k».proof.Proof.Gen.KernelDqIdeal.Value
public import Idealize.ShloMosaic.Lib.Pipeline.ValueKit

@[expose] public section

noncomputable section

namespace Cert.KernelDqIdeal.Trip

open Cert.Retention
open Cert.KernelDqIdeal Cert.KernelDqIdeal.Gen Idealize.ShloMosaic Idealize.ShloMosaic.TcCoe Idealize.SL.Sem

/-- A load of a whole buffer reads its contents. -/
theorem whole_read {sig' : RefSig} {κ' : Kind} {sp : Space} (v : View sig' κ' sp S4224x128 .f32) (L : List (View.Piece (Elt Ideal) S4224x128 .f32)) :
    v.readCov L (Rect.unit (s := S4224x128) ![0, 0] ![4224, 128] inb_S4224x128_S4224x128_0_0).toLoadRect = View.canon L :=
  (View.readCov_eq_canon' v L _).trans (View.ld_unit_zero (S := S4224x128) (off := ![0, 0]) (by decide) inb_S4224x128_S4224x128_0_0 (View.canon L))

/-- What a grid point stores is the result after its last trip. -/
theorem out_acc (c : Dev nD) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S256x128 .f32) (harg6 : arg6.IsWhole) (arg7 : Memref sig .tc .vmem S256x128 .f32) (harg7 : arg7.IsWhole)
    (x0 x1 : FVec Ideal S4224x256 .bf16) (x2 : FVec Ideal S4224x128 .f32) :
    out0_A_3 (F := Ideal) c i arg1 harg1 arg2 harg2 arg3 harg3 arg4 harg4 arg5 harg5 arg6 harg6 arg7 harg7 x0 x1 x2 = acc i x0 x1 x2 33 := by
  rw [← acc_33 c i arg1 harg1 arg2 harg2 arg3 harg3 arg5 arg6 arg7 x0 x1 x2]
  unfold out0_A_3 kernelRun0_A
  rw [View.read_writes_junk_eq_canon]
  refine (View.canon_cons_unit_zero (S := S4224x128) (off := ![0, 0]) (by decide) inb_S4224x128_S4224x128_0_0 (kernelRun0_A.sl.v2556 (F := Ideal) c i arg1 harg1 arg2 harg2 arg3 harg3 arg5 arg6 arg7 x0 x1 x2) []).trans ?_
  unfold kernelRun0_A.sl.v2556
  exact whole_read arg5.view _

variable (m : (ℓ : Loc nD τ sig) → Buf (Elt Ideal) ℓ)

/-- Where each window's block stands: all rows, and the head's columns. -/
theorem idx : ∀ t : Fin cfg0.N, win0_0.index t = ![0, (grid0.coords t 0).val] ∧ win0_1.index t = ![0, (grid0.coords t 0).val + 4]
    ∧ win0_2.index t = ![0, (grid0.coords t 0).val] ∧ win0_3.index t = ![0, (grid0.coords t 0).val] :=
  (by decide +kernel : ∀ t : Fin grid0.N, win0_0.index t = ![0, (grid0.coords t 0).val] ∧ win0_1.index t = ![0, (grid0.coords t 0).val + 4]
    ∧ win0_2.index t = ![0, (grid0.coords t 0).val] ∧ win0_3.index t = ![0, (grid0.coords t 0).val])

/-- The gradient in q at a head, a chunk, a row and a column: the retention of the launch's arrays. -/
def result (c : Dev nD) (h : Fin 4) (n : ℕ) (r d : Fin 128) : EReal :=
  retention h
    (fun n r d => m ((c : Thread nD τ).loc main_arg3) (ix2 (rowAt n r) (colv h d)))
    (fun n r d => m ((c : Thread nD τ).loc main_arg2) (ix2 (rowAt n r) (colp h d)))
    (fun n r d => m ((c : Thread nD τ).loc main_arg1) (ix2 (rowAt n r) (col h d))) n r d

/-- The whole array of the gradient. -/
def results (c : Dev nD) : FVec Ideal S4224x512 .f32 := fun y =>
  result m c ⟨(y 1).val / 128, by have : (y 1).val < 512 := (y 1).isLt; omega⟩ ((y 0).val / 128)
    ⟨(y 0).val % 128, Nat.mod_lt _ (by norm_num)⟩ ⟨(y 1).val % 128, Nat.mod_lt _ (by norm_num)⟩

/-- The blocks that a grid point reads are its head's columns of the launch's arrays. -/
theorem read_0 (c : Dev nD) (t : Fin cfg0.N) : wide (iblk m c 0 t) = fun n r d => m ((c : Thread nD τ).loc main_arg3) (ix2 (rowAt n r) (colv (head (grid0.coords t)) d)) := by
  funext n r d
  unfold wide colv head
  blk_ext [iblk, V, (idx t).1]

theorem read_1 (c : Dev nD) (t : Fin cfg0.N) : wide (iblk m c 1 t) = fun n r d => m ((c : Thread nD τ).loc main_arg2) (ix2 (rowAt n r) (colp (head (grid0.coords t)) d)) := by
  funext n r d
  unfold wide colp head
  blk_ext [iblk, V, (idx t).2.1]

theorem read_2 (c : Dev nD) (t : Fin cfg0.N) : narrow (iblk m c 2 t) = fun n r d => m ((c : Thread nD τ).loc main_arg1) (ix2 (rowAt n r) (col (head (grid0.coords t)) d)) := by
  funext n r d
  unfold narrow col head
  blk_ext [iblk, V, (idx t).2.2.1]

/-- What a grid point writes back, at a row and a column of its block. -/
theorem written (c : Dev nD) (t : Fin cfg0.N) (n : ℕ) (hn : n < 33) (r e : Fin 128) :
    (outsAt0 m c t (ix2 (rowAt n r) e) : EReal) = result m c (head (grid0.coords t)) n r e := by
  unfold outsAt0
  rw [out_acc, point_at _ _ _ _ _ hn, read_0, read_1, read_2]
  rfl

/-- The same at any index of the block, and at its place in the array. -/
theorem written_block (c : Dev nD) (t : Fin cfg0.N) (y : S4224x128.Idx) :
    (outsAt0 m c t y : EReal) = results m c ((win0_3.blk t).view.emb y) := by
  obtain ⟨n, r, hr⟩ := row_cases (y 0)
  have hy : y = ix2 (rowAt n.val r) (y 1) := by rw [← hr]; exact eq_ix2 y
  have h0 : (((win0_3.blk t).view.emb y) 0 : ℕ) = 128 * n.val + r.val := by
    rw [← rowAt_val n.isLt, ← hr]
    blk_simp [(idx t).2.2.2]
  have h1 : (((win0_3.blk t).view.emb y) 1 : ℕ) = 128 * (head (grid0.coords t)).val + (y 1).val := by
    unfold head
    blk_simp [(idx t).2.2.2]
    omega
  have e0 : (y 1).val < 128 := (y 1).isLt
  refine (congrArg (outsAt0 m c t) hy).trans ((written m c t n.val n.isLt r (y 1)).trans ?_)
  show result m c _ _ _ _ = result m c _ _ _ _
  congr 1
  · apply Fin.ext; show _ = (((win0_3.blk t).view.emb y) 1 : ℕ) / 128; rw [h1]; omega
  · show _ = (((win0_3.blk t).view.emb y) 0 : ℕ) / 128; rw [h0]; have := r.isLt; omega
  · apply Fin.ext; show _ = (((win0_3.blk t).view.emb y) 0 : ℕ) % 128; rw [h0]; have := r.isLt; omega
  · apply Fin.ext; show _ = (((win0_3.blk t).view.emb y) 1 : ℕ) % 128; rw [h1]; omega

/-- THE KERNEL'S RESULT: the array after the run is the gradient, index by index. -/
theorem final (c : Dev nD) : (dats m 0 c).arrAt 3 cfg0.N = results m c := by
  refine (dats m 0 c).arrAt_eq_of_covers 3 (results m c) (by decide +kernel) fun t hf y => ?_
  blk_simp
  rw [after0_3]
  exact written_block m c t y

/-- The result at a row and a column. -/
theorem results_at (c : Dev nD) (n : ℕ) (hn : n < 33) (r d : Fin 128) (h : Fin 4) :
    (results m c (ix2 (rowAt n r) (col h d)) : EReal) = result m c h n r d := by
  have e0 : ((ix2 (rowAt n r) (col h d) : S4224x512.Idx) 0).val = 128 * n + r.val := rowAt_val hn r
  have e1 : ((ix2 (rowAt n r) (col h d) : S4224x512.Idx) 1).val = 128 * h.val + d.val := rfl
  have := r.isLt; have := d.isLt
  unfold results
  congr 1
  · exact Fin.ext (by show _ / 128 = _; omega)
  · omega
  · exact Fin.ext (by show _ % 128 = _; omega)
  · exact Fin.ext (by show _ % 128 = _; omega)

end Cert.KernelDqIdeal.Trip

end
-- ==== Proof.ReferenceDqRead.lean ====
/-
  The reference's gradient in q, read off its program: the arrays at its loop's entry, the loop over the chunks as a scan,
  and the result as the retention's sums.
-/
module

public import proofs.«01_k».proof.Proof.Words
public import proofs.«01_k».proof.Proof.Gen.ReferenceDqIdeal.Run
public import Idealize.ShloMosaic.Lib.StableHlo.ReadAt
public import Idealize.ShloMosaic.Lib.DynamicIndex
public import Idealize.ShloMosaic.Lib.Pipeline.Value
public import Idealize.ShloMosaic.Lib.Pointwise

@[expose] public section

noncomputable section

namespace Cert.ReferenceDqIdeal.Read

open Cert.Retention
open Cert.ReferenceDqIdeal Cert.ReferenceDqIdeal.Value Idealize.ShloMosaic Idealize.ShloMosaic.TcCoe Idealize.SL.Sem Idealize.ShloMosaic.StableHlo

variable (X : Valuation τ sig (Elt Ideal)) (m : (ℓ : Loc nD τ sig) → Buf (Elt Ideal) ℓ)

set_option maxRecDepth 16384
set_option maxHeartbeats 4000000

/-- The starts of the loop's slices, from the trip's number. -/
abbrev starts (w : S_.Idx → BitVec 32) : Fin 5 → ℤ :=
  fun k_1 => (((![w, constantI S_ 32 0#32, constantI S_ 32 0#32, constantI S_ 32 0#32, constantI S_ 32 0#32] : Fin 5 → (⟨S_, .i32⟩ : BufTy).Contents (Elt Ideal))) k_1 (Shape.Idx.first Gen.h_S_)).toInt

theorem starts_eq (k : ℕ) (hk : k < 33) : starts (fun _ => Scf.iv 0#32 1#32 k) = ![(k : ℤ), 0, 0, 0, 0] := by
  funext a
  fin_cases a
  · exact (by decide +kernel : ∀ k : Fin 33, (Scf.iv 0#32 1#32 k.val).toInt = (k.val : ℤ)) ⟨k, hk⟩
  all_goals rfl

/-- The states that the chunks add, the decays, the state carried, and the states before the chunks. -/
abbrev added (V : Valuation τ sig (Elt Ideal)) : S33x2x4x128x256.Idx → EReal := V (Proc.devRef .tc main_v76_0)
abbrev decays (V : Valuation τ sig (Elt Ideal)) : S33x2x4x1x1.Idx → EReal := V (Proc.devRef .tc main_v76_1)
abbrev carried (V : Valuation τ sig (Elt Ideal)) : S2x4x128x256.Idx → EReal := V (Proc.devRef .tc main_v76_3)
abbrev states (V : Valuation τ sig (Elt Ideal)) : S33x2x4x128x256.Idx → EReal := V (Proc.devRef .tc main_v76_4)

/-- The state after a trip: the state before it, decayed, and what the trip's chunk adds. -/
def nextState (A : FVec Ideal S33x2x4x128x256 .f32) (D : FVec Ideal S33x2x4x1x1 .f32) (C : FVec Ideal S2x4x128x256 .f32) (st : Fin 5 → ℤ) : FVec Ideal S2x4x128x256 .f32 :=
  addf (mulf C (broadcastInDim S2x4x128x256 ![0, 1, 2, 3] Gen.bcast_S2x4x1x1_S2x4x128x256_0_1_2_3
      (shapeCast S2x4x1x1 (Host.dynamicSlice S1x2x4x1x1 D st Gen.sliceFits_S33x2x4x1x1_S1x2x4x1x1) Gen.shapeCasts_S1x2x4x1x1_S2x4x1x1)))
    (shapeCast S2x4x128x256 (Host.dynamicSlice S1x2x4x128x256 A st Gen.sliceFits_S33x2x4x128x256_S1x2x4x128x256) Gen.shapeCasts_S1x2x4x128x256_S2x4x128x256)

/-- The states before the chunks, with the one before this trip's chunk written in. -/
def nextStates (P : FVec Ideal S33x2x4x128x256 .f32) (C : FVec Ideal S2x4x128x256 .f32) (st : Fin 5 → ℤ) : FVec Ideal S33x2x4x128x256 .f32 :=
  Host.dynamicUpdateSlice P (broadcastInDim S1x2x4x128x256 ![1, 2, 3, 4] Gen.bcast_S2x4x128x256_S1x2x4x128x256_1_2_3_4 C) st Gen.updateFits_S33x2x4x128x256_S1x2x4x128x256

theorem nextState_at (A : FVec Ideal S33x2x4x128x256 .f32) (D : FVec Ideal S33x2x4x1x1 .f32) (C : FVec Ideal S2x4x128x256 .f32) (k : ℕ) (hk : k < 33)
    (z : Fin 2) (h : Fin 4) (d : Fin 128) (e : Fin 256) :
    (nextState A D C ![(k : ℤ), 0, 0, 0, 0] (ix4 z h d e) : EReal) = C (ix4 z h d e) * D (ix5 (⟨k, hk⟩ : Fin 33) z h (0 : Fin 1) (0 : Fin 1)) + A (ix5 (⟨k, hk⟩ : Fin 33) z h d e) := by
  unfold nextState
  have hs : ∀ a : Fin 5, (![(k : ℤ), 0, 0, 0, 0] : Fin 5 → ℤ) a = ((![k, 0, 0, 0, 0] : Fin 5 → ℕ) a : ℤ) := by
    intro a; fin_cases a <;> rfl
  have h1 : S33x2x4x1x1.Slices ![k, 0, 0, 0, 0] S1x2x4x1x1 := ⟨rfl, by intro a; fin_cases a <;> simp <;> omega⟩
  have h2 : S33x2x4x128x256.Slices ![k, 0, 0, 0, 0] S1x2x4x128x256 := ⟨rfl, by intro a; fin_cases a <;> simp <;> omega⟩
  rw [Host.dynamicSlice_eq_extractStridedSlice S1x2x4x1x1 D ![(k : ℤ), 0, 0, 0, 0] ![k, 0, 0, 0, 0] _ h1 hs]
  rw [Host.dynamicSlice_eq_extractStridedSlice S1x2x4x128x256 A ![(k : ℤ), 0, 0, 0, 0] ![k, 0, 0, 0, 0] _ h2 hs]
  pointwise

theorem nextStates_at (P : FVec Ideal S33x2x4x128x256 .f32) (C : FVec Ideal S2x4x128x256 .f32) (k : ℕ) (hk : k < 33) (n : Fin 33) (z : Fin 2) (h : Fin 4) (d : Fin 128) (e : Fin 256) :
    (nextStates P C ![(k : ℤ), 0, 0, 0, 0] (ix5 n z h d e) : EReal) = if n.val = k then C (ix4 z h d e) else P (ix5 n z h d e) := by
  unfold nextStates
  have h2 : S33x2x4x128x256.Slices ![k, 0, 0, 0, 0] S1x2x4x128x256 := ⟨rfl, by intro a; fin_cases a <;> simp <;> omega⟩
  rw [Host.dynamicUpdateSlice_eq_updateSlice P _ ![(k : ℤ), 0, 0, 0, 0] _ ![k, 0, 0, 0, 0] (by
    intro a; fin_cases a
    · show (min (max (k : ℤ) 0) ((33 - 1 : ℕ) : ℤ)).toNat = k
      omega
    all_goals rfl) h2]
  pointwise
  split_ifs <;> first | rfl | (exfalso; omega)

theorem carry_step (V : Valuation τ sig (Elt Ideal)) : step_main_v76_3 V = nextState (added V) (decays V) (carried V) (starts (V (Proc.devRef .tc main_v76_2))) := by
  unfold step_main_v76_3 nextState
  rfl

theorem states_step (V : Valuation τ sig (Elt Ideal)) : step_main_v76_4 V = nextStates (states V) (carried V) (starts (V (Proc.devRef .tc main_v76_2))) := by
  unfold step_main_v76_4 nextStates
  rfl

/-! ## The arrays at the loop's entry -/

/-- The chunks' rows of the three inputs. -/
abbrev grad (V : Valuation τ sig (Elt Ideal)) (n : ℕ) (s : Fin 128) (h : Fin 4) (e : Fin 256) : EReal :=
  (V (Proc.devRef .tc main_arg3) : S4224x1024.Idx → EReal) (ix2 (rowAt n s) (colv h e))
abbrev vals (V : Valuation τ sig (Elt Ideal)) (n : ℕ) (s : Fin 128) (h : Fin 4) (e : Fin 256) : EReal :=
  (V (Proc.devRef .tc main_arg2) : S4224x8192.Idx → EReal) (ix2 (rowAt n s) (colp h e))
abbrev keys (V : Valuation τ sig (Elt Ideal)) (n : ℕ) (s : Fin 128) (h : Fin 4) (d : Fin 128) : EReal :=
  (V (Proc.devRef .tc main_arg1) : S4224x512.Idx → EReal) (ix2 (rowAt n s) (col h d))

/-- The entry's contents. -/
abbrev entry : Valuation τ sig (Elt Ideal) := afterL preI X

theorem decays_entry (n : Fin 33) (z : Fin 2) (h : Fin 4) : decays (entry X) (ix5 n z h (0 : Fin 1) (0 : Fin 1)) = dec h 128 := by
  unfold decays entry
  simp only [preI, afterL_cons, afterL_nil]
  after_reads_at
  simp only [id_eq]
  pointwise
  rw [gamma, word_128]
  exact exp_mul _ _ _ (by norm_num)

theorem added_before (n : Fin 33) (h : Fin 4) (d : Fin 128) (e : Fin 256) :
    added (entry X) (ix5 n (0 : Fin 2) h d e) = ∑ s, keys X n.val s h d * dec h (127 - s.val) * vals X n.val s h e := by
  unfold added entry
  simp only [preI, afterL_cons, afterL_nil]
  after_reads_at
  simp only [id_eq]
  pointwise
  after_reads_at
  pointwise [List.mem_singleton, row_mk, col_mk, colp_mk, row_rev, Fin.eta]
  refine Finset.sum_congr rfl fun s _ => congrArg (· * vals X n.val s h e) (congrArg (keys X n.val s h d * ·) ?_)
  exact keep_word h s

theorem added_behind (n : Fin 33) (h : Fin 4) (d : Fin 128) (e : Fin 256) :
    added (entry X) (ix5 n (1 : Fin 2) h d e) = ∑ s, keys X (32 - n.val) s h d * dec h s.val * vals X (32 - n.val) s h e := by
  unfold added entry
  simp only [preI, afterL_cons, afterL_nil]
  after_reads_at
  simp only [id_eq]
  pointwise
  after_reads_at
  pointwise [List.mem_singleton, row_mk, col_mk, colp_mk, row_rev, Fin.eta]
  have hn : n.rev.val = 32 - n.val := by rw [Fin.val_rev]; omega
  refine Eq.trans ?_ (Equiv.sum_comp Fin.revPerm _)
  rw [← hn]
  refine Finset.sum_congr rfl fun s _ => congrArg (· * vals X n.rev.val s.rev h e) (congrArg (keys X n.rev.val s.rev h d * ·) ?_)
  exact (keep_word h s).trans (congrArg (dec h) (by show 127 - s.val = s.rev.val; rw [Fin.val_rev]; omega))

theorem carried_entry (z : Fin 2) (h : Fin 4) (d : Fin 128) (e : Fin 256) : carried (entry X) (ix4 z h d e) = 0 := by
  unfold carried entry
  simp only [preI, afterL_cons, afterL_nil]
  after_reads_at
  simp only [id_eq]
  pointwise

theorem states_entry (n : Fin 33) (z : Fin 2) (h : Fin 4) (d : Fin 128) (e : Fin 256) : states (entry X) (ix5 n z h d e) = 0 := by
  unfold states entry
  simp only [preI, afterL_cons, afterL_nil]
  after_reads_at
  simp only [id_eq]
  pointwise

abbrev gradArg (V : Valuation τ sig (Elt Ideal)) : S4224x1024.Idx → EReal := V (Proc.devRef .tc main_arg3)
abbrev readDecay (V : Valuation τ sig (Elt Ideal)) : S128x4.Idx → EReal := V (Proc.devRef .tc main_v60)
abbrev valueChunks (V : Valuation τ sig (Elt Ideal)) : S1x33x128x4x256.Idx → EReal := V (Proc.devRef .tc main_v15)
abbrev keyChunks (V : Valuation τ sig (Elt Ideal)) : S1x33x128x4x128.Idx → EReal := V (Proc.devRef .tc main_v14)
abbrev withinDecay (V : Valuation τ sig (Elt Ideal)) : S1x1x4x128x128.Idx → EReal := V (Proc.devRef .tc main_v30)

theorem valueChunks_entry (n : Fin 33) (s : Fin 128) (h : Fin 4) (e : Fin 256) : valueChunks (entry X) (ix5 (0 : Fin 1) n s h e) = vals X n.val s h e := by
  unfold valueChunks entry
  simp only [preI, afterL_cons, afterL_nil]
  after_reads_at
  pointwise [row_mk, colp_mk]

theorem keyChunks_entry (n : Fin 33) (s : Fin 128) (h : Fin 4) (d : Fin 128) : keyChunks (entry X) (ix5 (0 : Fin 1) n s h d) = keys X n.val s h d := by
  unfold keyChunks entry
  simp only [preI, afterL_cons, afterL_nil]
  after_reads_at
  pointwise [row_mk, col_mk]

theorem withinDecay_entry (h : Fin 4) (r s : Fin 128) : withinDecay (entry X) (ix5 (0 : Fin 1) (0 : Fin 1) h r s) = dec h (dist r s) := by
  unfold withinDecay entry
  simp only [preI, afterL_cons, afterL_nil]
  after_reads_at
  rw [gamma]
  refine (congrArg (fun x : EReal => Ideal.exp (((lg h : ℝ) : EReal) * x)) (dist_floats r s)).trans ?_
  exact exp_mul' _ _ _ rfl

theorem readDecay_entry (h : Fin 4) (r : Fin 128) : readDecay (entry X) (ix2 r h) = dec h (r.val + 1) := by
  unfold readDecay entry
  simp only [preI, afterL_cons, afterL_nil]
  after_reads_at
  rw [gamma, row_float, ← EReal.coe_one, ← EReal.coe_add]
  exact exp_mul _ _ _ (by norm_num)

theorem gradArg_entry : gradArg (entry X) = gradArg X := by
  unfold gradArg entry
  simp only [preI, afterL_cons, afterL_nil]
  after_reads_simp

/-! ## The result, from the arrays after the loop -/

theorem post (n : Fin 33) (r : Fin 128) (h : Fin 4) (d : Fin 128) :
    (afterL postI X (Proc.devRef .tc main_v116) (ix2 (rowAt n.val r) (col h d)) : EReal)
      = (∑ e, grad X n.val r h e * states X (ix5 n (0 : Fin 2) h d e)) * readDecay X (ix2 r h)
        + (∑ e, grad X n.val r h e * states X (ix5 n.rev (1 : Fin 2) h d e)) * readDecay X (ix2 r.rev h)
        + ∑ s, (∑ e, grad X n.val r h e * valueChunks X (ix5 (0 : Fin 1) n s h e))
            * withinDecay X (ix5 (0 : Fin 1) (0 : Fin 1) h r s) * keyChunks X (ix5 (0 : Fin 1) n s h d) := by
  simp only [postI, afterL_cons, afterL_nil]
  after_reads_at
  pointwise [List.mem_singleton, row_rev, row_mk, row_div, row_mod, col_mk, col_div, col_mod, colv_mk, Fin.rev_rev, Fin.eta, false_and, row_lt]

/-! ## The loop -/

/-- A trip of the loop leaves what it does not write. -/
theorem trip_valueChunks : valueChunks (afterL bodyI (after condOps X)) = valueChunks X := by
  unfold valueChunks
  simp only [bodyI, afterL_cons, afterL_nil]
  after_reads_simp

theorem trip_keyChunks : keyChunks (afterL bodyI (after condOps X)) = keyChunks X := by
  unfold keyChunks
  simp only [bodyI, afterL_cons, afterL_nil]
  after_reads_simp

theorem trip_withinDecay : withinDecay (afterL bodyI (after condOps X)) = withinDecay X := by
  unfold withinDecay
  simp only [bodyI, afterL_cons, afterL_nil]
  after_reads_simp

theorem trip_readDecay : readDecay (afterL bodyI (after condOps X)) = readDecay X := by
  unfold readDecay
  simp only [bodyI, afterL_cons, afterL_nil]
  after_reads_simp

theorem trip_gradArg : gradArg (afterL bodyI (after condOps X)) = gradArg X := by
  unfold gradArg
  simp only [bodyI, afterL_cons, afterL_nil]
  after_reads_simp

/-- The loop's test leaves everything the result reads. -/
theorem test_keeps (j : Ref sig .tc) (hj : j ∈ [main_v76_4, main_v15, main_v14, main_v30, main_v60, main_arg3]) :
    after condOps X (Proc.devRef .tc j) = X (Proc.devRef .tc j) := by
  refine after_of_forall_not_mem condOps X fun op hop => ?_
  fin_cases hop <;> fin_cases hj <;> exact fun h => devRef_ne_of_ne (by decide) (Finset.mem_singleton.mp h)

/-- Before each trip, and after the last, what the trips do not write is as at the entry. -/
theorem kept (c : Dev nD) : ∀ k : ℕ,
    valueChunks (atK m k c) = valueChunks (entryContents preI m c) ∧ keyChunks (atK m k c) = keyChunks (entryContents preI m c)
      ∧ withinDecay (atK m k c) = withinDecay (entryContents preI m c) ∧ readDecay (atK m k c) = readDecay (entryContents preI m c)
      ∧ gradArg (atK m k c) = gradArg (entryContents preI m c)
      ∧ added (atK m k c) = added (entryContents preI m c) ∧ decays (atK m k c) = decays (entryContents preI m c)
  | 0 => ⟨rfl, rfl, rfl, rfl, rfl, rfl, rfl⟩
  | k + 1 => by
    obtain ⟨h1, h2, h3, h4, h5, h6, h7⟩ := kept c k
    exact ⟨(trip_valueChunks _).trans h1, (trip_keyChunks _).trans h2, (trip_withinDecay _).trans h3, (trip_readDecay _).trans h4, (trip_gradArg _).trans h5,
      ((trip_agree (atK m k c) main_v76_0 (by decide)).trans (STEP_main_v76_0 _)).trans h6,
      ((trip_agree (atK m k c) main_v76_1 (by decide)).trans (STEP_main_v76_1 _)).trans h7⟩

/-- What the entry's arrays give as the terms of the scan. -/
abbrev term (c : Dev nD) (z : Fin 2) (h : Fin 4) (d : Fin 128) (e : Fin 256) (n : ℕ) : EReal :=
  if hn : n < 33 then added (entryContents preI m c) (ix5 (⟨n, hn⟩ : Fin 33) z h d e) else 0

/-- The loop is the scan: the state carried, and the states written so far. -/
theorem loop (c : Dev nD) (z : Fin 2) (h : Fin 4) (d : Fin 128) (e : Fin 256) : ∀ k : ℕ, k ≤ 33 →
    carried (atK m k c) (ix4 z h d e) = scan (fun _ => dec h 128) (term m c z h d e) k
      ∧ ∀ n : Fin 33, states (atK m k c) (ix5 n z h d e) = if n.val < k then scan (fun _ => dec h 128) (term m c z h d e) n.val else 0
  | 0, _ => ⟨carried_entry (X := _) z h d e, fun n => states_entry (X := _) n z h d e⟩
  | k + 1, hk => by
    have hk' : k < 33 := by omega
    obtain ⟨ih1, ih2⟩ := loop c z h d e k (by omega)
    obtain ⟨-, -, -, -, -, hA, hD⟩ := kept m c k
    have hw : starts (atK m k c (Proc.devRef .tc main_v76_2)) = ![(k : ℤ), 0, 0, 0, 0] := by
      rw [← starts_eq k hk']
      exact congrArg starts (atK_ctr m c k)
    constructor
    · have e1 : carried (atK m (k + 1) c) = nextState (added (atK m k c)) (decays (atK m k c)) (carried (atK m k c)) (starts (atK m k c (Proc.devRef .tc main_v76_2))) :=
        ((trip_agree (atK m k c) main_v76_3 (by decide)).trans (STEP_main_v76_3 _)).trans (carry_step _)
      rw [e1, hw, nextState_at _ _ _ k hk', ih1, hA, hD]
      refine congrArg₂ (· + ·) (congrArg (_ * ·) (decays_entry (X := _) _ z h)) ?_
      show _ = dite _ _ _
      rw [dif_pos hk']
    · intro n
      have e1 : states (atK m (k + 1) c) = nextStates (states (atK m k c)) (carried (atK m k c)) (starts (atK m k c (Proc.devRef .tc main_v76_2))) :=
        ((trip_agree (atK m k c) main_v76_4 (by decide)).trans (STEP_main_v76_4 _)).trans (states_step _)
      rw [e1, hw, nextStates_at _ _ k hk', ih1, ih2]
      split_ifs <;> first | rfl | (exfalso; omega) | (congr 1; omega) | (simp_all; done)

/-! ## The result -/

/-- The gradient in q, as the reference computes it, is the retention of the launch's arrays. -/
theorem total (c : Dev nD) (n : Fin 33) (r : Fin 128) (h : Fin 4) (d : Fin 128) :
    (finalContents condOps preI bodyI postI 33 m c (Proc.devRef .tc main_v116) (ix2 (rowAt n.val r) (col h d)) : EReal)
      = retention h (fun n r e => grad (launchContents m c) n r h e) (fun n r e => vals (launchContents m c) n r h e) (fun n r d => keys (launchContents m c) n r h d) n.val r d := by
  obtain ⟨k1, k2, k3, k4, k5, -, -⟩ := kept m c 33
  have t : ∀ j ∈ [main_v76_4, main_v15, main_v14, main_v30, main_v60, main_arg3], after condOps (atK m 33 c) (Proc.devRef .tc j) = atK m 33 c (Proc.devRef .tc j) := test_keeps _
  have g : ∀ e, grad (after condOps (atK m 33 c)) n.val r h e = grad (launchContents m c) n.val r h e := fun e =>
    congrFun ((t main_arg3 (by decide)).trans (k5.trans (gradArg_entry _))) _
  have s : ∀ (a : Fin 33) (z : Fin 2) (e : Fin 256), states (after condOps (atK m 33 c)) (ix5 a z h d e) = scan (fun _ => dec h 128) (term m c z h d e) a.val := fun a z e =>
    (congrFun (t main_v76_4 (by decide)) _).trans (((loop m c z h d e 33 le_rfl).2 a).trans (if_pos a.isLt))
  have b : ∀ r, readDecay (after condOps (atK m 33 c)) (ix2 r h) = dec h (r.val + 1) := fun r =>
    (congrFun ((t main_v60 (by decide)).trans k4) _).trans (readDecay_entry _ h r)
  have v : ∀ s e, valueChunks (after condOps (atK m 33 c)) (ix5 (0 : Fin 1) n s h e) = vals (launchContents m c) n.val s h e := fun s e =>
    (congrFun ((t main_v15 (by decide)).trans k1) _).trans (valueChunks_entry _ n s h e)
  have k : ∀ s, keyChunks (after condOps (atK m 33 c)) (ix5 (0 : Fin 1) n s h d) = keys (launchContents m c) n.val s h d := fun s =>
    (congrFun ((t main_v14 (by decide)).trans k2) _).trans (keyChunks_entry _ n s h d)
  have w : ∀ s, withinDecay (after condOps (atK m 33 c)) (ix5 (0 : Fin 1) (0 : Fin 1) h r s) = dec h (dist r s) := fun s =>
    (congrFun ((t main_v30 (by decide)).trans k3) _).trans (withinDecay_entry _ h r s)
  have hn := n.isLt
  have sb : ∀ e, scan (fun _ => dec h 128) (term m c 0 h d e) n.val = before h (fun n r e => vals (launchContents m c) n r h e) (fun n r d => keys (launchContents m c) n r h d) n.val e d := by
    intro e
    unfold before
    rw [state_scan]
    refine scan_congr _ (fun _ _ => rfl) fun a ha => ?_
    show dite _ _ _ = _
    rw [dif_pos (by omega)]
    refine (added_before _ ⟨a, by omega⟩ h d e).trans (Finset.sum_congr rfl fun s _ => ?_)
    ac_rfl
  have sc : ∀ e, scan (fun _ => dec h 128) (term m c 1 h d e) (32 - n.val) = behind h (fun n r e => vals (launchContents m c) n r h e) (fun n r d => keys (launchContents m c) n r h d) (32 - n.val) e d := by
    intro e
    unfold behind
    rw [state_scan]
    refine scan_congr _ (fun _ _ => rfl) fun a ha => ?_
    show dite _ _ _ = _
    rw [dif_pos (by omega)]
    refine (added_behind _ ⟨a, by omega⟩ h d e).trans (Finset.sum_congr rfl fun s _ => ?_)
    ac_rfl
  refine (post (after condOps (atK m 33 c)) n r h d).trans ?_
  have hr : n.rev.val = 32 - n.val := by rw [Fin.val_rev]; omega
  have hq : r.rev.val + 1 = 128 - r.val := by rw [Fin.val_rev]; have := r.isLt; omega
  simp only [g, s, b, v, k, w, sb, hr, sc, hq]
  unfold retention within fromBefore fromBehind
  rw [add_comm _ (∑ s, _), ← add_assoc]
  refine congrArg₂ (· + ·) (congrArg₂ (· + ·) rfl ?_) ?_
  · rw [mul_comm, dec_sum]
    exact Finset.sum_congr rfl fun e _ => by beta_reduce; ac_rfl
  · rw [mul_comm, dec_sum]
    exact Finset.sum_congr rfl fun e _ => by beta_reduce; ac_rfl

/-- The program's arguments. -/
abbrev args : List (Ref sig .tc) := [main_arg0, main_arg1, main_arg2, main_arg3]

theorem pre_args : ∀ j ∈ args, afterL preI X (Proc.devRef .tc j) = X (Proc.devRef .tc j) := by
  simp only [args, List.forall_mem_cons, List.not_mem_nil, false_imp_iff, implies_true, and_true]
  refine ⟨?_, ?_, ?_, ?_⟩
  all_goals
    simp only [preI, afterL_cons, afterL_nil]
    after_reads_simp

theorem trip_args : ∀ j ∈ args, afterL bodyI (after condOps X) (Proc.devRef .tc j) = X (Proc.devRef .tc j) := by
  simp only [args, List.forall_mem_cons, List.not_mem_nil, false_imp_iff, implies_true, and_true]
  refine ⟨?_, ?_, ?_, ?_⟩
  all_goals
    simp only [bodyI, afterL_cons, afterL_nil]
    after_reads_simp

theorem post_args : ∀ j ∈ args, afterL postI (after condOps X) (Proc.devRef .tc j) = X (Proc.devRef .tc j) := by
  simp only [args, List.forall_mem_cons, List.not_mem_nil, false_imp_iff, implies_true, and_true]
  refine ⟨?_, ?_, ?_, ?_⟩
  all_goals
    simp only [postI, afterL_cons, afterL_nil]
    after_reads_simp

/-- The arguments end as they were. -/
theorem args_kept (c : Dev nD) (j : Ref sig .tc) (hj : j ∈ args) :
    finalContents condOps preI bodyI postI 33 m c (Proc.devRef .tc j) = launchContents m c (Proc.devRef .tc j) := by
  have trips : ∀ k, atK m k c (Proc.devRef .tc j) = entryContents preI m c (Proc.devRef .tc j) := by
    intro k
    induction k with
    | zero => rfl
    | succ k ih => exact (trip_args _ j hj).trans ih
  exact (post_args _ j hj).trans ((trips 33).trans (pre_args _ j hj))

end Cert.ReferenceDqIdeal.Read

end
-- ==== Proof.ClaimsDq.lean ====
/-
  The claims about the gradient in q: the runs of the kernel, of its idealization and of the reference, and the equality
  of their results.
-/
module

public import proofs.«01_k».proof.Proof.KernelDqArray
public import proofs.«01_k».proof.Proof.ReferenceDqRead
public import proofs.«01_k».proof.Proof.Gen.KernelDq.Frame
public import proofs.«01_k».proof.Proof.Gen.KernelDqIdeal.Frame
public import proofs.«01_k».proof.Defs

@[expose] public section

noncomputable section

namespace Cert.Proof

open Idealize.ShloMosaic Idealize.ShloMosaic.TcCoe Idealize.SL.Sem Cert.Retention

/-- The kernel runs, keeps its arguments and ends with every counter at zero. -/
theorem frame_KernelDq : Cert.quiescent_KernelDq (hKernelDq := Cert.KernelDq.Gen.facts) := fun m ρ _ => Cert.KernelDq.Gen.frame m ρ

/-- So does its idealization. -/
theorem frame_KernelDqIdeal : Cert.quiescent_KernelDqIdeal (hKernelDqIdeal := Cert.KernelDqIdeal.Gen.facts) := fun m ρ _ => Cert.KernelDqIdeal.Gen.frame m ρ

/-- So does the reference. -/
theorem frame_ReferenceDqIdeal : Cert.quiescent_ReferenceDqIdeal (hReferenceDqIdeal := Cert.ReferenceDqIdeal.Gen.facts) := fun m ρ _ =>
  (θ_run Cert.ReferenceDqIdeal.defs _ _).mono (fun r h => ⟨fun c =>
    ⟨(h c _ rfl).trans (Cert.ReferenceDqIdeal.Read.args_kept m c _ (by decide)), (h c _ rfl).trans (Cert.ReferenceDqIdeal.Read.args_kept m c _ (by decide)),
      (h c _ rfl).trans (Cert.ReferenceDqIdeal.Read.args_kept m c _ (by decide)), (h c _ rfl).trans (Cert.ReferenceDqIdeal.Read.args_kept m c _ (by decide))⟩,
    sem_eq_zero_of_no_sems (by decide) r.2⟩) (Cert.ReferenceDqIdeal.Value.run_fold m ρ)

/-- The named logarithms are what the kernel's words stand for. -/
theorem preserves_KernelDq : Cert.preserves_KernelDq_KernelDqIdeal :=
  ⟨IdealRules.named_const.statement _ _ _ _ _ rfl, IdealRules.named_const.statement _ _ _ _ _ rfl, IdealRules.named_const.statement _ _ _ _ _ rfl,
    IdealRules.named_const.statement _ _ _ _ _ rfl⟩

/-- From equal arguments the reference's array is the kernel's. -/
theorem equal_Dq (m : (ℓ : Loc Cert.KernelDqIdeal.nD Cert.KernelDqIdeal.τ Cert.KernelDqIdeal.sig) → Buf (Elt Ideal) ℓ)
    (m' : (ℓ : Loc Cert.ReferenceDqIdeal.nD Cert.ReferenceDqIdeal.τ Cert.ReferenceDqIdeal.sig) → Buf (Elt Ideal) ℓ) (c : Dev Cert.KernelDqIdeal.nD)
    (h1 : m' ((c.tc : Thread Cert.ReferenceDqIdeal.nD Cert.ReferenceDqIdeal.τ).loc Cert.ReferenceDqIdeal.main_arg1) = m ((c.tc : Thread Cert.KernelDqIdeal.nD Cert.KernelDqIdeal.τ).loc Cert.KernelDqIdeal.main_arg1))
    (h2 : m' ((c.tc : Thread Cert.ReferenceDqIdeal.nD Cert.ReferenceDqIdeal.τ).loc Cert.ReferenceDqIdeal.main_arg2) = m ((c.tc : Thread Cert.KernelDqIdeal.nD Cert.KernelDqIdeal.τ).loc Cert.KernelDqIdeal.main_arg2))
    (h3 : m' ((c.tc : Thread Cert.ReferenceDqIdeal.nD Cert.ReferenceDqIdeal.τ).loc Cert.ReferenceDqIdeal.main_arg3) = m ((c.tc : Thread Cert.KernelDqIdeal.nD Cert.KernelDqIdeal.τ).loc Cert.KernelDqIdeal.main_arg3)) :
    StableHlo.finalContents Cert.ReferenceDqIdeal.Value.condOps Cert.ReferenceDqIdeal.Value.preI Cert.ReferenceDqIdeal.Value.bodyI Cert.ReferenceDqIdeal.Value.postI 33 m' c
        (Proc.devRef .tc Cert.ReferenceDqIdeal.main_v116) = Cert.KernelDqIdeal.Trip.results m c := by
  funext y
  obtain ⟨n, r, hr⟩ := row_cases (y 0)
  obtain ⟨h, d, hd⟩ := col_cases (y 1)
  have hy : y = ix2 (rowAt n.val r) (col h d) := by rw [← hr, ← hd]; exact eq_ix2 y
  rw [hy]
  refine (Cert.ReferenceDqIdeal.Read.total m' c n r h d).trans (Eq.trans ?_ (Cert.KernelDqIdeal.Trip.results_at m c n.val n.isLt r d h).symm)
  have e1 : (fun (n : ℕ) (r : Fin 128) (e : Fin 256) => Cert.ReferenceDqIdeal.Read.grad (StableHlo.launchContents m' c) n r h e) = fun n r e => m ((c.tc : Thread Cert.KernelDqIdeal.nD Cert.KernelDqIdeal.τ).loc Cert.KernelDqIdeal.main_arg3) (ix2 (rowAt n r) (colv h e)) := by
    funext n r e; exact congrFun h3 _
  have e2 : (fun (n : ℕ) (r : Fin 128) (e : Fin 256) => Cert.ReferenceDqIdeal.Read.vals (StableHlo.launchContents m' c) n r h e) = fun n r e => m ((c.tc : Thread Cert.KernelDqIdeal.nD Cert.KernelDqIdeal.τ).loc Cert.KernelDqIdeal.main_arg2) (ix2 (rowAt n r) (colp h e)) := by
    funext n r e; exact congrFun h2 _
  have e3 : (fun (n : ℕ) (r : Fin 128) (e : Fin 128) => Cert.ReferenceDqIdeal.Read.keys (StableHlo.launchContents m' c) n r h e) = fun n r e => m ((c.tc : Thread Cert.KernelDqIdeal.nD Cert.KernelDqIdeal.τ).loc Cert.KernelDqIdeal.main_arg1) (ix2 (rowAt n r) (col h e)) := by
    funext n r e; exact congrFun h1 _
  rw [e1, e2, e3]
  rfl

/-- The idealized kernel and the reference end with equal gradients in q. -/
theorem algebraic_Dq : Cert.algebraic_KernelDqIdeal_ReferenceDqIdeal (hKernelDqIdeal := Cert.KernelDqIdeal.Gen.facts) (hReferenceDqIdeal := Cert.ReferenceDqIdeal.Gen.facts) :=
  fun m g m' g' _ hargs => ⟨fun c => Cert.KernelDqIdeal.Trip.results m c,
    (θ_run Cert.KernelDqIdeal.defs _ _).mono (fun r h c => ⟨(h c).1.trans (Cert.KernelDqIdeal.Trip.final m c), (h c).2⟩) (Cert.KernelDqIdeal.Value.run_blocks m g),
    (θ_run Cert.ReferenceDqIdeal.defs _ _).mono (fun r h c =>
      ⟨(h c _ rfl).trans (equal_Dq m m' c (hargs c).2.1 (hargs c).2.2.1 (hargs c).2.2.2),
        (h c _ rfl).trans (Cert.ReferenceDqIdeal.Read.args_kept m' c _ (by decide)), (h c _ rfl).trans (Cert.ReferenceDqIdeal.Read.args_kept m' c _ (by decide)),
        (h c _ rfl).trans (Cert.ReferenceDqIdeal.Read.args_kept m' c _ (by decide)), (h c _ rfl).trans (Cert.ReferenceDqIdeal.Read.args_kept m' c _ (by decide))⟩)
      (Cert.ReferenceDqIdeal.Value.run_fold m' g')⟩

end Cert.Proof

end
-- ==== Proof.KernelDkTrip.lean ====
/-
  One trip of the kernel of the gradient in k, as functions of the row blocks it reads: the update it adds to a block of
  rows of the result, in each direction, and the state it carries on. Each is then read at an index: sums of products
  of extended reals.
-/
module

public import proofs.«01_k».proof.Proof.Gen.KernelDkIdeal.Value
public import proofs.«01_k».proof.Proof.Words
public import proofs.«01_k».proof.Proof.Trips

@[expose] public section

noncomputable section

namespace Cert.KernelDkIdeal.Trip

open Cert.Retention (rowAt rowAt_val)
open Cert.Trips (addRows)
open Cert.KernelDkIdeal Cert.KernelDkIdeal.Gen Idealize.ShloMosaic Idealize.ShloMosaic.TcCoe Idealize.SL.Sem

/-! ## Blocks of rows -/

/-- The `n`-th block of 128 rows of an array of 256 columns. -/
def wideRows (x : FVec Ideal S4224x256 .bf16) (n : ℕ) : FVec Ideal S128x256 .bf16 := fun j => x (ix2 (rowAt n (j 0)) (j 1))

/-- The `n`-th block of 128 rows of an array of 128 columns. -/
def narrowRows (x : FVec Ideal S4224x128 .f32) (n : ℕ) : FVec Ideal S128x128 .f32 := fun j => x (ix2 (rowAt n (j 0)) (j 1))

/-! ## One trip -/

/-- What the forward half of a trip adds to its block of the result. -/
def addFwd (i : grid0.Coords) (a b : FVec Ideal S128x256 .bf16) (v : FVec Ideal S128x128 .f32) (st : FVec Ideal S256x128 .f32) :
    FVec Ideal S128x128 .f32 :=
  addf
    (matmul dot_S128x128_S128x128_S128x128_1_0_0_1_n_n none
      (truncf .bf16 (mulf (matmul dot_S128x256_S128x256_S128x128_1_1_0_0_n_n none a b (constant S128x128 .f32 0x00000000#32)) (k0_pay4 i)) bitsLt_bf16_f32)
      (truncf .bf16 v bitsLt_bf16_f32) (constant S128x128 .f32 0x00000000#32))
    (matmul dot_S128x256_S256x128_S128x128_1_0_0_1_n_n none
      (truncf .bf16 (mulf (extf .f32 a bitsLt_bf16_f32) (broadcastTo S128x256 (k0_pay7 i) broadcasts_S128x1_S128x256)) bitsLt_bf16_f32)
      (truncf .bf16 st bitsLt_bf16_f32) (constant S128x128 .f32 0x00000000#32))

/-- What the backward half of a trip adds to its block of the result. -/
def addBwd (i : grid0.Coords) (a : FVec Ideal S128x256 .bf16) (st : FVec Ideal S256x128 .f32) : FVec Ideal S128x128 .f32 :=
  matmul dot_S128x256_S256x128_S128x128_1_0_0_1_n_n none
    (truncf .bf16 (mulf (extf .f32 a bitsLt_bf16_f32) (broadcastTo S128x256 (k0_pay9 i) broadcasts_S128x1_S128x256)) bitsLt_bf16_f32)
    (truncf .bf16 st bitsLt_bf16_f32) (constant S128x128 .f32 0x00000000#32)

/-- The state that the forward half of a trip carries on. -/
def nextFwd (i : grid0.Coords) (b : FVec Ideal S128x256 .bf16) (v : FVec Ideal S128x128 .f32) (st : FVec Ideal S256x128 .f32) :
    FVec Ideal S256x128 .f32 :=
  addf (mulf (broadcast S256x128 (k0_pay10 i)) st)
    (matmul dot_S128x256_S128x128_S256x128_0_0_1_1_n_n none
      (truncf .bf16 (mulf (extf .f32 b bitsLt_bf16_f32) (broadcastTo S128x256 (k0_pay6 i) broadcasts_S128x1_S128x256)) bitsLt_bf16_f32)
      (truncf .bf16 v bitsLt_bf16_f32) (constant S256x128 .f32 0x00000000#32))

/-- The state that the backward half of a trip carries on. -/
def nextBwd (i : grid0.Coords) (b : FVec Ideal S128x256 .bf16) (v : FVec Ideal S128x128 .f32) (st : FVec Ideal S256x128 .f32) :
    FVec Ideal S256x128 .f32 :=
  addf (mulf (broadcast S256x128 (k0_pay10 i)) st)
    (matmul dot_S128x256_S128x128_S256x128_0_0_1_1_n_n none
      (truncf .bf16 (mulf (extf .f32 b bitsLt_bf16_f32) (broadcastTo S128x256 (k0_pay8 i) broadcasts_S128x1_S128x256)) bitsLt_bf16_f32)
      (truncf .bf16 v bitsLt_bf16_f32) (constant S256x128 .f32 0x00000000#32))

/-! ## The trips -/

/-- The states' first contents. -/
def zeroState : FVec Ideal S256x128 .f32 := fun _ => (0 : EReal)

/-- The forward state before trip `n`. -/
def stFwd (i : grid0.Coords) (x1 : FVec Ideal S4224x256 .bf16) (x2 : FVec Ideal S4224x128 .f32) : ℕ → FVec Ideal S256x128 .f32
  | 0 => zeroState
  | n + 1 => nextFwd i (wideRows x1 n) (narrowRows x2 n) (stFwd i x1 x2 n)

/-- The backward state before trip `n`, which reads the blocks from the last one down. -/
def stBwd (i : grid0.Coords) (x1 : FVec Ideal S4224x256 .bf16) (x2 : FVec Ideal S4224x128 .f32) : ℕ → FVec Ideal S256x128 .f32
  | 0 => zeroState
  | n + 1 => nextBwd i (wideRows x1 (32 - n)) (narrowRows x2 (32 - n)) (stBwd i x1 x2 n)

/-- The result before trip `n`. -/
def acc (i : grid0.Coords) (x0 x1 : FVec Ideal S4224x256 .bf16) (x2 : FVec Ideal S4224x128 .f32) : ℕ → FVec Ideal S4224x128 .f32
  | 0 => fun _ => (0 : EReal)
  | n + 1 => addRows (32 - n) (addBwd i (wideRows x0 (32 - n)) (stBwd i x1 x2 n))
      (addRows n (addFwd i (wideRows x0 n) (wideRows x1 n) (narrowRows x2 n) (stFwd i x1 x2 n)) (acc i x0 x1 x2 n))

/-! ## Equal blocks and states give equal updates and states -/

theorem addFwd_congr (i : grid0.Coords) {a a' b b' : FVec Ideal S128x256 .bf16} {v v' : FVec Ideal S128x128 .f32} {st st' : FVec Ideal S256x128 .f32}
    (ha : a = a') (hb : b = b') (hv : v = v') (hs : st = st') : addFwd i a b v st = addFwd i a' b' v' st' := by
  rw [ha, hb, hv, hs]

theorem addBwd_congr (i : grid0.Coords) {a a' : FVec Ideal S128x256 .bf16} {st st' : FVec Ideal S256x128 .f32}
    (ha : a = a') (hs : st = st') : addBwd i a st = addBwd i a' st' := by
  rw [ha, hs]

theorem nextFwd_congr (i : grid0.Coords) {b b' : FVec Ideal S128x256 .bf16} {v v' : FVec Ideal S128x128 .f32} {st st' : FVec Ideal S256x128 .f32}
    (hb : b = b') (hv : v = v') (hs : st = st') : nextFwd i b v st = nextFwd i b' v' st' := by
  rw [hb, hv, hs]

theorem nextBwd_congr (i : grid0.Coords) {b b' : FVec Ideal S128x256 .bf16} {v v' : FVec Ideal S128x128 .f32} {st st' : FVec Ideal S256x128 .f32}
    (hb : b = b') (hv : v = v') (hs : st = st') : nextBwd i b v st = nextBwd i b' v' st' := by
  rw [hb, hv, hs]

/-! ## The first fills -/

theorem fill_fwd : (k0_pay11 : FVec Ideal S256x128 .f32) = zeroState := by
  funext j
  show Idealize.ShloMosaic.Ideal.ofBits .f32 0x00000000#32 = (0 : EReal)
  exact Ideal.ofBits_zero ..

theorem fill_bwd : (shapeCast S256x128 (k0_pay12 : FVec Ideal S256x128 .f32) shapeCasts_S256x128_S256x128 : FVec Ideal S256x128 .f32) = zeroState := by
  funext j
  show Idealize.ShloMosaic.Ideal.ofBits .f32 0x00000000#32 = (0 : EReal)
  exact Ideal.ofBits_zero ..

theorem fill_acc (i : grid0.Coords) (x0 x1 : FVec Ideal S4224x256 .bf16) (x2 : FVec Ideal S4224x128 .f32) :
    View.canon (Val := Elt Ideal) kernelRun0_A.sl.HS0_1 = acc i x0 x1 x2 0 := by
  unfold kernelRun0_A.sl.HS0_1
  rw [View.canon_cons_unit_zero (by funext a; fin_cases a <;> rfl)]
  funext j
  show Idealize.ShloMosaic.Ideal.ofBits .f32 0x00000000#32 = (0 : EReal)
  exact Ideal.ofBits_zero ..

end Cert.KernelDkIdeal.Trip

end
-- ==== Proof.KernelDkChain.lean ====
/-
  The trips of the kernel of the gradient in k, one after another: before each, the states are those that the trip before it
  carried on, and the contents of the result are those before with the two updates added.
-/
module

public import proofs.«01_k».proof.Proof.KernelDkTrip

@[expose] public section

noncomputable section

namespace Cert.KernelDkIdeal.Trip

open Cert.Trips (Before load_rows fill_read)
open Cert.KernelDkIdeal Cert.KernelDkIdeal.Gen Idealize.ShloMosaic Idealize.ShloMosaic.TcCoe Idealize.SL.Sem

variable (c : Dev nD) (i : grid0.Coords) (arg1 : Memref sig .tc .vmem S4224x256 .bf16) (harg1 : arg1.IsWhole) (arg2 : Memref sig .tc .vmem S4224x256 .bf16) (harg2 : arg2.IsWhole)
  (arg3 : Memref sig .tc .vmem S4224x128 .f32) (harg3 : arg3.IsWhole) (arg5 : Memref sig .tc .vmem S4224x128 .f32) (arg6 arg7 : Memref sig .tc .vmem S256x128 .f32)
  (x0 x1 : FVec Ideal S4224x256 .bf16) (x2 : FVec Ideal S4224x128 .f32)

/-- What is there before trip `n`. -/
abbrev At := Before (D := 256) (E := 128) arg6.view arg7.view (fun n => acc i x0 x1 x2 n) (stFwd i x1 x2) (stBwd i x1 x2)

/-- Before the first trip there are the fills. -/
theorem before_first : At i arg6 arg7 x0 x1 x2 0 kernelRun0_A.sl.HS0_1 kernelRun0_A.sl.HS1_1 kernelRun0_A.sl.HS2_1 :=
  ⟨fill_acc i x0 x1 x2, (fill_read (D := 256) (E := 128) arg6.view _ _).trans fill_fwd, (fill_read (D := 256) (E := 128) arg7.view _ _).trans fill_bwd⟩

/-- Before the last trip: each of those before it is one use of `Before.next`. -/
theorem before_last : At i arg6 arg7 x0 x1 x2 32 (kernelRun0_A.sl.HS0_65 (F := Ideal) c i arg1 harg1 arg2 harg2 arg3 harg3 arg5 arg6 arg7 x0 x1 x2)
    (kernelRun0_A.sl.HS1_33 (F := Ideal) c i arg2 harg2 arg3 harg3 arg6 x1 x2) (kernelRun0_A.sl.HS2_33 (F := Ideal) c i arg2 harg2 arg3 harg3 arg7 x1 x2) := by
  iterate 32
    refine Before.next (D := 256) (E := 128) (v0 := arg5.view) (v1 := arg6.view) (v2 := arg7.view)
      (uF := fun n => addFwd i (wideRows x0 n) (wideRows x1 n) (narrowRows x2 n)) (uB := fun n => addBwd i (wideRows x0 (32 - n)))
      (nF := fun n => nextFwd i (wideRows x1 n) (narrowRows x2 n)) (nB := fun n => nextBwd i (wideRows x1 (32 - n)) (narrowRows x2 (32 - n)))
      (fun _ => rfl) (fun _ => rfl) (fun _ => rfl) (by decide) (by rfl) (by rfl) ?_ rfl
      (addFwd_congr i (load_rows arg1 harg1 x0 _ _ (by rfl) (by decide) _) (load_rows arg2 harg2 x1 _ _ (by rfl) (by decide) _) (load_rows arg3 harg3 x2 _ _ (by rfl) (by decide) _) rfl)
      (addBwd_congr i (load_rows arg1 harg1 x0 _ _ (by rfl) (by decide) _) rfl)
      (nextFwd_congr i (load_rows arg2 harg2 x1 _ _ (by rfl) (by decide) _) (load_rows arg3 harg3 x2 _ _ (by rfl) (by decide) _) rfl)
      (nextBwd_congr i (load_rows arg2 harg2 x1 _ _ (by rfl) (by decide) _) (load_rows arg3 harg3 x2 _ _ (by rfl) (by decide) _) rfl)
  exact before_first i arg6 arg7 x0 x1 x2

/-- The result's contents after the last trip. -/
theorem acc_33 : View.canon (kernelRun0_A.sl.HS0_67 (F := Ideal) c i arg1 harg1 arg2 harg2 arg3 harg3 arg5 arg6 arg7 x0 x1 x2) = acc i x0 x1 x2 33 :=
  Cert.Trips.acc_next (D := 256) (E := 128) (v0 := arg5.view) (v1 := arg6.view) (v2 := arg7.view) (a := fun n => acc i x0 x1 x2 n)
    (uF := fun n => addFwd i (wideRows x0 n) (wideRows x1 n) (narrowRows x2 n)) (uB := fun n => addBwd i (wideRows x0 (32 - n)))
    (fun _ => rfl) (n := 32) (by decide) (by rfl) (by rfl) (before_last c i arg1 harg1 arg2 harg2 arg3 harg3 arg5 arg6 arg7 x0 x1 x2)
    (addFwd_congr i (load_rows arg1 harg1 x0 _ _ (by rfl) (by decide) _) (load_rows arg2 harg2 x1 _ _ (by rfl) (by decide) _) (load_rows arg3 harg3 x2 _ _ (by rfl) (by decide) _) rfl)
    (addBwd_congr i (load_rows arg1 harg1 x0 _ _ (by rfl) (by decide) _) rfl) rfl

end Cert.KernelDkIdeal.Trip

end
-- ==== Proof.KernelDkValue.lean ====
/-
  What the kernel of the gradient in k computes: the result of one grid point at a row and a column, from the blocks that
  it reads, and from these the whole array after the run.
-/
module

public import proofs.«01_k».proof.Proof.KernelDkChain
public import Idealize.ShloMosaic.Lib.Claim

@[expose] public section

noncomputable section

namespace Cert.KernelDkIdeal.Trip

open Cert.Retention
open Cert.Trips (addRows)
open Cert.KernelDkIdeal Cert.KernelDkIdeal.Gen Idealize.ShloMosaic Idealize.ShloMosaic.TcCoe Idealize.SL.Sem

/-! ## The decays -/

/-- The head that a grid point computes. -/
def head (i : grid0.Coords) : Fin 4 := i 0

theorem named_0 : Named.named (F := Ideal) Cert.KernelDkIdeal.κ "log_gamma_0" (φ := .f32) 0xBD020AEC#32 = ((lg 0 : ℝ) : EReal) := by
  rw [lg_zero]; exact IdealRules.named_const.ideal_named_scalar _ _ _ _ rfl

theorem named_1 : Named.named (F := Ideal) Cert.KernelDkIdeal.κ "log_gamma_1" (φ := .f32) 0xBC8102B3#32 = ((lg 1 : ℝ) : EReal) := by
  rw [lg_one]; exact IdealRules.named_const.ideal_named_scalar _ _ _ _ rfl

theorem named_2 : Named.named (F := Ideal) Cert.KernelDkIdeal.κ "log_gamma_2" (φ := .f32) 0xBC0080AC#32 = ((lg 2 : ℝ) : EReal) := by
  rw [lg_two]; exact IdealRules.named_const.ideal_named_scalar _ _ _ _ rfl

theorem named_3 : Named.named (F := Ideal) Cert.KernelDkIdeal.κ "log_gamma_3" (φ := .f32) 0xBB80402B#32 = ((lg 3 : ℝ) : EReal) := by
  rw [lg_three]; exact IdealRules.named_const.ideal_named_scalar _ _ _ _ rfl

/-- The chain of selections on the grid's coordinate picks the head's logarithm. -/
theorem log_gamma (i : grid0.Coords) : (k0_pay3 (F := Ideal) i : Ideal .f32) = ((lg (head i) : ℝ) : EReal) := by
  have key : ∀ h : Fin 4, (i 0 : Fin 4) = h → (k0_pay3 (F := Ideal) i : Ideal .f32) = ((lg h : ℝ) : EReal) := by
    intro h hh
    pointwise [k0_pay3]
    rw [hh, named_0, named_1, named_2, named_3]
    fin_cases h <;> rfl
  exact key _ rfl

/-- The decay from row to row within a chunk. -/
theorem decay_within (i : grid0.Coords) (r s : Fin 128) : (k0_pay4 (F := Ideal) i (ix2 r s) : EReal) = dec (head i) (dist r s) := by
  pointwise [k0_pay4]
  rw [log_gamma, dist_float]
  exact exp_mul' _ _ _ rfl

theorem decay_keep (i : grid0.Coords) (r : Fin 128) : (k0_pay6 (F := Ideal) i (ix2 r 0) : EReal) = dec (head i) (127 - r.val) := by
  pointwise [k0_pay6, k0_pay5]
  rw [log_gamma, row_float, word_127, ← EReal.coe_sub]
  exact exp_mul _ _ _ (by have := r.isLt; rw [Nat.cast_sub (by omega)]; norm_num)

theorem decay_read (i : grid0.Coords) (r : Fin 128) : (k0_pay7 (F := Ideal) i (ix2 r 0) : EReal) = dec (head i) (r.val + 1) := by
  pointwise [k0_pay7, k0_pay5]
  rw [log_gamma, row_float, ← EReal.coe_one, ← EReal.coe_add]
  exact exp_mul _ _ _ (by norm_num)

theorem decay_keep_back (i : grid0.Coords) (r : Fin 128) : (k0_pay8 (F := Ideal) i (ix2 r 0) : EReal) = dec (head i) r.val := by
  pointwise [k0_pay8, k0_pay5]
  rw [log_gamma, row_float]
  exact exp_mul _ _ _ rfl

theorem decay_read_back (i : grid0.Coords) (r : Fin 128) : (k0_pay9 (F := Ideal) i (ix2 r 0) : EReal) = dec (head i) (128 - r.val) := by
  pointwise [k0_pay9, k0_pay5]
  rw [log_gamma, row_float, word_128, ← EReal.coe_sub]
  exact exp_mul _ _ _ (by have := r.isLt; rw [Nat.cast_sub (by omega)]; norm_num)

/-- The decay of a state over a chunk. -/
theorem decay_chunk (i : grid0.Coords) : (k0_pay10 (F := Ideal) i : EReal) = dec (head i) 128 := by
  show Ideal.exp ((Ideal.ofBits .f32 0x43000000#32 : EReal) * (k0_pay3 (F := Ideal) i : EReal)) = _
  rw [log_gamma, word_128]
  exact exp_mul _ _ _ (by norm_num)

/-! ## One trip at an index -/

/-- A block's rows, chunk by chunk. -/
def wide (x : FVec Ideal S4224x256 .bf16) (n : ℕ) (r : Fin 128) (d : Fin 256) : EReal := x (ix2 (rowAt n r) d)

/-- A block's rows, chunk by chunk. -/
def narrow (x : FVec Ideal S4224x128 .f32) (n : ℕ) (r : Fin 128) (d : Fin 128) : EReal := x (ix2 (rowAt n r) d)

theorem stFwd_at (i : grid0.Coords) (x1 : FVec Ideal S4224x256 .bf16) (x2 : FVec Ideal S4224x128 .f32) (d : Fin 256) (e : Fin 128) :
    ∀ n : ℕ, (stFwd i x1 x2 n (ix2 d e) : EReal) = before (head i) (wide x1) (narrow x2) n d e
  | 0 => rfl
  | n + 1 => by
    have ih := stFwd_at i x1 x2 d e n
    rw [show stFwd i x1 x2 (n + 1) = nextFwd i (wideRows x1 n) (narrowRows x2 n) (stFwd i x1 x2 n) from rfl]
    pointwise [nextFwd]
    rw [ih, decay_chunk]
    simp only [decay_keep]
    rfl

theorem stBwd_at (i : grid0.Coords) (x1 : FVec Ideal S4224x256 .bf16) (x2 : FVec Ideal S4224x128 .f32) (d : Fin 256) (e : Fin 128) :
    ∀ n : ℕ, (stBwd i x1 x2 n (ix2 d e) : EReal) = behind (head i) (wide x1) (narrow x2) n d e
  | 0 => rfl
  | n + 1 => by
    have ih := stBwd_at i x1 x2 d e n
    rw [show stBwd i x1 x2 (n + 1) = nextBwd i (wideRows x1 (32 - n)) (narrowRows x2 (32 - n)) (stBwd i x1 x2 n) from rfl]
    pointwise [nextBwd]
    rw [ih, decay_chunk]
    simp only [decay_keep_back]
    rfl

/-- What the forward half of a trip adds to a row: the chunk's own part and the earlier chunks'. -/
theorem addFwd_at (i : grid0.Coords) (x0 x1 : FVec Ideal S4224x256 .bf16) (x2 : FVec Ideal S4224x128 .f32) (n : ℕ) (r e : Fin 128) :
    (addFwd i (wideRows x0 n) (wideRows x1 n) (narrowRows x2 n) (stFwd i x1 x2 n) (ix2 r e) : EReal)
      = within (head i) (wide x0) (wide x1) (narrow x2) n r e + fromBefore (head i) (wide x0) (wide x1) (narrow x2) n r e := by
  pointwise [addFwd]
  simp only [decay_within, decay_read, stFwd_at]
  rfl

/-- What the backward half of trip `k` adds to a row of chunk `32 - k`. -/
theorem addBwd_at (i : grid0.Coords) (x0 x1 : FVec Ideal S4224x256 .bf16) (x2 : FVec Ideal S4224x128 .f32) (n k : ℕ) (hk : k = 32 - n) (r e : Fin 128) :
    (addBwd i (wideRows x0 n) (stBwd i x1 x2 k) (ix2 r e) : EReal)
      = fromBehind (head i) (wide x0) (wide x1) (narrow x2) n r e := by
  subst hk
  pointwise [addBwd]
  simp only [decay_read_back, stBwd_at]
  rfl

/-- The result before trip `k`: a row holds the forward half's part once its chunk's trip is over, and the backward
    half's part once the trip that counts from the other end is. -/
theorem acc_at (i : grid0.Coords) (x0 x1 : FVec Ideal S4224x256 .bf16) (x2 : FVec Ideal S4224x128 .f32) (n : ℕ) (hn : n < 33) (r e : Fin 128) :
    ∀ k : ℕ, k ≤ 33 → (acc i x0 x1 x2 k (ix2 (rowAt n r) e) : EReal)
      = (if n < k then within (head i) (wide x0) (wide x1) (narrow x2) n r e + fromBefore (head i) (wide x0) (wide x1) (narrow x2) n r e else 0)
        + (if 32 - n < k then fromBehind (head i) (wide x0) (wide x1) (narrow x2) n r e else 0)
  | 0, _ => by
    rw [if_neg (Nat.not_lt_zero _), if_neg (Nat.not_lt_zero _)]
    show (0 : EReal) = 0 + 0
    rw [add_zero]
  | k + 1, hk => by
    have ih := acc_at i x0 x1 x2 n hn r e k (by omega)
    have hdiv : (rowAt n r).val / 128 = n := by rw [rowAt_val hn]; have := r.isLt; omega
    have hmod : (⟨(rowAt n r).val % 128, Nat.mod_lt _ (by norm_num)⟩ : Fin 128) = r :=
      Fin.ext (by show (rowAt n r).val % 128 = r.val; rw [rowAt_val hn]; have := r.isLt; omega)
    have step : ∀ (k' : ℕ) (u : FVec Ideal S128x128 .f32) (f : FVec Ideal S4224x128 .f32),
        (addRows k' u f (ix2 (rowAt n r) e) : EReal) = f (ix2 (rowAt n r) e) + (if n = k' then u (ix2 r e) else 0) := by
      intro k' u f
      show (if (rowAt n r).val / 128 = k' then f (ix2 (rowAt n r) e) + u (ix2 (⟨(rowAt n r).val % 128, _⟩ : Fin 128) e) else f (ix2 (rowAt n r) e)) = _
      rw [hdiv, hmod]
      split
      · rfl
      · rw [add_zero]
    rw [show acc i x0 x1 x2 (k + 1) = addRows (32 - k) (addBwd i (wideRows x0 (32 - k)) (stBwd i x1 x2 k))
      (addRows k (addFwd i (wideRows x0 k) (wideRows x1 k) (narrowRows x2 k) (stFwd i x1 x2 k)) (acc i x0 x1 x2 k)) from rfl]
    rw [step, step, ih]
    by_cases h1 : n = k
    · subst h1
      rw [if_neg (lt_irrefl _), if_pos rfl, if_pos (Nat.lt_succ_self _), addFwd_at, zero_add]
      by_cases h2 : n = 32 - n
      · rw [if_pos h2, if_neg (by omega), if_pos (by omega), zero_add]
        congr 1
        rw [← h2]
        exact addBwd_at i x0 x1 x2 n n h2 r e
      · rw [if_neg h2, add_zero, add_comm]
        congr 1
        exact if_congr (by omega) rfl rfl
    · rw [if_neg h1, add_zero, if_congr (show n < k + 1 ↔ n < k by omega) rfl rfl, add_assoc]
      congr 1
      by_cases h2 : n = 32 - k
      · rw [if_neg (by omega), if_pos h2, if_pos (by omega), zero_add]
        have hk' : k = 32 - n := by omega
        rw [← h2]
        exact addBwd_at i x0 x1 x2 n k hk' r e
      · rw [if_neg h2, add_zero]
        exact if_congr (by omega) rfl rfl

/-- THE RESULT OF ONE GRID POINT at a row and a column: the retention of its head. -/
theorem point_at (i : grid0.Coords) (x0 x1 : FVec Ideal S4224x256 .bf16) (x2 : FVec Ideal S4224x128 .f32) (n : ℕ) (hn : n < 33) (r e : Fin 128) :
    (acc i x0 x1 x2 33 (ix2 (rowAt n r) e) : EReal) = retention (head i) (wide x0) (wide x1) (narrow x2) n r e := by
  rw [acc_at i x0 x1 x2 n hn r e 33 le_rfl, if_pos hn, if_pos (by omega)]
  rfl

end Cert.KernelDkIdeal.Trip

end
-- ==== Proof.KernelDkArray.lean ====
/-
  The array of the gradient in k after the run of the kernel: what each grid point writes back, and where.
-/
module

public import proofs.«01_k».proof.Proof.KernelDkValue
public import proofs.«01_k».proof.Proof.Gen.KernelDkIdeal.Value
public import Idealize.ShloMosaic.Lib.Pipeline.ValueKit

@[expose] public section

noncomputable section

namespace Cert.KernelDkIdeal.Trip

open Cert.Retention
open Cert.KernelDkIdeal Cert.KernelDkIdeal.Gen Idealize.ShloMosaic Idealize.ShloMosaic.TcCoe Idealize.SL.Sem

/-- A load of a whole buffer reads its contents. -/
theorem whole_read {sig' : RefSig} {κ' : Kind} {sp : Space} (v : View sig' κ' sp S4224x128 .f32) (L : List (View.Piece (Elt Ideal) S4224x128 .f32)) :
    v.readCov L (Rect.unit (s := S4224x128) ![0, 0] ![4224, 128] inb_S4224x128_S4224x128_0_0).toLoadRect = View.canon L :=
  (View.readCov_eq_canon' v L _).trans (View.ld_unit_zero (S := S4224x128) (off := ![0, 0]) (by decide) inb_S4224x128_S4224x128_0_0 (View.canon L))

/-- What a grid point stores is the result after its last trip. -/
theorem out_acc (c : Dev nD) (i : grid0.Coords) (arg1 : Memref sig .tc .vmem S4224x256 .bf16) (harg1 : arg1.IsWhole) (arg2 : Memref sig .tc .vmem S4224x256 .bf16) (harg2 : arg2.IsWhole) (arg3 : Memref sig .tc .vmem S4224x128 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S256x128 .f32) (harg6 : arg6.IsWhole) (arg7 : Memref sig .tc .vmem S256x128 .f32) (harg7 : arg7.IsWhole)
    (x0 x1 : FVec Ideal S4224x256 .bf16) (x2 : FVec Ideal S4224x128 .f32) :
    out0_A_3 (F := Ideal) c i arg1 harg1 arg2 harg2 arg3 harg3 arg4 harg4 arg5 harg5 arg6 harg6 arg7 harg7 x0 x1 x2 = acc i x0 x1 x2 33 := by
  rw [← acc_33 c i arg1 harg1 arg2 harg2 arg3 harg3 arg5 arg6 arg7 x0 x1 x2]
  unfold out0_A_3 kernelRun0_A
  rw [View.read_writes_junk_eq_canon]
  refine (View.canon_cons_unit_zero (S := S4224x128) (off := ![0, 0]) (by decide) inb_S4224x128_S4224x128_0_0 (kernelRun0_A.sl.v2556 (F := Ideal) c i arg1 harg1 arg2 harg2 arg3 harg3 arg5 arg6 arg7 x0 x1 x2) []).trans ?_
  unfold kernelRun0_A.sl.v2556
  exact whole_read arg5.view _

variable (m : (ℓ : Loc nD τ sig) → Buf (Elt Ideal) ℓ)

/-- Where each window's block stands: all rows, and the head's columns. -/
theorem idx : ∀ t : Fin cfg0.N, win0_0.index t = ![0, (grid0.coords t 0).val + 4] ∧ win0_1.index t = ![0, (grid0.coords t 0).val]
    ∧ win0_2.index t = ![0, (grid0.coords t 0).val] ∧ win0_3.index t = ![0, (grid0.coords t 0).val] :=
  (by decide +kernel : ∀ t : Fin grid0.N, win0_0.index t = ![0, (grid0.coords t 0).val + 4] ∧ win0_1.index t = ![0, (grid0.coords t 0).val]
    ∧ win0_2.index t = ![0, (grid0.coords t 0).val] ∧ win0_3.index t = ![0, (grid0.coords t 0).val])

/-- The gradient in k at a head, a chunk, a row and a column: the retention of the launch's arrays. -/
def result (c : Dev nD) (h : Fin 4) (n : ℕ) (r d : Fin 128) : EReal :=
  retention h
    (fun n r d => m ((c : Thread nD τ).loc main_arg2) (ix2 (rowAt n r) (colp h d)))
    (fun n r d => m ((c : Thread nD τ).loc main_arg3) (ix2 (rowAt n r) (colv h d)))
    (fun n r d => m ((c : Thread nD τ).loc main_arg0) (ix2 (rowAt n r) (col h d))) n r d

/-- The whole array of the gradient. -/
def results (c : Dev nD) : FVec Ideal S4224x512 .f32 := fun y =>
  result m c ⟨(y 1).val / 128, by have : (y 1).val < 512 := (y 1).isLt; omega⟩ ((y 0).val / 128)
    ⟨(y 0).val % 128, Nat.mod_lt _ (by norm_num)⟩ ⟨(y 1).val % 128, Nat.mod_lt _ (by norm_num)⟩

/-- The blocks that a grid point reads are its head's columns of the launch's arrays. -/
theorem read_0 (c : Dev nD) (t : Fin cfg0.N) : wide (iblk m c 0 t) = fun n r d => m ((c : Thread nD τ).loc main_arg2) (ix2 (rowAt n r) (colp (head (grid0.coords t)) d)) := by
  funext n r d
  unfold wide colp head
  blk_ext [iblk, V, (idx t).1]

theorem read_1 (c : Dev nD) (t : Fin cfg0.N) : wide (iblk m c 1 t) = fun n r d => m ((c : Thread nD τ).loc main_arg3) (ix2 (rowAt n r) (colv (head (grid0.coords t)) d)) := by
  funext n r d
  unfold wide colv head
  blk_ext [iblk, V, (idx t).2.1]

theorem read_2 (c : Dev nD) (t : Fin cfg0.N) : narrow (iblk m c 2 t) = fun n r d => m ((c : Thread nD τ).loc main_arg0) (ix2 (rowAt n r) (col (head (grid0.coords t)) d)) := by
  funext n r d
  unfold narrow col head
  blk_ext [iblk, V, (idx t).2.2.1]

/-- What a grid point writes back, at a row and a column of its block. -/
theorem written (c : Dev nD) (t : Fin cfg0.N) (n : ℕ) (hn : n < 33) (r e : Fin 128) :
    (outsAt0 m c t (ix2 (rowAt n r) e) : EReal) = result m c (head (grid0.coords t)) n r e := by
  unfold outsAt0
  rw [out_acc, point_at _ _ _ _ _ hn, read_0, read_1, read_2]
  rfl

/-- The same at any index of the block, and at its place in the array. -/
theorem written_block (c : Dev nD) (t : Fin cfg0.N) (y : S4224x128.Idx) :
    (outsAt0 m c t y : EReal) = results m c ((win0_3.blk t).view.emb y) := by
  obtain ⟨n, r, hr⟩ := row_cases (y 0)
  have hy : y = ix2 (rowAt n.val r) (y 1) := by rw [← hr]; exact eq_ix2 y
  have h0 : (((win0_3.blk t).view.emb y) 0 : ℕ) = 128 * n.val + r.val := by
    rw [← rowAt_val n.isLt, ← hr]
    blk_simp [(idx t).2.2.2]
  have h1 : (((win0_3.blk t).view.emb y) 1 : ℕ) = 128 * (head (grid0.coords t)).val + (y 1).val := by
    unfold head
    blk_simp [(idx t).2.2.2]
    omega
  have e0 : (y 1).val < 128 := (y 1).isLt
  refine (congrArg (outsAt0 m c t) hy).trans ((written m c t n.val n.isLt r (y 1)).trans ?_)
  show result m c _ _ _ _ = result m c _ _ _ _
  congr 1
  · apply Fin.ext; show _ = (((win0_3.blk t).view.emb y) 1 : ℕ) / 128; rw [h1]; omega
  · show _ = (((win0_3.blk t).view.emb y) 0 : ℕ) / 128; rw [h0]; have := r.isLt; omega
  · apply Fin.ext; show _ = (((win0_3.blk t).view.emb y) 0 : ℕ) % 128; rw [h0]; have := r.isLt; omega
  · apply Fin.ext; show _ = (((win0_3.blk t).view.emb y) 1 : ℕ) % 128; rw [h1]; omega

/-- THE KERNEL'S RESULT: the array after the run is the gradient, index by index. -/
theorem final (c : Dev nD) : (dats m 0 c).arrAt 3 cfg0.N = results m c := by
  refine (dats m 0 c).arrAt_eq_of_covers 3 (results m c) (by decide +kernel) fun t hf y => ?_
  blk_simp
  rw [after0_3]
  exact written_block m c t y

/-- The result at a row and a column. -/
theorem results_at (c : Dev nD) (n : ℕ) (hn : n < 33) (r d : Fin 128) (h : Fin 4) :
    (results m c (ix2 (rowAt n r) (col h d)) : EReal) = result m c h n r d := by
  have e0 : ((ix2 (rowAt n r) (col h d) : S4224x512.Idx) 0).val = 128 * n + r.val := rowAt_val hn r
  have e1 : ((ix2 (rowAt n r) (col h d) : S4224x512.Idx) 1).val = 128 * h.val + d.val := rfl
  have := r.isLt; have := d.isLt
  unfold results
  congr 1
  · exact Fin.ext (by show _ / 128 = _; omega)
  · omega
  · exact Fin.ext (by show _ % 128 = _; omega)
  · exact Fin.ext (by show _ % 128 = _; omega)

end Cert.KernelDkIdeal.Trip

end
-- ==== Proof.ReferenceDkRead.lean ====
/-
  The reference's gradient in k, read off its program: the arrays at its loop's entry, the loop over the chunks as a scan,
  and the result as the retention's sums.
-/
module

public import proofs.«01_k».proof.Proof.Words
public import proofs.«01_k».proof.Proof.Gen.ReferenceDkIdeal.Run
public import Idealize.ShloMosaic.Lib.StableHlo.ReadAt
public import Idealize.ShloMosaic.Lib.DynamicIndex
public import Idealize.ShloMosaic.Lib.Pipeline.Value
public import Idealize.ShloMosaic.Lib.Pointwise

@[expose] public section

noncomputable section

namespace Cert.ReferenceDkIdeal.Read

open Cert.Retention
open Cert.ReferenceDkIdeal Cert.ReferenceDkIdeal.Value Idealize.ShloMosaic Idealize.ShloMosaic.TcCoe Idealize.SL.Sem Idealize.ShloMosaic.StableHlo

variable (X : Valuation τ sig (Elt Ideal)) (m : (ℓ : Loc nD τ sig) → Buf (Elt Ideal) ℓ)

set_option maxRecDepth 16384
set_option maxHeartbeats 4000000

/-- The starts of the loop's slices, from the trip's number: the loop goes over the chunks from the last one down. -/
abbrev starts (w : S_.Idx → BitVec 32) : Fin 5 → ℤ :=
  fun k_1 => (((![w, constantI S_ 32 0#32, constantI S_ 32 0#32, constantI S_ 32 0#32, constantI S_ 32 0#32] : Fin 5 → (⟨S_, .i32⟩ : BufTy).Contents (Elt Ideal))) k_1 (Shape.Idx.first Gen.h_S_)).toInt

theorem starts_eq (k : ℕ) (hk : k < 33) : starts (subi (subi (constantI S_ 32 33#32) (fun _ => Scf.iv 0#32 1#32 k)) (constantI S_ 32 1#32)) = ![((32 - k : ℕ) : ℤ), 0, 0, 0, 0] := by
  funext a
  fin_cases a
  · exact (by decide +kernel : ∀ k : Fin 33, (33#32 - Scf.iv 0#32 1#32 k.val - 1#32).toInt = ((32 - k.val : ℕ) : ℤ)) ⟨k, hk⟩
  all_goals rfl

/-- The states that the chunks add, the decays, the state carried, and the states before the chunks. -/
abbrev added (V : Valuation τ sig (Elt Ideal)) : S33x2x4x128x256.Idx → EReal := V (Proc.devRef .tc main_v77_0)
abbrev decays (V : Valuation τ sig (Elt Ideal)) : S33x2x4x1x1.Idx → EReal := V (Proc.devRef .tc main_v77_1)
abbrev carried (V : Valuation τ sig (Elt Ideal)) : S2x4x128x256.Idx → EReal := V (Proc.devRef .tc main_v77_3)
abbrev states (V : Valuation τ sig (Elt Ideal)) : S33x2x4x128x256.Idx → EReal := V (Proc.devRef .tc main_v77_4)

/-- The state after a trip: the state before it, decayed, and what the trip's chunk adds. -/
def nextState (A : FVec Ideal S33x2x4x128x256 .f32) (D : FVec Ideal S33x2x4x1x1 .f32) (C : FVec Ideal S2x4x128x256 .f32) (st : Fin 5 → ℤ) : FVec Ideal S2x4x128x256 .f32 :=
  addf (shapeCast S2x4x128x256 (Host.dynamicSlice S1x2x4x128x256 A st Gen.sliceFits_S33x2x4x128x256_S1x2x4x128x256) Gen.shapeCasts_S1x2x4x128x256_S2x4x128x256)
    (mulf C (broadcastInDim S2x4x128x256 ![0, 1, 2, 3] Gen.bcast_S2x4x1x1_S2x4x128x256_0_1_2_3
      (shapeCast S2x4x1x1 (Host.dynamicSlice S1x2x4x1x1 D st Gen.sliceFits_S33x2x4x1x1_S1x2x4x1x1) Gen.shapeCasts_S1x2x4x1x1_S2x4x1x1)))

/-- The states before the chunks, with the one before this trip's chunk written in. -/
def nextStates (P : FVec Ideal S33x2x4x128x256 .f32) (C : FVec Ideal S2x4x128x256 .f32) (st : Fin 5 → ℤ) : FVec Ideal S33x2x4x128x256 .f32 :=
  Host.dynamicUpdateSlice P (broadcastInDim S1x2x4x128x256 ![1, 2, 3, 4] Gen.bcast_S2x4x128x256_S1x2x4x128x256_1_2_3_4 C) st Gen.updateFits_S33x2x4x128x256_S1x2x4x128x256

theorem nextState_at (A : FVec Ideal S33x2x4x128x256 .f32) (D : FVec Ideal S33x2x4x1x1 .f32) (C : FVec Ideal S2x4x128x256 .f32) (k : ℕ) (hk : k < 33)
    (z : Fin 2) (h : Fin 4) (d : Fin 128) (e : Fin 256) :
    (nextState A D C ![(k : ℤ), 0, 0, 0, 0] (ix4 z h d e) : EReal) = A (ix5 (⟨k, hk⟩ : Fin 33) z h d e) + C (ix4 z h d e) * D (ix5 (⟨k, hk⟩ : Fin 33) z h (0 : Fin 1) (0 : Fin 1)) := by
  unfold nextState
  have hs : ∀ a : Fin 5, (![(k : ℤ), 0, 0, 0, 0] : Fin 5 → ℤ) a = ((![k, 0, 0, 0, 0] : Fin 5 → ℕ) a : ℤ) := by
    intro a; fin_cases a <;> rfl
  have h1 : S33x2x4x1x1.Slices ![k, 0, 0, 0, 0] S1x2x4x1x1 := ⟨rfl, by intro a; fin_cases a <;> simp <;> omega⟩
  have h2 : S33x2x4x128x256.Slices ![k, 0, 0, 0, 0] S1x2x4x128x256 := ⟨rfl, by intro a; fin_cases a <;> simp <;> omega⟩
  rw [Host.dynamicSlice_eq_extractStridedSlice S1x2x4x1x1 D ![(k : ℤ), 0, 0, 0, 0] ![k, 0, 0, 0, 0] _ h1 hs]
  rw [Host.dynamicSlice_eq_extractStridedSlice S1x2x4x128x256 A ![(k : ℤ), 0, 0, 0, 0] ![k, 0, 0, 0, 0] _ h2 hs]
  pointwise

theorem nextStates_at (P : FVec Ideal S33x2x4x128x256 .f32) (C : FVec Ideal S2x4x128x256 .f32) (k : ℕ) (hk : k < 33) (n : Fin 33) (z : Fin 2) (h : Fin 4) (d : Fin 128) (e : Fin 256) :
    (nextStates P C ![(k : ℤ), 0, 0, 0, 0] (ix5 n z h d e) : EReal) = if n.val = k then C (ix4 z h d e) else P (ix5 n z h d e) := by
  unfold nextStates
  have h2 : S33x2x4x128x256.Slices ![k, 0, 0, 0, 0] S1x2x4x128x256 := ⟨rfl, by intro a; fin_cases a <;> simp <;> omega⟩
  rw [Host.dynamicUpdateSlice_eq_updateSlice P _ ![(k : ℤ), 0, 0, 0, 0] _ ![k, 0, 0, 0, 0] (by
    intro a; fin_cases a
    · show (min (max (k : ℤ) 0) ((33 - 1 : ℕ) : ℤ)).toNat = k
      omega
    all_goals rfl) h2]
  pointwise
  split_ifs <;> first | rfl | (exfalso; omega)

theorem carry_step (V : Valuation τ sig (Elt Ideal)) : step_main_v77_3 V = nextState (added V) (decays V) (carried V) (starts (res_main_while0b_v98 V)) := by
  unfold step_main_v77_3 nextState
  rfl

theorem states_step (V : Valuation τ sig (Elt Ideal)) : step_main_v77_4 V = nextStates (states V) (carried V) (starts (res_main_while0b_v98 V)) := by
  unfold step_main_v77_4 nextStates
  rfl

/-! ## The arrays at the loop's entry -/

/-- The chunks' rows of the three inputs. -/
abbrev grad (V : Valuation τ sig (Elt Ideal)) (n : ℕ) (s : Fin 128) (h : Fin 4) (e : Fin 256) : EReal :=
  (V (Proc.devRef .tc main_arg3) : S4224x1024.Idx → EReal) (ix2 (rowAt n s) (colv h e))
abbrev vals (V : Valuation τ sig (Elt Ideal)) (n : ℕ) (s : Fin 128) (h : Fin 4) (e : Fin 256) : EReal :=
  (V (Proc.devRef .tc main_arg2) : S4224x8192.Idx → EReal) (ix2 (rowAt n s) (colp h e))
abbrev queries (V : Valuation τ sig (Elt Ideal)) (n : ℕ) (s : Fin 128) (h : Fin 4) (d : Fin 128) : EReal :=
  (V (Proc.devRef .tc main_arg0) : S4224x512.Idx → EReal) (ix2 (rowAt n s) (col h d))

/-- The entry's contents. -/
abbrev entry : Valuation τ sig (Elt Ideal) := afterL preI X

theorem decays_entry (n : Fin 33) (z : Fin 2) (h : Fin 4) : decays (entry X) (ix5 n z h (0 : Fin 1) (0 : Fin 1)) = dec h 128 := by
  unfold decays entry
  simp only [preI, afterL_cons, afterL_nil]
  after_reads_at
  simp only [id_eq]
  pointwise
  rw [gamma, word_128]
  exact exp_mul _ _ _ (by norm_num)

theorem added_behind (n : Fin 33) (h : Fin 4) (d : Fin 128) (e : Fin 256) :
    added (entry X) (ix5 n (0 : Fin 2) h d e) = ∑ s, grad X n.val s h e * (queries X n.val s h d * dec h (s.val + 1)) := by
  unfold added entry
  simp only [preI, afterL_cons, afterL_nil]
  after_reads_at
  simp only [id_eq]
  pointwise
  after_reads_at
  pointwise [List.mem_singleton, row_mk, col_mk, colv_mk, row_rev, Fin.eta, false_and, row_lt]
  refine Finset.sum_congr rfl fun s _ => congrArg (grad X n.val s h e * ·) (congrArg (queries X n.val s h d * ·) ?_)
  exact read_word h s

theorem added_before (n : Fin 33) (h : Fin 4) (d : Fin 128) (e : Fin 256) :
    added (entry X) (ix5 n (1 : Fin 2) h d e) = ∑ s, grad X (32 - n.val) s h e * (queries X (32 - n.val) s h d * dec h (128 - s.val)) := by
  unfold added entry
  simp only [preI, afterL_cons, afterL_nil]
  after_reads_at
  simp only [id_eq]
  pointwise
  after_reads_at
  pointwise [List.mem_singleton, row_mk, col_mk, colv_mk, row_rev, Fin.eta, false_and, row_lt]
  have hn : n.rev.val = 32 - n.val := by rw [Fin.val_rev]; omega
  refine Eq.trans ?_ (Equiv.sum_comp Fin.revPerm _)
  rw [← hn]
  refine Finset.sum_congr rfl fun s _ => congrArg (grad X n.rev.val s.rev h e * ·) (congrArg (queries X n.rev.val s.rev h d * ·) ?_)
  exact (read_word h s).trans (congrArg (dec h) (by show s.val + 1 = 128 - s.rev.val; rw [Fin.val_rev]; omega))

theorem carried_entry (z : Fin 2) (h : Fin 4) (d : Fin 128) (e : Fin 256) : carried (entry X) (ix4 z h d e) = 0 := by
  unfold carried entry
  simp only [preI, afterL_cons, afterL_nil]
  after_reads_at
  simp only [id_eq]
  pointwise

theorem states_entry (n : Fin 33) (z : Fin 2) (h : Fin 4) (d : Fin 128) (e : Fin 256) : states (entry X) (ix5 n z h d e) = 0 := by
  unfold states entry
  simp only [preI, afterL_cons, afterL_nil]
  after_reads_at
  simp only [id_eq]
  pointwise

abbrev bothValues (V : Valuation τ sig (Elt Ideal)) : S2x33x128x4x256.Idx → EReal := V (Proc.devRef .tc main_v34)
abbrev keepDecay (V : Valuation τ sig (Elt Ideal)) : S1x1x128x4x1.Idx → EReal := V (Proc.devRef .tc main_v52)
abbrev gradChunks (V : Valuation τ sig (Elt Ideal)) : S1x33x128x4x256.Idx → EReal := V (Proc.devRef .tc main_v69)
abbrev valueChunks (V : Valuation τ sig (Elt Ideal)) : S1x33x128x4x256.Idx → EReal := V (Proc.devRef .tc main_v14)
abbrev queryChunks (V : Valuation τ sig (Elt Ideal)) : S1x33x128x4x128.Idx → EReal := V (Proc.devRef .tc main_v13)
abbrev withinDecay (V : Valuation τ sig (Elt Ideal)) : S1x1x4x128x128.Idx → EReal := V (Proc.devRef .tc main_v28)

theorem values_ahead (n : Fin 33) (s : Fin 128) (h : Fin 4) (e : Fin 256) : bothValues (entry X) (ix5 (0 : Fin 2) n s h e) = vals X n.val s h e := by
  unfold bothValues entry
  simp only [preI, afterL_cons, afterL_nil]
  after_reads_at
  pointwise [List.mem_singleton, row_mk, colp_mk]
  after_reads_at
  pointwise [List.mem_singleton, row_mk, colp_mk]

theorem values_reversed (n : Fin 33) (s : Fin 128) (h : Fin 4) (e : Fin 256) : bothValues (entry X) (ix5 (1 : Fin 2) n s h e) = vals X n.rev.val s.rev h e := by
  unfold bothValues entry
  simp only [preI, afterL_cons, afterL_nil]
  after_reads_at
  pointwise [List.mem_singleton, row_mk, colp_mk, row_rev, Fin.eta]
  after_reads_at
  pointwise [List.mem_singleton, row_mk, colp_mk, row_rev, Fin.eta]

theorem keepDecay_entry (h : Fin 4) (r : Fin 128) : keepDecay (entry X) (ix5 (0 : Fin 1) (0 : Fin 1) r h (0 : Fin 1)) = dec h (127 - r.val) := by
  unfold keepDecay entry
  simp only [preI, afterL_cons, afterL_nil]
  after_reads_at
  pointwise
  exact keep_word h r

theorem gradChunks_entry (n : Fin 33) (s : Fin 128) (h : Fin 4) (e : Fin 256) : gradChunks (entry X) (ix5 (0 : Fin 1) n s h e) = grad X n.val s h e := by
  unfold gradChunks entry
  simp only [preI, afterL_cons, afterL_nil]
  after_reads_at
  pointwise [row_mk, colv_mk]

theorem valueChunks_entry (n : Fin 33) (s : Fin 128) (h : Fin 4) (e : Fin 256) : valueChunks (entry X) (ix5 (0 : Fin 1) n s h e) = vals X n.val s h e := by
  unfold valueChunks entry
  simp only [preI, afterL_cons, afterL_nil]
  after_reads_at
  pointwise [row_mk, colp_mk]

theorem queryChunks_entry (n : Fin 33) (s : Fin 128) (h : Fin 4) (d : Fin 128) : queryChunks (entry X) (ix5 (0 : Fin 1) n s h d) = queries X n.val s h d := by
  unfold queryChunks entry
  simp only [preI, afterL_cons, afterL_nil]
  after_reads_at
  pointwise [row_mk, col_mk]

theorem withinDecay_entry (h : Fin 4) (r s : Fin 128) : withinDecay (entry X) (ix5 (0 : Fin 1) (0 : Fin 1) h r s) = dec h (dist r s) := by
  unfold withinDecay entry
  simp only [preI, afterL_cons, afterL_nil]
  after_reads_at
  rw [gamma]
  refine (congrArg (fun x : EReal => Ideal.exp (((lg h : ℝ) : EReal) * x)) (dist_floats r s)).trans ?_
  exact exp_mul' _ _ _ rfl

/-! ## The result, from the arrays after the loop -/

theorem post (n : Fin 33) (r : Fin 128) (h : Fin 4) (d : Fin 128) :
    (afterL postI X (Proc.devRef .tc main_v96) (ix2 (rowAt n.val r) (col h d)) : EReal)
      = (∑ e, states X (ix5 n (0 : Fin 2) h d e) * bothValues X (ix5 (0 : Fin 2) n r h e)) * keepDecay X (ix5 (0 : Fin 1) (0 : Fin 1) r h (0 : Fin 1))
        + (∑ e, states X (ix5 n.rev (1 : Fin 2) h d e) * bothValues X (ix5 (1 : Fin 2) n.rev r.rev h e)) * keepDecay X (ix5 (0 : Fin 1) (0 : Fin 1) r.rev h (0 : Fin 1))
        + ∑ s, (∑ e, gradChunks X (ix5 (0 : Fin 1) n s h e) * valueChunks X (ix5 (0 : Fin 1) n r h e))
            * withinDecay X (ix5 (0 : Fin 1) (0 : Fin 1) h s r) * queryChunks X (ix5 (0 : Fin 1) n s h d) := by
  simp only [postI, afterL_cons, afterL_nil]
  after_reads_at
  pointwise [List.mem_singleton, row_rev, row_mk, row_div, row_mod, col_mk, col_div, col_mod, Fin.rev_rev, Fin.eta, false_and, row_lt]

/-! ## The loop -/

/-- What the result reads, besides the states. -/
abbrev reads : List (Ref sig .tc) := [main_v34, main_v52, main_v69, main_v14, main_v13, main_v28]

/-- A trip of the loop leaves them. -/
theorem trip_reads : ∀ j ∈ reads, afterL bodyI (after condOps X) (Proc.devRef .tc j) = X (Proc.devRef .tc j) := by
  simp only [reads, List.forall_mem_cons, List.not_mem_nil, false_imp_iff, implies_true, and_true]
  refine ⟨?_, ?_, ?_, ?_, ?_, ?_⟩
  all_goals
    simp only [bodyI, afterL_cons, afterL_nil]
    after_reads_simp

/-- The loop's test leaves everything the result reads. -/
theorem test_keeps (j : Ref sig .tc) (hj : j ∈ main_v77_4 :: reads) :
    after condOps X (Proc.devRef .tc j) = X (Proc.devRef .tc j) := by
  refine after_of_forall_not_mem condOps X fun op hop => ?_
  fin_cases hop <;> fin_cases hj <;> exact fun h => devRef_ne_of_ne (by decide) (Finset.mem_singleton.mp h)

/-- After the loop, what the trips do not write is as at the entry. -/
theorem reads_kept (c : Dev nD) (j : Ref sig .tc) (hj : j ∈ reads) (k : ℕ) :
    atK m k c (Proc.devRef .tc j) = entryContents preI m c (Proc.devRef .tc j) := by
  induction k with
  | zero => rfl
  | succ k ih => exact (trip_reads _ j hj).trans ih

/-- Nor do they write the arrays they read. -/
theorem kept (c : Dev nD) : ∀ k : ℕ, added (atK m k c) = added (entryContents preI m c) ∧ decays (atK m k c) = decays (entryContents preI m c)
  | 0 => ⟨rfl, rfl⟩
  | k + 1 => by
    obtain ⟨h6, h7⟩ := kept c k
    exact ⟨((trip_agree (atK m k c) main_v77_0 (by decide)).trans (STEP_main_v77_0 _)).trans h6,
      ((trip_agree (atK m k c) main_v77_1 (by decide)).trans (STEP_main_v77_1 _)).trans h7⟩

/-- What the entry's arrays give as the terms of the scan. -/
abbrev term (c : Dev nD) (z : Fin 2) (h : Fin 4) (d : Fin 128) (e : Fin 256) (n : ℕ) : EReal :=
  added (entryContents preI m c) (ix5 (⟨32 - n, by omega⟩ : Fin 33) z h d e)

/-- The loop is the scan: the state carried, and the states written so far. -/
theorem loop (c : Dev nD) (z : Fin 2) (h : Fin 4) (d : Fin 128) (e : Fin 256) : ∀ k : ℕ, k ≤ 33 →
    carried (atK m k c) (ix4 z h d e) = scan (fun _ => dec h 128) (term m c z h d e) k
      ∧ ∀ n : Fin 33, states (atK m k c) (ix5 n z h d e) = if 32 - n.val < k then scan (fun _ => dec h 128) (term m c z h d e) (32 - n.val) else 0
  | 0, _ => ⟨carried_entry (X := _) z h d e, fun n => states_entry (X := _) n z h d e⟩
  | k + 1, hk => by
    have hk' : k < 33 := by omega
    obtain ⟨ih1, ih2⟩ := loop c z h d e k (by omega)
    obtain ⟨hA, hD⟩ := kept m c k
    have hw : starts (res_main_while0b_v98 (atK m k c)) = ![((32 - k : ℕ) : ℤ), 0, 0, 0, 0] := by
      rw [← starts_eq k hk']
      unfold res_main_while0b_v98
      exact congrArg starts (congrArg (fun w => subi (subi (constantI S_ 32 33#32) w) (constantI S_ 32 1#32)) (atK_ctr m c k))
    constructor
    · have e1 : carried (atK m (k + 1) c) = nextState (added (atK m k c)) (decays (atK m k c)) (carried (atK m k c)) (starts (res_main_while0b_v98 (atK m k c))) :=
        ((trip_agree (atK m k c) main_v77_3 (by decide)).trans (STEP_main_v77_3 _)).trans (carry_step _)
      rw [e1, hw, nextState_at _ _ _ (32 - k) (by omega), ih1, hA, hD, add_comm]
      exact congrArg₂ (· + ·) (congrArg (_ * ·) (decays_entry (X := _) _ z h)) rfl
    · intro n
      have e1 : states (atK m (k + 1) c) = nextStates (states (atK m k c)) (carried (atK m k c)) (starts (res_main_while0b_v98 (atK m k c))) :=
        ((trip_agree (atK m k c) main_v77_4 (by decide)).trans (STEP_main_v77_4 _)).trans (states_step _)
      rw [e1, hw, nextStates_at _ _ (32 - k) (by omega), ih1, ih2]
      have := n.isLt
      split_ifs <;> first | rfl | (exfalso; omega) | (congr 1; omega) | (simp_all; done)

/-- The state that the chunks behind leave, decayed by one row. -/
theorem scan_behind (c : Dev nD) (h : Fin 4) (d : Fin 128) (e : Fin 256) (k : ℕ) :
    scan (fun _ => dec h 128) (term m c 0 h d e) k
      = dec h 1 * behind h (fun n r e => grad (launchContents m c) n r h e) (fun n r d => queries (launchContents m c) n r h d) k e d := by
  unfold behind
  rw [state_scan, ← scan_scale]
  refine scan_congr _ (fun _ _ => rfl) fun a ha => ?_
  refine (added_behind _ _ h d e).trans ?_
  beta_reduce
  rw [dec_sum]
  refine Finset.sum_congr rfl fun s _ => ?_
  rw [← dec_mul]
  ac_rfl

/-- The state that the chunks before leave, decayed by one row. -/
theorem scan_before (c : Dev nD) (h : Fin 4) (d : Fin 128) (e : Fin 256) (k : ℕ) (hk : k < 33) :
    scan (fun _ => dec h 128) (term m c 1 h d e) k
      = dec h 1 * before h (fun n r e => grad (launchContents m c) n r h e) (fun n r d => queries (launchContents m c) n r h d) k e d := by
  unfold before
  rw [state_scan, ← scan_scale]
  refine scan_congr _ (fun _ _ => rfl) fun a ha => ?_
  refine (added_before _ _ h d e).trans ?_
  beta_reduce
  rw [dec_sum]
  refine Finset.sum_congr rfl fun s _ => ?_
  rw [show 32 - (32 - a) = a by omega, show 128 - s.val = 127 - s.val + 1 by have := s.isLt; omega, ← dec_mul]
  ac_rfl

/-! ## The result -/

/-- The gradient in k, as the reference computes it, is the retention of the launch's arrays. -/
theorem total (c : Dev nD) (n : Fin 33) (r : Fin 128) (h : Fin 4) (d : Fin 128) :
    (finalContents condOps preI bodyI postI 33 m c (Proc.devRef .tc main_v96) (ix2 (rowAt n.val r) (col h d)) : EReal)
      = retention h (fun n r e => vals (launchContents m c) n r h e) (fun n r e => grad (launchContents m c) n r h e) (fun n r d => queries (launchContents m c) n r h d) n.val r d := by
  have t : ∀ j ∈ reads, after condOps (atK m 33 c) (Proc.devRef .tc j) = entryContents preI m c (Proc.devRef .tc j) := fun j hj =>
    (test_keeps _ j (List.mem_cons_of_mem _ hj)).trans (reads_kept m c j hj 33)
  have s : ∀ (a : Fin 33) (z : Fin 2) (e : Fin 256), states (after condOps (atK m 33 c)) (ix5 a z h d e) = scan (fun _ => dec h 128) (term m c z h d e) (32 - a.val) := fun a z e =>
    (congrFun (test_keeps _ main_v77_4 (by decide)) _).trans (((loop m c z h d e 33 le_rfl).2 a).trans (if_pos (by omega)))
  have v0 : ∀ r e, bothValues (after condOps (atK m 33 c)) (ix5 (0 : Fin 2) n r h e) = vals (launchContents m c) n.val r h e := fun r e =>
    (congrFun (t main_v34 (by decide)) _).trans (values_ahead _ n r h e)
  have v1 : ∀ r e, bothValues (after condOps (atK m 33 c)) (ix5 (1 : Fin 2) n.rev r h e) = vals (launchContents m c) n.val r.rev h e := fun r e =>
    (congrFun (t main_v34 (by decide)) _).trans ((values_reversed _ n.rev r h e).trans (by rw [Fin.rev_rev]))
  have b : ∀ r, keepDecay (after condOps (atK m 33 c)) (ix5 (0 : Fin 1) (0 : Fin 1) r h (0 : Fin 1)) = dec h (127 - r.val) := fun r =>
    (congrFun (t main_v52 (by decide)) _).trans (keepDecay_entry _ h r)
  have g : ∀ s e, gradChunks (after condOps (atK m 33 c)) (ix5 (0 : Fin 1) n s h e) = grad (launchContents m c) n.val s h e := fun s e =>
    (congrFun (t main_v69 (by decide)) _).trans (gradChunks_entry _ n s h e)
  have v : ∀ s e, valueChunks (after condOps (atK m 33 c)) (ix5 (0 : Fin 1) n s h e) = vals (launchContents m c) n.val s h e := fun s e =>
    (congrFun (t main_v14 (by decide)) _).trans (valueChunks_entry _ n s h e)
  have q : ∀ s, queryChunks (after condOps (atK m 33 c)) (ix5 (0 : Fin 1) n s h d) = queries (launchContents m c) n.val s h d := fun s =>
    (congrFun (t main_v13 (by decide)) _).trans (queryChunks_entry _ n s h d)
  have w : ∀ r s, withinDecay (after condOps (atK m 33 c)) (ix5 (0 : Fin 1) (0 : Fin 1) h r s) = dec h (dist r s) := fun r s =>
    (congrFun (t main_v28 (by decide)) _).trans (withinDecay_entry _ h r s)
  refine (post (after condOps (atK m 33 c)) n r h d).trans ?_
  have hn := n.isLt
  have hr := r.isLt
  simp only [s, v0, v1, b, g, v, q, w, Fin.rev_rev, scan_behind, Fin.val_rev]
  rw [show 32 - (33 - (n.val + 1)) = n.val by omega, show 127 - (128 - (r.val + 1)) = r.val by omega]
  simp only [scan_before m c h d _ n.val hn]
  unfold retention within fromBefore fromBehind
  rw [add_comm _ (∑ s, _), add_comm (_ * dec h (127 - r.val)), ← add_assoc]
  refine congrArg₂ (· + ·) (congrArg₂ (· + ·) ?_ ?_) ?_
  · refine Finset.sum_congr rfl fun s _ => ?_
    rw [dist_comm s r]
    refine congrArg (· * _) (congrArg (· * _) (Finset.sum_congr rfl fun e _ => mul_comm _ _))
  · rw [mul_comm, dec_sum]
    refine Finset.sum_congr rfl fun e _ => ?_
    beta_reduce
    rw [← dec_mul h r.val 1]
    ac_rfl
  · rw [mul_comm, dec_sum]
    refine Finset.sum_congr rfl fun e _ => ?_
    beta_reduce
    rw [show 128 - r.val = 127 - r.val + 1 by omega, ← dec_mul]
    ac_rfl

/-- The program's arguments. -/
abbrev args : List (Ref sig .tc) := [main_arg0, main_arg1, main_arg2, main_arg3]

theorem pre_args : ∀ j ∈ args, afterL preI X (Proc.devRef .tc j) = X (Proc.devRef .tc j) := by
  simp only [args, List.forall_mem_cons, List.not_mem_nil, false_imp_iff, implies_true, and_true]
  refine ⟨?_, ?_, ?_, ?_⟩
  all_goals
    simp only [preI, afterL_cons, afterL_nil]
    after_reads_simp

theorem trip_args : ∀ j ∈ args, afterL bodyI (after condOps X) (Proc.devRef .tc j) = X (Proc.devRef .tc j) := by
  simp only [args, List.forall_mem_cons, List.not_mem_nil, false_imp_iff, implies_true, and_true]
  refine ⟨?_, ?_, ?_, ?_⟩
  all_goals
    simp only [bodyI, afterL_cons, afterL_nil]
    after_reads_simp

theorem post_args : ∀ j ∈ args, afterL postI (after condOps X) (Proc.devRef .tc j) = X (Proc.devRef .tc j) := by
  simp only [args, List.forall_mem_cons, List.not_mem_nil, false_imp_iff, implies_true, and_true]
  refine ⟨?_, ?_, ?_, ?_⟩
  all_goals
    simp only [postI, afterL_cons, afterL_nil]
    after_reads_simp

/-- The arguments end as they were. -/
theorem args_kept (c : Dev nD) (j : Ref sig .tc) (hj : j ∈ args) :
    finalContents condOps preI bodyI postI 33 m c (Proc.devRef .tc j) = launchContents m c (Proc.devRef .tc j) := by
  have trips : ∀ k, atK m k c (Proc.devRef .tc j) = entryContents preI m c (Proc.devRef .tc j) := by
    intro k
    induction k with
    | zero => rfl
    | succ k ih => exact (trip_args _ j hj).trans ih
  exact (post_args _ j hj).trans ((trips 33).trans (pre_args _ j hj))

end Cert.ReferenceDkIdeal.Read

end
-- ==== Proof.ClaimsDk.lean ====
/-
  The claims about the gradient in k: the runs of the kernel, of its idealization and of the reference, and the equality
  of their results.
-/
module

public import proofs.«01_k».proof.Proof.KernelDkArray
public import proofs.«01_k».proof.Proof.ReferenceDkRead
public import proofs.«01_k».proof.Proof.Gen.KernelDk.Frame
public import proofs.«01_k».proof.Proof.Gen.KernelDkIdeal.Frame
public import proofs.«01_k».proof.Defs

@[expose] public section

noncomputable section

namespace Cert.Proof

open Idealize.ShloMosaic Idealize.ShloMosaic.TcCoe Idealize.SL.Sem Cert.Retention

/-- The kernel runs, keeps its arguments and ends with every counter at zero. -/
theorem frame_KernelDk : Cert.quiescent_KernelDk (hKernelDk := Cert.KernelDk.Gen.facts) := fun m ρ _ => Cert.KernelDk.Gen.frame m ρ

/-- So does its idealization. -/
theorem frame_KernelDkIdeal : Cert.quiescent_KernelDkIdeal (hKernelDkIdeal := Cert.KernelDkIdeal.Gen.facts) := fun m ρ _ => Cert.KernelDkIdeal.Gen.frame m ρ

/-- So does the reference. -/
theorem frame_ReferenceDkIdeal : Cert.quiescent_ReferenceDkIdeal (hReferenceDkIdeal := Cert.ReferenceDkIdeal.Gen.facts) := fun m ρ _ =>
  (θ_run Cert.ReferenceDkIdeal.defs _ _).mono (fun r h => ⟨fun c =>
    ⟨(h c _ rfl).trans (Cert.ReferenceDkIdeal.Read.args_kept m c _ (by decide)), (h c _ rfl).trans (Cert.ReferenceDkIdeal.Read.args_kept m c _ (by decide)),
      (h c _ rfl).trans (Cert.ReferenceDkIdeal.Read.args_kept m c _ (by decide)), (h c _ rfl).trans (Cert.ReferenceDkIdeal.Read.args_kept m c _ (by decide))⟩,
    sem_eq_zero_of_no_sems (by decide) r.2⟩) (Cert.ReferenceDkIdeal.Value.run_fold m ρ)

/-- The named logarithms are what the kernel's words stand for. -/
theorem preserves_KernelDk : Cert.preserves_KernelDk_KernelDkIdeal :=
  ⟨IdealRules.named_const.statement _ _ _ _ _ rfl, IdealRules.named_const.statement _ _ _ _ _ rfl, IdealRules.named_const.statement _ _ _ _ _ rfl,
    IdealRules.named_const.statement _ _ _ _ _ rfl⟩

/-- From equal arguments the reference's array is the kernel's. -/
theorem equal_Dk (m : (ℓ : Loc Cert.KernelDkIdeal.nD Cert.KernelDkIdeal.τ Cert.KernelDkIdeal.sig) → Buf (Elt Ideal) ℓ)
    (m' : (ℓ : Loc Cert.ReferenceDkIdeal.nD Cert.ReferenceDkIdeal.τ Cert.ReferenceDkIdeal.sig) → Buf (Elt Ideal) ℓ) (c : Dev Cert.KernelDkIdeal.nD)
    (h0 : m' ((c.tc : Thread Cert.ReferenceDkIdeal.nD Cert.ReferenceDkIdeal.τ).loc Cert.ReferenceDkIdeal.main_arg0) = m ((c.tc : Thread Cert.KernelDkIdeal.nD Cert.KernelDkIdeal.τ).loc Cert.KernelDkIdeal.main_arg0))
    (h2 : m' ((c.tc : Thread Cert.ReferenceDkIdeal.nD Cert.ReferenceDkIdeal.τ).loc Cert.ReferenceDkIdeal.main_arg2) = m ((c.tc : Thread Cert.KernelDkIdeal.nD Cert.KernelDkIdeal.τ).loc Cert.KernelDkIdeal.main_arg2))
    (h3 : m' ((c.tc : Thread Cert.ReferenceDkIdeal.nD Cert.ReferenceDkIdeal.τ).loc Cert.ReferenceDkIdeal.main_arg3) = m ((c.tc : Thread Cert.KernelDkIdeal.nD Cert.KernelDkIdeal.τ).loc Cert.KernelDkIdeal.main_arg3)) :
    StableHlo.finalContents Cert.ReferenceDkIdeal.Value.condOps Cert.ReferenceDkIdeal.Value.preI Cert.ReferenceDkIdeal.Value.bodyI Cert.ReferenceDkIdeal.Value.postI 33 m' c
        (Proc.devRef .tc Cert.ReferenceDkIdeal.main_v96) = Cert.KernelDkIdeal.Trip.results m c := by
  funext y
  obtain ⟨n, r, hr⟩ := row_cases (y 0)
  obtain ⟨h, d, hd⟩ := col_cases (y 1)
  have hy : y = ix2 (rowAt n.val r) (col h d) := by rw [← hr, ← hd]; exact eq_ix2 y
  rw [hy]
  refine (Cert.ReferenceDkIdeal.Read.total m' c n r h d).trans (Eq.trans ?_ (Cert.KernelDkIdeal.Trip.results_at m c n.val n.isLt r d h).symm)
  have e1 : (fun (n : ℕ) (r : Fin 128) (e : Fin 256) => Cert.ReferenceDkIdeal.Read.grad (StableHlo.launchContents m' c) n r h e) = fun n r e => m ((c.tc : Thread Cert.KernelDkIdeal.nD Cert.KernelDkIdeal.τ).loc Cert.KernelDkIdeal.main_arg3) (ix2 (rowAt n r) (colv h e)) := by
    funext n r e; exact congrFun h3 _
  have e2 : (fun (n : ℕ) (r : Fin 128) (e : Fin 256) => Cert.ReferenceDkIdeal.Read.vals (StableHlo.launchContents m' c) n r h e) = fun n r e => m ((c.tc : Thread Cert.KernelDkIdeal.nD Cert.KernelDkIdeal.τ).loc Cert.KernelDkIdeal.main_arg2) (ix2 (rowAt n r) (colp h e)) := by
    funext n r e; exact congrFun h2 _
  have e3 : (fun (n : ℕ) (r : Fin 128) (e : Fin 128) => Cert.ReferenceDkIdeal.Read.queries (StableHlo.launchContents m' c) n r h e) = fun n r e => m ((c.tc : Thread Cert.KernelDkIdeal.nD Cert.KernelDkIdeal.τ).loc Cert.KernelDkIdeal.main_arg0) (ix2 (rowAt n r) (col h e)) := by
    funext n r e; exact congrFun h0 _
  rw [e1, e2, e3]
  rfl

/-- The idealized kernel and the reference end with equal gradients in k. -/
theorem algebraic_Dk : Cert.algebraic_KernelDkIdeal_ReferenceDkIdeal (hKernelDkIdeal := Cert.KernelDkIdeal.Gen.facts) (hReferenceDkIdeal := Cert.ReferenceDkIdeal.Gen.facts) :=
  fun m g m' g' _ hargs => ⟨fun c => Cert.KernelDkIdeal.Trip.results m c,
    (θ_run Cert.KernelDkIdeal.defs _ _).mono (fun r h c => ⟨(h c).1.trans (Cert.KernelDkIdeal.Trip.final m c), (h c).2⟩) (Cert.KernelDkIdeal.Value.run_blocks m g),
    (θ_run Cert.ReferenceDkIdeal.defs _ _).mono (fun r h c =>
      ⟨(h c _ rfl).trans (equal_Dk m m' c (hargs c).1 (hargs c).2.2.1 (hargs c).2.2.2),
        (h c _ rfl).trans (Cert.ReferenceDkIdeal.Read.args_kept m' c _ (by decide)), (h c _ rfl).trans (Cert.ReferenceDkIdeal.Read.args_kept m' c _ (by decide)),
        (h c _ rfl).trans (Cert.ReferenceDkIdeal.Read.args_kept m' c _ (by decide)), (h c _ rfl).trans (Cert.ReferenceDkIdeal.Read.args_kept m' c _ (by decide))⟩)
      (Cert.ReferenceDkIdeal.Value.run_fold m' g')⟩

end Cert.Proof

end
-- ==== Proof.KernelDvTrip.lean ====
/-
  One trip of the kernel of the gradient in v, as functions of the row blocks it reads: the update it adds to a block of
  rows of the result, in each direction, and the state it carries on. Each is then read at an index: sums of products
  of extended reals.
-/
module

public import proofs.«01_k».proof.Proof.Gen.KernelDvIdeal.Value
public import proofs.«01_k».proof.Proof.Words
public import proofs.«01_k».proof.Proof.Trips

@[expose] public section

noncomputable section

namespace Cert.KernelDvIdeal.Trip

open Cert.Retention (rowAt rowAt_val)
open Cert.Trips (addRows)
open Cert.KernelDvIdeal Cert.KernelDvIdeal.Gen Idealize.ShloMosaic Idealize.ShloMosaic.TcCoe Idealize.SL.Sem

/-! ## Blocks of rows -/

/-- The `n`-th block of 128 rows of an array of 256 columns. -/
def wideRows (x : FVec Ideal S4224x256 .bf16) (n : ℕ) : FVec Ideal S128x256 .bf16 := fun j => x (ix2 (rowAt n (j 0)) (j 1))

/-- The `n`-th block of 128 rows of an array of 128 columns. -/
def narrowRows (x : FVec Ideal S4224x128 .f32) (n : ℕ) : FVec Ideal S128x128 .f32 := fun j => x (ix2 (rowAt n (j 0)) (j 1))

/-! ## One trip -/

/-- What the forward half of a trip adds to its block of the result. -/
def addFwd (i : grid0.Coords) (a b : FVec Ideal S128x128 .f32) (v : FVec Ideal S128x256 .bf16) (st : FVec Ideal S128x256 .f32) :
    FVec Ideal S128x256 .f32 :=
  addf
    (matmul dot_S128x128_S128x256_S128x256_1_0_0_1_n_n none
      (truncf .bf16 (mulf (matmul dot_S128x128_S128x128_S128x128_1_1_0_0_n_n none (truncf .bf16 a bitsLt_bf16_f32) (truncf .bf16 b bitsLt_bf16_f32) (constant S128x128 .f32 0x00000000#32)) (k0_pay5 i)) bitsLt_bf16_f32)
      v (constant S128x256 .f32 0x00000000#32))
    (matmul dot_S128x128_S128x256_S128x256_1_0_0_1_n_n none
      (truncf .bf16 (mulf a (broadcastTo S128x128 (k0_pay8 i) broadcasts_S128x1_S128x128)) bitsLt_bf16_f32)
      (truncf .bf16 st bitsLt_bf16_f32) (constant S128x256 .f32 0x00000000#32))

/-- What the backward half of a trip adds to its block of the result. -/
def addBwd (i : grid0.Coords) (a : FVec Ideal S128x128 .f32) (st : FVec Ideal S128x256 .f32) : FVec Ideal S128x256 .f32 :=
  matmul dot_S128x128_S128x256_S128x256_1_0_0_1_n_n none
    (truncf .bf16 (mulf a (broadcastTo S128x128 (k0_pay10 i) broadcasts_S128x1_S128x128)) bitsLt_bf16_f32)
    (truncf .bf16 st bitsLt_bf16_f32) (constant S128x256 .f32 0x00000000#32)

/-- The state that the forward half of a trip carries on. -/
def nextFwd (i : grid0.Coords) (b : FVec Ideal S128x128 .f32) (v : FVec Ideal S128x256 .bf16) (st : FVec Ideal S128x256 .f32) :
    FVec Ideal S128x256 .f32 :=
  addf (mulf (broadcast S128x256 (k0_pay11 i)) st)
    (matmul dot_S128x128_S128x256_S128x256_0_0_1_1_n_n none
      (truncf .bf16 (mulf b (broadcastTo S128x128 (k0_pay7 i) broadcasts_S128x1_S128x128)) bitsLt_bf16_f32)
      v (constant S128x256 .f32 0x00000000#32))

/-- The state that the backward half of a trip carries on. -/
def nextBwd (i : grid0.Coords) (b : FVec Ideal S128x128 .f32) (v : FVec Ideal S128x256 .bf16) (st : FVec Ideal S128x256 .f32) :
    FVec Ideal S128x256 .f32 :=
  addf (mulf (broadcast S128x256 (k0_pay11 i)) st)
    (matmul dot_S128x128_S128x256_S128x256_0_0_1_1_n_n none
      (truncf .bf16 (mulf b (broadcastTo S128x128 (k0_pay9 i) broadcasts_S128x1_S128x128)) bitsLt_bf16_f32)
      v (constant S128x256 .f32 0x00000000#32))

/-! ## The trips -/

/-- The states' first contents. -/
def zeroState : FVec Ideal S128x256 .f32 := fun _ => (0 : EReal)

/-- The forward state before trip `n`. -/
def stFwd (i : grid0.Coords) (x1 : FVec Ideal S4224x128 .f32) (x2 : FVec Ideal S4224x256 .bf16) : ℕ → FVec Ideal S128x256 .f32
  | 0 => zeroState
  | n + 1 => nextFwd i (narrowRows x1 n) (wideRows x2 n) (stFwd i x1 x2 n)

/-- The backward state before trip `n`, which reads the blocks from the last one down. -/
def stBwd (i : grid0.Coords) (x1 : FVec Ideal S4224x128 .f32) (x2 : FVec Ideal S4224x256 .bf16) : ℕ → FVec Ideal S128x256 .f32
  | 0 => zeroState
  | n + 1 => nextBwd i (narrowRows x1 (32 - n)) (wideRows x2 (32 - n)) (stBwd i x1 x2 n)

/-- The result before trip `n`. -/
def acc (i : grid0.Coords) (x0 x1 : FVec Ideal S4224x128 .f32) (x2 : FVec Ideal S4224x256 .bf16) : ℕ → FVec Ideal S4224x256 .f32
  | 0 => fun _ => (0 : EReal)
  | n + 1 => addRows (32 - n) (addBwd i (narrowRows x0 (32 - n)) (stBwd i x1 x2 n))
      (addRows n (addFwd i (narrowRows x0 n) (narrowRows x1 n) (wideRows x2 n) (stFwd i x1 x2 n)) (acc i x0 x1 x2 n))

/-! ## Equal blocks and states give equal updates and states -/

theorem addFwd_congr (i : grid0.Coords) {a a' b b' : FVec Ideal S128x128 .f32} {v v' : FVec Ideal S128x256 .bf16} {st st' : FVec Ideal S128x256 .f32}
    (ha : a = a') (hb : b = b') (hv : v = v') (hs : st = st') : addFwd i a b v st = addFwd i a' b' v' st' := by
  rw [ha, hb, hv, hs]

theorem addBwd_congr (i : grid0.Coords) {a a' : FVec Ideal S128x128 .f32} {st st' : FVec Ideal S128x256 .f32}
    (ha : a = a') (hs : st = st') : addBwd i a st = addBwd i a' st' := by
  rw [ha, hs]

theorem nextFwd_congr (i : grid0.Coords) {b b' : FVec Ideal S128x128 .f32} {v v' : FVec Ideal S128x256 .bf16} {st st' : FVec Ideal S128x256 .f32}
    (hb : b = b') (hv : v = v') (hs : st = st') : nextFwd i b v st = nextFwd i b' v' st' := by
  rw [hb, hv, hs]

theorem nextBwd_congr (i : grid0.Coords) {b b' : FVec Ideal S128x128 .f32} {v v' : FVec Ideal S128x256 .bf16} {st st' : FVec Ideal S128x256 .f32}
    (hb : b = b') (hv : v = v') (hs : st = st') : nextBwd i b v st = nextBwd i b' v' st' := by
  rw [hb, hv, hs]

/-! ## The first fills -/

theorem fill_fwd : (k0_pay12 : FVec Ideal S128x256 .f32) = zeroState := by
  funext j
  show Idealize.ShloMosaic.Ideal.ofBits .f32 0x00000000#32 = (0 : EReal)
  exact Ideal.ofBits_zero ..

theorem fill_bwd : (shapeCast S128x256 (k0_pay13 : FVec Ideal S128x256 .f32) shapeCasts_S128x256_S128x256 : FVec Ideal S128x256 .f32) = zeroState := by
  funext j
  show Idealize.ShloMosaic.Ideal.ofBits .f32 0x00000000#32 = (0 : EReal)
  exact Ideal.ofBits_zero ..

theorem fill_acc (i : grid0.Coords) (x0 x1 : FVec Ideal S4224x128 .f32) (x2 : FVec Ideal S4224x256 .bf16) :
    View.canon (Val := Elt Ideal) kernelRun0_A.sl.HS0_1 = acc i x0 x1 x2 0 := by
  unfold kernelRun0_A.sl.HS0_1
  rw [View.canon_cons_unit_zero (by funext a; fin_cases a <;> rfl)]
  funext j
  show Idealize.ShloMosaic.Ideal.ofBits .f32 0x00000000#32 = (0 : EReal)
  exact Ideal.ofBits_zero ..

end Cert.KernelDvIdeal.Trip

end
-- ==== Proof.KernelDvChain.lean ====
/-
  The trips of the kernel of the gradient in v, one after another: before each, the states are those that the trip before it
  carried on, and the contents of the result are those before with the two updates added.
-/
module

public import proofs.«01_k».proof.Proof.KernelDvTrip

@[expose] public section

noncomputable section

namespace Cert.KernelDvIdeal.Trip

open Cert.Trips (Before load_rows fill_read)
open Cert.KernelDvIdeal Cert.KernelDvIdeal.Gen Idealize.ShloMosaic Idealize.ShloMosaic.TcCoe Idealize.SL.Sem

variable (c : Dev nD) (i : grid0.Coords) (arg1 : Memref sig .tc .vmem S4224x128 .f32) (harg1 : arg1.IsWhole) (arg2 : Memref sig .tc .vmem S4224x128 .f32) (harg2 : arg2.IsWhole)
  (arg3 : Memref sig .tc .vmem S4224x256 .bf16) (harg3 : arg3.IsWhole) (arg6 : Memref sig .tc .vmem S4224x256 .f32) (arg7 arg8 : Memref sig .tc .vmem S128x256 .f32)
  (x0 x1 : FVec Ideal S4224x128 .f32) (x2 : FVec Ideal S4224x256 .bf16)

/-- What is there before trip `n`. -/
abbrev At := Before (D := 128) (E := 256) arg7.view arg8.view (fun n => acc i x0 x1 x2 n) (stFwd i x1 x2) (stBwd i x1 x2)

/-- Before the first trip there are the fills. -/
theorem before_first : At i arg7 arg8 x0 x1 x2 0 kernelRun0_A.sl.HS0_1 kernelRun0_A.sl.HS1_1 kernelRun0_A.sl.HS2_1 :=
  ⟨fill_acc i x0 x1 x2, (fill_read (D := 128) (E := 256) arg7.view _ _).trans fill_fwd, (fill_read (D := 128) (E := 256) arg8.view _ _).trans fill_bwd⟩

/-- Before the last trip: each of those before it is one use of `Before.next`. -/
theorem before_last : At i arg7 arg8 x0 x1 x2 32 (kernelRun0_A.sl.HS0_65 (F := Ideal) c i arg1 harg1 arg2 harg2 arg3 harg3 arg6 arg7 arg8 x0 x1 x2)
    (kernelRun0_A.sl.HS1_33 (F := Ideal) c i arg2 harg2 arg3 harg3 arg7 x1 x2) (kernelRun0_A.sl.HS2_33 (F := Ideal) c i arg2 harg2 arg3 harg3 arg8 x1 x2) := by
  iterate 32
    refine Before.next (D := 128) (E := 256) (v0 := arg6.view) (v1 := arg7.view) (v2 := arg8.view)
      (uF := fun n => addFwd i (narrowRows x0 n) (narrowRows x1 n) (wideRows x2 n)) (uB := fun n => addBwd i (narrowRows x0 (32 - n)))
      (nF := fun n => nextFwd i (narrowRows x1 n) (wideRows x2 n)) (nB := fun n => nextBwd i (narrowRows x1 (32 - n)) (wideRows x2 (32 - n)))
      (fun _ => rfl) (fun _ => rfl) (fun _ => rfl) (by decide) (by rfl) (by rfl) ?_ rfl
      (addFwd_congr i (load_rows arg1 harg1 x0 _ _ (by rfl) (by decide) _) (load_rows arg2 harg2 x1 _ _ (by rfl) (by decide) _) (load_rows arg3 harg3 x2 _ _ (by rfl) (by decide) _) rfl)
      (addBwd_congr i (load_rows arg1 harg1 x0 _ _ (by rfl) (by decide) _) rfl)
      (nextFwd_congr i (load_rows arg2 harg2 x1 _ _ (by rfl) (by decide) _) (load_rows arg3 harg3 x2 _ _ (by rfl) (by decide) _) rfl)
      (nextBwd_congr i (load_rows arg2 harg2 x1 _ _ (by rfl) (by decide) _) (load_rows arg3 harg3 x2 _ _ (by rfl) (by decide) _) rfl)
  exact before_first i arg7 arg8 x0 x1 x2

/-- The result's contents after the last trip. -/
theorem acc_33 : View.canon (kernelRun0_A.sl.HS0_67 (F := Ideal) c i arg1 harg1 arg2 harg2 arg3 harg3 arg6 arg7 arg8 x0 x1 x2) = acc i x0 x1 x2 33 :=
  Cert.Trips.acc_next (D := 128) (E := 256) (v0 := arg6.view) (v1 := arg7.view) (v2 := arg8.view) (a := fun n => acc i x0 x1 x2 n)
    (uF := fun n => addFwd i (narrowRows x0 n) (narrowRows x1 n) (wideRows x2 n)) (uB := fun n => addBwd i (narrowRows x0 (32 - n)))
    (fun _ => rfl) (n := 32) (by decide) (by rfl) (by rfl) (before_last c i arg1 harg1 arg2 harg2 arg3 harg3 arg6 arg7 arg8 x0 x1 x2)
    (addFwd_congr i (load_rows arg1 harg1 x0 _ _ (by rfl) (by decide) _) (load_rows arg2 harg2 x1 _ _ (by rfl) (by decide) _) (load_rows arg3 harg3 x2 _ _ (by rfl) (by decide) _) rfl)
    (addBwd_congr i (load_rows arg1 harg1 x0 _ _ (by rfl) (by decide) _) rfl) rfl

end Cert.KernelDvIdeal.Trip

end
-- ==== Proof.KernelDvValue.lean ====
/-
  What the kernel of the gradient in v computes: the result of one grid point at a row and a column, from the blocks that
  it reads, and from these the whole array after the run.
-/
module

public import proofs.«01_k».proof.Proof.KernelDvChain
public import Idealize.ShloMosaic.Lib.Claim

@[expose] public section

noncomputable section

namespace Cert.KernelDvIdeal.Trip

open Cert.Retention
open Cert.Trips (addRows)
open Cert.KernelDvIdeal Cert.KernelDvIdeal.Gen Idealize.ShloMosaic Idealize.ShloMosaic.TcCoe Idealize.SL.Sem

/-! ## The decays -/

/-- The head that a grid point computes. -/
def head (i : grid0.Coords) : Fin 4 := i 0

theorem named_0 : Named.named (F := Ideal) Cert.KernelDvIdeal.κ "log_gamma_0" (φ := .f32) 0xBD020AEC#32 = ((lg 0 : ℝ) : EReal) := by
  rw [lg_zero]; exact IdealRules.named_const.ideal_named_scalar _ _ _ _ rfl

theorem named_1 : Named.named (F := Ideal) Cert.KernelDvIdeal.κ "log_gamma_1" (φ := .f32) 0xBC8102B3#32 = ((lg 1 : ℝ) : EReal) := by
  rw [lg_one]; exact IdealRules.named_const.ideal_named_scalar _ _ _ _ rfl

theorem named_2 : Named.named (F := Ideal) Cert.KernelDvIdeal.κ "log_gamma_2" (φ := .f32) 0xBC0080AC#32 = ((lg 2 : ℝ) : EReal) := by
  rw [lg_two]; exact IdealRules.named_const.ideal_named_scalar _ _ _ _ rfl

theorem named_3 : Named.named (F := Ideal) Cert.KernelDvIdeal.κ "log_gamma_3" (φ := .f32) 0xBB80402B#32 = ((lg 3 : ℝ) : EReal) := by
  rw [lg_three]; exact IdealRules.named_const.ideal_named_scalar _ _ _ _ rfl

/-- The chain of selections on the grid's coordinate picks the head's logarithm. -/
theorem log_gamma (i : grid0.Coords) : (k0_pay4 (F := Ideal) i : Ideal .f32) = ((lg (head i) : ℝ) : EReal) := by
  have key : ∀ h : Fin 4, (i 0 : Fin 4) = h → (k0_pay4 (F := Ideal) i : Ideal .f32) = ((lg h : ℝ) : EReal) := by
    intro h hh
    pointwise [k0_pay4]
    rw [hh, named_0, named_1, named_2, named_3]
    fin_cases h <;> rfl
  exact key _ rfl

/-- The decay from row to row within a chunk. -/
theorem decay_within (i : grid0.Coords) (r s : Fin 128) : (k0_pay5 (F := Ideal) i (ix2 r s) : EReal) = dec (head i) (dist r s) := by
  pointwise [k0_pay5]
  rw [log_gamma, dist_float]
  exact exp_mul' _ _ _ rfl

theorem decay_keep (i : grid0.Coords) (r : Fin 128) : (k0_pay7 (F := Ideal) i (ix2 r 0) : EReal) = dec (head i) (127 - r.val) := by
  pointwise [k0_pay7, k0_pay6]
  rw [log_gamma, row_float, word_127, ← EReal.coe_sub]
  exact exp_mul _ _ _ (by have := r.isLt; rw [Nat.cast_sub (by omega)]; norm_num)

theorem decay_read (i : grid0.Coords) (r : Fin 128) : (k0_pay8 (F := Ideal) i (ix2 r 0) : EReal) = dec (head i) (r.val + 1) := by
  pointwise [k0_pay8, k0_pay6]
  rw [log_gamma, row_float, ← EReal.coe_one, ← EReal.coe_add]
  exact exp_mul _ _ _ (by norm_num)

theorem decay_keep_back (i : grid0.Coords) (r : Fin 128) : (k0_pay9 (F := Ideal) i (ix2 r 0) : EReal) = dec (head i) r.val := by
  pointwise [k0_pay9, k0_pay6]
  rw [log_gamma, row_float]
  exact exp_mul _ _ _ rfl

theorem decay_read_back (i : grid0.Coords) (r : Fin 128) : (k0_pay10 (F := Ideal) i (ix2 r 0) : EReal) = dec (head i) (128 - r.val) := by
  pointwise [k0_pay10, k0_pay6]
  rw [log_gamma, row_float, word_128, ← EReal.coe_sub]
  exact exp_mul _ _ _ (by have := r.isLt; rw [Nat.cast_sub (by omega)]; norm_num)

/-- The decay of a state over a chunk. -/
theorem decay_chunk (i : grid0.Coords) : (k0_pay11 (F := Ideal) i : EReal) = dec (head i) 128 := by
  show Ideal.exp ((Ideal.ofBits .f32 0x43000000#32 : EReal) * (k0_pay4 (F := Ideal) i : EReal)) = _
  rw [log_gamma, word_128]
  exact exp_mul _ _ _ (by norm_num)

/-! ## One trip at an index -/

/-- A block's rows, chunk by chunk. -/
def wide (x : FVec Ideal S4224x256 .bf16) (n : ℕ) (r : Fin 128) (d : Fin 256) : EReal := x (ix2 (rowAt n r) d)

/-- A block's rows, chunk by chunk. -/
def narrow (x : FVec Ideal S4224x128 .f32) (n : ℕ) (r : Fin 128) (d : Fin 128) : EReal := x (ix2 (rowAt n r) d)

theorem stFwd_at (i : grid0.Coords) (x1 : FVec Ideal S4224x128 .f32) (x2 : FVec Ideal S4224x256 .bf16) (d : Fin 128) (e : Fin 256) :
    ∀ n : ℕ, (stFwd i x1 x2 n (ix2 d e) : EReal) = before (head i) (narrow x1) (wide x2) n d e
  | 0 => rfl
  | n + 1 => by
    have ih := stFwd_at i x1 x2 d e n
    rw [show stFwd i x1 x2 (n + 1) = nextFwd i (narrowRows x1 n) (wideRows x2 n) (stFwd i x1 x2 n) from rfl]
    pointwise [nextFwd]
    rw [ih, decay_chunk]
    simp only [decay_keep]
    rfl

theorem stBwd_at (i : grid0.Coords) (x1 : FVec Ideal S4224x128 .f32) (x2 : FVec Ideal S4224x256 .bf16) (d : Fin 128) (e : Fin 256) :
    ∀ n : ℕ, (stBwd i x1 x2 n (ix2 d e) : EReal) = behind (head i) (narrow x1) (wide x2) n d e
  | 0 => rfl
  | n + 1 => by
    have ih := stBwd_at i x1 x2 d e n
    rw [show stBwd i x1 x2 (n + 1) = nextBwd i (narrowRows x1 (32 - n)) (wideRows x2 (32 - n)) (stBwd i x1 x2 n) from rfl]
    pointwise [nextBwd]
    rw [ih, decay_chunk]
    simp only [decay_keep_back]
    rfl

/-- What the forward half of a trip adds to a row: the chunk's own part and the earlier chunks'. -/
theorem addFwd_at (i : grid0.Coords) (x0 x1 : FVec Ideal S4224x128 .f32) (x2 : FVec Ideal S4224x256 .bf16) (n : ℕ) (r : Fin 128) (e : Fin 256) :
    (addFwd i (narrowRows x0 n) (narrowRows x1 n) (wideRows x2 n) (stFwd i x1 x2 n) (ix2 r e) : EReal)
      = within (head i) (narrow x0) (narrow x1) (wide x2) n r e + fromBefore (head i) (narrow x0) (narrow x1) (wide x2) n r e := by
  pointwise [addFwd]
  simp only [decay_within, decay_read, stFwd_at]
  rfl

/-- What the backward half of trip `k` adds to a row of chunk `32 - k`. -/
theorem addBwd_at (i : grid0.Coords) (x0 x1 : FVec Ideal S4224x128 .f32) (x2 : FVec Ideal S4224x256 .bf16) (n k : ℕ) (hk : k = 32 - n) (r : Fin 128) (e : Fin 256) :
    (addBwd i (narrowRows x0 n) (stBwd i x1 x2 k) (ix2 r e) : EReal)
      = fromBehind (head i) (narrow x0) (narrow x1) (wide x2) n r e := by
  subst hk
  pointwise [addBwd]
  simp only [decay_read_back, stBwd_at]
  rfl

/-- The result before trip `k`: a row holds the forward half's part once its chunk's trip is over, and the backward
    half's part once the trip that counts from the other end is. -/
theorem acc_at (i : grid0.Coords) (x0 x1 : FVec Ideal S4224x128 .f32) (x2 : FVec Ideal S4224x256 .bf16) (n : ℕ) (hn : n < 33) (r : Fin 128) (e : Fin 256) :
    ∀ k : ℕ, k ≤ 33 → (acc i x0 x1 x2 k (ix2 (rowAt n r) e) : EReal)
      = (if n < k then within (head i) (narrow x0) (narrow x1) (wide x2) n r e + fromBefore (head i) (narrow x0) (narrow x1) (wide x2) n r e else 0)
        + (if 32 - n < k then fromBehind (head i) (narrow x0) (narrow x1) (wide x2) n r e else 0)
  | 0, _ => by
    rw [if_neg (Nat.not_lt_zero _), if_neg (Nat.not_lt_zero _)]
    show (0 : EReal) = 0 + 0
    rw [add_zero]
  | k + 1, hk => by
    have ih := acc_at i x0 x1 x2 n hn r e k (by omega)
    have hdiv : (rowAt n r).val / 128 = n := by rw [rowAt_val hn]; have := r.isLt; omega
    have hmod : (⟨(rowAt n r).val % 128, Nat.mod_lt _ (by norm_num)⟩ : Fin 128) = r :=
      Fin.ext (by show (rowAt n r).val % 128 = r.val; rw [rowAt_val hn]; have := r.isLt; omega)
    have step : ∀ (k' : ℕ) (u : FVec Ideal S128x256 .f32) (f : FVec Ideal S4224x256 .f32),
        (addRows k' u f (ix2 (rowAt n r) e) : EReal) = f (ix2 (rowAt n r) e) + (if n = k' then u (ix2 r e) else 0) := by
      intro k' u f
      show (if (rowAt n r).val / 128 = k' then f (ix2 (rowAt n r) e) + u (ix2 (⟨(rowAt n r).val % 128, _⟩ : Fin 128) e) else f (ix2 (rowAt n r) e)) = _
      rw [hdiv, hmod]
      split
      · rfl
      · rw [add_zero]
    rw [show acc i x0 x1 x2 (k + 1) = addRows (32 - k) (addBwd i (narrowRows x0 (32 - k)) (stBwd i x1 x2 k))
      (addRows k (addFwd i (narrowRows x0 k) (narrowRows x1 k) (wideRows x2 k) (stFwd i x1 x2 k)) (acc i x0 x1 x2 k)) from rfl]
    rw [step, step, ih]
    by_cases h1 : n = k
    · subst h1
      rw [if_neg (lt_irrefl _), if_pos rfl, if_pos (Nat.lt_succ_self _), addFwd_at, zero_add]
      by_cases h2 : n = 32 - n
      · rw [if_pos h2, if_neg (by omega), if_pos (by omega), zero_add]
        congr 1
        rw [← h2]
        exact addBwd_at i x0 x1 x2 n n h2 r e
      · rw [if_neg h2, add_zero, add_comm]
        congr 1
        exact if_congr (by omega) rfl rfl
    · rw [if_neg h1, add_zero, if_congr (show n < k + 1 ↔ n < k by omega) rfl rfl, add_assoc]
      congr 1
      by_cases h2 : n = 32 - k
      · rw [if_neg (by omega), if_pos h2, if_pos (by omega), zero_add]
        have hk' : k = 32 - n := by omega
        rw [← h2]
        exact addBwd_at i x0 x1 x2 n k hk' r e
      · rw [if_neg h2, add_zero]
        exact if_congr (by omega) rfl rfl

/-- THE RESULT OF ONE GRID POINT at a row and a column: the retention of its head. -/
theorem point_at (i : grid0.Coords) (x0 x1 : FVec Ideal S4224x128 .f32) (x2 : FVec Ideal S4224x256 .bf16) (n : ℕ) (hn : n < 33) (r : Fin 128) (e : Fin 256) :
    (acc i x0 x1 x2 33 (ix2 (rowAt n r) e) : EReal) = retention (head i) (narrow x0) (narrow x1) (wide x2) n r e := by
  rw [acc_at i x0 x1 x2 n hn r e 33 le_rfl, if_pos hn, if_pos (by omega)]
  rfl

end Cert.KernelDvIdeal.Trip

end
-- ==== Proof.KernelDvArray.lean ====
/-
  The array of the gradient in v after the run of the kernel: what each grid point writes back, and where.
-/
module

public import proofs.«01_k».proof.Proof.KernelDvValue
public import proofs.«01_k».proof.Proof.Gen.KernelDvIdeal.Value
public import Idealize.ShloMosaic.Lib.Pipeline.ValueKit
public import Idealize.ShloMosaic.Lib.StableHlo.ReadAt

@[expose] public section

noncomputable section

namespace Cert.KernelDvIdeal.Trip

open Cert.Retention
open Cert.KernelDvIdeal Cert.KernelDvIdeal.Gen Idealize.ShloMosaic Idealize.ShloMosaic.TcCoe Idealize.SL.Sem

/-- A load of a whole buffer reads its contents. -/
theorem whole_read {sig' : RefSig} {κ' : Kind} {sp : Space} (v : View sig' κ' sp S4224x256 .f32) (L : List (View.Piece (Elt Ideal) S4224x256 .f32)) :
    v.readCov L (Rect.unit (s := S4224x256) ![0, 0] ![4224, 256] inb_S4224x256_S4224x256_0_0).toLoadRect = View.canon L :=
  (View.readCov_eq_canon' v L _).trans (View.ld_unit_zero (S := S4224x256) (off := ![0, 0]) (by decide) inb_S4224x256_S4224x256_0_0 (View.canon L))

/-- What a grid point stores is the result after its last trip. -/
theorem out_acc (c : Dev nD) (i : grid0.Coords) (arg1 : Memref sig .tc .vmem S4224x128 .f32) (harg1 : arg1.IsWhole) (arg2 : Memref sig .tc .vmem S4224x128 .f32) (harg2 : arg2.IsWhole) (arg3 : Memref sig .tc .vmem S4224x256 .bf16) (harg3 : arg3.IsWhole) (arg5 : Memref sig .tc .vmem S4224x256 .bf16) (harg5 : arg5.IsWhole) (arg6 : Memref sig .tc .vmem S4224x256 .f32) (harg6 : arg6.IsWhole) (arg7 : Memref sig .tc .vmem S128x256 .f32) (harg7 : arg7.IsWhole) (arg8 : Memref sig .tc .vmem S128x256 .f32) (harg8 : arg8.IsWhole)
    (x0 x1 : FVec Ideal S4224x128 .f32) (x2 : FVec Ideal S4224x256 .bf16) :
    out0_A_3 (F := Ideal) c i arg1 harg1 arg2 harg2 arg3 harg3 arg5 harg5 arg6 harg6 arg7 harg7 arg8 harg8 x0 x1 x2 = (fun y => (acc i x0 x1 x2 33 y : EReal)) := by
  rw [← acc_33 c i arg1 harg1 arg2 harg2 arg3 harg3 arg6 arg7 arg8 x0 x1 x2]
  unfold out0_A_3 kernelRun0_A
  rw [View.read_writes_junk_eq_canon]
  refine (View.canon_cons_unit_zero (Val := Elt Ideal) (e := .bf16) (S := S4224x256) (off := ![0, 0]) (by decide) inb_S4224x256_S4224x256_0_0 (k0_pay3 (F := Ideal) (kernelRun0_A.sl.v2424 (F := Ideal) c i arg1 harg1 arg2 harg2 arg3 harg3 arg6 arg7 arg8 x0 x1 x2)) []).trans ?_
  unfold k0_pay3 kernelRun0_A.sl.v2424
  exact whole_read arg6.view _

variable (m : (ℓ : Loc nD τ sig) → Buf (Elt Ideal) ℓ)

/-- Where each window's block stands: all rows, and the head's columns. -/
theorem idx : ∀ t : Fin cfg0.N, win0_0.index t = ![0, (grid0.coords t 0).val] ∧ win0_1.index t = ![0, (grid0.coords t 0).val]
    ∧ win0_2.index t = ![0, (grid0.coords t 0).val] ∧ win0_3.index t = ![0, (grid0.coords t 0).val + 4] :=
  (by decide +kernel : ∀ t : Fin grid0.N, win0_0.index t = ![0, (grid0.coords t 0).val] ∧ win0_1.index t = ![0, (grid0.coords t 0).val]
    ∧ win0_2.index t = ![0, (grid0.coords t 0).val] ∧ win0_3.index t = ![0, (grid0.coords t 0).val + 4])

/-- The gradient in v at a head, a chunk, a row and a column: the retention of the launch's arrays. -/
def result (c : Dev nD) (h : Fin 4) (n : ℕ) (r : Fin 128) (e : Fin 256) : EReal :=
  retention h
    (fun n r d => m ((c : Thread nD τ).loc main_arg1) (ix2 (rowAt n r) (col h d)))
    (fun n r d => m ((c : Thread nD τ).loc main_arg0) (ix2 (rowAt n r) (col h d)))
    (fun n r e => m ((c : Thread nD τ).loc main_arg3) (ix2 (rowAt n r) (colv h e))) n r e

/-- The gradient, at the place in the wider array that the kernel writes it to. -/
def placed (c : Dev nD) : FVec Ideal S4224x8192 .bf16 := fun y =>
  result m c ⟨((y 1).val - 1024) / 256 % 4, Nat.mod_lt _ (by norm_num)⟩ ((y 0).val / 128)
    ⟨(y 0).val % 128, Nat.mod_lt _ (by norm_num)⟩ ⟨(y 1).val % 256, Nat.mod_lt _ (by norm_num)⟩

/-- The whole array: the gradient in its columns, and the launch's contents in the others. -/
def results (c : Dev nD) : FVec Ideal S4224x8192 .bf16 := fun y =>
  if 1024 ≤ (y 1).val ∧ (y 1).val < 2048 then placed m c y else m ((c : Thread nD τ).loc main_arg2) y

/-- The blocks that a grid point reads are its head's columns of the launch's arrays. -/
theorem read_0 (c : Dev nD) (t : Fin cfg0.N) : narrow (iblk m c 0 t) = fun n r d => m ((c : Thread nD τ).loc main_arg1) (ix2 (rowAt n r) (col (head (grid0.coords t)) d)) := by
  funext n r d
  refine Eq.trans ?_ (congrFun (V_main_arg1 m c) _)
  unfold narrow col head
  blk_ext [iblk, (idx t).1]

theorem read_1 (c : Dev nD) (t : Fin cfg0.N) : narrow (iblk m c 1 t) = fun n r d => m ((c : Thread nD τ).loc main_arg0) (ix2 (rowAt n r) (col (head (grid0.coords t)) d)) := by
  funext n r d
  refine Eq.trans ?_ (congrFun (V_main_arg0 m c) _)
  unfold narrow col head
  blk_ext [iblk, (idx t).2.1]

theorem read_2 (c : Dev nD) (t : Fin cfg0.N) : wide (iblk m c 2 t) = fun n r d => m ((c : Thread nD τ).loc main_arg3) (ix2 (rowAt n r) (colv (head (grid0.coords t)) d)) := by
  funext n r d
  refine Eq.trans ?_ (congrFun (V_main_arg3 m c) _)
  unfold wide colv head
  blk_ext [iblk, (idx t).2.2.1]

/-- What a grid point writes back, at a row and a column of its block. -/
theorem written (c : Dev nD) (t : Fin cfg0.N) (n : ℕ) (hn : n < 33) (r : Fin 128) (e : Fin 256) :
    (outsAt0 m c t (ix2 (rowAt n r) e) : EReal) = result m c (head (grid0.coords t)) n r e := by
  unfold outsAt0
  rw [out_acc]
  refine (point_at _ _ _ _ _ hn _ _).trans ?_
  rw [read_0, read_1, read_2]
  rfl

/-- The same at any index of the block, and at its place in the array. -/
theorem written_block (c : Dev nD) (t : Fin cfg0.N) (y : S4224x256.Idx) :
    (outsAt0 m c t y : EReal) = placed m c ((win0_3.blk t).view.emb y) := by
  obtain ⟨n, r, hr⟩ := row_cases (y 0)
  have hy : y = ix2 (rowAt n.val r) (y 1) := by rw [← hr]; exact eq_ix2 y
  have h0 : (((win0_3.blk t).view.emb y) 0 : ℕ) = 128 * n.val + r.val := by
    rw [← rowAt_val n.isLt, ← hr]
    blk_simp [(idx t).2.2.2]
  have h1 : (((win0_3.blk t).view.emb y) 1 : ℕ) = 1024 + 256 * (head (grid0.coords t)).val + (y 1).val := by
    unfold head
    blk_simp [(idx t).2.2.2]
    omega
  have e0 : (y 1).val < 256 := (y 1).isLt
  have e1 := (head (grid0.coords t)).isLt
  refine (congrArg (outsAt0 m c t) hy).trans ((written m c t n.val n.isLt r (y 1)).trans ?_)
  show result m c _ _ _ _ = result m c _ _ _ _
  congr 1
  · apply Fin.ext; show _ = ((((win0_3.blk t).view.emb y) 1 : ℕ) - 1024) / 256 % 4; rw [h1]; omega
  · show _ = (((win0_3.blk t).view.emb y) 0 : ℕ) / 128; rw [h0]; have := r.isLt; omega
  · apply Fin.ext; show _ = (((win0_3.blk t).view.emb y) 0 : ℕ) % 128; rw [h0]; have := r.isLt; omega
  · apply Fin.ext; show _ = (((win0_3.blk t).view.emb y) 1 : ℕ) % 256; rw [h1]; omega

/-- The array at the launch of the grid is the argument that the kernel writes into. -/
theorem V_main_v0 (c : Dev nD) : V m c main_v0 = m ((c : Thread nD τ).loc main_arg2) := by
  unfold V
  after_reads_simp
  rfl

theorem at_entry (c : Dev nD) : (dats m 0 c).A 3 = m ((c : Thread nD τ).loc main_arg2) := by
  rw [A_eq]
  exact V_main_v0 m c

/-- THE KERNEL'S RESULT: the array after the run is the gradient in its columns, and as at the launch in the others. -/
theorem final (c : Dev nD) : (dats m 0 c).arrAt 3 cfg0.N = results m c := by
  refine ((dats m 0 c).arrAt_eq_of_coversWhere 3 (placed m c) (P := fun y => 1024 ≤ (y 1).val ∧ (y 1).val < 2048) (fun β => 4 ≤ β (1 : Fin _) ∧ β (1 : Fin _) < 8) (by decide +kernel) (fun t hf y => ?_) (fun j => ?_)).trans ?_
  · blk_simp
    rw [after0_3]
    exact written_block m c t y
  · blk_simp [Pipeline.Window.cell_apply]
    omega
  · rw [at_entry]
    rfl

/-- The result at a row and a column of the gradient. -/
theorem results_at (c : Dev nD) (n : ℕ) (hn : n < 33) (r : Fin 128) (e : Fin 256) (h : Fin 4) :
    (results m c (ix2 (rowAt n r) (colp h e)) : EReal) = result m c h n r e := by
  have e0 : ((ix2 (rowAt n r) (colp h e) : S4224x8192.Idx) 0).val = 128 * n + r.val := rowAt_val hn r
  have e1 : ((ix2 (rowAt n r) (colp h e) : S4224x8192.Idx) 1).val = 1024 + 256 * h.val + e.val := rfl
  have := r.isLt; have := e.isLt; have := h.isLt
  unfold results
  rw [if_pos (by rw [e1]; omega)]
  unfold placed
  congr 1
  · exact Fin.ext (by show (_ - 1024) / 256 % 4 = _; omega)
  · omega
  · exact Fin.ext (by show _ % 128 = _; omega)
  · exact Fin.ext (by show _ % 256 = _; omega)

end Cert.KernelDvIdeal.Trip

end
-- ==== Proof.ReferenceDvRead.lean ====
/-
  The reference's gradient in v, read off its program: the arrays at its loop's entry, the loop over the chunks as a scan,
  and the result as the retention's sums.
-/
module

public import proofs.«01_k».proof.Proof.Words
public import proofs.«01_k».proof.Proof.Gen.ReferenceDvIdeal.Run
public import Idealize.ShloMosaic.Lib.StableHlo.ReadAt
public import Idealize.ShloMosaic.Lib.DynamicIndex
public import Idealize.ShloMosaic.Lib.Pipeline.Value
public import Idealize.ShloMosaic.Lib.Pointwise

@[expose] public section

noncomputable section

namespace Cert.ReferenceDvIdeal.Read

open Cert.Retention
open Cert.ReferenceDvIdeal Cert.ReferenceDvIdeal.Value Idealize.ShloMosaic Idealize.ShloMosaic.TcCoe Idealize.SL.Sem Idealize.ShloMosaic.StableHlo

variable (X : Valuation τ sig (Elt Ideal)) (m : (ℓ : Loc nD τ sig) → Buf (Elt Ideal) ℓ)

set_option maxRecDepth 16384
set_option maxHeartbeats 4000000

/-- The starts of the loop's slices, from the trip's number: the loop goes over the chunks from the last one down. -/
abbrev starts (w : S_.Idx → BitVec 32) : Fin 5 → ℤ :=
  fun k_1 => (((![w, constantI S_ 32 0#32, constantI S_ 32 0#32, constantI S_ 32 0#32, constantI S_ 32 0#32] : Fin 5 → (⟨S_, .i32⟩ : BufTy).Contents (Elt Ideal))) k_1 (Shape.Idx.first Gen.h_S_)).toInt

theorem starts_eq (k : ℕ) (hk : k < 33) : starts (subi (subi (constantI S_ 32 33#32) (fun _ => Scf.iv 0#32 1#32 k)) (constantI S_ 32 1#32)) = ![((32 - k : ℕ) : ℤ), 0, 0, 0, 0] := by
  funext a
  fin_cases a
  · exact (by decide +kernel : ∀ k : Fin 33, (33#32 - Scf.iv 0#32 1#32 k.val - 1#32).toInt = ((32 - k.val : ℕ) : ℤ)) ⟨k, hk⟩
  all_goals rfl

/-- The states that the chunks add, the decays, the state carried, and the states before the chunks. -/
abbrev added (V : Valuation τ sig (Elt Ideal)) : S33x2x4x128x256.Idx → EReal := V (Proc.devRef .tc main_v79_0)
abbrev decays (V : Valuation τ sig (Elt Ideal)) : S33x2x4x1x1.Idx → EReal := V (Proc.devRef .tc main_v79_1)
abbrev carried (V : Valuation τ sig (Elt Ideal)) : S2x4x128x256.Idx → EReal := V (Proc.devRef .tc main_v79_3)
abbrev states (V : Valuation τ sig (Elt Ideal)) : S33x2x4x128x256.Idx → EReal := V (Proc.devRef .tc main_v79_4)

/-- The state after a trip: the state before it, decayed, and what the trip's chunk adds. -/
def nextState (A : FVec Ideal S33x2x4x128x256 .f32) (D : FVec Ideal S33x2x4x1x1 .f32) (C : FVec Ideal S2x4x128x256 .f32) (st : Fin 5 → ℤ) : FVec Ideal S2x4x128x256 .f32 :=
  addf (shapeCast S2x4x128x256 (Host.dynamicSlice S1x2x4x128x256 A st Gen.sliceFits_S33x2x4x128x256_S1x2x4x128x256) Gen.shapeCasts_S1x2x4x128x256_S2x4x128x256)
    (mulf C (broadcastInDim S2x4x128x256 ![0, 1, 2, 3] Gen.bcast_S2x4x1x1_S2x4x128x256_0_1_2_3
      (shapeCast S2x4x1x1 (Host.dynamicSlice S1x2x4x1x1 D st Gen.sliceFits_S33x2x4x1x1_S1x2x4x1x1) Gen.shapeCasts_S1x2x4x1x1_S2x4x1x1)))

/-- The states before the chunks, with the one before this trip's chunk written in. -/
def nextStates (P : FVec Ideal S33x2x4x128x256 .f32) (C : FVec Ideal S2x4x128x256 .f32) (st : Fin 5 → ℤ) : FVec Ideal S33x2x4x128x256 .f32 :=
  Host.dynamicUpdateSlice P (broadcastInDim S1x2x4x128x256 ![1, 2, 3, 4] Gen.bcast_S2x4x128x256_S1x2x4x128x256_1_2_3_4 C) st Gen.updateFits_S33x2x4x128x256_S1x2x4x128x256

theorem nextState_at (A : FVec Ideal S33x2x4x128x256 .f32) (D : FVec Ideal S33x2x4x1x1 .f32) (C : FVec Ideal S2x4x128x256 .f32) (k : ℕ) (hk : k < 33)
    (z : Fin 2) (h : Fin 4) (d : Fin 128) (e : Fin 256) :
    (nextState A D C ![(k : ℤ), 0, 0, 0, 0] (ix4 z h d e) : EReal) = A (ix5 (⟨k, hk⟩ : Fin 33) z h d e) + C (ix4 z h d e) * D (ix5 (⟨k, hk⟩ : Fin 33) z h (0 : Fin 1) (0 : Fin 1)) := by
  unfold nextState
  have hs : ∀ a : Fin 5, (![(k : ℤ), 0, 0, 0, 0] : Fin 5 → ℤ) a = ((![k, 0, 0, 0, 0] : Fin 5 → ℕ) a : ℤ) := by
    intro a; fin_cases a <;> rfl
  have h1 : S33x2x4x1x1.Slices ![k, 0, 0, 0, 0] S1x2x4x1x1 := ⟨rfl, by intro a; fin_cases a <;> simp <;> omega⟩
  have h2 : S33x2x4x128x256.Slices ![k, 0, 0, 0, 0] S1x2x4x128x256 := ⟨rfl, by intro a; fin_cases a <;> simp <;> omega⟩
  rw [Host.dynamicSlice_eq_extractStridedSlice S1x2x4x1x1 D ![(k : ℤ), 0, 0, 0, 0] ![k, 0, 0, 0, 0] _ h1 hs]
  rw [Host.dynamicSlice_eq_extractStridedSlice S1x2x4x128x256 A ![(k : ℤ), 0, 0, 0, 0] ![k, 0, 0, 0, 0] _ h2 hs]
  pointwise

theorem nextStates_at (P : FVec Ideal S33x2x4x128x256 .f32) (C : FVec Ideal S2x4x128x256 .f32) (k : ℕ) (hk : k < 33) (n : Fin 33) (z : Fin 2) (h : Fin 4) (d : Fin 128) (e : Fin 256) :
    (nextStates P C ![(k : ℤ), 0, 0, 0, 0] (ix5 n z h d e) : EReal) = if n.val = k then C (ix4 z h d e) else P (ix5 n z h d e) := by
  unfold nextStates
  have h2 : S33x2x4x128x256.Slices ![k, 0, 0, 0, 0] S1x2x4x128x256 := ⟨rfl, by intro a; fin_cases a <;> simp <;> omega⟩
  rw [Host.dynamicUpdateSlice_eq_updateSlice P _ ![(k : ℤ), 0, 0, 0, 0] _ ![k, 0, 0, 0, 0] (by
    intro a; fin_cases a
    · show (min (max (k : ℤ) 0) ((33 - 1 : ℕ) : ℤ)).toNat = k
      omega
    all_goals rfl) h2]
  pointwise
  split_ifs <;> first | rfl | (exfalso; omega)

theorem carry_step (V : Valuation τ sig (Elt Ideal)) : step_main_v79_3 V = nextState (added V) (decays V) (carried V) (starts (res_main_while0b_v97 V)) := by
  unfold step_main_v79_3 nextState
  rfl

theorem states_step (V : Valuation τ sig (Elt Ideal)) : step_main_v79_4 V = nextStates (states V) (carried V) (starts (res_main_while0b_v97 V)) := by
  unfold step_main_v79_4 nextStates
  rfl

/-! ## The arrays at the loop's entry -/

/-- The chunks' rows of the three inputs. -/
abbrev grad (V : Valuation τ sig (Elt Ideal)) (n : ℕ) (s : Fin 128) (h : Fin 4) (e : Fin 256) : EReal :=
  (V (Proc.devRef .tc main_arg3) : S4224x1024.Idx → EReal) (ix2 (rowAt n s) (colv h e))
abbrev keys (V : Valuation τ sig (Elt Ideal)) (n : ℕ) (s : Fin 128) (h : Fin 4) (d : Fin 128) : EReal :=
  (V (Proc.devRef .tc main_arg1) : S4224x512.Idx → EReal) (ix2 (rowAt n s) (col h d))
abbrev queries (V : Valuation τ sig (Elt Ideal)) (n : ℕ) (s : Fin 128) (h : Fin 4) (d : Fin 128) : EReal :=
  (V (Proc.devRef .tc main_arg0) : S4224x512.Idx → EReal) (ix2 (rowAt n s) (col h d))

/-- The entry's contents. -/
abbrev entry : Valuation τ sig (Elt Ideal) := afterL preI X

theorem decays_entry (n : Fin 33) (z : Fin 2) (h : Fin 4) : decays (entry X) (ix5 n z h (0 : Fin 1) (0 : Fin 1)) = dec h 128 := by
  unfold decays entry
  simp only [preI, afterL_cons, afterL_nil]
  after_reads_at
  simp only [id_eq]
  pointwise
  rw [gamma, word_128]
  exact exp_mul _ _ _ (by norm_num)

theorem added_behind (n : Fin 33) (h : Fin 4) (d : Fin 128) (e : Fin 256) :
    added (entry X) (ix5 n (0 : Fin 2) h d e) = ∑ s, grad X n.val s h e * (queries X n.val s h d * dec h (s.val + 1)) := by
  unfold added entry
  simp only [preI, afterL_cons, afterL_nil]
  after_reads_at
  simp only [id_eq]
  pointwise
  after_reads_at
  pointwise [List.mem_singleton, row_mk, col_mk, colv_mk, row_rev, Fin.eta, false_and, row_lt]
  refine Finset.sum_congr rfl fun s _ => congrArg (grad X n.val s h e * ·) (congrArg (queries X n.val s h d * ·) ?_)
  exact read_word h s

theorem added_before (n : Fin 33) (h : Fin 4) (d : Fin 128) (e : Fin 256) :
    added (entry X) (ix5 n (1 : Fin 2) h d e) = ∑ s, grad X (32 - n.val) s h e * (queries X (32 - n.val) s h d * dec h (128 - s.val)) := by
  unfold added entry
  simp only [preI, afterL_cons, afterL_nil]
  after_reads_at
  simp only [id_eq]
  pointwise
  after_reads_at
  pointwise [List.mem_singleton, row_mk, col_mk, colv_mk, row_rev, Fin.eta, false_and, row_lt]
  have hn : n.rev.val = 32 - n.val := by rw [Fin.val_rev]; omega
  refine Eq.trans ?_ (Equiv.sum_comp Fin.revPerm _)
  rw [← hn]
  refine Finset.sum_congr rfl fun s _ => congrArg (grad X n.rev.val s.rev h e * ·) (congrArg (queries X n.rev.val s.rev h d * ·) ?_)
  exact (read_word h s).trans (congrArg (dec h) (by show s.val + 1 = 128 - s.rev.val; rw [Fin.val_rev]; omega))

theorem carried_entry (z : Fin 2) (h : Fin 4) (d : Fin 128) (e : Fin 256) : carried (entry X) (ix4 z h d e) = 0 := by
  unfold carried entry
  simp only [preI, afterL_cons, afterL_nil]
  after_reads_at
  simp only [id_eq]
  pointwise

theorem states_entry (n : Fin 33) (z : Fin 2) (h : Fin 4) (d : Fin 128) (e : Fin 256) : states (entry X) (ix5 n z h d e) = 0 := by
  unfold states entry
  simp only [preI, afterL_cons, afterL_nil]
  after_reads_at
  simp only [id_eq]
  pointwise

abbrev wider (V : Valuation τ sig (Elt Ideal)) : S4224x8192.Idx → EReal := V (Proc.devRef .tc main_arg2)
abbrev bothKeys (V : Valuation τ sig (Elt Ideal)) : S2x33x128x4x128.Idx → EReal := V (Proc.devRef .tc main_v56)
abbrev gradChunks (V : Valuation τ sig (Elt Ideal)) : S1x33x128x4x256.Idx → EReal := V (Proc.devRef .tc main_v71)
abbrev scores (V : Valuation τ sig (Elt Ideal)) : S1x33x4x128x128.Idx → EReal := V (Proc.devRef .tc main_v30)

theorem keys_ahead (n : Fin 33) (s : Fin 128) (h : Fin 4) (d : Fin 128) : bothKeys (entry X) (ix5 (0 : Fin 2) n s h d) = keys X n.val s h d * dec h (127 - s.val) := by
  unfold bothKeys entry
  simp only [preI, afterL_cons, afterL_nil]
  after_reads_at
  pointwise [List.mem_singleton, row_mk, col_mk]
  after_reads_at
  pointwise [List.mem_singleton, row_mk, col_mk]
  exact congrArg (keys X n.val s h d * ·) (keep_word h s)

theorem keys_reversed (n : Fin 33) (s : Fin 128) (h : Fin 4) (d : Fin 128) : bothKeys (entry X) (ix5 (1 : Fin 2) n s h d) = keys X n.rev.val s.rev h d * dec h (127 - s.val) := by
  unfold bothKeys entry
  simp only [preI, afterL_cons, afterL_nil]
  after_reads_at
  pointwise [List.mem_singleton, row_mk, col_mk, row_rev, Fin.eta]
  after_reads_at
  pointwise [List.mem_singleton, row_mk, col_mk, row_rev, Fin.eta]
  exact congrArg (keys X n.rev.val s.rev h d * ·) (keep_word h s)

theorem gradChunks_entry (n : Fin 33) (s : Fin 128) (h : Fin 4) (e : Fin 256) : gradChunks (entry X) (ix5 (0 : Fin 1) n s h e) = grad X n.val s h e := by
  unfold gradChunks entry
  simp only [preI, afterL_cons, afterL_nil]
  after_reads_at
  pointwise [row_mk, colv_mk]

theorem scores_entry (n : Fin 33) (h : Fin 4) (r s : Fin 128) :
    scores (entry X) (ix5 (0 : Fin 1) n h r s) = (∑ d, queries X n.val r h d * keys X n.val s h d) * dec h (dist r s) := by
  unfold scores entry
  simp only [preI, afterL_cons, afterL_nil]
  after_reads_at
  pointwise [row_mk, col_mk]
  rw [gamma]
  refine congrArg (_ * ·) ((congrArg (fun x : EReal => Ideal.exp (((lg h : ℝ) : EReal) * x)) (dist_floats r s)).trans ?_)
  exact exp_mul' _ _ _ rfl

theorem wider_entry : wider (entry X) = wider X := by
  unfold wider entry
  simp only [preI, afterL_cons, afterL_nil]
  after_reads_simp

/-! ## The result, from the arrays after the loop -/

/-- The gradient written into its columns of the wider array. -/
theorem into (x : FVec Ideal S4224x8192 .bf16) (u : FVec Ideal S4224x1024 .bf16) (st : Fin 2 → ℤ) (hs : st = ![0, 1024])
    (fits) (R : Fin 4224) (j : Fin 8192) :
    (Host.dynamicUpdateSlice x u st fits (ix2 R j) : EReal)
      = if h : 1024 ≤ j.val ∧ j.val < 2048 then u (ix2 R (⟨j.val - 1024, by omega⟩ : Fin 1024)) else x (ix2 R j) := by
  subst hs
  have h2 : S4224x8192.Slices ![0, 1024] S4224x1024 := ⟨rfl, by intro a; fin_cases a <;> simp⟩
  rw [Host.dynamicUpdateSlice_eq_updateSlice x u ![0, 1024] _ ![0, 1024] (by
    intro a; fin_cases a <;> rfl) h2]
  pointwise

theorem post (n : Fin 33) (r : Fin 128) (h : Fin 4) (e : Fin 256) :
    (afterL postI X (Proc.devRef .tc main_v95) (ix2 (rowAt n.val r) (colp h e)) : EReal)
      = (∑ d, states X (ix5 n (0 : Fin 2) h d e) * bothKeys X (ix5 (0 : Fin 2) n r h d))
        + (∑ d, states X (ix5 n.rev (1 : Fin 2) h d e) * bothKeys X (ix5 (1 : Fin 2) n.rev r.rev h d))
        + ∑ s, gradChunks X (ix5 (0 : Fin 1) n s h e) * scores X (ix5 (0 : Fin 1) n h s r) := by
  simp only [postI, afterL_cons, afterL_nil]
  after_reads_simp
  simp -implicitDefEqProofs only [StableHlo.TRef.toBuf, StableHlo.TRef.ofBuf, cast_cast, cast_eq]
  clean_types
  have hj : 1024 ≤ (colp h e).val ∧ (colp h e).val < 2048 := by
    show 1024 ≤ 1024 + 256 * h.val + e.val ∧ 1024 + 256 * h.val + e.val < 2048
    have := h.isLt; have := e.isLt; omega
  have he : (⟨(colp h e).val - 1024, by omega⟩ : Fin 1024) = colv h e := Fin.ext (by
    show 1024 + 256 * h.val + e.val - 1024 = 256 * h.val + e.val; omega)
  refine ((into _ _ _ ?_ _ _ _).trans (dif_pos hj)).trans ?_
  · funext a
    fin_cases a
    · after_reads_at
      rfl
    · after_reads_at
      rfl
  rw [he]
  pointwise [List.mem_singleton, row_div, row_mod, row_rev, Fin.eta, colv_div, colv_mod]

theorem post_other (R : Fin 4224) (j : Fin 8192) (hj : ¬ (1024 ≤ j.val ∧ j.val < 2048)) :
    (afterL postI X (Proc.devRef .tc main_v95) (ix2 R j) : EReal) = wider X (ix2 R j) := by
  simp only [postI, afterL_cons, afterL_nil]
  after_reads_simp
  simp -implicitDefEqProofs only [StableHlo.TRef.toBuf, StableHlo.TRef.ofBuf, cast_cast, cast_eq]
  clean_types
  refine ((into _ _ _ ?_ _ _ _).trans (dif_neg hj)).trans rfl
  funext a
  fin_cases a
  · after_reads_at
    rfl
  · after_reads_at
    rfl

/-! ## The loop -/

/-- What the result reads, besides the states. -/
abbrev reads : List (Ref sig .tc) := [main_v56, main_v71, main_v30, main_arg2]

/-- A trip of the loop leaves them. -/
theorem trip_reads : ∀ j ∈ reads, afterL bodyI (after condOps X) (Proc.devRef .tc j) = X (Proc.devRef .tc j) := by
  simp only [reads, List.forall_mem_cons, List.not_mem_nil, false_imp_iff, implies_true, and_true]
  refine ⟨?_, ?_, ?_, ?_⟩
  all_goals
    simp only [bodyI, afterL_cons, afterL_nil]
    after_reads_simp

/-- The loop's test leaves everything the result reads. -/
theorem test_keeps (j : Ref sig .tc) (hj : j ∈ main_v79_4 :: reads) :
    after condOps X (Proc.devRef .tc j) = X (Proc.devRef .tc j) := by
  refine after_of_forall_not_mem condOps X fun op hop => ?_
  fin_cases hop <;> fin_cases hj <;> exact fun h => devRef_ne_of_ne (by decide) (Finset.mem_singleton.mp h)

/-- After the loop, what the trips do not write is as at the entry. -/
theorem reads_kept (c : Dev nD) (j : Ref sig .tc) (hj : j ∈ reads) (k : ℕ) :
    atK m k c (Proc.devRef .tc j) = entryContents preI m c (Proc.devRef .tc j) := by
  induction k with
  | zero => rfl
  | succ k ih => exact (trip_reads _ j hj).trans ih

/-- Nor do they write the arrays they read. -/
theorem kept (c : Dev nD) : ∀ k : ℕ, added (atK m k c) = added (entryContents preI m c) ∧ decays (atK m k c) = decays (entryContents preI m c)
  | 0 => ⟨rfl, rfl⟩
  | k + 1 => by
    obtain ⟨h6, h7⟩ := kept c k
    exact ⟨((trip_agree (atK m k c) main_v79_0 (by decide)).trans (STEP_main_v79_0 _)).trans h6,
      ((trip_agree (atK m k c) main_v79_1 (by decide)).trans (STEP_main_v79_1 _)).trans h7⟩

/-- What the entry's arrays give as the terms of the scan. -/
abbrev term (c : Dev nD) (z : Fin 2) (h : Fin 4) (d : Fin 128) (e : Fin 256) (n : ℕ) : EReal :=
  added (entryContents preI m c) (ix5 (⟨32 - n, by omega⟩ : Fin 33) z h d e)

/-- The loop is the scan: the state carried, and the states written so far. -/
theorem loop (c : Dev nD) (z : Fin 2) (h : Fin 4) (d : Fin 128) (e : Fin 256) : ∀ k : ℕ, k ≤ 33 →
    carried (atK m k c) (ix4 z h d e) = scan (fun _ => dec h 128) (term m c z h d e) k
      ∧ ∀ n : Fin 33, states (atK m k c) (ix5 n z h d e) = if 32 - n.val < k then scan (fun _ => dec h 128) (term m c z h d e) (32 - n.val) else 0
  | 0, _ => ⟨carried_entry (X := _) z h d e, fun n => states_entry (X := _) n z h d e⟩
  | k + 1, hk => by
    have hk' : k < 33 := by omega
    obtain ⟨ih1, ih2⟩ := loop c z h d e k (by omega)
    obtain ⟨hA, hD⟩ := kept m c k
    have hw : starts (res_main_while0b_v97 (atK m k c)) = ![((32 - k : ℕ) : ℤ), 0, 0, 0, 0] := by
      rw [← starts_eq k hk']
      unfold res_main_while0b_v97
      exact congrArg starts (congrArg (fun w => subi (subi (constantI S_ 32 33#32) w) (constantI S_ 32 1#32)) (atK_ctr m c k))
    constructor
    · have e1 : carried (atK m (k + 1) c) = nextState (added (atK m k c)) (decays (atK m k c)) (carried (atK m k c)) (starts (res_main_while0b_v97 (atK m k c))) :=
        ((trip_agree (atK m k c) main_v79_3 (by decide)).trans (STEP_main_v79_3 _)).trans (carry_step _)
      rw [e1, hw, nextState_at _ _ _ (32 - k) (by omega), ih1, hA, hD, add_comm]
      exact congrArg₂ (· + ·) (congrArg (_ * ·) (decays_entry (X := _) _ z h)) rfl
    · intro n
      have e1 : states (atK m (k + 1) c) = nextStates (states (atK m k c)) (carried (atK m k c)) (starts (res_main_while0b_v97 (atK m k c))) :=
        ((trip_agree (atK m k c) main_v79_4 (by decide)).trans (STEP_main_v79_4 _)).trans (states_step _)
      rw [e1, hw, nextStates_at _ _ (32 - k) (by omega), ih1, ih2]
      have := n.isLt
      split_ifs <;> first | rfl | (exfalso; omega) | (congr 1; omega) | (simp_all; done)

/-- The state that the chunks behind leave, decayed by one row. -/
theorem scan_behind (c : Dev nD) (h : Fin 4) (d : Fin 128) (e : Fin 256) (k : ℕ) :
    scan (fun _ => dec h 128) (term m c 0 h d e) k
      = dec h 1 * behind h (fun n r d => queries (launchContents m c) n r h d) (fun n r e => grad (launchContents m c) n r h e) k d e := by
  unfold behind
  rw [state_scan, ← scan_scale]
  refine scan_congr _ (fun _ _ => rfl) fun a ha => ?_
  refine (added_behind _ _ h d e).trans ?_
  beta_reduce
  rw [dec_sum]
  refine Finset.sum_congr rfl fun s _ => ?_
  rw [← dec_mul]
  ac_rfl

/-- The state that the chunks before leave, decayed by one row. -/
theorem scan_before (c : Dev nD) (h : Fin 4) (d : Fin 128) (e : Fin 256) (k : ℕ) (hk : k < 33) :
    scan (fun _ => dec h 128) (term m c 1 h d e) k
      = dec h 1 * before h (fun n r d => queries (launchContents m c) n r h d) (fun n r e => grad (launchContents m c) n r h e) k d e := by
  unfold before
  rw [state_scan, ← scan_scale]
  refine scan_congr _ (fun _ _ => rfl) fun a ha => ?_
  refine (added_before _ _ h d e).trans ?_
  beta_reduce
  rw [dec_sum]
  refine Finset.sum_congr rfl fun s _ => ?_
  rw [show 32 - (32 - a) = a by omega, show 128 - s.val = 127 - s.val + 1 by have := s.isLt; omega, ← dec_mul]
  ac_rfl

/-! ## The result -/

/-- The gradient in v, as the reference computes it, is the retention of the launch's arrays. -/
theorem total (c : Dev nD) (n : Fin 33) (r : Fin 128) (h : Fin 4) (e : Fin 256) :
    (finalContents condOps preI bodyI postI 33 m c (Proc.devRef .tc main_v95) (ix2 (rowAt n.val r) (colp h e)) : EReal)
      = retention h (fun n r d => keys (launchContents m c) n r h d) (fun n r d => queries (launchContents m c) n r h d) (fun n r e => grad (launchContents m c) n r h e) n.val r e := by
  have t : ∀ j ∈ reads, after condOps (atK m 33 c) (Proc.devRef .tc j) = entryContents preI m c (Proc.devRef .tc j) := fun j hj =>
    (test_keeps _ j (List.mem_cons_of_mem _ hj)).trans (reads_kept m c j hj 33)
  have s : ∀ (a : Fin 33) (z : Fin 2) (d : Fin 128), states (after condOps (atK m 33 c)) (ix5 a z h d e) = scan (fun _ => dec h 128) (term m c z h d e) (32 - a.val) := fun a z d =>
    (congrFun (test_keeps _ main_v79_4 (by decide)) _).trans (((loop m c z h d e 33 le_rfl).2 a).trans (if_pos (by omega)))
  have k0 : ∀ r d, bothKeys (after condOps (atK m 33 c)) (ix5 (0 : Fin 2) n r h d) = keys (launchContents m c) n.val r h d * dec h (127 - r.val) := fun r d =>
    (congrFun (t main_v56 (by decide)) _).trans (keys_ahead _ n r h d)
  have k1 : ∀ r d, bothKeys (after condOps (atK m 33 c)) (ix5 (1 : Fin 2) n.rev r h d) = keys (launchContents m c) n.val r.rev h d * dec h (127 - r.val) := fun r d =>
    (congrFun (t main_v56 (by decide)) _).trans ((keys_reversed _ n.rev r h d).trans (by rw [Fin.rev_rev]))
  have g : ∀ s, gradChunks (after condOps (atK m 33 c)) (ix5 (0 : Fin 1) n s h e) = grad (launchContents m c) n.val s h e := fun s =>
    (congrFun (t main_v71 (by decide)) _).trans (gradChunks_entry _ n s h e)
  have w : ∀ r s, scores (after condOps (atK m 33 c)) (ix5 (0 : Fin 1) n h r s) = (∑ d, queries (launchContents m c) n.val r h d * keys (launchContents m c) n.val s h d) * dec h (dist r s) := fun r s =>
    (congrFun (t main_v30 (by decide)) _).trans (scores_entry _ n h r s)
  refine (post (after condOps (atK m 33 c)) n r h e).trans ?_
  have hn := n.isLt
  have hr := r.isLt
  simp only [s, k0, k1, g, w, Fin.rev_rev, scan_behind, Fin.val_rev]
  rw [show 32 - (33 - (n.val + 1)) = n.val by omega, show 127 - (128 - (r.val + 1)) = r.val by omega]
  simp only [scan_before m c h _ e n.val hn]
  unfold retention within fromBefore fromBehind
  rw [add_comm _ (∑ s, grad _ _ _ _ _ * _), add_comm (∑ d, _ * (_ * dec h (127 - r.val))), ← add_assoc]
  refine congrArg₂ (· + ·) (congrArg₂ (· + ·) ?_ ?_) ?_
  · refine Finset.sum_congr rfl fun s _ => ?_
    rw [dist_comm s r, mul_comm]
    refine congrArg (· * _) (congrArg (· * _) (Finset.sum_congr rfl fun e _ => mul_comm _ _))
  · refine Finset.sum_congr rfl fun d _ => ?_
    beta_reduce
    rw [← dec_mul h r.val 1]
    ac_rfl
  · refine Finset.sum_congr rfl fun d _ => ?_
    beta_reduce
    rw [show 128 - r.val = 127 - r.val + 1 by omega, ← dec_mul]
    ac_rfl

/-- Outside the gradient's columns the result is the wider array's contents at the launch. -/
theorem total_other (c : Dev nD) (R : Fin 4224) (j : Fin 8192) (hj : ¬ (1024 ≤ j.val ∧ j.val < 2048)) :
    (finalContents condOps preI bodyI postI 33 m c (Proc.devRef .tc main_v95) (ix2 R j) : EReal) = wider (launchContents m c) (ix2 R j) := by
  refine (post_other (after condOps (atK m 33 c)) R j hj).trans ?_
  exact congrFun (((test_keeps _ main_arg2 (by decide)).trans (reads_kept m c main_arg2 (by decide) 33)).trans (wider_entry _)) _

/-- The program's arguments. -/
abbrev args : List (Ref sig .tc) := [main_arg0, main_arg1, main_arg2, main_arg3]

theorem pre_args : ∀ j ∈ args, afterL preI X (Proc.devRef .tc j) = X (Proc.devRef .tc j) := by
  simp only [args, List.forall_mem_cons, List.not_mem_nil, false_imp_iff, implies_true, and_true]
  refine ⟨?_, ?_, ?_, ?_⟩
  all_goals
    simp only [preI, afterL_cons, afterL_nil]
    after_reads_simp

theorem trip_args : ∀ j ∈ args, afterL bodyI (after condOps X) (Proc.devRef .tc j) = X (Proc.devRef .tc j) := by
  simp only [args, List.forall_mem_cons, List.not_mem_nil, false_imp_iff, implies_true, and_true]
  refine ⟨?_, ?_, ?_, ?_⟩
  all_goals
    simp only [bodyI, afterL_cons, afterL_nil]
    after_reads_simp

theorem post_args : ∀ j ∈ args, afterL postI (after condOps X) (Proc.devRef .tc j) = X (Proc.devRef .tc j) := by
  simp only [args, List.forall_mem_cons, List.not_mem_nil, false_imp_iff, implies_true, and_true]
  refine ⟨?_, ?_, ?_, ?_⟩
  all_goals
    simp only [postI, afterL_cons, afterL_nil]
    after_reads_simp

/-- The arguments end as they were. -/
theorem args_kept (c : Dev nD) (j : Ref sig .tc) (hj : j ∈ args) :
    finalContents condOps preI bodyI postI 33 m c (Proc.devRef .tc j) = launchContents m c (Proc.devRef .tc j) := by
  have trips : ∀ k, atK m k c (Proc.devRef .tc j) = entryContents preI m c (Proc.devRef .tc j) := by
    intro k
    induction k with
    | zero => rfl
    | succ k ih => exact (trip_args _ j hj).trans ih
  exact (post_args _ j hj).trans ((trips 33).trans (pre_args _ j hj))

end Cert.ReferenceDvIdeal.Read

end
-- ==== Proof.ClaimsDv.lean ====
/-
  The claims about the gradient in v: the runs of the kernel, of its idealization and of the reference, and the equality
  of their results.
-/
module

public import proofs.«01_k».proof.Proof.KernelDvArray
public import proofs.«01_k».proof.Proof.ReferenceDvRead
public import proofs.«01_k».proof.Proof.Gen.KernelDv.Frame
public import proofs.«01_k».proof.Proof.Gen.KernelDvIdeal.Frame
public import proofs.«01_k».proof.Defs

@[expose] public section

noncomputable section

namespace Cert.Proof

open Idealize.ShloMosaic Idealize.ShloMosaic.TcCoe Idealize.SL.Sem Cert.Retention

/-- The kernel runs, keeps its arguments and ends with every counter at zero. -/
theorem frame_KernelDv : Cert.quiescent_KernelDv (hKernelDv := Cert.KernelDv.Gen.facts) := fun m ρ _ => Cert.KernelDv.Gen.frame m ρ

/-- So does its idealization. -/
theorem frame_KernelDvIdeal : Cert.quiescent_KernelDvIdeal (hKernelDvIdeal := Cert.KernelDvIdeal.Gen.facts) := fun m ρ _ => Cert.KernelDvIdeal.Gen.frame m ρ

/-- So does the reference. -/
theorem frame_ReferenceDvIdeal : Cert.quiescent_ReferenceDvIdeal (hReferenceDvIdeal := Cert.ReferenceDvIdeal.Gen.facts) := fun m ρ _ =>
  (θ_run Cert.ReferenceDvIdeal.defs _ _).mono (fun r h => ⟨fun c =>
    ⟨(h c _ rfl).trans (Cert.ReferenceDvIdeal.Read.args_kept m c _ (by decide)), (h c _ rfl).trans (Cert.ReferenceDvIdeal.Read.args_kept m c _ (by decide)),
      (h c _ rfl).trans (Cert.ReferenceDvIdeal.Read.args_kept m c _ (by decide)), (h c _ rfl).trans (Cert.ReferenceDvIdeal.Read.args_kept m c _ (by decide))⟩,
    sem_eq_zero_of_no_sems (by decide) r.2⟩) (Cert.ReferenceDvIdeal.Value.run_fold m ρ)

/-- The named logarithms are what the kernel's words stand for. -/
theorem preserves_KernelDv : Cert.preserves_KernelDv_KernelDvIdeal :=
  ⟨IdealRules.named_const.statement _ _ _ _ _ rfl, IdealRules.named_const.statement _ _ _ _ _ rfl, IdealRules.named_const.statement _ _ _ _ _ rfl,
    IdealRules.named_const.statement _ _ _ _ _ rfl⟩

/-- From equal arguments the reference's array is the kernel's. -/
theorem equal_Dv (m : (ℓ : Loc Cert.KernelDvIdeal.nD Cert.KernelDvIdeal.τ Cert.KernelDvIdeal.sig) → Buf (Elt Ideal) ℓ)
    (m' : (ℓ : Loc Cert.ReferenceDvIdeal.nD Cert.ReferenceDvIdeal.τ Cert.ReferenceDvIdeal.sig) → Buf (Elt Ideal) ℓ) (c : Dev Cert.KernelDvIdeal.nD)
    (h0 : m' ((c.tc : Thread Cert.ReferenceDvIdeal.nD Cert.ReferenceDvIdeal.τ).loc Cert.ReferenceDvIdeal.main_arg0) = m ((c.tc : Thread Cert.KernelDvIdeal.nD Cert.KernelDvIdeal.τ).loc Cert.KernelDvIdeal.main_arg0))
    (h1 : m' ((c.tc : Thread Cert.ReferenceDvIdeal.nD Cert.ReferenceDvIdeal.τ).loc Cert.ReferenceDvIdeal.main_arg1) = m ((c.tc : Thread Cert.KernelDvIdeal.nD Cert.KernelDvIdeal.τ).loc Cert.KernelDvIdeal.main_arg1))
    (h2 : m' ((c.tc : Thread Cert.ReferenceDvIdeal.nD Cert.ReferenceDvIdeal.τ).loc Cert.ReferenceDvIdeal.main_arg2) = m ((c.tc : Thread Cert.KernelDvIdeal.nD Cert.KernelDvIdeal.τ).loc Cert.KernelDvIdeal.main_arg2))
    (h3 : m' ((c.tc : Thread Cert.ReferenceDvIdeal.nD Cert.ReferenceDvIdeal.τ).loc Cert.ReferenceDvIdeal.main_arg3) = m ((c.tc : Thread Cert.KernelDvIdeal.nD Cert.KernelDvIdeal.τ).loc Cert.KernelDvIdeal.main_arg3)) :
    StableHlo.finalContents Cert.ReferenceDvIdeal.Value.condOps Cert.ReferenceDvIdeal.Value.preI Cert.ReferenceDvIdeal.Value.bodyI Cert.ReferenceDvIdeal.Value.postI 33 m' c
        (Proc.devRef .tc Cert.ReferenceDvIdeal.main_v95) = Cert.KernelDvIdeal.Trip.results m c := by
  funext y
  by_cases hj : 1024 ≤ (y 1).val ∧ (y 1).val < 2048
  · obtain ⟨n, r, hr⟩ := row_cases (y 0)
    have hd : y 1 = colp (⟨((y 1).val - 1024) / 256, by omega⟩ : Fin 4) (⟨((y 1).val - 1024) % 256, Nat.mod_lt _ (by norm_num)⟩ : Fin 256) :=
      Fin.ext (by show (y 1).val = 1024 + 256 * (((y 1).val - 1024) / 256) + ((y 1).val - 1024) % 256; omega)
    generalize (⟨((y 1).val - 1024) / 256, by omega⟩ : Fin 4) = h at hd
    generalize (⟨((y 1).val - 1024) % 256, Nat.mod_lt _ (by norm_num)⟩ : Fin 256) = e at hd
    have hy : y = ix2 (rowAt n.val r) (colp h e) := by rw [← hr, ← hd]; exact eq_ix2 y
    rw [hy]
    refine (Cert.ReferenceDvIdeal.Read.total m' c n r h e).trans (Eq.trans ?_ (Cert.KernelDvIdeal.Trip.results_at m c n.val n.isLt r e h).symm)
    have e1 : (fun (n : ℕ) (r : Fin 128) (d : Fin 128) => Cert.ReferenceDvIdeal.Read.keys (StableHlo.launchContents m' c) n r h d) = fun n r d => m ((c.tc : Thread Cert.KernelDvIdeal.nD Cert.KernelDvIdeal.τ).loc Cert.KernelDvIdeal.main_arg1) (ix2 (rowAt n r) (col h d)) := by
      funext n r d; exact congrFun h1 _
    have e2 : (fun (n : ℕ) (r : Fin 128) (d : Fin 128) => Cert.ReferenceDvIdeal.Read.queries (StableHlo.launchContents m' c) n r h d) = fun n r d => m ((c.tc : Thread Cert.KernelDvIdeal.nD Cert.KernelDvIdeal.τ).loc Cert.KernelDvIdeal.main_arg0) (ix2 (rowAt n r) (col h d)) := by
      funext n r d; exact congrFun h0 _
    have e3 : (fun (n : ℕ) (r : Fin 128) (e : Fin 256) => Cert.ReferenceDvIdeal.Read.grad (StableHlo.launchContents m' c) n r h e) = fun n r e => m ((c.tc : Thread Cert.KernelDvIdeal.nD Cert.KernelDvIdeal.τ).loc Cert.KernelDvIdeal.main_arg3) (ix2 (rowAt n r) (colv h e)) := by
      funext n r e; exact congrFun h3 _
    rw [e1, e2, e3]
    rfl
  · have hy : y = ix2 (y 0) (y 1) := eq_ix2 y
    refine ((congrArg _ hy).trans (Cert.ReferenceDvIdeal.Read.total_other m' c (y 0) (y 1) hj)).trans ?_
    refine Eq.trans ?_ (if_neg hj).symm
    refine Eq.trans (congrArg _ hy.symm) ?_
    exact congrFun h2 y

/-- The idealized kernel and the reference end with equal gradients in v. -/
theorem algebraic_Dv : Cert.algebraic_KernelDvIdeal_ReferenceDvIdeal (hKernelDvIdeal := Cert.KernelDvIdeal.Gen.facts) (hReferenceDvIdeal := Cert.ReferenceDvIdeal.Gen.facts) :=
  fun m g m' g' _ hargs => ⟨fun c => Cert.KernelDvIdeal.Trip.results m c,
    (θ_run Cert.KernelDvIdeal.defs _ _).mono (fun r h c => ⟨(h c).1.trans (Cert.KernelDvIdeal.Trip.final m c), (h c).2⟩) (Cert.KernelDvIdeal.Value.run_blocks m g),
    (θ_run Cert.ReferenceDvIdeal.defs _ _).mono (fun r h c =>
      ⟨(h c _ rfl).trans (equal_Dv m m' c (hargs c).1 (hargs c).2.1 (hargs c).2.2.1 (hargs c).2.2.2),
        (h c _ rfl).trans (Cert.ReferenceDvIdeal.Read.args_kept m' c _ (by decide)), (h c _ rfl).trans (Cert.ReferenceDvIdeal.Read.args_kept m' c _ (by decide)),
        (h c _ rfl).trans (Cert.ReferenceDvIdeal.Read.args_kept m' c _ (by decide)), (h c _ rfl).trans (Cert.ReferenceDvIdeal.Read.args_kept m' c _ (by decide))⟩)
      (Cert.ReferenceDvIdeal.Value.run_fold m' g')⟩

end Cert.Proof

end
-- ==== Proof.KernelYTrip.lean ====
/-
  One trip of the kernel of the retention, as functions of the row blocks it reads: the update it adds to a block of
  rows of the result, in each direction, and the state it carries on. Each is then read at an index: sums of products
  of extended reals.
-/
module

public import proofs.«01_k».proof.Proof.Gen.KernelYIdeal.Value
public import proofs.«01_k».proof.Proof.Words
public import proofs.«01_k».proof.Proof.Trips

@[expose] public section

noncomputable section

namespace Cert.KernelYIdeal.Trip

open Cert.Retention (rowAt rowAt_val)
open Cert.Trips (addRows)
open Cert.KernelYIdeal Cert.KernelYIdeal.Gen Idealize.ShloMosaic Idealize.ShloMosaic.TcCoe Idealize.SL.Sem

/-! ## Blocks of rows -/

/-- The `n`-th block of 128 rows of an array of 256 columns. -/
def wideRows (x : FVec Ideal S4224x256 .bf16) (n : ℕ) : FVec Ideal S128x256 .bf16 := fun j => x (ix2 (rowAt n (j 0)) (j 1))

/-- The `n`-th block of 128 rows of an array of 128 columns. -/
def narrowRows (x : FVec Ideal S4224x128 .f32) (n : ℕ) : FVec Ideal S128x128 .f32 := fun j => x (ix2 (rowAt n (j 0)) (j 1))

/-! ## One trip -/

/-- What the forward half of a trip adds to its block of the result. -/
def addFwd (i : grid0.Coords) (a b : FVec Ideal S128x128 .f32) (v : FVec Ideal S128x256 .bf16) (st : FVec Ideal S128x256 .f32) :
    FVec Ideal S128x256 .f32 :=
  addf
    (matmul dot_S128x128_S128x256_S128x256_1_0_0_1_n_n none
      (truncf .bf16 (mulf (matmul dot_S128x128_S128x128_S128x128_1_1_0_0_n_n none (truncf .bf16 a bitsLt_bf16_f32) (truncf .bf16 b bitsLt_bf16_f32) (constant S128x128 .f32 0x00000000#32)) (k0_pay4 i)) bitsLt_bf16_f32)
      v (constant S128x256 .f32 0x00000000#32))
    (matmul dot_S128x128_S128x256_S128x256_1_0_0_1_n_n none
      (truncf .bf16 (mulf a (broadcastTo S128x128 (k0_pay7 i) broadcasts_S128x1_S128x128)) bitsLt_bf16_f32)
      (truncf .bf16 st bitsLt_bf16_f32) (constant S128x256 .f32 0x00000000#32))

/-- What the backward half of a trip adds to its block of the result. -/
def addBwd (i : grid0.Coords) (a : FVec Ideal S128x128 .f32) (st : FVec Ideal S128x256 .f32) : FVec Ideal S128x256 .f32 :=
  matmul dot_S128x128_S128x256_S128x256_1_0_0_1_n_n none
    (truncf .bf16 (mulf a (broadcastTo S128x128 (k0_pay9 i) broadcasts_S128x1_S128x128)) bitsLt_bf16_f32)
    (truncf .bf16 st bitsLt_bf16_f32) (constant S128x256 .f32 0x00000000#32)

/-- The state that the forward half of a trip carries on. -/
def nextFwd (i : grid0.Coords) (b : FVec Ideal S128x128 .f32) (v : FVec Ideal S128x256 .bf16) (st : FVec Ideal S128x256 .f32) :
    FVec Ideal S128x256 .f32 :=
  addf (mulf (broadcast S128x256 (k0_pay10 i)) st)
    (matmul dot_S128x128_S128x256_S128x256_0_0_1_1_n_n none
      (truncf .bf16 (mulf b (broadcastTo S128x128 (k0_pay6 i) broadcasts_S128x1_S128x128)) bitsLt_bf16_f32)
      v (constant S128x256 .f32 0x00000000#32))

/-- The state that the backward half of a trip carries on. -/
def nextBwd (i : grid0.Coords) (b : FVec Ideal S128x128 .f32) (v : FVec Ideal S128x256 .bf16) (st : FVec Ideal S128x256 .f32) :
    FVec Ideal S128x256 .f32 :=
  addf (mulf (broadcast S128x256 (k0_pay10 i)) st)
    (matmul dot_S128x128_S128x256_S128x256_0_0_1_1_n_n none
      (truncf .bf16 (mulf b (broadcastTo S128x128 (k0_pay8 i) broadcasts_S128x1_S128x128)) bitsLt_bf16_f32)
      v (constant S128x256 .f32 0x00000000#32))

/-! ## The trips -/

/-- The states' first contents. -/
def zeroState : FVec Ideal S128x256 .f32 := fun _ => (0 : EReal)

/-- The forward state before trip `n`. -/
def stFwd (i : grid0.Coords) (x1 : FVec Ideal S4224x128 .f32) (x2 : FVec Ideal S4224x256 .bf16) : ℕ → FVec Ideal S128x256 .f32
  | 0 => zeroState
  | n + 1 => nextFwd i (narrowRows x1 n) (wideRows x2 n) (stFwd i x1 x2 n)

/-- The backward state before trip `n`, which reads the blocks from the last one down. -/
def stBwd (i : grid0.Coords) (x1 : FVec Ideal S4224x128 .f32) (x2 : FVec Ideal S4224x256 .bf16) : ℕ → FVec Ideal S128x256 .f32
  | 0 => zeroState
  | n + 1 => nextBwd i (narrowRows x1 (32 - n)) (wideRows x2 (32 - n)) (stBwd i x1 x2 n)

/-- The result before trip `n`. -/
def acc (i : grid0.Coords) (x0 x1 : FVec Ideal S4224x128 .f32) (x2 : FVec Ideal S4224x256 .bf16) : ℕ → FVec Ideal S4224x256 .f32
  | 0 => fun _ => (0 : EReal)
  | n + 1 => addRows (32 - n) (addBwd i (narrowRows x0 (32 - n)) (stBwd i x1 x2 n))
      (addRows n (addFwd i (narrowRows x0 n) (narrowRows x1 n) (wideRows x2 n) (stFwd i x1 x2 n)) (acc i x0 x1 x2 n))

/-! ## Equal blocks and states give equal updates and states -/

theorem addFwd_congr (i : grid0.Coords) {a a' b b' : FVec Ideal S128x128 .f32} {v v' : FVec Ideal S128x256 .bf16} {st st' : FVec Ideal S128x256 .f32}
    (ha : a = a') (hb : b = b') (hv : v = v') (hs : st = st') : addFwd i a b v st = addFwd i a' b' v' st' := by
  rw [ha, hb, hv, hs]

theorem addBwd_congr (i : grid0.Coords) {a a' : FVec Ideal S128x128 .f32} {st st' : FVec Ideal S128x256 .f32}
    (ha : a = a') (hs : st = st') : addBwd i a st = addBwd i a' st' := by
  rw [ha, hs]

theorem nextFwd_congr (i : grid0.Coords) {b b' : FVec Ideal S128x128 .f32} {v v' : FVec Ideal S128x256 .bf16} {st st' : FVec Ideal S128x256 .f32}
    (hb : b = b') (hv : v = v') (hs : st = st') : nextFwd i b v st = nextFwd i b' v' st' := by
  rw [hb, hv, hs]

theorem nextBwd_congr (i : grid0.Coords) {b b' : FVec Ideal S128x128 .f32} {v v' : FVec Ideal S128x256 .bf16} {st st' : FVec Ideal S128x256 .f32}
    (hb : b = b') (hv : v = v') (hs : st = st') : nextBwd i b v st = nextBwd i b' v' st' := by
  rw [hb, hv, hs]

/-! ## The first fills -/

theorem fill_fwd : (k0_pay11 : FVec Ideal S128x256 .f32) = zeroState := by
  funext j
  show Idealize.ShloMosaic.Ideal.ofBits .f32 0x00000000#32 = (0 : EReal)
  exact Ideal.ofBits_zero ..

theorem fill_bwd : (shapeCast S128x256 (k0_pay12 : FVec Ideal S128x256 .f32) shapeCasts_S128x256_S128x256 : FVec Ideal S128x256 .f32) = zeroState := by
  funext j
  show Idealize.ShloMosaic.Ideal.ofBits .f32 0x00000000#32 = (0 : EReal)
  exact Ideal.ofBits_zero ..

theorem fill_acc (i : grid0.Coords) (x0 x1 : FVec Ideal S4224x128 .f32) (x2 : FVec Ideal S4224x256 .bf16) :
    View.canon (Val := Elt Ideal) kernelRun0_A.sl.HS0_1 = acc i x0 x1 x2 0 := by
  unfold kernelRun0_A.sl.HS0_1
  rw [View.canon_cons_unit_zero (by funext a; fin_cases a <;> rfl)]
  funext j
  show Idealize.ShloMosaic.Ideal.ofBits .f32 0x00000000#32 = (0 : EReal)
  exact Ideal.ofBits_zero ..

end Cert.KernelYIdeal.Trip

end
-- ==== Proof.KernelYChain.lean ====
/-
  The trips of the kernel of the retention, one after another: before each, the states are those that the trip before it
  carried on, and the contents of the result are those before with the two updates added.
-/
module

public import proofs.«01_k».proof.Proof.KernelYTrip

@[expose] public section

noncomputable section

namespace Cert.KernelYIdeal.Trip

open Cert.Trips (Before load_rows fill_read)
open Cert.KernelYIdeal Cert.KernelYIdeal.Gen Idealize.ShloMosaic Idealize.ShloMosaic.TcCoe Idealize.SL.Sem

variable (c : Dev nD) (i : grid0.Coords) (arg1 : Memref sig .tc .vmem S4224x128 .f32) (harg1 : arg1.IsWhole) (arg2 : Memref sig .tc .vmem S4224x128 .f32) (harg2 : arg2.IsWhole)
  (arg3 : Memref sig .tc .vmem S4224x256 .bf16) (harg3 : arg3.IsWhole) (arg5 : Memref sig .tc .vmem S4224x256 .f32) (arg6 arg7 : Memref sig .tc .vmem S128x256 .f32)
  (x0 x1 : FVec Ideal S4224x128 .f32) (x2 : FVec Ideal S4224x256 .bf16)

/-- What is there before trip `n`. -/
abbrev At := Before (D := 128) (E := 256) arg6.view arg7.view (fun n => acc i x0 x1 x2 n) (stFwd i x1 x2) (stBwd i x1 x2)

/-- Before the first trip there are the fills. -/
theorem before_first : At i arg6 arg7 x0 x1 x2 0 kernelRun0_A.sl.HS0_1 kernelRun0_A.sl.HS1_1 kernelRun0_A.sl.HS2_1 :=
  ⟨fill_acc i x0 x1 x2, (fill_read (D := 128) (E := 256) arg6.view _ _).trans fill_fwd, (fill_read (D := 128) (E := 256) arg7.view _ _).trans fill_bwd⟩

/-- Before the last trip: each of those before it is one use of `Before.next`. -/
theorem before_last : At i arg6 arg7 x0 x1 x2 32 (kernelRun0_A.sl.HS0_65 (F := Ideal) c i arg1 harg1 arg2 harg2 arg3 harg3 arg5 arg6 arg7 x0 x1 x2)
    (kernelRun0_A.sl.HS1_33 (F := Ideal) c i arg2 harg2 arg3 harg3 arg6 x1 x2) (kernelRun0_A.sl.HS2_33 (F := Ideal) c i arg2 harg2 arg3 harg3 arg7 x1 x2) := by
  iterate 32
    refine Before.next (D := 128) (E := 256) (v0 := arg5.view) (v1 := arg6.view) (v2 := arg7.view)
      (uF := fun n => addFwd i (narrowRows x0 n) (narrowRows x1 n) (wideRows x2 n)) (uB := fun n => addBwd i (narrowRows x0 (32 - n)))
      (nF := fun n => nextFwd i (narrowRows x1 n) (wideRows x2 n)) (nB := fun n => nextBwd i (narrowRows x1 (32 - n)) (wideRows x2 (32 - n)))
      (fun _ => rfl) (fun _ => rfl) (fun _ => rfl) (by decide) (by rfl) (by rfl) ?_ rfl
      (addFwd_congr i (load_rows arg1 harg1 x0 _ _ (by rfl) (by decide) _) (load_rows arg2 harg2 x1 _ _ (by rfl) (by decide) _) (load_rows arg3 harg3 x2 _ _ (by rfl) (by decide) _) rfl)
      (addBwd_congr i (load_rows arg1 harg1 x0 _ _ (by rfl) (by decide) _) rfl)
      (nextFwd_congr i (load_rows arg2 harg2 x1 _ _ (by rfl) (by decide) _) (load_rows arg3 harg3 x2 _ _ (by rfl) (by decide) _) rfl)
      (nextBwd_congr i (load_rows arg2 harg2 x1 _ _ (by rfl) (by decide) _) (load_rows arg3 harg3 x2 _ _ (by rfl) (by decide) _) rfl)
  exact before_first i arg6 arg7 x0 x1 x2

/-- The result's contents after the last trip. -/
theorem acc_33 : View.canon (kernelRun0_A.sl.HS0_67 (F := Ideal) c i arg1 harg1 arg2 harg2 arg3 harg3 arg5 arg6 arg7 x0 x1 x2) = acc i x0 x1 x2 33 :=
  Cert.Trips.acc_next (D := 128) (E := 256) (v0 := arg5.view) (v1 := arg6.view) (v2 := arg7.view) (a := fun n => acc i x0 x1 x2 n)
    (uF := fun n => addFwd i (narrowRows x0 n) (narrowRows x1 n) (wideRows x2 n)) (uB := fun n => addBwd i (narrowRows x0 (32 - n)))
    (fun _ => rfl) (n := 32) (by decide) (by rfl) (by rfl) (before_last c i arg1 harg1 arg2 harg2 arg3 harg3 arg5 arg6 arg7 x0 x1 x2)
    (addFwd_congr i (load_rows arg1 harg1 x0 _ _ (by rfl) (by decide) _) (load_rows arg2 harg2 x1 _ _ (by rfl) (by decide) _) (load_rows arg3 harg3 x2 _ _ (by rfl) (by decide) _) rfl)
    (addBwd_congr i (load_rows arg1 harg1 x0 _ _ (by rfl) (by decide) _) rfl) rfl

end Cert.KernelYIdeal.Trip

end
-- ==== Proof.KernelYValue.lean ====
/-
  What the kernel of the retention computes: the result of one grid point at a row and a column, from the blocks that
  it reads, and from these the whole array after the run.
-/
module

public import proofs.«01_k».proof.Proof.KernelYChain
public import Idealize.ShloMosaic.Lib.Claim

@[expose] public section

noncomputable section

namespace Cert.KernelYIdeal.Trip

open Cert.Retention
open Cert.Trips (addRows)
open Cert.KernelYIdeal Cert.KernelYIdeal.Gen Idealize.ShloMosaic Idealize.ShloMosaic.TcCoe Idealize.SL.Sem

/-! ## The decays -/

/-- The head that a grid point computes. -/
def head (i : grid0.Coords) : Fin 4 := i 0

theorem named_0 : Named.named (F := Ideal) Cert.KernelYIdeal.κ "log_gamma_0" (φ := .f32) 0xBD020AEC#32 = ((lg 0 : ℝ) : EReal) := by
  rw [lg_zero]; exact IdealRules.named_const.ideal_named_scalar _ _ _ _ rfl

theorem named_1 : Named.named (F := Ideal) Cert.KernelYIdeal.κ "log_gamma_1" (φ := .f32) 0xBC8102B3#32 = ((lg 1 : ℝ) : EReal) := by
  rw [lg_one]; exact IdealRules.named_const.ideal_named_scalar _ _ _ _ rfl

theorem named_2 : Named.named (F := Ideal) Cert.KernelYIdeal.κ "log_gamma_2" (φ := .f32) 0xBC0080AC#32 = ((lg 2 : ℝ) : EReal) := by
  rw [lg_two]; exact IdealRules.named_const.ideal_named_scalar _ _ _ _ rfl

theorem named_3 : Named.named (F := Ideal) Cert.KernelYIdeal.κ "log_gamma_3" (φ := .f32) 0xBB80402B#32 = ((lg 3 : ℝ) : EReal) := by
  rw [lg_three]; exact IdealRules.named_const.ideal_named_scalar _ _ _ _ rfl

/-- The chain of selections on the grid's coordinate picks the head's logarithm. -/
theorem log_gamma (i : grid0.Coords) : (k0_pay3 (F := Ideal) i : Ideal .f32) = ((lg (head i) : ℝ) : EReal) := by
  have key : ∀ h : Fin 4, (i 0 : Fin 4) = h → (k0_pay3 (F := Ideal) i : Ideal .f32) = ((lg h : ℝ) : EReal) := by
    intro h hh
    pointwise [k0_pay3]
    rw [hh, named_0, named_1, named_2, named_3]
    fin_cases h <;> rfl
  exact key _ rfl

/-- The decay from row to row within a chunk. -/
theorem decay_within (i : grid0.Coords) (r s : Fin 128) : (k0_pay4 (F := Ideal) i (ix2 r s) : EReal) = dec (head i) (dist r s) := by
  pointwise [k0_pay4]
  rw [log_gamma, dist_float]
  exact exp_mul' _ _ _ rfl

theorem decay_keep (i : grid0.Coords) (r : Fin 128) : (k0_pay6 (F := Ideal) i (ix2 r 0) : EReal) = dec (head i) (127 - r.val) := by
  pointwise [k0_pay6, k0_pay5]
  rw [log_gamma, row_float, word_127, ← EReal.coe_sub]
  exact exp_mul _ _ _ (by have := r.isLt; rw [Nat.cast_sub (by omega)]; norm_num)

theorem decay_read (i : grid0.Coords) (r : Fin 128) : (k0_pay7 (F := Ideal) i (ix2 r 0) : EReal) = dec (head i) (r.val + 1) := by
  pointwise [k0_pay7, k0_pay5]
  rw [log_gamma, row_float, ← EReal.coe_one, ← EReal.coe_add]
  exact exp_mul _ _ _ (by norm_num)

theorem decay_keep_back (i : grid0.Coords) (r : Fin 128) : (k0_pay8 (F := Ideal) i (ix2 r 0) : EReal) = dec (head i) r.val := by
  pointwise [k0_pay8, k0_pay5]
  rw [log_gamma, row_float]
  exact exp_mul _ _ _ rfl

theorem decay_read_back (i : grid0.Coords) (r : Fin 128) : (k0_pay9 (F := Ideal) i (ix2 r 0) : EReal) = dec (head i) (128 - r.val) := by
  pointwise [k0_pay9, k0_pay5]
  rw [log_gamma, row_float, word_128, ← EReal.coe_sub]
  exact exp_mul _ _ _ (by have := r.isLt; rw [Nat.cast_sub (by omega)]; norm_num)

/-- The decay of a state over a chunk. -/
theorem decay_chunk (i : grid0.Coords) : (k0_pay10 (F := Ideal) i : EReal) = dec (head i) 128 := by
  show Ideal.exp ((Ideal.ofBits .f32 0x43000000#32 : EReal) * (k0_pay3 (F := Ideal) i : EReal)) = _
  rw [log_gamma, word_128]
  exact exp_mul _ _ _ (by norm_num)

/-! ## One trip at an index -/

/-- A block's rows, chunk by chunk. -/
def wide (x : FVec Ideal S4224x256 .bf16) (n : ℕ) (r : Fin 128) (d : Fin 256) : EReal := x (ix2 (rowAt n r) d)

/-- A block's rows, chunk by chunk. -/
def narrow (x : FVec Ideal S4224x128 .f32) (n : ℕ) (r : Fin 128) (d : Fin 128) : EReal := x (ix2 (rowAt n r) d)

theorem stFwd_at (i : grid0.Coords) (x1 : FVec Ideal S4224x128 .f32) (x2 : FVec Ideal S4224x256 .bf16) (d : Fin 128) (e : Fin 256) :
    ∀ n : ℕ, (stFwd i x1 x2 n (ix2 d e) : EReal) = before (head i) (narrow x1) (wide x2) n d e
  | 0 => rfl
  | n + 1 => by
    have ih := stFwd_at i x1 x2 d e n
    rw [show stFwd i x1 x2 (n + 1) = nextFwd i (narrowRows x1 n) (wideRows x2 n) (stFwd i x1 x2 n) from rfl]
    pointwise [nextFwd]
    rw [ih, decay_chunk]
    simp only [decay_keep]
    rfl

theorem stBwd_at (i : grid0.Coords) (x1 : FVec Ideal S4224x128 .f32) (x2 : FVec Ideal S4224x256 .bf16) (d : Fin 128) (e : Fin 256) :
    ∀ n : ℕ, (stBwd i x1 x2 n (ix2 d e) : EReal) = behind (head i) (narrow x1) (wide x2) n d e
  | 0 => rfl
  | n + 1 => by
    have ih := stBwd_at i x1 x2 d e n
    rw [show stBwd i x1 x2 (n + 1) = nextBwd i (narrowRows x1 (32 - n)) (wideRows x2 (32 - n)) (stBwd i x1 x2 n) from rfl]
    pointwise [nextBwd]
    rw [ih, decay_chunk]
    simp only [decay_keep_back]
    rfl

/-- What the forward half of a trip adds to a row: the chunk's own part and the earlier chunks'. -/
theorem addFwd_at (i : grid0.Coords) (x0 x1 : FVec Ideal S4224x128 .f32) (x2 : FVec Ideal S4224x256 .bf16) (n : ℕ) (r : Fin 128) (e : Fin 256) :
    (addFwd i (narrowRows x0 n) (narrowRows x1 n) (wideRows x2 n) (stFwd i x1 x2 n) (ix2 r e) : EReal)
      = within (head i) (narrow x0) (narrow x1) (wide x2) n r e + fromBefore (head i) (narrow x0) (narrow x1) (wide x2) n r e := by
  pointwise [addFwd]
  simp only [decay_within, decay_read, stFwd_at]
  rfl

/-- What the backward half of trip `k` adds to a row of chunk `32 - k`. -/
theorem addBwd_at (i : grid0.Coords) (x0 x1 : FVec Ideal S4224x128 .f32) (x2 : FVec Ideal S4224x256 .bf16) (n k : ℕ) (hk : k = 32 - n) (r : Fin 128) (e : Fin 256) :
    (addBwd i (narrowRows x0 n) (stBwd i x1 x2 k) (ix2 r e) : EReal)
      = fromBehind (head i) (narrow x0) (narrow x1) (wide x2) n r e := by
  subst hk
  pointwise [addBwd]
  simp only [decay_read_back, stBwd_at]
  rfl

/-- The result before trip `k`: a row holds the forward half's part once its chunk's trip is over, and the backward
    half's part once the trip that counts from the other end is. -/
theorem acc_at (i : grid0.Coords) (x0 x1 : FVec Ideal S4224x128 .f32) (x2 : FVec Ideal S4224x256 .bf16) (n : ℕ) (hn : n < 33) (r : Fin 128) (e : Fin 256) :
    ∀ k : ℕ, k ≤ 33 → (acc i x0 x1 x2 k (ix2 (rowAt n r) e) : EReal)
      = (if n < k then within (head i) (narrow x0) (narrow x1) (wide x2) n r e + fromBefore (head i) (narrow x0) (narrow x1) (wide x2) n r e else 0)
        + (if 32 - n < k then fromBehind (head i) (narrow x0) (narrow x1) (wide x2) n r e else 0)
  | 0, _ => by
    rw [if_neg (Nat.not_lt_zero _), if_neg (Nat.not_lt_zero _)]
    show (0 : EReal) = 0 + 0
    rw [add_zero]
  | k + 1, hk => by
    have ih := acc_at i x0 x1 x2 n hn r e k (by omega)
    have hdiv : (rowAt n r).val / 128 = n := by rw [rowAt_val hn]; have := r.isLt; omega
    have hmod : (⟨(rowAt n r).val % 128, Nat.mod_lt _ (by norm_num)⟩ : Fin 128) = r :=
      Fin.ext (by show (rowAt n r).val % 128 = r.val; rw [rowAt_val hn]; have := r.isLt; omega)
    have step : ∀ (k' : ℕ) (u : FVec Ideal S128x256 .f32) (f : FVec Ideal S4224x256 .f32),
        (addRows k' u f (ix2 (rowAt n r) e) : EReal) = f (ix2 (rowAt n r) e) + (if n = k' then u (ix2 r e) else 0) := by
      intro k' u f
      show (if (rowAt n r).val / 128 = k' then f (ix2 (rowAt n r) e) + u (ix2 (⟨(rowAt n r).val % 128, _⟩ : Fin 128) e) else f (ix2 (rowAt n r) e)) = _
      rw [hdiv, hmod]
      split
      · rfl
      · rw [add_zero]
    rw [show acc i x0 x1 x2 (k + 1) = addRows (32 - k) (addBwd i (narrowRows x0 (32 - k)) (stBwd i x1 x2 k))
      (addRows k (addFwd i (narrowRows x0 k) (narrowRows x1 k) (wideRows x2 k) (stFwd i x1 x2 k)) (acc i x0 x1 x2 k)) from rfl]
    rw [step, step, ih]
    by_cases h1 : n = k
    · subst h1
      rw [if_neg (lt_irrefl _), if_pos rfl, if_pos (Nat.lt_succ_self _), addFwd_at, zero_add]
      by_cases h2 : n = 32 - n
      · rw [if_pos h2, if_neg (by omega), if_pos (by omega), zero_add]
        congr 1
        rw [← h2]
        exact addBwd_at i x0 x1 x2 n n h2 r e
      · rw [if_neg h2, add_zero, add_comm]
        congr 1
        exact if_congr (by omega) rfl rfl
    · rw [if_neg h1, add_zero, if_congr (show n < k + 1 ↔ n < k by omega) rfl rfl, add_assoc]
      congr 1
      by_cases h2 : n = 32 - k
      · rw [if_neg (by omega), if_pos h2, if_pos (by omega), zero_add]
        have hk' : k = 32 - n := by omega
        rw [← h2]
        exact addBwd_at i x0 x1 x2 n k hk' r e
      · rw [if_neg h2, add_zero]
        exact if_congr (by omega) rfl rfl

/-- THE RESULT OF ONE GRID POINT at a row and a column: the retention of its head. -/
theorem point_at (i : grid0.Coords) (x0 x1 : FVec Ideal S4224x128 .f32) (x2 : FVec Ideal S4224x256 .bf16) (n : ℕ) (hn : n < 33) (r : Fin 128) (e : Fin 256) :
    (acc i x0 x1 x2 33 (ix2 (rowAt n r) e) : EReal) = retention (head i) (narrow x0) (narrow x1) (wide x2) n r e := by
  rw [acc_at i x0 x1 x2 n hn r e 33 le_rfl, if_pos hn, if_pos (by omega)]
  rfl

end Cert.KernelYIdeal.Trip

end
-- ==== Proof.KernelYArray.lean ====
/-
  The array of the retention after the run of the kernel: what each grid point writes back, and where.
-/
module

public import proofs.«01_k».proof.Proof.KernelYValue
public import proofs.«01_k».proof.Proof.Gen.KernelYIdeal.Value
public import Idealize.ShloMosaic.Lib.Pipeline.ValueKit

@[expose] public section

noncomputable section

namespace Cert.KernelYIdeal.Trip

open Cert.Retention
open Cert.KernelYIdeal Cert.KernelYIdeal.Gen Idealize.ShloMosaic Idealize.ShloMosaic.TcCoe Idealize.SL.Sem

/-- A load of a whole buffer reads its contents. -/
theorem whole_read {sig' : RefSig} {κ' : Kind} {sp : Space} (v : View sig' κ' sp S4224x256 .f32) (L : List (View.Piece (Elt Ideal) S4224x256 .f32)) :
    v.readCov L (Rect.unit (s := S4224x256) ![0, 0] ![4224, 256] inb_S4224x256_S4224x256_0_0).toLoadRect = View.canon L :=
  (View.readCov_eq_canon' v L _).trans (View.ld_unit_zero (S := S4224x256) (off := ![0, 0]) (by decide) inb_S4224x256_S4224x256_0_0 (View.canon L))

/-- What a grid point stores is the result after its last trip. -/
theorem out_acc (c : Dev nD) (i : grid0.Coords) (arg1 : Memref sig .tc .vmem S4224x128 .f32) (harg1 : arg1.IsWhole) (arg2 : Memref sig .tc .vmem S4224x128 .f32) (harg2 : arg2.IsWhole) (arg3 : Memref sig .tc .vmem S4224x256 .bf16) (harg3 : arg3.IsWhole) (arg4 : Memref sig .tc .vmem S4224x256 .f32) (harg4 : arg4.IsWhole) (arg5 : Memref sig .tc .vmem S4224x256 .f32) (harg5 : arg5.IsWhole) (arg6 : Memref sig .tc .vmem S128x256 .f32) (harg6 : arg6.IsWhole) (arg7 : Memref sig .tc .vmem S128x256 .f32) (harg7 : arg7.IsWhole)
    (x0 x1 : FVec Ideal S4224x128 .f32) (x2 : FVec Ideal S4224x256 .bf16) :
    out0_A_3 (F := Ideal) c i arg1 harg1 arg2 harg2 arg3 harg3 arg4 harg4 arg5 harg5 arg6 harg6 arg7 harg7 x0 x1 x2 = acc i x0 x1 x2 33 := by
  rw [← acc_33 c i arg1 harg1 arg2 harg2 arg3 harg3 arg5 arg6 arg7 x0 x1 x2]
  unfold out0_A_3 kernelRun0_A
  rw [View.read_writes_junk_eq_canon]
  refine (View.canon_cons_unit_zero (S := S4224x256) (off := ![0, 0]) (by decide) inb_S4224x256_S4224x256_0_0 (kernelRun0_A.sl.v2424 (F := Ideal) c i arg1 harg1 arg2 harg2 arg3 harg3 arg5 arg6 arg7 x0 x1 x2) []).trans ?_
  unfold kernelRun0_A.sl.v2424
  exact whole_read arg5.view _

variable (m : (ℓ : Loc nD τ sig) → Buf (Elt Ideal) ℓ)

/-- Where each window's block stands: all rows, and the head's columns. -/
theorem idx : ∀ t : Fin cfg0.N, win0_0.index t = ![0, (grid0.coords t 0).val] ∧ win0_1.index t = ![0, (grid0.coords t 0).val]
    ∧ win0_2.index t = ![0, (grid0.coords t 0).val + 4] ∧ win0_3.index t = ![0, (grid0.coords t 0).val] :=
  (by decide +kernel : ∀ t : Fin grid0.N, win0_0.index t = ![0, (grid0.coords t 0).val] ∧ win0_1.index t = ![0, (grid0.coords t 0).val]
    ∧ win0_2.index t = ![0, (grid0.coords t 0).val + 4] ∧ win0_3.index t = ![0, (grid0.coords t 0).val])

/-- The retention at a head, a chunk, a row and a column, of the launch's arrays. -/
def result (c : Dev nD) (h : Fin 4) (n : ℕ) (r : Fin 128) (e : Fin 256) : EReal :=
  retention h
    (fun n r d => m ((c : Thread nD τ).loc main_arg0) (ix2 (rowAt n r) (col h d)))
    (fun n r d => m ((c : Thread nD τ).loc main_arg1) (ix2 (rowAt n r) (col h d)))
    (fun n r e => m ((c : Thread nD τ).loc main_arg2) (ix2 (rowAt n r) (colp h e))) n r e

/-- The whole array of the retention. -/
def results (c : Dev nD) : FVec Ideal S4224x1024 .f32 := fun y =>
  result m c ⟨(y 1).val / 256, by have : (y 1).val < 1024 := (y 1).isLt; omega⟩ ((y 0).val / 128)
    ⟨(y 0).val % 128, Nat.mod_lt _ (by norm_num)⟩ ⟨(y 1).val % 256, Nat.mod_lt _ (by norm_num)⟩

/-- The blocks that a grid point reads are its head's columns of the launch's arrays. -/
theorem read_0 (c : Dev nD) (t : Fin cfg0.N) : narrow (iblk m c 0 t) = fun n r d => m ((c : Thread nD τ).loc main_arg0) (ix2 (rowAt n r) (col (head (grid0.coords t)) d)) := by
  funext n r d
  unfold narrow col head
  blk_ext [iblk, V, (idx t).1]

theorem read_1 (c : Dev nD) (t : Fin cfg0.N) : narrow (iblk m c 1 t) = fun n r d => m ((c : Thread nD τ).loc main_arg1) (ix2 (rowAt n r) (col (head (grid0.coords t)) d)) := by
  funext n r d
  unfold narrow col head
  blk_ext [iblk, V, (idx t).2.1]

theorem read_2 (c : Dev nD) (t : Fin cfg0.N) : wide (iblk m c 2 t) = fun n r e => m ((c : Thread nD τ).loc main_arg2) (ix2 (rowAt n r) (colp (head (grid0.coords t)) e)) := by
  funext n r e
  unfold wide colp head
  blk_ext [iblk, V, (idx t).2.2.1]

/-- What a grid point writes back, at a row and a column of its block. -/
theorem written (c : Dev nD) (t : Fin cfg0.N) (n : ℕ) (hn : n < 33) (r : Fin 128) (e : Fin 256) :
    (outsAt0 m c t (ix2 (rowAt n r) e) : EReal) = result m c (head (grid0.coords t)) n r e := by
  unfold outsAt0
  rw [out_acc, point_at _ _ _ _ _ hn, read_0, read_1, read_2]
  rfl

/-- The same at any index of the block, and at its place in the array. -/
theorem written_block (c : Dev nD) (t : Fin cfg0.N) (y : S4224x256.Idx) :
    (outsAt0 m c t y : EReal) = results m c ((win0_3.blk t).view.emb y) := by
  obtain ⟨n, r, hr⟩ := row_cases (y 0)
  have hy : y = ix2 (rowAt n.val r) (y 1) := by rw [← hr]; exact eq_ix2 y
  have h0 : (((win0_3.blk t).view.emb y) 0 : ℕ) = 128 * n.val + r.val := by
    rw [← rowAt_val n.isLt, ← hr]
    blk_simp [(idx t).2.2.2]
  have h1 : (((win0_3.blk t).view.emb y) 1 : ℕ) = 256 * (head (grid0.coords t)).val + (y 1).val := by
    unfold head
    blk_simp [(idx t).2.2.2]
    omega
  have e0 : (y 1).val < 256 := (y 1).isLt
  refine (congrArg (outsAt0 m c t) hy).trans ((written m c t n.val n.isLt r (y 1)).trans ?_)
  show result m c _ _ _ _ = result m c _ _ _ _
  congr 1
  · apply Fin.ext; show _ = (((win0_3.blk t).view.emb y) 1 : ℕ) / 256; rw [h1]; omega
  · show _ = (((win0_3.blk t).view.emb y) 0 : ℕ) / 128; rw [h0]; have := r.isLt; omega
  · apply Fin.ext; show _ = (((win0_3.blk t).view.emb y) 0 : ℕ) % 128; rw [h0]; have := r.isLt; omega
  · apply Fin.ext; show _ = (((win0_3.blk t).view.emb y) 1 : ℕ) % 256; rw [h1]; omega

/-- THE KERNEL'S RESULT: the array after the run is the retention, index by index. -/
theorem final (c : Dev nD) : (dats m 0 c).arrAt 3 cfg0.N = results m c := by
  refine (dats m 0 c).arrAt_eq_of_covers 3 (results m c) (by decide +kernel) fun t hf y => ?_
  blk_simp
  rw [after0_3]
  exact written_block m c t y

/-- The result at a row and a column. -/
theorem results_at (c : Dev nD) (n : ℕ) (hn : n < 33) (r : Fin 128) (h : Fin 4) (e : Fin 256) :
    (results m c (ix2 (rowAt n r) (colv h e)) : EReal) = result m c h n r e := by
  have e0 : ((ix2 (rowAt n r) (colv h e) : S4224x1024.Idx) 0).val = 128 * n + r.val := rowAt_val hn r
  have e1 : ((ix2 (rowAt n r) (colv h e) : S4224x1024.Idx) 1).val = 256 * h.val + e.val := rfl
  have := r.isLt; have := e.isLt
  unfold results
  congr 1
  · exact Fin.ext (by show _ / 256 = _; omega)
  · omega
  · exact Fin.ext (by show _ % 128 = _; omega)
  · exact Fin.ext (by show _ % 256 = _; omega)

end Cert.KernelYIdeal.Trip

end
-- ==== Proof.ReferenceYRead.lean ====
/-
  The reference's retention, read off its program: the arrays at its loop's entry, the loop over the chunks as a scan, and
  the result as the retention's sums. The loop is that of the gradient in q, whose step is used here.
-/
module

public import proofs.«01_k».proof.Proof.ReferenceDqRead
public import proofs.«01_k».proof.Proof.Gen.ReferenceYIdeal.Run

@[expose] public section

noncomputable section

namespace Cert.ReferenceYIdeal.Read

open Cert.Retention
open Cert.ReferenceDqIdeal.Read (starts starts_eq nextState nextStates nextState_at nextStates_at)
open Cert.ReferenceYIdeal Cert.ReferenceYIdeal.Value Idealize.ShloMosaic Idealize.ShloMosaic.TcCoe Idealize.SL.Sem Idealize.ShloMosaic.StableHlo

variable (X : Valuation τ sig (Elt Ideal)) (m : (ℓ : Loc nD τ sig) → Buf (Elt Ideal) ℓ)

set_option maxRecDepth 16384
set_option maxHeartbeats 4000000

/-- The states that the chunks add, the decays, the state carried, and the states before the chunks. -/
abbrev added (V : Valuation τ sig (Elt Ideal)) : S33x2x4x128x256.Idx → EReal := V (Proc.devRef .tc main_v76_0)
abbrev decays (V : Valuation τ sig (Elt Ideal)) : S33x2x4x1x1.Idx → EReal := V (Proc.devRef .tc main_v76_1)
abbrev carried (V : Valuation τ sig (Elt Ideal)) : S2x4x128x256.Idx → EReal := V (Proc.devRef .tc main_v76_3)
abbrev states (V : Valuation τ sig (Elt Ideal)) : S33x2x4x128x256.Idx → EReal := V (Proc.devRef .tc main_v76_4)

theorem carry_step (V : Valuation τ sig (Elt Ideal)) : step_main_v76_3 V = nextState (added V) (decays V) (carried V) (starts (V (Proc.devRef .tc main_v76_2))) := by
  unfold step_main_v76_3 nextState
  rfl

theorem states_step (V : Valuation τ sig (Elt Ideal)) : step_main_v76_4 V = nextStates (states V) (carried V) (starts (V (Proc.devRef .tc main_v76_2))) := by
  unfold step_main_v76_4 nextStates
  rfl

/-! ## The arrays at the loop's entry -/

/-- The chunks' rows of the three inputs. -/
abbrev asks (V : Valuation τ sig (Elt Ideal)) (n : ℕ) (s : Fin 128) (h : Fin 4) (d : Fin 128) : EReal :=
  (V (Proc.devRef .tc main_arg0) : S4224x512.Idx → EReal) (ix2 (rowAt n s) (col h d))
abbrev keys (V : Valuation τ sig (Elt Ideal)) (n : ℕ) (s : Fin 128) (h : Fin 4) (d : Fin 128) : EReal :=
  (V (Proc.devRef .tc main_arg1) : S4224x512.Idx → EReal) (ix2 (rowAt n s) (col h d))
abbrev vals (V : Valuation τ sig (Elt Ideal)) (n : ℕ) (s : Fin 128) (h : Fin 4) (e : Fin 256) : EReal :=
  (V (Proc.devRef .tc main_arg2) : S4224x8192.Idx → EReal) (ix2 (rowAt n s) (colp h e))

/-- The entry's contents. -/
abbrev entry : Valuation τ sig (Elt Ideal) := afterL preI X

theorem decays_entry (n : Fin 33) (z : Fin 2) (h : Fin 4) : decays (entry X) (ix5 n z h (0 : Fin 1) (0 : Fin 1)) = dec h 128 := by
  unfold decays entry
  simp only [preI, afterL_cons, afterL_nil]
  after_reads_at
  simp only [id_eq]
  pointwise
  rw [gamma, word_128]
  exact exp_mul _ _ _ (by norm_num)

theorem added_before (n : Fin 33) (h : Fin 4) (d : Fin 128) (e : Fin 256) :
    added (entry X) (ix5 n (0 : Fin 2) h d e) = ∑ s, keys X n.val s h d * dec h (127 - s.val) * vals X n.val s h e := by
  unfold added entry
  simp only [preI, afterL_cons, afterL_nil]
  after_reads_at
  simp only [id_eq]
  pointwise
  after_reads_at
  pointwise [List.mem_singleton, row_mk, col_mk, colp_mk, row_rev, Fin.eta]
  refine Finset.sum_congr rfl fun s _ => congrArg (· * vals X n.val s h e) (congrArg (keys X n.val s h d * ·) ?_)
  exact keep_word h s

theorem added_behind (n : Fin 33) (h : Fin 4) (d : Fin 128) (e : Fin 256) :
    added (entry X) (ix5 n (1 : Fin 2) h d e) = ∑ s, keys X (32 - n.val) s h d * dec h s.val * vals X (32 - n.val) s h e := by
  unfold added entry
  simp only [preI, afterL_cons, afterL_nil]
  after_reads_at
  simp only [id_eq]
  pointwise
  after_reads_at
  pointwise [List.mem_singleton, row_mk, col_mk, colp_mk, row_rev, Fin.eta]
  have hn : n.rev.val = 32 - n.val := by rw [Fin.val_rev]; omega
  refine Eq.trans ?_ (Equiv.sum_comp Fin.revPerm _)
  rw [← hn]
  refine Finset.sum_congr rfl fun s _ => congrArg (· * vals X n.rev.val s.rev h e) (congrArg (keys X n.rev.val s.rev h d * ·) ?_)
  exact (keep_word h s).trans (congrArg (dec h) (by show 127 - s.val = s.rev.val; rw [Fin.val_rev]; omega))

theorem carried_entry (z : Fin 2) (h : Fin 4) (d : Fin 128) (e : Fin 256) : carried (entry X) (ix4 z h d e) = 0 := by
  unfold carried entry
  simp only [preI, afterL_cons, afterL_nil]
  after_reads_at
  simp only [id_eq]
  pointwise

theorem states_entry (n : Fin 33) (z : Fin 2) (h : Fin 4) (d : Fin 128) (e : Fin 256) : states (entry X) (ix5 n z h d e) = 0 := by
  unfold states entry
  simp only [preI, afterL_cons, afterL_nil]
  after_reads_at
  simp only [id_eq]
  pointwise

/-- What the result reads besides the states: the rows of q in both directions, their decays, and the part within a chunk. -/
abbrev asked (V : Valuation τ sig (Elt Ideal)) : S2x33x128x4x128.Idx → EReal := V (Proc.devRef .tc main_v37)
abbrev readDecay (V : Valuation τ sig (Elt Ideal)) : S128x4.Idx → EReal := V (Proc.devRef .tc main_v60)
abbrev inner (V : Valuation τ sig (Elt Ideal)) : S1x33x128x4x256.Idx → EReal := V (Proc.devRef .tc main_v34)

theorem asked_before (n : Fin 33) (r : Fin 128) (h : Fin 4) (d : Fin 128) : asked (entry X) (ix5 (0 : Fin 2) n r h d) = asks X n.val r h d := by
  unfold asked entry
  simp only [preI, afterL_cons, afterL_nil]
  after_reads_at
  pointwise
  after_reads_at
  pointwise [List.mem_singleton, row_mk, col_mk, row_rev, Fin.eta]

theorem asked_behind (n : Fin 33) (r : Fin 128) (h : Fin 4) (d : Fin 128) : asked (entry X) (ix5 (1 : Fin 2) n r h d) = asks X n.rev.val r.rev h d := by
  unfold asked entry
  simp only [preI, afterL_cons, afterL_nil]
  after_reads_at
  pointwise
  after_reads_at
  pointwise [List.mem_singleton, row_mk, col_mk, row_rev, Fin.eta]

theorem readDecay_entry (h : Fin 4) (r : Fin 128) : readDecay (entry X) (ix2 r h) = dec h (r.val + 1) := by
  unfold readDecay entry
  simp only [preI, afterL_cons, afterL_nil]
  after_reads_at
  rw [gamma, row_float, ← EReal.coe_one, ← EReal.coe_add]
  exact exp_mul _ _ _ (by norm_num)

theorem inner_entry (n : Fin 33) (r : Fin 128) (h : Fin 4) (e : Fin 256) :
    inner (entry X) (ix5 (0 : Fin 1) n r h e) = ∑ s, vals X n.val s h e * ((∑ d, asks X n.val r h d * keys X n.val s h d) * dec h (dist r s)) := by
  unfold inner entry
  simp only [preI, afterL_cons, afterL_nil]
  after_reads_at
  simp only [row_mk, col_mk, colp_mk]
  refine Finset.sum_congr rfl fun s _ => congrArg (vals X n.val s h e * ·) (congrArg (_ * ·) ?_)
  rw [gamma]
  refine (congrArg (fun x : EReal => Ideal.exp (((lg h : ℝ) : EReal) * x)) (dist_floats r s)).trans ?_
  exact exp_mul' _ _ _ rfl

/-! ## The result, from the arrays after the loop -/

theorem post (n : Fin 33) (r : Fin 128) (h : Fin 4) (e : Fin 256) :
    (afterL postI X (Proc.devRef .tc main_v90) (ix2 (rowAt n.val r) (colv h e)) : EReal)
      = inner X (ix5 (0 : Fin 1) n r h e)
        + (∑ d, states X (ix5 n (0 : Fin 2) h d e) * (asked X (ix5 (0 : Fin 2) n r h d) * readDecay X (ix2 r h)))
        + ∑ d, states X (ix5 n.rev (1 : Fin 2) h d e) * (asked X (ix5 (1 : Fin 2) n.rev r.rev h d) * readDecay X (ix2 r.rev h)) := by
  simp only [postI, afterL_cons, afterL_nil]
  after_reads_at
  pointwise [List.mem_singleton, row_rev, row_mk, row_div, row_mod, colv_mk, colv_div, colv_mod, Fin.rev_rev, Fin.eta, false_and, row_lt]

/-! ## The loop -/

/-- A trip of the loop leaves what it does not write. -/
theorem trip_asked : asked (afterL bodyI (after condOps X)) = asked X := by
  unfold asked
  simp only [bodyI, afterL_cons, afterL_nil]
  after_reads_simp

theorem trip_inner : inner (afterL bodyI (after condOps X)) = inner X := by
  unfold inner
  simp only [bodyI, afterL_cons, afterL_nil]
  after_reads_simp

theorem trip_readDecay : readDecay (afterL bodyI (after condOps X)) = readDecay X := by
  unfold readDecay
  simp only [bodyI, afterL_cons, afterL_nil]
  after_reads_simp

/-- The loop's test leaves everything the result reads. -/
theorem test_keeps (j : Ref sig .tc) (hj : j ∈ [main_v76_4, main_v37, main_v34, main_v60]) :
    after condOps X (Proc.devRef .tc j) = X (Proc.devRef .tc j) := by
  refine after_of_forall_not_mem condOps X fun op hop => ?_
  fin_cases hop <;> fin_cases hj <;> exact fun h => devRef_ne_of_ne (by decide) (Finset.mem_singleton.mp h)

/-- Before each trip, and after the last, what the trips do not write is as at the entry. -/
theorem kept (c : Dev nD) : ∀ k : ℕ,
    asked (atK m k c) = asked (entryContents preI m c) ∧ inner (atK m k c) = inner (entryContents preI m c) ∧ readDecay (atK m k c) = readDecay (entryContents preI m c)
      ∧ added (atK m k c) = added (entryContents preI m c) ∧ decays (atK m k c) = decays (entryContents preI m c)
  | 0 => ⟨rfl, rfl, rfl, rfl, rfl⟩
  | k + 1 => by
    obtain ⟨h1, h2, h3, h4, h5⟩ := kept c k
    exact ⟨(trip_asked _).trans h1, (trip_inner _).trans h2, (trip_readDecay _).trans h3,
      ((trip_agree (atK m k c) main_v76_0 (by decide)).trans (STEP_main_v76_0 _)).trans h4,
      ((trip_agree (atK m k c) main_v76_1 (by decide)).trans (STEP_main_v76_1 _)).trans h5⟩

/-- What the entry's arrays give as the terms of the scan. -/
abbrev term (c : Dev nD) (z : Fin 2) (h : Fin 4) (d : Fin 128) (e : Fin 256) (n : ℕ) : EReal :=
  if hn : n < 33 then added (entryContents preI m c) (ix5 (⟨n, hn⟩ : Fin 33) z h d e) else 0

/-- The loop is the scan: the state carried, and the states written so far. -/
theorem loop (c : Dev nD) (z : Fin 2) (h : Fin 4) (d : Fin 128) (e : Fin 256) : ∀ k : ℕ, k ≤ 33 →
    carried (atK m k c) (ix4 z h d e) = scan (fun _ => dec h 128) (term m c z h d e) k
      ∧ ∀ n : Fin 33, states (atK m k c) (ix5 n z h d e) = if n.val < k then scan (fun _ => dec h 128) (term m c z h d e) n.val else 0
  | 0, _ => ⟨carried_entry (X := _) z h d e, fun n => states_entry (X := _) n z h d e⟩
  | k + 1, hk => by
    have hk' : k < 33 := by omega
    obtain ⟨ih1, ih2⟩ := loop c z h d e k (by omega)
    obtain ⟨-, -, -, hA, hD⟩ := kept m c k
    have hw : starts (atK m k c (Proc.devRef .tc main_v76_2)) = ![(k : ℤ), 0, 0, 0, 0] := by
      rw [← starts_eq k hk']
      exact congrArg starts (atK_ctr m c k)
    constructor
    · have e1 : carried (atK m (k + 1) c) = nextState (added (atK m k c)) (decays (atK m k c)) (carried (atK m k c)) (starts (atK m k c (Proc.devRef .tc main_v76_2))) :=
        ((trip_agree (atK m k c) main_v76_3 (by decide)).trans (STEP_main_v76_3 _)).trans (carry_step _)
      rw [e1, hw, nextState_at _ _ _ k hk', ih1, hA, hD]
      refine congrArg₂ (· + ·) (congrArg (_ * ·) (decays_entry (X := _) _ z h)) ?_
      show _ = dite _ _ _
      rw [dif_pos hk']
    · intro n
      have e1 : states (atK m (k + 1) c) = nextStates (states (atK m k c)) (carried (atK m k c)) (starts (atK m k c (Proc.devRef .tc main_v76_2))) :=
        ((trip_agree (atK m k c) main_v76_4 (by decide)).trans (STEP_main_v76_4 _)).trans (states_step _)
      rw [e1, hw, nextStates_at _ _ k hk', ih1, ih2]
      split_ifs <;> first | rfl | (exfalso; omega) | (congr 1; omega) | (simp_all; done)

/-! ## The result -/

/-- What the reference computes is the retention of the launch's arrays. -/
theorem total (c : Dev nD) (n : Fin 33) (r : Fin 128) (h : Fin 4) (e : Fin 256) :
    (finalContents condOps preI bodyI postI 33 m c (Proc.devRef .tc main_v90) (ix2 (rowAt n.val r) (colv h e)) : EReal)
      = retention h (fun n r d => asks (launchContents m c) n r h d) (fun n r d => keys (launchContents m c) n r h d) (fun n r e => vals (launchContents m c) n r h e) n.val r e := by
  obtain ⟨k1, k2, k3, -, -⟩ := kept m c 33
  have t : ∀ j ∈ [main_v76_4, main_v37, main_v34, main_v60], after condOps (atK m 33 c) (Proc.devRef .tc j) = atK m 33 c (Proc.devRef .tc j) := test_keeps _
  have s : ∀ (a : Fin 33) (z : Fin 2) (d : Fin 128), states (after condOps (atK m 33 c)) (ix5 a z h d e) = scan (fun _ => dec h 128) (term m c z h d e) a.val := fun a z d =>
    (congrFun (t main_v76_4 (by decide)) _).trans (((loop m c z h d e 33 le_rfl).2 a).trans (if_pos a.isLt))
  have b : ∀ r, readDecay (after condOps (atK m 33 c)) (ix2 r h) = dec h (r.val + 1) := fun r =>
    (congrFun ((t main_v60 (by decide)).trans k3) _).trans (readDecay_entry _ h r)
  have q0 : ∀ d, asked (after condOps (atK m 33 c)) (ix5 (0 : Fin 2) n r h d) = asks (launchContents m c) n.val r h d := fun d =>
    (congrFun ((t main_v37 (by decide)).trans k1) _).trans (asked_before _ n r h d)
  have q1 : ∀ d, asked (after condOps (atK m 33 c)) (ix5 (1 : Fin 2) n.rev r.rev h d) = asks (launchContents m c) n.val r h d := fun d =>
    (congrFun ((t main_v37 (by decide)).trans k1) _).trans ((asked_behind _ n.rev r.rev h d).trans (by rw [Fin.rev_rev, Fin.rev_rev]))
  have w : inner (after condOps (atK m 33 c)) (ix5 (0 : Fin 1) n r h e) = _ :=
    (congrFun ((t main_v34 (by decide)).trans k2) _).trans (inner_entry _ n r h e)
  have hn := n.isLt
  have sb : ∀ d, scan (fun _ => dec h 128) (term m c 0 h d e) n.val = before h (fun n r d => keys (launchContents m c) n r h d) (fun n r e => vals (launchContents m c) n r h e) n.val d e := by
    intro d
    unfold before
    rw [state_scan]
    refine scan_congr _ (fun _ _ => rfl) fun a ha => ?_
    show dite _ _ _ = _
    rw [dif_pos (by omega)]
    exact added_before _ ⟨a, by omega⟩ h d e
  have sc : ∀ d, scan (fun _ => dec h 128) (term m c 1 h d e) (32 - n.val) = behind h (fun n r d => keys (launchContents m c) n r h d) (fun n r e => vals (launchContents m c) n r h e) (32 - n.val) d e := by
    intro d
    unfold behind
    rw [state_scan]
    refine scan_congr _ (fun _ _ => rfl) fun a ha => ?_
    show dite _ _ _ = _
    rw [dif_pos (by omega)]
    exact added_behind _ ⟨a, by omega⟩ h d e
  refine (post (after condOps (atK m 33 c)) n r h e).trans ?_
  have hr : n.rev.val = 32 - n.val := by rw [Fin.val_rev]; omega
  have hq : r.rev.val + 1 = 128 - r.val := by rw [Fin.val_rev]; have := r.isLt; omega
  rw [w]
  simp only [s, b, q0, q1, sb, hr, sc, hq]
  unfold retention within fromBefore fromBehind
  refine congrArg₂ (· + ·) (congrArg₂ (· + ·) (Finset.sum_congr rfl fun s _ => mul_comm _ _) ?_) ?_
  · exact Finset.sum_congr rfl fun d _ => mul_comm _ _
  · exact Finset.sum_congr rfl fun d _ => mul_comm _ _

/-- The program's arguments. -/
abbrev args : List (Ref sig .tc) := [main_arg0, main_arg1, main_arg2]

theorem pre_args : ∀ j ∈ args, afterL preI X (Proc.devRef .tc j) = X (Proc.devRef .tc j) := by
  simp only [args, List.forall_mem_cons, List.not_mem_nil, false_imp_iff, implies_true, and_true]
  refine ⟨?_, ?_, ?_⟩
  all_goals
    simp only [preI, afterL_cons, afterL_nil]
    after_reads_simp

theorem trip_args : ∀ j ∈ args, afterL bodyI (after condOps X) (Proc.devRef .tc j) = X (Proc.devRef .tc j) := by
  simp only [args, List.forall_mem_cons, List.not_mem_nil, false_imp_iff, implies_true, and_true]
  refine ⟨?_, ?_, ?_⟩
  all_goals
    simp only [bodyI, afterL_cons, afterL_nil]
    after_reads_simp

theorem post_args : ∀ j ∈ args, afterL postI (after condOps X) (Proc.devRef .tc j) = X (Proc.devRef .tc j) := by
  simp only [args, List.forall_mem_cons, List.not_mem_nil, false_imp_iff, implies_true, and_true]
  refine ⟨?_, ?_, ?_⟩
  all_goals
    simp only [postI, afterL_cons, afterL_nil]
    after_reads_simp

/-- The arguments end as they were. -/
theorem args_kept (c : Dev nD) (j : Ref sig .tc) (hj : j ∈ args) :
    finalContents condOps preI bodyI postI 33 m c (Proc.devRef .tc j) = launchContents m c (Proc.devRef .tc j) := by
  have trips : ∀ k, atK m k c (Proc.devRef .tc j) = entryContents preI m c (Proc.devRef .tc j) := by
    intro k
    induction k with
    | zero => rfl
    | succ k ih => exact (trip_args _ j hj).trans ih
  exact (post_args _ j hj).trans ((trips 33).trans (pre_args _ j hj))

end Cert.ReferenceYIdeal.Read

end
-- ==== Proof.ClaimsY.lean ====
/-
  The claims about the retention itself: the runs of the kernel, of its idealization and of the reference, and the equality
  of their results.
-/
module

public import proofs.«01_k».proof.Proof.KernelYArray
public import proofs.«01_k».proof.Proof.ReferenceYRead
public import proofs.«01_k».proof.Proof.Gen.KernelY.Frame
public import proofs.«01_k».proof.Proof.Gen.KernelYIdeal.Frame
public import proofs.«01_k».proof.Defs

@[expose] public section

noncomputable section

namespace Cert.Proof

open Idealize.ShloMosaic Idealize.ShloMosaic.TcCoe Idealize.SL.Sem Cert.Retention

/-- The kernel runs, keeps its arguments and ends with every counter at zero. -/
theorem frame_KernelY : Cert.quiescent_KernelY (hKernelY := Cert.KernelY.Gen.facts) := fun m ρ _ => Cert.KernelY.Gen.frame m ρ

/-- So does its idealization. -/
theorem frame_KernelYIdeal : Cert.quiescent_KernelYIdeal (hKernelYIdeal := Cert.KernelYIdeal.Gen.facts) := fun m ρ _ => Cert.KernelYIdeal.Gen.frame m ρ

/-- So does the reference. -/
theorem frame_ReferenceYIdeal : Cert.quiescent_ReferenceYIdeal (hReferenceYIdeal := Cert.ReferenceYIdeal.Gen.facts) := fun m ρ _ =>
  (θ_run Cert.ReferenceYIdeal.defs _ _).mono (fun r h => ⟨fun c =>
    ⟨(h c _ rfl).trans (Cert.ReferenceYIdeal.Read.args_kept m c _ (by decide)), (h c _ rfl).trans (Cert.ReferenceYIdeal.Read.args_kept m c _ (by decide)),
      (h c _ rfl).trans (Cert.ReferenceYIdeal.Read.args_kept m c _ (by decide))⟩,
    sem_eq_zero_of_no_sems (by decide) r.2⟩) (Cert.ReferenceYIdeal.Value.run_fold m ρ)

/-- The named logarithms are what the kernel's words stand for. -/
theorem preserves_KernelY : Cert.preserves_KernelY_KernelYIdeal :=
  ⟨IdealRules.named_const.statement _ _ _ _ _ rfl, IdealRules.named_const.statement _ _ _ _ _ rfl, IdealRules.named_const.statement _ _ _ _ _ rfl,
    IdealRules.named_const.statement _ _ _ _ _ rfl⟩

/-- From equal arguments the reference's array is the kernel's. -/
theorem equal_Y (m : (ℓ : Loc Cert.KernelYIdeal.nD Cert.KernelYIdeal.τ Cert.KernelYIdeal.sig) → Buf (Elt Ideal) ℓ)
    (m' : (ℓ : Loc Cert.ReferenceYIdeal.nD Cert.ReferenceYIdeal.τ Cert.ReferenceYIdeal.sig) → Buf (Elt Ideal) ℓ) (c : Dev Cert.KernelYIdeal.nD)
    (h0 : m' ((c.tc : Thread Cert.ReferenceYIdeal.nD Cert.ReferenceYIdeal.τ).loc Cert.ReferenceYIdeal.main_arg0) = m ((c.tc : Thread Cert.KernelYIdeal.nD Cert.KernelYIdeal.τ).loc Cert.KernelYIdeal.main_arg0))
    (h1 : m' ((c.tc : Thread Cert.ReferenceYIdeal.nD Cert.ReferenceYIdeal.τ).loc Cert.ReferenceYIdeal.main_arg1) = m ((c.tc : Thread Cert.KernelYIdeal.nD Cert.KernelYIdeal.τ).loc Cert.KernelYIdeal.main_arg1))
    (h2 : m' ((c.tc : Thread Cert.ReferenceYIdeal.nD Cert.ReferenceYIdeal.τ).loc Cert.ReferenceYIdeal.main_arg2) = m ((c.tc : Thread Cert.KernelYIdeal.nD Cert.KernelYIdeal.τ).loc Cert.KernelYIdeal.main_arg2)) :
    StableHlo.finalContents Cert.ReferenceYIdeal.Value.condOps Cert.ReferenceYIdeal.Value.preI Cert.ReferenceYIdeal.Value.bodyI Cert.ReferenceYIdeal.Value.postI 33 m' c
        (Proc.devRef .tc Cert.ReferenceYIdeal.main_v90) = Cert.KernelYIdeal.Trip.results m c := by
  funext y
  obtain ⟨n, r, hr⟩ := row_cases (y 0)
  obtain ⟨h, e, he⟩ := colv_cases (y 1)
  have hy : y = ix2 (rowAt n.val r) (colv h e) := by rw [← hr, ← he]; exact eq_ix2 y
  rw [hy]
  refine (Cert.ReferenceYIdeal.Read.total m' c n r h e).trans (Eq.trans ?_ (Cert.KernelYIdeal.Trip.results_at m c n.val n.isLt r h e).symm)
  have e0 : (fun (n : ℕ) (r : Fin 128) (d : Fin 128) => Cert.ReferenceYIdeal.Read.asks (StableHlo.launchContents m' c) n r h d) = fun n r d => m ((c.tc : Thread Cert.KernelYIdeal.nD Cert.KernelYIdeal.τ).loc Cert.KernelYIdeal.main_arg0) (ix2 (rowAt n r) (col h d)) := by
    funext n r d; exact congrFun h0 _
  have e1 : (fun (n : ℕ) (r : Fin 128) (d : Fin 128) => Cert.ReferenceYIdeal.Read.keys (StableHlo.launchContents m' c) n r h d) = fun n r d => m ((c.tc : Thread Cert.KernelYIdeal.nD Cert.KernelYIdeal.τ).loc Cert.KernelYIdeal.main_arg1) (ix2 (rowAt n r) (col h d)) := by
    funext n r d; exact congrFun h1 _
  have e2 : (fun (n : ℕ) (r : Fin 128) (e : Fin 256) => Cert.ReferenceYIdeal.Read.vals (StableHlo.launchContents m' c) n r h e) = fun n r e => m ((c.tc : Thread Cert.KernelYIdeal.nD Cert.KernelYIdeal.τ).loc Cert.KernelYIdeal.main_arg2) (ix2 (rowAt n r) (colp h e)) := by
    funext n r e; exact congrFun h2 _
  rw [e0, e1, e2]
  rfl

/-- The idealized kernel and the reference end with equal arrays. -/
theorem algebraic_Y : Cert.algebraic_KernelYIdeal_ReferenceYIdeal (hKernelYIdeal := Cert.KernelYIdeal.Gen.facts) (hReferenceYIdeal := Cert.ReferenceYIdeal.Gen.facts) :=
  fun m g m' g' _ hargs => ⟨fun c => Cert.KernelYIdeal.Trip.results m c,
    (θ_run Cert.KernelYIdeal.defs _ _).mono (fun r h c => ⟨(h c).1.trans (Cert.KernelYIdeal.Trip.final m c), (h c).2⟩) (Cert.KernelYIdeal.Value.run_blocks m g),
    (θ_run Cert.ReferenceYIdeal.defs _ _).mono (fun r h c =>
      ⟨(h c _ rfl).trans (equal_Y m m' c (hargs c).1 (hargs c).2.1 (hargs c).2.2),
        (h c _ rfl).trans (Cert.ReferenceYIdeal.Read.args_kept m' c _ (by decide)), (h c _ rfl).trans (Cert.ReferenceYIdeal.Read.args_kept m' c _ (by decide)),
        (h c _ rfl).trans (Cert.ReferenceYIdeal.Read.args_kept m' c _ (by decide))⟩)
      (Cert.ReferenceYIdeal.Value.run_fold m' g')⟩

end Cert.Proof

end
-- ==== Proof.Products.lean ====
/-
  Sums of products over a contracted axis: equal factors, and an axis read in blocks of equal length. Loads and stores of
  whole buffers.
-/
module

public import Idealize.ShloMosaic.Lib.Pipeline.ValueKit
public import Idealize.ShloMosaic.Lib.Pointwise

@[expose] public section

noncomputable section

namespace Cert.Products

open Idealize.ShloMosaic

/-- Sums of products are equal when their factors are. -/
theorem sum_of_factors {K : ℕ} {f f' g g' : Fin K → EReal} (hf : ∀ k, f k = f' k) (hg : ∀ k, g k = g' k) :
    (∑ k, f k * g k) = ∑ k, f' k * g' k :=
  Finset.sum_congr rfl fun k _ => by rw [hf k, hg k]

/-- An index of an axis of `J` blocks of length `K`, from the block and the place in it. -/
def atBlock {J K : ℕ} (s : Fin J) (k : Fin K) : Fin (J * K) :=
  ⟨K * s.val + k.val, by have := k.isLt; have := s.isLt; calc K * s.val + k.val < K * s.val + K := by omega
    _ = K * (s.val + 1) := by ring
    _ ≤ K * J := Nat.mul_le_mul_left _ (by omega)
    _ = J * K := Nat.mul_comm _ _⟩

/-- A sum over an axis, block by block. -/
theorem sum_blocks {J K N : ℕ} (hN : J * K = N) (f : Fin N → EReal) : (∑ k, f k) = ∑ s : Fin J, ∑ k : Fin K, f ((atBlock s k).cast hN) := by
  subst hN
  rw [← Fintype.sum_prod_type', ← Equiv.sum_comp finProdFinEquiv]
  exact Finset.sum_congr rfl fun x _ => congrArg f (Fin.ext (by simp [atBlock, finProdFinEquiv, Nat.add_comm]))

/-- Two products of blocks, one after the other along the contracted axis, add to the whole product. -/
theorem sum_of_halves {K N : ℕ} (hN : 2 * K = N) {f : Fin N → EReal} {p q : EReal} (hp : p = ∑ k : Fin K, f ((atBlock (0 : Fin 2) k).cast hN))
    (hq : q = ∑ k : Fin K, f ((atBlock (1 : Fin 2) k).cast hN)) : p + q = ∑ k, f k := by
  rw [sum_blocks hN, Fin.sum_univ_two, hp, hq]

variable {M N K : ℕ}

/-- Every row of `A` with every row of `B`. -/
def byRows (A : (⟨2, ![M, K]⟩ : Shape).Idx → EReal) (B : (⟨2, ![N, K]⟩ : Shape).Idx → EReal) : (⟨2, ![M, N]⟩ : Shape).Idx → EReal :=
  fun y => ∑ k : Fin K, A (ix2 (y 0) k) * B (ix2 (y 1) k)

/-- Every row of `A` with every column of `B`. -/
def byCols (A : (⟨2, ![M, K]⟩ : Shape).Idx → EReal) (B : (⟨2, ![K, N]⟩ : Shape).Idx → EReal) : (⟨2, ![M, N]⟩ : Shape).Idx → EReal :=
  fun y => ∑ k : Fin K, A (ix2 (y 0) k) * B (ix2 k (y 1))

/-- The same with an array added. -/
def byColsPlus (A : (⟨2, ![M, K]⟩ : Shape).Idx → EReal) (B : (⟨2, ![K, N]⟩ : Shape).Idx → EReal) (C : (⟨2, ![M, N]⟩ : Shape).Idx → EReal) : (⟨2, ![M, N]⟩ : Shape).Idx → EReal :=
  fun y => byCols A B y + C y

/-- Every column of `A` with every column of `B`. -/
def colsByCols (A : (⟨2, ![K, M]⟩ : Shape).Idx → EReal) (B : (⟨2, ![K, N]⟩ : Shape).Idx → EReal) : (⟨2, ![M, N]⟩ : Shape).Idx → EReal :=
  fun y => ∑ k : Fin K, A (ix2 k (y 0)) * B (ix2 k (y 1))

/-- Which array of a gradient's product is written first doesn't matter. -/
theorem colsByCols_comm (A : (⟨2, ![K, M]⟩ : Shape).Idx → EReal) (B : (⟨2, ![K, N]⟩ : Shape).Idx → EReal) (y : (⟨2, ![M, N]⟩ : Shape).Idx) :
    (∑ k : Fin K, B (ix2 k (y 1)) * A (ix2 k (y 0))) = colsByCols A B y :=
  Finset.sum_congr rfl fun k _ => mul_comm _ _

section Whole

variable {sig : RefSig} {κ : Kind} {sp : Space} {S : Shape} {e : EltTy} {off : Fin S.rank → ℕ}

/-- A store of a whole buffer leaves what it stores. -/
theorem stored_whole (v : View sig κ sp S e) (h : off = fun _ => 0) (inb : ∀ a, off a + S.size a ≤ S.size a) (w : S.Idx → Elt Ideal e) :
    v.read (Elt Ideal) (v.writes (Elt Ideal) v.junk [(⟨Rect.unit off S.size inb, w⟩ : View.Piece (Elt Ideal) S e)]) = w :=
  (View.read_writes_junk_eq_canon v _).trans (View.canon_cons_unit_zero h inb w [])

/-- A load of a whole buffer after such a store reads it. -/
theorem held_whole (v : View sig κ sp S e) (h : off = fun _ => 0) (inb : ∀ a, off a + S.size a ≤ S.size a) (w : S.Idx → Elt Ideal e) :
    v.readCov [(⟨Rect.unit off S.size inb, w⟩ : View.Piece (Elt Ideal) S e)] (Rect.unit off S.size inb).toLoadRect = w :=
  (View.readCov_eq_canon' v _ _).trans ((View.ld_unit_zero h inb (View.canon _)).trans (View.canon_cons_unit_zero h inb w []))

/-- A load of a whole buffer reads its contents. -/
theorem loaded_whole {mr : Memref sig κ sp S e} (hm : mr.IsWhole) (h : off = fun _ => 0) (inb : ∀ a, off a + S.size a ≤ S.size a) (X : S.Idx → Elt Ideal e) :
    mr.view.readAt (Elt Ideal) (Rect.unit off S.size inb).toLoadRect (hm.unread X) = X :=
  (congrArg (fun f : S.Idx → Elt Ideal e => View.ld f (Rect.unit off S.size inb)) (hm.read_unread X)).trans (View.ld_unit_zero h inb X)

end Whole

end Cert.Products

end
-- ==== Proof.ProductProjMain.lean ====
/-
  The product of the normalized rows with the main input weight: what a grid point of the kernel stores, the kernel's
  array after the run, the reference's array, and the claims.
-/
module

public import proofs.«01_k».proof.Proof.Products
public import proofs.«01_k».proof.Proof.Gen.KernelProjMainIdeal.Value
public import proofs.«01_k».proof.Proof.Gen.KernelProjMain.Frame
public import proofs.«01_k».proof.Proof.Gen.ReferenceProjMainIdeal.Run
public import proofs.«01_k».proof.Defs
public import Idealize.ShloMosaic.Lib.Pipeline.ValueKit
public import Idealize.ShloMosaic.Lib.Pointwise

@[expose] public section

noncomputable section

namespace Cert.KernelProjMainIdeal.Product

open Cert.Products Cert.KernelProjMainIdeal Cert.KernelProjMainIdeal.Gen Idealize.ShloMosaic Idealize.ShloMosaic.TcCoe Idealize.SL.Sem

variable (m : (ℓ : Loc nD τ sig) → Buf (Elt Ideal) ℓ)

/-- Where each window's block stands. -/
theorem idx : ∀ t : Fin cfg0.N, win0_0.index t = ![(grid0.coords t 1).val, 0] ∧ win0_1.index t = ![(grid0.coords t 0).val, 0]
    ∧ win0_2.index t = ![(grid0.coords t 1).val, (grid0.coords t 0).val] :=
  (by decide +kernel : ∀ t : Fin grid0.N, win0_0.index t = ![(grid0.coords t 1).val, 0] ∧ win0_1.index t = ![(grid0.coords t 0).val, 0]
    ∧ win0_2.index t = ![(grid0.coords t 1).val, (grid0.coords t 0).val])

/-- The arrays that the kernel is launched on. -/
abbrev left (c : Dev nD) : S4224x1024.Idx → EReal := m ((c : Thread nD τ).loc main_arg0)
abbrev right (c : Dev nD) : S8192x1024.Idx → EReal := m ((c : Thread nD τ).loc main_arg1)

/-- The whole product. -/
def results (c : Dev nD) : FVec Ideal S4224x8192 .bf16 := byRows (M := 4224) (N := 8192) (K := 1024) (left m c) (right m c)

/-- What a grid point leaves: the product of the blocks that it reads. -/
theorem stored (c : Dev nD) (t : Fin cfg0.N) : (dats m 0 c).after 2 t = k0_pay1 (F := Ideal) (iblk m c 0 t) (iblk m c 1 t) := by
  rw [after0_2]
  unfold outsAt0 out0_A_2 kernelRun0_A
  refine (stored_whole (S := S1056x1024) (e := .bf16) _ (by decide) _ _).trans ?_
  rw [loaded_whole _ (by decide), loaded_whole _ (by decide)]

/-- THE KERNEL'S RESULT: the array after the run is the product, index by index. -/
theorem final (c : Dev nD) : (dats m 0 c).arrAt 2 cfg0.N = results m c := by
  refine (dats m 0 c).arrAt_eq_of_covers 2 (results m c) (by decide +kernel) fun t hf y => ?_
  blk_simp
  rw [stored]
  pointwise [k0_pay1]
  unfold results byRows left right
  refine sum_of_factors (fun k => ?_) (fun k => ?_)
  · blk_ext [iblk, V, (idx t).1, (idx t).2.2]
  · blk_ext [iblk, V, (idx t).2.1, (idx t).2.2]

end Cert.KernelProjMainIdeal.Product

namespace Cert.Proof

open Idealize.ShloMosaic Idealize.ShloMosaic.TcCoe Idealize.SL.Sem

theorem frame_KernelProjMain : Cert.quiescent_KernelProjMain (hKernelProjMain := Cert.KernelProjMain.Gen.facts) := fun m ρ _ => Cert.KernelProjMain.Gen.frame m ρ

theorem frame_KernelProjMainIdeal : Cert.quiescent_KernelProjMainIdeal (hKernelProjMainIdeal := Cert.KernelProjMainIdeal.Gen.facts) := fun m ρ _ => Cert.KernelProjMainIdeal.Gen.frame m ρ

theorem frame_ReferenceProjMainIdeal : Cert.quiescent_ReferenceProjMainIdeal (hReferenceProjMainIdeal := Cert.ReferenceProjMainIdeal.Gen.facts) := fun m ρ _ =>
  (θ_run Cert.ReferenceProjMainIdeal.defs _ _).mono (fun r h => ⟨fun c => (h c).2, sem_eq_zero_of_no_sems (by decide) r.2⟩) (Cert.ReferenceProjMainIdeal.Value.run m ρ)

/-- No operation was replaced. -/
theorem preserves_KernelProjMain : Cert.preserves_KernelProjMain_KernelProjMainIdeal := trivial

/-- The idealized kernel and the reference end with equal products. -/
theorem algebraic_ProjMain : Cert.algebraic_KernelProjMainIdeal_ReferenceProjMainIdeal (hKernelProjMainIdeal := Cert.KernelProjMainIdeal.Gen.facts) (hReferenceProjMainIdeal := Cert.ReferenceProjMainIdeal.Gen.facts) :=
  fun m g m' g' _ hargs => ⟨fun c => Cert.KernelProjMainIdeal.Product.results m c,
    (θ_run Cert.KernelProjMainIdeal.defs _ _).mono (fun r h c => ⟨(h c).1.trans (Cert.KernelProjMainIdeal.Product.final m c), (h c).2⟩) (Cert.KernelProjMainIdeal.Value.run_blocks m g),
    (θ_run Cert.ReferenceProjMainIdeal.defs _ _).mono (fun r h c => ⟨(h c).1.trans (by
      rw [(hargs c).1, (hargs c).2]
      funext y
      unfold Cert.KernelProjMainIdeal.Product.results Cert.Products.byRows Cert.KernelProjMainIdeal.Product.left Cert.KernelProjMainIdeal.Product.right
      pointwise), (h c).2⟩) (Cert.ReferenceProjMainIdeal.Value.run m' g')⟩

end Cert.Proof

end
-- ==== Proof.ProductGInMain.lean ====
/-
  The gradient of the main input weight: what the two grid points of a block leave in the running sum and store, the
  kernel's array after the run, the reference's array, and the claims.
-/
module

public import proofs.«01_k».proof.Proof.Products
public import proofs.«01_k».proof.Proof.Gen.KernelGInMainIdeal.Value
public import proofs.«01_k».proof.Proof.Gen.KernelGInMain.Frame
public import proofs.«01_k».proof.Proof.Gen.ReferenceGInMainIdeal.Run
public import proofs.«01_k».proof.Defs
public import Idealize.ShloMosaic.Lib.Pipeline.ValueKit
public import Idealize.ShloMosaic.Lib.Pointwise

@[expose] public section

noncomputable section

namespace Cert.KernelGInMainIdeal.Product

open Cert.Products Cert.KernelGInMainIdeal Cert.KernelGInMainIdeal.Gen Idealize.ShloMosaic Idealize.ShloMosaic.TcCoe Idealize.SL.Sem

variable (m : (ℓ : Loc nD τ sig) → Buf (Elt Ideal) ℓ)

/-- Where each window's block stands, and the points that write back. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, win0_0.index t = ![t.val % 2, t.val / 2] ∧ win0_1.index t = ![t.val % 2, 0] ∧ win0_2.index t = ![t.val / 2, 0])

theorem last_of_flush : ∀ t : Fin cfg0.N, (cfg0.win 2).flush t = true → t.val % 2 = 1 :=
  (by decide +kernel : ∀ t : Fin grid0.N, (cfg0.win 2).flush t = true → t.val % 2 = 1)

/-- The arrays that the kernel is launched on. -/
abbrev left (c : Dev nD) : S4224x8192.Idx → EReal := m ((c : Thread nD τ).loc main_arg0)
abbrev right (c : Dev nD) : S4224x1024.Idx → EReal := m ((c : Thread nD τ).loc main_arg1)

/-- The whole product. -/
def results (c : Dev nD) : FVec Ideal S8192x1024 .bf16 := colsByCols (M := 8192) (N := 1024) (K := 4224) (left m c) (right m c)

/-- What a block's last point leaves: the products of its two points' blocks, added. -/
theorem stored (c : Dev nD) (t : Fin cfg0.N) (ht : t.val % 2 = 1) (hb : t.val - 1 < cfg0.N) :
    (dats m 0 c).after 2 t = k0_pay4 (F := Ideal) (k0_pay3 (F := Ideal) (iblk m c 0 t) (iblk m c 1 t) (k0_pay2 (F := Ideal) (iblk m c 0 ⟨t.val - 1, hb⟩) (iblk m c 1 ⟨t.val - 1, hb⟩))) := by
  rw [after0_2, outsAt0_B m c t (by omega) ht ht]
  dsimp only
  rw [outsAt0_A m c ⟨t.val - 1, hb⟩ (by dsimp only; omega) (by dsimp only; omega) (by dsimp only; omega)]
  unfold out0_B_2 kernelRun0_B
  refine (stored_whole (S := S1024x1024) (off := ![0, 0]) (e := .bf16) _ (by decide) _ _).trans (congrArg (k0_pay4 (F := Ideal)) ?_)
  unfold kernelRun0_B.sl.v12
  refine (held_whole (S := S1024x1024) (off := ![0, 0]) (e := .f32) _ (by decide) _ _).trans ?_
  rw [loaded_whole _ (by decide), loaded_whole _ (by decide), loaded_whole _ (by decide)]
  refine congrArg (k0_pay3 (F := Ideal) _ _) ?_
  dsimp only
  unfold sout0_A_0 kernelRun0_A
  refine (stored_whole (S := S1024x1024) (off := ![0, 0]) (e := .f32) _ (by decide) _ _).trans ?_
  rw [loaded_whole _ (by decide), loaded_whole _ (by decide)]

/-- A point's product of blocks is its part of the sum. -/
theorem part_at (c : Dev nD) (t : Fin cfg0.N) (s : Fin 2) (hs : t.val % 2 = s.val) (y : S1024x1024.Idx) (z : S8192x1024.Idx)
    (h0 : (z 0).val = 1024 * (t.val / 2) + (y 0).val) (h1 : (z 1).val = (y 1).val) :
    (k0_pay1 (F := Ideal) (iblk m c 0 t) (iblk m c 1 t) y : EReal)
      = ∑ k : Fin 2112, left m c (ix2 ((atBlock s k).cast (by norm_num : 2 * 2112 = 4224)) (z 0)) * right m c (ix2 ((atBlock s k).cast (by norm_num : 2 * 2112 = 4224)) (z 1)) := by
  pointwise [k0_pay1]
  unfold left right
  refine sum_of_factors (fun k => ?_) (fun k => ?_)
  · blk_ext [iblk, V, (idx t).1, hs, atBlock, h0]
  · blk_ext [iblk, V, (idx t).2.1, hs, atBlock, h1]

/-- THE KERNEL'S RESULT: the array after the run is the product, index by index. -/
theorem final (c : Dev nD) : (dats m 0 c).arrAt 2 cfg0.N = results m c := by
  refine (dats m 0 c).arrAt_eq_of_covers 2 (results m c) (by decide +kernel) fun t hf y => ?_
  have ht := last_of_flush t hf
  have hb : t.val - 1 < cfg0.N := Nat.lt_of_le_of_lt (Nat.sub_le _ _) t.isLt
  have h0 : (((win0_2.blk t).view.emb y) 0 : ℕ) = 1024 * (t.val / 2) + (y 0).val := by
    blk_simp [(idx t).2.2]
    omega
  have h1 : (((win0_2.blk t).view.emb y) 1 : ℕ) = (y 1).val := by blk_simp [(idx t).2.2]
  blk_simp
  rw [stored m c t ht hb]
  unfold k0_pay4 k0_pay3 k0_pay2
  simp only [shapeCast_self]
  exact sum_of_halves (by norm_num) (part_at m c ⟨t.val - 1, hb⟩ 0 (by dsimp only; omega) y _ (h0.trans (by dsimp only; omega)) h1) (part_at m c t 1 ht y _ h0 h1)

end Cert.KernelGInMainIdeal.Product

namespace Cert.Proof

open Idealize.ShloMosaic Idealize.ShloMosaic.TcCoe Idealize.SL.Sem

theorem frame_KernelGInMain : Cert.quiescent_KernelGInMain (hKernelGInMain := Cert.KernelGInMain.Gen.facts) := fun m ρ _ => Cert.KernelGInMain.Gen.frame m ρ

theorem frame_KernelGInMainIdeal : Cert.quiescent_KernelGInMainIdeal (hKernelGInMainIdeal := Cert.KernelGInMainIdeal.Gen.facts) := fun m ρ _ => Cert.KernelGInMainIdeal.Gen.frame m ρ

theorem frame_ReferenceGInMainIdeal : Cert.quiescent_ReferenceGInMainIdeal (hReferenceGInMainIdeal := Cert.ReferenceGInMainIdeal.Gen.facts) := fun m ρ _ =>
  (θ_run Cert.ReferenceGInMainIdeal.defs _ _).mono (fun r h => ⟨fun c => (h c).2, sem_eq_zero_of_no_sems (by decide) r.2⟩) (Cert.ReferenceGInMainIdeal.Value.run m ρ)

/-- No operation was replaced. -/
theorem preserves_KernelGInMain : Cert.preserves_KernelGInMain_KernelGInMainIdeal := trivial

/-- The idealized kernel and the reference end with equal gradients. -/
theorem algebraic_GInMain : Cert.algebraic_KernelGInMainIdeal_ReferenceGInMainIdeal (hKernelGInMainIdeal := Cert.KernelGInMainIdeal.Gen.facts) (hReferenceGInMainIdeal := Cert.ReferenceGInMainIdeal.Gen.facts) :=
  fun m g m' g' _ hargs => ⟨fun c => Cert.KernelGInMainIdeal.Product.results m c,
    (θ_run Cert.KernelGInMainIdeal.defs _ _).mono (fun r h c => ⟨(h c).1.trans (Cert.KernelGInMainIdeal.Product.final m c), (h c).2⟩) (Cert.KernelGInMainIdeal.Value.run_blocks m g),
    (θ_run Cert.ReferenceGInMainIdeal.defs _ _).mono (fun r h c => ⟨(h c).1.trans (by
      rw [(hargs c).1, (hargs c).2]
      funext y
      unfold Cert.KernelGInMainIdeal.Product.results Cert.Products.colsByCols Cert.KernelGInMainIdeal.Product.left Cert.KernelGInMainIdeal.Product.right
      pointwise), (h c).2⟩) (Cert.ReferenceGInMainIdeal.Value.run m' g')⟩

end Cert.Proof

end
-- ==== Proof.ProductDUMain.lean ====
/-
  The gradient of the normalized rows through the main input weight: what the four grid points of a block leave in the
  running sum and store, the kernel's array after the run, the reference's array, and the claims.
-/
module

public import proofs.«01_k».proof.Proof.Products
public import proofs.«01_k».proof.Proof.Gen.KernelDUMainIdeal.Value
public import proofs.«01_k».proof.Proof.Gen.KernelDUMain.Frame
public import proofs.«01_k».proof.Proof.Gen.ReferenceDUMainIdeal.Run
public import proofs.«01_k».proof.Defs
public import Idealize.ShloMosaic.Lib.Pipeline.ValueKit
public import Idealize.ShloMosaic.Lib.Pointwise

@[expose] public section

noncomputable section

namespace Cert.KernelDUMainIdeal.Product

open Cert.Products Cert.KernelDUMainIdeal Cert.KernelDUMainIdeal.Gen Idealize.ShloMosaic Idealize.ShloMosaic.TcCoe Idealize.SL.Sem

/-- A load of a whole buffer reads its contents. -/
theorem whole_read {sig' : RefSig} {κ' : Kind} {sp : Space} (v : View sig' κ' sp S1056x1024 .f32) (L : List (View.Piece (Elt Ideal) S1056x1024 .f32)) :
    v.readCov L (Rect.unit (s := S1056x1024) ![0, 0] ![1056, 1024] inb_S1056x1024_S1056x1024_0_0).toLoadRect = View.canon L :=
  (View.readCov_eq_canon' v L _).trans (View.ld_unit_zero (S := S1056x1024) (off := ![0, 0]) (by decide) inb_S1056x1024_S1056x1024_0_0 (View.canon L))

/-- The first point of a block leaves the product of its blocks in the running sum. -/
theorem held_first (c : Dev nD) (i : grid0.Coords) (arg3 : Memref sig .tc .vmem S1056x2048 .bf16) (harg3 : arg3.IsWhole) (arg4 : Memref sig .tc .vmem S2048x1024 .bf16) (harg4 : arg4.IsWhole) (arg5 : Memref sig .tc .vmem S1056x1024 .f32) (harg5 : arg5.IsWhole) (arg6 : Memref sig .tc .vmem S1056x1024 .f32) (harg6 : arg6.IsWhole) (arg7 : Memref sig .tc .vmem S1056x1024 .f32) (harg7 : arg7.IsWhole) (hc0 : cond0_0 i) (hc1 : ¬cond0_1 i) (hc2 : ¬cond0_2 i)
    (x0 : FVec Ideal S1056x2048 .bf16) (x1 : FVec Ideal S2048x1024 .bf16) (x2 : FVec Ideal S1056x1024 .f32) :
    sout0_A_0 (F := Ideal) c i arg3 harg3 arg4 harg4 arg5 harg5 arg6 harg6 arg7 harg7 hc0 hc1 hc2 x0 x1 x2 = k0_pay2 (F := Ideal) x0 x1 := by
  unfold sout0_A_0 kernelRun0_A
  rw [View.read_writes_junk_eq_canon]
  refine (View.canon_cons_unit_zero (Val := Elt Ideal) (e := .f32) (S := S1056x1024) (off := ![0, 0]) (by decide) inb_S1056x1024_S1056x1024_0_0 _ []).trans ?_
  rw [View.readAt_eq_ld, View.readAt_eq_ld, harg3.read_unread, harg4.read_unread, View.ld_unit_zero (S := S1056x2048) (off := ![0, 0]) (by decide) inb_S1056x2048_S1056x2048_0_0,
    View.ld_unit_zero (S := S2048x1024) (off := ![0, 0]) (by decide) inb_S2048x1024_S2048x1024_0_0]

/-- A later point adds the product of its blocks to the running sum. -/
theorem held_later (c : Dev nD) (i : grid0.Coords) (arg3 : Memref sig .tc .vmem S1056x2048 .bf16) (harg3 : arg3.IsWhole) (arg4 : Memref sig .tc .vmem S2048x1024 .bf16) (harg4 : arg4.IsWhole) (arg5 : Memref sig .tc .vmem S1056x1024 .f32) (harg5 : arg5.IsWhole) (arg6 : Memref sig .tc .vmem S1056x1024 .f32) (harg6 : arg6.IsWhole) (arg7 : Memref sig .tc .vmem S1056x1024 .f32) (harg7 : arg7.IsWhole) (hc0 : ¬cond0_0 i) (hc1 : cond0_1 i) (hc2 : ¬cond0_2 i)
    (x0 : FVec Ideal S1056x2048 .bf16) (x1 : FVec Ideal S2048x1024 .bf16) (x2 : FVec Ideal S1056x1024 .f32) (xs : FVec Ideal S1056x1024 .f32) :
    sout0_B_0 (F := Ideal) c i arg3 harg3 arg4 harg4 arg5 harg5 arg6 harg6 arg7 harg7 hc0 hc1 hc2 x0 x1 x2 xs = k0_pay3 (F := Ideal) x0 x1 xs := by
  unfold sout0_B_0 kernelRun0_B
  rw [View.read_writes_junk_eq_canon]
  refine (View.canon_cons_unit_zero (Val := Elt Ideal) (e := .f32) (S := S1056x1024) (off := ![0, 0]) (by decide) inb_S1056x1024_S1056x1024_0_0 _ []).trans ?_
  rw [View.readAt_eq_ld, View.readAt_eq_ld, View.readAt_eq_ld, harg3.read_unread, harg4.read_unread, harg7.read_unread, View.ld_unit_zero (S := S1056x2048) (off := ![0, 0]) (by decide) inb_S1056x2048_S1056x2048_0_0,
    View.ld_unit_zero (S := S2048x1024) (off := ![0, 0]) (by decide) inb_S2048x1024_S2048x1024_0_0, View.ld_unit_zero (S := S1056x1024) (off := ![0, 0]) (by decide) inb_S1056x1024_S1056x1024_0_0]

/-- The last point of a block stores the running sum, its own product and the addend. -/
theorem out_last (c : Dev nD) (i : grid0.Coords) (arg3 : Memref sig .tc .vmem S1056x2048 .bf16) (harg3 : arg3.IsWhole) (arg4 : Memref sig .tc .vmem S2048x1024 .bf16) (harg4 : arg4.IsWhole) (arg5 : Memref sig .tc .vmem S1056x1024 .f32) (harg5 : arg5.IsWhole) (arg6 : Memref sig .tc .vmem S1056x1024 .f32) (harg6 : arg6.IsWhole) (arg7 : Memref sig .tc .vmem S1056x1024 .f32) (harg7 : arg7.IsWhole) (hc0 : ¬cond0_0 i) (hc1 : cond0_1 i) (hc2 : cond0_2 i)
    (x0 : FVec Ideal S1056x2048 .bf16) (x1 : FVec Ideal S2048x1024 .bf16) (x2 : FVec Ideal S1056x1024 .f32) (xs : FVec Ideal S1056x1024 .f32) :
    out0_C_3 (F := Ideal) c i arg3 harg3 arg4 harg4 arg5 harg5 arg6 harg6 arg7 harg7 hc0 hc1 hc2 x0 x1 x2 xs = k0_pay4 (F := Ideal) (k0_pay3 (F := Ideal) x0 x1 xs) x2 := by
  unfold out0_C_3 kernelRun0_C
  rw [View.read_writes_junk_eq_canon]
  refine (View.canon_cons_unit_zero (Val := Elt Ideal) (e := .f32) (S := S1056x1024) (off := ![0, 0]) (by decide) inb_S1056x1024_S1056x1024_0_0 _ []).trans ?_
  unfold kernelRun0_C.sl.v12
  rw [whole_read]
  refine congrArg₂ (k0_pay4 (F := Ideal)) ((View.canon_cons_unit_zero (Val := Elt Ideal) (e := .f32) (S := S1056x1024) (off := ![0, 0]) (by decide) inb_S1056x1024_S1056x1024_0_0 _ []).trans ?_) ?_
  · rw [View.readAt_eq_ld, View.readAt_eq_ld, View.readAt_eq_ld, harg3.read_unread, harg4.read_unread, harg7.read_unread, View.ld_unit_zero (S := S1056x2048) (off := ![0, 0]) (by decide) inb_S1056x2048_S1056x2048_0_0,
    View.ld_unit_zero (S := S2048x1024) (off := ![0, 0]) (by decide) inb_S2048x1024_S2048x1024_0_0, View.ld_unit_zero (S := S1056x1024) (off := ![0, 0]) (by decide) inb_S1056x1024_S1056x1024_0_0]
  · rw [View.readAt_eq_ld, harg5.read_unread, View.ld_unit_zero (S := S1056x1024) (off := ![0, 0]) (by decide) inb_S1056x1024_S1056x1024_0_0]

theorem first_at (x0 : FVec Ideal S1056x2048 .bf16) (x1 : FVec Ideal S2048x1024 .bf16) (y : S1056x1024.Idx) :
    (k0_pay2 (F := Ideal) x0 x1 y : EReal) = k0_pay1 (F := Ideal) x0 x1 y := by
  unfold k0_pay2
  simp only [shapeCast_self]

theorem later_at (x0 : FVec Ideal S1056x2048 .bf16) (x1 : FVec Ideal S2048x1024 .bf16) (xs : FVec Ideal S1056x1024 .f32) (y : S1056x1024.Idx) :
    (k0_pay3 (F := Ideal) x0 x1 xs y : EReal) = xs y + k0_pay1 (F := Ideal) x0 x1 y := by
  unfold k0_pay3
  simp only [shapeCast_self]
  rfl

variable (m : (ℓ : Loc nD τ sig) → Buf (Elt Ideal) ℓ)

/-- Where each window's block stands, and the points that write back. -/
theorem idx : ∀ t : Fin cfg0.N, win0_0.index t = ![t.val / 4, t.val % 4] ∧ win0_1.index t = ![t.val % 4, 0] ∧ win0_2.index t = ![t.val / 4, 0] ∧ win0_3.index t = ![t.val / 4, 0] :=
  (by decide +kernel : ∀ t : Fin grid0.N, win0_0.index t = ![t.val / 4, t.val % 4] ∧ win0_1.index t = ![t.val % 4, 0] ∧ win0_2.index t = ![t.val / 4, 0] ∧ win0_3.index t = ![t.val / 4, 0])

theorem last_of_flush : ∀ t : Fin cfg0.N, (cfg0.win 3).flush t = true → t.val % 4 = 3 :=
  (by decide +kernel : ∀ t : Fin grid0.N, (cfg0.win 3).flush t = true → t.val % 4 = 3)

/-- The arrays that the kernel is launched on. -/
abbrev left (c : Dev nD) : S4224x8192.Idx → EReal := m ((c : Thread nD τ).loc main_arg0)
abbrev right (c : Dev nD) : S8192x1024.Idx → EReal := m ((c : Thread nD τ).loc main_arg1)
abbrev addend (c : Dev nD) : S4224x1024.Idx → EReal := m ((c : Thread nD τ).loc main_arg2)

/-- The whole product, every row of the left array with every column of the right one, and the addend. -/
def results (c : Dev nD) : FVec Ideal S4224x1024 .f32 := fun y =>
  (∑ k : Fin 8192, left m c (ix2 (y 0) k) * right m c (ix2 k (y 1))) + addend m c (ix2 (y 0) (y 1))

/-- The part of an entry's sum that block `s` of the contracted axis adds. -/
def part (c : Dev nD) (s : Fin 4) (z : S4224x1024.Idx) : EReal :=
  ∑ k : Fin 2048, left m c (ix2 (z 0) ((atBlock s k).cast (by norm_num : 4 * 2048 = 8192))) * right m c (ix2 ((atBlock s k).cast (by norm_num : 4 * 2048 = 8192)) (z 1))

/-- The place in the array of an index of the block that a point works on. -/
abbrev stands (t : ℕ) (y : S1056x1024.Idx) (z : S4224x1024.Idx) : Prop := (z 0).val = 1056 * (t / 4) + (y 0).val ∧ (z 1).val = (y 1).val

/-- A point's product of blocks is its part of the sum. -/
theorem part_at (c : Dev nD) (t : Fin cfg0.N) (s : Fin 4) (hs : t.val % 4 = s.val) (y : S1056x1024.Idx) (z : S4224x1024.Idx) (hz : stands t.val y z) :
    (k0_pay1 (F := Ideal) (iblk m c 0 t) (iblk m c 1 t) y : EReal) = part m c s z := by
  pointwise [k0_pay1]
  unfold part left right
  refine sum_of_factors (fun k => ?_) (fun k => ?_)
  · blk_ext [iblk, V, (idx t).1, hs, atBlock, hz.1]
    show _ = 2048 * s.val + k.val
    omega
  · blk_ext [iblk, V, (idx t).2.1, hs, atBlock, hz.2]
    show _ = 2048 * s.val + k.val
    omega

/-- The running sum after the first point of a block, and after a later one. -/
theorem held_0 (c : Dev nD) (t : Fin cfg0.N) (ht : t.val % 4 = 0) (y : S1056x1024.Idx) (z : S4224x1024.Idx) (hz : stands t.val y z) :
    ((outsAt0 m c t.val t.isLt).2 y : EReal) = part m c 0 z := by
  rw [outsAt0_A m c t ht (by omega) (by omega)]
  dsimp only
  rw [held_first]
  exact (first_at _ _ _).trans (part_at m c t 0 ht y z hz)

theorem held_step (c : Dev nD) (t : Fin cfg0.N) (s : Fin 4) (hs : t.val % 4 = s.val) (h0 : 1 ≤ s.val) (h1 : s.val < 3) (y : S1056x1024.Idx) (z : S4224x1024.Idx) (hz : stands t.val y z) :
    ((outsAt0 m c t.val t.isLt).2 y : EReal) = (outsAt0 m c (t.val - 1) (Nat.lt_of_le_of_lt (Nat.sub_le _ _) t.isLt)).2 y + part m c s z := by
  rw [outsAt0_B m c t (by omega) (by omega) (by omega)]
  dsimp only
  rw [held_later]
  refine (later_at _ _ _ _).trans ?_
  rw [part_at m c t s hs y z hz]

/-- The running sum before the last point of a block. -/
theorem held_before_last (c : Dev nD) (t : Fin cfg0.N) (ht : t.val % 4 = 2) (y : S1056x1024.Idx) (z : S4224x1024.Idx) (hz : stands t.val y z) :
    ((outsAt0 m c t.val t.isLt).2 y : EReal) = part m c 0 z + part m c 1 z + part m c 2 z := by
  have hb : t.val - 1 < cfg0.N := Nat.lt_of_le_of_lt (Nat.sub_le _ _) t.isLt
  have hb' : t.val - 1 - 1 < cfg0.N := Nat.lt_of_le_of_lt (Nat.sub_le _ _) hb
  rw [held_step m c t 2 ht (by decide) (by decide) y z hz,
    held_step m c ⟨t.val - 1, hb⟩ 1 (by show (t.val - 1) % 4 = 1; omega) (by decide) (by decide) y z ⟨hz.1.trans (by dsimp only; omega), hz.2⟩,
    held_0 m c ⟨t.val - 1 - 1, hb'⟩ (by dsimp only; omega) y z ⟨hz.1.trans (by dsimp only; omega), hz.2⟩]

/-- THE KERNEL'S RESULT: the array after the run is the product with the addend, index by index. -/
theorem final (c : Dev nD) : (dats m 0 c).arrAt 3 cfg0.N = results m c := by
  refine (dats m 0 c).arrAt_eq_of_covers 3 (results m c) (by decide +kernel) fun t hf y => ?_
  have ht := last_of_flush t hf
  blk_simp
  rw [after0_3, outsAt0_C m c t (by omega) (by omega) ht]
  dsimp only
  have hb : t.val - 1 < cfg0.N := Nat.lt_of_le_of_lt (Nat.sub_le _ _) t.isLt
  rw [out_last]
  have h0 : (((win0_3.blk t).view.emb y) 0 : ℕ) = 1056 * (t.val / 4) + (y 0).val := by
    blk_simp [(idx t).2.2.2]
    omega
  have h1 : (((win0_3.blk t).view.emb y) 1 : ℕ) = (y 1).val := by blk_simp [(idx t).2.2.2]
  unfold k0_pay4
  refine (congrArg₂ (fun a b : EReal => a + b) ((later_at _ _ _ _).trans (congrArg₂ (fun a b : EReal => a + b)
    (held_before_last m c ⟨t.val - 1, hb⟩ (by dsimp only; omega) y ((win0_3.blk t).view.emb y) ⟨h0.trans (by dsimp only; omega), h1⟩)
    (part_at m c t 3 ht y ((win0_3.blk t).view.emb y) ⟨h0, h1⟩))) (?_ : _ = addend m c (ix2 (((win0_3.blk t).view.emb y) 0) (((win0_3.blk t).view.emb y) 1)))).trans ?_
  · unfold addend
    blk_ext [iblk, V, (idx t).2.2.1, (idx t).2.2.2]
  · unfold results
    rw [sum_blocks (J := 4) (K := 2048) (N := 8192) (by norm_num), Fin.sum_univ_four]
    rfl

end Cert.KernelDUMainIdeal.Product

namespace Cert.Proof

open Idealize.ShloMosaic Idealize.ShloMosaic.TcCoe Idealize.SL.Sem

theorem frame_KernelDUMain : Cert.quiescent_KernelDUMain (hKernelDUMain := Cert.KernelDUMain.Gen.facts) := fun m ρ _ => Cert.KernelDUMain.Gen.frame m ρ

theorem frame_KernelDUMainIdeal : Cert.quiescent_KernelDUMainIdeal (hKernelDUMainIdeal := Cert.KernelDUMainIdeal.Gen.facts) := fun m ρ _ => Cert.KernelDUMainIdeal.Gen.frame m ρ

theorem frame_ReferenceDUMainIdeal : Cert.quiescent_ReferenceDUMainIdeal (hReferenceDUMainIdeal := Cert.ReferenceDUMainIdeal.Gen.facts) := fun m ρ _ =>
  (θ_run Cert.ReferenceDUMainIdeal.defs _ _).mono (fun r h => ⟨fun c => (h c).2, sem_eq_zero_of_no_sems (by decide) r.2⟩) (Cert.ReferenceDUMainIdeal.Value.run m ρ)

/-- No operation was replaced. -/
theorem preserves_KernelDUMain : Cert.preserves_KernelDUMain_KernelDUMainIdeal := trivial

/-- The idealized kernel and the reference end with equal sums. -/
theorem algebraic_DUMain : Cert.algebraic_KernelDUMainIdeal_ReferenceDUMainIdeal (hKernelDUMainIdeal := Cert.KernelDUMainIdeal.Gen.facts) (hReferenceDUMainIdeal := Cert.ReferenceDUMainIdeal.Gen.facts) :=
  fun m g m' g' _ hargs => ⟨fun c => Cert.KernelDUMainIdeal.Product.results m c,
    (θ_run Cert.KernelDUMainIdeal.defs _ _).mono (fun r h c => ⟨(h c).1.trans (Cert.KernelDUMainIdeal.Product.final m c), (h c).2⟩) (Cert.KernelDUMainIdeal.Value.run_blocks m g),
    (θ_run Cert.ReferenceDUMainIdeal.defs _ _).mono (fun r h c => ⟨(h c).1.trans (by
      rw [(hargs c).1, (hargs c).2.1, (hargs c).2.2]
      funext y
      unfold Cert.KernelDUMainIdeal.Product.results
      pointwise), (h c).2⟩) (Cert.ReferenceDUMainIdeal.Value.run m' g')⟩

end Cert.Proof

end
-- ==== Proof.ProductsByRows.lean ====
/-
  Products of rows with a matrix that is kept transposed, by kernels that take the contracted axis whole: every row of the
  left array with every row of the right one. For each program: where its blocks stand, what a grid point leaves, the array
  after the run, and the claims.
-/
module

public import proofs.«01_k».proof.Proof.Products
public import proofs.«01_k».proof.Proof.Gen.KernelProjGatesIdeal.Value
public import proofs.«01_k».proof.Proof.Gen.KernelProjGates.Frame
public import proofs.«01_k».proof.Proof.Gen.ReferenceProjGatesIdeal.Run
public import proofs.«01_k».proof.Proof.Gen.ReferenceDSsdActIdeal.Run
public import proofs.«01_k».proof.Proof.Gen.KernelFfnUpIdeal.Value
public import proofs.«01_k».proof.Proof.Gen.KernelFfnUp.Frame
public import proofs.«01_k».proof.Proof.Gen.ReferenceFfnUpIdeal.Run
public import proofs.«01_k».proof.Proof.Gen.KernelDFfnActIdeal.Value
public import proofs.«01_k».proof.Proof.Gen.KernelDFfnAct.Frame
public import proofs.«01_k».proof.Proof.Gen.ReferenceDFfnActIdeal.Run
public import proofs.«01_k».proof.Proof.Gen.KernelDRetActIdeal.Value
public import proofs.«01_k».proof.Proof.Gen.KernelDRetAct.Frame
public import proofs.«01_k».proof.Proof.Gen.ReferenceDRetActIdeal.Run
public import proofs.«01_k».proof.Proof.Gen.KernelDMergedIdeal.Value
public import proofs.«01_k».proof.Proof.Gen.KernelDMerged.Frame
public import proofs.«01_k».proof.Proof.Gen.ReferenceDMergedIdeal.Run
public import proofs.«01_k».proof.Proof.Gen.KernelProjDtIdeal.Value
public import proofs.«01_k».proof.Proof.Gen.KernelProjDt.Frame
public import proofs.«01_k».proof.Proof.Gen.ReferenceProjDtIdeal.Run
public import proofs.«01_k».proof.Defs

@[expose] public section

noncomputable section

open Cert.Products Idealize.ShloMosaic Idealize.ShloMosaic.TcCoe Idealize.SL.Sem

/-! The input weight of the gates; by the same program, the gradient through the state-space mixer's output weight. -/
namespace Cert.KernelProjGatesIdeal.Product

open Cert.KernelProjGatesIdeal Cert.KernelProjGatesIdeal.Gen

variable (m : (ℓ : Loc nD τ sig) → Buf (Elt Ideal) ℓ)

theorem idx : ∀ t : Fin cfg0.N, win0_0.index t = ![(grid0.coords t 1).val, 0] ∧ win0_1.index t = ![(grid0.coords t 0).val, 0] ∧ win0_2.index t = ![(grid0.coords t 1).val, (grid0.coords t 0).val] :=
  (by decide +kernel : ∀ t : Fin grid0.N, win0_0.index t = ![(grid0.coords t 1).val, 0] ∧ win0_1.index t = ![(grid0.coords t 0).val, 0] ∧ win0_2.index t = ![(grid0.coords t 1).val, (grid0.coords t 0).val])

def results (c : Dev nD) : FVec Ideal S4224x2048 .bf16 := byRows (M := 4224) (N := 2048) (K := 1024) (m ((c : Thread nD τ).loc main_arg0)) (m ((c : Thread nD τ).loc main_arg1))

theorem stored (c : Dev nD) (t : Fin cfg0.N) : (dats m 0 c).after 2 t = k0_pay1 (F := Ideal) (iblk m c 0 t) (iblk m c 1 t) := by
  rw [after0_2]
  unfold outsAt0 out0_A_2 kernelRun0_A
  refine (stored_whole (S := S1056x1024) (e := .bf16) _ (by decide) _ _).trans ?_
  rw [loaded_whole _ (by decide), loaded_whole _ (by decide)]

theorem final (c : Dev nD) : (dats m 0 c).arrAt 2 cfg0.N = results m c := by
  refine (dats m 0 c).arrAt_eq_of_covers 2 (results m c) (by decide +kernel) fun t hf y => ?_
  blk_simp
  rw [stored]
  pointwise [k0_pay1]
  unfold results byRows
  refine sum_of_factors (fun k => ?_) (fun k => ?_)
  · blk_ext [iblk, V, (idx t).1, (idx t).2.2]
  · blk_ext [iblk, V, (idx t).2.1, (idx t).2.2]

theorem frame : Cert.quiescent_KernelProjGates (hKernelProjGates := Cert.KernelProjGates.Gen.facts) := fun m ρ _ => Cert.KernelProjGates.Gen.frame m ρ

theorem frame_ideal : Cert.quiescent_KernelProjGatesIdeal (hKernelProjGatesIdeal := Gen.facts) := fun m ρ _ => Gen.frame m ρ

theorem frame_reference : Cert.quiescent_ReferenceProjGatesIdeal (hReferenceProjGatesIdeal := Cert.ReferenceProjGatesIdeal.Gen.facts) := fun m ρ _ =>
  (θ_run Cert.ReferenceProjGatesIdeal.defs _ _).mono (fun r h => ⟨fun c => (h c).2, sem_eq_zero_of_no_sems (by decide) r.2⟩) (Cert.ReferenceProjGatesIdeal.Value.run m ρ)

theorem frame_reference_DSsdAct : Cert.quiescent_ReferenceDSsdActIdeal (hReferenceDSsdActIdeal := Cert.ReferenceDSsdActIdeal.Gen.facts) := fun m ρ _ =>
  (θ_run Cert.ReferenceDSsdActIdeal.defs _ _).mono (fun r h => ⟨fun c => (h c).2, sem_eq_zero_of_no_sems (by decide) r.2⟩) (Cert.ReferenceDSsdActIdeal.Value.run m ρ)

theorem preserves : Cert.preserves_KernelProjGates_KernelProjGatesIdeal := trivial

theorem algebraic : Cert.algebraic_KernelProjGatesIdeal_ReferenceProjGatesIdeal (hKernelProjGatesIdeal := Gen.facts) (hReferenceProjGatesIdeal := Cert.ReferenceProjGatesIdeal.Gen.facts) :=
  fun m g m' g' _ hargs => ⟨results m, (θ_run defs _ _).mono (fun r h c => ⟨(h c).1.trans (final m c), (h c).2⟩) (Value.run_blocks m g),
    (θ_run Cert.ReferenceProjGatesIdeal.defs _ _).mono (fun r h c => ⟨(h c).1.trans (by
      rw [(hargs c).1, (hargs c).2]
      funext y
      unfold results byRows
      pointwise), (h c).2⟩) (Cert.ReferenceProjGatesIdeal.Value.run m' g')⟩

theorem algebraic_DSsdAct : Cert.algebraic_KernelProjGatesIdeal_ReferenceDSsdActIdeal (hKernelProjGatesIdeal := Gen.facts) (hReferenceDSsdActIdeal := Cert.ReferenceDSsdActIdeal.Gen.facts) :=
  fun m g m' g' _ hargs => ⟨results m, (θ_run defs _ _).mono (fun r h c => ⟨(h c).1.trans (final m c), (h c).2⟩) (Value.run_blocks m g),
    (θ_run Cert.ReferenceDSsdActIdeal.defs _ _).mono (fun r h c => ⟨(h c).1.trans (by
      rw [(hargs c).1, (hargs c).2]
      funext y
      unfold results byRows
      pointwise), (h c).2⟩) (Cert.ReferenceDSsdActIdeal.Value.run m' g')⟩

end Cert.KernelProjGatesIdeal.Product

/-! The feed-forward block's first weight. -/
namespace Cert.KernelFfnUpIdeal.Product

open Cert.KernelFfnUpIdeal Cert.KernelFfnUpIdeal.Gen

variable (m : (ℓ : Loc nD τ sig) → Buf (Elt Ideal) ℓ)

theorem idx : ∀ t : Fin cfg0.N, win0_0.index t = ![(grid0.coords t 1).val, 0] ∧ win0_1.index t = ![(grid0.coords t 0).val, 0] ∧ win0_2.index t = ![(grid0.coords t 1).val, (grid0.coords t 0).val] :=
  (by decide +kernel : ∀ t : Fin grid0.N, win0_0.index t = ![(grid0.coords t 1).val, 0] ∧ win0_1.index t = ![(grid0.coords t 0).val, 0] ∧ win0_2.index t = ![(grid0.coords t 1).val, (grid0.coords t 0).val])

def results (c : Dev nD) : FVec Ideal S4224x5632 .bf16 := byRows (M := 4224) (N := 5632) (K := 1024) (m ((c : Thread nD τ).loc main_arg0)) (m ((c : Thread nD τ).loc main_arg1))

theorem stored (c : Dev nD) (t : Fin cfg0.N) : (dats m 0 c).after 2 t = k0_pay1 (F := Ideal) (iblk m c 0 t) (iblk m c 1 t) := by
  rw [after0_2]
  unfold outsAt0 out0_A_2 kernelRun0_A
  refine (stored_whole (S := S1056x1408) (e := .bf16) _ (by decide) _ _).trans ?_
  rw [loaded_whole _ (by decide), loaded_whole _ (by decide)]

theorem final (c : Dev nD) : (dats m 0 c).arrAt 2 cfg0.N = results m c := by
  refine (dats m 0 c).arrAt_eq_of_covers 2 (results m c) (by decide +kernel) fun t hf y => ?_
  blk_simp
  rw [stored]
  pointwise [k0_pay1]
  unfold results byRows
  refine sum_of_factors (fun k => ?_) (fun k => ?_)
  · blk_ext [iblk, V, (idx t).1, (idx t).2.2]
  · blk_ext [iblk, V, (idx t).2.1, (idx t).2.2]

theorem frame : Cert.quiescent_KernelFfnUp (hKernelFfnUp := Cert.KernelFfnUp.Gen.facts) := fun m ρ _ => Cert.KernelFfnUp.Gen.frame m ρ

theorem frame_ideal : Cert.quiescent_KernelFfnUpIdeal (hKernelFfnUpIdeal := Gen.facts) := fun m ρ _ => Gen.frame m ρ

theorem frame_reference : Cert.quiescent_ReferenceFfnUpIdeal (hReferenceFfnUpIdeal := Cert.ReferenceFfnUpIdeal.Gen.facts) := fun m ρ _ =>
  (θ_run Cert.ReferenceFfnUpIdeal.defs _ _).mono (fun r h => ⟨fun c => (h c).2, sem_eq_zero_of_no_sems (by decide) r.2⟩) (Cert.ReferenceFfnUpIdeal.Value.run m ρ)

theorem preserves : Cert.preserves_KernelFfnUp_KernelFfnUpIdeal := trivial

theorem algebraic : Cert.algebraic_KernelFfnUpIdeal_ReferenceFfnUpIdeal (hKernelFfnUpIdeal := Gen.facts) (hReferenceFfnUpIdeal := Cert.ReferenceFfnUpIdeal.Gen.facts) :=
  fun m g m' g' _ hargs => ⟨results m, (θ_run defs _ _).mono (fun r h c => ⟨(h c).1.trans (final m c), (h c).2⟩) (Value.run_blocks m g),
    (θ_run Cert.ReferenceFfnUpIdeal.defs _ _).mono (fun r h c => ⟨(h c).1.trans (by
      rw [(hargs c).1, (hargs c).2]
      funext y
      unfold results byRows
      pointwise), (h c).2⟩) (Cert.ReferenceFfnUpIdeal.Value.run m' g')⟩

end Cert.KernelFfnUpIdeal.Product

/-! The gradient through the feed-forward block's second weight. -/
namespace Cert.KernelDFfnActIdeal.Product

open Cert.KernelDFfnActIdeal Cert.KernelDFfnActIdeal.Gen

variable (m : (ℓ : Loc nD τ sig) → Buf (Elt Ideal) ℓ)

theorem idx : ∀ t : Fin cfg0.N, win0_0.index t = ![(grid0.coords t 1).val, 0] ∧ win0_1.index t = ![(grid0.coords t 0).val, 0] ∧ win0_2.index t = ![(grid0.coords t 1).val, (grid0.coords t 0).val] :=
  (by decide +kernel : ∀ t : Fin grid0.N, win0_0.index t = ![(grid0.coords t 1).val, 0] ∧ win0_1.index t = ![(grid0.coords t 0).val, 0] ∧ win0_2.index t = ![(grid0.coords t 1).val, (grid0.coords t 0).val])

def results (c : Dev nD) : FVec Ideal S4224x2816 .bf16 := byRows (M := 4224) (N := 2816) (K := 1024) (m ((c : Thread nD τ).loc main_arg0)) (m ((c : Thread nD τ).loc main_arg1))

theorem stored (c : Dev nD) (t : Fin cfg0.N) : (dats m 0 c).after 2 t = k0_pay1 (F := Ideal) (iblk m c 0 t) (iblk m c 1 t) := by
  rw [after0_2]
  unfold outsAt0 out0_A_2 kernelRun0_A
  refine (stored_whole (S := S1056x1408) (e := .bf16) _ (by decide) _ _).trans ?_
  rw [loaded_whole _ (by decide), loaded_whole _ (by decide)]

theorem final (c : Dev nD) : (dats m 0 c).arrAt 2 cfg0.N = results m c := by
  refine (dats m 0 c).arrAt_eq_of_covers 2 (results m c) (by decide +kernel) fun t hf y => ?_
  blk_simp
  rw [stored]
  pointwise [k0_pay1]
  unfold results byRows
  refine sum_of_factors (fun k => ?_) (fun k => ?_)
  · blk_ext [iblk, V, (idx t).1, (idx t).2.2]
  · blk_ext [iblk, V, (idx t).2.1, (idx t).2.2]

theorem frame : Cert.quiescent_KernelDFfnAct (hKernelDFfnAct := Cert.KernelDFfnAct.Gen.facts) := fun m ρ _ => Cert.KernelDFfnAct.Gen.frame m ρ

theorem frame_ideal : Cert.quiescent_KernelDFfnActIdeal (hKernelDFfnActIdeal := Gen.facts) := fun m ρ _ => Gen.frame m ρ

theorem frame_reference : Cert.quiescent_ReferenceDFfnActIdeal (hReferenceDFfnActIdeal := Cert.ReferenceDFfnActIdeal.Gen.facts) := fun m ρ _ =>
  (θ_run Cert.ReferenceDFfnActIdeal.defs _ _).mono (fun r h => ⟨fun c => (h c).2, sem_eq_zero_of_no_sems (by decide) r.2⟩) (Cert.ReferenceDFfnActIdeal.Value.run m ρ)

theorem preserves : Cert.preserves_KernelDFfnAct_KernelDFfnActIdeal := trivial

theorem algebraic : Cert.algebraic_KernelDFfnActIdeal_ReferenceDFfnActIdeal (hKernelDFfnActIdeal := Gen.facts) (hReferenceDFfnActIdeal := Cert.ReferenceDFfnActIdeal.Gen.facts) :=
  fun m g m' g' _ hargs => ⟨results m, (θ_run defs _ _).mono (fun r h c => ⟨(h c).1.trans (final m c), (h c).2⟩) (Value.run_blocks m g),
    (θ_run Cert.ReferenceDFfnActIdeal.defs _ _).mono (fun r h c => ⟨(h c).1.trans (by
      rw [(hargs c).1, (hargs c).2]
      funext y
      unfold results byRows
      pointwise), (h c).2⟩) (Cert.ReferenceDFfnActIdeal.Value.run m' g')⟩

end Cert.KernelDFfnActIdeal.Product

/-! The gradient through the retention's output weight. -/
namespace Cert.KernelDRetActIdeal.Product

open Cert.KernelDRetActIdeal Cert.KernelDRetActIdeal.Gen

variable (m : (ℓ : Loc nD τ sig) → Buf (Elt Ideal) ℓ)

theorem idx : ∀ t : Fin cfg0.N, win0_0.index t = ![(grid0.coords t 1).val, 0] ∧ win0_1.index t = ![(grid0.coords t 0).val, 0] ∧ win0_2.index t = ![(grid0.coords t 1).val, (grid0.coords t 0).val] :=
  (by decide +kernel : ∀ t : Fin grid0.N, win0_0.index t = ![(grid0.coords t 1).val, 0] ∧ win0_1.index t = ![(grid0.coords t 0).val, 0] ∧ win0_2.index t = ![(grid0.coords t 1).val, (grid0.coords t 0).val])

def results (c : Dev nD) : FVec Ideal S4224x1024 .bf16 := byRows (M := 4224) (N := 1024) (K := 1024) (m ((c : Thread nD τ).loc main_arg0)) (m ((c : Thread nD τ).loc main_arg1))

theorem stored (c : Dev nD) (t : Fin cfg0.N) : (dats m 0 c).after 2 t = k0_pay1 (F := Ideal) (iblk m c 0 t) (iblk m c 1 t) := by
  rw [after0_2]
  unfold outsAt0 out0_A_2 kernelRun0_A
  refine (stored_whole (S := S1056x1024) (e := .bf16) _ (by decide) _ _).trans ?_
  rw [loaded_whole _ (by decide), loaded_whole _ (by decide)]

theorem final (c : Dev nD) : (dats m 0 c).arrAt 2 cfg0.N = results m c := by
  refine (dats m 0 c).arrAt_eq_of_covers 2 (results m c) (by decide +kernel) fun t hf y => ?_
  blk_simp
  rw [stored]
  pointwise [k0_pay1]
  unfold results byRows
  refine sum_of_factors (fun k => ?_) (fun k => ?_)
  · blk_ext [iblk, V, (idx t).1, (idx t).2.2]
  · blk_ext [iblk, V, (idx t).2.1, (idx t).2.2]

theorem frame : Cert.quiescent_KernelDRetAct (hKernelDRetAct := Cert.KernelDRetAct.Gen.facts) := fun m ρ _ => Cert.KernelDRetAct.Gen.frame m ρ

theorem frame_ideal : Cert.quiescent_KernelDRetActIdeal (hKernelDRetActIdeal := Gen.facts) := fun m ρ _ => Gen.frame m ρ

theorem frame_reference : Cert.quiescent_ReferenceDRetActIdeal (hReferenceDRetActIdeal := Cert.ReferenceDRetActIdeal.Gen.facts) := fun m ρ _ =>
  (θ_run Cert.ReferenceDRetActIdeal.defs _ _).mono (fun r h => ⟨fun c => (h c).2, sem_eq_zero_of_no_sems (by decide) r.2⟩) (Cert.ReferenceDRetActIdeal.Value.run m ρ)

theorem preserves : Cert.preserves_KernelDRetAct_KernelDRetActIdeal := trivial

theorem algebraic : Cert.algebraic_KernelDRetActIdeal_ReferenceDRetActIdeal (hKernelDRetActIdeal := Gen.facts) (hReferenceDRetActIdeal := Cert.ReferenceDRetActIdeal.Gen.facts) :=
  fun m g m' g' _ hargs => ⟨results m, (θ_run defs _ _).mono (fun r h c => ⟨(h c).1.trans (final m c), (h c).2⟩) (Value.run_blocks m g),
    (θ_run Cert.ReferenceDRetActIdeal.defs _ _).mono (fun r h c => ⟨(h c).1.trans (by
      rw [(hargs c).1, (hargs c).2]
      funext y
      unfold results byRows
      pointwise), (h c).2⟩) (Cert.ReferenceDRetActIdeal.Value.run m' g')⟩

end Cert.KernelDRetActIdeal.Product

/-! The gradient through the weight of the mixers' output. -/
namespace Cert.KernelDMergedIdeal.Product

open Cert.KernelDMergedIdeal Cert.KernelDMergedIdeal.Gen

variable (m : (ℓ : Loc nD τ sig) → Buf (Elt Ideal) ℓ)

theorem idx : ∀ t : Fin cfg0.N, win0_0.index t = ![(grid0.coords t 1).val, 0] ∧ win0_1.index t = ![(grid0.coords t 0).val, 0] ∧ win0_2.index t = ![(grid0.coords t 1).val, (grid0.coords t 0).val] :=
  (by decide +kernel : ∀ t : Fin grid0.N, win0_0.index t = ![(grid0.coords t 1).val, 0] ∧ win0_1.index t = ![(grid0.coords t 0).val, 0] ∧ win0_2.index t = ![(grid0.coords t 1).val, (grid0.coords t 0).val])

def results (c : Dev nD) : FVec Ideal S4224x1024 .bf16 := byRows (M := 4224) (N := 1024) (K := 1024) (m ((c : Thread nD τ).loc main_arg0)) (m ((c : Thread nD τ).loc main_arg1))

theorem stored (c : Dev nD) (t : Fin cfg0.N) : (dats m 0 c).after 2 t = k0_pay1 (F := Ideal) (iblk m c 0 t) (iblk m c 1 t) := by
  rw [after0_2]
  unfold outsAt0 out0_A_2 kernelRun0_A
  refine (stored_whole (S := S1056x1024) (e := .bf16) _ (by decide) _ _).trans ?_
  rw [loaded_whole _ (by decide), loaded_whole _ (by decide)]

theorem final (c : Dev nD) : (dats m 0 c).arrAt 2 cfg0.N = results m c := by
  refine (dats m 0 c).arrAt_eq_of_covers 2 (results m c) (by decide +kernel) fun t hf y => ?_
  blk_simp
  rw [stored]
  pointwise [k0_pay1]
  unfold results byRows
  refine sum_of_factors (fun k => ?_) (fun k => ?_)
  · blk_ext [iblk, V, (idx t).1, (idx t).2.2]
  · blk_ext [iblk, V, (idx t).2.1, (idx t).2.2]

theorem frame : Cert.quiescent_KernelDMerged (hKernelDMerged := Cert.KernelDMerged.Gen.facts) := fun m ρ _ => Cert.KernelDMerged.Gen.frame m ρ

theorem frame_ideal : Cert.quiescent_KernelDMergedIdeal (hKernelDMergedIdeal := Gen.facts) := fun m ρ _ => Gen.frame m ρ

theorem frame_reference : Cert.quiescent_ReferenceDMergedIdeal (hReferenceDMergedIdeal := Cert.ReferenceDMergedIdeal.Gen.facts) := fun m ρ _ =>
  (θ_run Cert.ReferenceDMergedIdeal.defs _ _).mono (fun r h => ⟨fun c => (h c).2, sem_eq_zero_of_no_sems (by decide) r.2⟩) (Cert.ReferenceDMergedIdeal.Value.run m ρ)

theorem preserves : Cert.preserves_KernelDMerged_KernelDMergedIdeal := trivial

theorem algebraic : Cert.algebraic_KernelDMergedIdeal_ReferenceDMergedIdeal (hKernelDMergedIdeal := Gen.facts) (hReferenceDMergedIdeal := Cert.ReferenceDMergedIdeal.Gen.facts) :=
  fun m g m' g' _ hargs => ⟨results m, (θ_run defs _ _).mono (fun r h c => ⟨(h c).1.trans (final m c), (h c).2⟩) (Value.run_blocks m g),
    (θ_run Cert.ReferenceDMergedIdeal.defs _ _).mono (fun r h c => ⟨(h c).1.trans (by
      rw [(hargs c).1, (hargs c).2]
      funext y
      unfold results byRows
      pointwise), (h c).2⟩) (Cert.ReferenceDMergedIdeal.Value.run m' g')⟩

end Cert.KernelDMergedIdeal.Product

/-! The input weight of the step sizes, whose columns are padded to a whole block. -/
namespace Cert.KernelProjDtIdeal.Product

open Cert.KernelProjDtIdeal Cert.KernelProjDtIdeal.Gen

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

def results (c : Dev nD) : FVec Ideal S4224x128 .f32 := byRows (M := 4224) (N := 128) (K := 1024) (m ((c : Thread nD τ).loc main_arg0)) (m ((c : Thread nD τ).loc main_arg1))

theorem stored (c : Dev nD) (t : Fin cfg0.N) : (dats m 0 c).after 2 t = k0_pay1 (F := Ideal) (iblk m c 0 t) (iblk m c 1 t) := by
  rw [after0_2]
  unfold outsAt0 out0_A_2 kernelRun0_A
  refine (stored_whole (S := S1056x128) (e := .f32) _ (by decide) _ _).trans ?_
  rw [loaded_whole _ (by decide), loaded_whole _ (by decide)]

theorem final (c : Dev nD) : (dats m 0 c).arrAt 2 cfg0.N = results m c := by
  refine (dats m 0 c).arrAt_eq_of_covers 2 (results m c) (by decide +kernel) fun t hf y => ?_
  blk_simp
  rw [stored]
  pointwise [k0_pay1]
  unfold results byRows
  refine sum_of_factors (fun k => ?_) (fun k => ?_)
  · blk_ext [iblk, V, (idx t).1, (idx t).2.2]
  · blk_ext [iblk, V, (idx t).2.1, (idx t).2.2]

theorem frame : Cert.quiescent_KernelProjDt (hKernelProjDt := Cert.KernelProjDt.Gen.facts) := fun m ρ _ => Cert.KernelProjDt.Gen.frame m ρ

theorem frame_ideal : Cert.quiescent_KernelProjDtIdeal (hKernelProjDtIdeal := Gen.facts) := fun m ρ _ => Gen.frame m ρ

theorem frame_reference : Cert.quiescent_ReferenceProjDtIdeal (hReferenceProjDtIdeal := Cert.ReferenceProjDtIdeal.Gen.facts) := fun m ρ _ =>
  (θ_run Cert.ReferenceProjDtIdeal.defs _ _).mono (fun r h => ⟨fun c => (h c).2, sem_eq_zero_of_no_sems (by decide) r.2⟩) (Cert.ReferenceProjDtIdeal.Value.run m ρ)

theorem preserves : Cert.preserves_KernelProjDt_KernelProjDtIdeal := trivial

theorem algebraic : Cert.algebraic_KernelProjDtIdeal_ReferenceProjDtIdeal (hKernelProjDtIdeal := Gen.facts) (hReferenceProjDtIdeal := Cert.ReferenceProjDtIdeal.Gen.facts) :=
  fun m g m' g' _ hargs => ⟨results m, (θ_run defs _ _).mono (fun r h c => ⟨(h c).1.trans (final m c), (h c).2⟩) (Value.run_blocks m g),
    (θ_run Cert.ReferenceProjDtIdeal.defs _ _).mono (fun r h c => ⟨(h c).1.trans (by
      rw [(hargs c).1, (hargs c).2]
      funext y
      unfold results byRows
      pointwise), (h c).2⟩) (Cert.ReferenceProjDtIdeal.Value.run m' g')⟩

end Cert.KernelProjDtIdeal.Product

end
-- ==== Proof.ProductsByCols.lean ====
/-
  Products of rows with a matrix as it is, by kernels that take the contracted axis whole: every row of the left array with
  every column of the right one, and in some an addend. For each program: where its blocks stand, what a grid point leaves,
  the array after the run, and the claims.
-/
module

public import proofs.«01_k».proof.Proof.Products
public import proofs.«01_k».proof.Proof.Gen.KernelSsdOutIdeal.Value
public import proofs.«01_k».proof.Proof.Gen.KernelSsdOut.Frame
public import proofs.«01_k».proof.Proof.Gen.ReferenceSsdOutIdeal.Run
public import proofs.«01_k».proof.Proof.Gen.KernelRetOutIdeal.Value
public import proofs.«01_k».proof.Proof.Gen.KernelRetOut.Frame
public import proofs.«01_k».proof.Proof.Gen.ReferenceRetOutIdeal.Run
public import proofs.«01_k».proof.Proof.Gen.KernelDNormFfnIdeal.Value
public import proofs.«01_k».proof.Proof.Gen.KernelDNormFfn.Frame
public import proofs.«01_k».proof.Proof.Gen.ReferenceDNormFfnIdeal.Run
public import proofs.«01_k».proof.Proof.Gen.KernelDUGatesIdeal.Value
public import proofs.«01_k».proof.Proof.Gen.KernelDUGates.Frame
public import proofs.«01_k».proof.Proof.Gen.ReferenceDUGatesIdeal.Run
public import proofs.«01_k».proof.Proof.Gen.KernelFfnDownIdeal.Value
public import proofs.«01_k».proof.Proof.Gen.KernelFfnDown.Frame
public import proofs.«01_k».proof.Proof.Gen.ReferenceFfnDownIdeal.Run
public import proofs.«01_k».proof.Proof.Gen.ReferenceDNormFfnUIdeal.Run
public import proofs.«01_k».proof.Proof.Gen.KernelMixOutIdeal.Value
public import proofs.«01_k».proof.Proof.Gen.KernelMixOut.Frame
public import proofs.«01_k».proof.Proof.Gen.ReferenceMixOutIdeal.Run
public import proofs.«01_k».proof.Proof.Gen.KernelDUDtIdeal.Value
public import proofs.«01_k».proof.Proof.Gen.KernelDUDt.Frame
public import proofs.«01_k».proof.Proof.Gen.ReferenceDUDtIdeal.Run
public import proofs.«01_k».proof.Defs

@[expose] public section

noncomputable section

open Cert.Products Idealize.ShloMosaic Idealize.ShloMosaic.TcCoe Idealize.SL.Sem

/-! The state-space mixer's output weight. -/
namespace Cert.KernelSsdOutIdeal.Product

open Cert.KernelSsdOutIdeal Cert.KernelSsdOutIdeal.Gen

variable (m : (ℓ : Loc nD τ sig) → Buf (Elt Ideal) ℓ)

theorem idx : ∀ t : Fin cfg0.N, win0_0.index t = ![(grid0.coords t 1).val, 0] ∧ win0_1.index t = ![0, (grid0.coords t 0).val] ∧ win0_2.index t = ![(grid0.coords t 1).val, (grid0.coords t 0).val] :=
  (by decide +kernel : ∀ t : Fin grid0.N, win0_0.index t = ![(grid0.coords t 1).val, 0] ∧ win0_1.index t = ![0, (grid0.coords t 0).val] ∧ win0_2.index t = ![(grid0.coords t 1).val, (grid0.coords t 0).val])

def results (c : Dev nD) : FVec Ideal S4224x1024 .bf16 := byCols (M := 4224) (N := 1024) (K := 2048) (m ((c : Thread nD τ).loc main_arg0)) (m ((c : Thread nD τ).loc main_arg1))

theorem stored (c : Dev nD) (t : Fin cfg0.N) : (dats m 0 c).after 2 t = k0_pay1 (F := Ideal) (iblk m c 0 t) (iblk m c 1 t) := by
  rw [after0_2]
  unfold outsAt0 out0_A_2 kernelRun0_A
  refine (stored_whole (S := S1056x1024) (e := .bf16) _ (by decide) _ _).trans ?_
  rw [loaded_whole _ (by decide), loaded_whole _ (by decide)]

theorem final (c : Dev nD) : (dats m 0 c).arrAt 2 cfg0.N = results m c := by
  refine (dats m 0 c).arrAt_eq_of_covers 2 (results m c) (by decide +kernel) fun t hf y => ?_
  blk_simp
  rw [stored]
  pointwise [k0_pay1]
  unfold results byCols
  refine sum_of_factors (fun k => ?_) (fun k => ?_)
  · blk_ext [iblk, V, (idx t).1, (idx t).2.2]
  · blk_ext [iblk, V, (idx t).2.1, (idx t).2.2]

theorem frame : Cert.quiescent_KernelSsdOut (hKernelSsdOut := Cert.KernelSsdOut.Gen.facts) := fun m ρ _ => Cert.KernelSsdOut.Gen.frame m ρ

theorem frame_ideal : Cert.quiescent_KernelSsdOutIdeal (hKernelSsdOutIdeal := Gen.facts) := fun m ρ _ => Gen.frame m ρ

theorem frame_reference : Cert.quiescent_ReferenceSsdOutIdeal (hReferenceSsdOutIdeal := Cert.ReferenceSsdOutIdeal.Gen.facts) := fun m ρ _ =>
  (θ_run Cert.ReferenceSsdOutIdeal.defs _ _).mono (fun r h => ⟨fun c => (h c).2, sem_eq_zero_of_no_sems (by decide) r.2⟩) (Cert.ReferenceSsdOutIdeal.Value.run m ρ)

theorem preserves : Cert.preserves_KernelSsdOut_KernelSsdOutIdeal := trivial

theorem algebraic : Cert.algebraic_KernelSsdOutIdeal_ReferenceSsdOutIdeal (hKernelSsdOutIdeal := Gen.facts) (hReferenceSsdOutIdeal := Cert.ReferenceSsdOutIdeal.Gen.facts) :=
  fun m g m' g' _ hargs => ⟨results m, (θ_run defs _ _).mono (fun r h c => ⟨(h c).1.trans (final m c), (h c).2⟩) (Value.run_blocks m g),
    (θ_run Cert.ReferenceSsdOutIdeal.defs _ _).mono (fun r h c => ⟨(h c).1.trans (by
      rw [(hargs c).1, (hargs c).2]
      funext y
      unfold results byCols
      pointwise), (h c).2⟩) (Cert.ReferenceSsdOutIdeal.Value.run m' g')⟩

end Cert.KernelSsdOutIdeal.Product

/-! The retention's output weight. -/
namespace Cert.KernelRetOutIdeal.Product

open Cert.KernelRetOutIdeal Cert.KernelRetOutIdeal.Gen

variable (m : (ℓ : Loc nD τ sig) → Buf (Elt Ideal) ℓ)

theorem idx : ∀ t : Fin cfg0.N, win0_0.index t = ![(grid0.coords t 1).val, 0] ∧ win0_1.index t = ![0, (grid0.coords t 0).val] ∧ win0_2.index t = ![(grid0.coords t 1).val, (grid0.coords t 0).val] :=
  (by decide +kernel : ∀ t : Fin grid0.N, win0_0.index t = ![(grid0.coords t 1).val, 0] ∧ win0_1.index t = ![0, (grid0.coords t 0).val] ∧ win0_2.index t = ![(grid0.coords t 1).val, (grid0.coords t 0).val])

def results (c : Dev nD) : FVec Ideal S4224x1024 .bf16 := byCols (M := 4224) (N := 1024) (K := 1024) (m ((c : Thread nD τ).loc main_arg0)) (m ((c : Thread nD τ).loc main_arg1))

theorem stored (c : Dev nD) (t : Fin cfg0.N) : (dats m 0 c).after 2 t = k0_pay1 (F := Ideal) (iblk m c 0 t) (iblk m c 1 t) := by
  rw [after0_2]
  unfold outsAt0 out0_A_2 kernelRun0_A
  refine (stored_whole (S := S1056x1024) (e := .bf16) _ (by decide) _ _).trans ?_
  rw [loaded_whole _ (by decide), loaded_whole _ (by decide)]

theorem final (c : Dev nD) : (dats m 0 c).arrAt 2 cfg0.N = results m c := by
  refine (dats m 0 c).arrAt_eq_of_covers 2 (results m c) (by decide +kernel) fun t hf y => ?_
  blk_simp
  rw [stored]
  pointwise [k0_pay1]
  unfold results byCols
  refine sum_of_factors (fun k => ?_) (fun k => ?_)
  · blk_ext [iblk, V, (idx t).1, (idx t).2.2]
  · blk_ext [iblk, V, (idx t).2.1, (idx t).2.2]

theorem frame : Cert.quiescent_KernelRetOut (hKernelRetOut := Cert.KernelRetOut.Gen.facts) := fun m ρ _ => Cert.KernelRetOut.Gen.frame m ρ

theorem frame_ideal : Cert.quiescent_KernelRetOutIdeal (hKernelRetOutIdeal := Gen.facts) := fun m ρ _ => Gen.frame m ρ

theorem frame_reference : Cert.quiescent_ReferenceRetOutIdeal (hReferenceRetOutIdeal := Cert.ReferenceRetOutIdeal.Gen.facts) := fun m ρ _ =>
  (θ_run Cert.ReferenceRetOutIdeal.defs _ _).mono (fun r h => ⟨fun c => (h c).2, sem_eq_zero_of_no_sems (by decide) r.2⟩) (Cert.ReferenceRetOutIdeal.Value.run m ρ)

theorem preserves : Cert.preserves_KernelRetOut_KernelRetOutIdeal := trivial

theorem algebraic : Cert.algebraic_KernelRetOutIdeal_ReferenceRetOutIdeal (hKernelRetOutIdeal := Gen.facts) (hReferenceRetOutIdeal := Cert.ReferenceRetOutIdeal.Gen.facts) :=
  fun m g m' g' _ hargs => ⟨results m, (θ_run defs _ _).mono (fun r h c => ⟨(h c).1.trans (final m c), (h c).2⟩) (Value.run_blocks m g),
    (θ_run Cert.ReferenceRetOutIdeal.defs _ _).mono (fun r h c => ⟨(h c).1.trans (by
      rw [(hargs c).1, (hargs c).2]
      funext y
      unfold results byCols
      pointwise), (h c).2⟩) (Cert.ReferenceRetOutIdeal.Value.run m' g')⟩

end Cert.KernelRetOutIdeal.Product

/-! The gradient through the gate's half of the feed-forward block's first weight. -/
namespace Cert.KernelDNormFfnIdeal.Product

open Cert.KernelDNormFfnIdeal Cert.KernelDNormFfnIdeal.Gen

variable (m : (ℓ : Loc nD τ sig) → Buf (Elt Ideal) ℓ)

theorem idx : ∀ t : Fin cfg0.N, win0_0.index t = ![(grid0.coords t 1).val, 0] ∧ win0_1.index t = ![0, (grid0.coords t 0).val] ∧ win0_2.index t = ![(grid0.coords t 1).val, (grid0.coords t 0).val] :=
  (by decide +kernel : ∀ t : Fin grid0.N, win0_0.index t = ![(grid0.coords t 1).val, 0] ∧ win0_1.index t = ![0, (grid0.coords t 0).val] ∧ win0_2.index t = ![(grid0.coords t 1).val, (grid0.coords t 0).val])

def results (c : Dev nD) : FVec Ideal S4224x1024 .f32 := byCols (M := 4224) (N := 1024) (K := 2816) (m ((c : Thread nD τ).loc main_arg0)) (m ((c : Thread nD τ).loc main_arg1))

theorem stored (c : Dev nD) (t : Fin cfg0.N) : (dats m 0 c).after 2 t = k0_pay1 (F := Ideal) (iblk m c 0 t) (iblk m c 1 t) := by
  rw [after0_2]
  unfold outsAt0 out0_A_2 kernelRun0_A
  refine (stored_whole (S := S1056x1024) (e := .f32) _ (by decide) _ _).trans ?_
  rw [loaded_whole _ (by decide), loaded_whole _ (by decide)]

theorem final (c : Dev nD) : (dats m 0 c).arrAt 2 cfg0.N = results m c := by
  refine (dats m 0 c).arrAt_eq_of_covers 2 (results m c) (by decide +kernel) fun t hf y => ?_
  blk_simp
  rw [stored]
  pointwise [k0_pay1]
  unfold results byCols
  refine sum_of_factors (fun k => ?_) (fun k => ?_)
  · blk_ext [iblk, V, (idx t).1, (idx t).2.2]
  · blk_ext [iblk, V, (idx t).2.1, (idx t).2.2]

theorem frame : Cert.quiescent_KernelDNormFfn (hKernelDNormFfn := Cert.KernelDNormFfn.Gen.facts) := fun m ρ _ => Cert.KernelDNormFfn.Gen.frame m ρ

theorem frame_ideal : Cert.quiescent_KernelDNormFfnIdeal (hKernelDNormFfnIdeal := Gen.facts) := fun m ρ _ => Gen.frame m ρ

theorem frame_reference : Cert.quiescent_ReferenceDNormFfnIdeal (hReferenceDNormFfnIdeal := Cert.ReferenceDNormFfnIdeal.Gen.facts) := fun m ρ _ =>
  (θ_run Cert.ReferenceDNormFfnIdeal.defs _ _).mono (fun r h => ⟨fun c => (h c).2, sem_eq_zero_of_no_sems (by decide) r.2⟩) (Cert.ReferenceDNormFfnIdeal.Value.run m ρ)

theorem preserves : Cert.preserves_KernelDNormFfn_KernelDNormFfnIdeal := trivial

theorem algebraic : Cert.algebraic_KernelDNormFfnIdeal_ReferenceDNormFfnIdeal (hKernelDNormFfnIdeal := Gen.facts) (hReferenceDNormFfnIdeal := Cert.ReferenceDNormFfnIdeal.Gen.facts) :=
  fun m g m' g' _ hargs => ⟨results m, (θ_run defs _ _).mono (fun r h c => ⟨(h c).1.trans (final m c), (h c).2⟩) (Value.run_blocks m g),
    (θ_run Cert.ReferenceDNormFfnIdeal.defs _ _).mono (fun r h c => ⟨(h c).1.trans (by
      rw [(hargs c).1, (hargs c).2]
      funext y
      unfold results byCols
      pointwise), (h c).2⟩) (Cert.ReferenceDNormFfnIdeal.Value.run m' g')⟩

end Cert.KernelDNormFfnIdeal.Product

/-! The gradient through the input weight of the gates, added to what the others gave. -/
namespace Cert.KernelDUGatesIdeal.Product

open Cert.KernelDUGatesIdeal Cert.KernelDUGatesIdeal.Gen

variable (m : (ℓ : Loc nD τ sig) → Buf (Elt Ideal) ℓ)

theorem idx : ∀ t : Fin cfg0.N, win0_0.index t = ![(grid0.coords t 1).val, 0] ∧ win0_1.index t = ![0, (grid0.coords t 0).val] ∧ win0_2.index t = ![(grid0.coords t 1).val, (grid0.coords t 0).val] ∧ win0_3.index t = ![(grid0.coords t 1).val, (grid0.coords t 0).val] :=
  (by decide +kernel : ∀ t : Fin grid0.N, win0_0.index t = ![(grid0.coords t 1).val, 0] ∧ win0_1.index t = ![0, (grid0.coords t 0).val] ∧ win0_2.index t = ![(grid0.coords t 1).val, (grid0.coords t 0).val] ∧ win0_3.index t = ![(grid0.coords t 1).val, (grid0.coords t 0).val])

def results (c : Dev nD) : FVec Ideal S4224x1024 .f32 := byColsPlus (M := 4224) (N := 1024) (K := 2048) (m ((c : Thread nD τ).loc main_arg0)) (m ((c : Thread nD τ).loc main_arg1)) (m ((c : Thread nD τ).loc main_arg2))

theorem stored (c : Dev nD) (t : Fin cfg0.N) : (dats m 0 c).after 3 t = k0_pay1 (F := Ideal) (iblk m c 0 t) (iblk m c 1 t) (iblk m c 2 t) := by
  rw [after0_3]
  unfold outsAt0 out0_A_3 kernelRun0_A
  refine (stored_whole (S := S1056x1024) (e := .f32) _ (by decide) _ _).trans ?_
  rw [loaded_whole _ (by decide), loaded_whole _ (by decide), loaded_whole _ (by decide)]

theorem final (c : Dev nD) : (dats m 0 c).arrAt 3 cfg0.N = results m c := by
  refine (dats m 0 c).arrAt_eq_of_covers 3 (results m c) (by decide +kernel) fun t hf y => ?_
  blk_simp
  rw [stored]
  pointwise [k0_pay1]
  unfold results byColsPlus byCols
  refine congrArg₂ (fun a b : EReal => a + b) (sum_of_factors (fun k => ?_) (fun k => ?_)) ?_
  · blk_ext [iblk, V, (idx t).1, (idx t).2.2.2]
  · blk_ext [iblk, V, (idx t).2.1, (idx t).2.2.2]
  · blk_ext [iblk, V, (idx t).2.2.1, (idx t).2.2.2]

theorem frame : Cert.quiescent_KernelDUGates (hKernelDUGates := Cert.KernelDUGates.Gen.facts) := fun m ρ _ => Cert.KernelDUGates.Gen.frame m ρ

theorem frame_ideal : Cert.quiescent_KernelDUGatesIdeal (hKernelDUGatesIdeal := Gen.facts) := fun m ρ _ => Gen.frame m ρ

theorem frame_reference : Cert.quiescent_ReferenceDUGatesIdeal (hReferenceDUGatesIdeal := Cert.ReferenceDUGatesIdeal.Gen.facts) := fun m ρ _ =>
  (θ_run Cert.ReferenceDUGatesIdeal.defs _ _).mono (fun r h => ⟨fun c => (h c).2, sem_eq_zero_of_no_sems (by decide) r.2⟩) (Cert.ReferenceDUGatesIdeal.Value.run m ρ)

theorem preserves : Cert.preserves_KernelDUGates_KernelDUGatesIdeal := trivial

theorem algebraic : Cert.algebraic_KernelDUGatesIdeal_ReferenceDUGatesIdeal (hKernelDUGatesIdeal := Gen.facts) (hReferenceDUGatesIdeal := Cert.ReferenceDUGatesIdeal.Gen.facts) :=
  fun m g m' g' _ hargs => ⟨results m, (θ_run defs _ _).mono (fun r h c => ⟨(h c).1.trans (final m c), (h c).2⟩) (Value.run_blocks m g),
    (θ_run Cert.ReferenceDUGatesIdeal.defs _ _).mono (fun r h c => ⟨(h c).1.trans (by
      rw [(hargs c).1, (hargs c).2.1, (hargs c).2.2]
      funext y
      unfold results byColsPlus byCols
      pointwise), (h c).2⟩) (Cert.ReferenceDUGatesIdeal.Value.run m' g')⟩

end Cert.KernelDUGatesIdeal.Product

/-! The feed-forward block's second weight, with the rows before the block added; by the same program, the gradient through
the other half of the block's first weight, added to the gate's. -/
namespace Cert.KernelFfnDownIdeal.Product

open Cert.KernelFfnDownIdeal Cert.KernelFfnDownIdeal.Gen

variable (m : (ℓ : Loc nD τ sig) → Buf (Elt Ideal) ℓ)

theorem idx : ∀ t : Fin cfg0.N, win0_0.index t = ![(grid0.coords t 1).val, 0] ∧ win0_1.index t = ![0, (grid0.coords t 0).val] ∧ win0_2.index t = ![(grid0.coords t 1).val, (grid0.coords t 0).val] ∧ win0_3.index t = ![(grid0.coords t 1).val, (grid0.coords t 0).val] :=
  (by decide +kernel : ∀ t : Fin grid0.N, win0_0.index t = ![(grid0.coords t 1).val, 0] ∧ win0_1.index t = ![0, (grid0.coords t 0).val] ∧ win0_2.index t = ![(grid0.coords t 1).val, (grid0.coords t 0).val] ∧ win0_3.index t = ![(grid0.coords t 1).val, (grid0.coords t 0).val])

def results (c : Dev nD) : FVec Ideal S4224x1024 .f32 := byColsPlus (M := 4224) (N := 1024) (K := 2816) (m ((c : Thread nD τ).loc main_arg0)) (m ((c : Thread nD τ).loc main_arg1)) (m ((c : Thread nD τ).loc main_arg2))

theorem stored (c : Dev nD) (t : Fin cfg0.N) : (dats m 0 c).after 3 t = k0_pay1 (F := Ideal) (iblk m c 0 t) (iblk m c 1 t) (iblk m c 2 t) := by
  rw [after0_3]
  unfold outsAt0 out0_A_3 kernelRun0_A
  refine (stored_whole (S := S1056x1024) (e := .f32) _ (by decide) _ _).trans ?_
  rw [loaded_whole _ (by decide), loaded_whole _ (by decide), loaded_whole _ (by decide)]

theorem final (c : Dev nD) : (dats m 0 c).arrAt 3 cfg0.N = results m c := by
  refine (dats m 0 c).arrAt_eq_of_covers 3 (results m c) (by decide +kernel) fun t hf y => ?_
  blk_simp
  rw [stored]
  pointwise [k0_pay1]
  unfold results byColsPlus byCols
  refine congrArg₂ (fun a b : EReal => a + b) (sum_of_factors (fun k => ?_) (fun k => ?_)) ?_
  · blk_ext [iblk, V, (idx t).1, (idx t).2.2.2]
  · blk_ext [iblk, V, (idx t).2.1, (idx t).2.2.2]
  · blk_ext [iblk, V, (idx t).2.2.1, (idx t).2.2.2]

theorem frame : Cert.quiescent_KernelFfnDown (hKernelFfnDown := Cert.KernelFfnDown.Gen.facts) := fun m ρ _ => Cert.KernelFfnDown.Gen.frame m ρ

theorem frame_ideal : Cert.quiescent_KernelFfnDownIdeal (hKernelFfnDownIdeal := Gen.facts) := fun m ρ _ => Gen.frame m ρ

theorem frame_reference : Cert.quiescent_ReferenceFfnDownIdeal (hReferenceFfnDownIdeal := Cert.ReferenceFfnDownIdeal.Gen.facts) := fun m ρ _ =>
  (θ_run Cert.ReferenceFfnDownIdeal.defs _ _).mono (fun r h => ⟨fun c => (h c).2, sem_eq_zero_of_no_sems (by decide) r.2⟩) (Cert.ReferenceFfnDownIdeal.Value.run m ρ)

theorem frame_reference_DNormFfnU : Cert.quiescent_ReferenceDNormFfnUIdeal (hReferenceDNormFfnUIdeal := Cert.ReferenceDNormFfnUIdeal.Gen.facts) := fun m ρ _ =>
  (θ_run Cert.ReferenceDNormFfnUIdeal.defs _ _).mono (fun r h => ⟨fun c => (h c).2, sem_eq_zero_of_no_sems (by decide) r.2⟩) (Cert.ReferenceDNormFfnUIdeal.Value.run m ρ)

theorem preserves : Cert.preserves_KernelFfnDown_KernelFfnDownIdeal := trivial

theorem algebraic : Cert.algebraic_KernelFfnDownIdeal_ReferenceFfnDownIdeal (hKernelFfnDownIdeal := Gen.facts) (hReferenceFfnDownIdeal := Cert.ReferenceFfnDownIdeal.Gen.facts) :=
  fun m g m' g' _ hargs => ⟨results m, (θ_run defs _ _).mono (fun r h c => ⟨(h c).1.trans (final m c), (h c).2⟩) (Value.run_blocks m g),
    (θ_run Cert.ReferenceFfnDownIdeal.defs _ _).mono (fun r h c => ⟨(h c).1.trans (by
      rw [(hargs c).1, (hargs c).2.1, (hargs c).2.2]
      funext y
      unfold results byColsPlus byCols
      pointwise), (h c).2⟩) (Cert.ReferenceFfnDownIdeal.Value.run m' g')⟩

theorem algebraic_DNormFfnU : Cert.algebraic_KernelFfnDownIdeal_ReferenceDNormFfnUIdeal (hKernelFfnDownIdeal := Gen.facts) (hReferenceDNormFfnUIdeal := Cert.ReferenceDNormFfnUIdeal.Gen.facts) :=
  fun m g m' g' _ hargs => ⟨results m, (θ_run defs _ _).mono (fun r h c => ⟨(h c).1.trans (final m c), (h c).2⟩) (Value.run_blocks m g),
    (θ_run Cert.ReferenceDNormFfnUIdeal.defs _ _).mono (fun r h c => ⟨(h c).1.trans (by
      rw [(hargs c).1, (hargs c).2.1, (hargs c).2.2]
      funext y
      unfold results byColsPlus byCols
      pointwise), (h c).2⟩) (Cert.ReferenceDNormFfnUIdeal.Value.run m' g')⟩

end Cert.KernelFfnDownIdeal.Product

/-! The weight of the mixers' output, with the rows before the mixers added. -/
namespace Cert.KernelMixOutIdeal.Product

open Cert.KernelMixOutIdeal Cert.KernelMixOutIdeal.Gen

variable (m : (ℓ : Loc nD τ sig) → Buf (Elt Ideal) ℓ)

theorem idx : ∀ t : Fin cfg0.N, win0_0.index t = ![(grid0.coords t 1).val, 0] ∧ win0_1.index t = ![0, (grid0.coords t 0).val] ∧ win0_2.index t = ![(grid0.coords t 1).val, (grid0.coords t 0).val] ∧ win0_3.index t = ![(grid0.coords t 1).val, (grid0.coords t 0).val] :=
  (by decide +kernel : ∀ t : Fin grid0.N, win0_0.index t = ![(grid0.coords t 1).val, 0] ∧ win0_1.index t = ![0, (grid0.coords t 0).val] ∧ win0_2.index t = ![(grid0.coords t 1).val, (grid0.coords t 0).val] ∧ win0_3.index t = ![(grid0.coords t 1).val, (grid0.coords t 0).val])

def results (c : Dev nD) : FVec Ideal S4224x1024 .f32 := byColsPlus (M := 4224) (N := 1024) (K := 1024) (m ((c : Thread nD τ).loc main_arg0)) (m ((c : Thread nD τ).loc main_arg1)) (m ((c : Thread nD τ).loc main_arg2))

theorem stored (c : Dev nD) (t : Fin cfg0.N) : (dats m 0 c).after 3 t = k0_pay1 (F := Ideal) (iblk m c 0 t) (iblk m c 1 t) (iblk m c 2 t) := by
  rw [after0_3]
  unfold outsAt0 out0_A_3 kernelRun0_A
  refine (stored_whole (S := S1056x1024) (e := .f32) _ (by decide) _ _).trans ?_
  rw [loaded_whole _ (by decide), loaded_whole _ (by decide), loaded_whole _ (by decide)]

theorem final (c : Dev nD) : (dats m 0 c).arrAt 3 cfg0.N = results m c := by
  refine (dats m 0 c).arrAt_eq_of_covers 3 (results m c) (by decide +kernel) fun t hf y => ?_
  blk_simp
  rw [stored]
  pointwise [k0_pay1]
  unfold results byColsPlus byCols
  refine congrArg₂ (fun a b : EReal => a + b) (sum_of_factors (fun k => ?_) (fun k => ?_)) ?_
  · blk_ext [iblk, V, (idx t).1, (idx t).2.2.2]
  · blk_ext [iblk, V, (idx t).2.1, (idx t).2.2.2]
  · blk_ext [iblk, V, (idx t).2.2.1, (idx t).2.2.2]

theorem frame : Cert.quiescent_KernelMixOut (hKernelMixOut := Cert.KernelMixOut.Gen.facts) := fun m ρ _ => Cert.KernelMixOut.Gen.frame m ρ

theorem frame_ideal : Cert.quiescent_KernelMixOutIdeal (hKernelMixOutIdeal := Gen.facts) := fun m ρ _ => Gen.frame m ρ

theorem frame_reference : Cert.quiescent_ReferenceMixOutIdeal (hReferenceMixOutIdeal := Cert.ReferenceMixOutIdeal.Gen.facts) := fun m ρ _ =>
  (θ_run Cert.ReferenceMixOutIdeal.defs _ _).mono (fun r h => ⟨fun c => (h c).2, sem_eq_zero_of_no_sems (by decide) r.2⟩) (Cert.ReferenceMixOutIdeal.Value.run m ρ)

theorem preserves : Cert.preserves_KernelMixOut_KernelMixOutIdeal := trivial

theorem algebraic : Cert.algebraic_KernelMixOutIdeal_ReferenceMixOutIdeal (hKernelMixOutIdeal := Gen.facts) (hReferenceMixOutIdeal := Cert.ReferenceMixOutIdeal.Gen.facts) :=
  fun m g m' g' _ hargs => ⟨results m, (θ_run defs _ _).mono (fun r h c => ⟨(h c).1.trans (final m c), (h c).2⟩) (Value.run_blocks m g),
    (θ_run Cert.ReferenceMixOutIdeal.defs _ _).mono (fun r h c => ⟨(h c).1.trans (by
      rw [(hargs c).1, (hargs c).2.1, (hargs c).2.2]
      funext y
      unfold results byColsPlus byCols
      pointwise), (h c).2⟩) (Cert.ReferenceMixOutIdeal.Value.run m' g')⟩

end Cert.KernelMixOutIdeal.Product

/-! The gradient through the padded input weight of the step sizes. -/
namespace Cert.KernelDUDtIdeal.Product

open Cert.KernelDUDtIdeal Cert.KernelDUDtIdeal.Gen

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

def results (c : Dev nD) : FVec Ideal S4224x1024 .f32 := byCols (M := 4224) (N := 1024) (K := 128) (m ((c : Thread nD τ).loc main_arg0)) (m ((c : Thread nD τ).loc main_arg1))

theorem stored (c : Dev nD) (t : Fin cfg0.N) : (dats m 0 c).after 2 t = k0_pay1 (F := Ideal) (iblk m c 0 t) (iblk m c 1 t) := by
  rw [after0_2]
  unfold outsAt0 out0_A_2 kernelRun0_A
  refine (stored_whole (S := S1056x1024) (e := .f32) _ (by decide) _ _).trans ?_
  rw [loaded_whole _ (by decide), loaded_whole _ (by decide)]

theorem final (c : Dev nD) : (dats m 0 c).arrAt 2 cfg0.N = results m c := by
  refine (dats m 0 c).arrAt_eq_of_covers 2 (results m c) (by decide +kernel) fun t hf y => ?_
  blk_simp
  rw [stored]
  pointwise [k0_pay1]
  unfold results byCols
  refine sum_of_factors (fun k => ?_) (fun k => ?_)
  · blk_ext [iblk, V, (idx t).1, (idx t).2.2]
  · blk_ext [iblk, V, (idx t).2.1, (idx t).2.2]

theorem frame : Cert.quiescent_KernelDUDt (hKernelDUDt := Cert.KernelDUDt.Gen.facts) := fun m ρ _ => Cert.KernelDUDt.Gen.frame m ρ

theorem frame_ideal : Cert.quiescent_KernelDUDtIdeal (hKernelDUDtIdeal := Gen.facts) := fun m ρ _ => Gen.frame m ρ

theorem frame_reference : Cert.quiescent_ReferenceDUDtIdeal (hReferenceDUDtIdeal := Cert.ReferenceDUDtIdeal.Gen.facts) := fun m ρ _ =>
  (θ_run Cert.ReferenceDUDtIdeal.defs _ _).mono (fun r h => ⟨fun c => (h c).2, sem_eq_zero_of_no_sems (by decide) r.2⟩) (Cert.ReferenceDUDtIdeal.Value.run m ρ)

theorem preserves : Cert.preserves_KernelDUDt_KernelDUDtIdeal := trivial

theorem algebraic : Cert.algebraic_KernelDUDtIdeal_ReferenceDUDtIdeal (hKernelDUDtIdeal := Gen.facts) (hReferenceDUDtIdeal := Cert.ReferenceDUDtIdeal.Gen.facts) :=
  fun m g m' g' _ hargs => ⟨results m, (θ_run defs _ _).mono (fun r h c => ⟨(h c).1.trans (final m c), (h c).2⟩) (Value.run_blocks m g),
    (θ_run Cert.ReferenceDUDtIdeal.defs _ _).mono (fun r h c => ⟨(h c).1.trans (by
      rw [(hargs c).1, (hargs c).2]
      funext y
      unfold results byCols
      pointwise), (h c).2⟩) (Cert.ReferenceDUDtIdeal.Value.run m' g')⟩

end Cert.KernelDUDtIdeal.Product

end
-- ==== Proof.ProductsByHalves.lean ====
/-
  Gradients of weights, by kernels that take the rows in two halves: every column of the left array with every column of the
  right one. For each program: where its blocks stand, what a block's last point leaves, the array after the run, and the
  claims.
-/
module

public import proofs.«01_k».proof.Proof.Products
public import proofs.«01_k».proof.Proof.Gen.KernelGInGatesIdeal.Value
public import proofs.«01_k».proof.Proof.Gen.KernelGInGates.Frame
public import proofs.«01_k».proof.Proof.Gen.ReferenceGInGatesIdeal.Run
public import proofs.«01_k».proof.Proof.Gen.ReferenceGSsdOutIdeal.Run
public import proofs.«01_k».proof.Proof.Gen.KernelGFfnUpIdeal.Value
public import proofs.«01_k».proof.Proof.Gen.KernelGFfnUp.Frame
public import proofs.«01_k».proof.Proof.Gen.ReferenceGFfnUpIdeal.Run
public import proofs.«01_k».proof.Proof.Gen.KernelGFfnDownIdeal.Value
public import proofs.«01_k».proof.Proof.Gen.KernelGFfnDown.Frame
public import proofs.«01_k».proof.Proof.Gen.ReferenceGFfnDownIdeal.Run
public import proofs.«01_k».proof.Proof.Gen.KernelGRetOutIdeal.Value
public import proofs.«01_k».proof.Proof.Gen.KernelGRetOut.Frame
public import proofs.«01_k».proof.Proof.Gen.ReferenceGRetOutIdeal.Run
public import proofs.«01_k».proof.Proof.Gen.KernelGOutIdeal.Value
public import proofs.«01_k».proof.Proof.Gen.KernelGOut.Frame
public import proofs.«01_k».proof.Proof.Gen.ReferenceGOutIdeal.Run
public import proofs.«01_k».proof.Proof.Gen.KernelGInDtIdeal.Value
public import proofs.«01_k».proof.Proof.Gen.KernelGInDt.Frame
public import proofs.«01_k».proof.Proof.Gen.ReferenceGInDtIdeal.Run
public import proofs.«01_k».proof.Defs

@[expose] public section

noncomputable section

open Cert.Products Idealize.ShloMosaic Idealize.ShloMosaic.TcCoe Idealize.SL.Sem

/-! The input weight of the gates; by the same program, the state-space mixer's output weight. -/
namespace Cert.KernelGInGatesIdeal.Product

open Cert.KernelGInGatesIdeal Cert.KernelGInGatesIdeal.Gen

variable (m : (ℓ : Loc nD τ sig) → Buf (Elt Ideal) ℓ)

theorem idx : ∀ t : Fin cfg0.N, win0_0.index t = ![t.val % 2, t.val / 2] ∧ win0_1.index t = ![t.val % 2, 0] ∧ win0_2.index t = ![t.val / 2, 0] :=
  (by decide +kernel : ∀ t : Fin grid0.N, win0_0.index t = ![t.val % 2, t.val / 2] ∧ win0_1.index t = ![t.val % 2, 0] ∧ win0_2.index t = ![t.val / 2, 0])

theorem last_of_flush : ∀ t : Fin cfg0.N, (cfg0.win 2).flush t = true → t.val % 2 = 1 :=
  (by decide +kernel : ∀ t : Fin grid0.N, (cfg0.win 2).flush t = true → t.val % 2 = 1)

abbrev left (c : Dev nD) : S4224x2048.Idx → EReal := m ((c : Thread nD τ).loc main_arg0)
abbrev right (c : Dev nD) : S4224x1024.Idx → EReal := m ((c : Thread nD τ).loc main_arg1)

def results (c : Dev nD) : FVec Ideal S2048x1024 .bf16 := colsByCols (M := 2048) (N := 1024) (K := 4224) (left m c) (right m c)

theorem stored (c : Dev nD) (t : Fin cfg0.N) (ht : t.val % 2 = 1) (hb : t.val - 1 < cfg0.N) :
    (dats m 0 c).after 2 t = k0_pay4 (F := Ideal) (k0_pay3 (F := Ideal) (iblk m c 0 t) (iblk m c 1 t) (k0_pay2 (F := Ideal) (iblk m c 0 ⟨t.val - 1, hb⟩) (iblk m c 1 ⟨t.val - 1, hb⟩))) := by
  rw [after0_2, outsAt0_B m c t (by omega) ht ht]
  dsimp only
  rw [outsAt0_A m c ⟨t.val - 1, hb⟩ (by dsimp only; omega) (by dsimp only; omega) (by dsimp only; omega)]
  unfold out0_B_2 kernelRun0_B
  refine (stored_whole (S := S1024x1024) (off := ![0, 0]) (e := .bf16) _ (by decide) _ _).trans (congrArg (k0_pay4 (F := Ideal)) ?_)
  unfold kernelRun0_B.sl.v12
  refine (held_whole (S := S1024x1024) (off := ![0, 0]) (e := .f32) _ (by decide) _ _).trans ?_
  rw [loaded_whole _ (by decide), loaded_whole _ (by decide), loaded_whole _ (by decide)]
  refine congrArg (k0_pay3 (F := Ideal) _ _) ?_
  dsimp only
  unfold sout0_A_0 kernelRun0_A
  refine (stored_whole (S := S1024x1024) (off := ![0, 0]) (e := .f32) _ (by decide) _ _).trans ?_
  rw [loaded_whole _ (by decide), loaded_whole _ (by decide)]

theorem part_at (c : Dev nD) (t : Fin cfg0.N) (s : Fin 2) (hs : t.val % 2 = s.val) (y : S1024x1024.Idx) (z : S2048x1024.Idx)
    (h0 : (z 0).val = 1024 * (t.val / 2) + (y 0).val) (h1 : (z 1).val = (y 1).val) :
    (k0_pay1 (F := Ideal) (iblk m c 0 t) (iblk m c 1 t) y : EReal)
      = ∑ k : Fin 2112, left m c (ix2 ((atBlock s k).cast (by norm_num : 2 * 2112 = 4224)) (z 0)) * right m c (ix2 ((atBlock s k).cast (by norm_num : 2 * 2112 = 4224)) (z 1)) := by
  pointwise [k0_pay1]
  unfold left right
  refine sum_of_factors (fun k => ?_) (fun k => ?_)
  · blk_ext [iblk, V, (idx t).1, hs, atBlock, h0]
  · blk_ext [iblk, V, (idx t).2.1, hs, atBlock, h1]

theorem final (c : Dev nD) : (dats m 0 c).arrAt 2 cfg0.N = results m c := by
  refine (dats m 0 c).arrAt_eq_of_covers 2 (results m c) (by decide +kernel) fun t hf y => ?_
  have ht := last_of_flush t hf
  have hb : t.val - 1 < cfg0.N := Nat.lt_of_le_of_lt (Nat.sub_le _ _) t.isLt
  have h0 : (((win0_2.blk t).view.emb y) 0 : ℕ) = 1024 * (t.val / 2) + (y 0).val := by
    blk_simp [(idx t).2.2]
    omega
  have h1 : (((win0_2.blk t).view.emb y) 1 : ℕ) = (y 1).val := by blk_simp [(idx t).2.2]
  blk_simp
  rw [stored m c t ht hb]
  unfold k0_pay4 k0_pay3 k0_pay2
  simp only [shapeCast_self]
  exact sum_of_halves (by norm_num) (part_at m c ⟨t.val - 1, hb⟩ 0 (by dsimp only; omega) y _ (h0.trans (by dsimp only; omega)) h1) (part_at m c t 1 ht y _ h0 h1)

theorem frame : Cert.quiescent_KernelGInGates (hKernelGInGates := Cert.KernelGInGates.Gen.facts) := fun m ρ _ => Cert.KernelGInGates.Gen.frame m ρ

theorem frame_ideal : Cert.quiescent_KernelGInGatesIdeal (hKernelGInGatesIdeal := Gen.facts) := fun m ρ _ => Gen.frame m ρ

theorem frame_reference : Cert.quiescent_ReferenceGInGatesIdeal (hReferenceGInGatesIdeal := Cert.ReferenceGInGatesIdeal.Gen.facts) := fun m ρ _ =>
  (θ_run Cert.ReferenceGInGatesIdeal.defs _ _).mono (fun r h => ⟨fun c => (h c).2, sem_eq_zero_of_no_sems (by decide) r.2⟩) (Cert.ReferenceGInGatesIdeal.Value.run m ρ)

theorem frame_reference_GSsdOut : Cert.quiescent_ReferenceGSsdOutIdeal (hReferenceGSsdOutIdeal := Cert.ReferenceGSsdOutIdeal.Gen.facts) := fun m ρ _ =>
  (θ_run Cert.ReferenceGSsdOutIdeal.defs _ _).mono (fun r h => ⟨fun c => (h c).2, sem_eq_zero_of_no_sems (by decide) r.2⟩) (Cert.ReferenceGSsdOutIdeal.Value.run m ρ)

theorem preserves : Cert.preserves_KernelGInGates_KernelGInGatesIdeal := trivial

theorem algebraic : Cert.algebraic_KernelGInGatesIdeal_ReferenceGInGatesIdeal (hKernelGInGatesIdeal := Gen.facts) (hReferenceGInGatesIdeal := Cert.ReferenceGInGatesIdeal.Gen.facts) :=
  fun m g m' g' _ hargs => ⟨results m, (θ_run defs _ _).mono (fun r h c => ⟨(h c).1.trans (final m c), (h c).2⟩) (Value.run_blocks m g),
    (θ_run Cert.ReferenceGInGatesIdeal.defs _ _).mono (fun r h c => ⟨(h c).1.trans (by
      rw [(hargs c).1, (hargs c).2]
      funext y
      unfold results colsByCols left right
      pointwise), (h c).2⟩) (Cert.ReferenceGInGatesIdeal.Value.run m' g')⟩

/-- The reference writes this gradient with the right array first. -/
theorem algebraic_GSsdOut : Cert.algebraic_KernelGInGatesIdeal_ReferenceGSsdOutIdeal (hKernelGInGatesIdeal := Gen.facts) (hReferenceGSsdOutIdeal := Cert.ReferenceGSsdOutIdeal.Gen.facts) :=
  fun m g m' g' _ hargs => ⟨results m, (θ_run defs _ _).mono (fun r h c => ⟨(h c).1.trans (final m c), (h c).2⟩) (Value.run_blocks m g),
    (θ_run Cert.ReferenceGSsdOutIdeal.defs _ _).mono (fun r h c => ⟨(h c).1.trans (by
      rw [(hargs c).1, (hargs c).2]
      funext y
      unfold results
      rw [← colsByCols_comm]
      unfold left right
      pointwise), (h c).2⟩) (Cert.ReferenceGSsdOutIdeal.Value.run m' g')⟩

end Cert.KernelGInGatesIdeal.Product

/-! One half of the feed-forward block's first weight. -/
namespace Cert.KernelGFfnUpIdeal.Product

open Cert.KernelGFfnUpIdeal Cert.KernelGFfnUpIdeal.Gen

variable (m : (ℓ : Loc nD τ sig) → Buf (Elt Ideal) ℓ)

theorem idx : ∀ t : Fin cfg0.N, win0_0.index t = ![t.val % 2, t.val / 2] ∧ win0_1.index t = ![t.val % 2, 0] ∧ win0_2.index t = ![t.val / 2, 0] :=
  (by decide +kernel : ∀ t : Fin grid0.N, win0_0.index t = ![t.val % 2, t.val / 2] ∧ win0_1.index t = ![t.val % 2, 0] ∧ win0_2.index t = ![t.val / 2, 0])

theorem last_of_flush : ∀ t : Fin cfg0.N, (cfg0.win 2).flush t = true → t.val % 2 = 1 :=
  (by decide +kernel : ∀ t : Fin grid0.N, (cfg0.win 2).flush t = true → t.val % 2 = 1)

abbrev left (c : Dev nD) : S4224x2816.Idx → EReal := m ((c : Thread nD τ).loc main_arg0)
abbrev right (c : Dev nD) : S4224x1024.Idx → EReal := m ((c : Thread nD τ).loc main_arg1)

def results (c : Dev nD) : FVec Ideal S2816x1024 .bf16 := colsByCols (M := 2816) (N := 1024) (K := 4224) (left m c) (right m c)

theorem stored (c : Dev nD) (t : Fin cfg0.N) (ht : t.val % 2 = 1) (hb : t.val - 1 < cfg0.N) :
    (dats m 0 c).after 2 t = k0_pay4 (F := Ideal) (k0_pay3 (F := Ideal) (iblk m c 0 t) (iblk m c 1 t) (k0_pay2 (F := Ideal) (iblk m c 0 ⟨t.val - 1, hb⟩) (iblk m c 1 ⟨t.val - 1, hb⟩))) := by
  rw [after0_2, outsAt0_B m c t (by omega) ht ht]
  dsimp only
  rw [outsAt0_A m c ⟨t.val - 1, hb⟩ (by dsimp only; omega) (by dsimp only; omega) (by dsimp only; omega)]
  unfold out0_B_2 kernelRun0_B
  refine (stored_whole (S := S1408x1024) (off := ![0, 0]) (e := .bf16) _ (by decide) _ _).trans (congrArg (k0_pay4 (F := Ideal)) ?_)
  unfold kernelRun0_B.sl.v12
  refine (held_whole (S := S1408x1024) (off := ![0, 0]) (e := .f32) _ (by decide) _ _).trans ?_
  rw [loaded_whole _ (by decide), loaded_whole _ (by decide), loaded_whole _ (by decide)]
  refine congrArg (k0_pay3 (F := Ideal) _ _) ?_
  dsimp only
  unfold sout0_A_0 kernelRun0_A
  refine (stored_whole (S := S1408x1024) (off := ![0, 0]) (e := .f32) _ (by decide) _ _).trans ?_
  rw [loaded_whole _ (by decide), loaded_whole _ (by decide)]

theorem part_at (c : Dev nD) (t : Fin cfg0.N) (s : Fin 2) (hs : t.val % 2 = s.val) (y : S1408x1024.Idx) (z : S2816x1024.Idx)
    (h0 : (z 0).val = 1408 * (t.val / 2) + (y 0).val) (h1 : (z 1).val = (y 1).val) :
    (k0_pay1 (F := Ideal) (iblk m c 0 t) (iblk m c 1 t) y : EReal)
      = ∑ k : Fin 2112, left m c (ix2 ((atBlock s k).cast (by norm_num : 2 * 2112 = 4224)) (z 0)) * right m c (ix2 ((atBlock s k).cast (by norm_num : 2 * 2112 = 4224)) (z 1)) := by
  pointwise [k0_pay1]
  unfold left right
  refine sum_of_factors (fun k => ?_) (fun k => ?_)
  · blk_ext [iblk, V, (idx t).1, hs, atBlock, h0]
  · blk_ext [iblk, V, (idx t).2.1, hs, atBlock, h1]

theorem final (c : Dev nD) : (dats m 0 c).arrAt 2 cfg0.N = results m c := by
  refine (dats m 0 c).arrAt_eq_of_covers 2 (results m c) (by decide +kernel) fun t hf y => ?_
  have ht := last_of_flush t hf
  have hb : t.val - 1 < cfg0.N := Nat.lt_of_le_of_lt (Nat.sub_le _ _) t.isLt
  have h0 : (((win0_2.blk t).view.emb y) 0 : ℕ) = 1408 * (t.val / 2) + (y 0).val := by
    blk_simp [(idx t).2.2]
    omega
  have h1 : (((win0_2.blk t).view.emb y) 1 : ℕ) = (y 1).val := by blk_simp [(idx t).2.2]
  blk_simp
  rw [stored m c t ht hb]
  unfold k0_pay4 k0_pay3 k0_pay2
  simp only [shapeCast_self]
  exact sum_of_halves (by norm_num) (part_at m c ⟨t.val - 1, hb⟩ 0 (by dsimp only; omega) y _ (h0.trans (by dsimp only; omega)) h1) (part_at m c t 1 ht y _ h0 h1)

theorem frame : Cert.quiescent_KernelGFfnUp (hKernelGFfnUp := Cert.KernelGFfnUp.Gen.facts) := fun m ρ _ => Cert.KernelGFfnUp.Gen.frame m ρ

theorem frame_ideal : Cert.quiescent_KernelGFfnUpIdeal (hKernelGFfnUpIdeal := Gen.facts) := fun m ρ _ => Gen.frame m ρ

theorem frame_reference : Cert.quiescent_ReferenceGFfnUpIdeal (hReferenceGFfnUpIdeal := Cert.ReferenceGFfnUpIdeal.Gen.facts) := fun m ρ _ =>
  (θ_run Cert.ReferenceGFfnUpIdeal.defs _ _).mono (fun r h => ⟨fun c => (h c).2, sem_eq_zero_of_no_sems (by decide) r.2⟩) (Cert.ReferenceGFfnUpIdeal.Value.run m ρ)

theorem preserves : Cert.preserves_KernelGFfnUp_KernelGFfnUpIdeal := trivial

theorem algebraic : Cert.algebraic_KernelGFfnUpIdeal_ReferenceGFfnUpIdeal (hKernelGFfnUpIdeal := Gen.facts) (hReferenceGFfnUpIdeal := Cert.ReferenceGFfnUpIdeal.Gen.facts) :=
  fun m g m' g' _ hargs => ⟨results m, (θ_run defs _ _).mono (fun r h c => ⟨(h c).1.trans (final m c), (h c).2⟩) (Value.run_blocks m g),
    (θ_run Cert.ReferenceGFfnUpIdeal.defs _ _).mono (fun r h c => ⟨(h c).1.trans (by
      rw [(hargs c).1, (hargs c).2]
      funext y
      unfold results colsByCols left right
      pointwise), (h c).2⟩) (Cert.ReferenceGFfnUpIdeal.Value.run m' g')⟩

end Cert.KernelGFfnUpIdeal.Product

/-! The feed-forward block's second weight; the reference writes the right array first. -/
namespace Cert.KernelGFfnDownIdeal.Product

open Cert.KernelGFfnDownIdeal Cert.KernelGFfnDownIdeal.Gen

variable (m : (ℓ : Loc nD τ sig) → Buf (Elt Ideal) ℓ)

theorem idx : ∀ t : Fin cfg0.N, win0_0.index t = ![t.val % 2, t.val / 2] ∧ win0_1.index t = ![t.val % 2, 0] ∧ win0_2.index t = ![t.val / 2, 0] :=
  (by decide +kernel : ∀ t : Fin grid0.N, win0_0.index t = ![t.val % 2, t.val / 2] ∧ win0_1.index t = ![t.val % 2, 0] ∧ win0_2.index t = ![t.val / 2, 0])

theorem last_of_flush : ∀ t : Fin cfg0.N, (cfg0.win 2).flush t = true → t.val % 2 = 1 :=
  (by decide +kernel : ∀ t : Fin grid0.N, (cfg0.win 2).flush t = true → t.val % 2 = 1)

abbrev left (c : Dev nD) : S4224x2816.Idx → EReal := m ((c : Thread nD τ).loc main_arg0)
abbrev right (c : Dev nD) : S4224x1024.Idx → EReal := m ((c : Thread nD τ).loc main_arg1)

def results (c : Dev nD) : FVec Ideal S2816x1024 .bf16 := colsByCols (M := 2816) (N := 1024) (K := 4224) (left m c) (right m c)

theorem stored (c : Dev nD) (t : Fin cfg0.N) (ht : t.val % 2 = 1) (hb : t.val - 1 < cfg0.N) :
    (dats m 0 c).after 2 t = k0_pay4 (F := Ideal) (k0_pay3 (F := Ideal) (iblk m c 0 t) (iblk m c 1 t) (k0_pay2 (F := Ideal) (iblk m c 0 ⟨t.val - 1, hb⟩) (iblk m c 1 ⟨t.val - 1, hb⟩))) := by
  rw [after0_2, outsAt0_B m c t (by omega) ht ht]
  dsimp only
  rw [outsAt0_A m c ⟨t.val - 1, hb⟩ (by dsimp only; omega) (by dsimp only; omega) (by dsimp only; omega)]
  unfold out0_B_2 kernelRun0_B
  refine (stored_whole (S := S1408x1024) (off := ![0, 0]) (e := .bf16) _ (by decide) _ _).trans (congrArg (k0_pay4 (F := Ideal)) ?_)
  unfold kernelRun0_B.sl.v13
  refine (held_whole (S := S1408x1024) (off := ![0, 0]) (e := .f32) _ (by decide) _ _).trans ?_
  rw [loaded_whole _ (by decide), loaded_whole _ (by decide), loaded_whole _ (by decide)]
  refine congrArg (k0_pay3 (F := Ideal) _ _) ?_
  dsimp only
  unfold sout0_A_0 kernelRun0_A
  refine (stored_whole (S := S1408x1024) (off := ![0, 0]) (e := .f32) _ (by decide) _ _).trans ?_
  rw [loaded_whole _ (by decide), loaded_whole _ (by decide)]

theorem part_at (c : Dev nD) (t : Fin cfg0.N) (s : Fin 2) (hs : t.val % 2 = s.val) (y : S1408x1024.Idx) (z : S2816x1024.Idx)
    (h0 : (z 0).val = 1408 * (t.val / 2) + (y 0).val) (h1 : (z 1).val = (y 1).val) :
    (k0_pay1 (F := Ideal) (iblk m c 0 t) (iblk m c 1 t) y : EReal)
      = ∑ k : Fin 2112, left m c (ix2 ((atBlock s k).cast (by norm_num : 2 * 2112 = 4224)) (z 0)) * right m c (ix2 ((atBlock s k).cast (by norm_num : 2 * 2112 = 4224)) (z 1)) := by
  pointwise [k0_pay1]
  unfold left right
  refine sum_of_factors (fun k => ?_) (fun k => ?_)
  · blk_ext [iblk, V, (idx t).1, hs, atBlock, h0]
  · blk_ext [iblk, V, (idx t).2.1, hs, atBlock, h1]

theorem final (c : Dev nD) : (dats m 0 c).arrAt 2 cfg0.N = results m c := by
  refine (dats m 0 c).arrAt_eq_of_covers 2 (results m c) (by decide +kernel) fun t hf y => ?_
  have ht := last_of_flush t hf
  have hb : t.val - 1 < cfg0.N := Nat.lt_of_le_of_lt (Nat.sub_le _ _) t.isLt
  have h0 : (((win0_2.blk t).view.emb y) 0 : ℕ) = 1408 * (t.val / 2) + (y 0).val := by
    blk_simp [(idx t).2.2]
    omega
  have h1 : (((win0_2.blk t).view.emb y) 1 : ℕ) = (y 1).val := by blk_simp [(idx t).2.2]
  blk_simp
  rw [stored m c t ht hb]
  unfold k0_pay4 k0_pay3 k0_pay2
  simp only [shapeCast_self]
  exact sum_of_halves (by norm_num) (part_at m c ⟨t.val - 1, hb⟩ 0 (by dsimp only; omega) y _ (h0.trans (by dsimp only; omega)) h1) (part_at m c t 1 ht y _ h0 h1)

theorem frame : Cert.quiescent_KernelGFfnDown (hKernelGFfnDown := Cert.KernelGFfnDown.Gen.facts) := fun m ρ _ => Cert.KernelGFfnDown.Gen.frame m ρ

theorem frame_ideal : Cert.quiescent_KernelGFfnDownIdeal (hKernelGFfnDownIdeal := Gen.facts) := fun m ρ _ => Gen.frame m ρ

theorem frame_reference : Cert.quiescent_ReferenceGFfnDownIdeal (hReferenceGFfnDownIdeal := Cert.ReferenceGFfnDownIdeal.Gen.facts) := fun m ρ _ =>
  (θ_run Cert.ReferenceGFfnDownIdeal.defs _ _).mono (fun r h => ⟨fun c => (h c).2, sem_eq_zero_of_no_sems (by decide) r.2⟩) (Cert.ReferenceGFfnDownIdeal.Value.run m ρ)

theorem preserves : Cert.preserves_KernelGFfnDown_KernelGFfnDownIdeal := trivial

theorem algebraic : Cert.algebraic_KernelGFfnDownIdeal_ReferenceGFfnDownIdeal (hKernelGFfnDownIdeal := Gen.facts) (hReferenceGFfnDownIdeal := Cert.ReferenceGFfnDownIdeal.Gen.facts) :=
  fun m g m' g' _ hargs => ⟨results m, (θ_run defs _ _).mono (fun r h c => ⟨(h c).1.trans (final m c), (h c).2⟩) (Value.run_blocks m g),
    (θ_run Cert.ReferenceGFfnDownIdeal.defs _ _).mono (fun r h c => ⟨(h c).1.trans (by
      rw [(hargs c).1, (hargs c).2]
      funext y
      unfold results
      rw [← colsByCols_comm]
      unfold left right
      pointwise), (h c).2⟩) (Cert.ReferenceGFfnDownIdeal.Value.run m' g')⟩

end Cert.KernelGFfnDownIdeal.Product

/-! The retention's output weight, one block wide; the reference writes the right array first. -/
namespace Cert.KernelGRetOutIdeal.Product

open Cert.KernelGRetOutIdeal Cert.KernelGRetOutIdeal.Gen

variable (m : (ℓ : Loc nD τ sig) → Buf (Elt Ideal) ℓ)

theorem idx : ∀ t : Fin cfg0.N, win0_0.index t = ![t.val % 2, 0] ∧ win0_1.index t = ![t.val % 2, 0] ∧ win0_2.index t = ![0, 0] :=
  (by decide +kernel : ∀ t : Fin grid0.N, win0_0.index t = ![t.val % 2, 0] ∧ win0_1.index t = ![t.val % 2, 0] ∧ win0_2.index t = ![0, 0])

theorem last_of_flush : ∀ t : Fin cfg0.N, (cfg0.win 2).flush t = true → t.val % 2 = 1 :=
  (by decide +kernel : ∀ t : Fin grid0.N, (cfg0.win 2).flush t = true → t.val % 2 = 1)

abbrev left (c : Dev nD) : S4224x1024.Idx → EReal := m ((c : Thread nD τ).loc main_arg0)
abbrev right (c : Dev nD) : S4224x1024.Idx → EReal := m ((c : Thread nD τ).loc main_arg1)

def results (c : Dev nD) : FVec Ideal S1024x1024 .bf16 := colsByCols (M := 1024) (N := 1024) (K := 4224) (left m c) (right m c)

theorem stored (c : Dev nD) (t : Fin cfg0.N) (ht : t.val % 2 = 1) (hb : t.val - 1 < cfg0.N) :
    (dats m 0 c).after 2 t = k0_pay4 (F := Ideal) (k0_pay3 (F := Ideal) (iblk m c 0 t) (iblk m c 1 t) (k0_pay2 (F := Ideal) (iblk m c 0 ⟨t.val - 1, hb⟩) (iblk m c 1 ⟨t.val - 1, hb⟩))) := by
  rw [after0_2, outsAt0_B m c t (by omega) ht ht]
  dsimp only
  rw [outsAt0_A m c ⟨t.val - 1, hb⟩ (by dsimp only; omega) (by dsimp only; omega) (by dsimp only; omega)]
  unfold out0_B_2 kernelRun0_B
  refine (stored_whole (S := S1024x1024) (off := ![0, 0]) (e := .bf16) _ (by decide) _ _).trans (congrArg (k0_pay4 (F := Ideal)) ?_)
  unfold kernelRun0_B.sl.v12
  refine (held_whole (S := S1024x1024) (off := ![0, 0]) (e := .f32) _ (by decide) _ _).trans ?_
  rw [loaded_whole _ (by decide), loaded_whole _ (by decide), loaded_whole _ (by decide)]
  refine congrArg (k0_pay3 (F := Ideal) _ _) ?_
  dsimp only
  unfold sout0_A_0 kernelRun0_A
  refine (stored_whole (S := S1024x1024) (off := ![0, 0]) (e := .f32) _ (by decide) _ _).trans ?_
  rw [loaded_whole _ (by decide), loaded_whole _ (by decide)]

theorem part_at (c : Dev nD) (t : Fin cfg0.N) (s : Fin 2) (hs : t.val % 2 = s.val) (y z : S1024x1024.Idx)
    (h0 : (z 0).val = (y 0).val) (h1 : (z 1).val = (y 1).val) :
    (k0_pay1 (F := Ideal) (iblk m c 0 t) (iblk m c 1 t) y : EReal)
      = ∑ k : Fin 2112, left m c (ix2 ((atBlock s k).cast (by norm_num : 2 * 2112 = 4224)) (z 0)) * right m c (ix2 ((atBlock s k).cast (by norm_num : 2 * 2112 = 4224)) (z 1)) := by
  pointwise [k0_pay1]
  unfold left right
  refine sum_of_factors (fun k => ?_) (fun k => ?_)
  · blk_ext [iblk, V, (idx t).1, hs, atBlock, h0]
  · blk_ext [iblk, V, (idx t).2.1, hs, atBlock, h1]

theorem final (c : Dev nD) : (dats m 0 c).arrAt 2 cfg0.N = results m c := by
  refine (dats m 0 c).arrAt_eq_of_covers 2 (results m c) (by decide +kernel) fun t hf y => ?_
  have ht := last_of_flush t hf
  have hb : t.val - 1 < cfg0.N := Nat.lt_of_le_of_lt (Nat.sub_le _ _) t.isLt
  have h0 : (((win0_2.blk t).view.emb y) 0 : ℕ) = (y 0).val := by blk_simp [(idx t).2.2]
  have h1 : (((win0_2.blk t).view.emb y) 1 : ℕ) = (y 1).val := by blk_simp [(idx t).2.2]
  blk_simp
  rw [stored m c t ht hb]
  unfold k0_pay4 k0_pay3 k0_pay2
  simp only [shapeCast_self]
  exact sum_of_halves (by norm_num) (part_at m c ⟨t.val - 1, hb⟩ 0 (by dsimp only; omega) y _ h0 h1) (part_at m c t 1 ht y _ h0 h1)

theorem frame : Cert.quiescent_KernelGRetOut (hKernelGRetOut := Cert.KernelGRetOut.Gen.facts) := fun m ρ _ => Cert.KernelGRetOut.Gen.frame m ρ

theorem frame_ideal : Cert.quiescent_KernelGRetOutIdeal (hKernelGRetOutIdeal := Gen.facts) := fun m ρ _ => Gen.frame m ρ

theorem frame_reference : Cert.quiescent_ReferenceGRetOutIdeal (hReferenceGRetOutIdeal := Cert.ReferenceGRetOutIdeal.Gen.facts) := fun m ρ _ =>
  (θ_run Cert.ReferenceGRetOutIdeal.defs _ _).mono (fun r h => ⟨fun c => (h c).2, sem_eq_zero_of_no_sems (by decide) r.2⟩) (Cert.ReferenceGRetOutIdeal.Value.run m ρ)

theorem preserves : Cert.preserves_KernelGRetOut_KernelGRetOutIdeal := trivial

theorem algebraic : Cert.algebraic_KernelGRetOutIdeal_ReferenceGRetOutIdeal (hKernelGRetOutIdeal := Gen.facts) (hReferenceGRetOutIdeal := Cert.ReferenceGRetOutIdeal.Gen.facts) :=
  fun m g m' g' _ hargs => ⟨results m, (θ_run defs _ _).mono (fun r h c => ⟨(h c).1.trans (final m c), (h c).2⟩) (Value.run_blocks m g),
    (θ_run Cert.ReferenceGRetOutIdeal.defs _ _).mono (fun r h c => ⟨(h c).1.trans (by
      rw [(hargs c).1, (hargs c).2]
      funext y
      unfold results
      rw [← colsByCols_comm]
      unfold left right
      pointwise), (h c).2⟩) (Cert.ReferenceGRetOutIdeal.Value.run m' g')⟩

end Cert.KernelGRetOutIdeal.Product

/-! The weight of the mixers' output, one block wide; the reference writes the right array first. -/
namespace Cert.KernelGOutIdeal.Product

open Cert.KernelGOutIdeal Cert.KernelGOutIdeal.Gen

variable (m : (ℓ : Loc nD τ sig) → Buf (Elt Ideal) ℓ)

theorem idx : ∀ t : Fin cfg0.N, win0_0.index t = ![t.val % 2, 0] ∧ win0_1.index t = ![t.val % 2, 0] ∧ win0_2.index t = ![0, 0] :=
  (by decide +kernel : ∀ t : Fin grid0.N, win0_0.index t = ![t.val % 2, 0] ∧ win0_1.index t = ![t.val % 2, 0] ∧ win0_2.index t = ![0, 0])

theorem last_of_flush : ∀ t : Fin cfg0.N, (cfg0.win 2).flush t = true → t.val % 2 = 1 :=
  (by decide +kernel : ∀ t : Fin grid0.N, (cfg0.win 2).flush t = true → t.val % 2 = 1)

abbrev left (c : Dev nD) : S4224x1024.Idx → EReal := m ((c : Thread nD τ).loc main_arg0)
abbrev right (c : Dev nD) : S4224x1024.Idx → EReal := m ((c : Thread nD τ).loc main_arg1)

def results (c : Dev nD) : FVec Ideal S1024x1024 .bf16 := colsByCols (M := 1024) (N := 1024) (K := 4224) (left m c) (right m c)

theorem stored (c : Dev nD) (t : Fin cfg0.N) (ht : t.val % 2 = 1) (hb : t.val - 1 < cfg0.N) :
    (dats m 0 c).after 2 t = k0_pay4 (F := Ideal) (k0_pay3 (F := Ideal) (iblk m c 0 t) (iblk m c 1 t) (k0_pay2 (F := Ideal) (iblk m c 0 ⟨t.val - 1, hb⟩) (iblk m c 1 ⟨t.val - 1, hb⟩))) := by
  rw [after0_2, outsAt0_B m c t (by omega) ht ht]
  dsimp only
  rw [outsAt0_A m c ⟨t.val - 1, hb⟩ (by dsimp only; omega) (by dsimp only; omega) (by dsimp only; omega)]
  unfold out0_B_2 kernelRun0_B
  refine (stored_whole (S := S1024x1024) (off := ![0, 0]) (e := .bf16) _ (by decide) _ _).trans (congrArg (k0_pay4 (F := Ideal)) ?_)
  unfold kernelRun0_B.sl.v13
  refine (held_whole (S := S1024x1024) (off := ![0, 0]) (e := .f32) _ (by decide) _ _).trans ?_
  rw [loaded_whole _ (by decide), loaded_whole _ (by decide), loaded_whole _ (by decide)]
  refine congrArg (k0_pay3 (F := Ideal) _ _) ?_
  dsimp only
  unfold sout0_A_0 kernelRun0_A
  refine (stored_whole (S := S1024x1024) (off := ![0, 0]) (e := .f32) _ (by decide) _ _).trans ?_
  rw [loaded_whole _ (by decide), loaded_whole _ (by decide)]

theorem part_at (c : Dev nD) (t : Fin cfg0.N) (s : Fin 2) (hs : t.val % 2 = s.val) (y z : S1024x1024.Idx)
    (h0 : (z 0).val = (y 0).val) (h1 : (z 1).val = (y 1).val) :
    (k0_pay1 (F := Ideal) (iblk m c 0 t) (iblk m c 1 t) y : EReal)
      = ∑ k : Fin 2112, left m c (ix2 ((atBlock s k).cast (by norm_num : 2 * 2112 = 4224)) (z 0)) * right m c (ix2 ((atBlock s k).cast (by norm_num : 2 * 2112 = 4224)) (z 1)) := by
  pointwise [k0_pay1]
  unfold left right
  refine sum_of_factors (fun k => ?_) (fun k => ?_)
  · blk_ext [iblk, V, (idx t).1, hs, atBlock, h0]
  · blk_ext [iblk, V, (idx t).2.1, hs, atBlock, h1]

theorem final (c : Dev nD) : (dats m 0 c).arrAt 2 cfg0.N = results m c := by
  refine (dats m 0 c).arrAt_eq_of_covers 2 (results m c) (by decide +kernel) fun t hf y => ?_
  have ht := last_of_flush t hf
  have hb : t.val - 1 < cfg0.N := Nat.lt_of_le_of_lt (Nat.sub_le _ _) t.isLt
  have h0 : (((win0_2.blk t).view.emb y) 0 : ℕ) = (y 0).val := by blk_simp [(idx t).2.2]
  have h1 : (((win0_2.blk t).view.emb y) 1 : ℕ) = (y 1).val := by blk_simp [(idx t).2.2]
  blk_simp
  rw [stored m c t ht hb]
  unfold k0_pay4 k0_pay3 k0_pay2
  simp only [shapeCast_self]
  exact sum_of_halves (by norm_num) (part_at m c ⟨t.val - 1, hb⟩ 0 (by dsimp only; omega) y _ h0 h1) (part_at m c t 1 ht y _ h0 h1)

theorem frame : Cert.quiescent_KernelGOut (hKernelGOut := Cert.KernelGOut.Gen.facts) := fun m ρ _ => Cert.KernelGOut.Gen.frame m ρ

theorem frame_ideal : Cert.quiescent_KernelGOutIdeal (hKernelGOutIdeal := Gen.facts) := fun m ρ _ => Gen.frame m ρ

theorem frame_reference : Cert.quiescent_ReferenceGOutIdeal (hReferenceGOutIdeal := Cert.ReferenceGOutIdeal.Gen.facts) := fun m ρ _ =>
  (θ_run Cert.ReferenceGOutIdeal.defs _ _).mono (fun r h => ⟨fun c => (h c).2, sem_eq_zero_of_no_sems (by decide) r.2⟩) (Cert.ReferenceGOutIdeal.Value.run m ρ)

theorem preserves : Cert.preserves_KernelGOut_KernelGOutIdeal := trivial

theorem algebraic : Cert.algebraic_KernelGOutIdeal_ReferenceGOutIdeal (hKernelGOutIdeal := Gen.facts) (hReferenceGOutIdeal := Cert.ReferenceGOutIdeal.Gen.facts) :=
  fun m g m' g' _ hargs => ⟨results m, (θ_run defs _ _).mono (fun r h c => ⟨(h c).1.trans (final m c), (h c).2⟩) (Value.run_blocks m g),
    (θ_run Cert.ReferenceGOutIdeal.defs _ _).mono (fun r h c => ⟨(h c).1.trans (by
      rw [(hargs c).1, (hargs c).2]
      funext y
      unfold results
      rw [← colsByCols_comm]
      unfold left right
      pointwise), (h c).2⟩) (Cert.ReferenceGOutIdeal.Value.run m' g')⟩

end Cert.KernelGOutIdeal.Product

/-! The padded input weight of the step sizes. -/
namespace Cert.KernelGInDtIdeal.Product

open Cert.KernelGInDtIdeal Cert.KernelGInDtIdeal.Gen

variable (m : (ℓ : Loc nD τ sig) → Buf (Elt Ideal) ℓ)

theorem idx : ∀ t : Fin cfg0.N, win0_0.index t = ![t.val % 2, 0] ∧ win0_1.index t = ![t.val % 2, 0] ∧ win0_2.index t = ![0, 0] :=
  (by decide +kernel : ∀ t : Fin grid0.N, win0_0.index t = ![t.val % 2, 0] ∧ win0_1.index t = ![t.val % 2, 0] ∧ win0_2.index t = ![0, 0])

theorem last_of_flush : ∀ t : Fin cfg0.N, (cfg0.win 2).flush t = true → t.val % 2 = 1 :=
  (by decide +kernel : ∀ t : Fin grid0.N, (cfg0.win 2).flush t = true → t.val % 2 = 1)

abbrev left (c : Dev nD) : S4224x128.Idx → EReal := m ((c : Thread nD τ).loc main_arg0)
abbrev right (c : Dev nD) : S4224x1024.Idx → EReal := m ((c : Thread nD τ).loc main_arg1)

def results (c : Dev nD) : FVec Ideal S128x1024 .bf16 := colsByCols (M := 128) (N := 1024) (K := 4224) (left m c) (right m c)

theorem stored (c : Dev nD) (t : Fin cfg0.N) (ht : t.val % 2 = 1) (hb : t.val - 1 < cfg0.N) :
    (dats m 0 c).after 2 t = k0_pay4 (F := Ideal) (k0_pay3 (F := Ideal) (iblk m c 0 t) (iblk m c 1 t) (k0_pay2 (F := Ideal) (iblk m c 0 ⟨t.val - 1, hb⟩) (iblk m c 1 ⟨t.val - 1, hb⟩))) := by
  rw [after0_2, outsAt0_B m c t (by omega) ht ht]
  dsimp only
  rw [outsAt0_A m c ⟨t.val - 1, hb⟩ (by dsimp only; omega) (by dsimp only; omega) (by dsimp only; omega)]
  unfold out0_B_2 kernelRun0_B
  refine (stored_whole (S := S128x1024) (off := ![0, 0]) (e := .bf16) _ (by decide) _ _).trans (congrArg (k0_pay4 (F := Ideal)) ?_)
  unfold kernelRun0_B.sl.v12
  refine (held_whole (S := S128x1024) (off := ![0, 0]) (e := .f32) _ (by decide) _ _).trans ?_
  rw [loaded_whole _ (by decide), loaded_whole _ (by decide), loaded_whole _ (by decide)]
  refine congrArg (k0_pay3 (F := Ideal) _ _) ?_
  dsimp only
  unfold sout0_A_0 kernelRun0_A
  refine (stored_whole (S := S128x1024) (off := ![0, 0]) (e := .f32) _ (by decide) _ _).trans ?_
  rw [loaded_whole _ (by decide), loaded_whole _ (by decide)]

theorem part_at (c : Dev nD) (t : Fin cfg0.N) (s : Fin 2) (hs : t.val % 2 = s.val) (y z : S128x1024.Idx)
    (h0 : (z 0).val = (y 0).val) (h1 : (z 1).val = (y 1).val) :
    (k0_pay1 (F := Ideal) (iblk m c 0 t) (iblk m c 1 t) y : EReal)
      = ∑ k : Fin 2112, left m c (ix2 ((atBlock s k).cast (by norm_num : 2 * 2112 = 4224)) (z 0)) * right m c (ix2 ((atBlock s k).cast (by norm_num : 2 * 2112 = 4224)) (z 1)) := by
  pointwise [k0_pay1]
  unfold left right
  refine sum_of_factors (fun k => ?_) (fun k => ?_)
  · blk_ext [iblk, V, (idx t).1, hs, atBlock, h0]
  · blk_ext [iblk, V, (idx t).2.1, hs, atBlock, h1]

theorem final (c : Dev nD) : (dats m 0 c).arrAt 2 cfg0.N = results m c := by
  refine (dats m 0 c).arrAt_eq_of_covers 2 (results m c) (by decide +kernel) fun t hf y => ?_
  have ht := last_of_flush t hf
  have hb : t.val - 1 < cfg0.N := Nat.lt_of_le_of_lt (Nat.sub_le _ _) t.isLt
  have h0 : (((win0_2.blk t).view.emb y) 0 : ℕ) = (y 0).val := by blk_simp [(idx t).2.2]
  have h1 : (((win0_2.blk t).view.emb y) 1 : ℕ) = (y 1).val := by blk_simp [(idx t).2.2]
  blk_simp
  rw [stored m c t ht hb]
  unfold k0_pay4 k0_pay3 k0_pay2
  simp only [shapeCast_self]
  exact sum_of_halves (by norm_num) (part_at m c ⟨t.val - 1, hb⟩ 0 (by dsimp only; omega) y _ h0 h1) (part_at m c t 1 ht y _ h0 h1)

theorem frame : Cert.quiescent_KernelGInDt (hKernelGInDt := Cert.KernelGInDt.Gen.facts) := fun m ρ _ => Cert.KernelGInDt.Gen.frame m ρ

theorem frame_ideal : Cert.quiescent_KernelGInDtIdeal (hKernelGInDtIdeal := Gen.facts) := fun m ρ _ => Gen.frame m ρ

theorem frame_reference : Cert.quiescent_ReferenceGInDtIdeal (hReferenceGInDtIdeal := Cert.ReferenceGInDtIdeal.Gen.facts) := fun m ρ _ =>
  (θ_run Cert.ReferenceGInDtIdeal.defs _ _).mono (fun r h => ⟨fun c => (h c).2, sem_eq_zero_of_no_sems (by decide) r.2⟩) (Cert.ReferenceGInDtIdeal.Value.run m ρ)

theorem preserves : Cert.preserves_KernelGInDt_KernelGInDtIdeal := trivial

theorem algebraic : Cert.algebraic_KernelGInDtIdeal_ReferenceGInDtIdeal (hKernelGInDtIdeal := Gen.facts) (hReferenceGInDtIdeal := Cert.ReferenceGInDtIdeal.Gen.facts) :=
  fun m g m' g' _ hargs => ⟨results m, (θ_run defs _ _).mono (fun r h c => ⟨(h c).1.trans (final m c), (h c).2⟩) (Value.run_blocks m g),
    (θ_run Cert.ReferenceGInDtIdeal.defs _ _).mono (fun r h c => ⟨(h c).1.trans (by
      rw [(hargs c).1, (hargs c).2]
      funext y
      unfold results colsByCols left right
      pointwise), (h c).2⟩) (Cert.ReferenceGInDtIdeal.Value.run m' g')⟩

end Cert.KernelGInDtIdeal.Product

end
-- ==== Proof.Updates.lean ====
/-
  The sums of the devices' gradients and the optimiser's steps, over arrays of any size: a sum over the devices, read from loads
  of its members one by one, and the optimiser's three results, element by element.
-/
module

public import Idealize.ShloMosaic.Lib.Pipeline.ValueKit
public import Idealize.ShloMosaic.Lib.Pointwise

@[expose] public section

noncomputable section

namespace Cert.Updates

open Idealize.ShloMosaic

variable {R C : ℕ}

/-- The sum of the eight devices' arrays. -/
def overDevices (A : (⟨3, ![8, R, C]⟩ : Shape).Idx → EReal) : (⟨2, ![R, C]⟩ : Shape).Idx → EReal :=
  fun y => ∑ d : Fin 8, A (ix3 d (y 0) (y 1))

/-- Eight members added up one after the other are that sum. -/
theorem overDevices_eq (A : (⟨3, ![8, R, C]⟩ : Shape).Idx → EReal) (y : (⟨2, ![R, C]⟩ : Shape).Idx) {a : Fin 8 → EReal} {b0 b1 b2 b3 b4 b5 b6 b7 : EReal}
    (h : ∀ d, a d = A (ix3 d (y 0) (y 1))) (h0 : b0 = a 0) (h1 : b1 = a 1) (h2 : b2 = a 2) (h3 : b3 = a 3) (h4 : b4 = a 4) (h5 : b5 = a 5) (h6 : b6 = a 6) (h7 : b7 = a 7) :
    b0 + b1 + b2 + b3 + b4 + b5 + b6 + b7 = overDevices A y := by
  unfold overDevices
  rw [h0, h1, h2, h3, h4, h5, h6, h7, ← Fin.sum_univ_eight]
  exact Finset.sum_congr rfl fun d _ => h d

/-- A load of one device's array out of the eight. -/
theorem member {e : EltTy} (X : (⟨3, ![8, R, C]⟩ : Shape).Idx → Elt Ideal e) (d : Fin 8) (inb : ∀ a, (![d.val, 0, 0] : Fin 3 → ℕ) a + (![1, R, C] : Fin 3 → ℕ) a ≤ (![8, R, C] : Fin 3 → ℕ) a)
    (j : (⟨3, ![1, R, C]⟩ : Shape).Idx) : View.ld X (Rect.unit (s := ⟨3, ![8, R, C]⟩) ![d.val, 0, 0] ![1, R, C] inb) j = X (ix3 d (j 1) (j 2)) :=
  congrArg X (funext fun a => by
    have := (j 0).isLt
    fin_cases a <;> apply Fin.ext <;> simp [Rect.unit, Rect.emb])

/-- The shape of a single number. -/
abbrev One : Shape := ⟨0, ![]⟩

/-- A sum over the first axis, from zero, is that sum. -/
theorem reduced (A : FVec Ideal ⟨3, ![8, R, C]⟩ .f32) (h : (⟨3, ![8, R, C]⟩ : Shape).ReducesTo [0] ⟨2, ![R, C]⟩) (h1 : 0 < One.numel) :
    Host.reduceAdd (F := Ideal) A (constant One .f32 0x00000000#32) h h1 = overDevices A := by
  funext y
  unfold overDevices
  pointwise

section Step

variable {S : Shape}

/-- A number of the optimiser, by its float32 word. -/
abbrev word (b : BitVec 32) : Ideal .f32 := Scalar.ofBits .f32 b

/-- The new first moment: nine tenths of the old one and a tenth of the gradient. -/
def firstMoment (g m : FVec Ideal S .f32) : FVec Ideal S .f32 :=
  fun i => FloatOps.addf (FloatOps.mulf (word 0x3F666666#32) (m i)) (FloatOps.mulf (word 0x3DCCCCCD#32) (g i))

/-- The new second moment: 0.999 of the old one and 0.001 of the gradient's square. -/
def secondMoment (g v : FVec Ideal S .f32) : FVec Ideal S .f32 :=
  fun i => FloatOps.addf (FloatOps.mulf (word 0x3F7FBE77#32) (v i)) (FloatOps.mulf (word 0x3A83126F#32) (FloatOps.mulf (g i) (g i)))

/-- The change of the weight: the corrected first moment over the root of the corrected second one, and the weight's decay, times the
    negated rate. -/
def change (w g m v : FVec Ideal S .f32) : FVec Ideal S .f32 :=
  fun i => FloatOps.mulf (word 0xBA83126F#32) (FloatOps.addf
    (FloatOps.divf (FloatOps.divf (firstMoment g m i) (word 0x3F26BD02#32))
      (FloatOps.addf (FloatOps.sqrt (FloatOps.divf (secondMoment g v i) (word 0x3C231ACC#32))) (word 0x322BCC77#32)))
    (FloatOps.mulf (word 0x3C23D70A#32) (w i)))

variable (h : One.BroadcastsInDim S ![])

/-- A number of the reference, at every index of an array. -/
abbrev everywhere (b : BitVec 32) : FVec Ideal S .f32 := broadcastInDim S ![] h (constant One .f32 b)

theorem reference_first (g m : FVec Ideal S .f32) :
    addf (mulf (everywhere h 0x3F666666#32) m) (mulf (everywhere h 0x3DCCCCCD#32) g) = firstMoment g m := by
  funext i
  unfold firstMoment
  pointwise

theorem reference_second (g v : FVec Ideal S .f32) :
    addf (mulf (everywhere h 0x3F7FBE77#32) v) (mulf (everywhere h 0x3A83126F#32) (mulf g g)) = secondMoment g v := by
  funext i
  unfold secondMoment
  pointwise

theorem reference_change (w g m v : FVec Ideal S .f32) :
    mulf (everywhere h 0xBA83126F#32) (addf (Host.divf (Host.divf (addf (mulf (everywhere h 0x3F666666#32) m) (mulf (everywhere h 0x3DCCCCCD#32) g)) (everywhere h 0x3F26BD02#32))
      (addf (Host.sqrt (Host.divf (addf (mulf (everywhere h 0x3F7FBE77#32) v) (mulf (everywhere h 0x3A83126F#32) (mulf g g))) (everywhere h 0x3C231ACC#32))) (everywhere h 0x322BCC77#32)))
      (mulf (everywhere h 0x3C23D70A#32) w)) = change w g m v := by
  rw [reference_first, reference_second]
  funext i
  unfold change
  pointwise

end Step

end Cert.Updates

end
-- ==== Proof.UpdatesSums.lean ====
/-
  The sums of the devices' gradients. For each program: where its blocks of columns stand, the array after the run, and the claims.
-/
module

public import proofs.«01_k».proof.Proof.Updates
public import proofs.«01_k».proof.Proof.Gen.KernelSumInIdeal.Value
public import proofs.«01_k».proof.Proof.Gen.KernelSumIn.Frame
public import proofs.«01_k».proof.Proof.Gen.ReferenceSumInIdeal.Run
public import proofs.«01_k».proof.Proof.Gen.KernelSumUpIdeal.Value
public import proofs.«01_k».proof.Proof.Gen.KernelSumUp.Frame
public import proofs.«01_k».proof.Proof.Gen.ReferenceSumUpIdeal.Run
public import proofs.«01_k».proof.Proof.Gen.KernelSumDownIdeal.Value
public import proofs.«01_k».proof.Proof.Gen.KernelSumDown.Frame
public import proofs.«01_k».proof.Proof.Gen.ReferenceSumDownIdeal.Run
public import proofs.«01_k».proof.Proof.Gen.KernelSumSsdIdeal.Value
public import proofs.«01_k».proof.Proof.Gen.KernelSumSsd.Frame
public import proofs.«01_k».proof.Proof.Gen.ReferenceSumSsdIdeal.Run
public import proofs.«01_k».proof.Proof.Gen.KernelSumRetIdeal.Value
public import proofs.«01_k».proof.Proof.Gen.KernelSumRet.Frame
public import proofs.«01_k».proof.Proof.Gen.ReferenceSumRetIdeal.Run
public import proofs.«01_k».proof.Proof.Gen.KernelSumSmallIdeal.Value
public import proofs.«01_k».proof.Proof.Gen.KernelSumSmall.Frame
public import proofs.«01_k».proof.Proof.Gen.ReferenceSumSmallIdeal.Run
public import proofs.«01_k».proof.Defs

@[expose] public section

noncomputable section

open Cert.Updates Idealize.ShloMosaic Idealize.ShloMosaic.TcCoe Idealize.SL.Sem

/-! The input weight. -/
namespace Cert.KernelSumInIdeal.Update

open Cert.KernelSumInIdeal Cert.KernelSumInIdeal.Gen

variable (m : (ℓ : Loc nD τ sig) → Buf (Elt Ideal) ℓ)

theorem idx : ∀ t : Fin cfg0.N, win0_0.index t = ![0, 0, (grid0.coords t 0).val] ∧ win0_1.index t = ![0, (grid0.coords t 0).val] :=
  (by decide +kernel : ∀ t : Fin grid0.N, win0_0.index t = ![0, 0, (grid0.coords t 0).val] ∧ win0_1.index t = ![0, (grid0.coords t 0).val])

def results (c : Dev nD) : FVec Ideal S1288x1024 .f32 := overDevices (R := 1288) (C := 1024) (m ((c : Thread nD τ).loc main_arg0))

theorem final (c : Dev nD) : (dats m 0 c).arrAt 1 cfg0.N = results m c := by
  refine (dats m 0 c).arrAt_eq_of_covers 1 (results m c) (by decide +kernel) fun t hf y => ?_
  blk_simp
  rw [after0_1]
  unfold out0_1
  refine (Value.canon1_eq _ _ _ _ _ _ _ _ _).trans ?_
  refine overDevices_eq _ _ (a := fun d => iblk m c 0 t (ix3 d (y 0) (y 1))) (fun d => ?_) (member _ 0 _ _) (member _ 1 _ _) (member _ 2 _ _) (member _ 3 _ _)
    (member _ 4 _ _) (member _ 5 _ _) (member _ 6 _ _) (member _ 7 _ _)
  blk_ext [iblk, V, (idx t).1, (idx t).2]

theorem frame : Cert.quiescent_KernelSumIn (hKernelSumIn := Cert.KernelSumIn.Gen.facts) := fun m ρ _ => Cert.KernelSumIn.Gen.frame m ρ

theorem frame_ideal : Cert.quiescent_KernelSumInIdeal (hKernelSumInIdeal := Gen.facts) := fun m ρ _ => Gen.frame m ρ

theorem frame_reference : Cert.quiescent_ReferenceSumInIdeal (hReferenceSumInIdeal := Cert.ReferenceSumInIdeal.Gen.facts) := fun m ρ _ =>
  (θ_run Cert.ReferenceSumInIdeal.defs _ _).mono (fun r h => ⟨fun c => (h c).2, sem_eq_zero_of_no_sems (by decide) r.2⟩) (Cert.ReferenceSumInIdeal.Value.run m ρ)

theorem preserves : Cert.preserves_KernelSumIn_KernelSumInIdeal := trivial

theorem algebraic : Cert.algebraic_KernelSumInIdeal_ReferenceSumInIdeal (hKernelSumInIdeal := Gen.facts) (hReferenceSumInIdeal := Cert.ReferenceSumInIdeal.Gen.facts) :=
  fun m g m' g' _ hargs => ⟨results m, (θ_run defs _ _).mono (fun r h c => ⟨(h c).1.trans (final m c), (h c).2⟩) (Value.run_blocks m g),
    (θ_run Cert.ReferenceSumInIdeal.defs _ _).mono (fun r h c => ⟨(h c).1.trans ((congrArg (fun A => Host.reduceAdd (extf .f32 A _) _ _ _) (hargs c)).trans (reduced _ _ _)), (h c).2⟩)
      (Cert.ReferenceSumInIdeal.Value.run m' g')⟩

end Cert.KernelSumInIdeal.Update

/-! The feed-forward block's first weight. -/
namespace Cert.KernelSumUpIdeal.Update

open Cert.KernelSumUpIdeal Cert.KernelSumUpIdeal.Gen

variable (m : (ℓ : Loc nD τ sig) → Buf (Elt Ideal) ℓ)

theorem idx : ∀ t : Fin cfg0.N, win0_0.index t = ![0, 0, (grid0.coords t 0).val] ∧ win0_1.index t = ![0, (grid0.coords t 0).val] :=
  (by decide +kernel : ∀ t : Fin grid0.N, win0_0.index t = ![0, 0, (grid0.coords t 0).val] ∧ win0_1.index t = ![0, (grid0.coords t 0).val])

def results (c : Dev nD) : FVec Ideal S704x1024 .f32 := overDevices (R := 704) (C := 1024) (m ((c : Thread nD τ).loc main_arg0))

theorem final (c : Dev nD) : (dats m 0 c).arrAt 1 cfg0.N = results m c := by
  refine (dats m 0 c).arrAt_eq_of_covers 1 (results m c) (by decide +kernel) fun t hf y => ?_
  blk_simp
  rw [after0_1]
  unfold out0_1
  refine (Value.canon1_eq _ _ _ _ _ _ _ _ _).trans ?_
  refine overDevices_eq _ _ (a := fun d => iblk m c 0 t (ix3 d (y 0) (y 1))) (fun d => ?_) (member _ 0 _ _) (member _ 1 _ _) (member _ 2 _ _) (member _ 3 _ _)
    (member _ 4 _ _) (member _ 5 _ _) (member _ 6 _ _) (member _ 7 _ _)
  blk_ext [iblk, V, (idx t).1, (idx t).2]

theorem frame : Cert.quiescent_KernelSumUp (hKernelSumUp := Cert.KernelSumUp.Gen.facts) := fun m ρ _ => Cert.KernelSumUp.Gen.frame m ρ

theorem frame_ideal : Cert.quiescent_KernelSumUpIdeal (hKernelSumUpIdeal := Gen.facts) := fun m ρ _ => Gen.frame m ρ

theorem frame_reference : Cert.quiescent_ReferenceSumUpIdeal (hReferenceSumUpIdeal := Cert.ReferenceSumUpIdeal.Gen.facts) := fun m ρ _ =>
  (θ_run Cert.ReferenceSumUpIdeal.defs _ _).mono (fun r h => ⟨fun c => (h c).2, sem_eq_zero_of_no_sems (by decide) r.2⟩) (Cert.ReferenceSumUpIdeal.Value.run m ρ)

theorem preserves : Cert.preserves_KernelSumUp_KernelSumUpIdeal := trivial

theorem algebraic : Cert.algebraic_KernelSumUpIdeal_ReferenceSumUpIdeal (hKernelSumUpIdeal := Gen.facts) (hReferenceSumUpIdeal := Cert.ReferenceSumUpIdeal.Gen.facts) :=
  fun m g m' g' _ hargs => ⟨results m, (θ_run defs _ _).mono (fun r h c => ⟨(h c).1.trans (final m c), (h c).2⟩) (Value.run_blocks m g),
    (θ_run Cert.ReferenceSumUpIdeal.defs _ _).mono (fun r h c => ⟨(h c).1.trans ((congrArg (fun A => Host.reduceAdd (extf .f32 A _) _ _ _) (hargs c)).trans (reduced _ _ _)), (h c).2⟩)
      (Cert.ReferenceSumUpIdeal.Value.run m' g')⟩

end Cert.KernelSumUpIdeal.Update

/-! The feed-forward block's second weight. -/
namespace Cert.KernelSumDownIdeal.Update

open Cert.KernelSumDownIdeal Cert.KernelSumDownIdeal.Gen

variable (m : (ℓ : Loc nD τ sig) → Buf (Elt Ideal) ℓ)

theorem idx : ∀ t : Fin cfg0.N, win0_0.index t = ![0, 0, (grid0.coords t 0).val] ∧ win0_1.index t = ![0, (grid0.coords t 0).val] :=
  (by decide +kernel : ∀ t : Fin grid0.N, win0_0.index t = ![0, 0, (grid0.coords t 0).val] ∧ win0_1.index t = ![0, (grid0.coords t 0).val])

def results (c : Dev nD) : FVec Ideal S352x1024 .f32 := overDevices (R := 352) (C := 1024) (m ((c : Thread nD τ).loc main_arg0))

theorem final (c : Dev nD) : (dats m 0 c).arrAt 1 cfg0.N = results m c := by
  refine (dats m 0 c).arrAt_eq_of_covers 1 (results m c) (by decide +kernel) fun t hf y => ?_
  blk_simp
  rw [after0_1]
  unfold out0_1
  refine (Value.canon1_eq _ _ _ _ _ _ _ _ _).trans ?_
  refine overDevices_eq _ _ (a := fun d => iblk m c 0 t (ix3 d (y 0) (y 1))) (fun d => ?_) (member _ 0 _ _) (member _ 1 _ _) (member _ 2 _ _) (member _ 3 _ _)
    (member _ 4 _ _) (member _ 5 _ _) (member _ 6 _ _) (member _ 7 _ _)
  blk_ext [iblk, V, (idx t).1, (idx t).2]

theorem frame : Cert.quiescent_KernelSumDown (hKernelSumDown := Cert.KernelSumDown.Gen.facts) := fun m ρ _ => Cert.KernelSumDown.Gen.frame m ρ

theorem frame_ideal : Cert.quiescent_KernelSumDownIdeal (hKernelSumDownIdeal := Gen.facts) := fun m ρ _ => Gen.frame m ρ

theorem frame_reference : Cert.quiescent_ReferenceSumDownIdeal (hReferenceSumDownIdeal := Cert.ReferenceSumDownIdeal.Gen.facts) := fun m ρ _ =>
  (θ_run Cert.ReferenceSumDownIdeal.defs _ _).mono (fun r h => ⟨fun c => (h c).2, sem_eq_zero_of_no_sems (by decide) r.2⟩) (Cert.ReferenceSumDownIdeal.Value.run m ρ)

theorem preserves : Cert.preserves_KernelSumDown_KernelSumDownIdeal := trivial

theorem algebraic : Cert.algebraic_KernelSumDownIdeal_ReferenceSumDownIdeal (hKernelSumDownIdeal := Gen.facts) (hReferenceSumDownIdeal := Cert.ReferenceSumDownIdeal.Gen.facts) :=
  fun m g m' g' _ hargs => ⟨results m, (θ_run defs _ _).mono (fun r h c => ⟨(h c).1.trans (final m c), (h c).2⟩) (Value.run_blocks m g),
    (θ_run Cert.ReferenceSumDownIdeal.defs _ _).mono (fun r h c => ⟨(h c).1.trans ((congrArg (fun A => Host.reduceAdd (extf .f32 A _) _ _ _) (hargs c)).trans (reduced _ _ _)), (h c).2⟩)
      (Cert.ReferenceSumDownIdeal.Value.run m' g')⟩

end Cert.KernelSumDownIdeal.Update

/-! The state-space mixer's output weight. -/
namespace Cert.KernelSumSsdIdeal.Update

open Cert.KernelSumSsdIdeal Cert.KernelSumSsdIdeal.Gen

variable (m : (ℓ : Loc nD τ sig) → Buf (Elt Ideal) ℓ)

theorem idx : ∀ t : Fin cfg0.N, win0_0.index t = ![0, 0, (grid0.coords t 0).val] ∧ win0_1.index t = ![0, (grid0.coords t 0).val] :=
  (by decide +kernel : ∀ t : Fin grid0.N, win0_0.index t = ![0, 0, (grid0.coords t 0).val] ∧ win0_1.index t = ![0, (grid0.coords t 0).val])

def results (c : Dev nD) : FVec Ideal S256x1024 .f32 := overDevices (R := 256) (C := 1024) (m ((c : Thread nD τ).loc main_arg0))

theorem final (c : Dev nD) : (dats m 0 c).arrAt 1 cfg0.N = results m c := by
  refine (dats m 0 c).arrAt_eq_of_covers 1 (results m c) (by decide +kernel) fun t hf y => ?_
  blk_simp
  rw [after0_1]
  unfold out0_1
  refine (Value.canon1_eq _ _ _ _ _ _ _ _ _).trans ?_
  refine overDevices_eq _ _ (a := fun d => iblk m c 0 t (ix3 d (y 0) (y 1))) (fun d => ?_) (member _ 0 _ _) (member _ 1 _ _) (member _ 2 _ _) (member _ 3 _ _)
    (member _ 4 _ _) (member _ 5 _ _) (member _ 6 _ _) (member _ 7 _ _)
  blk_ext [iblk, V, (idx t).1, (idx t).2]

theorem frame : Cert.quiescent_KernelSumSsd (hKernelSumSsd := Cert.KernelSumSsd.Gen.facts) := fun m ρ _ => Cert.KernelSumSsd.Gen.frame m ρ

theorem frame_ideal : Cert.quiescent_KernelSumSsdIdeal (hKernelSumSsdIdeal := Gen.facts) := fun m ρ _ => Gen.frame m ρ

theorem frame_reference : Cert.quiescent_ReferenceSumSsdIdeal (hReferenceSumSsdIdeal := Cert.ReferenceSumSsdIdeal.Gen.facts) := fun m ρ _ =>
  (θ_run Cert.ReferenceSumSsdIdeal.defs _ _).mono (fun r h => ⟨fun c => (h c).2, sem_eq_zero_of_no_sems (by decide) r.2⟩) (Cert.ReferenceSumSsdIdeal.Value.run m ρ)

theorem preserves : Cert.preserves_KernelSumSsd_KernelSumSsdIdeal := trivial

theorem algebraic : Cert.algebraic_KernelSumSsdIdeal_ReferenceSumSsdIdeal (hKernelSumSsdIdeal := Gen.facts) (hReferenceSumSsdIdeal := Cert.ReferenceSumSsdIdeal.Gen.facts) :=
  fun m g m' g' _ hargs => ⟨results m, (θ_run defs _ _).mono (fun r h c => ⟨(h c).1.trans (final m c), (h c).2⟩) (Value.run_blocks m g),
    (θ_run Cert.ReferenceSumSsdIdeal.defs _ _).mono (fun r h c => ⟨(h c).1.trans ((congrArg (fun A => Host.reduceAdd (extf .f32 A _) _ _ _) (hargs c)).trans (reduced _ _ _)), (h c).2⟩)
      (Cert.ReferenceSumSsdIdeal.Value.run m' g')⟩

end Cert.KernelSumSsdIdeal.Update

/-! The retention's output weight; by the same program, the mixers' output weight. -/
namespace Cert.KernelSumRetIdeal.Update

open Cert.KernelSumRetIdeal Cert.KernelSumRetIdeal.Gen

variable (m : (ℓ : Loc nD τ sig) → Buf (Elt Ideal) ℓ)

theorem idx : ∀ t : Fin cfg0.N, win0_0.index t = ![0, 0, (grid0.coords t 0).val] ∧ win0_1.index t = ![0, (grid0.coords t 0).val] :=
  (by decide +kernel : ∀ t : Fin grid0.N, win0_0.index t = ![0, 0, (grid0.coords t 0).val] ∧ win0_1.index t = ![0, (grid0.coords t 0).val])

def results (c : Dev nD) : FVec Ideal S128x1024 .f32 := overDevices (R := 128) (C := 1024) (m ((c : Thread nD τ).loc main_arg0))

theorem final (c : Dev nD) : (dats m 0 c).arrAt 1 cfg0.N = results m c := by
  refine (dats m 0 c).arrAt_eq_of_covers 1 (results m c) (by decide +kernel) fun t hf y => ?_
  blk_simp
  rw [after0_1]
  unfold out0_1
  refine (Value.canon1_eq _ _ _ _ _ _ _ _ _).trans ?_
  refine overDevices_eq _ _ (a := fun d => iblk m c 0 t (ix3 d (y 0) (y 1))) (fun d => ?_) (member _ 0 _ _) (member _ 1 _ _) (member _ 2 _ _) (member _ 3 _ _)
    (member _ 4 _ _) (member _ 5 _ _) (member _ 6 _ _) (member _ 7 _ _)
  blk_ext [iblk, V, (idx t).1, (idx t).2]

theorem frame : Cert.quiescent_KernelSumRet (hKernelSumRet := Cert.KernelSumRet.Gen.facts) := fun m ρ _ => Cert.KernelSumRet.Gen.frame m ρ

theorem frame_ideal : Cert.quiescent_KernelSumRetIdeal (hKernelSumRetIdeal := Gen.facts) := fun m ρ _ => Gen.frame m ρ

theorem frame_reference : Cert.quiescent_ReferenceSumRetIdeal (hReferenceSumRetIdeal := Cert.ReferenceSumRetIdeal.Gen.facts) := fun m ρ _ =>
  (θ_run Cert.ReferenceSumRetIdeal.defs _ _).mono (fun r h => ⟨fun c => (h c).2, sem_eq_zero_of_no_sems (by decide) r.2⟩) (Cert.ReferenceSumRetIdeal.Value.run m ρ)

theorem preserves : Cert.preserves_KernelSumRet_KernelSumRetIdeal := trivial

theorem algebraic : Cert.algebraic_KernelSumRetIdeal_ReferenceSumRetIdeal (hKernelSumRetIdeal := Gen.facts) (hReferenceSumRetIdeal := Cert.ReferenceSumRetIdeal.Gen.facts) :=
  fun m g m' g' _ hargs => ⟨results m, (θ_run defs _ _).mono (fun r h c => ⟨(h c).1.trans (final m c), (h c).2⟩) (Value.run_blocks m g),
    (θ_run Cert.ReferenceSumRetIdeal.defs _ _).mono (fun r h c => ⟨(h c).1.trans ((congrArg (fun A => Host.reduceAdd (extf .f32 A _) _ _ _) (hargs c)).trans (reduced _ _ _)), (h c).2⟩)
      (Cert.ReferenceSumRetIdeal.Value.run m' g')⟩

end Cert.KernelSumRetIdeal.Update

/-! The small weights and the loss, packed into one array of float32. -/
namespace Cert.KernelSumSmallIdeal.Update

open Cert.KernelSumSmallIdeal Cert.KernelSumSmallIdeal.Gen

variable (m : (ℓ : Loc nD τ sig) → Buf (Elt Ideal) ℓ)

theorem idx : ∀ t : Fin cfg0.N, win0_0.index t = ![0, 0, (grid0.coords t 0).val] ∧ win0_1.index t = ![0, (grid0.coords t 0).val] :=
  (by decide +kernel : ∀ t : Fin grid0.N, win0_0.index t = ![0, 0, (grid0.coords t 0).val] ∧ win0_1.index t = ![0, (grid0.coords t 0).val])

def results (c : Dev nD) : FVec Ideal S64x1024 .f32 := overDevices (R := 64) (C := 1024) (m ((c : Thread nD τ).loc main_arg0))

theorem final (c : Dev nD) : (dats m 0 c).arrAt 1 cfg0.N = results m c := by
  refine (dats m 0 c).arrAt_eq_of_covers 1 (results m c) (by decide +kernel) fun t hf y => ?_
  blk_simp
  rw [after0_1]
  unfold out0_1
  refine (Value.canon1_eq _ _ _ _ _ _ _ _ _).trans ?_
  refine overDevices_eq _ _ (a := fun d => iblk m c 0 t (ix3 d (y 0) (y 1))) (fun d => ?_) (member _ 0 _ _) (member _ 1 _ _) (member _ 2 _ _) (member _ 3 _ _)
    (member _ 4 _ _) (member _ 5 _ _) (member _ 6 _ _) (member _ 7 _ _)
  blk_ext [iblk, V, (idx t).1, (idx t).2]

theorem frame : Cert.quiescent_KernelSumSmall (hKernelSumSmall := Cert.KernelSumSmall.Gen.facts) := fun m ρ _ => Cert.KernelSumSmall.Gen.frame m ρ

theorem frame_ideal : Cert.quiescent_KernelSumSmallIdeal (hKernelSumSmallIdeal := Gen.facts) := fun m ρ _ => Gen.frame m ρ

theorem frame_reference : Cert.quiescent_ReferenceSumSmallIdeal (hReferenceSumSmallIdeal := Cert.ReferenceSumSmallIdeal.Gen.facts) := fun m ρ _ =>
  (θ_run Cert.ReferenceSumSmallIdeal.defs _ _).mono (fun r h => ⟨fun c => (h c).2, sem_eq_zero_of_no_sems (by decide) r.2⟩) (Cert.ReferenceSumSmallIdeal.Value.run m ρ)

theorem preserves : Cert.preserves_KernelSumSmall_KernelSumSmallIdeal := trivial

theorem algebraic : Cert.algebraic_KernelSumSmallIdeal_ReferenceSumSmallIdeal (hKernelSumSmallIdeal := Gen.facts) (hReferenceSumSmallIdeal := Cert.ReferenceSumSmallIdeal.Gen.facts) :=
  fun m g m' g' _ hargs => ⟨results m, (θ_run defs _ _).mono (fun r h c => ⟨(h c).1.trans (final m c), (h c).2⟩) (Value.run_blocks m g),
    (θ_run Cert.ReferenceSumSmallIdeal.defs _ _).mono (fun r h c => ⟨(h c).1.trans ((congrArg (fun A => Host.reduceAdd A _ _ _) (hargs c)).trans (reduced _ _ _)), (h c).2⟩)
      (Cert.ReferenceSumSmallIdeal.Value.run m' g')⟩

end Cert.KernelSumSmallIdeal.Update

end
-- ==== Proof.UpdatesSteps.lean ====
/-
  The optimiser's steps, from a weight, its summed gradient and its moments: the weight's change and the new moments. What the
  kernels leave is read off the generated runs, what the references compute is in Updates.
-/
module

public import proofs.«01_k».proof.Proof.Updates
public import proofs.«01_k».proof.Proof.Gen.KernelAdamInIdeal.Value
public import proofs.«01_k».proof.Proof.Gen.KernelAdamIn.Frame
public import proofs.«01_k».proof.Proof.Gen.ReferenceAdamInIdeal.Run
public import proofs.«01_k».proof.Proof.Gen.KernelAdamUpIdeal.Value
public import proofs.«01_k».proof.Proof.Gen.KernelAdamUp.Frame
public import proofs.«01_k».proof.Proof.Gen.ReferenceAdamUpIdeal.Run
public import proofs.«01_k».proof.Proof.Gen.KernelAdamDownIdeal.Value
public import proofs.«01_k».proof.Proof.Gen.KernelAdamDown.Frame
public import proofs.«01_k».proof.Proof.Gen.ReferenceAdamDownIdeal.Run
public import proofs.«01_k».proof.Proof.Gen.KernelAdamSsdIdeal.Value
public import proofs.«01_k».proof.Proof.Gen.KernelAdamSsd.Frame
public import proofs.«01_k».proof.Proof.Gen.ReferenceAdamSsdIdeal.Run
public import proofs.«01_k».proof.Proof.Gen.KernelAdamRetIdeal.Value
public import proofs.«01_k».proof.Proof.Gen.KernelAdamRet.Frame
public import proofs.«01_k».proof.Proof.Gen.ReferenceAdamRetIdeal.Run
public import proofs.«01_k».proof.Proof.Gen.KernelAdamSmallIdeal.Value
public import proofs.«01_k».proof.Proof.Gen.KernelAdamSmall.Frame
public import proofs.«01_k».proof.Proof.Gen.ReferenceAdamSmallIdeal.Run
public import proofs.«01_k».proof.Defs

@[expose] public section

noncomputable section

open Cert.Updates Idealize.ShloMosaic Idealize.ShloMosaic.TcCoe Idealize.SL.Sem

/-! The input weight. -/
namespace Cert.KernelAdamInIdeal.Update

open Cert.KernelAdamInIdeal Cert.KernelAdamInIdeal.Gen

theorem frame : Cert.quiescent_KernelAdamIn (hKernelAdamIn := Cert.KernelAdamIn.Gen.facts) := fun m ρ _ => Cert.KernelAdamIn.Gen.frame m ρ

theorem frame_ideal : Cert.quiescent_KernelAdamInIdeal (hKernelAdamInIdeal := Gen.facts) := fun m ρ _ => Gen.frame m ρ

theorem frame_reference : Cert.quiescent_ReferenceAdamInIdeal (hReferenceAdamInIdeal := Cert.ReferenceAdamInIdeal.Gen.facts) := fun m ρ _ =>
  (θ_run Cert.ReferenceAdamInIdeal.defs _ _).mono (fun r h => ⟨fun c => (h c).2.2.2, sem_eq_zero_of_no_sems (by decide) r.2⟩) (Cert.ReferenceAdamInIdeal.Value.run m ρ)

theorem preserves : Cert.preserves_KernelAdamIn_KernelAdamInIdeal := trivial

theorem algebraic : Cert.algebraic_KernelAdamInIdeal_ReferenceAdamInIdeal (hKernelAdamInIdeal := Gen.facts) (hReferenceAdamInIdeal := Cert.ReferenceAdamInIdeal.Gen.facts) :=
  fun m g m' g' _ hargs => ⟨_, _, _, Value.run m g, (θ_run Cert.ReferenceAdamInIdeal.defs _ _).mono (fun r h c => by
    have e := h c
    rw [(hargs c).1, (hargs c).2.1, (hargs c).2.2.1, (hargs c).2.2.2] at e
    exact ⟨e.1.trans (reference_change _ _ _ _ _), e.2.1.trans (reference_first _ _ _), e.2.2.1.trans (reference_second _ _ _), (h c).2.2.2⟩) (Cert.ReferenceAdamInIdeal.Value.run m' g')⟩

end Cert.KernelAdamInIdeal.Update

/-! The feed-forward block's first weight. -/
namespace Cert.KernelAdamUpIdeal.Update

open Cert.KernelAdamUpIdeal Cert.KernelAdamUpIdeal.Gen

theorem frame : Cert.quiescent_KernelAdamUp (hKernelAdamUp := Cert.KernelAdamUp.Gen.facts) := fun m ρ _ => Cert.KernelAdamUp.Gen.frame m ρ

theorem frame_ideal : Cert.quiescent_KernelAdamUpIdeal (hKernelAdamUpIdeal := Gen.facts) := fun m ρ _ => Gen.frame m ρ

theorem frame_reference : Cert.quiescent_ReferenceAdamUpIdeal (hReferenceAdamUpIdeal := Cert.ReferenceAdamUpIdeal.Gen.facts) := fun m ρ _ =>
  (θ_run Cert.ReferenceAdamUpIdeal.defs _ _).mono (fun r h => ⟨fun c => (h c).2.2.2, sem_eq_zero_of_no_sems (by decide) r.2⟩) (Cert.ReferenceAdamUpIdeal.Value.run m ρ)

theorem preserves : Cert.preserves_KernelAdamUp_KernelAdamUpIdeal := trivial

theorem algebraic : Cert.algebraic_KernelAdamUpIdeal_ReferenceAdamUpIdeal (hKernelAdamUpIdeal := Gen.facts) (hReferenceAdamUpIdeal := Cert.ReferenceAdamUpIdeal.Gen.facts) :=
  fun m g m' g' _ hargs => ⟨_, _, _, Value.run m g, (θ_run Cert.ReferenceAdamUpIdeal.defs _ _).mono (fun r h c => by
    have e := h c
    rw [(hargs c).1, (hargs c).2.1, (hargs c).2.2.1, (hargs c).2.2.2] at e
    exact ⟨e.1.trans (reference_change _ _ _ _ _), e.2.1.trans (reference_first _ _ _), e.2.2.1.trans (reference_second _ _ _), (h c).2.2.2⟩) (Cert.ReferenceAdamUpIdeal.Value.run m' g')⟩

end Cert.KernelAdamUpIdeal.Update

/-! The feed-forward block's second weight. -/
namespace Cert.KernelAdamDownIdeal.Update

open Cert.KernelAdamDownIdeal Cert.KernelAdamDownIdeal.Gen

theorem frame : Cert.quiescent_KernelAdamDown (hKernelAdamDown := Cert.KernelAdamDown.Gen.facts) := fun m ρ _ => Cert.KernelAdamDown.Gen.frame m ρ

theorem frame_ideal : Cert.quiescent_KernelAdamDownIdeal (hKernelAdamDownIdeal := Gen.facts) := fun m ρ _ => Gen.frame m ρ

theorem frame_reference : Cert.quiescent_ReferenceAdamDownIdeal (hReferenceAdamDownIdeal := Cert.ReferenceAdamDownIdeal.Gen.facts) := fun m ρ _ =>
  (θ_run Cert.ReferenceAdamDownIdeal.defs _ _).mono (fun r h => ⟨fun c => (h c).2.2.2, sem_eq_zero_of_no_sems (by decide) r.2⟩) (Cert.ReferenceAdamDownIdeal.Value.run m ρ)

theorem preserves : Cert.preserves_KernelAdamDown_KernelAdamDownIdeal := trivial

theorem algebraic : Cert.algebraic_KernelAdamDownIdeal_ReferenceAdamDownIdeal (hKernelAdamDownIdeal := Gen.facts) (hReferenceAdamDownIdeal := Cert.ReferenceAdamDownIdeal.Gen.facts) :=
  fun m g m' g' _ hargs => ⟨_, _, _, Value.run m g, (θ_run Cert.ReferenceAdamDownIdeal.defs _ _).mono (fun r h c => by
    have e := h c
    rw [(hargs c).1, (hargs c).2.1, (hargs c).2.2.1, (hargs c).2.2.2] at e
    exact ⟨e.1.trans (reference_change _ _ _ _ _), e.2.1.trans (reference_first _ _ _), e.2.2.1.trans (reference_second _ _ _), (h c).2.2.2⟩) (Cert.ReferenceAdamDownIdeal.Value.run m' g')⟩

end Cert.KernelAdamDownIdeal.Update

/-! The state-space mixer's output weight. -/
namespace Cert.KernelAdamSsdIdeal.Update

open Cert.KernelAdamSsdIdeal Cert.KernelAdamSsdIdeal.Gen

theorem frame : Cert.quiescent_KernelAdamSsd (hKernelAdamSsd := Cert.KernelAdamSsd.Gen.facts) := fun m ρ _ => Cert.KernelAdamSsd.Gen.frame m ρ

theorem frame_ideal : Cert.quiescent_KernelAdamSsdIdeal (hKernelAdamSsdIdeal := Gen.facts) := fun m ρ _ => Gen.frame m ρ

theorem frame_reference : Cert.quiescent_ReferenceAdamSsdIdeal (hReferenceAdamSsdIdeal := Cert.ReferenceAdamSsdIdeal.Gen.facts) := fun m ρ _ =>
  (θ_run Cert.ReferenceAdamSsdIdeal.defs _ _).mono (fun r h => ⟨fun c => (h c).2.2.2, sem_eq_zero_of_no_sems (by decide) r.2⟩) (Cert.ReferenceAdamSsdIdeal.Value.run m ρ)

theorem preserves : Cert.preserves_KernelAdamSsd_KernelAdamSsdIdeal := trivial

theorem algebraic : Cert.algebraic_KernelAdamSsdIdeal_ReferenceAdamSsdIdeal (hKernelAdamSsdIdeal := Gen.facts) (hReferenceAdamSsdIdeal := Cert.ReferenceAdamSsdIdeal.Gen.facts) :=
  fun m g m' g' _ hargs => ⟨_, _, _, Value.run m g, (θ_run Cert.ReferenceAdamSsdIdeal.defs _ _).mono (fun r h c => by
    have e := h c
    rw [(hargs c).1, (hargs c).2.1, (hargs c).2.2.1, (hargs c).2.2.2] at e
    exact ⟨e.1.trans (reference_change _ _ _ _ _), e.2.1.trans (reference_first _ _ _), e.2.2.1.trans (reference_second _ _ _), (h c).2.2.2⟩) (Cert.ReferenceAdamSsdIdeal.Value.run m' g')⟩

end Cert.KernelAdamSsdIdeal.Update

/-! The retention's output weight; by the same program, the mixers' output weight. -/
namespace Cert.KernelAdamRetIdeal.Update

open Cert.KernelAdamRetIdeal Cert.KernelAdamRetIdeal.Gen

theorem frame : Cert.quiescent_KernelAdamRet (hKernelAdamRet := Cert.KernelAdamRet.Gen.facts) := fun m ρ _ => Cert.KernelAdamRet.Gen.frame m ρ

theorem frame_ideal : Cert.quiescent_KernelAdamRetIdeal (hKernelAdamRetIdeal := Gen.facts) := fun m ρ _ => Gen.frame m ρ

theorem frame_reference : Cert.quiescent_ReferenceAdamRetIdeal (hReferenceAdamRetIdeal := Cert.ReferenceAdamRetIdeal.Gen.facts) := fun m ρ _ =>
  (θ_run Cert.ReferenceAdamRetIdeal.defs _ _).mono (fun r h => ⟨fun c => (h c).2.2.2, sem_eq_zero_of_no_sems (by decide) r.2⟩) (Cert.ReferenceAdamRetIdeal.Value.run m ρ)

theorem preserves : Cert.preserves_KernelAdamRet_KernelAdamRetIdeal := trivial

theorem algebraic : Cert.algebraic_KernelAdamRetIdeal_ReferenceAdamRetIdeal (hKernelAdamRetIdeal := Gen.facts) (hReferenceAdamRetIdeal := Cert.ReferenceAdamRetIdeal.Gen.facts) :=
  fun m g m' g' _ hargs => ⟨_, _, _, Value.run m g, (θ_run Cert.ReferenceAdamRetIdeal.defs _ _).mono (fun r h c => by
    have e := h c
    rw [(hargs c).1, (hargs c).2.1, (hargs c).2.2.1, (hargs c).2.2.2] at e
    exact ⟨e.1.trans (reference_change _ _ _ _ _), e.2.1.trans (reference_first _ _ _), e.2.2.1.trans (reference_second _ _ _), (h c).2.2.2⟩) (Cert.ReferenceAdamRetIdeal.Value.run m' g')⟩

end Cert.KernelAdamRetIdeal.Update

/-! The small weights, packed into one array. -/
namespace Cert.KernelAdamSmallIdeal.Update

open Cert.KernelAdamSmallIdeal Cert.KernelAdamSmallIdeal.Gen

theorem frame : Cert.quiescent_KernelAdamSmall (hKernelAdamSmall := Cert.KernelAdamSmall.Gen.facts) := fun m ρ _ => Cert.KernelAdamSmall.Gen.frame m ρ

theorem frame_ideal : Cert.quiescent_KernelAdamSmallIdeal (hKernelAdamSmallIdeal := Gen.facts) := fun m ρ _ => Gen.frame m ρ

theorem frame_reference : Cert.quiescent_ReferenceAdamSmallIdeal (hReferenceAdamSmallIdeal := Cert.ReferenceAdamSmallIdeal.Gen.facts) := fun m ρ _ =>
  (θ_run Cert.ReferenceAdamSmallIdeal.defs _ _).mono (fun r h => ⟨fun c => (h c).2.2.2, sem_eq_zero_of_no_sems (by decide) r.2⟩) (Cert.ReferenceAdamSmallIdeal.Value.run m ρ)

theorem preserves : Cert.preserves_KernelAdamSmall_KernelAdamSmallIdeal := trivial

theorem algebraic : Cert.algebraic_KernelAdamSmallIdeal_ReferenceAdamSmallIdeal (hKernelAdamSmallIdeal := Gen.facts) (hReferenceAdamSmallIdeal := Cert.ReferenceAdamSmallIdeal.Gen.facts) :=
  fun m g m' g' _ hargs => ⟨_, _, _, Value.run m g, (θ_run Cert.ReferenceAdamSmallIdeal.defs _ _).mono (fun r h c => by
    have e := h c
    rw [(hargs c).1, (hargs c).2.1, (hargs c).2.2.1, (hargs c).2.2.2] at e
    exact ⟨e.1.trans (reference_change _ _ _ _ _), e.2.1.trans (reference_first _ _ _), e.2.2.1.trans (reference_second _ _ _), (h c).2.2.2⟩) (Cert.ReferenceAdamSmallIdeal.Value.run m' g')⟩

end Cert.KernelAdamSmallIdeal.Update

end
-- ==== Proof.lean ====
module

public import proofs.«01_k».proof.Proof.ClaimsDq
public import proofs.«01_k».proof.Proof.ClaimsDk
public import proofs.«01_k».proof.Proof.ClaimsDv
public import proofs.«01_k».proof.Proof.ClaimsY
public import proofs.«01_k».proof.Proof.ProductProjMain
public import proofs.«01_k».proof.Proof.ProductGInMain
public import proofs.«01_k».proof.Proof.ProductDUMain
public import proofs.«01_k».proof.Proof.ProductsByRows
public import proofs.«01_k».proof.Proof.ProductsByCols
public import proofs.«01_k».proof.Proof.ProductsByHalves
public import proofs.«01_k».proof.Proof.UpdatesSums
public import proofs.«01_k».proof.Proof.UpdatesSteps

@[expose] public section

noncomputable section

namespace Cert.Proof

open Idealize.ShloMosaic

theorem claim : Cert.Claim :=
  ⟨Cert.KernelDq.Gen.facts, Cert.KernelDqIdeal.Gen.facts, Cert.ReferenceDqIdeal.Gen.facts, Cert.KernelDk.Gen.facts, Cert.KernelDkIdeal.Gen.facts,
    Cert.ReferenceDkIdeal.Gen.facts, Cert.KernelDv.Gen.facts, Cert.KernelDvIdeal.Gen.facts, Cert.ReferenceDvIdeal.Gen.facts, Cert.KernelProjMain.Gen.facts,
    Cert.KernelProjMainIdeal.Gen.facts, Cert.ReferenceProjMainIdeal.Gen.facts, Cert.KernelGInMain.Gen.facts, Cert.KernelGInMainIdeal.Gen.facts,
    Cert.ReferenceGInMainIdeal.Gen.facts, Cert.KernelDUMain.Gen.facts, Cert.KernelDUMainIdeal.Gen.facts, Cert.ReferenceDUMainIdeal.Gen.facts,
    Cert.KernelProjGates.Gen.facts, Cert.KernelProjGatesIdeal.Gen.facts, Cert.ReferenceProjGatesIdeal.Gen.facts, Cert.ReferenceDSsdActIdeal.Gen.facts,
    Cert.KernelGInGates.Gen.facts, Cert.KernelGInGatesIdeal.Gen.facts, Cert.ReferenceGInGatesIdeal.Gen.facts, Cert.ReferenceGSsdOutIdeal.Gen.facts,
    Cert.KernelDUGates.Gen.facts, Cert.KernelDUGatesIdeal.Gen.facts, Cert.ReferenceDUGatesIdeal.Gen.facts, Cert.KernelFfnUp.Gen.facts,
    Cert.KernelFfnUpIdeal.Gen.facts, Cert.ReferenceFfnUpIdeal.Gen.facts, Cert.KernelGFfnUp.Gen.facts, Cert.KernelGFfnUpIdeal.Gen.facts,
    Cert.ReferenceGFfnUpIdeal.Gen.facts, Cert.KernelDNormFfn.Gen.facts, Cert.KernelDNormFfnIdeal.Gen.facts, Cert.ReferenceDNormFfnIdeal.Gen.facts,
    Cert.KernelFfnDown.Gen.facts, Cert.KernelFfnDownIdeal.Gen.facts, Cert.ReferenceFfnDownIdeal.Gen.facts, Cert.ReferenceDNormFfnUIdeal.Gen.facts,
    Cert.KernelDFfnAct.Gen.facts, Cert.KernelDFfnActIdeal.Gen.facts, Cert.ReferenceDFfnActIdeal.Gen.facts, Cert.KernelGFfnDown.Gen.facts,
    Cert.KernelGFfnDownIdeal.Gen.facts, Cert.ReferenceGFfnDownIdeal.Gen.facts, Cert.KernelSsdOut.Gen.facts, Cert.KernelSsdOutIdeal.Gen.facts,
    Cert.ReferenceSsdOutIdeal.Gen.facts, Cert.KernelRetOut.Gen.facts, Cert.KernelRetOutIdeal.Gen.facts, Cert.ReferenceRetOutIdeal.Gen.facts,
    Cert.KernelDRetAct.Gen.facts, Cert.KernelDRetActIdeal.Gen.facts, Cert.ReferenceDRetActIdeal.Gen.facts, Cert.KernelGRetOut.Gen.facts,
    Cert.KernelGRetOutIdeal.Gen.facts, Cert.ReferenceGRetOutIdeal.Gen.facts, Cert.KernelMixOut.Gen.facts, Cert.KernelMixOutIdeal.Gen.facts,
    Cert.ReferenceMixOutIdeal.Gen.facts, Cert.KernelDMerged.Gen.facts, Cert.KernelDMergedIdeal.Gen.facts, Cert.ReferenceDMergedIdeal.Gen.facts,
    Cert.KernelGOut.Gen.facts, Cert.KernelGOutIdeal.Gen.facts, Cert.ReferenceGOutIdeal.Gen.facts,
    Cert.KernelProjDt.Gen.facts, Cert.KernelProjDtIdeal.Gen.facts, Cert.ReferenceProjDtIdeal.Gen.facts,
    Cert.KernelGInDt.Gen.facts, Cert.KernelGInDtIdeal.Gen.facts, Cert.ReferenceGInDtIdeal.Gen.facts,
    Cert.KernelDUDt.Gen.facts, Cert.KernelDUDtIdeal.Gen.facts, Cert.ReferenceDUDtIdeal.Gen.facts,
    Cert.KernelY.Gen.facts, Cert.KernelYIdeal.Gen.facts, Cert.ReferenceYIdeal.Gen.facts,
    Cert.KernelSumIn.Gen.facts, Cert.KernelSumInIdeal.Gen.facts, Cert.ReferenceSumInIdeal.Gen.facts,
    Cert.KernelSumUp.Gen.facts, Cert.KernelSumUpIdeal.Gen.facts, Cert.ReferenceSumUpIdeal.Gen.facts,
    Cert.KernelSumDown.Gen.facts, Cert.KernelSumDownIdeal.Gen.facts, Cert.ReferenceSumDownIdeal.Gen.facts,
    Cert.KernelSumSsd.Gen.facts, Cert.KernelSumSsdIdeal.Gen.facts, Cert.ReferenceSumSsdIdeal.Gen.facts,
    Cert.KernelSumRet.Gen.facts, Cert.KernelSumRetIdeal.Gen.facts, Cert.ReferenceSumRetIdeal.Gen.facts,
    Cert.KernelSumSmall.Gen.facts, Cert.KernelSumSmallIdeal.Gen.facts, Cert.ReferenceSumSmallIdeal.Gen.facts,
    Cert.KernelAdamIn.Gen.facts, Cert.KernelAdamInIdeal.Gen.facts, Cert.ReferenceAdamInIdeal.Gen.facts,
    Cert.KernelAdamUp.Gen.facts, Cert.KernelAdamUpIdeal.Gen.facts, Cert.ReferenceAdamUpIdeal.Gen.facts,
    Cert.KernelAdamDown.Gen.facts, Cert.KernelAdamDownIdeal.Gen.facts, Cert.ReferenceAdamDownIdeal.Gen.facts,
    Cert.KernelAdamSsd.Gen.facts, Cert.KernelAdamSsdIdeal.Gen.facts, Cert.ReferenceAdamSsdIdeal.Gen.facts,
    Cert.KernelAdamRet.Gen.facts, Cert.KernelAdamRetIdeal.Gen.facts, Cert.ReferenceAdamRetIdeal.Gen.facts,
    Cert.KernelAdamSmall.Gen.facts, Cert.KernelAdamSmallIdeal.Gen.facts, Cert.ReferenceAdamSmallIdeal.Gen.facts,
    frame_KernelDq, frame_KernelDqIdeal,
    frame_ReferenceDqIdeal, frame_KernelDk, frame_KernelDkIdeal, frame_ReferenceDkIdeal, frame_KernelDv, frame_KernelDvIdeal, frame_ReferenceDvIdeal,
    frame_KernelProjMain, frame_KernelProjMainIdeal, frame_ReferenceProjMainIdeal, frame_KernelGInMain, frame_KernelGInMainIdeal,
    frame_ReferenceGInMainIdeal, frame_KernelDUMain, frame_KernelDUMainIdeal, frame_ReferenceDUMainIdeal, Cert.KernelProjGatesIdeal.Product.frame,
    Cert.KernelProjGatesIdeal.Product.frame_ideal, Cert.KernelProjGatesIdeal.Product.frame_reference,
    Cert.KernelProjGatesIdeal.Product.frame_reference_DSsdAct, Cert.KernelGInGatesIdeal.Product.frame, Cert.KernelGInGatesIdeal.Product.frame_ideal,
    Cert.KernelGInGatesIdeal.Product.frame_reference, Cert.KernelGInGatesIdeal.Product.frame_reference_GSsdOut, Cert.KernelDUGatesIdeal.Product.frame,
    Cert.KernelDUGatesIdeal.Product.frame_ideal, Cert.KernelDUGatesIdeal.Product.frame_reference, Cert.KernelFfnUpIdeal.Product.frame,
    Cert.KernelFfnUpIdeal.Product.frame_ideal, Cert.KernelFfnUpIdeal.Product.frame_reference, Cert.KernelGFfnUpIdeal.Product.frame,
    Cert.KernelGFfnUpIdeal.Product.frame_ideal, Cert.KernelGFfnUpIdeal.Product.frame_reference, Cert.KernelDNormFfnIdeal.Product.frame,
    Cert.KernelDNormFfnIdeal.Product.frame_ideal, Cert.KernelDNormFfnIdeal.Product.frame_reference, Cert.KernelFfnDownIdeal.Product.frame,
    Cert.KernelFfnDownIdeal.Product.frame_ideal, Cert.KernelFfnDownIdeal.Product.frame_reference,
    Cert.KernelFfnDownIdeal.Product.frame_reference_DNormFfnU, Cert.KernelDFfnActIdeal.Product.frame, Cert.KernelDFfnActIdeal.Product.frame_ideal,
    Cert.KernelDFfnActIdeal.Product.frame_reference, Cert.KernelGFfnDownIdeal.Product.frame, Cert.KernelGFfnDownIdeal.Product.frame_ideal,
    Cert.KernelGFfnDownIdeal.Product.frame_reference, Cert.KernelSsdOutIdeal.Product.frame, Cert.KernelSsdOutIdeal.Product.frame_ideal,
    Cert.KernelSsdOutIdeal.Product.frame_reference, Cert.KernelRetOutIdeal.Product.frame, Cert.KernelRetOutIdeal.Product.frame_ideal,
    Cert.KernelRetOutIdeal.Product.frame_reference, Cert.KernelDRetActIdeal.Product.frame, Cert.KernelDRetActIdeal.Product.frame_ideal,
    Cert.KernelDRetActIdeal.Product.frame_reference, Cert.KernelGRetOutIdeal.Product.frame, Cert.KernelGRetOutIdeal.Product.frame_ideal,
    Cert.KernelGRetOutIdeal.Product.frame_reference, Cert.KernelMixOutIdeal.Product.frame, Cert.KernelMixOutIdeal.Product.frame_ideal,
    Cert.KernelMixOutIdeal.Product.frame_reference, Cert.KernelDMergedIdeal.Product.frame, Cert.KernelDMergedIdeal.Product.frame_ideal,
    Cert.KernelDMergedIdeal.Product.frame_reference, Cert.KernelGOutIdeal.Product.frame, Cert.KernelGOutIdeal.Product.frame_ideal,
    Cert.KernelGOutIdeal.Product.frame_reference,
    Cert.KernelProjDtIdeal.Product.frame, Cert.KernelProjDtIdeal.Product.frame_ideal, Cert.KernelProjDtIdeal.Product.frame_reference,
    Cert.KernelGInDtIdeal.Product.frame, Cert.KernelGInDtIdeal.Product.frame_ideal, Cert.KernelGInDtIdeal.Product.frame_reference,
    Cert.KernelDUDtIdeal.Product.frame, Cert.KernelDUDtIdeal.Product.frame_ideal, Cert.KernelDUDtIdeal.Product.frame_reference, frame_KernelY, frame_KernelYIdeal, frame_ReferenceYIdeal,
    Cert.KernelSumInIdeal.Update.frame, Cert.KernelSumInIdeal.Update.frame_ideal, Cert.KernelSumInIdeal.Update.frame_reference,
    Cert.KernelSumUpIdeal.Update.frame, Cert.KernelSumUpIdeal.Update.frame_ideal, Cert.KernelSumUpIdeal.Update.frame_reference,
    Cert.KernelSumDownIdeal.Update.frame, Cert.KernelSumDownIdeal.Update.frame_ideal, Cert.KernelSumDownIdeal.Update.frame_reference,
    Cert.KernelSumSsdIdeal.Update.frame, Cert.KernelSumSsdIdeal.Update.frame_ideal, Cert.KernelSumSsdIdeal.Update.frame_reference,
    Cert.KernelSumRetIdeal.Update.frame, Cert.KernelSumRetIdeal.Update.frame_ideal, Cert.KernelSumRetIdeal.Update.frame_reference,
    Cert.KernelSumSmallIdeal.Update.frame, Cert.KernelSumSmallIdeal.Update.frame_ideal, Cert.KernelSumSmallIdeal.Update.frame_reference,
    Cert.KernelAdamInIdeal.Update.frame, Cert.KernelAdamInIdeal.Update.frame_ideal, Cert.KernelAdamInIdeal.Update.frame_reference,
    Cert.KernelAdamUpIdeal.Update.frame, Cert.KernelAdamUpIdeal.Update.frame_ideal, Cert.KernelAdamUpIdeal.Update.frame_reference,
    Cert.KernelAdamDownIdeal.Update.frame, Cert.KernelAdamDownIdeal.Update.frame_ideal, Cert.KernelAdamDownIdeal.Update.frame_reference,
    Cert.KernelAdamSsdIdeal.Update.frame, Cert.KernelAdamSsdIdeal.Update.frame_ideal, Cert.KernelAdamSsdIdeal.Update.frame_reference,
    Cert.KernelAdamRetIdeal.Update.frame, Cert.KernelAdamRetIdeal.Update.frame_ideal, Cert.KernelAdamRetIdeal.Update.frame_reference,
    Cert.KernelAdamSmallIdeal.Update.frame, Cert.KernelAdamSmallIdeal.Update.frame_ideal, Cert.KernelAdamSmallIdeal.Update.frame_reference,
    preserves_KernelDq, algebraic_Dq, preserves_KernelDk, algebraic_Dk, preserves_KernelDv, algebraic_Dv,
    preserves_KernelProjMain, algebraic_ProjMain, preserves_KernelGInMain, algebraic_GInMain, preserves_KernelDUMain, algebraic_DUMain,
    Cert.KernelProjGatesIdeal.Product.preserves, Cert.KernelProjGatesIdeal.Product.algebraic, Cert.KernelProjGatesIdeal.Product.algebraic_DSsdAct,
    Cert.KernelGInGatesIdeal.Product.preserves, Cert.KernelGInGatesIdeal.Product.algebraic, Cert.KernelGInGatesIdeal.Product.algebraic_GSsdOut,
    Cert.KernelDUGatesIdeal.Product.preserves, Cert.KernelDUGatesIdeal.Product.algebraic, Cert.KernelFfnUpIdeal.Product.preserves,
    Cert.KernelFfnUpIdeal.Product.algebraic, Cert.KernelGFfnUpIdeal.Product.preserves, Cert.KernelGFfnUpIdeal.Product.algebraic,
    Cert.KernelDNormFfnIdeal.Product.preserves, Cert.KernelDNormFfnIdeal.Product.algebraic, Cert.KernelFfnDownIdeal.Product.preserves,
    Cert.KernelFfnDownIdeal.Product.algebraic, Cert.KernelFfnDownIdeal.Product.algebraic_DNormFfnU, Cert.KernelDFfnActIdeal.Product.preserves,
    Cert.KernelDFfnActIdeal.Product.algebraic, Cert.KernelGFfnDownIdeal.Product.preserves, Cert.KernelGFfnDownIdeal.Product.algebraic,
    Cert.KernelSsdOutIdeal.Product.preserves, Cert.KernelSsdOutIdeal.Product.algebraic, Cert.KernelRetOutIdeal.Product.preserves,
    Cert.KernelRetOutIdeal.Product.algebraic, Cert.KernelDRetActIdeal.Product.preserves, Cert.KernelDRetActIdeal.Product.algebraic,
    Cert.KernelGRetOutIdeal.Product.preserves, Cert.KernelGRetOutIdeal.Product.algebraic, Cert.KernelMixOutIdeal.Product.preserves,
    Cert.KernelMixOutIdeal.Product.algebraic, Cert.KernelDMergedIdeal.Product.preserves, Cert.KernelDMergedIdeal.Product.algebraic,
    Cert.KernelGOutIdeal.Product.preserves, Cert.KernelGOutIdeal.Product.algebraic,
    Cert.KernelProjDtIdeal.Product.preserves, Cert.KernelProjDtIdeal.Product.algebraic,
    Cert.KernelGInDtIdeal.Product.preserves, Cert.KernelGInDtIdeal.Product.algebraic,
    Cert.KernelDUDtIdeal.Product.preserves, Cert.KernelDUDtIdeal.Product.algebraic, preserves_KernelY, algebraic_Y,
    Cert.KernelSumInIdeal.Update.preserves, Cert.KernelSumInIdeal.Update.algebraic,
    Cert.KernelSumUpIdeal.Update.preserves, Cert.KernelSumUpIdeal.Update.algebraic,
    Cert.KernelSumDownIdeal.Update.preserves, Cert.KernelSumDownIdeal.Update.algebraic,
    Cert.KernelSumSsdIdeal.Update.preserves, Cert.KernelSumSsdIdeal.Update.algebraic,
    Cert.KernelSumRetIdeal.Update.preserves, Cert.KernelSumRetIdeal.Update.algebraic,
    Cert.KernelSumSmallIdeal.Update.preserves, Cert.KernelSumSmallIdeal.Update.algebraic,
    Cert.KernelAdamInIdeal.Update.preserves, Cert.KernelAdamInIdeal.Update.algebraic,
    Cert.KernelAdamUpIdeal.Update.preserves, Cert.KernelAdamUpIdeal.Update.algebraic,
    Cert.KernelAdamDownIdeal.Update.preserves, Cert.KernelAdamDownIdeal.Update.algebraic,
    Cert.KernelAdamSsdIdeal.Update.preserves, Cert.KernelAdamSsdIdeal.Update.algebraic,
    Cert.KernelAdamRetIdeal.Update.preserves, Cert.KernelAdamRetIdeal.Update.algebraic,
    Cert.KernelAdamSmallIdeal.Update.preserves, Cert.KernelAdamSmallIdeal.Update.algebraic⟩

end Cert.Proof

end
